-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_AdamMod (m : (ℓ : Loc Cert.AdamMod.nD Cert.AdamMod.τ Cert.AdamMod.sig) → Buf (Elt Bits) ℓ) : Prop :=
  True

def Pre_AdamModIdeal (m : (ℓ : Loc Cert.AdamModIdeal.nD Cert.AdamModIdeal.τ Cert.AdamModIdeal.sig) → Buf (Elt Ideal) ℓ) : Prop :=
  True

def Pre_UpdateModIdeal (m : (ℓ : Loc Cert.UpdateModIdeal.nD Cert.UpdateModIdeal.τ Cert.UpdateModIdeal.sig) → Buf (Elt Ideal) ℓ) : Prop :=
  True

def Pre_AdamModBias (m : (ℓ : Loc Cert.AdamModBias.nD Cert.AdamModBias.τ Cert.AdamModBias.sig) → Buf (Elt Bits) ℓ) : Prop :=
  True

def Pre_AdamModBiasIdeal (m : (ℓ : Loc Cert.AdamModBiasIdeal.nD Cert.AdamModBiasIdeal.τ Cert.AdamModBiasIdeal.sig) → Buf (Elt Ideal) ℓ) : Prop :=
  True

def Pre_UpdateModBiasIdeal (m : (ℓ : Loc Cert.UpdateModBiasIdeal.nD Cert.UpdateModBiasIdeal.τ Cert.UpdateModBiasIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_UpdateNormIdeal (m : (ℓ : Loc Cert.UpdateNormIdeal.nD Cert.UpdateNormIdeal.τ Cert.UpdateNormIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_UpdateInIdeal (m : (ℓ : Loc Cert.UpdateInIdeal.nD Cert.UpdateInIdeal.τ Cert.UpdateInIdeal.sig) → Buf (Elt Ideal) ℓ) : Prop :=
  True

def Pre_AdamQNorm (m : (ℓ : Loc Cert.AdamQNorm.nD Cert.AdamQNorm.τ Cert.AdamQNorm.sig) → Buf (Elt Bits) ℓ) : Prop :=
  True

def Pre_AdamQNormIdeal (m : (ℓ : Loc Cert.AdamQNormIdeal.nD Cert.AdamQNormIdeal.τ Cert.AdamQNormIdeal.sig) → Buf (Elt Ideal) ℓ) : Prop :=
  True

def Pre_UpdateQNormIdeal (m : (ℓ : Loc Cert.UpdateQNormIdeal.nD Cert.UpdateQNormIdeal.τ Cert.UpdateQNormIdeal.sig) → Buf (Elt Ideal) ℓ) : Prop :=
  True

def Pre_AdamQUp (m : (ℓ : Loc Cert.AdamQUp.nD Cert.AdamQUp.τ Cert.AdamQUp.sig) → Buf (Elt Bits) ℓ) : Prop :=
  True

def Pre_AdamQUpIdeal (m : (ℓ : Loc Cert.AdamQUpIdeal.nD Cert.AdamQUpIdeal.τ Cert.AdamQUpIdeal.sig) → Buf (Elt Ideal) ℓ) : Prop :=
  True

def Pre_UpdateQUpIdeal (m : (ℓ : Loc Cert.UpdateQUpIdeal.nD Cert.UpdateQUpIdeal.τ Cert.UpdateQUpIdeal.sig) → Buf (Elt Ideal) ℓ) : Prop :=
  True

def Pre_AdamKvNorm (m : (ℓ : Loc Cert.AdamKvNorm.nD Cert.AdamKvNorm.τ Cert.AdamKvNorm.sig) → Buf (Elt Bits) ℓ) : Prop :=
  True

def Pre_AdamKvNormIdeal (m : (ℓ : Loc Cert.AdamKvNormIdeal.nD Cert.AdamKvNormIdeal.τ Cert.AdamKvNormIdeal.sig) → Buf (Elt Ideal) ℓ) : Prop :=
  True

def Pre_UpdateKvNormIdeal (m : (ℓ : Loc Cert.UpdateKvNormIdeal.nD Cert.UpdateKvNormIdeal.τ Cert.UpdateKvNormIdeal.sig) → Buf (Elt Ideal) ℓ) : Prop :=
  True

def Pre_AdamKvUp (m : (ℓ : Loc Cert.AdamKvUp.nD Cert.AdamKvUp.τ Cert.AdamKvUp.sig) → Buf (Elt Bits) ℓ) : Prop :=
  True

def Pre_AdamKvUpIdeal (m : (ℓ : Loc Cert.AdamKvUpIdeal.nD Cert.AdamKvUpIdeal.τ Cert.AdamKvUpIdeal.sig) → Buf (Elt Ideal) ℓ) : Prop :=
  True

def Pre_UpdateKvUpIdeal (m : (ℓ : Loc Cert.UpdateKvUpIdeal.nD Cert.UpdateKvUpIdeal.τ Cert.UpdateKvUpIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_UpdateConvIdeal (m : (ℓ : Loc Cert.UpdateConvIdeal.nD Cert.UpdateConvIdeal.τ Cert.UpdateConvIdeal.sig) → Buf (Elt Ideal) ℓ) : Prop :=
  True

def Pre_AdamGates (m : (ℓ : Loc Cert.AdamGates.nD Cert.AdamGates.τ Cert.AdamGates.sig) → Buf (Elt Bits) ℓ) : Prop :=
  True

def Pre_AdamGatesIdeal (m : (ℓ : Loc Cert.AdamGatesIdeal.nD Cert.AdamGatesIdeal.τ Cert.AdamGatesIdeal.sig) → Buf (Elt Ideal) ℓ) : Prop :=
  True

def Pre_UpdateGatesIdeal (m : (ℓ : Loc Cert.UpdateGatesIdeal.nD Cert.UpdateGatesIdeal.τ Cert.UpdateGatesIdeal.sig) → Buf (Elt Ideal) ℓ) : Prop :=
  True

def Pre_AdamONorm (m : (ℓ : Loc Cert.AdamONorm.nD Cert.AdamONorm.τ Cert.AdamONorm.sig) → Buf (Elt Bits) ℓ) : Prop :=
  True

def Pre_AdamONormIdeal (m : (ℓ : Loc Cert.AdamONormIdeal.nD Cert.AdamONormIdeal.τ Cert.AdamONormIdeal.sig) → Buf (Elt Ideal) ℓ) : Prop :=
  True

def Pre_UpdateONormIdeal (m : (ℓ : Loc Cert.UpdateONormIdeal.nD Cert.UpdateONormIdeal.τ Cert.UpdateONormIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_UpdateOutIdeal (m : (ℓ : Loc Cert.UpdateOutIdeal.nD Cert.UpdateOutIdeal.τ Cert.UpdateOutIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17)
      ∧ r.2.mem ((c.tc : Thread Cert.Kernel2.nD Cert.Kernel2.τ).loc Cert.Kernel2.main_arg18) = m ((c.tc : Thread Cert.Kernel2.nD Cert.Kernel2.τ).loc Cert.Kernel2.main_arg18)
      ∧ r.2.mem ((c.tc : Thread Cert.Kernel2.nD Cert.Kernel2.τ).loc Cert.Kernel2.main_arg19) = m ((c.tc : Thread Cert.Kernel2.nD Cert.Kernel2.τ).loc Cert.Kernel2.main_arg19)
      ∧ r.2.mem ((c.tc : Thread Cert.Kernel2.nD Cert.Kernel2.τ).loc Cert.Kernel2.main_arg20) = m ((c.tc : Thread Cert.Kernel2.nD Cert.Kernel2.τ).loc Cert.Kernel2.main_arg20))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
      ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
      ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
      ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17)
      ∧ r.2.mem ((c.tc : Thread Cert.Reference2Ideal.nD Cert.Reference2Ideal.τ).loc Cert.Reference2Ideal.main_arg18) = m ((c.tc : Thread Cert.Reference2Ideal.nD Cert.Reference2Ideal.τ).loc Cert.Reference2Ideal.main_arg18)
      ∧ r.2.mem ((c.tc : Thread Cert.Reference2Ideal.nD Cert.Reference2Ideal.τ).loc Cert.Reference2Ideal.main_arg19) = m ((c.tc : Thread Cert.Reference2Ideal.nD Cert.Reference2Ideal.τ).loc Cert.Reference2Ideal.main_arg19)
      ∧ r.2.mem ((c.tc : Thread Cert.Reference2Ideal.nD Cert.Reference2Ideal.τ).loc Cert.Reference2Ideal.main_arg20) = m ((c.tc : Thread Cert.Reference2Ideal.nD Cert.Reference2Ideal.τ).loc Cert.Reference2Ideal.main_arg20))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_AdamMod [hAdamMod : Cert.AdamMod.Facts] : Prop :=
  ∀ (m : (ℓ : Loc Cert.AdamMod.nD Cert.AdamMod.τ Cert.AdamMod.sig) → Buf (Elt Bits) ℓ) (g : Dev Cert.AdamMod.nD → PrngReg), Pre_AdamMod m →
    θ_run (Cert.AdamMod.defs (F := Bits)) (onTc (τ := Cert.AdamMod.τ) (Cert.AdamMod.main (F := Bits))) ⟨m, fun _ => 0, g⟩ (fun r => (∀ c : Dev Cert.AdamMod.nD,
      r.2.mem ((c.tc : Thread Cert.AdamMod.nD Cert.AdamMod.τ).loc Cert.AdamMod.main_arg0) = m ((c.tc : Thread Cert.AdamMod.nD Cert.AdamMod.τ).loc Cert.AdamMod.main_arg0)
      ∧ r.2.mem ((c.tc : Thread Cert.AdamMod.nD Cert.AdamMod.τ).loc Cert.AdamMod.main_arg1) = m ((c.tc : Thread Cert.AdamMod.nD Cert.AdamMod.τ).loc Cert.AdamMod.main_arg1)
      ∧ r.2.mem ((c.tc : Thread Cert.AdamMod.nD Cert.AdamMod.τ).loc Cert.AdamMod.main_arg2) = m ((c.tc : Thread Cert.AdamMod.nD Cert.AdamMod.τ).loc Cert.AdamMod.main_arg2)
      ∧ r.2.mem ((c.tc : Thread Cert.AdamMod.nD Cert.AdamMod.τ).loc Cert.AdamMod.main_arg3) = m ((c.tc : Thread Cert.AdamMod.nD Cert.AdamMod.τ).loc Cert.AdamMod.main_arg3))
      ∧ r.2.sem = fun _ => 0)

def quiescent_AdamModIdeal [hAdamModIdeal : Cert.AdamModIdeal.Facts] : Prop :=
  ∀ (m : (ℓ : Loc Cert.AdamModIdeal.nD Cert.AdamModIdeal.τ Cert.AdamModIdeal.sig) → Buf (Elt Ideal) ℓ) (g : Dev Cert.AdamModIdeal.nD → PrngReg), Pre_AdamModIdeal m →
    θ_run (Cert.AdamModIdeal.defs (F := Ideal)) (onTc (τ := Cert.AdamModIdeal.τ) (Cert.AdamModIdeal.main (F := Ideal))) ⟨m, fun _ => 0, g⟩ (fun r => (∀ c : Dev Cert.AdamModIdeal.nD,
      r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
      ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
      ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
      ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ r.2.sem = fun _ => 0)

def quiescent_UpdateModIdeal [hUpdateModIdeal : Cert.UpdateModIdeal.Facts] : Prop :=
  ∀ (m : (ℓ : Loc Cert.UpdateModIdeal.nD Cert.UpdateModIdeal.τ Cert.UpdateModIdeal.sig) → Buf (Elt Ideal) ℓ) (g : Dev Cert.UpdateModIdeal.nD → PrngReg), Pre_UpdateModIdeal m →
    θ_run (Cert.UpdateModIdeal.defs (F := Ideal)) (onTc (τ := Cert.UpdateModIdeal.τ) (Cert.UpdateModIdeal.main (F := Ideal))) ⟨m, fun _ => 0, g⟩ (fun r => (∀ c : Dev Cert.UpdateModIdeal.nD,
      r.2.mem ((c.tc : Thread Cert.UpdateModIdeal.nD Cert.UpdateModIdeal.τ).loc Cert.UpdateModIdeal.main_arg0) = m ((c.tc : Thread Cert.UpdateModIdeal.nD Cert.UpdateModIdeal.τ).loc Cert.UpdateModIdeal.main_arg0)
      ∧ r.2.mem ((c.tc : Thread Cert.UpdateModIdeal.nD Cert.UpdateModIdeal.τ).loc Cert.UpdateModIdeal.main_arg1) = m ((c.tc : Thread Cert.UpdateModIdeal.nD Cert.UpdateModIdeal.τ).loc Cert.UpdateModIdeal.main_arg1)
      ∧ r.2.mem ((c.tc : Thread Cert.UpdateModIdeal.nD Cert.UpdateModIdeal.τ).loc Cert.UpdateModIdeal.main_arg2) = m ((c.tc : Thread Cert.UpdateModIdeal.nD Cert.UpdateModIdeal.τ).loc Cert.UpdateModIdeal.main_arg2)
      ∧ r.2.mem ((c.tc : Thread Cert.UpdateModIdeal.nD Cert.UpdateModIdeal.τ).loc Cert.UpdateModIdeal.main_arg3) = m ((c.tc : Thread Cert.UpdateModIdeal.nD Cert.UpdateModIdeal.τ).loc Cert.UpdateModIdeal.main_arg3))
      ∧ r.2.sem = fun _ => 0)

def quiescent_AdamModBias [hAdamModBias : Cert.AdamModBias.Facts] : Prop :=
  ∀ (m : (ℓ : Loc Cert.AdamModBias.nD Cert.AdamModBias.τ Cert.AdamModBias.sig) → Buf (Elt Bits) ℓ) (g : Dev Cert.AdamModBias.nD → PrngReg), Pre_AdamModBias m →
    θ_run (Cert.AdamModBias.defs (F := Bits)) (onTc (τ := Cert.AdamModBias.τ) (Cert.AdamModBias.main (F := Bits))) ⟨m, fun _ => 0, g⟩ (fun r => (∀ c : Dev Cert.AdamModBias.nD,
      r.2.mem ((c.tc : Thread Cert.AdamModBias.nD Cert.AdamModBias.τ).loc Cert.AdamModBias.main_arg0) = m ((c.tc : Thread Cert.AdamModBias.nD Cert.AdamModBias.τ).loc Cert.AdamModBias.main_arg0)
      ∧ r.2.mem ((c.tc : Thread Cert.AdamModBias.nD Cert.AdamModBias.τ).loc Cert.AdamModBias.main_arg1) = m ((c.tc : Thread Cert.AdamModBias.nD Cert.AdamModBias.τ).loc Cert.AdamModBias.main_arg1)
      ∧ r.2.mem ((c.tc : Thread Cert.AdamModBias.nD Cert.AdamModBias.τ).loc Cert.AdamModBias.main_arg2) = m ((c.tc : Thread Cert.AdamModBias.nD Cert.AdamModBias.τ).loc Cert.AdamModBias.main_arg2)
      ∧ r.2.mem ((c.tc : Thread Cert.AdamModBias.nD Cert.AdamModBias.τ).loc Cert.AdamModBias.main_arg3) = m ((c.tc : Thread Cert.AdamModBias.nD Cert.AdamModBias.τ).loc Cert.AdamModBias.main_arg3))
      ∧ r.2.sem = fun _ => 0)

def quiescent_AdamModBiasIdeal [hAdamModBiasIdeal : Cert.AdamModBiasIdeal.Facts] : Prop :=
  ∀ (m : (ℓ : Loc Cert.AdamModBiasIdeal.nD Cert.AdamModBiasIdeal.τ Cert.AdamModBiasIdeal.sig) → Buf (Elt Ideal) ℓ) (g : Dev Cert.AdamModBiasIdeal.nD → PrngReg), Pre_AdamModBiasIdeal m →
    θ_run (Cert.AdamModBiasIdeal.defs (F := Ideal)) (onTc (τ := Cert.AdamModBiasIdeal.τ) (Cert.AdamModBiasIdeal.main (F := Ideal))) ⟨m, fun _ => 0, g⟩ (fun r => (∀ c : Dev Cert.AdamModBiasIdeal.nD,
      r.2.mem ((c.tc : Thread Cert.AdamModBiasIdeal.nD Cert.AdamModBiasIdeal.τ).loc Cert.AdamModBiasIdeal.main_arg0) = m ((c.tc : Thread Cert.AdamModBiasIdeal.nD Cert.AdamModBiasIdeal.τ).loc Cert.AdamModBiasIdeal.main_arg0)
      ∧ r.2.mem ((c.tc : Thread Cert.AdamModBiasIdeal.nD Cert.AdamModBiasIdeal.τ).loc Cert.AdamModBiasIdeal.main_arg1) = m ((c.tc : Thread Cert.AdamModBiasIdeal.nD Cert.AdamModBiasIdeal.τ).loc Cert.AdamModBiasIdeal.main_arg1)
      ∧ r.2.mem ((c.tc : Thread Cert.AdamModBiasIdeal.nD Cert.AdamModBiasIdeal.τ).loc Cert.AdamModBiasIdeal.main_arg2) = m ((c.tc : Thread Cert.AdamModBiasIdeal.nD Cert.AdamModBiasIdeal.τ).loc Cert.AdamModBiasIdeal.main_arg2)
      ∧ r.2.mem ((c.tc : Thread Cert.AdamModBiasIdeal.nD Cert.AdamModBiasIdeal.τ).loc Cert.AdamModBiasIdeal.main_arg3) = m ((c.tc : Thread Cert.AdamModBiasIdeal.nD Cert.AdamModBiasIdeal.τ).loc Cert.AdamModBiasIdeal.main_arg3))
      ∧ r.2.sem = fun _ => 0)

def quiescent_UpdateModBiasIdeal [hUpdateModBiasIdeal : Cert.UpdateModBiasIdeal.Facts] : Prop :=
  ∀ (m : (ℓ : Loc Cert.UpdateModBiasIdeal.nD Cert.UpdateModBiasIdeal.τ Cert.UpdateModBiasIdeal.sig) → Buf (Elt Ideal) ℓ) (g : Dev Cert.UpdateModBiasIdeal.nD → PrngReg), Pre_UpdateModBiasIdeal m →
    θ_run (Cert.UpdateModBiasIdeal.defs (F := Ideal)) (onTc (τ := Cert.UpdateModBiasIdeal.τ) (Cert.UpdateModBiasIdeal.main (F := Ideal))) ⟨m, fun _ => 0, g⟩ (fun r => (∀ c : Dev Cert.UpdateModBiasIdeal.nD,
      r.2.mem ((c.tc : Thread Cert.UpdateModBiasIdeal.nD Cert.UpdateModBiasIdeal.τ).loc Cert.UpdateModBiasIdeal.main_arg0) = m ((c.tc : Thread Cert.UpdateModBiasIdeal.nD Cert.UpdateModBiasIdeal.τ).loc Cert.UpdateModBiasIdeal.main_arg0)
      ∧ r.2.mem ((c.tc : Thread Cert.UpdateModBiasIdeal.nD Cert.UpdateModBiasIdeal.τ).loc Cert.UpdateModBiasIdeal.main_arg1) = m ((c.tc : Thread Cert.UpdateModBiasIdeal.nD Cert.UpdateModBiasIdeal.τ).loc Cert.UpdateModBiasIdeal.main_arg1)
      ∧ r.2.mem ((c.tc : Thread Cert.UpdateModBiasIdeal.nD Cert.UpdateModBiasIdeal.τ).loc Cert.UpdateModBiasIdeal.main_arg2) = m ((c.tc : Thread Cert.UpdateModBiasIdeal.nD Cert.UpdateModBiasIdeal.τ).loc Cert.UpdateModBiasIdeal.main_arg2)
      ∧ r.2.mem ((c.tc : Thread Cert.UpdateModBiasIdeal.nD Cert.UpdateModBiasIdeal.τ).loc Cert.UpdateModBiasIdeal.main_arg3) = m ((c.tc : Thread Cert.UpdateModBiasIdeal.nD Cert.UpdateModBiasIdeal.τ).loc Cert.UpdateModBiasIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_UpdateNormIdeal [hUpdateNormIdeal : Cert.UpdateNormIdeal.Facts] : Prop :=
  ∀ (m : (ℓ : Loc Cert.UpdateNormIdeal.nD Cert.UpdateNormIdeal.τ Cert.UpdateNormIdeal.sig) → Buf (Elt Ideal) ℓ) (g : Dev Cert.UpdateNormIdeal.nD → PrngReg), Pre_UpdateNormIdeal m →
    θ_run (Cert.UpdateNormIdeal.defs (F := Ideal)) (onTc (τ := Cert.UpdateNormIdeal.τ) (Cert.UpdateNormIdeal.main (F := Ideal))) ⟨m, fun _ => 0, g⟩ (fun r => (∀ c : Dev Cert.UpdateNormIdeal.nD,
      r.2.mem ((c.tc : Thread Cert.UpdateNormIdeal.nD Cert.UpdateNormIdeal.τ).loc Cert.UpdateNormIdeal.main_arg0) = m ((c.tc : Thread Cert.UpdateNormIdeal.nD Cert.UpdateNormIdeal.τ).loc Cert.UpdateNormIdeal.main_arg0)
      ∧ r.2.mem ((c.tc : Thread Cert.UpdateNormIdeal.nD Cert.UpdateNormIdeal.τ).loc Cert.UpdateNormIdeal.main_arg1) = m ((c.tc : Thread Cert.UpdateNormIdeal.nD Cert.UpdateNormIdeal.τ).loc Cert.UpdateNormIdeal.main_arg1)
      ∧ r.2.mem ((c.tc : Thread Cert.UpdateNormIdeal.nD Cert.UpdateNormIdeal.τ).loc Cert.UpdateNormIdeal.main_arg2) = m ((c.tc : Thread Cert.UpdateNormIdeal.nD Cert.UpdateNormIdeal.τ).loc Cert.UpdateNormIdeal.main_arg2)
      ∧ r.2.mem ((c.tc : Thread Cert.UpdateNormIdeal.nD Cert.UpdateNormIdeal.τ).loc Cert.UpdateNormIdeal.main_arg3) = m ((c.tc : Thread Cert.UpdateNormIdeal.nD Cert.UpdateNormIdeal.τ).loc Cert.UpdateNormIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_UpdateInIdeal [hUpdateInIdeal : Cert.UpdateInIdeal.Facts] : Prop :=
  ∀ (m : (ℓ : Loc Cert.UpdateInIdeal.nD Cert.UpdateInIdeal.τ Cert.UpdateInIdeal.sig) → Buf (Elt Ideal) ℓ) (g : Dev Cert.UpdateInIdeal.nD → PrngReg), Pre_UpdateInIdeal m →
    θ_run (Cert.UpdateInIdeal.defs (F := Ideal)) (onTc (τ := Cert.UpdateInIdeal.τ) (Cert.UpdateInIdeal.main (F := Ideal))) ⟨m, fun _ => 0, g⟩ (fun r => (∀ c : Dev Cert.UpdateInIdeal.nD,
      r.2.mem ((c.tc : Thread Cert.UpdateInIdeal.nD Cert.UpdateInIdeal.τ).loc Cert.UpdateInIdeal.main_arg0) = m ((c.tc : Thread Cert.UpdateInIdeal.nD Cert.UpdateInIdeal.τ).loc Cert.UpdateInIdeal.main_arg0)
      ∧ r.2.mem ((c.tc : Thread Cert.UpdateInIdeal.nD Cert.UpdateInIdeal.τ).loc Cert.UpdateInIdeal.main_arg1) = m ((c.tc : Thread Cert.UpdateInIdeal.nD Cert.UpdateInIdeal.τ).loc Cert.UpdateInIdeal.main_arg1)
      ∧ r.2.mem ((c.tc : Thread Cert.UpdateInIdeal.nD Cert.UpdateInIdeal.τ).loc Cert.UpdateInIdeal.main_arg2) = m ((c.tc : Thread Cert.UpdateInIdeal.nD Cert.UpdateInIdeal.τ).loc Cert.UpdateInIdeal.main_arg2)
      ∧ r.2.mem ((c.tc : Thread Cert.UpdateInIdeal.nD Cert.UpdateInIdeal.τ).loc Cert.UpdateInIdeal.main_arg3) = m ((c.tc : Thread Cert.UpdateInIdeal.nD Cert.UpdateInIdeal.τ).loc Cert.UpdateInIdeal.main_arg3))
      ∧ r.2.sem = fun _ => 0)

def quiescent_AdamQNorm [hAdamQNorm : Cert.AdamQNorm.Facts] : Prop :=
  ∀ (m : (ℓ : Loc Cert.AdamQNorm.nD Cert.AdamQNorm.τ Cert.AdamQNorm.sig) → Buf (Elt Bits) ℓ) (g : Dev Cert.AdamQNorm.nD → PrngReg), Pre_AdamQNorm m →
    θ_run (Cert.AdamQNorm.defs (F := Bits)) (onTc (τ := Cert.AdamQNorm.τ) (Cert.AdamQNorm.main (F := Bits))) ⟨m, fun _ => 0, g⟩ (fun r => (∀ c : Dev Cert.AdamQNorm.nD,
      r.2.mem ((c.tc : Thread Cert.AdamQNorm.nD Cert.AdamQNorm.τ).loc Cert.AdamQNorm.main_arg0) = m ((c.tc : Thread Cert.AdamQNorm.nD Cert.AdamQNorm.τ).loc Cert.AdamQNorm.main_arg0)
      ∧ r.2.mem ((c.tc : Thread Cert.AdamQNorm.nD Cert.AdamQNorm.τ).loc Cert.AdamQNorm.main_arg1) = m ((c.tc : Thread Cert.AdamQNorm.nD Cert.AdamQNorm.τ).loc Cert.AdamQNorm.main_arg1)
      ∧ r.2.mem ((c.tc : Thread Cert.AdamQNorm.nD Cert.AdamQNorm.τ).loc Cert.AdamQNorm.main_arg2) = m ((c.tc : Thread Cert.AdamQNorm.nD Cert.AdamQNorm.τ).loc Cert.AdamQNorm.main_arg2)
      ∧ r.2.mem ((c.tc : Thread Cert.AdamQNorm.nD Cert.AdamQNorm.τ).loc Cert.AdamQNorm.main_arg3) = m ((c.tc : Thread Cert.AdamQNorm.nD Cert.AdamQNorm.τ).loc Cert.AdamQNorm.main_arg3))
      ∧ r.2.sem = fun _ => 0)

def quiescent_AdamQNormIdeal [hAdamQNormIdeal : Cert.AdamQNormIdeal.Facts] : Prop :=
  ∀ (m : (ℓ : Loc Cert.AdamQNormIdeal.nD Cert.AdamQNormIdeal.τ Cert.AdamQNormIdeal.sig) → Buf (Elt Ideal) ℓ) (g : Dev Cert.AdamQNormIdeal.nD → PrngReg), Pre_AdamQNormIdeal m →
    θ_run (Cert.AdamQNormIdeal.defs (F := Ideal)) (onTc (τ := Cert.AdamQNormIdeal.τ) (Cert.AdamQNormIdeal.main (F := Ideal))) ⟨m, fun _ => 0, g⟩ (fun r => (∀ c : Dev Cert.AdamQNormIdeal.nD,
      r.2.mem ((c.tc : Thread Cert.AdamQNormIdeal.nD Cert.AdamQNormIdeal.τ).loc Cert.AdamQNormIdeal.main_arg0) = m ((c.tc : Thread Cert.AdamQNormIdeal.nD Cert.AdamQNormIdeal.τ).loc Cert.AdamQNormIdeal.main_arg0)
      ∧ r.2.mem ((c.tc : Thread Cert.AdamQNormIdeal.nD Cert.AdamQNormIdeal.τ).loc Cert.AdamQNormIdeal.main_arg1) = m ((c.tc : Thread Cert.AdamQNormIdeal.nD Cert.AdamQNormIdeal.τ).loc Cert.AdamQNormIdeal.main_arg1)
      ∧ r.2.mem ((c.tc : Thread Cert.AdamQNormIdeal.nD Cert.AdamQNormIdeal.τ).loc Cert.AdamQNormIdeal.main_arg2) = m ((c.tc : Thread Cert.AdamQNormIdeal.nD Cert.AdamQNormIdeal.τ).loc Cert.AdamQNormIdeal.main_arg2)
      ∧ r.2.mem ((c.tc : Thread Cert.AdamQNormIdeal.nD Cert.AdamQNormIdeal.τ).loc Cert.AdamQNormIdeal.main_arg3) = m ((c.tc : Thread Cert.AdamQNormIdeal.nD Cert.AdamQNormIdeal.τ).loc Cert.AdamQNormIdeal.main_arg3))
      ∧ r.2.sem = fun _ => 0)

def quiescent_UpdateQNormIdeal [hUpdateQNormIdeal : Cert.UpdateQNormIdeal.Facts] : Prop :=
  ∀ (m : (ℓ : Loc Cert.UpdateQNormIdeal.nD Cert.UpdateQNormIdeal.τ Cert.UpdateQNormIdeal.sig) → Buf (Elt Ideal) ℓ) (g : Dev Cert.UpdateQNormIdeal.nD → PrngReg), Pre_UpdateQNormIdeal m →
    θ_run (Cert.UpdateQNormIdeal.defs (F := Ideal)) (onTc (τ := Cert.UpdateQNormIdeal.τ) (Cert.UpdateQNormIdeal.main (F := Ideal))) ⟨m, fun _ => 0, g⟩ (fun r => (∀ c : Dev Cert.UpdateQNormIdeal.nD,
      r.2.mem ((c.tc : Thread Cert.UpdateQNormIdeal.nD Cert.UpdateQNormIdeal.τ).loc Cert.UpdateQNormIdeal.main_arg0) = m ((c.tc : Thread Cert.UpdateQNormIdeal.nD Cert.UpdateQNormIdeal.τ).loc Cert.UpdateQNormIdeal.main_arg0)
      ∧ r.2.mem ((c.tc : Thread Cert.UpdateQNormIdeal.nD Cert.UpdateQNormIdeal.τ).loc Cert.UpdateQNormIdeal.main_arg1) = m ((c.tc : Thread Cert.UpdateQNormIdeal.nD Cert.UpdateQNormIdeal.τ).loc Cert.UpdateQNormIdeal.main_arg1)
      ∧ r.2.mem ((c.tc : Thread Cert.UpdateQNormIdeal.nD Cert.UpdateQNormIdeal.τ).loc Cert.UpdateQNormIdeal.main_arg2) = m ((c.tc : Thread Cert.UpdateQNormIdeal.nD Cert.UpdateQNormIdeal.τ).loc Cert.UpdateQNormIdeal.main_arg2)
      ∧ r.2.mem ((c.tc : Thread Cert.UpdateQNormIdeal.nD Cert.UpdateQNormIdeal.τ).loc Cert.UpdateQNormIdeal.main_arg3) = m ((c.tc : Thread Cert.UpdateQNormIdeal.nD Cert.UpdateQNormIdeal.τ).loc Cert.UpdateQNormIdeal.main_arg3))
      ∧ r.2.sem = fun _ => 0)

def quiescent_AdamQUp [hAdamQUp : Cert.AdamQUp.Facts] : Prop :=
  ∀ (m : (ℓ : Loc Cert.AdamQUp.nD Cert.AdamQUp.τ Cert.AdamQUp.sig) → Buf (Elt Bits) ℓ) (g : Dev Cert.AdamQUp.nD → PrngReg), Pre_AdamQUp m →
    θ_run (Cert.AdamQUp.defs (F := Bits)) (onTc (τ := Cert.AdamQUp.τ) (Cert.AdamQUp.main (F := Bits))) ⟨m, fun _ => 0, g⟩ (fun r => (∀ c : Dev Cert.AdamQUp.nD,
      r.2.mem ((c.tc : Thread Cert.AdamQUp.nD Cert.AdamQUp.τ).loc Cert.AdamQUp.main_arg0) = m ((c.tc : Thread Cert.AdamQUp.nD Cert.AdamQUp.τ).loc Cert.AdamQUp.main_arg0)
      ∧ r.2.mem ((c.tc : Thread Cert.AdamQUp.nD Cert.AdamQUp.τ).loc Cert.AdamQUp.main_arg1) = m ((c.tc : Thread Cert.AdamQUp.nD Cert.AdamQUp.τ).loc Cert.AdamQUp.main_arg1)
      ∧ r.2.mem ((c.tc : Thread Cert.AdamQUp.nD Cert.AdamQUp.τ).loc Cert.AdamQUp.main_arg2) = m ((c.tc : Thread Cert.AdamQUp.nD Cert.AdamQUp.τ).loc Cert.AdamQUp.main_arg2)
      ∧ r.2.mem ((c.tc : Thread Cert.AdamQUp.nD Cert.AdamQUp.τ).loc Cert.AdamQUp.main_arg3) = m ((c.tc : Thread Cert.AdamQUp.nD Cert.AdamQUp.τ).loc Cert.AdamQUp.main_arg3))
      ∧ r.2.sem = fun _ => 0)

def quiescent_AdamQUpIdeal [hAdamQUpIdeal : Cert.AdamQUpIdeal.Facts] : Prop :=
  ∀ (m : (ℓ : Loc Cert.AdamQUpIdeal.nD Cert.AdamQUpIdeal.τ Cert.AdamQUpIdeal.sig) → Buf (Elt Ideal) ℓ) (g : Dev Cert.AdamQUpIdeal.nD → PrngReg), Pre_AdamQUpIdeal m →
    θ_run (Cert.AdamQUpIdeal.defs (F := Ideal)) (onTc (τ := Cert.AdamQUpIdeal.τ) (Cert.AdamQUpIdeal.main (F := Ideal))) ⟨m, fun _ => 0, g⟩ (fun r => (∀ c : Dev Cert.AdamQUpIdeal.nD,
      r.2.mem ((c.tc : Thread Cert.AdamQUpIdeal.nD Cert.AdamQUpIdeal.τ).loc Cert.AdamQUpIdeal.main_arg0) = m ((c.tc : Thread Cert.AdamQUpIdeal.nD Cert.AdamQUpIdeal.τ).loc Cert.AdamQUpIdeal.main_arg0)
      ∧ r.2.mem ((c.tc : Thread Cert.AdamQUpIdeal.nD Cert.AdamQUpIdeal.τ).loc Cert.AdamQUpIdeal.main_arg1) = m ((c.tc : Thread Cert.AdamQUpIdeal.nD Cert.AdamQUpIdeal.τ).loc Cert.AdamQUpIdeal.main_arg1)
      ∧ r.2.mem ((c.tc : Thread Cert.AdamQUpIdeal.nD Cert.AdamQUpIdeal.τ).loc Cert.AdamQUpIdeal.main_arg2) = m ((c.tc : Thread Cert.AdamQUpIdeal.nD Cert.AdamQUpIdeal.τ).loc Cert.AdamQUpIdeal.main_arg2)
      ∧ r.2.mem ((c.tc : Thread Cert.AdamQUpIdeal.nD Cert.AdamQUpIdeal.τ).loc Cert.AdamQUpIdeal.main_arg3) = m ((c.tc : Thread Cert.AdamQUpIdeal.nD Cert.AdamQUpIdeal.τ).loc Cert.AdamQUpIdeal.main_arg3))
      ∧ r.2.sem = fun _ => 0)

def quiescent_UpdateQUpIdeal [hUpdateQUpIdeal : Cert.UpdateQUpIdeal.Facts] : Prop :=
  ∀ (m : (ℓ : Loc Cert.UpdateQUpIdeal.nD Cert.UpdateQUpIdeal.τ Cert.UpdateQUpIdeal.sig) → Buf (Elt Ideal) ℓ) (g : Dev Cert.UpdateQUpIdeal.nD → PrngReg), Pre_UpdateQUpIdeal m →
    θ_run (Cert.UpdateQUpIdeal.defs (F := Ideal)) (onTc (τ := Cert.UpdateQUpIdeal.τ) (Cert.UpdateQUpIdeal.main (F := Ideal))) ⟨m, fun _ => 0, g⟩ (fun r => (∀ c : Dev Cert.UpdateQUpIdeal.nD,
      r.2.mem ((c.tc : Thread Cert.UpdateQUpIdeal.nD Cert.UpdateQUpIdeal.τ).loc Cert.UpdateQUpIdeal.main_arg0) = m ((c.tc : Thread Cert.UpdateQUpIdeal.nD Cert.UpdateQUpIdeal.τ).loc Cert.UpdateQUpIdeal.main_arg0)
      ∧ r.2.mem ((c.tc : Thread Cert.UpdateQUpIdeal.nD Cert.UpdateQUpIdeal.τ).loc Cert.UpdateQUpIdeal.main_arg1) = m ((c.tc : Thread Cert.UpdateQUpIdeal.nD Cert.UpdateQUpIdeal.τ).loc Cert.UpdateQUpIdeal.main_arg1)
      ∧ r.2.mem ((c.tc : Thread Cert.UpdateQUpIdeal.nD Cert.UpdateQUpIdeal.τ).loc Cert.UpdateQUpIdeal.main_arg2) = m ((c.tc : Thread Cert.UpdateQUpIdeal.nD Cert.UpdateQUpIdeal.τ).loc Cert.UpdateQUpIdeal.main_arg2)
      ∧ r.2.mem ((c.tc : Thread Cert.UpdateQUpIdeal.nD Cert.UpdateQUpIdeal.τ).loc Cert.UpdateQUpIdeal.main_arg3) = m ((c.tc : Thread Cert.UpdateQUpIdeal.nD Cert.UpdateQUpIdeal.τ).loc Cert.UpdateQUpIdeal.main_arg3))
      ∧ r.2.sem = fun _ => 0)

def quiescent_AdamKvNorm [hAdamKvNorm : Cert.AdamKvNorm.Facts] : Prop :=
  ∀ (m : (ℓ : Loc Cert.AdamKvNorm.nD Cert.AdamKvNorm.τ Cert.AdamKvNorm.sig) → Buf (Elt Bits) ℓ) (g : Dev Cert.AdamKvNorm.nD → PrngReg), Pre_AdamKvNorm m →
    θ_run (Cert.AdamKvNorm.defs (F := Bits)) (onTc (τ := Cert.AdamKvNorm.τ) (Cert.AdamKvNorm.main (F := Bits))) ⟨m, fun _ => 0, g⟩ (fun r => (∀ c : Dev Cert.AdamKvNorm.nD,
      r.2.mem ((c.tc : Thread Cert.AdamKvNorm.nD Cert.AdamKvNorm.τ).loc Cert.AdamKvNorm.main_arg0) = m ((c.tc : Thread Cert.AdamKvNorm.nD Cert.AdamKvNorm.τ).loc Cert.AdamKvNorm.main_arg0)
      ∧ r.2.mem ((c.tc : Thread Cert.AdamKvNorm.nD Cert.AdamKvNorm.τ).loc Cert.AdamKvNorm.main_arg1) = m ((c.tc : Thread Cert.AdamKvNorm.nD Cert.AdamKvNorm.τ).loc Cert.AdamKvNorm.main_arg1)
      ∧ r.2.mem ((c.tc : Thread Cert.AdamKvNorm.nD Cert.AdamKvNorm.τ).loc Cert.AdamKvNorm.main_arg2) = m ((c.tc : Thread Cert.AdamKvNorm.nD Cert.AdamKvNorm.τ).loc Cert.AdamKvNorm.main_arg2)
      ∧ r.2.mem ((c.tc : Thread Cert.AdamKvNorm.nD Cert.AdamKvNorm.τ).loc Cert.AdamKvNorm.main_arg3) = m ((c.tc : Thread Cert.AdamKvNorm.nD Cert.AdamKvNorm.τ).loc Cert.AdamKvNorm.main_arg3))
      ∧ r.2.sem = fun _ => 0)

def quiescent_AdamKvNormIdeal [hAdamKvNormIdeal : Cert.AdamKvNormIdeal.Facts] : Prop :=
  ∀ (m : (ℓ : Loc Cert.AdamKvNormIdeal.nD Cert.AdamKvNormIdeal.τ Cert.AdamKvNormIdeal.sig) → Buf (Elt Ideal) ℓ) (g : Dev Cert.AdamKvNormIdeal.nD → PrngReg), Pre_AdamKvNormIdeal m →
    θ_run (Cert.AdamKvNormIdeal.defs (F := Ideal)) (onTc (τ := Cert.AdamKvNormIdeal.τ) (Cert.AdamKvNormIdeal.main (F := Ideal))) ⟨m, fun _ => 0, g⟩ (fun r => (∀ c : Dev Cert.AdamKvNormIdeal.nD,
      r.2.mem ((c.tc : Thread Cert.AdamKvNormIdeal.nD Cert.AdamKvNormIdeal.τ).loc Cert.AdamKvNormIdeal.main_arg0) = m ((c.tc : Thread Cert.AdamKvNormIdeal.nD Cert.AdamKvNormIdeal.τ).loc Cert.AdamKvNormIdeal.main_arg0)
      ∧ r.2.mem ((c.tc : Thread Cert.AdamKvNormIdeal.nD Cert.AdamKvNormIdeal.τ).loc Cert.AdamKvNormIdeal.main_arg1) = m ((c.tc : Thread Cert.AdamKvNormIdeal.nD Cert.AdamKvNormIdeal.τ).loc Cert.AdamKvNormIdeal.main_arg1)
      ∧ r.2.mem ((c.tc : Thread Cert.AdamKvNormIdeal.nD Cert.AdamKvNormIdeal.τ).loc Cert.AdamKvNormIdeal.main_arg2) = m ((c.tc : Thread Cert.AdamKvNormIdeal.nD Cert.AdamKvNormIdeal.τ).loc Cert.AdamKvNormIdeal.main_arg2)
      ∧ r.2.mem ((c.tc : Thread Cert.AdamKvNormIdeal.nD Cert.AdamKvNormIdeal.τ).loc Cert.AdamKvNormIdeal.main_arg3) = m ((c.tc : Thread Cert.AdamKvNormIdeal.nD Cert.AdamKvNormIdeal.τ).loc Cert.AdamKvNormIdeal.main_arg3))
      ∧ r.2.sem = fun _ => 0)

def quiescent_UpdateKvNormIdeal [hUpdateKvNormIdeal : Cert.UpdateKvNormIdeal.Facts] : Prop :=
  ∀ (m : (ℓ : Loc Cert.UpdateKvNormIdeal.nD Cert.UpdateKvNormIdeal.τ Cert.UpdateKvNormIdeal.sig) → Buf (Elt Ideal) ℓ) (g : Dev Cert.UpdateKvNormIdeal.nD → PrngReg), Pre_UpdateKvNormIdeal m →
    θ_run (Cert.UpdateKvNormIdeal.defs (F := Ideal)) (onTc (τ := Cert.UpdateKvNormIdeal.τ) (Cert.UpdateKvNormIdeal.main (F := Ideal))) ⟨m, fun _ => 0, g⟩ (fun r => (∀ c : Dev Cert.UpdateKvNormIdeal.nD,
      r.2.mem ((c.tc : Thread Cert.UpdateKvNormIdeal.nD Cert.UpdateKvNormIdeal.τ).loc Cert.UpdateKvNormIdeal.main_arg0) = m ((c.tc : Thread Cert.UpdateKvNormIdeal.nD Cert.UpdateKvNormIdeal.τ).loc Cert.UpdateKvNormIdeal.main_arg0)
      ∧ r.2.mem ((c.tc : Thread Cert.UpdateKvNormIdeal.nD Cert.UpdateKvNormIdeal.τ).loc Cert.UpdateKvNormIdeal.main_arg1) = m ((c.tc : Thread Cert.UpdateKvNormIdeal.nD Cert.UpdateKvNormIdeal.τ).loc Cert.UpdateKvNormIdeal.main_arg1)
      ∧ r.2.mem ((c.tc : Thread Cert.UpdateKvNormIdeal.nD Cert.UpdateKvNormIdeal.τ).loc Cert.UpdateKvNormIdeal.main_arg2) = m ((c.tc : Thread Cert.UpdateKvNormIdeal.nD Cert.UpdateKvNormIdeal.τ).loc Cert.UpdateKvNormIdeal.main_arg2)
      ∧ r.2.mem ((c.tc : Thread Cert.UpdateKvNormIdeal.nD Cert.UpdateKvNormIdeal.τ).loc Cert.UpdateKvNormIdeal.main_arg3) = m ((c.tc : Thread Cert.UpdateKvNormIdeal.nD Cert.UpdateKvNormIdeal.τ).loc Cert.UpdateKvNormIdeal.main_arg3))
      ∧ r.2.sem = fun _ => 0)

def quiescent_AdamKvUp [hAdamKvUp : Cert.AdamKvUp.Facts] : Prop :=
  ∀ (m : (ℓ : Loc Cert.AdamKvUp.nD Cert.AdamKvUp.τ Cert.AdamKvUp.sig) → Buf (Elt Bits) ℓ) (g : Dev Cert.AdamKvUp.nD → PrngReg), Pre_AdamKvUp m →
    θ_run (Cert.AdamKvUp.defs (F := Bits)) (onTc (τ := Cert.AdamKvUp.τ) (Cert.AdamKvUp.main (F := Bits))) ⟨m, fun _ => 0, g⟩ (fun r => (∀ c : Dev Cert.AdamKvUp.nD,
      r.2.mem ((c.tc : Thread Cert.AdamKvUp.nD Cert.AdamKvUp.τ).loc Cert.AdamKvUp.main_arg0) = m ((c.tc : Thread Cert.AdamKvUp.nD Cert.AdamKvUp.τ).loc Cert.AdamKvUp.main_arg0)
      ∧ r.2.mem ((c.tc : Thread Cert.AdamKvUp.nD Cert.AdamKvUp.τ).loc Cert.AdamKvUp.main_arg1) = m ((c.tc : Thread Cert.AdamKvUp.nD Cert.AdamKvUp.τ).loc Cert.AdamKvUp.main_arg1)
      ∧ r.2.mem ((c.tc : Thread Cert.AdamKvUp.nD Cert.AdamKvUp.τ).loc Cert.AdamKvUp.main_arg2) = m ((c.tc : Thread Cert.AdamKvUp.nD Cert.AdamKvUp.τ).loc Cert.AdamKvUp.main_arg2)
      ∧ r.2.mem ((c.tc : Thread Cert.AdamKvUp.nD Cert.AdamKvUp.τ).loc Cert.AdamKvUp.main_arg3) = m ((c.tc : Thread Cert.AdamKvUp.nD Cert.AdamKvUp.τ).loc Cert.AdamKvUp.main_arg3))
      ∧ r.2.sem = fun _ => 0)

def quiescent_AdamKvUpIdeal [hAdamKvUpIdeal : Cert.AdamKvUpIdeal.Facts] : Prop :=
  ∀ (m : (ℓ : Loc Cert.AdamKvUpIdeal.nD Cert.AdamKvUpIdeal.τ Cert.AdamKvUpIdeal.sig) → Buf (Elt Ideal) ℓ) (g : Dev Cert.AdamKvUpIdeal.nD → PrngReg), Pre_AdamKvUpIdeal m →
    θ_run (Cert.AdamKvUpIdeal.defs (F := Ideal)) (onTc (τ := Cert.AdamKvUpIdeal.τ) (Cert.AdamKvUpIdeal.main (F := Ideal))) ⟨m, fun _ => 0, g⟩ (fun r => (∀ c : Dev Cert.AdamKvUpIdeal.nD,
      r.2.mem ((c.tc : Thread Cert.AdamKvUpIdeal.nD Cert.AdamKvUpIdeal.τ).loc Cert.AdamKvUpIdeal.main_arg0) = m ((c.tc : Thread Cert.AdamKvUpIdeal.nD Cert.AdamKvUpIdeal.τ).loc Cert.AdamKvUpIdeal.main_arg0)
      ∧ r.2.mem ((c.tc : Thread Cert.AdamKvUpIdeal.nD Cert.AdamKvUpIdeal.τ).loc Cert.AdamKvUpIdeal.main_arg1) = m ((c.tc : Thread Cert.AdamKvUpIdeal.nD Cert.AdamKvUpIdeal.τ).loc Cert.AdamKvUpIdeal.main_arg1)
      ∧ r.2.mem ((c.tc : Thread Cert.AdamKvUpIdeal.nD Cert.AdamKvUpIdeal.τ).loc Cert.AdamKvUpIdeal.main_arg2) = m ((c.tc : Thread Cert.AdamKvUpIdeal.nD Cert.AdamKvUpIdeal.τ).loc Cert.AdamKvUpIdeal.main_arg2)
      ∧ r.2.mem ((c.tc : Thread Cert.AdamKvUpIdeal.nD Cert.AdamKvUpIdeal.τ).loc Cert.AdamKvUpIdeal.main_arg3) = m ((c.tc : Thread Cert.AdamKvUpIdeal.nD Cert.AdamKvUpIdeal.τ).loc Cert.AdamKvUpIdeal.main_arg3))
      ∧ r.2.sem = fun _ => 0)

def quiescent_UpdateKvUpIdeal [hUpdateKvUpIdeal : Cert.UpdateKvUpIdeal.Facts] : Prop :=
  ∀ (m : (ℓ : Loc Cert.UpdateKvUpIdeal.nD Cert.UpdateKvUpIdeal.τ Cert.UpdateKvUpIdeal.sig) → Buf (Elt Ideal) ℓ) (g : Dev Cert.UpdateKvUpIdeal.nD → PrngReg), Pre_UpdateKvUpIdeal m →
    θ_run (Cert.UpdateKvUpIdeal.defs (F := Ideal)) (onTc (τ := Cert.UpdateKvUpIdeal.τ) (Cert.UpdateKvUpIdeal.main (F := Ideal))) ⟨m, fun _ => 0, g⟩ (fun r => (∀ c : Dev Cert.UpdateKvUpIdeal.nD,
      r.2.mem ((c.tc : Thread Cert.UpdateKvUpIdeal.nD Cert.UpdateKvUpIdeal.τ).loc Cert.UpdateKvUpIdeal.main_arg0) = m ((c.tc : Thread Cert.UpdateKvUpIdeal.nD Cert.UpdateKvUpIdeal.τ).loc Cert.UpdateKvUpIdeal.main_arg0)
      ∧ r.2.mem ((c.tc : Thread Cert.UpdateKvUpIdeal.nD Cert.UpdateKvUpIdeal.τ).loc Cert.UpdateKvUpIdeal.main_arg1) = m ((c.tc : Thread Cert.UpdateKvUpIdeal.nD Cert.UpdateKvUpIdeal.τ).loc Cert.UpdateKvUpIdeal.main_arg1)
      ∧ r.2.mem ((c.tc : Thread Cert.UpdateKvUpIdeal.nD Cert.UpdateKvUpIdeal.τ).loc Cert.UpdateKvUpIdeal.main_arg2) = m ((c.tc : Thread Cert.UpdateKvUpIdeal.nD Cert.UpdateKvUpIdeal.τ).loc Cert.UpdateKvUpIdeal.main_arg2)
      ∧ r.2.mem ((c.tc : Thread Cert.UpdateKvUpIdeal.nD Cert.UpdateKvUpIdeal.τ).loc Cert.UpdateKvUpIdeal.main_arg3) = m ((c.tc : Thread Cert.UpdateKvUpIdeal.nD Cert.UpdateKvUpIdeal.τ).loc Cert.UpdateKvUpIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_UpdateConvIdeal [hUpdateConvIdeal : Cert.UpdateConvIdeal.Facts] : Prop :=
  ∀ (m : (ℓ : Loc Cert.UpdateConvIdeal.nD Cert.UpdateConvIdeal.τ Cert.UpdateConvIdeal.sig) → Buf (Elt Ideal) ℓ) (g : Dev Cert.UpdateConvIdeal.nD → PrngReg), Pre_UpdateConvIdeal m →
    θ_run (Cert.UpdateConvIdeal.defs (F := Ideal)) (onTc (τ := Cert.UpdateConvIdeal.τ) (Cert.UpdateConvIdeal.main (F := Ideal))) ⟨m, fun _ => 0, g⟩ (fun r => (∀ c : Dev Cert.UpdateConvIdeal.nD,
      r.2.mem ((c.tc : Thread Cert.UpdateConvIdeal.nD Cert.UpdateConvIdeal.τ).loc Cert.UpdateConvIdeal.main_arg0) = m ((c.tc : Thread Cert.UpdateConvIdeal.nD Cert.UpdateConvIdeal.τ).loc Cert.UpdateConvIdeal.main_arg0)
      ∧ r.2.mem ((c.tc : Thread Cert.UpdateConvIdeal.nD Cert.UpdateConvIdeal.τ).loc Cert.UpdateConvIdeal.main_arg1) = m ((c.tc : Thread Cert.UpdateConvIdeal.nD Cert.UpdateConvIdeal.τ).loc Cert.UpdateConvIdeal.main_arg1)
      ∧ r.2.mem ((c.tc : Thread Cert.UpdateConvIdeal.nD Cert.UpdateConvIdeal.τ).loc Cert.UpdateConvIdeal.main_arg2) = m ((c.tc : Thread Cert.UpdateConvIdeal.nD Cert.UpdateConvIdeal.τ).loc Cert.UpdateConvIdeal.main_arg2)
      ∧ r.2.mem ((c.tc : Thread Cert.UpdateConvIdeal.nD Cert.UpdateConvIdeal.τ).loc Cert.UpdateConvIdeal.main_arg3) = m ((c.tc : Thread Cert.UpdateConvIdeal.nD Cert.UpdateConvIdeal.τ).loc Cert.UpdateConvIdeal.main_arg3))
      ∧ r.2.sem = fun _ => 0)

def quiescent_AdamGates [hAdamGates : Cert.AdamGates.Facts] : Prop :=
  ∀ (m : (ℓ : Loc Cert.AdamGates.nD Cert.AdamGates.τ Cert.AdamGates.sig) → Buf (Elt Bits) ℓ) (g : Dev Cert.AdamGates.nD → PrngReg), Pre_AdamGates m →
    θ_run (Cert.AdamGates.defs (F := Bits)) (onTc (τ := Cert.AdamGates.τ) (Cert.AdamGates.main (F := Bits))) ⟨m, fun _ => 0, g⟩ (fun r => (∀ c : Dev Cert.AdamGates.nD,
      r.2.mem ((c.tc : Thread Cert.AdamGates.nD Cert.AdamGates.τ).loc Cert.AdamGates.main_arg0) = m ((c.tc : Thread Cert.AdamGates.nD Cert.AdamGates.τ).loc Cert.AdamGates.main_arg0)
      ∧ r.2.mem ((c.tc : Thread Cert.AdamGates.nD Cert.AdamGates.τ).loc Cert.AdamGates.main_arg1) = m ((c.tc : Thread Cert.AdamGates.nD Cert.AdamGates.τ).loc Cert.AdamGates.main_arg1)
      ∧ r.2.mem ((c.tc : Thread Cert.AdamGates.nD Cert.AdamGates.τ).loc Cert.AdamGates.main_arg2) = m ((c.tc : Thread Cert.AdamGates.nD Cert.AdamGates.τ).loc Cert.AdamGates.main_arg2)
      ∧ r.2.mem ((c.tc : Thread Cert.AdamGates.nD Cert.AdamGates.τ).loc Cert.AdamGates.main_arg3) = m ((c.tc : Thread Cert.AdamGates.nD Cert.AdamGates.τ).loc Cert.AdamGates.main_arg3))
      ∧ r.2.sem = fun _ => 0)

def quiescent_AdamGatesIdeal [hAdamGatesIdeal : Cert.AdamGatesIdeal.Facts] : Prop :=
  ∀ (m : (ℓ : Loc Cert.AdamGatesIdeal.nD Cert.AdamGatesIdeal.τ Cert.AdamGatesIdeal.sig) → Buf (Elt Ideal) ℓ) (g : Dev Cert.AdamGatesIdeal.nD → PrngReg), Pre_AdamGatesIdeal m →
    θ_run (Cert.AdamGatesIdeal.defs (F := Ideal)) (onTc (τ := Cert.AdamGatesIdeal.τ) (Cert.AdamGatesIdeal.main (F := Ideal))) ⟨m, fun _ => 0, g⟩ (fun r => (∀ c : Dev Cert.AdamGatesIdeal.nD,
      r.2.mem ((c.tc : Thread Cert.AdamGatesIdeal.nD Cert.AdamGatesIdeal.τ).loc Cert.AdamGatesIdeal.main_arg0) = m ((c.tc : Thread Cert.AdamGatesIdeal.nD Cert.AdamGatesIdeal.τ).loc Cert.AdamGatesIdeal.main_arg0)
      ∧ r.2.mem ((c.tc : Thread Cert.AdamGatesIdeal.nD Cert.AdamGatesIdeal.τ).loc Cert.AdamGatesIdeal.main_arg1) = m ((c.tc : Thread Cert.AdamGatesIdeal.nD Cert.AdamGatesIdeal.τ).loc Cert.AdamGatesIdeal.main_arg1)
      ∧ r.2.mem ((c.tc : Thread Cert.AdamGatesIdeal.nD Cert.AdamGatesIdeal.τ).loc Cert.AdamGatesIdeal.main_arg2) = m ((c.tc : Thread Cert.AdamGatesIdeal.nD Cert.AdamGatesIdeal.τ).loc Cert.AdamGatesIdeal.main_arg2)
      ∧ r.2.mem ((c.tc : Thread Cert.AdamGatesIdeal.nD Cert.AdamGatesIdeal.τ).loc Cert.AdamGatesIdeal.main_arg3) = m ((c.tc : Thread Cert.AdamGatesIdeal.nD Cert.AdamGatesIdeal.τ).loc Cert.AdamGatesIdeal.main_arg3))
      ∧ r.2.sem = fun _ => 0)

def quiescent_UpdateGatesIdeal [hUpdateGatesIdeal : Cert.UpdateGatesIdeal.Facts] : Prop :=
  ∀ (m : (ℓ : Loc Cert.UpdateGatesIdeal.nD Cert.UpdateGatesIdeal.τ Cert.UpdateGatesIdeal.sig) → Buf (Elt Ideal) ℓ) (g : Dev Cert.UpdateGatesIdeal.nD → PrngReg), Pre_UpdateGatesIdeal m →
    θ_run (Cert.UpdateGatesIdeal.defs (F := Ideal)) (onTc (τ := Cert.UpdateGatesIdeal.τ) (Cert.UpdateGatesIdeal.main (F := Ideal))) ⟨m, fun _ => 0, g⟩ (fun r => (∀ c : Dev Cert.UpdateGatesIdeal.nD,
      r.2.mem ((c.tc : Thread Cert.UpdateGatesIdeal.nD Cert.UpdateGatesIdeal.τ).loc Cert.UpdateGatesIdeal.main_arg0) = m ((c.tc : Thread Cert.UpdateGatesIdeal.nD Cert.UpdateGatesIdeal.τ).loc Cert.UpdateGatesIdeal.main_arg0)
      ∧ r.2.mem ((c.tc : Thread Cert.UpdateGatesIdeal.nD Cert.UpdateGatesIdeal.τ).loc Cert.UpdateGatesIdeal.main_arg1) = m ((c.tc : Thread Cert.UpdateGatesIdeal.nD Cert.UpdateGatesIdeal.τ).loc Cert.UpdateGatesIdeal.main_arg1)
      ∧ r.2.mem ((c.tc : Thread Cert.UpdateGatesIdeal.nD Cert.UpdateGatesIdeal.τ).loc Cert.UpdateGatesIdeal.main_arg2) = m ((c.tc : Thread Cert.UpdateGatesIdeal.nD Cert.UpdateGatesIdeal.τ).loc Cert.UpdateGatesIdeal.main_arg2)
      ∧ r.2.mem ((c.tc : Thread Cert.UpdateGatesIdeal.nD Cert.UpdateGatesIdeal.τ).loc Cert.UpdateGatesIdeal.main_arg3) = m ((c.tc : Thread Cert.UpdateGatesIdeal.nD Cert.UpdateGatesIdeal.τ).loc Cert.UpdateGatesIdeal.main_arg3))
      ∧ r.2.sem = fun _ => 0)

def quiescent_AdamONorm [hAdamONorm : Cert.AdamONorm.Facts] : Prop :=
  ∀ (m : (ℓ : Loc Cert.AdamONorm.nD Cert.AdamONorm.τ Cert.AdamONorm.sig) → Buf (Elt Bits) ℓ) (g : Dev Cert.AdamONorm.nD → PrngReg), Pre_AdamONorm m →
    θ_run (Cert.AdamONorm.defs (F := Bits)) (onTc (τ := Cert.AdamONorm.τ) (Cert.AdamONorm.main (F := Bits))) ⟨m, fun _ => 0, g⟩ (fun r => (∀ c : Dev Cert.AdamONorm.nD,
      r.2.mem ((c.tc : Thread Cert.AdamONorm.nD Cert.AdamONorm.τ).loc Cert.AdamONorm.main_arg0) = m ((c.tc : Thread Cert.AdamONorm.nD Cert.AdamONorm.τ).loc Cert.AdamONorm.main_arg0)
      ∧ r.2.mem ((c.tc : Thread Cert.AdamONorm.nD Cert.AdamONorm.τ).loc Cert.AdamONorm.main_arg1) = m ((c.tc : Thread Cert.AdamONorm.nD Cert.AdamONorm.τ).loc Cert.AdamONorm.main_arg1)
      ∧ r.2.mem ((c.tc : Thread Cert.AdamONorm.nD Cert.AdamONorm.τ).loc Cert.AdamONorm.main_arg2) = m ((c.tc : Thread Cert.AdamONorm.nD Cert.AdamONorm.τ).loc Cert.AdamONorm.main_arg2)
      ∧ r.2.mem ((c.tc : Thread Cert.AdamONorm.nD Cert.AdamONorm.τ).loc Cert.AdamONorm.main_arg3) = m ((c.tc : Thread Cert.AdamONorm.nD Cert.AdamONorm.τ).loc Cert.AdamONorm.main_arg3))
      ∧ r.2.sem = fun _ => 0)

def quiescent_AdamONormIdeal [hAdamONormIdeal : Cert.AdamONormIdeal.Facts] : Prop :=
  ∀ (m : (ℓ : Loc Cert.AdamONormIdeal.nD Cert.AdamONormIdeal.τ Cert.AdamONormIdeal.sig) → Buf (Elt Ideal) ℓ) (g : Dev Cert.AdamONormIdeal.nD → PrngReg), Pre_AdamONormIdeal m →
    θ_run (Cert.AdamONormIdeal.defs (F := Ideal)) (onTc (τ := Cert.AdamONormIdeal.τ) (Cert.AdamONormIdeal.main (F := Ideal))) ⟨m, fun _ => 0, g⟩ (fun r => (∀ c : Dev Cert.AdamONormIdeal.nD,
      r.2.mem ((c.tc : Thread Cert.AdamONormIdeal.nD Cert.AdamONormIdeal.τ).loc Cert.AdamONormIdeal.main_arg0) = m ((c.tc : Thread Cert.AdamONormIdeal.nD Cert.AdamONormIdeal.τ).loc Cert.AdamONormIdeal.main_arg0)
      ∧ r.2.mem ((c.tc : Thread Cert.AdamONormIdeal.nD Cert.AdamONormIdeal.τ).loc Cert.AdamONormIdeal.main_arg1) = m ((c.tc : Thread Cert.AdamONormIdeal.nD Cert.AdamONormIdeal.τ).loc Cert.AdamONormIdeal.main_arg1)
      ∧ r.2.mem ((c.tc : Thread Cert.AdamONormIdeal.nD Cert.AdamONormIdeal.τ).loc Cert.AdamONormIdeal.main_arg2) = m ((c.tc : Thread Cert.AdamONormIdeal.nD Cert.AdamONormIdeal.τ).loc Cert.AdamONormIdeal.main_arg2)
      ∧ r.2.mem ((c.tc : Thread Cert.AdamONormIdeal.nD Cert.AdamONormIdeal.τ).loc Cert.AdamONormIdeal.main_arg3) = m ((c.tc : Thread Cert.AdamONormIdeal.nD Cert.AdamONormIdeal.τ).loc Cert.AdamONormIdeal.main_arg3))
      ∧ r.2.sem = fun _ => 0)

def quiescent_UpdateONormIdeal [hUpdateONormIdeal : Cert.UpdateONormIdeal.Facts] : Prop :=
  ∀ (m : (ℓ : Loc Cert.UpdateONormIdeal.nD Cert.UpdateONormIdeal.τ Cert.UpdateONormIdeal.sig) → Buf (Elt Ideal) ℓ) (g : Dev Cert.UpdateONormIdeal.nD → PrngReg), Pre_UpdateONormIdeal m →
    θ_run (Cert.UpdateONormIdeal.defs (F := Ideal)) (onTc (τ := Cert.UpdateONormIdeal.τ) (Cert.UpdateONormIdeal.main (F := Ideal))) ⟨m, fun _ => 0, g⟩ (fun r => (∀ c : Dev Cert.UpdateONormIdeal.nD,
      r.2.mem ((c.tc : Thread Cert.UpdateONormIdeal.nD Cert.UpdateONormIdeal.τ).loc Cert.UpdateONormIdeal.main_arg0) = m ((c.tc : Thread Cert.UpdateONormIdeal.nD Cert.UpdateONormIdeal.τ).loc Cert.UpdateONormIdeal.main_arg0)
      ∧ r.2.mem ((c.tc : Thread Cert.UpdateONormIdeal.nD Cert.UpdateONormIdeal.τ).loc Cert.UpdateONormIdeal.main_arg1) = m ((c.tc : Thread Cert.UpdateONormIdeal.nD Cert.UpdateONormIdeal.τ).loc Cert.UpdateONormIdeal.main_arg1)
      ∧ r.2.mem ((c.tc : Thread Cert.UpdateONormIdeal.nD Cert.UpdateONormIdeal.τ).loc Cert.UpdateONormIdeal.main_arg2) = m ((c.tc : Thread Cert.UpdateONormIdeal.nD Cert.UpdateONormIdeal.τ).loc Cert.UpdateONormIdeal.main_arg2)
      ∧ r.2.mem ((c.tc : Thread Cert.UpdateONormIdeal.nD Cert.UpdateONormIdeal.τ).loc Cert.UpdateONormIdeal.main_arg3) = m ((c.tc : Thread Cert.UpdateONormIdeal.nD Cert.UpdateONormIdeal.τ).loc Cert.UpdateONormIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_UpdateOutIdeal [hUpdateOutIdeal : Cert.UpdateOutIdeal.Facts] : Prop :=
  ∀ (m : (ℓ : Loc Cert.UpdateOutIdeal.nD Cert.UpdateOutIdeal.τ Cert.UpdateOutIdeal.sig) → Buf (Elt Ideal) ℓ) (g : Dev Cert.UpdateOutIdeal.nD → PrngReg), Pre_UpdateOutIdeal m →
    θ_run (Cert.UpdateOutIdeal.defs (F := Ideal)) (onTc (τ := Cert.UpdateOutIdeal.τ) (Cert.UpdateOutIdeal.main (F := Ideal))) ⟨m, fun _ => 0, g⟩ (fun r => (∀ c : Dev Cert.UpdateOutIdeal.nD,
      r.2.mem ((c.tc : Thread Cert.UpdateOutIdeal.nD Cert.UpdateOutIdeal.τ).loc Cert.UpdateOutIdeal.main_arg0) = m ((c.tc : Thread Cert.UpdateOutIdeal.nD Cert.UpdateOutIdeal.τ).loc Cert.UpdateOutIdeal.main_arg0)
      ∧ r.2.mem ((c.tc : Thread Cert.UpdateOutIdeal.nD Cert.UpdateOutIdeal.τ).loc Cert.UpdateOutIdeal.main_arg1) = m ((c.tc : Thread Cert.UpdateOutIdeal.nD Cert.UpdateOutIdeal.τ).loc Cert.UpdateOutIdeal.main_arg1)
      ∧ r.2.mem ((c.tc : Thread Cert.UpdateOutIdeal.nD Cert.UpdateOutIdeal.τ).loc Cert.UpdateOutIdeal.main_arg2) = m ((c.tc : Thread Cert.UpdateOutIdeal.nD Cert.UpdateOutIdeal.τ).loc Cert.UpdateOutIdeal.main_arg2)
      ∧ r.2.mem ((c.tc : Thread Cert.UpdateOutIdeal.nD Cert.UpdateOutIdeal.τ).loc Cert.UpdateOutIdeal.main_arg3) = m ((c.tc : Thread Cert.UpdateOutIdeal.nD Cert.UpdateOutIdeal.τ).loc Cert.UpdateOutIdeal.main_arg3))
      ∧ r.2.sem = fun _ => 0)

def preserves_Kernel_KernelIdeal : Prop :=
  IdealRules.named_const.Statement Cert.KernelIdeal.κ "scale2" .f32 0x3DD53B95#32 (((Real.sqrt 192)⁻¹ * (Real.log 2)⁻¹ : ℝ) : EReal)
  ∧ IdealRules.named_const.Statement Cert.KernelIdeal.κ "mask" .f32 0xF149F2CA#32 ⊥
  ∧ IdealRules.named_const.Statement Cert.KernelIdeal.κ "scale" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45_0)) (v1 : (c : Dev Cert.KernelIdeal.nD) → Buf (Elt Ideal) ((c.tc : Thread Cert.KernelIdeal.nD Cert.KernelIdeal.τ).loc Cert.KernelIdeal.main_v45_1)) (v2 : (c : Dev Cert.KernelIdeal.nD) → Buf (Elt Ideal) ((c.tc : Thread Cert.KernelIdeal.nD Cert.KernelIdeal.τ).loc Cert.KernelIdeal.main_v45_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_0) = v0 c
          ∧ r.2.mem ((c.tc : Thread Cert.KernelIdeal.nD Cert.KernelIdeal.τ).loc Cert.KernelIdeal.main_v45_1) = v1 c
          ∧ r.2.mem ((c.tc : Thread Cert.KernelIdeal.nD Cert.KernelIdeal.τ).loc Cert.KernelIdeal.main_v45_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)
      ∧ m' ((c.tc : Thread Cert.Reference2Ideal.nD Cert.Reference2Ideal.τ).loc Cert.Reference2Ideal.main_arg18) = m ((c.tc : Thread Cert.Kernel2Ideal.nD Cert.Kernel2Ideal.τ).loc Cert.Kernel2Ideal.main_arg18)
      ∧ m' ((c.tc : Thread Cert.Reference2Ideal.nD Cert.Reference2Ideal.τ).loc Cert.Reference2Ideal.main_arg19) = m ((c.tc : Thread Cert.Kernel2Ideal.nD Cert.Kernel2Ideal.τ).loc Cert.Kernel2Ideal.main_arg19)
      ∧ m' ((c.tc : Thread Cert.Reference2Ideal.nD Cert.Reference2Ideal.τ).loc Cert.Reference2Ideal.main_arg20) = m ((c.tc : Thread Cert.Kernel2Ideal.nD Cert.Kernel2Ideal.τ).loc Cert.Kernel2Ideal.main_arg20)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)) (v5 : (c : Dev Cert.Kernel2Ideal.nD) → Buf (Elt Ideal) ((c.tc : Thread Cert.Kernel2Ideal.nD Cert.Kernel2Ideal.τ).loc Cert.Kernel2Ideal.main_v0_5)) (v6 : (c : Dev Cert.Kernel2Ideal.nD) → Buf (Elt Ideal) ((c.tc : Thread Cert.Kernel2Ideal.nD Cert.Kernel2Ideal.τ).loc Cert.Kernel2Ideal.main_v0_6)) (v7 : (c : Dev Cert.Kernel2Ideal.nD) → Buf (Elt Ideal) ((c.tc : Thread Cert.Kernel2Ideal.nD Cert.Kernel2Ideal.τ).loc Cert.Kernel2Ideal.main_v0_7)) (v8 : (c : Dev Cert.Kernel2Ideal.nD) → Buf (Elt Ideal) ((c.tc : Thread Cert.Kernel2Ideal.nD Cert.Kernel2Ideal.τ).loc Cert.Kernel2Ideal.main_v0_8)) (v9 : (c : Dev Cert.Kernel2Ideal.nD) → Buf (Elt Ideal) ((c.tc : Thread Cert.Kernel2Ideal.nD Cert.Kernel2Ideal.τ).loc Cert.Kernel2Ideal.main_v0_9)) (v10 : (c : Dev Cert.Kernel2Ideal.nD) → Buf (Elt Ideal) ((c.tc : Thread Cert.Kernel2Ideal.nD Cert.Kernel2Ideal.τ).loc Cert.Kernel2Ideal.main_v0_10)) (v11 : (c : Dev Cert.Kernel2Ideal.nD) → Buf (Elt Ideal) ((c.tc : Thread Cert.Kernel2Ideal.nD Cert.Kernel2Ideal.τ).loc Cert.Kernel2Ideal.main_v0_11)) (v12 : (c : Dev Cert.Kernel2Ideal.nD) → Buf (Elt Ideal) ((c.tc : Thread Cert.Kernel2Ideal.nD Cert.Kernel2Ideal.τ).loc Cert.Kernel2Ideal.main_v0_12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_v0_5) = v5 c
          ∧ r.2.mem ((c.tc : Thread Cert.Kernel2Ideal.nD Cert.Kernel2Ideal.τ).loc Cert.Kernel2Ideal.main_v0_6) = v6 c
          ∧ r.2.mem ((c.tc : Thread Cert.Kernel2Ideal.nD Cert.Kernel2Ideal.τ).loc Cert.Kernel2Ideal.main_v0_7) = v7 c
          ∧ r.2.mem ((c.tc : Thread Cert.Kernel2Ideal.nD Cert.Kernel2Ideal.τ).loc Cert.Kernel2Ideal.main_v0_8) = v8 c
          ∧ r.2.mem ((c.tc : Thread Cert.Kernel2Ideal.nD Cert.Kernel2Ideal.τ).loc Cert.Kernel2Ideal.main_v0_9) = v9 c
          ∧ r.2.mem ((c.tc : Thread Cert.Kernel2Ideal.nD Cert.Kernel2Ideal.τ).loc Cert.Kernel2Ideal.main_v0_10) = v10 c
          ∧ r.2.mem ((c.tc : Thread Cert.Kernel2Ideal.nD Cert.Kernel2Ideal.τ).loc Cert.Kernel2Ideal.main_v0_11) = v11 c
          ∧ r.2.mem ((c.tc : Thread Cert.Kernel2Ideal.nD Cert.Kernel2Ideal.τ).loc Cert.Kernel2Ideal.main_v0_12) = v12 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
          ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
          ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
          ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
          ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v90) = v0 c
          ∧ r.2.mem ((c.tc : Thread Cert.Reference2Ideal.nD Cert.Reference2Ideal.τ).loc Cert.Reference2Ideal.main_v73) = v1 c
          ∧ r.2.mem ((c.tc : Thread Cert.Reference2Ideal.nD Cert.Reference2Ideal.τ).loc Cert.Reference2Ideal.main_v68) = v2 c
          ∧ r.2.mem ((c.tc : Thread Cert.Reference2Ideal.nD Cert.Reference2Ideal.τ).loc Cert.Reference2Ideal.main_v68) = v3 c
          ∧ r.2.mem ((c.tc : Thread Cert.Reference2Ideal.nD Cert.Reference2Ideal.τ).loc Cert.Reference2Ideal.main_v65) = v4 c
          ∧ r.2.mem ((c.tc : Thread Cert.Reference2Ideal.nD Cert.Reference2Ideal.τ).loc Cert.Reference2Ideal.main_v65) = v5 c
          ∧ r.2.mem ((c.tc : Thread Cert.Reference2Ideal.nD Cert.Reference2Ideal.τ).loc Cert.Reference2Ideal.main_v61) = v6 c
          ∧ r.2.mem ((c.tc : Thread Cert.Reference2Ideal.nD Cert.Reference2Ideal.τ).loc Cert.Reference2Ideal.main_v57) = v7 c
          ∧ r.2.mem ((c.tc : Thread Cert.Reference2Ideal.nD Cert.Reference2Ideal.τ).loc Cert.Reference2Ideal.main_v53) = v8 c
          ∧ r.2.mem ((c.tc : Thread Cert.Reference2Ideal.nD Cert.Reference2Ideal.τ).loc Cert.Reference2Ideal.main_v49) = v9 c
          ∧ r.2.mem ((c.tc : Thread Cert.Reference2Ideal.nD Cert.Reference2Ideal.τ).loc Cert.Reference2Ideal.main_v45) = v10 c
          ∧ r.2.mem ((c.tc : Thread Cert.Reference2Ideal.nD Cert.Reference2Ideal.τ).loc Cert.Reference2Ideal.main_v41) = v11 c
          ∧ r.2.mem ((c.tc : Thread Cert.Reference2Ideal.nD Cert.Reference2Ideal.τ).loc Cert.Reference2Ideal.main_v38) = v12 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16)
          ∧ r.2.mem ((c.tc : Thread Cert.Reference2Ideal.nD Cert.Reference2Ideal.τ).loc Cert.Reference2Ideal.main_arg17) = m' ((c.tc : Thread Cert.Reference2Ideal.nD Cert.Reference2Ideal.τ).loc Cert.Reference2Ideal.main_arg17)
          ∧ r.2.mem ((c.tc : Thread Cert.Reference2Ideal.nD Cert.Reference2Ideal.τ).loc Cert.Reference2Ideal.main_arg18) = m' ((c.tc : Thread Cert.Reference2Ideal.nD Cert.Reference2Ideal.τ).loc Cert.Reference2Ideal.main_arg18)
          ∧ r.2.mem ((c.tc : Thread Cert.Reference2Ideal.nD Cert.Reference2Ideal.τ).loc Cert.Reference2Ideal.main_arg19) = m' ((c.tc : Thread Cert.Reference2Ideal.nD Cert.Reference2Ideal.τ).loc Cert.Reference2Ideal.main_arg19)
          ∧ r.2.mem ((c.tc : Thread Cert.Reference2Ideal.nD Cert.Reference2Ideal.τ).loc Cert.Reference2Ideal.main_arg20) = m' ((c.tc : Thread Cert.Reference2Ideal.nD Cert.Reference2Ideal.τ).loc Cert.Reference2Ideal.main_arg20))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)) (v5 : (c : Dev Cert.Kernel3Ideal.nD) → Buf (Elt Ideal) ((c.tc : Thread Cert.Kernel3Ideal.nD Cert.Kernel3Ideal.τ).loc Cert.Kernel3Ideal.main_v0_5)) (v6 : (c : Dev Cert.Kernel3Ideal.nD) → Buf (Elt Ideal) ((c.tc : Thread Cert.Kernel3Ideal.nD Cert.Kernel3Ideal.τ).loc Cert.Kernel3Ideal.main_v0_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_v0_5) = v5 c
          ∧ r.2.mem ((c.tc : Thread Cert.Kernel3Ideal.nD Cert.Kernel3Ideal.τ).loc Cert.Kernel3Ideal.main_v0_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_v28) = v1 c
          ∧ r.2.mem ((c.tc : Thread Cert.Reference3Ideal.nD Cert.Reference3Ideal.τ).loc Cert.Reference3Ideal.main_v29) = v2 c
          ∧ r.2.mem ((c.tc : Thread Cert.Reference3Ideal.nD Cert.Reference3Ideal.τ).loc Cert.Reference3Ideal.main_v30) = v3 c
          ∧ r.2.mem ((c.tc : Thread Cert.Reference3Ideal.nD Cert.Reference3Ideal.τ).loc Cert.Reference3Ideal.main_v31) = v4 c
          ∧ r.2.mem ((c.tc : Thread Cert.Reference3Ideal.nD Cert.Reference3Ideal.τ).loc Cert.Reference3Ideal.main_v32) = v5 c
          ∧ r.2.mem ((c.tc : Thread Cert.Reference3Ideal.nD Cert.Reference3Ideal.τ).loc Cert.Reference3Ideal.main_v33) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)) (v5 : (c : Dev Cert.Kernel4Ideal.nD) → Buf (Elt Ideal) ((c.tc : Thread Cert.Kernel4Ideal.nD Cert.Kernel4Ideal.τ).loc Cert.Kernel4Ideal.main_v0_5)) (v6 : (c : Dev Cert.Kernel4Ideal.nD) → Buf (Elt Ideal) ((c.tc : Thread Cert.Kernel4Ideal.nD Cert.Kernel4Ideal.τ).loc Cert.Kernel4Ideal.main_v0_6)) (v7 : (c : Dev Cert.Kernel4Ideal.nD) → Buf (Elt Ideal) ((c.tc : Thread Cert.Kernel4Ideal.nD Cert.Kernel4Ideal.τ).loc Cert.Kernel4Ideal.main_v0_7)) (v8 : (c : Dev Cert.Kernel4Ideal.nD) → Buf (Elt Ideal) ((c.tc : Thread Cert.Kernel4Ideal.nD Cert.Kernel4Ideal.τ).loc Cert.Kernel4Ideal.main_v0_8)) (v9 : (c : Dev Cert.Kernel4Ideal.nD) → Buf (Elt Ideal) ((c.tc : Thread Cert.Kernel4Ideal.nD Cert.Kernel4Ideal.τ).loc Cert.Kernel4Ideal.main_v0_9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_v0_5) = v5 c
          ∧ r.2.mem ((c.tc : Thread Cert.Kernel4Ideal.nD Cert.Kernel4Ideal.τ).loc Cert.Kernel4Ideal.main_v0_6) = v6 c
          ∧ r.2.mem ((c.tc : Thread Cert.Kernel4Ideal.nD Cert.Kernel4Ideal.τ).loc Cert.Kernel4Ideal.main_v0_7) = v7 c
          ∧ r.2.mem ((c.tc : Thread Cert.Kernel4Ideal.nD Cert.Kernel4Ideal.τ).loc Cert.Kernel4Ideal.main_v0_8) = v8 c
          ∧ r.2.mem ((c.tc : Thread Cert.Kernel4Ideal.nD Cert.Kernel4Ideal.τ).loc Cert.Kernel4Ideal.main_v0_9) = v9 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_arg10) = v0 c
          ∧ r.2.mem ((c.tc : Thread Cert.Reference4Ideal.nD Cert.Reference4Ideal.τ).loc Cert.Reference4Ideal.main_v100) = v1 c
          ∧ r.2.mem ((c.tc : Thread Cert.Reference4Ideal.nD Cert.Reference4Ideal.τ).loc Cert.Reference4Ideal.main_v101) = v2 c
          ∧ r.2.mem ((c.tc : Thread Cert.Reference4Ideal.nD Cert.Reference4Ideal.τ).loc Cert.Reference4Ideal.main_v98) = v3 c
          ∧ r.2.mem ((c.tc : Thread Cert.Reference4Ideal.nD Cert.Reference4Ideal.τ).loc Cert.Reference4Ideal.main_v75) = v4 c
          ∧ r.2.mem ((c.tc : Thread Cert.Reference4Ideal.nD Cert.Reference4Ideal.τ).loc Cert.Reference4Ideal.main_v83) = v5 c
          ∧ r.2.mem ((c.tc : Thread Cert.Reference4Ideal.nD Cert.Reference4Ideal.τ).loc Cert.Reference4Ideal.main_v69) = v6 c
          ∧ r.2.mem ((c.tc : Thread Cert.Reference4Ideal.nD Cert.Reference4Ideal.τ).loc Cert.Reference4Ideal.main_v51) = v7 c
          ∧ r.2.mem ((c.tc : Thread Cert.Reference4Ideal.nD Cert.Reference4Ideal.τ).loc Cert.Reference4Ideal.main_v48) = v8 c
          ∧ r.2.mem ((c.tc : Thread Cert.Reference4Ideal.nD Cert.Reference4Ideal.τ).loc Cert.Reference4Ideal.main_v48) = v9 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v0_4)) (v5 : (c : Dev Cert.Kernel6Ideal.nD) → Buf (Elt Ideal) ((c.tc : Thread Cert.Kernel6Ideal.nD Cert.Kernel6Ideal.τ).loc Cert.Kernel6Ideal.main_v0_5)) (v6 : (c : Dev Cert.Kernel6Ideal.nD) → Buf (Elt Ideal) ((c.tc : Thread Cert.Kernel6Ideal.nD Cert.Kernel6Ideal.τ).loc Cert.Kernel6Ideal.main_v0_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v0_4) = v4 c
          ∧ r.2.mem ((c.tc : Thread Cert.Kernel6Ideal.nD Cert.Kernel6Ideal.τ).loc Cert.Kernel6Ideal.main_v0_5) = v5 c
          ∧ r.2.mem ((c.tc : Thread Cert.Kernel6Ideal.nD Cert.Kernel6Ideal.τ).loc Cert.Kernel6Ideal.main_v0_6) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v162) = v0 c
          ∧ r.2.mem ((c.tc : Thread Cert.Reference6Ideal.nD Cert.Reference6Ideal.τ).loc Cert.Reference6Ideal.main_v139) = v1 c
          ∧ r.2.mem ((c.tc : Thread Cert.Reference6Ideal.nD Cert.Reference6Ideal.τ).loc Cert.Reference6Ideal.main_v97) = v2 c
          ∧ r.2.mem ((c.tc : Thread Cert.Reference6Ideal.nD Cert.Reference6Ideal.τ).loc Cert.Reference6Ideal.main_v146) = v3 c
          ∧ r.2.mem ((c.tc : Thread Cert.Reference6Ideal.nD Cert.Reference6Ideal.τ).loc Cert.Reference6Ideal.main_v142) = v4 c
          ∧ r.2.mem ((c.tc : Thread Cert.Reference6Ideal.nD Cert.Reference6Ideal.τ).loc Cert.Reference6Ideal.main_v123) = v5 c
          ∧ r.2.mem ((c.tc : Thread Cert.Reference6Ideal.nD Cert.Reference6Ideal.τ).loc Cert.Reference6Ideal.main_v119) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v70) = v0 c
          ∧ r.2.mem ((c.tc : Thread Cert.Reference7Ideal.nD Cert.Reference7Ideal.τ).loc Cert.Reference7Ideal.main_v71) = v1 c
          ∧ r.2.mem ((c.tc : Thread Cert.Reference7Ideal.nD Cert.Reference7Ideal.τ).loc Cert.Reference7Ideal.main_v72) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_AdamMod_AdamModIdeal : Prop :=
  True

def algebraic_AdamModIdeal_UpdateModIdeal [hAdamModIdeal : Cert.AdamModIdeal.Facts] [hUpdateModIdeal : Cert.UpdateModIdeal.Facts] : Prop :=
  ∀ (m : (ℓ : Loc Cert.AdamModIdeal.nD Cert.AdamModIdeal.τ Cert.AdamModIdeal.sig) → Buf (Elt Ideal) ℓ) (g : Dev Cert.AdamModIdeal.nD → PrngReg)
    (m' : (ℓ : Loc Cert.UpdateModIdeal.nD Cert.UpdateModIdeal.τ Cert.UpdateModIdeal.sig) → Buf (Elt Ideal) ℓ) (g' : Dev Cert.UpdateModIdeal.nD → PrngReg), Pre_AdamModIdeal m →
    (∀ c : Dev Cert.AdamModIdeal.nD,
      m' ((c.tc : Thread Cert.UpdateModIdeal.nD Cert.UpdateModIdeal.τ).loc Cert.UpdateModIdeal.main_arg0) = m ((c.tc : Thread Cert.AdamModIdeal.nD Cert.AdamModIdeal.τ).loc Cert.AdamModIdeal.main_arg0)
      ∧ m' ((c.tc : Thread Cert.UpdateModIdeal.nD Cert.UpdateModIdeal.τ).loc Cert.UpdateModIdeal.main_arg1) = m ((c.tc : Thread Cert.AdamModIdeal.nD Cert.AdamModIdeal.τ).loc Cert.AdamModIdeal.main_arg1)
      ∧ m' ((c.tc : Thread Cert.UpdateModIdeal.nD Cert.UpdateModIdeal.τ).loc Cert.UpdateModIdeal.main_arg2) = m ((c.tc : Thread Cert.AdamModIdeal.nD Cert.AdamModIdeal.τ).loc Cert.AdamModIdeal.main_arg2)
      ∧ m' ((c.tc : Thread Cert.UpdateModIdeal.nD Cert.UpdateModIdeal.τ).loc Cert.UpdateModIdeal.main_arg3) = m ((c.tc : Thread Cert.AdamModIdeal.nD Cert.AdamModIdeal.τ).loc Cert.AdamModIdeal.main_arg3)) →
    ∃ (v0 : (c : Dev Cert.AdamModIdeal.nD) → Buf (Elt Ideal) ((c.tc : Thread Cert.AdamModIdeal.nD Cert.AdamModIdeal.τ).loc Cert.AdamModIdeal.main_v0_0)) (v1 : (c : Dev Cert.AdamModIdeal.nD) → Buf (Elt Ideal) ((c.tc : Thread Cert.AdamModIdeal.nD Cert.AdamModIdeal.τ).loc Cert.AdamModIdeal.main_v0_1)) (v2 : (c : Dev Cert.AdamModIdeal.nD) → Buf (Elt Ideal) ((c.tc : Thread Cert.AdamModIdeal.nD Cert.AdamModIdeal.τ).loc Cert.AdamModIdeal.main_v0_2)),
      θ_run (Cert.AdamModIdeal.defs (F := Ideal)) (onTc (τ := Cert.AdamModIdeal.τ) (Cert.AdamModIdeal.main (F := Ideal))) ⟨m, fun _ => 0, g⟩ (fun r => ∀ c : Dev Cert.AdamModIdeal.nD,
          r.2.mem ((c.tc : Thread Cert.AdamModIdeal.nD Cert.AdamModIdeal.τ).loc Cert.AdamModIdeal.main_v0_0) = v0 c
          ∧ r.2.mem ((c.tc : Thread Cert.AdamModIdeal.nD Cert.AdamModIdeal.τ).loc Cert.AdamModIdeal.main_v0_1) = v1 c
          ∧ r.2.mem ((c.tc : Thread Cert.AdamModIdeal.nD Cert.AdamModIdeal.τ).loc Cert.AdamModIdeal.main_v0_2) = v2 c
          ∧ r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
          ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
          ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
          ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ θ_run (Cert.UpdateModIdeal.defs (F := Ideal)) (onTc (τ := Cert.UpdateModIdeal.τ) (Cert.UpdateModIdeal.main (F := Ideal))) ⟨m', fun _ => 0, g'⟩ (fun r => ∀ c : Dev Cert.UpdateModIdeal.nD,
          r.2.mem ((c.tc : Thread Cert.UpdateModIdeal.nD Cert.UpdateModIdeal.τ).loc Cert.UpdateModIdeal.main_v23) = v0 c
          ∧ r.2.mem ((c.tc : Thread Cert.UpdateModIdeal.nD Cert.UpdateModIdeal.τ).loc Cert.UpdateModIdeal.main_v4) = v1 c
          ∧ r.2.mem ((c.tc : Thread Cert.UpdateModIdeal.nD Cert.UpdateModIdeal.τ).loc Cert.UpdateModIdeal.main_v10) = v2 c
          ∧ r.2.mem ((c.tc : Thread Cert.UpdateModIdeal.nD Cert.UpdateModIdeal.τ).loc Cert.UpdateModIdeal.main_arg0) = m' ((c.tc : Thread Cert.UpdateModIdeal.nD Cert.UpdateModIdeal.τ).loc Cert.UpdateModIdeal.main_arg0)
          ∧ r.2.mem ((c.tc : Thread Cert.UpdateModIdeal.nD Cert.UpdateModIdeal.τ).loc Cert.UpdateModIdeal.main_arg1) = m' ((c.tc : Thread Cert.UpdateModIdeal.nD Cert.UpdateModIdeal.τ).loc Cert.UpdateModIdeal.main_arg1)
          ∧ r.2.mem ((c.tc : Thread Cert.UpdateModIdeal.nD Cert.UpdateModIdeal.τ).loc Cert.UpdateModIdeal.main_arg2) = m' ((c.tc : Thread Cert.UpdateModIdeal.nD Cert.UpdateModIdeal.τ).loc Cert.UpdateModIdeal.main_arg2)
          ∧ r.2.mem ((c.tc : Thread Cert.UpdateModIdeal.nD Cert.UpdateModIdeal.τ).loc Cert.UpdateModIdeal.main_arg3) = m' ((c.tc : Thread Cert.UpdateModIdeal.nD Cert.UpdateModIdeal.τ).loc Cert.UpdateModIdeal.main_arg3))

def preserves_AdamModBias_AdamModBiasIdeal : Prop :=
  True

def algebraic_AdamModBiasIdeal_UpdateModBiasIdeal [hAdamModBiasIdeal : Cert.AdamModBiasIdeal.Facts] [hUpdateModBiasIdeal : Cert.UpdateModBiasIdeal.Facts] : Prop :=
  ∀ (m : (ℓ : Loc Cert.AdamModBiasIdeal.nD Cert.AdamModBiasIdeal.τ Cert.AdamModBiasIdeal.sig) → Buf (Elt Ideal) ℓ) (g : Dev Cert.AdamModBiasIdeal.nD → PrngReg)
    (m' : (ℓ : Loc Cert.UpdateModBiasIdeal.nD Cert.UpdateModBiasIdeal.τ Cert.UpdateModBiasIdeal.sig) → Buf (Elt Ideal) ℓ) (g' : Dev Cert.UpdateModBiasIdeal.nD → PrngReg), Pre_AdamModBiasIdeal m →
    (∀ c : Dev Cert.AdamModBiasIdeal.nD,
      m' ((c.tc : Thread Cert.UpdateModBiasIdeal.nD Cert.UpdateModBiasIdeal.τ).loc Cert.UpdateModBiasIdeal.main_arg0) = m ((c.tc : Thread Cert.AdamModBiasIdeal.nD Cert.AdamModBiasIdeal.τ).loc Cert.AdamModBiasIdeal.main_arg0)
      ∧ m' ((c.tc : Thread Cert.UpdateModBiasIdeal.nD Cert.UpdateModBiasIdeal.τ).loc Cert.UpdateModBiasIdeal.main_arg1) = m ((c.tc : Thread Cert.AdamModBiasIdeal.nD Cert.AdamModBiasIdeal.τ).loc Cert.AdamModBiasIdeal.main_arg1)
      ∧ m' ((c.tc : Thread Cert.UpdateModBiasIdeal.nD Cert.UpdateModBiasIdeal.τ).loc Cert.UpdateModBiasIdeal.main_arg2) = m ((c.tc : Thread Cert.AdamModBiasIdeal.nD Cert.AdamModBiasIdeal.τ).loc Cert.AdamModBiasIdeal.main_arg2)
      ∧ m' ((c.tc : Thread Cert.UpdateModBiasIdeal.nD Cert.UpdateModBiasIdeal.τ).loc Cert.UpdateModBiasIdeal.main_arg3) = m ((c.tc : Thread Cert.AdamModBiasIdeal.nD Cert.AdamModBiasIdeal.τ).loc Cert.AdamModBiasIdeal.main_arg3)) →
    ∃ (v0 : (c : Dev Cert.AdamModBiasIdeal.nD) → Buf (Elt Ideal) ((c.tc : Thread Cert.AdamModBiasIdeal.nD Cert.AdamModBiasIdeal.τ).loc Cert.AdamModBiasIdeal.main_v0_0)) (v1 : (c : Dev Cert.AdamModBiasIdeal.nD) → Buf (Elt Ideal) ((c.tc : Thread Cert.AdamModBiasIdeal.nD Cert.AdamModBiasIdeal.τ).loc Cert.AdamModBiasIdeal.main_v0_1)) (v2 : (c : Dev Cert.AdamModBiasIdeal.nD) → Buf (Elt Ideal) ((c.tc : Thread Cert.AdamModBiasIdeal.nD Cert.AdamModBiasIdeal.τ).loc Cert.AdamModBiasIdeal.main_v0_2)),
      θ_run (Cert.AdamModBiasIdeal.defs (F := Ideal)) (onTc (τ := Cert.AdamModBiasIdeal.τ) (Cert.AdamModBiasIdeal.main (F := Ideal))) ⟨m, fun _ => 0, g⟩ (fun r => ∀ c : Dev Cert.AdamModBiasIdeal.nD,
          r.2.mem ((c.tc : Thread Cert.AdamModBiasIdeal.nD Cert.AdamModBiasIdeal.τ).loc Cert.AdamModBiasIdeal.main_v0_0) = v0 c
          ∧ r.2.mem ((c.tc : Thread Cert.AdamModBiasIdeal.nD Cert.AdamModBiasIdeal.τ).loc Cert.AdamModBiasIdeal.main_v0_1) = v1 c
          ∧ r.2.mem ((c.tc : Thread Cert.AdamModBiasIdeal.nD Cert.AdamModBiasIdeal.τ).loc Cert.AdamModBiasIdeal.main_v0_2) = v2 c
          ∧ r.2.mem ((c.tc : Thread Cert.AdamModBiasIdeal.nD Cert.AdamModBiasIdeal.τ).loc Cert.AdamModBiasIdeal.main_arg0) = m ((c.tc : Thread Cert.AdamModBiasIdeal.nD Cert.AdamModBiasIdeal.τ).loc Cert.AdamModBiasIdeal.main_arg0)
          ∧ r.2.mem ((c.tc : Thread Cert.AdamModBiasIdeal.nD Cert.AdamModBiasIdeal.τ).loc Cert.AdamModBiasIdeal.main_arg1) = m ((c.tc : Thread Cert.AdamModBiasIdeal.nD Cert.AdamModBiasIdeal.τ).loc Cert.AdamModBiasIdeal.main_arg1)
          ∧ r.2.mem ((c.tc : Thread Cert.AdamModBiasIdeal.nD Cert.AdamModBiasIdeal.τ).loc Cert.AdamModBiasIdeal.main_arg2) = m ((c.tc : Thread Cert.AdamModBiasIdeal.nD Cert.AdamModBiasIdeal.τ).loc Cert.AdamModBiasIdeal.main_arg2)
          ∧ r.2.mem ((c.tc : Thread Cert.AdamModBiasIdeal.nD Cert.AdamModBiasIdeal.τ).loc Cert.AdamModBiasIdeal.main_arg3) = m ((c.tc : Thread Cert.AdamModBiasIdeal.nD Cert.AdamModBiasIdeal.τ).loc Cert.AdamModBiasIdeal.main_arg3))
      ∧ θ_run (Cert.UpdateModBiasIdeal.defs (F := Ideal)) (onTc (τ := Cert.UpdateModBiasIdeal.τ) (Cert.UpdateModBiasIdeal.main (F := Ideal))) ⟨m', fun _ => 0, g'⟩ (fun r => ∀ c : Dev Cert.UpdateModBiasIdeal.nD,
          r.2.mem ((c.tc : Thread Cert.UpdateModBiasIdeal.nD Cert.UpdateModBiasIdeal.τ).loc Cert.UpdateModBiasIdeal.main_v23) = v0 c
          ∧ r.2.mem ((c.tc : Thread Cert.UpdateModBiasIdeal.nD Cert.UpdateModBiasIdeal.τ).loc Cert.UpdateModBiasIdeal.main_v4) = v1 c
          ∧ r.2.mem ((c.tc : Thread Cert.UpdateModBiasIdeal.nD Cert.UpdateModBiasIdeal.τ).loc Cert.UpdateModBiasIdeal.main_v10) = v2 c
          ∧ r.2.mem ((c.tc : Thread Cert.UpdateModBiasIdeal.nD Cert.UpdateModBiasIdeal.τ).loc Cert.UpdateModBiasIdeal.main_arg0) = m' ((c.tc : Thread Cert.UpdateModBiasIdeal.nD Cert.UpdateModBiasIdeal.τ).loc Cert.UpdateModBiasIdeal.main_arg0)
          ∧ r.2.mem ((c.tc : Thread Cert.UpdateModBiasIdeal.nD Cert.UpdateModBiasIdeal.τ).loc Cert.UpdateModBiasIdeal.main_arg1) = m' ((c.tc : Thread Cert.UpdateModBiasIdeal.nD Cert.UpdateModBiasIdeal.τ).loc Cert.UpdateModBiasIdeal.main_arg1)
          ∧ r.2.mem ((c.tc : Thread Cert.UpdateModBiasIdeal.nD Cert.UpdateModBiasIdeal.τ).loc Cert.UpdateModBiasIdeal.main_arg2) = m' ((c.tc : Thread Cert.UpdateModBiasIdeal.nD Cert.UpdateModBiasIdeal.τ).loc Cert.UpdateModBiasIdeal.main_arg2)
          ∧ r.2.mem ((c.tc : Thread Cert.UpdateModBiasIdeal.nD Cert.UpdateModBiasIdeal.τ).loc Cert.UpdateModBiasIdeal.main_arg3) = m' ((c.tc : Thread Cert.UpdateModBiasIdeal.nD Cert.UpdateModBiasIdeal.τ).loc Cert.UpdateModBiasIdeal.main_arg3))

def preserves_AdamNorm_AdamNormIdeal : Prop :=
  True

def algebraic_AdamNormIdeal_UpdateNormIdeal [hAdamNormIdeal : Cert.AdamNormIdeal.Facts] [hUpdateNormIdeal : Cert.UpdateNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.UpdateNormIdeal.nD Cert.UpdateNormIdeal.τ Cert.UpdateNormIdeal.sig) → Buf (Elt Ideal) ℓ) (g' : Dev Cert.UpdateNormIdeal.nD → PrngReg), Pre_AdamNormIdeal m →
    (∀ c : Dev Cert.AdamNormIdeal.nD,
      m' ((c.tc : Thread Cert.UpdateNormIdeal.nD Cert.UpdateNormIdeal.τ).loc Cert.UpdateNormIdeal.main_arg0) = m ((c.tc : Thread Cert.AdamNormIdeal.nD Cert.AdamNormIdeal.τ).loc Cert.AdamNormIdeal.main_arg0)
      ∧ m' ((c.tc : Thread Cert.UpdateNormIdeal.nD Cert.UpdateNormIdeal.τ).loc Cert.UpdateNormIdeal.main_arg1) = m ((c.tc : Thread Cert.AdamNormIdeal.nD Cert.AdamNormIdeal.τ).loc Cert.AdamNormIdeal.main_arg1)
      ∧ m' ((c.tc : Thread Cert.UpdateNormIdeal.nD Cert.UpdateNormIdeal.τ).loc Cert.UpdateNormIdeal.main_arg2) = m ((c.tc : Thread Cert.AdamNormIdeal.nD Cert.AdamNormIdeal.τ).loc Cert.AdamNormIdeal.main_arg2)
      ∧ m' ((c.tc : Thread Cert.UpdateNormIdeal.nD Cert.UpdateNormIdeal.τ).loc Cert.UpdateNormIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.UpdateNormIdeal.defs (F := Ideal)) (onTc (τ := Cert.UpdateNormIdeal.τ) (Cert.UpdateNormIdeal.main (F := Ideal))) ⟨m', fun _ => 0, g'⟩ (fun r => ∀ c : Dev Cert.UpdateNormIdeal.nD,
          r.2.mem ((c.tc : Thread Cert.UpdateNormIdeal.nD Cert.UpdateNormIdeal.τ).loc Cert.UpdateNormIdeal.main_v23) = v0 c
          ∧ r.2.mem ((c.tc : Thread Cert.UpdateNormIdeal.nD Cert.UpdateNormIdeal.τ).loc Cert.UpdateNormIdeal.main_v4) = v1 c
          ∧ r.2.mem ((c.tc : Thread Cert.UpdateNormIdeal.nD Cert.UpdateNormIdeal.τ).loc Cert.UpdateNormIdeal.main_v10) = v2 c
          ∧ r.2.mem ((c.tc : Thread Cert.UpdateNormIdeal.nD Cert.UpdateNormIdeal.τ).loc Cert.UpdateNormIdeal.main_arg0) = m' ((c.tc : Thread Cert.UpdateNormIdeal.nD Cert.UpdateNormIdeal.τ).loc Cert.UpdateNormIdeal.main_arg0)
          ∧ r.2.mem ((c.tc : Thread Cert.UpdateNormIdeal.nD Cert.UpdateNormIdeal.τ).loc Cert.UpdateNormIdeal.main_arg1) = m' ((c.tc : Thread Cert.UpdateNormIdeal.nD Cert.UpdateNormIdeal.τ).loc Cert.UpdateNormIdeal.main_arg1)
          ∧ r.2.mem ((c.tc : Thread Cert.UpdateNormIdeal.nD Cert.UpdateNormIdeal.τ).loc Cert.UpdateNormIdeal.main_arg2) = m' ((c.tc : Thread Cert.UpdateNormIdeal.nD Cert.UpdateNormIdeal.τ).loc Cert.UpdateNormIdeal.main_arg2)
          ∧ r.2.mem ((c.tc : Thread Cert.UpdateNormIdeal.nD Cert.UpdateNormIdeal.τ).loc Cert.UpdateNormIdeal.main_arg3) = m' ((c.tc : Thread Cert.UpdateNormIdeal.nD Cert.UpdateNormIdeal.τ).loc Cert.UpdateNormIdeal.main_arg3))

def preserves_AdamIn_AdamInIdeal : Prop :=
  True

def algebraic_AdamInIdeal_UpdateInIdeal [hAdamInIdeal : Cert.AdamInIdeal.Facts] [hUpdateInIdeal : Cert.UpdateInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.UpdateInIdeal.nD Cert.UpdateInIdeal.τ Cert.UpdateInIdeal.sig) → Buf (Elt Ideal) ℓ) (g' : Dev Cert.UpdateInIdeal.nD → PrngReg), Pre_AdamInIdeal m →
    (∀ c : Dev Cert.AdamInIdeal.nD,
      m' ((c.tc : Thread Cert.UpdateInIdeal.nD Cert.UpdateInIdeal.τ).loc Cert.UpdateInIdeal.main_arg0) = m ((c.tc : Thread Cert.AdamInIdeal.nD Cert.AdamInIdeal.τ).loc Cert.AdamInIdeal.main_arg0)
      ∧ m' ((c.tc : Thread Cert.UpdateInIdeal.nD Cert.UpdateInIdeal.τ).loc Cert.UpdateInIdeal.main_arg1) = m ((c.tc : Thread Cert.AdamInIdeal.nD Cert.AdamInIdeal.τ).loc Cert.AdamInIdeal.main_arg1)
      ∧ m' ((c.tc : Thread Cert.UpdateInIdeal.nD Cert.UpdateInIdeal.τ).loc Cert.UpdateInIdeal.main_arg2) = m ((c.tc : Thread Cert.AdamInIdeal.nD Cert.AdamInIdeal.τ).loc Cert.AdamInIdeal.main_arg2)
      ∧ m' ((c.tc : Thread Cert.UpdateInIdeal.nD Cert.UpdateInIdeal.τ).loc Cert.UpdateInIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.UpdateInIdeal.defs (F := Ideal)) (onTc (τ := Cert.UpdateInIdeal.τ) (Cert.UpdateInIdeal.main (F := Ideal))) ⟨m', fun _ => 0, g'⟩ (fun r => ∀ c : Dev Cert.UpdateInIdeal.nD,
          r.2.mem ((c.tc : Thread Cert.UpdateInIdeal.nD Cert.UpdateInIdeal.τ).loc Cert.UpdateInIdeal.main_v23) = v0 c
          ∧ r.2.mem ((c.tc : Thread Cert.UpdateInIdeal.nD Cert.UpdateInIdeal.τ).loc Cert.UpdateInIdeal.main_v4) = v1 c
          ∧ r.2.mem ((c.tc : Thread Cert.UpdateInIdeal.nD Cert.UpdateInIdeal.τ).loc Cert.UpdateInIdeal.main_v10) = v2 c
          ∧ r.2.mem ((c.tc : Thread Cert.UpdateInIdeal.nD Cert.UpdateInIdeal.τ).loc Cert.UpdateInIdeal.main_arg0) = m' ((c.tc : Thread Cert.UpdateInIdeal.nD Cert.UpdateInIdeal.τ).loc Cert.UpdateInIdeal.main_arg0)
          ∧ r.2.mem ((c.tc : Thread Cert.UpdateInIdeal.nD Cert.UpdateInIdeal.τ).loc Cert.UpdateInIdeal.main_arg1) = m' ((c.tc : Thread Cert.UpdateInIdeal.nD Cert.UpdateInIdeal.τ).loc Cert.UpdateInIdeal.main_arg1)
          ∧ r.2.mem ((c.tc : Thread Cert.UpdateInIdeal.nD Cert.UpdateInIdeal.τ).loc Cert.UpdateInIdeal.main_arg2) = m' ((c.tc : Thread Cert.UpdateInIdeal.nD Cert.UpdateInIdeal.τ).loc Cert.UpdateInIdeal.main_arg2)
          ∧ r.2.mem ((c.tc : Thread Cert.UpdateInIdeal.nD Cert.UpdateInIdeal.τ).loc Cert.UpdateInIdeal.main_arg3) = m' ((c.tc : Thread Cert.UpdateInIdeal.nD Cert.UpdateInIdeal.τ).loc Cert.UpdateInIdeal.main_arg3))

def preserves_AdamQNorm_AdamQNormIdeal : Prop :=
  True

def algebraic_AdamQNormIdeal_UpdateQNormIdeal [hAdamQNormIdeal : Cert.AdamQNormIdeal.Facts] [hUpdateQNormIdeal : Cert.UpdateQNormIdeal.Facts] : Prop :=
  ∀ (m : (ℓ : Loc Cert.AdamQNormIdeal.nD Cert.AdamQNormIdeal.τ Cert.AdamQNormIdeal.sig) → Buf (Elt Ideal) ℓ) (g : Dev Cert.AdamQNormIdeal.nD → PrngReg)
    (m' : (ℓ : Loc Cert.UpdateQNormIdeal.nD Cert.UpdateQNormIdeal.τ Cert.UpdateQNormIdeal.sig) → Buf (Elt Ideal) ℓ) (g' : Dev Cert.UpdateQNormIdeal.nD → PrngReg), Pre_AdamQNormIdeal m →
    (∀ c : Dev Cert.AdamQNormIdeal.nD,
      m' ((c.tc : Thread Cert.UpdateQNormIdeal.nD Cert.UpdateQNormIdeal.τ).loc Cert.UpdateQNormIdeal.main_arg0) = m ((c.tc : Thread Cert.AdamQNormIdeal.nD Cert.AdamQNormIdeal.τ).loc Cert.AdamQNormIdeal.main_arg0)
      ∧ m' ((c.tc : Thread Cert.UpdateQNormIdeal.nD Cert.UpdateQNormIdeal.τ).loc Cert.UpdateQNormIdeal.main_arg1) = m ((c.tc : Thread Cert.AdamQNormIdeal.nD Cert.AdamQNormIdeal.τ).loc Cert.AdamQNormIdeal.main_arg1)
      ∧ m' ((c.tc : Thread Cert.UpdateQNormIdeal.nD Cert.UpdateQNormIdeal.τ).loc Cert.UpdateQNormIdeal.main_arg2) = m ((c.tc : Thread Cert.AdamQNormIdeal.nD Cert.AdamQNormIdeal.τ).loc Cert.AdamQNormIdeal.main_arg2)
      ∧ m' ((c.tc : Thread Cert.UpdateQNormIdeal.nD Cert.UpdateQNormIdeal.τ).loc Cert.UpdateQNormIdeal.main_arg3) = m ((c.tc : Thread Cert.AdamQNormIdeal.nD Cert.AdamQNormIdeal.τ).loc Cert.AdamQNormIdeal.main_arg3)) →
    ∃ (v0 : (c : Dev Cert.AdamQNormIdeal.nD) → Buf (Elt Ideal) ((c.tc : Thread Cert.AdamQNormIdeal.nD Cert.AdamQNormIdeal.τ).loc Cert.AdamQNormIdeal.main_v0_0)) (v1 : (c : Dev Cert.AdamQNormIdeal.nD) → Buf (Elt Ideal) ((c.tc : Thread Cert.AdamQNormIdeal.nD Cert.AdamQNormIdeal.τ).loc Cert.AdamQNormIdeal.main_v0_1)) (v2 : (c : Dev Cert.AdamQNormIdeal.nD) → Buf (Elt Ideal) ((c.tc : Thread Cert.AdamQNormIdeal.nD Cert.AdamQNormIdeal.τ).loc Cert.AdamQNormIdeal.main_v0_2)),
      θ_run (Cert.AdamQNormIdeal.defs (F := Ideal)) (onTc (τ := Cert.AdamQNormIdeal.τ) (Cert.AdamQNormIdeal.main (F := Ideal))) ⟨m, fun _ => 0, g⟩ (fun r => ∀ c : Dev Cert.AdamQNormIdeal.nD,
          r.2.mem ((c.tc : Thread Cert.AdamQNormIdeal.nD Cert.AdamQNormIdeal.τ).loc Cert.AdamQNormIdeal.main_v0_0) = v0 c
          ∧ r.2.mem ((c.tc : Thread Cert.AdamQNormIdeal.nD Cert.AdamQNormIdeal.τ).loc Cert.AdamQNormIdeal.main_v0_1) = v1 c
          ∧ r.2.mem ((c.tc : Thread Cert.AdamQNormIdeal.nD Cert.AdamQNormIdeal.τ).loc Cert.AdamQNormIdeal.main_v0_2) = v2 c
          ∧ r.2.mem ((c.tc : Thread Cert.AdamQNormIdeal.nD Cert.AdamQNormIdeal.τ).loc Cert.AdamQNormIdeal.main_arg0) = m ((c.tc : Thread Cert.AdamQNormIdeal.nD Cert.AdamQNormIdeal.τ).loc Cert.AdamQNormIdeal.main_arg0)
          ∧ r.2.mem ((c.tc : Thread Cert.AdamQNormIdeal.nD Cert.AdamQNormIdeal.τ).loc Cert.AdamQNormIdeal.main_arg1) = m ((c.tc : Thread Cert.AdamQNormIdeal.nD Cert.AdamQNormIdeal.τ).loc Cert.AdamQNormIdeal.main_arg1)
          ∧ r.2.mem ((c.tc : Thread Cert.AdamQNormIdeal.nD Cert.AdamQNormIdeal.τ).loc Cert.AdamQNormIdeal.main_arg2) = m ((c.tc : Thread Cert.AdamQNormIdeal.nD Cert.AdamQNormIdeal.τ).loc Cert.AdamQNormIdeal.main_arg2)
          ∧ r.2.mem ((c.tc : Thread Cert.AdamQNormIdeal.nD Cert.AdamQNormIdeal.τ).loc Cert.AdamQNormIdeal.main_arg3) = m ((c.tc : Thread Cert.AdamQNormIdeal.nD Cert.AdamQNormIdeal.τ).loc Cert.AdamQNormIdeal.main_arg3))
      ∧ θ_run (Cert.UpdateQNormIdeal.defs (F := Ideal)) (onTc (τ := Cert.UpdateQNormIdeal.τ) (Cert.UpdateQNormIdeal.main (F := Ideal))) ⟨m', fun _ => 0, g'⟩ (fun r => ∀ c : Dev Cert.UpdateQNormIdeal.nD,
          r.2.mem ((c.tc : Thread Cert.UpdateQNormIdeal.nD Cert.UpdateQNormIdeal.τ).loc Cert.UpdateQNormIdeal.main_v23) = v0 c
          ∧ r.2.mem ((c.tc : Thread Cert.UpdateQNormIdeal.nD Cert.UpdateQNormIdeal.τ).loc Cert.UpdateQNormIdeal.main_v4) = v1 c
          ∧ r.2.mem ((c.tc : Thread Cert.UpdateQNormIdeal.nD Cert.UpdateQNormIdeal.τ).loc Cert.UpdateQNormIdeal.main_v10) = v2 c
          ∧ r.2.mem ((c.tc : Thread Cert.UpdateQNormIdeal.nD Cert.UpdateQNormIdeal.τ).loc Cert.UpdateQNormIdeal.main_arg0) = m' ((c.tc : Thread Cert.UpdateQNormIdeal.nD Cert.UpdateQNormIdeal.τ).loc Cert.UpdateQNormIdeal.main_arg0)
          ∧ r.2.mem ((c.tc : Thread Cert.UpdateQNormIdeal.nD Cert.UpdateQNormIdeal.τ).loc Cert.UpdateQNormIdeal.main_arg1) = m' ((c.tc : Thread Cert.UpdateQNormIdeal.nD Cert.UpdateQNormIdeal.τ).loc Cert.UpdateQNormIdeal.main_arg1)
          ∧ r.2.mem ((c.tc : Thread Cert.UpdateQNormIdeal.nD Cert.UpdateQNormIdeal.τ).loc Cert.UpdateQNormIdeal.main_arg2) = m' ((c.tc : Thread Cert.UpdateQNormIdeal.nD Cert.UpdateQNormIdeal.τ).loc Cert.UpdateQNormIdeal.main_arg2)
          ∧ r.2.mem ((c.tc : Thread Cert.UpdateQNormIdeal.nD Cert.UpdateQNormIdeal.τ).loc Cert.UpdateQNormIdeal.main_arg3) = m' ((c.tc : Thread Cert.UpdateQNormIdeal.nD Cert.UpdateQNormIdeal.τ).loc Cert.UpdateQNormIdeal.main_arg3))

def preserves_AdamQUp_AdamQUpIdeal : Prop :=
  True

def algebraic_AdamQUpIdeal_UpdateQUpIdeal [hAdamQUpIdeal : Cert.AdamQUpIdeal.Facts] [hUpdateQUpIdeal : Cert.UpdateQUpIdeal.Facts] : Prop :=
  ∀ (m : (ℓ : Loc Cert.AdamQUpIdeal.nD Cert.AdamQUpIdeal.τ Cert.AdamQUpIdeal.sig) → Buf (Elt Ideal) ℓ) (g : Dev Cert.AdamQUpIdeal.nD → PrngReg)
    (m' : (ℓ : Loc Cert.UpdateQUpIdeal.nD Cert.UpdateQUpIdeal.τ Cert.UpdateQUpIdeal.sig) → Buf (Elt Ideal) ℓ) (g' : Dev Cert.UpdateQUpIdeal.nD → PrngReg), Pre_AdamQUpIdeal m →
    (∀ c : Dev Cert.AdamQUpIdeal.nD,
      m' ((c.tc : Thread Cert.UpdateQUpIdeal.nD Cert.UpdateQUpIdeal.τ).loc Cert.UpdateQUpIdeal.main_arg0) = m ((c.tc : Thread Cert.AdamQUpIdeal.nD Cert.AdamQUpIdeal.τ).loc Cert.AdamQUpIdeal.main_arg0)
      ∧ m' ((c.tc : Thread Cert.UpdateQUpIdeal.nD Cert.UpdateQUpIdeal.τ).loc Cert.UpdateQUpIdeal.main_arg1) = m ((c.tc : Thread Cert.AdamQUpIdeal.nD Cert.AdamQUpIdeal.τ).loc Cert.AdamQUpIdeal.main_arg1)
      ∧ m' ((c.tc : Thread Cert.UpdateQUpIdeal.nD Cert.UpdateQUpIdeal.τ).loc Cert.UpdateQUpIdeal.main_arg2) = m ((c.tc : Thread Cert.AdamQUpIdeal.nD Cert.AdamQUpIdeal.τ).loc Cert.AdamQUpIdeal.main_arg2)
      ∧ m' ((c.tc : Thread Cert.UpdateQUpIdeal.nD Cert.UpdateQUpIdeal.τ).loc Cert.UpdateQUpIdeal.main_arg3) = m ((c.tc : Thread Cert.AdamQUpIdeal.nD Cert.AdamQUpIdeal.τ).loc Cert.AdamQUpIdeal.main_arg3)) →
    ∃ (v0 : (c : Dev Cert.AdamQUpIdeal.nD) → Buf (Elt Ideal) ((c.tc : Thread Cert.AdamQUpIdeal.nD Cert.AdamQUpIdeal.τ).loc Cert.AdamQUpIdeal.main_v0_0)) (v1 : (c : Dev Cert.AdamQUpIdeal.nD) → Buf (Elt Ideal) ((c.tc : Thread Cert.AdamQUpIdeal.nD Cert.AdamQUpIdeal.τ).loc Cert.AdamQUpIdeal.main_v0_1)) (v2 : (c : Dev Cert.AdamQUpIdeal.nD) → Buf (Elt Ideal) ((c.tc : Thread Cert.AdamQUpIdeal.nD Cert.AdamQUpIdeal.τ).loc Cert.AdamQUpIdeal.main_v0_2)),
      θ_run (Cert.AdamQUpIdeal.defs (F := Ideal)) (onTc (τ := Cert.AdamQUpIdeal.τ) (Cert.AdamQUpIdeal.main (F := Ideal))) ⟨m, fun _ => 0, g⟩ (fun r => ∀ c : Dev Cert.AdamQUpIdeal.nD,
          r.2.mem ((c.tc : Thread Cert.AdamQUpIdeal.nD Cert.AdamQUpIdeal.τ).loc Cert.AdamQUpIdeal.main_v0_0) = v0 c
          ∧ r.2.mem ((c.tc : Thread Cert.AdamQUpIdeal.nD Cert.AdamQUpIdeal.τ).loc Cert.AdamQUpIdeal.main_v0_1) = v1 c
          ∧ r.2.mem ((c.tc : Thread Cert.AdamQUpIdeal.nD Cert.AdamQUpIdeal.τ).loc Cert.AdamQUpIdeal.main_v0_2) = v2 c
          ∧ r.2.mem ((c.tc : Thread Cert.AdamQUpIdeal.nD Cert.AdamQUpIdeal.τ).loc Cert.AdamQUpIdeal.main_arg0) = m ((c.tc : Thread Cert.AdamQUpIdeal.nD Cert.AdamQUpIdeal.τ).loc Cert.AdamQUpIdeal.main_arg0)
          ∧ r.2.mem ((c.tc : Thread Cert.AdamQUpIdeal.nD Cert.AdamQUpIdeal.τ).loc Cert.AdamQUpIdeal.main_arg1) = m ((c.tc : Thread Cert.AdamQUpIdeal.nD Cert.AdamQUpIdeal.τ).loc Cert.AdamQUpIdeal.main_arg1)
          ∧ r.2.mem ((c.tc : Thread Cert.AdamQUpIdeal.nD Cert.AdamQUpIdeal.τ).loc Cert.AdamQUpIdeal.main_arg2) = m ((c.tc : Thread Cert.AdamQUpIdeal.nD Cert.AdamQUpIdeal.τ).loc Cert.AdamQUpIdeal.main_arg2)
          ∧ r.2.mem ((c.tc : Thread Cert.AdamQUpIdeal.nD Cert.AdamQUpIdeal.τ).loc Cert.AdamQUpIdeal.main_arg3) = m ((c.tc : Thread Cert.AdamQUpIdeal.nD Cert.AdamQUpIdeal.τ).loc Cert.AdamQUpIdeal.main_arg3))
      ∧ θ_run (Cert.UpdateQUpIdeal.defs (F := Ideal)) (onTc (τ := Cert.UpdateQUpIdeal.τ) (Cert.UpdateQUpIdeal.main (F := Ideal))) ⟨m', fun _ => 0, g'⟩ (fun r => ∀ c : Dev Cert.UpdateQUpIdeal.nD,
          r.2.mem ((c.tc : Thread Cert.UpdateQUpIdeal.nD Cert.UpdateQUpIdeal.τ).loc Cert.UpdateQUpIdeal.main_v23) = v0 c
          ∧ r.2.mem ((c.tc : Thread Cert.UpdateQUpIdeal.nD Cert.UpdateQUpIdeal.τ).loc Cert.UpdateQUpIdeal.main_v4) = v1 c
          ∧ r.2.mem ((c.tc : Thread Cert.UpdateQUpIdeal.nD Cert.UpdateQUpIdeal.τ).loc Cert.UpdateQUpIdeal.main_v10) = v2 c
          ∧ r.2.mem ((c.tc : Thread Cert.UpdateQUpIdeal.nD Cert.UpdateQUpIdeal.τ).loc Cert.UpdateQUpIdeal.main_arg0) = m' ((c.tc : Thread Cert.UpdateQUpIdeal.nD Cert.UpdateQUpIdeal.τ).loc Cert.UpdateQUpIdeal.main_arg0)
          ∧ r.2.mem ((c.tc : Thread Cert.UpdateQUpIdeal.nD Cert.UpdateQUpIdeal.τ).loc Cert.UpdateQUpIdeal.main_arg1) = m' ((c.tc : Thread Cert.UpdateQUpIdeal.nD Cert.UpdateQUpIdeal.τ).loc Cert.UpdateQUpIdeal.main_arg1)
          ∧ r.2.mem ((c.tc : Thread Cert.UpdateQUpIdeal.nD Cert.UpdateQUpIdeal.τ).loc Cert.UpdateQUpIdeal.main_arg2) = m' ((c.tc : Thread Cert.UpdateQUpIdeal.nD Cert.UpdateQUpIdeal.τ).loc Cert.UpdateQUpIdeal.main_arg2)
          ∧ r.2.mem ((c.tc : Thread Cert.UpdateQUpIdeal.nD Cert.UpdateQUpIdeal.τ).loc Cert.UpdateQUpIdeal.main_arg3) = m' ((c.tc : Thread Cert.UpdateQUpIdeal.nD Cert.UpdateQUpIdeal.τ).loc Cert.UpdateQUpIdeal.main_arg3))

def preserves_AdamKvNorm_AdamKvNormIdeal : Prop :=
  True

def algebraic_AdamKvNormIdeal_UpdateKvNormIdeal [hAdamKvNormIdeal : Cert.AdamKvNormIdeal.Facts] [hUpdateKvNormIdeal : Cert.UpdateKvNormIdeal.Facts] : Prop :=
  ∀ (m : (ℓ : Loc Cert.AdamKvNormIdeal.nD Cert.AdamKvNormIdeal.τ Cert.AdamKvNormIdeal.sig) → Buf (Elt Ideal) ℓ) (g : Dev Cert.AdamKvNormIdeal.nD → PrngReg)
    (m' : (ℓ : Loc Cert.UpdateKvNormIdeal.nD Cert.UpdateKvNormIdeal.τ Cert.UpdateKvNormIdeal.sig) → Buf (Elt Ideal) ℓ) (g' : Dev Cert.UpdateKvNormIdeal.nD → PrngReg), Pre_AdamKvNormIdeal m →
    (∀ c : Dev Cert.AdamKvNormIdeal.nD,
      m' ((c.tc : Thread Cert.UpdateKvNormIdeal.nD Cert.UpdateKvNormIdeal.τ).loc Cert.UpdateKvNormIdeal.main_arg0) = m ((c.tc : Thread Cert.AdamKvNormIdeal.nD Cert.AdamKvNormIdeal.τ).loc Cert.AdamKvNormIdeal.main_arg0)
      ∧ m' ((c.tc : Thread Cert.UpdateKvNormIdeal.nD Cert.UpdateKvNormIdeal.τ).loc Cert.UpdateKvNormIdeal.main_arg1) = m ((c.tc : Thread Cert.AdamKvNormIdeal.nD Cert.AdamKvNormIdeal.τ).loc Cert.AdamKvNormIdeal.main_arg1)
      ∧ m' ((c.tc : Thread Cert.UpdateKvNormIdeal.nD Cert.UpdateKvNormIdeal.τ).loc Cert.UpdateKvNormIdeal.main_arg2) = m ((c.tc : Thread Cert.AdamKvNormIdeal.nD Cert.AdamKvNormIdeal.τ).loc Cert.AdamKvNormIdeal.main_arg2)
      ∧ m' ((c.tc : Thread Cert.UpdateKvNormIdeal.nD Cert.UpdateKvNormIdeal.τ).loc Cert.UpdateKvNormIdeal.main_arg3) = m ((c.tc : Thread Cert.AdamKvNormIdeal.nD Cert.AdamKvNormIdeal.τ).loc Cert.AdamKvNormIdeal.main_arg3)) →
    ∃ (v0 : (c : Dev Cert.AdamKvNormIdeal.nD) → Buf (Elt Ideal) ((c.tc : Thread Cert.AdamKvNormIdeal.nD Cert.AdamKvNormIdeal.τ).loc Cert.AdamKvNormIdeal.main_v0_0)) (v1 : (c : Dev Cert.AdamKvNormIdeal.nD) → Buf (Elt Ideal) ((c.tc : Thread Cert.AdamKvNormIdeal.nD Cert.AdamKvNormIdeal.τ).loc Cert.AdamKvNormIdeal.main_v0_1)) (v2 : (c : Dev Cert.AdamKvNormIdeal.nD) → Buf (Elt Ideal) ((c.tc : Thread Cert.AdamKvNormIdeal.nD Cert.AdamKvNormIdeal.τ).loc Cert.AdamKvNormIdeal.main_v0_2)),
      θ_run (Cert.AdamKvNormIdeal.defs (F := Ideal)) (onTc (τ := Cert.AdamKvNormIdeal.τ) (Cert.AdamKvNormIdeal.main (F := Ideal))) ⟨m, fun _ => 0, g⟩ (fun r => ∀ c : Dev Cert.AdamKvNormIdeal.nD,
          r.2.mem ((c.tc : Thread Cert.AdamKvNormIdeal.nD Cert.AdamKvNormIdeal.τ).loc Cert.AdamKvNormIdeal.main_v0_0) = v0 c
          ∧ r.2.mem ((c.tc : Thread Cert.AdamKvNormIdeal.nD Cert.AdamKvNormIdeal.τ).loc Cert.AdamKvNormIdeal.main_v0_1) = v1 c
          ∧ r.2.mem ((c.tc : Thread Cert.AdamKvNormIdeal.nD Cert.AdamKvNormIdeal.τ).loc Cert.AdamKvNormIdeal.main_v0_2) = v2 c
          ∧ r.2.mem ((c.tc : Thread Cert.AdamKvNormIdeal.nD Cert.AdamKvNormIdeal.τ).loc Cert.AdamKvNormIdeal.main_arg0) = m ((c.tc : Thread Cert.AdamKvNormIdeal.nD Cert.AdamKvNormIdeal.τ).loc Cert.AdamKvNormIdeal.main_arg0)
          ∧ r.2.mem ((c.tc : Thread Cert.AdamKvNormIdeal.nD Cert.AdamKvNormIdeal.τ).loc Cert.AdamKvNormIdeal.main_arg1) = m ((c.tc : Thread Cert.AdamKvNormIdeal.nD Cert.AdamKvNormIdeal.τ).loc Cert.AdamKvNormIdeal.main_arg1)
          ∧ r.2.mem ((c.tc : Thread Cert.AdamKvNormIdeal.nD Cert.AdamKvNormIdeal.τ).loc Cert.AdamKvNormIdeal.main_arg2) = m ((c.tc : Thread Cert.AdamKvNormIdeal.nD Cert.AdamKvNormIdeal.τ).loc Cert.AdamKvNormIdeal.main_arg2)
          ∧ r.2.mem ((c.tc : Thread Cert.AdamKvNormIdeal.nD Cert.AdamKvNormIdeal.τ).loc Cert.AdamKvNormIdeal.main_arg3) = m ((c.tc : Thread Cert.AdamKvNormIdeal.nD Cert.AdamKvNormIdeal.τ).loc Cert.AdamKvNormIdeal.main_arg3))
      ∧ θ_run (Cert.UpdateKvNormIdeal.defs (F := Ideal)) (onTc (τ := Cert.UpdateKvNormIdeal.τ) (Cert.UpdateKvNormIdeal.main (F := Ideal))) ⟨m', fun _ => 0, g'⟩ (fun r => ∀ c : Dev Cert.UpdateKvNormIdeal.nD,
          r.2.mem ((c.tc : Thread Cert.UpdateKvNormIdeal.nD Cert.UpdateKvNormIdeal.τ).loc Cert.UpdateKvNormIdeal.main_v23) = v0 c
          ∧ r.2.mem ((c.tc : Thread Cert.UpdateKvNormIdeal.nD Cert.UpdateKvNormIdeal.τ).loc Cert.UpdateKvNormIdeal.main_v4) = v1 c
          ∧ r.2.mem ((c.tc : Thread Cert.UpdateKvNormIdeal.nD Cert.UpdateKvNormIdeal.τ).loc Cert.UpdateKvNormIdeal.main_v10) = v2 c
          ∧ r.2.mem ((c.tc : Thread Cert.UpdateKvNormIdeal.nD Cert.UpdateKvNormIdeal.τ).loc Cert.UpdateKvNormIdeal.main_arg0) = m' ((c.tc : Thread Cert.UpdateKvNormIdeal.nD Cert.UpdateKvNormIdeal.τ).loc Cert.UpdateKvNormIdeal.main_arg0)
          ∧ r.2.mem ((c.tc : Thread Cert.UpdateKvNormIdeal.nD Cert.UpdateKvNormIdeal.τ).loc Cert.UpdateKvNormIdeal.main_arg1) = m' ((c.tc : Thread Cert.UpdateKvNormIdeal.nD Cert.UpdateKvNormIdeal.τ).loc Cert.UpdateKvNormIdeal.main_arg1)
          ∧ r.2.mem ((c.tc : Thread Cert.UpdateKvNormIdeal.nD Cert.UpdateKvNormIdeal.τ).loc Cert.UpdateKvNormIdeal.main_arg2) = m' ((c.tc : Thread Cert.UpdateKvNormIdeal.nD Cert.UpdateKvNormIdeal.τ).loc Cert.UpdateKvNormIdeal.main_arg2)
          ∧ r.2.mem ((c.tc : Thread Cert.UpdateKvNormIdeal.nD Cert.UpdateKvNormIdeal.τ).loc Cert.UpdateKvNormIdeal.main_arg3) = m' ((c.tc : Thread Cert.UpdateKvNormIdeal.nD Cert.UpdateKvNormIdeal.τ).loc Cert.UpdateKvNormIdeal.main_arg3))

def preserves_AdamKvUp_AdamKvUpIdeal : Prop :=
  True

def algebraic_AdamKvUpIdeal_UpdateKvUpIdeal [hAdamKvUpIdeal : Cert.AdamKvUpIdeal.Facts] [hUpdateKvUpIdeal : Cert.UpdateKvUpIdeal.Facts] : Prop :=
  ∀ (m : (ℓ : Loc Cert.AdamKvUpIdeal.nD Cert.AdamKvUpIdeal.τ Cert.AdamKvUpIdeal.sig) → Buf (Elt Ideal) ℓ) (g : Dev Cert.AdamKvUpIdeal.nD → PrngReg)
    (m' : (ℓ : Loc Cert.UpdateKvUpIdeal.nD Cert.UpdateKvUpIdeal.τ Cert.UpdateKvUpIdeal.sig) → Buf (Elt Ideal) ℓ) (g' : Dev Cert.UpdateKvUpIdeal.nD → PrngReg), Pre_AdamKvUpIdeal m →
    (∀ c : Dev Cert.AdamKvUpIdeal.nD,
      m' ((c.tc : Thread Cert.UpdateKvUpIdeal.nD Cert.UpdateKvUpIdeal.τ).loc Cert.UpdateKvUpIdeal.main_arg0) = m ((c.tc : Thread Cert.AdamKvUpIdeal.nD Cert.AdamKvUpIdeal.τ).loc Cert.AdamKvUpIdeal.main_arg0)
      ∧ m' ((c.tc : Thread Cert.UpdateKvUpIdeal.nD Cert.UpdateKvUpIdeal.τ).loc Cert.UpdateKvUpIdeal.main_arg1) = m ((c.tc : Thread Cert.AdamKvUpIdeal.nD Cert.AdamKvUpIdeal.τ).loc Cert.AdamKvUpIdeal.main_arg1)
      ∧ m' ((c.tc : Thread Cert.UpdateKvUpIdeal.nD Cert.UpdateKvUpIdeal.τ).loc Cert.UpdateKvUpIdeal.main_arg2) = m ((c.tc : Thread Cert.AdamKvUpIdeal.nD Cert.AdamKvUpIdeal.τ).loc Cert.AdamKvUpIdeal.main_arg2)
      ∧ m' ((c.tc : Thread Cert.UpdateKvUpIdeal.nD Cert.UpdateKvUpIdeal.τ).loc Cert.UpdateKvUpIdeal.main_arg3) = m ((c.tc : Thread Cert.AdamKvUpIdeal.nD Cert.AdamKvUpIdeal.τ).loc Cert.AdamKvUpIdeal.main_arg3)) →
    ∃ (v0 : (c : Dev Cert.AdamKvUpIdeal.nD) → Buf (Elt Ideal) ((c.tc : Thread Cert.AdamKvUpIdeal.nD Cert.AdamKvUpIdeal.τ).loc Cert.AdamKvUpIdeal.main_v0_0)) (v1 : (c : Dev Cert.AdamKvUpIdeal.nD) → Buf (Elt Ideal) ((c.tc : Thread Cert.AdamKvUpIdeal.nD Cert.AdamKvUpIdeal.τ).loc Cert.AdamKvUpIdeal.main_v0_1)) (v2 : (c : Dev Cert.AdamKvUpIdeal.nD) → Buf (Elt Ideal) ((c.tc : Thread Cert.AdamKvUpIdeal.nD Cert.AdamKvUpIdeal.τ).loc Cert.AdamKvUpIdeal.main_v0_2)),
      θ_run (Cert.AdamKvUpIdeal.defs (F := Ideal)) (onTc (τ := Cert.AdamKvUpIdeal.τ) (Cert.AdamKvUpIdeal.main (F := Ideal))) ⟨m, fun _ => 0, g⟩ (fun r => ∀ c : Dev Cert.AdamKvUpIdeal.nD,
          r.2.mem ((c.tc : Thread Cert.AdamKvUpIdeal.nD Cert.AdamKvUpIdeal.τ).loc Cert.AdamKvUpIdeal.main_v0_0) = v0 c
          ∧ r.2.mem ((c.tc : Thread Cert.AdamKvUpIdeal.nD Cert.AdamKvUpIdeal.τ).loc Cert.AdamKvUpIdeal.main_v0_1) = v1 c
          ∧ r.2.mem ((c.tc : Thread Cert.AdamKvUpIdeal.nD Cert.AdamKvUpIdeal.τ).loc Cert.AdamKvUpIdeal.main_v0_2) = v2 c
          ∧ r.2.mem ((c.tc : Thread Cert.AdamKvUpIdeal.nD Cert.AdamKvUpIdeal.τ).loc Cert.AdamKvUpIdeal.main_arg0) = m ((c.tc : Thread Cert.AdamKvUpIdeal.nD Cert.AdamKvUpIdeal.τ).loc Cert.AdamKvUpIdeal.main_arg0)
          ∧ r.2.mem ((c.tc : Thread Cert.AdamKvUpIdeal.nD Cert.AdamKvUpIdeal.τ).loc Cert.AdamKvUpIdeal.main_arg1) = m ((c.tc : Thread Cert.AdamKvUpIdeal.nD Cert.AdamKvUpIdeal.τ).loc Cert.AdamKvUpIdeal.main_arg1)
          ∧ r.2.mem ((c.tc : Thread Cert.AdamKvUpIdeal.nD Cert.AdamKvUpIdeal.τ).loc Cert.AdamKvUpIdeal.main_arg2) = m ((c.tc : Thread Cert.AdamKvUpIdeal.nD Cert.AdamKvUpIdeal.τ).loc Cert.AdamKvUpIdeal.main_arg2)
          ∧ r.2.mem ((c.tc : Thread Cert.AdamKvUpIdeal.nD Cert.AdamKvUpIdeal.τ).loc Cert.AdamKvUpIdeal.main_arg3) = m ((c.tc : Thread Cert.AdamKvUpIdeal.nD Cert.AdamKvUpIdeal.τ).loc Cert.AdamKvUpIdeal.main_arg3))
      ∧ θ_run (Cert.UpdateKvUpIdeal.defs (F := Ideal)) (onTc (τ := Cert.UpdateKvUpIdeal.τ) (Cert.UpdateKvUpIdeal.main (F := Ideal))) ⟨m', fun _ => 0, g'⟩ (fun r => ∀ c : Dev Cert.UpdateKvUpIdeal.nD,
          r.2.mem ((c.tc : Thread Cert.UpdateKvUpIdeal.nD Cert.UpdateKvUpIdeal.τ).loc Cert.UpdateKvUpIdeal.main_v23) = v0 c
          ∧ r.2.mem ((c.tc : Thread Cert.UpdateKvUpIdeal.nD Cert.UpdateKvUpIdeal.τ).loc Cert.UpdateKvUpIdeal.main_v4) = v1 c
          ∧ r.2.mem ((c.tc : Thread Cert.UpdateKvUpIdeal.nD Cert.UpdateKvUpIdeal.τ).loc Cert.UpdateKvUpIdeal.main_v10) = v2 c
          ∧ r.2.mem ((c.tc : Thread Cert.UpdateKvUpIdeal.nD Cert.UpdateKvUpIdeal.τ).loc Cert.UpdateKvUpIdeal.main_arg0) = m' ((c.tc : Thread Cert.UpdateKvUpIdeal.nD Cert.UpdateKvUpIdeal.τ).loc Cert.UpdateKvUpIdeal.main_arg0)
          ∧ r.2.mem ((c.tc : Thread Cert.UpdateKvUpIdeal.nD Cert.UpdateKvUpIdeal.τ).loc Cert.UpdateKvUpIdeal.main_arg1) = m' ((c.tc : Thread Cert.UpdateKvUpIdeal.nD Cert.UpdateKvUpIdeal.τ).loc Cert.UpdateKvUpIdeal.main_arg1)
          ∧ r.2.mem ((c.tc : Thread Cert.UpdateKvUpIdeal.nD Cert.UpdateKvUpIdeal.τ).loc Cert.UpdateKvUpIdeal.main_arg2) = m' ((c.tc : Thread Cert.UpdateKvUpIdeal.nD Cert.UpdateKvUpIdeal.τ).loc Cert.UpdateKvUpIdeal.main_arg2)
          ∧ r.2.mem ((c.tc : Thread Cert.UpdateKvUpIdeal.nD Cert.UpdateKvUpIdeal.τ).loc Cert.UpdateKvUpIdeal.main_arg3) = m' ((c.tc : Thread Cert.UpdateKvUpIdeal.nD Cert.UpdateKvUpIdeal.τ).loc Cert.UpdateKvUpIdeal.main_arg3))

def preserves_AdamConv_AdamConvIdeal : Prop :=
  True

def algebraic_AdamConvIdeal_UpdateConvIdeal [hAdamConvIdeal : Cert.AdamConvIdeal.Facts] [hUpdateConvIdeal : Cert.UpdateConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.UpdateConvIdeal.nD Cert.UpdateConvIdeal.τ Cert.UpdateConvIdeal.sig) → Buf (Elt Ideal) ℓ) (g' : Dev Cert.UpdateConvIdeal.nD → PrngReg), Pre_AdamConvIdeal m →
    (∀ c : Dev Cert.AdamConvIdeal.nD,
      m' ((c.tc : Thread Cert.UpdateConvIdeal.nD Cert.UpdateConvIdeal.τ).loc Cert.UpdateConvIdeal.main_arg0) = m ((c.tc : Thread Cert.AdamConvIdeal.nD Cert.AdamConvIdeal.τ).loc Cert.AdamConvIdeal.main_arg0)
      ∧ m' ((c.tc : Thread Cert.UpdateConvIdeal.nD Cert.UpdateConvIdeal.τ).loc Cert.UpdateConvIdeal.main_arg1) = m ((c.tc : Thread Cert.AdamConvIdeal.nD Cert.AdamConvIdeal.τ).loc Cert.AdamConvIdeal.main_arg1)
      ∧ m' ((c.tc : Thread Cert.UpdateConvIdeal.nD Cert.UpdateConvIdeal.τ).loc Cert.UpdateConvIdeal.main_arg2) = m ((c.tc : Thread Cert.AdamConvIdeal.nD Cert.AdamConvIdeal.τ).loc Cert.AdamConvIdeal.main_arg2)
      ∧ m' ((c.tc : Thread Cert.UpdateConvIdeal.nD Cert.UpdateConvIdeal.τ).loc Cert.UpdateConvIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.UpdateConvIdeal.defs (F := Ideal)) (onTc (τ := Cert.UpdateConvIdeal.τ) (Cert.UpdateConvIdeal.main (F := Ideal))) ⟨m', fun _ => 0, g'⟩ (fun r => ∀ c : Dev Cert.UpdateConvIdeal.nD,
          r.2.mem ((c.tc : Thread Cert.UpdateConvIdeal.nD Cert.UpdateConvIdeal.τ).loc Cert.UpdateConvIdeal.main_v23) = v0 c
          ∧ r.2.mem ((c.tc : Thread Cert.UpdateConvIdeal.nD Cert.UpdateConvIdeal.τ).loc Cert.UpdateConvIdeal.main_v4) = v1 c
          ∧ r.2.mem ((c.tc : Thread Cert.UpdateConvIdeal.nD Cert.UpdateConvIdeal.τ).loc Cert.UpdateConvIdeal.main_v10) = v2 c
          ∧ r.2.mem ((c.tc : Thread Cert.UpdateConvIdeal.nD Cert.UpdateConvIdeal.τ).loc Cert.UpdateConvIdeal.main_arg0) = m' ((c.tc : Thread Cert.UpdateConvIdeal.nD Cert.UpdateConvIdeal.τ).loc Cert.UpdateConvIdeal.main_arg0)
          ∧ r.2.mem ((c.tc : Thread Cert.UpdateConvIdeal.nD Cert.UpdateConvIdeal.τ).loc Cert.UpdateConvIdeal.main_arg1) = m' ((c.tc : Thread Cert.UpdateConvIdeal.nD Cert.UpdateConvIdeal.τ).loc Cert.UpdateConvIdeal.main_arg1)
          ∧ r.2.mem ((c.tc : Thread Cert.UpdateConvIdeal.nD Cert.UpdateConvIdeal.τ).loc Cert.UpdateConvIdeal.main_arg2) = m' ((c.tc : Thread Cert.UpdateConvIdeal.nD Cert.UpdateConvIdeal.τ).loc Cert.UpdateConvIdeal.main_arg2)
          ∧ r.2.mem ((c.tc : Thread Cert.UpdateConvIdeal.nD Cert.UpdateConvIdeal.τ).loc Cert.UpdateConvIdeal.main_arg3) = m' ((c.tc : Thread Cert.UpdateConvIdeal.nD Cert.UpdateConvIdeal.τ).loc Cert.UpdateConvIdeal.main_arg3))

def preserves_AdamGates_AdamGatesIdeal : Prop :=
  True

def algebraic_AdamGatesIdeal_UpdateGatesIdeal [hAdamGatesIdeal : Cert.AdamGatesIdeal.Facts] [hUpdateGatesIdeal : Cert.UpdateGatesIdeal.Facts] : Prop :=
  ∀ (m : (ℓ : Loc Cert.AdamGatesIdeal.nD Cert.AdamGatesIdeal.τ Cert.AdamGatesIdeal.sig) → Buf (Elt Ideal) ℓ) (g : Dev Cert.AdamGatesIdeal.nD → PrngReg)
    (m' : (ℓ : Loc Cert.UpdateGatesIdeal.nD Cert.UpdateGatesIdeal.τ Cert.UpdateGatesIdeal.sig) → Buf (Elt Ideal) ℓ) (g' : Dev Cert.UpdateGatesIdeal.nD → PrngReg), Pre_AdamGatesIdeal m →
    (∀ c : Dev Cert.AdamGatesIdeal.nD,
      m' ((c.tc : Thread Cert.UpdateGatesIdeal.nD Cert.UpdateGatesIdeal.τ).loc Cert.UpdateGatesIdeal.main_arg0) = m ((c.tc : Thread Cert.AdamGatesIdeal.nD Cert.AdamGatesIdeal.τ).loc Cert.AdamGatesIdeal.main_arg0)
      ∧ m' ((c.tc : Thread Cert.UpdateGatesIdeal.nD Cert.UpdateGatesIdeal.τ).loc Cert.UpdateGatesIdeal.main_arg1) = m ((c.tc : Thread Cert.AdamGatesIdeal.nD Cert.AdamGatesIdeal.τ).loc Cert.AdamGatesIdeal.main_arg1)
      ∧ m' ((c.tc : Thread Cert.UpdateGatesIdeal.nD Cert.UpdateGatesIdeal.τ).loc Cert.UpdateGatesIdeal.main_arg2) = m ((c.tc : Thread Cert.AdamGatesIdeal.nD Cert.AdamGatesIdeal.τ).loc Cert.AdamGatesIdeal.main_arg2)
      ∧ m' ((c.tc : Thread Cert.UpdateGatesIdeal.nD Cert.UpdateGatesIdeal.τ).loc Cert.UpdateGatesIdeal.main_arg3) = m ((c.tc : Thread Cert.AdamGatesIdeal.nD Cert.AdamGatesIdeal.τ).loc Cert.AdamGatesIdeal.main_arg3)) →
    ∃ (v0 : (c : Dev Cert.AdamGatesIdeal.nD) → Buf (Elt Ideal) ((c.tc : Thread Cert.AdamGatesIdeal.nD Cert.AdamGatesIdeal.τ).loc Cert.AdamGatesIdeal.main_v0_0)) (v1 : (c : Dev Cert.AdamGatesIdeal.nD) → Buf (Elt Ideal) ((c.tc : Thread Cert.AdamGatesIdeal.nD Cert.AdamGatesIdeal.τ).loc Cert.AdamGatesIdeal.main_v0_1)) (v2 : (c : Dev Cert.AdamGatesIdeal.nD) → Buf (Elt Ideal) ((c.tc : Thread Cert.AdamGatesIdeal.nD Cert.AdamGatesIdeal.τ).loc Cert.AdamGatesIdeal.main_v0_2)),
      θ_run (Cert.AdamGatesIdeal.defs (F := Ideal)) (onTc (τ := Cert.AdamGatesIdeal.τ) (Cert.AdamGatesIdeal.main (F := Ideal))) ⟨m, fun _ => 0, g⟩ (fun r => ∀ c : Dev Cert.AdamGatesIdeal.nD,
          r.2.mem ((c.tc : Thread Cert.AdamGatesIdeal.nD Cert.AdamGatesIdeal.τ).loc Cert.AdamGatesIdeal.main_v0_0) = v0 c
          ∧ r.2.mem ((c.tc : Thread Cert.AdamGatesIdeal.nD Cert.AdamGatesIdeal.τ).loc Cert.AdamGatesIdeal.main_v0_1) = v1 c
          ∧ r.2.mem ((c.tc : Thread Cert.AdamGatesIdeal.nD Cert.AdamGatesIdeal.τ).loc Cert.AdamGatesIdeal.main_v0_2) = v2 c
          ∧ r.2.mem ((c.tc : Thread Cert.AdamGatesIdeal.nD Cert.AdamGatesIdeal.τ).loc Cert.AdamGatesIdeal.main_arg0) = m ((c.tc : Thread Cert.AdamGatesIdeal.nD Cert.AdamGatesIdeal.τ).loc Cert.AdamGatesIdeal.main_arg0)
          ∧ r.2.mem ((c.tc : Thread Cert.AdamGatesIdeal.nD Cert.AdamGatesIdeal.τ).loc Cert.AdamGatesIdeal.main_arg1) = m ((c.tc : Thread Cert.AdamGatesIdeal.nD Cert.AdamGatesIdeal.τ).loc Cert.AdamGatesIdeal.main_arg1)
          ∧ r.2.mem ((c.tc : Thread Cert.AdamGatesIdeal.nD Cert.AdamGatesIdeal.τ).loc Cert.AdamGatesIdeal.main_arg2) = m ((c.tc : Thread Cert.AdamGatesIdeal.nD Cert.AdamGatesIdeal.τ).loc Cert.AdamGatesIdeal.main_arg2)
          ∧ r.2.mem ((c.tc : Thread Cert.AdamGatesIdeal.nD Cert.AdamGatesIdeal.τ).loc Cert.AdamGatesIdeal.main_arg3) = m ((c.tc : Thread Cert.AdamGatesIdeal.nD Cert.AdamGatesIdeal.τ).loc Cert.AdamGatesIdeal.main_arg3))
      ∧ θ_run (Cert.UpdateGatesIdeal.defs (F := Ideal)) (onTc (τ := Cert.UpdateGatesIdeal.τ) (Cert.UpdateGatesIdeal.main (F := Ideal))) ⟨m', fun _ => 0, g'⟩ (fun r => ∀ c : Dev Cert.UpdateGatesIdeal.nD,
          r.2.mem ((c.tc : Thread Cert.UpdateGatesIdeal.nD Cert.UpdateGatesIdeal.τ).loc Cert.UpdateGatesIdeal.main_v23) = v0 c
          ∧ r.2.mem ((c.tc : Thread Cert.UpdateGatesIdeal.nD Cert.UpdateGatesIdeal.τ).loc Cert.UpdateGatesIdeal.main_v4) = v1 c
          ∧ r.2.mem ((c.tc : Thread Cert.UpdateGatesIdeal.nD Cert.UpdateGatesIdeal.τ).loc Cert.UpdateGatesIdeal.main_v10) = v2 c
          ∧ r.2.mem ((c.tc : Thread Cert.UpdateGatesIdeal.nD Cert.UpdateGatesIdeal.τ).loc Cert.UpdateGatesIdeal.main_arg0) = m' ((c.tc : Thread Cert.UpdateGatesIdeal.nD Cert.UpdateGatesIdeal.τ).loc Cert.UpdateGatesIdeal.main_arg0)
          ∧ r.2.mem ((c.tc : Thread Cert.UpdateGatesIdeal.nD Cert.UpdateGatesIdeal.τ).loc Cert.UpdateGatesIdeal.main_arg1) = m' ((c.tc : Thread Cert.UpdateGatesIdeal.nD Cert.UpdateGatesIdeal.τ).loc Cert.UpdateGatesIdeal.main_arg1)
          ∧ r.2.mem ((c.tc : Thread Cert.UpdateGatesIdeal.nD Cert.UpdateGatesIdeal.τ).loc Cert.UpdateGatesIdeal.main_arg2) = m' ((c.tc : Thread Cert.UpdateGatesIdeal.nD Cert.UpdateGatesIdeal.τ).loc Cert.UpdateGatesIdeal.main_arg2)
          ∧ r.2.mem ((c.tc : Thread Cert.UpdateGatesIdeal.nD Cert.UpdateGatesIdeal.τ).loc Cert.UpdateGatesIdeal.main_arg3) = m' ((c.tc : Thread Cert.UpdateGatesIdeal.nD Cert.UpdateGatesIdeal.τ).loc Cert.UpdateGatesIdeal.main_arg3))

def preserves_AdamONorm_AdamONormIdeal : Prop :=
  True

def algebraic_AdamONormIdeal_UpdateONormIdeal [hAdamONormIdeal : Cert.AdamONormIdeal.Facts] [hUpdateONormIdeal : Cert.UpdateONormIdeal.Facts] : Prop :=
  ∀ (m : (ℓ : Loc Cert.AdamONormIdeal.nD Cert.AdamONormIdeal.τ Cert.AdamONormIdeal.sig) → Buf (Elt Ideal) ℓ) (g : Dev Cert.AdamONormIdeal.nD → PrngReg)
    (m' : (ℓ : Loc Cert.UpdateONormIdeal.nD Cert.UpdateONormIdeal.τ Cert.UpdateONormIdeal.sig) → Buf (Elt Ideal) ℓ) (g' : Dev Cert.UpdateONormIdeal.nD → PrngReg), Pre_AdamONormIdeal m →
    (∀ c : Dev Cert.AdamONormIdeal.nD,
      m' ((c.tc : Thread Cert.UpdateONormIdeal.nD Cert.UpdateONormIdeal.τ).loc Cert.UpdateONormIdeal.main_arg0) = m ((c.tc : Thread Cert.AdamONormIdeal.nD Cert.AdamONormIdeal.τ).loc Cert.AdamONormIdeal.main_arg0)
      ∧ m' ((c.tc : Thread Cert.UpdateONormIdeal.nD Cert.UpdateONormIdeal.τ).loc Cert.UpdateONormIdeal.main_arg1) = m ((c.tc : Thread Cert.AdamONormIdeal.nD Cert.AdamONormIdeal.τ).loc Cert.AdamONormIdeal.main_arg1)
      ∧ m' ((c.tc : Thread Cert.UpdateONormIdeal.nD Cert.UpdateONormIdeal.τ).loc Cert.UpdateONormIdeal.main_arg2) = m ((c.tc : Thread Cert.AdamONormIdeal.nD Cert.AdamONormIdeal.τ).loc Cert.AdamONormIdeal.main_arg2)
      ∧ m' ((c.tc : Thread Cert.UpdateONormIdeal.nD Cert.UpdateONormIdeal.τ).loc Cert.UpdateONormIdeal.main_arg3) = m ((c.tc : Thread Cert.AdamONormIdeal.nD Cert.AdamONormIdeal.τ).loc Cert.AdamONormIdeal.main_arg3)) →
    ∃ (v0 : (c : Dev Cert.AdamONormIdeal.nD) → Buf (Elt Ideal) ((c.tc : Thread Cert.AdamONormIdeal.nD Cert.AdamONormIdeal.τ).loc Cert.AdamONormIdeal.main_v0_0)) (v1 : (c : Dev Cert.AdamONormIdeal.nD) → Buf (Elt Ideal) ((c.tc : Thread Cert.AdamONormIdeal.nD Cert.AdamONormIdeal.τ).loc Cert.AdamONormIdeal.main_v0_1)) (v2 : (c : Dev Cert.AdamONormIdeal.nD) → Buf (Elt Ideal) ((c.tc : Thread Cert.AdamONormIdeal.nD Cert.AdamONormIdeal.τ).loc Cert.AdamONormIdeal.main_v0_2)),
      θ_run (Cert.AdamONormIdeal.defs (F := Ideal)) (onTc (τ := Cert.AdamONormIdeal.τ) (Cert.AdamONormIdeal.main (F := Ideal))) ⟨m, fun _ => 0, g⟩ (fun r => ∀ c : Dev Cert.AdamONormIdeal.nD,
          r.2.mem ((c.tc : Thread Cert.AdamONormIdeal.nD Cert.AdamONormIdeal.τ).loc Cert.AdamONormIdeal.main_v0_0) = v0 c
          ∧ r.2.mem ((c.tc : Thread Cert.AdamONormIdeal.nD Cert.AdamONormIdeal.τ).loc Cert.AdamONormIdeal.main_v0_1) = v1 c
          ∧ r.2.mem ((c.tc : Thread Cert.AdamONormIdeal.nD Cert.AdamONormIdeal.τ).loc Cert.AdamONormIdeal.main_v0_2) = v2 c
          ∧ r.2.mem ((c.tc : Thread Cert.AdamONormIdeal.nD Cert.AdamONormIdeal.τ).loc Cert.AdamONormIdeal.main_arg0) = m ((c.tc : Thread Cert.AdamONormIdeal.nD Cert.AdamONormIdeal.τ).loc Cert.AdamONormIdeal.main_arg0)
          ∧ r.2.mem ((c.tc : Thread Cert.AdamONormIdeal.nD Cert.AdamONormIdeal.τ).loc Cert.AdamONormIdeal.main_arg1) = m ((c.tc : Thread Cert.AdamONormIdeal.nD Cert.AdamONormIdeal.τ).loc Cert.AdamONormIdeal.main_arg1)
          ∧ r.2.mem ((c.tc : Thread Cert.AdamONormIdeal.nD Cert.AdamONormIdeal.τ).loc Cert.AdamONormIdeal.main_arg2) = m ((c.tc : Thread Cert.AdamONormIdeal.nD Cert.AdamONormIdeal.τ).loc Cert.AdamONormIdeal.main_arg2)
          ∧ r.2.mem ((c.tc : Thread Cert.AdamONormIdeal.nD Cert.AdamONormIdeal.τ).loc Cert.AdamONormIdeal.main_arg3) = m ((c.tc : Thread Cert.AdamONormIdeal.nD Cert.AdamONormIdeal.τ).loc Cert.AdamONormIdeal.main_arg3))
      ∧ θ_run (Cert.UpdateONormIdeal.defs (F := Ideal)) (onTc (τ := Cert.UpdateONormIdeal.τ) (Cert.UpdateONormIdeal.main (F := Ideal))) ⟨m', fun _ => 0, g'⟩ (fun r => ∀ c : Dev Cert.UpdateONormIdeal.nD,
          r.2.mem ((c.tc : Thread Cert.UpdateONormIdeal.nD Cert.UpdateONormIdeal.τ).loc Cert.UpdateONormIdeal.main_v23) = v0 c
          ∧ r.2.mem ((c.tc : Thread Cert.UpdateONormIdeal.nD Cert.UpdateONormIdeal.τ).loc Cert.UpdateONormIdeal.main_v4) = v1 c
          ∧ r.2.mem ((c.tc : Thread Cert.UpdateONormIdeal.nD Cert.UpdateONormIdeal.τ).loc Cert.UpdateONormIdeal.main_v10) = v2 c
          ∧ r.2.mem ((c.tc : Thread Cert.UpdateONormIdeal.nD Cert.UpdateONormIdeal.τ).loc Cert.UpdateONormIdeal.main_arg0) = m' ((c.tc : Thread Cert.UpdateONormIdeal.nD Cert.UpdateONormIdeal.τ).loc Cert.UpdateONormIdeal.main_arg0)
          ∧ r.2.mem ((c.tc : Thread Cert.UpdateONormIdeal.nD Cert.UpdateONormIdeal.τ).loc Cert.UpdateONormIdeal.main_arg1) = m' ((c.tc : Thread Cert.UpdateONormIdeal.nD Cert.UpdateONormIdeal.τ).loc Cert.UpdateONormIdeal.main_arg1)
          ∧ r.2.mem ((c.tc : Thread Cert.UpdateONormIdeal.nD Cert.UpdateONormIdeal.τ).loc Cert.UpdateONormIdeal.main_arg2) = m' ((c.tc : Thread Cert.UpdateONormIdeal.nD Cert.UpdateONormIdeal.τ).loc Cert.UpdateONormIdeal.main_arg2)
          ∧ r.2.mem ((c.tc : Thread Cert.UpdateONormIdeal.nD Cert.UpdateONormIdeal.τ).loc Cert.UpdateONormIdeal.main_arg3) = m' ((c.tc : Thread Cert.UpdateONormIdeal.nD Cert.UpdateONormIdeal.τ).loc Cert.UpdateONormIdeal.main_arg3))

def preserves_AdamOut_AdamOutIdeal : Prop :=
  True

def algebraic_AdamOutIdeal_UpdateOutIdeal [hAdamOutIdeal : Cert.AdamOutIdeal.Facts] [hUpdateOutIdeal : Cert.UpdateOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.UpdateOutIdeal.nD Cert.UpdateOutIdeal.τ Cert.UpdateOutIdeal.sig) → Buf (Elt Ideal) ℓ) (g' : Dev Cert.UpdateOutIdeal.nD → PrngReg), Pre_AdamOutIdeal m →
    (∀ c : Dev Cert.AdamOutIdeal.nD,
      m' ((c.tc : Thread Cert.UpdateOutIdeal.nD Cert.UpdateOutIdeal.τ).loc Cert.UpdateOutIdeal.main_arg0) = m ((c.tc : Thread Cert.AdamOutIdeal.nD Cert.AdamOutIdeal.τ).loc Cert.AdamOutIdeal.main_arg0)
      ∧ m' ((c.tc : Thread Cert.UpdateOutIdeal.nD Cert.UpdateOutIdeal.τ).loc Cert.UpdateOutIdeal.main_arg1) = m ((c.tc : Thread Cert.AdamOutIdeal.nD Cert.AdamOutIdeal.τ).loc Cert.AdamOutIdeal.main_arg1)
      ∧ m' ((c.tc : Thread Cert.UpdateOutIdeal.nD Cert.UpdateOutIdeal.τ).loc Cert.UpdateOutIdeal.main_arg2) = m ((c.tc : Thread Cert.AdamOutIdeal.nD Cert.AdamOutIdeal.τ).loc Cert.AdamOutIdeal.main_arg2)
      ∧ m' ((c.tc : Thread Cert.UpdateOutIdeal.nD Cert.UpdateOutIdeal.τ).loc Cert.UpdateOutIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.UpdateOutIdeal.defs (F := Ideal)) (onTc (τ := Cert.UpdateOutIdeal.τ) (Cert.UpdateOutIdeal.main (F := Ideal))) ⟨m', fun _ => 0, g'⟩ (fun r => ∀ c : Dev Cert.UpdateOutIdeal.nD,
          r.2.mem ((c.tc : Thread Cert.UpdateOutIdeal.nD Cert.UpdateOutIdeal.τ).loc Cert.UpdateOutIdeal.main_v23) = v0 c
          ∧ r.2.mem ((c.tc : Thread Cert.UpdateOutIdeal.nD Cert.UpdateOutIdeal.τ).loc Cert.UpdateOutIdeal.main_v4) = v1 c
          ∧ r.2.mem ((c.tc : Thread Cert.UpdateOutIdeal.nD Cert.UpdateOutIdeal.τ).loc Cert.UpdateOutIdeal.main_v10) = v2 c
          ∧ r.2.mem ((c.tc : Thread Cert.UpdateOutIdeal.nD Cert.UpdateOutIdeal.τ).loc Cert.UpdateOutIdeal.main_arg0) = m' ((c.tc : Thread Cert.UpdateOutIdeal.nD Cert.UpdateOutIdeal.τ).loc Cert.UpdateOutIdeal.main_arg0)
          ∧ r.2.mem ((c.tc : Thread Cert.UpdateOutIdeal.nD Cert.UpdateOutIdeal.τ).loc Cert.UpdateOutIdeal.main_arg1) = m' ((c.tc : Thread Cert.UpdateOutIdeal.nD Cert.UpdateOutIdeal.τ).loc Cert.UpdateOutIdeal.main_arg1)
          ∧ r.2.mem ((c.tc : Thread Cert.UpdateOutIdeal.nD Cert.UpdateOutIdeal.τ).loc Cert.UpdateOutIdeal.main_arg2) = m' ((c.tc : Thread Cert.UpdateOutIdeal.nD Cert.UpdateOutIdeal.τ).loc Cert.UpdateOutIdeal.main_arg2)
          ∧ r.2.mem ((c.tc : Thread Cert.UpdateOutIdeal.nD Cert.UpdateOutIdeal.τ).loc Cert.UpdateOutIdeal.main_arg3) = m' ((c.tc : Thread Cert.UpdateOutIdeal.nD Cert.UpdateOutIdeal.τ).loc Cert.UpdateOutIdeal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hAdamMod : Cert.AdamMod.Facts) (hAdamModIdeal : Cert.AdamModIdeal.Facts) (hUpdateModIdeal : Cert.UpdateModIdeal.Facts) (hAdamModBias : Cert.AdamModBias.Facts) (hAdamModBiasIdeal : Cert.AdamModBiasIdeal.Facts) (hUpdateModBiasIdeal : Cert.UpdateModBiasIdeal.Facts) (hAdamNorm : Cert.AdamNorm.Facts) (hAdamNormIdeal : Cert.AdamNormIdeal.Facts) (hUpdateNormIdeal : Cert.UpdateNormIdeal.Facts) (hAdamIn : Cert.AdamIn.Facts) (hAdamInIdeal : Cert.AdamInIdeal.Facts) (hUpdateInIdeal : Cert.UpdateInIdeal.Facts) (hAdamQNorm : Cert.AdamQNorm.Facts) (hAdamQNormIdeal : Cert.AdamQNormIdeal.Facts) (hUpdateQNormIdeal : Cert.UpdateQNormIdeal.Facts) (hAdamQUp : Cert.AdamQUp.Facts) (hAdamQUpIdeal : Cert.AdamQUpIdeal.Facts) (hUpdateQUpIdeal : Cert.UpdateQUpIdeal.Facts) (hAdamKvNorm : Cert.AdamKvNorm.Facts) (hAdamKvNormIdeal : Cert.AdamKvNormIdeal.Facts) (hUpdateKvNormIdeal : Cert.UpdateKvNormIdeal.Facts) (hAdamKvUp : Cert.AdamKvUp.Facts) (hAdamKvUpIdeal : Cert.AdamKvUpIdeal.Facts) (hUpdateKvUpIdeal : Cert.UpdateKvUpIdeal.Facts) (hAdamConv : Cert.AdamConv.Facts) (hAdamConvIdeal : Cert.AdamConvIdeal.Facts) (hUpdateConvIdeal : Cert.UpdateConvIdeal.Facts) (hAdamGates : Cert.AdamGates.Facts) (hAdamGatesIdeal : Cert.AdamGatesIdeal.Facts) (hUpdateGatesIdeal : Cert.UpdateGatesIdeal.Facts) (hAdamONorm : Cert.AdamONorm.Facts) (hAdamONormIdeal : Cert.AdamONormIdeal.Facts) (hUpdateONormIdeal : Cert.UpdateONormIdeal.Facts) (hAdamOut : Cert.AdamOut.Facts) (hAdamOutIdeal : Cert.AdamOutIdeal.Facts) (hUpdateOutIdeal : Cert.UpdateOutIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_AdamMod (hAdamMod := hAdamMod)
    ∧ quiescent_AdamModIdeal (hAdamModIdeal := hAdamModIdeal)
    ∧ quiescent_UpdateModIdeal (hUpdateModIdeal := hUpdateModIdeal)
    ∧ quiescent_AdamModBias (hAdamModBias := hAdamModBias)
    ∧ quiescent_AdamModBiasIdeal (hAdamModBiasIdeal := hAdamModBiasIdeal)
    ∧ quiescent_UpdateModBiasIdeal (hUpdateModBiasIdeal := hUpdateModBiasIdeal)
    ∧ quiescent_AdamNorm (hAdamNorm := hAdamNorm)
    ∧ quiescent_AdamNormIdeal (hAdamNormIdeal := hAdamNormIdeal)
    ∧ quiescent_UpdateNormIdeal (hUpdateNormIdeal := hUpdateNormIdeal)
    ∧ quiescent_AdamIn (hAdamIn := hAdamIn)
    ∧ quiescent_AdamInIdeal (hAdamInIdeal := hAdamInIdeal)
    ∧ quiescent_UpdateInIdeal (hUpdateInIdeal := hUpdateInIdeal)
    ∧ quiescent_AdamQNorm (hAdamQNorm := hAdamQNorm)
    ∧ quiescent_AdamQNormIdeal (hAdamQNormIdeal := hAdamQNormIdeal)
    ∧ quiescent_UpdateQNormIdeal (hUpdateQNormIdeal := hUpdateQNormIdeal)
    ∧ quiescent_AdamQUp (hAdamQUp := hAdamQUp)
    ∧ quiescent_AdamQUpIdeal (hAdamQUpIdeal := hAdamQUpIdeal)
    ∧ quiescent_UpdateQUpIdeal (hUpdateQUpIdeal := hUpdateQUpIdeal)
    ∧ quiescent_AdamKvNorm (hAdamKvNorm := hAdamKvNorm)
    ∧ quiescent_AdamKvNormIdeal (hAdamKvNormIdeal := hAdamKvNormIdeal)
    ∧ quiescent_UpdateKvNormIdeal (hUpdateKvNormIdeal := hUpdateKvNormIdeal)
    ∧ quiescent_AdamKvUp (hAdamKvUp := hAdamKvUp)
    ∧ quiescent_AdamKvUpIdeal (hAdamKvUpIdeal := hAdamKvUpIdeal)
    ∧ quiescent_UpdateKvUpIdeal (hUpdateKvUpIdeal := hUpdateKvUpIdeal)
    ∧ quiescent_AdamConv (hAdamConv := hAdamConv)
    ∧ quiescent_AdamConvIdeal (hAdamConvIdeal := hAdamConvIdeal)
    ∧ quiescent_UpdateConvIdeal (hUpdateConvIdeal := hUpdateConvIdeal)
    ∧ quiescent_AdamGates (hAdamGates := hAdamGates)
    ∧ quiescent_AdamGatesIdeal (hAdamGatesIdeal := hAdamGatesIdeal)
    ∧ quiescent_UpdateGatesIdeal (hUpdateGatesIdeal := hUpdateGatesIdeal)
    ∧ quiescent_AdamONorm (hAdamONorm := hAdamONorm)
    ∧ quiescent_AdamONormIdeal (hAdamONormIdeal := hAdamONormIdeal)
    ∧ quiescent_UpdateONormIdeal (hUpdateONormIdeal := hUpdateONormIdeal)
    ∧ quiescent_AdamOut (hAdamOut := hAdamOut)
    ∧ quiescent_AdamOutIdeal (hAdamOutIdeal := hAdamOutIdeal)
    ∧ quiescent_UpdateOutIdeal (hUpdateOutIdeal := hUpdateOutIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_AdamMod_AdamModIdeal
    ∧ algebraic_AdamModIdeal_UpdateModIdeal (hAdamModIdeal := hAdamModIdeal) (hUpdateModIdeal := hUpdateModIdeal)
    ∧ preserves_AdamModBias_AdamModBiasIdeal
    ∧ algebraic_AdamModBiasIdeal_UpdateModBiasIdeal (hAdamModBiasIdeal := hAdamModBiasIdeal) (hUpdateModBiasIdeal := hUpdateModBiasIdeal)
    ∧ preserves_AdamNorm_AdamNormIdeal
    ∧ algebraic_AdamNormIdeal_UpdateNormIdeal (hAdamNormIdeal := hAdamNormIdeal) (hUpdateNormIdeal := hUpdateNormIdeal)
    ∧ preserves_AdamIn_AdamInIdeal
    ∧ algebraic_AdamInIdeal_UpdateInIdeal (hAdamInIdeal := hAdamInIdeal) (hUpdateInIdeal := hUpdateInIdeal)
    ∧ preserves_AdamQNorm_AdamQNormIdeal
    ∧ algebraic_AdamQNormIdeal_UpdateQNormIdeal (hAdamQNormIdeal := hAdamQNormIdeal) (hUpdateQNormIdeal := hUpdateQNormIdeal)
    ∧ preserves_AdamQUp_AdamQUpIdeal
    ∧ algebraic_AdamQUpIdeal_UpdateQUpIdeal (hAdamQUpIdeal := hAdamQUpIdeal) (hUpdateQUpIdeal := hUpdateQUpIdeal)
    ∧ preserves_AdamKvNorm_AdamKvNormIdeal
    ∧ algebraic_AdamKvNormIdeal_UpdateKvNormIdeal (hAdamKvNormIdeal := hAdamKvNormIdeal) (hUpdateKvNormIdeal := hUpdateKvNormIdeal)
    ∧ preserves_AdamKvUp_AdamKvUpIdeal
    ∧ algebraic_AdamKvUpIdeal_UpdateKvUpIdeal (hAdamKvUpIdeal := hAdamKvUpIdeal) (hUpdateKvUpIdeal := hUpdateKvUpIdeal)
    ∧ preserves_AdamConv_AdamConvIdeal
    ∧ algebraic_AdamConvIdeal_UpdateConvIdeal (hAdamConvIdeal := hAdamConvIdeal) (hUpdateConvIdeal := hUpdateConvIdeal)
    ∧ preserves_AdamGates_AdamGatesIdeal
    ∧ algebraic_AdamGatesIdeal_UpdateGatesIdeal (hAdamGatesIdeal := hAdamGatesIdeal) (hUpdateGatesIdeal := hUpdateGatesIdeal)
    ∧ preserves_AdamONorm_AdamONormIdeal
    ∧ algebraic_AdamONormIdeal_UpdateONormIdeal (hAdamONormIdeal := hAdamONormIdeal) (hUpdateONormIdeal := hUpdateONormIdeal)
    ∧ preserves_AdamOut_AdamOutIdeal
    ∧ algebraic_AdamOutIdeal_UpdateOutIdeal (hAdamOutIdeal := hAdamOutIdeal) (hUpdateOutIdeal := hUpdateOutIdeal)
-- ==== Pre_finite.lean ====
abbrev S8192x1024 : Shape := ⟨2, ![8192, 1024]⟩
abbrev S8192x512 : Shape := ⟨2, ![8192, 512]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_v16 : IVec S_ 1) (main_v17 : FVec F S8192x512 .f32) : IVec S_ 1 :=
  let main_cst_4 : FVec F S_ .f32 := constant S_ .f32 0x7F800000#32
  let main_v18 : FVec F S8192x512 .f32 := broadcastInDim S8192x512 ![] bcast_S_S8192x512 main_cst_4
  let main_v19 : IVec S8192x512 1 := cmpf .olt main_v17 main_v18
  let main_c_5 : IVec S_ 1 := constantI S_ 1 1#1
  let main_v20 : IVec S_ 1 := (fun x v => Host.reduce IntOp.andi x v reducesTo_S8192x512_S_d0_1 h_S_) main_v19 main_c_5
  let main_v21 : IVec S_ 1 := andi main_v16 main_v20
  main_v21

def fn {F : FTy → Type} [FloatOps F] (main_arg0 : FVec F S8192x1024 .bf16) (main_arg1 : FVec F S8192x1024 .bf16) (main_arg2 : FVec F S8192x512 .bf16) (main_arg3 : FVec F S8192x512 .f32) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8192x1024 .f32 := (extf .f32 · bitsLt_bf16_f32) main_arg1
  let main_v6 : FVec F S8192x1024 .f32 := Host.absf main_v5
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  let main_c_1 : IVec S_ 1 := constantI S_ 1 1#1
  let main_v9 : IVec S_ 1 := (fun x v => Host.reduce IntOp.andi x v reducesTo_S8192x1024_S_d0_1 h_S_) main_v8 main_c_1
  let main_v10 : IVec S_ 1 := andi main_v4 main_v9
  let main_v11 : FVec F S8192x512 .f32 := (extf .f32 · bitsLt_bf16_f32) main_arg2
  let main_v12 : FVec F S8192x512 .f32 := Host.absf main_v11
  let main_cst_2 : FVec F S_ .f32 := constant S_ .f32 0x7F800000#32
  let main_v13 : FVec F S8192x512 .f32 := broadcastInDim S8192x512 ![] bcast_S_S8192x512 main_cst_2
  let main_v14 : IVec S8192x512 1 := cmpf .olt main_v12 main_v13
  let main_c_3 : IVec S_ 1 := constantI S_ 1 1#1
  let main_v15 : IVec S_ 1 := (fun x v => Host.reduce IntOp.andi x v reducesTo_S8192x512_S_d0_1 h_S_) main_v14 main_c_3
  let main_v16 : IVec S_ 1 := andi main_v10 main_v15
  let main_v17 : FVec F S8192x512 .f32 := Host.absf main_arg3
  fn_part1 (F := F) main_v16 main_v17
-- ==== Kernel.lean ====
abbrev S8192x1024 : Shape := ⟨2, ![8192, 1024]⟩
abbrev S8192x512 : Shape := ⟨2, ![8192, 512]⟩
abbrev S8192x4x256 : Shape := ⟨3, ![8192, 4, 256]⟩
abbrev S8192x4x128 : Shape := ⟨3, ![8192, 4, 128]⟩
abbrev S4x8192x8192 : Shape := ⟨3, ![4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8192 : Shape := ⟨2, ![4, 8192]⟩
abbrev S4x8192x1 : Shape := ⟨3, ![4, 8192, 1]⟩
abbrev S4x128x8192 : Shape := ⟨3, ![4, 128, 8192]⟩
abbrev S4x1x8192 : Shape := ⟨3, ![4, 1, 8192]⟩
abbrev S4x8x8192 : Shape := ⟨3, ![4, 8, 8192]⟩
abbrev S8192x256 : Shape := ⟨2, ![8192, 256]⟩
abbrev S512x256 : Shape := ⟨2, ![512, 256]⟩
abbrev S512x128 : Shape := ⟨2, ![512, 128]⟩
abbrev S1x8x8192 : Shape := ⟨3, ![1, 8, 8192]⟩
abbrev S8192x128 : Shape := ⟨2, ![8192, 128]⟩
abbrev S8x8192 : Shape := ⟨2, ![8, 8192]⟩
abbrev S512 : Shape := ⟨1, ![512]⟩
abbrev S512x1 : Shape := ⟨2, ![512, 1]⟩
abbrev S8x128 : Shape := ⟨2, ![8, 128]⟩
abbrev S8x512 : Shape := ⟨2, ![8, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 63
  | .vmem => 17
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x512, .f32⟩
  | .hbm, ⟨4, _⟩ => ⟨S8192x1024, .f32⟩
  | .hbm, ⟨5, _⟩ => ⟨S8192x4x256, .f32⟩
  | .hbm, ⟨6, _⟩ => ⟨S8192x1024, .f32⟩
  | .hbm, ⟨7, _⟩ => ⟨S8192x4x256, .f32⟩
  | .hbm, ⟨8, _⟩ => ⟨S8192x512, .f32⟩
  | .hbm, ⟨9, _⟩ => ⟨S8192x4x128, .f32⟩
  | .hbm, ⟨10, _⟩ => ⟨S4x8192x8192, .f32⟩
  | .hbm, ⟨11, _⟩ => ⟨S_, .f32⟩
  | .hbm, ⟨12, _⟩ => ⟨S_, .f32⟩
  | .hbm, ⟨13, _⟩ => ⟨S4x8192x8192, .f32⟩
  | .hbm, ⟨14, _⟩ => ⟨S4x8192x8192, .f32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S4x8192x8192, .i1⟩
  | .hbm, ⟨24, _⟩ => ⟨S4x8192x8192, .f32⟩
  | .hbm, ⟨25, _⟩ => ⟨S4x8192x8192, .f32⟩
  | .hbm, ⟨26, _⟩ => ⟨S_, .f32⟩
  | .hbm, ⟨27, _⟩ => ⟨S4x8192, .f32⟩
  | .hbm, ⟨28, _⟩ => ⟨S_, .f32⟩
  | .hbm, ⟨29, _⟩ => ⟨S4x8192, .f32⟩
  | .hbm, ⟨30, _⟩ => ⟨S4x8192, .f32⟩
  | .hbm, ⟨31, _⟩ => ⟨S4x8192x1, .f32⟩
  | .hbm, ⟨32, _⟩ => ⟨S4x8192x8192, .f32⟩
  | .hbm, ⟨33, _⟩ => ⟨S4x8192x8192, .f32⟩
  | .hbm, ⟨34, _⟩ => ⟨S4x8192x8192, .f32⟩
  | .hbm, ⟨35, _⟩ => ⟨S_, .f32⟩
  | .hbm, ⟨36, _⟩ => ⟨S4x8192, .f32⟩
  | .hbm, ⟨37, _⟩ => ⟨S4x8192x1, .f32⟩
  | .hbm, ⟨38, _⟩ => ⟨S4x8192x8192, .f32⟩
  | .hbm, ⟨39, _⟩ => ⟨S4x8192x8192, .f32⟩
  | .hbm, ⟨40, _⟩ => ⟨S4x128x8192, .f32⟩
  | .hbm, ⟨41, _⟩ => ⟨S8192x4x128, .f32⟩
  | .hbm, ⟨42, _⟩ => ⟨S_, .f32⟩
  | .hbm, ⟨43, _⟩ => ⟨S4x8192, .f32⟩
  | .hbm, ⟨44, _⟩ => ⟨S4x8192x1, .f32⟩
  | .hbm, ⟨45, _⟩ => ⟨S4x8192, .f32⟩
  | .hbm, ⟨46, _⟩ => ⟨S4x8192x8192, .f32⟩
  | .hbm, ⟨47, _⟩ => ⟨S4x8192x8192, .f32⟩
  | .hbm, ⟨48, _⟩ => ⟨S4x8192x8192, .f32⟩
  | .hbm, ⟨49, _⟩ => ⟨S_, .f32⟩
  | .hbm, ⟨50, _⟩ => ⟨S4x8192, .f32⟩
  | .hbm, ⟨51, _⟩ => ⟨S4x8192, .f32⟩
  | .hbm, ⟨52, _⟩ => ⟨S4x8192, .f32⟩
  | .hbm, ⟨53, _⟩ => ⟨S_, .f32⟩
  | .hbm, ⟨54, _⟩ => ⟨S_, .f32⟩
  | .hbm, ⟨55, _⟩ => ⟨S4x8192, .f32⟩
  | .hbm, ⟨56, _⟩ => ⟨S4x8192, .f32⟩
  | .hbm, ⟨57, _⟩ => ⟨S4x1x8192, .f32⟩
  | .hbm, ⟨58, _⟩ => ⟨S4x8x8192, .f32⟩
  | .hbm, ⟨59, _⟩ => ⟨S8192x512, .f32⟩
  | .hbm, ⟨60, _⟩ => ⟨S8192x1024, .f32⟩
  | .hbm, ⟨61, _⟩ => ⟨S8192x1024, .f32⟩
  | .hbm, ⟨62, _⟩ => ⟨S8192x512, .f32⟩
  | .local _ .vmem, ⟨0, _⟩ => ⟨S8192x256, .bf16⟩
  | .local _ .vmem, ⟨1, _⟩ => ⟨S512x256, .bf16⟩
  | .local _ .vmem, ⟨2, _⟩ => ⟨S512x256, .bf16⟩
  | .local _ .vmem, ⟨3, _⟩ => ⟨S512x128, .bf16⟩
  | .local _ .vmem, ⟨4, _⟩ => ⟨S512x128, .bf16⟩
  | .local _ .vmem, ⟨5, _⟩ => ⟨S1x8x8192, .f32⟩
  | .local _ .vmem, ⟨6, _⟩ => ⟨S1x8x8192, .f32⟩
  | .local _ .vmem, ⟨7, _⟩ => ⟨S8192x128, .f32⟩
  | .local _ .vmem, ⟨8, _⟩ => ⟨S8192x128, .f32⟩
  | .local _ .vmem, ⟨9, _⟩ => ⟨S8192x256, .f32⟩
  | .local _ .vmem, ⟨10, _⟩ => ⟨S8192x256, .f32⟩
  | .local _ .vmem, ⟨11, _⟩ => ⟨S512x256, .f32⟩
  | .local _ .vmem, ⟨12, _⟩ => ⟨S512x256, .f32⟩
  | .local _ .vmem, ⟨13, _⟩ => ⟨S512x128, .f32⟩
  | .local _ .vmem, ⟨14, _⟩ => ⟨S512x128, .f32⟩
  | .local _ .vmem, ⟨15, _⟩ => ⟨S8x8192, .f32⟩
  | .local _ .vmem, ⟨16, _⟩ => ⟨S8192x128, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45_0 : Ref sig .tc := ⟨.hbm, 60, rfl⟩
abbrev main_v45_1 : Ref sig .tc := ⟨.hbm, 61, rfl⟩
abbrev main_v45_2 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_62 : BitVec 32 := 0#32
  let c16_i32 : BitVec 32 := 16#32
  let v103 : BitVec 32 := Scalar.addi c0_i32_62 c16_i32
  let c1_i32_63 : BitVec 32 := 1#32
  ⟨c0_i32_62, v103, c1_i32_63⟩
def k0_mult1 (k0_t1 : Fin k0_t1_loop.trips) : BitVec 32 :=
  let c0_i32_62 : BitVec 32 := 0#32
  let c1_i32_63 : BitVec 32 := 1#32
  let arg13 : BitVec 32 := Scf.iv c0_i32_62 c1_i32_63 k0_t1
  let c512_i32_65 : BitVec 32 := 512#32
  let v104 : BitVec 32 := Scalar.muli arg13 c512_i32_65
  v104
def k0_off1 (k0_t1 : Fin k0_t1_loop.trips) : Fin 2 → Nat :=
  let c0_i32_62 : BitVec 32 := 0#32
  let c1_i32_63 : BitVec 32 := 1#32
  let arg13 : BitVec 32 := Scf.iv c0_i32_62 c1_i32_63 k0_t1
  let c512_i32_65 : BitVec 32 := 512#32
  let v104 : BitVec 32 := Scalar.muli arg13 c512_i32_65
  let v105 : BitVec 32 := v104
  let v106 : Index := Scalar.indexCast v105
  let c0_66 : Index := 0#32
  ![v106.toNat, 0]
def k0_off2 (k0_t1 : Fin k0_t1_loop.trips) : Fin 2 → Nat :=
  let c0_71 : Index := 0#32
  let c0_i32_62 : BitVec 32 := 0#32
  let c1_i32_63 : BitVec 32 := 1#32
  let arg13 : BitVec 32 := Scf.iv c0_i32_62 c1_i32_63 k0_t1
  let c512_i32_65 : BitVec 32 := 512#32
  let v104 : BitVec 32 := Scalar.muli arg13 c512_i32_65
  let v105 : BitVec 32 := v104
  let v118 : Index := Scalar.indexCast v105
  ![0, v118.toNat]
def k0_mult2 (i : grid0.Coords) : BitVec 32 :=
  let arg1 : BitVec 32 := BitVec.ofNat 32 (i 1).val
  let c512_i32 : BitVec 32 := 512#32
  let v9 : BitVec 32 := Scalar.muli arg1 c512_i32
  v9
def k0_off3 (i : grid0.Coords) : Fin 2 → Nat :=
  let arg1 : BitVec 32 := BitVec.ofNat 32 (i 1).val
  let c512_i32 : BitVec 32 := 512#32
  let v9 : BitVec 32 := Scalar.muli arg1 c512_i32
  let v10 : BitVec 32 := v9
  let v11 : Index := Scalar.indexCast v10
  let c0_9 : Index := 0#32
  ![v11.toNat, 0]
def k0_off4 (i : grid0.Coords) : Fin 2 → Nat :=
  let arg1 : BitVec 32 := BitVec.ofNat 32 (i 1).val
  let c512_i32 : BitVec 32 := 512#32
  let v9 : BitVec 32 := Scalar.muli arg1 c512_i32
  let v10 : BitVec 32 := v9
  let v13 : Index := Scalar.indexCast v10
  let c0_10 : Index := 0#32
  ![v13.toNat, 0]
def k0_off5 (i : grid0.Coords) : Fin 3 → Nat :=
  let c0_13 : Index := 0#32
  let c0_14 : Index := 0#32
  let arg1 : BitVec 32 := BitVec.ofNat 32 (i 1).val
  let c512_i32 : BitVec 32 := 512#32
  let v9 : BitVec 32 := Scalar.muli arg1 c512_i32
  let v10 : BitVec 32 := v9
  let v18 : Index := Scalar.indexCast v10
  ![0, 0, v18.toNat]
def k0_off6 (i : grid0.Coords) : Fin 2 → Nat :=
  let c0_17 : Index := 0#32
  let arg1 : BitVec 32 := BitVec.ofNat 32 (i 1).val
  let c512_i32 : BitVec 32 := 512#32
  let v9 : BitVec 32 := Scalar.muli arg1 c512_i32
  let v10 : BitVec 32 := v9
  let v30 : Index := Scalar.indexCast v10
  ![0, v30.toNat]
@[reducible] def k0_t2_loop (i : grid0.Coords) : Scf.Loop 32 :=
  let c0_i32_37 : BitVec 32 := 0#32
  let c15_i32 : BitVec 32 := 15#32
  let arg1 : BitVec 32 := BitVec.ofNat 32 (i 1).val
  let v55 : BitVec 32 := Scalar.subi c15_i32 arg1
  let c0_i32_31 : BitVec 32 := 0#32
  let v57 : BitVec 1 := Scalar.cmpi .sgt v55 c0_i32_31
  let v58 : BitVec 32 := Scalar.extui v57
  let c0_i32_32 : BitVec 32 := 0#32
  let v59 : BitVec 1 := Scalar.cmpi .slt v55 c0_i32_32
  let v60 : BitVec 32 := Scalar.extui v59
  let v61 : BitVec 32 := Scalar.subi v58 v60
  let c4_i32 : BitVec 32 := 4#32
  let c0_i32_33 : BitVec 32 := 0#32
  let v62 : BitVec 1 := Scalar.cmpi .sgt c4_i32 c0_i32_33
  let v63 : BitVec 32 := Scalar.extui v62
  let c0_i32_34 : BitVec 32 := 0#32
  let v64 : BitVec 1 := Scalar.cmpi .slt c4_i32 c0_i32_34
  let v65 : BitVec 32 := Scalar.extui v64
  let v66 : BitVec 32 := Scalar.subi v63 v65
  let v67 : BitVec 1 := Scalar.cmpi .ne v61 v66
  let v68 : BitVec 32 := Scalar.remsi v55 c4_i32
  let c0_i32_35 : BitVec 32 := 0#32
  let v69 : BitVec 1 := Scalar.cmpi .ne v68 c0_i32_35
  let v70 : BitVec 1 := Scalar.andi v67 v69
  let v56 : BitVec 32 := Scalar.divsi v55 c4_i32
  let c1_i32 : BitVec 32 := 1#32
  let v71 : BitVec 32 := Scalar.subi v56 c1_i32
  let v72 : BitVec 32 := Scalar.select v70 v71 v56
  let v73 : BitVec 32 := Scalar.subi v72 c0_i32_37
  let c1_i32_38 : BitVec 32 := 1#32
  let v75 : BitVec 32 := Scalar.divsi v73 c1_i32_38
  let v76 : BitVec 32 := Scalar.muli v75 c1_i32_38
  let v77 : BitVec 32 := Scalar.addi c0_i32_37 v76
  let c1_i32_39 : BitVec 32 := 1#32
  ⟨c0_i32_37, v77, c1_i32_39⟩
def k0_mult3 (i : grid0.Coords) (k0_t2 : Fin (k0_t2_loop i).trips) : BitVec 32 :=
  let arg1 : BitVec 32 := BitVec.ofNat 32 (i 1).val
  let c1_i32_59 : BitVec 32 := 1#32
  let v101 : BitVec 32 := Scalar.addi arg1 c1_i32_59
  let c4_i32_60 : BitVec 32 := 4#32
  let c0_i32_37 : BitVec 32 := 0#32
  let c1_i32_39 : BitVec 32 := 1#32
  let arg13 : BitVec 32 := Scf.iv c0_i32_37 c1_i32_39 k0_t2
  let v102 : BitVec 32 := Scalar.muli c4_i32_60 arg13
  let v103 : BitVec 32 := Scalar.addi v101 v102
  let c0_i32_61 : BitVec 32 := 0#32
  let v104 : BitVec 32 := Scalar.addi v103 c0_i32_61
  let c512_i32_62 : BitVec 32 := 512#32
  let v105 : BitVec 32 := Scalar.muli v104 c512_i32_62
  v105
def k0_off7 (i : grid0.Coords) (k0_t2 : Fin (k0_t2_loop i).trips) (c0_i32_61 : BitVec 32) : Fin 2 → Nat :=
  let arg1 : BitVec 32 := BitVec.ofNat 32 (i 1).val
  let c1_i32_59 : BitVec 32 := 1#32
  let v101 : BitVec 32 := Scalar.addi arg1 c1_i32_59
  let c4_i32_60 : BitVec 32 := 4#32
  let c0_i32_37 : BitVec 32 := 0#32
  let c1_i32_39 : BitVec 32 := 1#32
  let arg13 : BitVec 32 := Scf.iv c0_i32_37 c1_i32_39 k0_t2
  let v102 : BitVec 32 := Scalar.muli c4_i32_60 arg13
  let v103 : BitVec 32 := Scalar.addi v101 v102
  let v104 : BitVec 32 := Scalar.addi v103 c0_i32_61
  let c512_i32_62 : BitVec 32 := 512#32
  let v105 : BitVec 32 := Scalar.muli v104 c512_i32_62
  let v106 : BitVec 32 := v105
  let v107 : Index := Scalar.indexCast v106
  let c0_63 : Index := 0#32
  ![v107.toNat, 0]
def k0_off8 (i : grid0.Coords) (k0_t2 : Fin (k0_t2_loop i).trips) (c0_i32_61 : BitVec 32) : Fin 2 → Nat :=
  let arg1 : BitVec 32 := BitVec.ofNat 32 (i 1).val
  let c1_i32_59 : BitVec 32 := 1#32
  let v101 : BitVec 32 := Scalar.addi arg1 c1_i32_59
  let c4_i32_60 : BitVec 32 := 4#32
  let c0_i32_37 : BitVec 32 := 0#32
  let c1_i32_39 : BitVec 32 := 1#32
  let arg13 : BitVec 32 := Scf.iv c0_i32_37 c1_i32_39 k0_t2
  let v102 : BitVec 32 := Scalar.muli c4_i32_60 arg13
  let v103 : BitVec 32 := Scalar.addi v101 v102
  let v104 : BitVec 32 := Scalar.addi v103 c0_i32_61
  let c512_i32_62 : BitVec 32 := 512#32
  let v105 : BitVec 32 := Scalar.muli v104 c512_i32_62
  let v106 : BitVec 32 := v105
  let v109 : Index := Scalar.indexCast v106
  let c0_64 : Index := 0#32
  ![v109.toNat, 0]
def k0_off9 (i : grid0.Coords) (k0_t2 : Fin (k0_t2_loop i).trips) (c0_i32_61 : BitVec 32) : Fin 3 → Nat :=
  let c0_67 : Index := 0#32
  let c0_68 : Index := 0#32
  let arg1 : BitVec 32 := BitVec.ofNat 32 (i 1).val
  let c1_i32_59 : BitVec 32 := 1#32
  let v101 : BitVec 32 := Scalar.addi arg1 c1_i32_59
  let c4_i32_60 : BitVec 32 := 4#32
  let c0_i32_37 : BitVec 32 := 0#32
  let c1_i32_39 : BitVec 32 := 1#32
  let arg13 : BitVec 32 := Scf.iv c0_i32_37 c1_i32_39 k0_t2
  let v102 : BitVec 32 := Scalar.muli c4_i32_60 arg13
  let v103 : BitVec 32 := Scalar.addi v101 v102
  let v104 : BitVec 32 := Scalar.addi v103 c0_i32_61
  let c512_i32_62 : BitVec 32 := 512#32
  let v105 : BitVec 32 := Scalar.muli v104 c512_i32_62
  let v106 : BitVec 32 := v105
  let v114 : Index := Scalar.indexCast v106
  ![0, 0, v114.toNat]
def k0_off10 (i : grid0.Coords) (k0_t2 : Fin (k0_t2_loop i).trips) (c0_i32_61 : BitVec 32) : Fin 2 → Nat :=
  let c0_70 : Index := 0#32
  let arg1 : BitVec 32 := BitVec.ofNat 32 (i 1).val
  let c1_i32_59 : BitVec 32 := 1#32
  let v101 : BitVec 32 := Scalar.addi arg1 c1_i32_59
  let c4_i32_60 : BitVec 32 := 4#32
  let c0_i32_37 : BitVec 32 := 0#32
  let c1_i32_39 : BitVec 32 := 1#32
  let arg13 : BitVec 32 := Scf.iv c0_i32_37 c1_i32_39 k0_t2
  let v102 : BitVec 32 := Scalar.muli c4_i32_60 arg13
  let v103 : BitVec 32 := Scalar.addi v101 v102
  let v104 : BitVec 32 := Scalar.addi v103 c0_i32_61
  let c512_i32_62 : BitVec 32 := 512#32
  let v105 : BitVec 32 := Scalar.muli v104 c512_i32_62
  let v106 : BitVec 32 := v105
  let v121 : Index := Scalar.indexCast v106
  ![0, v121.toNat]
def k0_mult4 (i : grid0.Coords) (k0_t2 : Fin (k0_t2_loop i).trips) : BitVec 32 :=
  let arg1 : BitVec 32 := BitVec.ofNat 32 (i 1).val
  let c1_i32_84 : BitVec 32 := 1#32
  let v146 : BitVec 32 := Scalar.addi arg1 c1_i32_84
  let c4_i32_85 : BitVec 32 := 4#32
  let c0_i32_37 : BitVec 32 := 0#32
  let c1_i32_39 : BitVec 32 := 1#32
  let arg13 : BitVec 32 := Scf.iv c0_i32_37 c1_i32_39 k0_t2
  let v147 : BitVec 32 := Scalar.muli c4_i32_85 arg13
  let v148 : BitVec 32 := Scalar.addi v146 v147
  let c1_i32_86 : BitVec 32 := 1#32
  let v149 : BitVec 32 := Scalar.addi v148 c1_i32_86
  let c512_i32_87 : BitVec 32 := 512#32
  let v150 : BitVec 32 := Scalar.muli v149 c512_i32_87
  v150
def k0_mult5 (i : grid0.Coords) (k0_t2 : Fin (k0_t2_loop i).trips) : BitVec 32 :=
  let arg1 : BitVec 32 := BitVec.ofNat 32 (i 1).val
  let c1_i32_109 : BitVec 32 := 1#32
  let v191 : BitVec 32 := Scalar.addi arg1 c1_i32_109
  let c4_i32_110 : BitVec 32 := 4#32
  let c0_i32_37 : BitVec 32 := 0#32
  let c1_i32_39 : BitVec 32 := 1#32
  let arg13 : BitVec 32 := Scf.iv c0_i32_37 c1_i32_39 k0_t2
  let v192 : BitVec 32 := Scalar.muli c4_i32_110 arg13
  let v193 : BitVec 32 := Scalar.addi v191 v192
  let c2_i32 : BitVec 32 := 2#32
  let v194 : BitVec 32 := Scalar.addi v193 c2_i32
  let c512_i32_111 : BitVec 32 := 512#32
  let v195 : BitVec 32 := Scalar.muli v194 c512_i32_111
  v195
def k0_mult6 (i : grid0.Coords) (k0_t2 : Fin (k0_t2_loop i).trips) : BitVec 32 :=
  let arg1 : BitVec 32 := BitVec.ofNat 32 (i 1).val
  let c1_i32_133 : BitVec 32 := 1#32
  let v236 : BitVec 32 := Scalar.addi arg1 c1_i32_133
  let c4_i32_134 : BitVec 32 := 4#32
  let c0_i32_37 : BitVec 32 := 0#32
  let c1_i32_39 : BitVec 32 := 1#32
  let arg13 : BitVec 32 := Scf.iv c0_i32_37 c1_i32_39 k0_t2
  let v237 : BitVec 32 := Scalar.muli c4_i32_134 arg13
  let v238 : BitVec 32 := Scalar.addi v236 v237
  let c3_i32 : BitVec 32 := 3#32
  let v239 : BitVec 32 := Scalar.addi v238 c3_i32
  let c512_i32_135 : BitVec 32 := 512#32
  let v240 : BitVec 32 := Scalar.muli v239 c512_i32_135
  v240
@[reducible] def k0_t3_loop (i : grid0.Coords) : Scf.Loop 32 :=
  let c0_i32_37 : BitVec 32 := 0#32
  let c15_i32 : BitVec 32 := 15#32
  let arg1 : BitVec 32 := BitVec.ofNat 32 (i 1).val
  let v55 : BitVec 32 := Scalar.subi c15_i32 arg1
  let c0_i32_31 : BitVec 32 := 0#32
  let v57 : BitVec 1 := Scalar.cmpi .sgt v55 c0_i32_31
  let v58 : BitVec 32 := Scalar.extui v57
  let c0_i32_32 : BitVec 32 := 0#32
  let v59 : BitVec 1 := Scalar.cmpi .slt v55 c0_i32_32
  let v60 : BitVec 32 := Scalar.extui v59
  let v61 : BitVec 32 := Scalar.subi v58 v60
  let c4_i32 : BitVec 32 := 4#32
  let c0_i32_33 : BitVec 32 := 0#32
  let v62 : BitVec 1 := Scalar.cmpi .sgt c4_i32 c0_i32_33
  let v63 : BitVec 32 := Scalar.extui v62
  let c0_i32_34 : BitVec 32 := 0#32
  let v64 : BitVec 1 := Scalar.cmpi .slt c4_i32 c0_i32_34
  let v65 : BitVec 32 := Scalar.extui v64
  let v66 : BitVec 32 := Scalar.subi v63 v65
  let v67 : BitVec 1 := Scalar.cmpi .ne v61 v66
  let v68 : BitVec 32 := Scalar.remsi v55 c4_i32
  let c0_i32_35 : BitVec 32 := 0#32
  let v69 : BitVec 1 := Scalar.cmpi .ne v68 c0_i32_35
  let v70 : BitVec 1 := Scalar.andi v67 v69
  let v56 : BitVec 32 := Scalar.divsi v55 c4_i32
  let c1_i32 : BitVec 32 := 1#32
  let v71 : BitVec 32 := Scalar.subi v56 c1_i32
  let v72 : BitVec 32 := Scalar.select v70 v71 v56
  let v73 : BitVec 32 := Scalar.subi v72 c0_i32_37
  let c1_i32_38 : BitVec 32 := 1#32
  let v75 : BitVec 32 := Scalar.divsi v73 c1_i32_38
  let v76 : BitVec 32 := Scalar.muli v75 c1_i32_38
  let v77 : BitVec 32 := Scalar.addi c0_i32_37 v76
  let v74 : BitVec 32 := Scalar.addi c0_i32_37 v73
  let c1_i32_40 : BitVec 32 := 1#32
  ⟨v77, v74, c1_i32_40⟩
def k0_mult7 (i : grid0.Coords) (k0_t3 : Fin (k0_t3_loop i).trips) : BitVec 32 :=
  let arg1 : BitVec 32 := BitVec.ofNat 32 (i 1).val
  let c1_i32_59 : BitVec 32 := 1#32
  let v101 : BitVec 32 := Scalar.addi arg1 c1_i32_59
  let c4_i32_60 : BitVec 32 := 4#32
  let c0_i32_37 : BitVec 32 := 0#32
  let c15_i32 : BitVec 32 := 15#32
  let v55 : BitVec 32 := Scalar.subi c15_i32 arg1
  let c0_i32_31 : BitVec 32 := 0#32
  let v57 : BitVec 1 := Scalar.cmpi .sgt v55 c0_i32_31
  let v58 : BitVec 32 := Scalar.extui v57
  let c0_i32_32 : BitVec 32 := 0#32
  let v59 : BitVec 1 := Scalar.cmpi .slt v55 c0_i32_32
  let v60 : BitVec 32 := Scalar.extui v59
  let v61 : BitVec 32 := Scalar.subi v58 v60
  let c4_i32 : BitVec 32 := 4#32
  let c0_i32_33 : BitVec 32 := 0#32
  let v62 : BitVec 1 := Scalar.cmpi .sgt c4_i32 c0_i32_33
  let v63 : BitVec 32 := Scalar.extui v62
  let c0_i32_34 : BitVec 32 := 0#32
  let v64 : BitVec 1 := Scalar.cmpi .slt c4_i32 c0_i32_34
  let v65 : BitVec 32 := Scalar.extui v64
  let v66 : BitVec 32 := Scalar.subi v63 v65
  let v67 : BitVec 1 := Scalar.cmpi .ne v61 v66
  let v68 : BitVec 32 := Scalar.remsi v55 c4_i32
  let c0_i32_35 : BitVec 32 := 0#32
  let v69 : BitVec 1 := Scalar.cmpi .ne v68 c0_i32_35
  let v70 : BitVec 1 := Scalar.andi v67 v69
  let v56 : BitVec 32 := Scalar.divsi v55 c4_i32
  let c1_i32 : BitVec 32 := 1#32
  let v71 : BitVec 32 := Scalar.subi v56 c1_i32
  let v72 : BitVec 32 := Scalar.select v70 v71 v56
  let v73 : BitVec 32 := Scalar.subi v72 c0_i32_37
  let c1_i32_38 : BitVec 32 := 1#32
  let v75 : BitVec 32 := Scalar.divsi v73 c1_i32_38
  let v76 : BitVec 32 := Scalar.muli v75 c1_i32_38
  let v77 : BitVec 32 := Scalar.addi c0_i32_37 v76
  let c1_i32_40 : BitVec 32 := 1#32
  let arg13 : BitVec 32 := Scf.iv v77 c1_i32_40 k0_t3
  let v102 : BitVec 32 := Scalar.muli c4_i32_60 arg13
  let v103 : BitVec 32 := Scalar.addi v101 v102
  let c0_i32_61 : BitVec 32 := 0#32
  let v104 : BitVec 32 := Scalar.addi v103 c0_i32_61
  let c512_i32_62 : BitVec 32 := 512#32
  let v105 : BitVec 32 := Scalar.muli v104 c512_i32_62
  v105
def k0_off11 (i : grid0.Coords) (k0_t3 : Fin (k0_t3_loop i).trips) (c0_i32_61 : BitVec 32) : Fin 2 → Nat :=
  let arg1 : BitVec 32 := BitVec.ofNat 32 (i 1).val
  let c1_i32_59 : BitVec 32 := 1#32
  let v101 : BitVec 32 := Scalar.addi arg1 c1_i32_59
  let c4_i32_60 : BitVec 32 := 4#32
  let c0_i32_37 : BitVec 32 := 0#32
  let c15_i32 : BitVec 32 := 15#32
  let v55 : BitVec 32 := Scalar.subi c15_i32 arg1
  let c0_i32_31 : BitVec 32 := 0#32
  let v57 : BitVec 1 := Scalar.cmpi .sgt v55 c0_i32_31
  let v58 : BitVec 32 := Scalar.extui v57
  let c0_i32_32 : BitVec 32 := 0#32
  let v59 : BitVec 1 := Scalar.cmpi .slt v55 c0_i32_32
  let v60 : BitVec 32 := Scalar.extui v59
  let v61 : BitVec 32 := Scalar.subi v58 v60
  let c4_i32 : BitVec 32 := 4#32
  let c0_i32_33 : BitVec 32 := 0#32
  let v62 : BitVec 1 := Scalar.cmpi .sgt c4_i32 c0_i32_33
  let v63 : BitVec 32 := Scalar.extui v62
  let c0_i32_34 : BitVec 32 := 0#32
  let v64 : BitVec 1 := Scalar.cmpi .slt c4_i32 c0_i32_34
  let v65 : BitVec 32 := Scalar.extui v64
  let v66 : BitVec 32 := Scalar.subi v63 v65
  let v67 : BitVec 1 := Scalar.cmpi .ne v61 v66
  let v68 : BitVec 32 := Scalar.remsi v55 c4_i32
  let c0_i32_35 : BitVec 32 := 0#32
  let v69 : BitVec 1 := Scalar.cmpi .ne v68 c0_i32_35
  let v70 : BitVec 1 := Scalar.andi v67 v69
  let v56 : BitVec 32 := Scalar.divsi v55 c4_i32
  let c1_i32 : BitVec 32 := 1#32
  let v71 : BitVec 32 := Scalar.subi v56 c1_i32
  let v72 : BitVec 32 := Scalar.select v70 v71 v56
  let v73 : BitVec 32 := Scalar.subi v72 c0_i32_37
  let c1_i32_38 : BitVec 32 := 1#32
  let v75 : BitVec 32 := Scalar.divsi v73 c1_i32_38
  let v76 : BitVec 32 := Scalar.muli v75 c1_i32_38
  let v77 : BitVec 32 := Scalar.addi c0_i32_37 v76
  let c1_i32_40 : BitVec 32 := 1#32
  let arg13 : BitVec 32 := Scf.iv v77 c1_i32_40 k0_t3
  let v102 : BitVec 32 := Scalar.muli c4_i32_60 arg13
  let v103 : BitVec 32 := Scalar.addi v101 v102
  let v104 : BitVec 32 := Scalar.addi v103 c0_i32_61
  let c512_i32_62 : BitVec 32 := 512#32
  let v105 : BitVec 32 := Scalar.muli v104 c512_i32_62
  let v106 : BitVec 32 := v105
  let v107 : Index := Scalar.indexCast v106
  let c0_63 : Index := 0#32
  ![v107.toNat, 0]
def k0_off12 (i : grid0.Coords) (k0_t3 : Fin (k0_t3_loop i).trips) (c0_i32_61 : BitVec 32) : Fin 2 → Nat :=
  let arg1 : BitVec 32 := BitVec.ofNat 32 (i 1).val
  let c1_i32_59 : BitVec 32 := 1#32
  let v101 : BitVec 32 := Scalar.addi arg1 c1_i32_59
  let c4_i32_60 : BitVec 32 := 4#32
  let c0_i32_37 : BitVec 32 := 0#32
  let c15_i32 : BitVec 32 := 15#32
  let v55 : BitVec 32 := Scalar.subi c15_i32 arg1
  let c0_i32_31 : BitVec 32 := 0#32
  let v57 : BitVec 1 := Scalar.cmpi .sgt v55 c0_i32_31
  let v58 : BitVec 32 := Scalar.extui v57
  let c0_i32_32 : BitVec 32 := 0#32
  let v59 : BitVec 1 := Scalar.cmpi .slt v55 c0_i32_32
  let v60 : BitVec 32 := Scalar.extui v59
  let v61 : BitVec 32 := Scalar.subi v58 v60
  let c4_i32 : BitVec 32 := 4#32
  let c0_i32_33 : BitVec 32 := 0#32
  let v62 : BitVec 1 := Scalar.cmpi .sgt c4_i32 c0_i32_33
  let v63 : BitVec 32 := Scalar.extui v62
  let c0_i32_34 : BitVec 32 := 0#32
  let v64 : BitVec 1 := Scalar.cmpi .slt c4_i32 c0_i32_34
  let v65 : BitVec 32 := Scalar.extui v64
  let v66 : BitVec 32 := Scalar.subi v63 v65
  let v67 : BitVec 1 := Scalar.cmpi .ne v61 v66
  let v68 : BitVec 32 := Scalar.remsi v55 c4_i32
  let c0_i32_35 : BitVec 32 := 0#32
  let v69 : BitVec 1 := Scalar.cmpi .ne v68 c0_i32_35
  let v70 : BitVec 1 := Scalar.andi v67 v69
  let v56 : BitVec 32 := Scalar.divsi v55 c4_i32
  let c1_i32 : BitVec 32 := 1#32
  let v71 : BitVec 32 := Scalar.subi v56 c1_i32
  let v72 : BitVec 32 := Scalar.select v70 v71 v56
  let v73 : BitVec 32 := Scalar.subi v72 c0_i32_37
  let c1_i32_38 : BitVec 32 := 1#32
  let v75 : BitVec 32 := Scalar.divsi v73 c1_i32_38
  let v76 : BitVec 32 := Scalar.muli v75 c1_i32_38
  let v77 : BitVec 32 := Scalar.addi c0_i32_37 v76
  let c1_i32_40 : BitVec 32 := 1#32
  let arg13 : BitVec 32 := Scf.iv v77 c1_i32_40 k0_t3
  let v102 : BitVec 32 := Scalar.muli c4_i32_60 arg13
  let v103 : BitVec 32 := Scalar.addi v101 v102
  let v104 : BitVec 32 := Scalar.addi v103 c0_i32_61
  let c512_i32_62 : BitVec 32 := 512#32
  let v105 : BitVec 32 := Scalar.muli v104 c512_i32_62
  let v106 : BitVec 32 := v105
  let v109 : Index := Scalar.indexCast v106
  let c0_64 : Index := 0#32
  ![v109.toNat, 0]
def k0_off13 (i : grid0.Coords) (k0_t3 : Fin (k0_t3_loop i).trips) (c0_i32_61 : BitVec 32) : Fin 3 → Nat :=
  let c0_67 : Index := 0#32
  let c0_68 : Index := 0#32
  let arg1 : BitVec 32 := BitVec.ofNat 32 (i 1).val
  let c1_i32_59 : BitVec 32 := 1#32
  let v101 : BitVec 32 := Scalar.addi arg1 c1_i32_59
  let c4_i32_60 : BitVec 32 := 4#32
  let c0_i32_37 : BitVec 32 := 0#32
  let c15_i32 : BitVec 32 := 15#32
  let v55 : BitVec 32 := Scalar.subi c15_i32 arg1
  let c0_i32_31 : BitVec 32 := 0#32
  let v57 : BitVec 1 := Scalar.cmpi .sgt v55 c0_i32_31
  let v58 : BitVec 32 := Scalar.extui v57
  let c0_i32_32 : BitVec 32 := 0#32
  let v59 : BitVec 1 := Scalar.cmpi .slt v55 c0_i32_32
  let v60 : BitVec 32 := Scalar.extui v59
  let v61 : BitVec 32 := Scalar.subi v58 v60
  let c4_i32 : BitVec 32 := 4#32
  let c0_i32_33 : BitVec 32 := 0#32
  let v62 : BitVec 1 := Scalar.cmpi .sgt c4_i32 c0_i32_33
  let v63 : BitVec 32 := Scalar.extui v62
  let c0_i32_34 : BitVec 32 := 0#32
  let v64 : BitVec 1 := Scalar.cmpi .slt c4_i32 c0_i32_34
  let v65 : BitVec 32 := Scalar.extui v64
  let v66 : BitVec 32 := Scalar.subi v63 v65
  let v67 : BitVec 1 := Scalar.cmpi .ne v61 v66
  let v68 : BitVec 32 := Scalar.remsi v55 c4_i32
  let c0_i32_35 : BitVec 32 := 0#32
  let v69 : BitVec 1 := Scalar.cmpi .ne v68 c0_i32_35
  let v70 : BitVec 1 := Scalar.andi v67 v69
  let v56 : BitVec 32 := Scalar.divsi v55 c4_i32
  let c1_i32 : BitVec 32 := 1#32
  let v71 : BitVec 32 := Scalar.subi v56 c1_i32
  let v72 : BitVec 32 := Scalar.select v70 v71 v56
  let v73 : BitVec 32 := Scalar.subi v72 c0_i32_37
  let c1_i32_38 : BitVec 32 := 1#32
  let v75 : BitVec 32 := Scalar.divsi v73 c1_i32_38
  let v76 : BitVec 32 := Scalar.muli v75 c1_i32_38
  let v77 : BitVec 32 := Scalar.addi c0_i32_37 v76
  let c1_i32_40 : BitVec 32 := 1#32
  let arg13 : BitVec 32 := Scf.iv v77 c1_i32_40 k0_t3
  let v102 : BitVec 32 := Scalar.muli c4_i32_60 arg13
  let v103 : BitVec 32 := Scalar.addi v101 v102
  let v104 : BitVec 32 := Scalar.addi v103 c0_i32_61
  let c512_i32_62 : BitVec 32 := 512#32
  let v105 : BitVec 32 := Scalar.muli v104 c512_i32_62
  let v106 : BitVec 32 := v105
  let v114 : Index := Scalar.indexCast v106
  ![0, 0, v114.toNat]
def k0_off14 (i : grid0.Coords) (k0_t3 : Fin (k0_t3_loop i).trips) (c0_i32_61 : BitVec 32) : Fin 2 → Nat :=
  let c0_70 : Index := 0#32
  let arg1 : BitVec 32 := BitVec.ofNat 32 (i 1).val
  let c1_i32_59 : BitVec 32 := 1#32
  let v101 : BitVec 32 := Scalar.addi arg1 c1_i32_59
  let c4_i32_60 : BitVec 32 := 4#32
  let c0_i32_37 : BitVec 32 := 0#32
  let c15_i32 : BitVec 32 := 15#32
  let v55 : BitVec 32 := Scalar.subi c15_i32 arg1
  let c0_i32_31 : BitVec 32 := 0#32
  let v57 : BitVec 1 := Scalar.cmpi .sgt v55 c0_i32_31
  let v58 : BitVec 32 := Scalar.extui v57
  let c0_i32_32 : BitVec 32 := 0#32
  let v59 : BitVec 1 := Scalar.cmpi .slt v55 c0_i32_32
  let v60 : BitVec 32 := Scalar.extui v59
  let v61 : BitVec 32 := Scalar.subi v58 v60
  let c4_i32 : BitVec 32 := 4#32
  let c0_i32_33 : BitVec 32 := 0#32
  let v62 : BitVec 1 := Scalar.cmpi .sgt c4_i32 c0_i32_33
  let v63 : BitVec 32 := Scalar.extui v62
  let c0_i32_34 : BitVec 32 := 0#32
  let v64 : BitVec 1 := Scalar.cmpi .slt c4_i32 c0_i32_34
  let v65 : BitVec 32 := Scalar.extui v64
  let v66 : BitVec 32 := Scalar.subi v63 v65
  let v67 : BitVec 1 := Scalar.cmpi .ne v61 v66
  let v68 : BitVec 32 := Scalar.remsi v55 c4_i32
  let c0_i32_35 : BitVec 32 := 0#32
  let v69 : BitVec 1 := Scalar.cmpi .ne v68 c0_i32_35
  let v70 : BitVec 1 := Scalar.andi v67 v69
  let v56 : BitVec 32 := Scalar.divsi v55 c4_i32
  let c1_i32 : BitVec 32 := 1#32
  let v71 : BitVec 32 := Scalar.subi v56 c1_i32
  let v72 : BitVec 32 := Scalar.select v70 v71 v56
  let v73 : BitVec 32 := Scalar.subi v72 c0_i32_37
  let c1_i32_38 : BitVec 32 := 1#32
  let v75 : BitVec 32 := Scalar.divsi v73 c1_i32_38
  let v76 : BitVec 32 := Scalar.muli v75 c1_i32_38
  let v77 : BitVec 32 := Scalar.addi c0_i32_37 v76
  let c1_i32_40 : BitVec 32 := 1#32
  let arg13 : BitVec 32 := Scf.iv v77 c1_i32_40 k0_t3
  let v102 : BitVec 32 := Scalar.muli c4_i32_60 arg13
  let v103 : BitVec 32 := Scalar.addi v101 v102
  let v104 : BitVec 32 := Scalar.addi v103 c0_i32_61
  let c512_i32_62 : BitVec 32 := 512#32
  let v105 : BitVec 32 := Scalar.muli v104 c512_i32_62
  let v106 : BitVec 32 := v105
  let v121 : Index := Scalar.indexCast v106
  ![0, v121.toNat]
def k0_mult8 (i : grid0.Coords) (k0_t3 : Fin (k0_t3_loop i).trips) : BitVec 32 :=
  let arg1 : BitVec 32 := BitVec.ofNat 32 (i 1).val
  let c1_i32_84 : BitVec 32 := 1#32
  let v146 : BitVec 32 := Scalar.addi arg1 c1_i32_84
  let c4_i32_85 : BitVec 32 := 4#32
  let c0_i32_37 : BitVec 32 := 0#32
  let c15_i32 : BitVec 32 := 15#32
  let v55 : BitVec 32 := Scalar.subi c15_i32 arg1
  let c0_i32_31 : BitVec 32 := 0#32
  let v57 : BitVec 1 := Scalar.cmpi .sgt v55 c0_i32_31
  let v58 : BitVec 32 := Scalar.extui v57
  let c0_i32_32 : BitVec 32 := 0#32
  let v59 : BitVec 1 := Scalar.cmpi .slt v55 c0_i32_32
  let v60 : BitVec 32 := Scalar.extui v59
  let v61 : BitVec 32 := Scalar.subi v58 v60
  let c4_i32 : BitVec 32 := 4#32
  let c0_i32_33 : BitVec 32 := 0#32
  let v62 : BitVec 1 := Scalar.cmpi .sgt c4_i32 c0_i32_33
  let v63 : BitVec 32 := Scalar.extui v62
  let c0_i32_34 : BitVec 32 := 0#32
  let v64 : BitVec 1 := Scalar.cmpi .slt c4_i32 c0_i32_34
  let v65 : BitVec 32 := Scalar.extui v64
  let v66 : BitVec 32 := Scalar.subi v63 v65
  let v67 : BitVec 1 := Scalar.cmpi .ne v61 v66
  let v68 : BitVec 32 := Scalar.remsi v55 c4_i32
  let c0_i32_35 : BitVec 32 := 0#32
  let v69 : BitVec 1 := Scalar.cmpi .ne v68 c0_i32_35
  let v70 : BitVec 1 := Scalar.andi v67 v69
  let v56 : BitVec 32 := Scalar.divsi v55 c4_i32
  let c1_i32 : BitVec 32 := 1#32
  let v71 : BitVec 32 := Scalar.subi v56 c1_i32
  let v72 : BitVec 32 := Scalar.select v70 v71 v56
  let v73 : BitVec 32 := Scalar.subi v72 c0_i32_37
  let c1_i32_38 : BitVec 32 := 1#32
  let v75 : BitVec 32 := Scalar.divsi v73 c1_i32_38
  let v76 : BitVec 32 := Scalar.muli v75 c1_i32_38
  let v77 : BitVec 32 := Scalar.addi c0_i32_37 v76
  let c1_i32_40 : BitVec 32 := 1#32
  let arg13 : BitVec 32 := Scf.iv v77 c1_i32_40 k0_t3
  let v147 : BitVec 32 := Scalar.muli c4_i32_85 arg13
  let v148 : BitVec 32 := Scalar.addi v146 v147
  let c1_i32_86 : BitVec 32 := 1#32
  let v149 : BitVec 32 := Scalar.addi v148 c1_i32_86
  let c512_i32_87 : BitVec 32 := 512#32
  let v150 : BitVec 32 := Scalar.muli v149 c512_i32_87
  v150
def k0_mult9 (i : grid0.Coords) (k0_t3 : Fin (k0_t3_loop i).trips) : BitVec 32 :=
  let arg1 : BitVec 32 := BitVec.ofNat 32 (i 1).val
  let c1_i32_109 : BitVec 32 := 1#32
  let v191 : BitVec 32 := Scalar.addi arg1 c1_i32_109
  let c4_i32_110 : BitVec 32 := 4#32
  let c0_i32_37 : BitVec 32 := 0#32
  let c15_i32 : BitVec 32 := 15#32
  let v55 : BitVec 32 := Scalar.subi c15_i32 arg1
  let c0_i32_31 : BitVec 32 := 0#32
  let v57 : BitVec 1 := Scalar.cmpi .sgt v55 c0_i32_31
  let v58 : BitVec 32 := Scalar.extui v57
  let c0_i32_32 : BitVec 32 := 0#32
  let v59 : BitVec 1 := Scalar.cmpi .slt v55 c0_i32_32
  let v60 : BitVec 32 := Scalar.extui v59
  let v61 : BitVec 32 := Scalar.subi v58 v60
  let c4_i32 : BitVec 32 := 4#32
  let c0_i32_33 : BitVec 32 := 0#32
  let v62 : BitVec 1 := Scalar.cmpi .sgt c4_i32 c0_i32_33
  let v63 : BitVec 32 := Scalar.extui v62
  let c0_i32_34 : BitVec 32 := 0#32
  let v64 : BitVec 1 := Scalar.cmpi .slt c4_i32 c0_i32_34
  let v65 : BitVec 32 := Scalar.extui v64
  let v66 : BitVec 32 := Scalar.subi v63 v65
  let v67 : BitVec 1 := Scalar.cmpi .ne v61 v66
  let v68 : BitVec 32 := Scalar.remsi v55 c4_i32
  let c0_i32_35 : BitVec 32 := 0#32
  let v69 : BitVec 1 := Scalar.cmpi .ne v68 c0_i32_35
  let v70 : BitVec 1 := Scalar.andi v67 v69
  let v56 : BitVec 32 := Scalar.divsi v55 c4_i32
  let c1_i32 : BitVec 32 := 1#32
  let v71 : BitVec 32 := Scalar.subi v56 c1_i32
  let v72 : BitVec 32 := Scalar.select v70 v71 v56
  let v73 : BitVec 32 := Scalar.subi v72 c0_i32_37
  let c1_i32_38 : BitVec 32 := 1#32
  let v75 : BitVec 32 := Scalar.divsi v73 c1_i32_38
  let v76 : BitVec 32 := Scalar.muli v75 c1_i32_38
  let v77 : BitVec 32 := Scalar.addi c0_i32_37 v76
  let c1_i32_40 : BitVec 32 := 1#32
  let arg13 : BitVec 32 := Scf.iv v77 c1_i32_40 k0_t3
  let v192 : BitVec 32 := Scalar.muli c4_i32_110 arg13
  let v193 : BitVec 32 := Scalar.addi v191 v192
  let c2_i32 : BitVec 32 := 2#32
  let v194 : BitVec 32 := Scalar.addi v193 c2_i32
  let c512_i32_111 : BitVec 32 := 512#32
  let v195 : BitVec 32 := Scalar.muli v194 c512_i32_111
  v195
def k0_mult10 (i : grid0.Coords) (k0_t3 : Fin (k0_t3_loop i).trips) : BitVec 32 :=
  let arg1 : BitVec 32 := BitVec.ofNat 32 (i 1).val
  let c1_i32_133 : BitVec 32 := 1#32
  let v236 : BitVec 32 := Scalar.addi arg1 c1_i32_133
  let c4_i32_134 : BitVec 32 := 4#32
  let c0_i32_37 : BitVec 32 := 0#32
  let c15_i32 : BitVec 32 := 15#32
  let v55 : BitVec 32 := Scalar.subi c15_i32 arg1
  let c0_i32_31 : BitVec 32 := 0#32
  let v57 : BitVec 1 := Scalar.cmpi .sgt v55 c0_i32_31
  let v58 : BitVec 32 := Scalar.extui v57
  let c0_i32_32 : BitVec 32 := 0#32
  let v59 : BitVec 1 := Scalar.cmpi .slt v55 c0_i32_32
  let v60 : BitVec 32 := Scalar.extui v59
  let v61 : BitVec 32 := Scalar.subi v58 v60
  let c4_i32 : BitVec 32 := 4#32
  let c0_i32_33 : BitVec 32 := 0#32
  let v62 : BitVec 1 := Scalar.cmpi .sgt c4_i32 c0_i32_33
  let v63 : BitVec 32 := Scalar.extui v62
  let c0_i32_34 : BitVec 32 := 0#32
  let v64 : BitVec 1 := Scalar.cmpi .slt c4_i32 c0_i32_34
  let v65 : BitVec 32 := Scalar.extui v64
  let v66 : BitVec 32 := Scalar.subi v63 v65
  let v67 : BitVec 1 := Scalar.cmpi .ne v61 v66
  let v68 : BitVec 32 := Scalar.remsi v55 c4_i32
  let c0_i32_35 : BitVec 32 := 0#32
  let v69 : BitVec 1 := Scalar.cmpi .ne v68 c0_i32_35
  let v70 : BitVec 1 := Scalar.andi v67 v69
  let v56 : BitVec 32 := Scalar.divsi v55 c4_i32
  let c1_i32 : BitVec 32 := 1#32
  let v71 : BitVec 32 := Scalar.subi v56 c1_i32
  let v72 : BitVec 32 := Scalar.select v70 v71 v56
  let v73 : BitVec 32 := Scalar.subi v72 c0_i32_37
  let c1_i32_38 : BitVec 32 := 1#32
  let v75 : BitVec 32 := Scalar.divsi v73 c1_i32_38
  let v76 : BitVec 32 := Scalar.muli v75 c1_i32_38
  let v77 : BitVec 32 := Scalar.addi c0_i32_37 v76
  let c1_i32_40 : BitVec 32 := 1#32
  let arg13 : BitVec 32 := Scf.iv v77 c1_i32_40 k0_t3
  let v237 : BitVec 32 := Scalar.muli c4_i32_134 arg13
  let v238 : BitVec 32 := Scalar.addi v236 v237
  let c3_i32 : BitVec 32 := 3#32
  let v239 : BitVec 32 := Scalar.addi v238 c3_i32
  let c512_i32_135 : BitVec 32 := 512#32
  let v240 : BitVec 32 := Scalar.muli v239 c512_i32_135
  v240
@[reducible] def k0_t4_loop (i : grid0.Coords) : Scf.Loop 32 :=
  let c0_i32_48 : BitVec 32 := 0#32
  let c15_i32 : BitVec 32 := 15#32
  let arg1 : BitVec 32 := BitVec.ofNat 32 (i 1).val
  let v55 : BitVec 32 := Scalar.subi c15_i32 arg1
  let c4_i32_41 : BitVec 32 := 4#32
  let c0_i32_42 : BitVec 32 := 0#32
  let v78 : BitVec 1 := Scalar.cmpi .eq c4_i32_41 c0_i32_42
  let c1_i32_43 : BitVec 32 := 1#32
  let v79 : BitVec 32 := Scalar.select v78 c1_i32_43 c4_i32_41
  let v80 : BitVec 32 := Scalar.remsi v55 v79
  let c0_i32_45 : BitVec 32 := 0#32
  let v82 : BitVec 1 := Scalar.cmpi .slt v80 c0_i32_45
  let c0_i32_46 : BitVec 32 := 0#32
  let v83 : BitVec 1 := Scalar.cmpi .slt v79 c0_i32_46
  let v84 : BitVec 1 := Scalar.xori v82 v83
  let c0_i32_44 : BitVec 32 := 0#32
  let v81 : BitVec 1 := Scalar.cmpi .ne v80 c0_i32_44
  let v85 : BitVec 1 := Scalar.andi v84 v81
  let v86 : BitVec 32 := Scalar.addi v80 v79
  let v87 : BitVec 32 := Scalar.select v85 v86 v80
  let v88 : BitVec 32 := Scalar.subi v87 c0_i32_48
  let c1_i32_49 : BitVec 32 := 1#32
  let v90 : BitVec 32 := Scalar.divsi v88 c1_i32_49
  let v91 : BitVec 32 := Scalar.muli v90 c1_i32_49
  let v92 : BitVec 32 := Scalar.addi c0_i32_48 v91
  let c1_i32_50 : BitVec 32 := 1#32
  ⟨c0_i32_48, v92, c1_i32_50⟩
def k0_mult11 (i : grid0.Coords) (k0_t4 : Fin (k0_t4_loop i).trips) : BitVec 32 :=
  let c15_i32_59 : BitVec 32 := 15#32
  let c0_i32_48 : BitVec 32 := 0#32
  let c1_i32_50 : BitVec 32 := 1#32
  let arg13 : BitVec 32 := Scf.iv c0_i32_48 c1_i32_50 k0_t4
  let v101 : BitVec 32 := Scalar.subi c15_i32_59 arg13
  let c512_i32_60 : BitVec 32 := 512#32
  let v102 : BitVec 32 := Scalar.muli v101 c512_i32_60
  v102
def k0_off15 (i : grid0.Coords) (k0_t4 : Fin (k0_t4_loop i).trips) : Fin 2 → Nat :=
  let c15_i32_59 : BitVec 32 := 15#32
  let c0_i32_48 : BitVec 32 := 0#32
  let c1_i32_50 : BitVec 32 := 1#32
  let arg13 : BitVec 32 := Scf.iv c0_i32_48 c1_i32_50 k0_t4
  let v101 : BitVec 32 := Scalar.subi c15_i32_59 arg13
  let c512_i32_60 : BitVec 32 := 512#32
  let v102 : BitVec 32 := Scalar.muli v101 c512_i32_60
  let v103 : BitVec 32 := v102
  let v104 : Index := Scalar.indexCast v103
  let c0_61 : Index := 0#32
  ![v104.toNat, 0]
def k0_off16 (i : grid0.Coords) (k0_t4 : Fin (k0_t4_loop i).trips) : Fin 2 → Nat :=
  let c15_i32_59 : BitVec 32 := 15#32
  let c0_i32_48 : BitVec 32 := 0#32
  let c1_i32_50 : BitVec 32 := 1#32
  let arg13 : BitVec 32 := Scf.iv c0_i32_48 c1_i32_50 k0_t4
  let v101 : BitVec 32 := Scalar.subi c15_i32_59 arg13
  let c512_i32_60 : BitVec 32 := 512#32
  let v102 : BitVec 32 := Scalar.muli v101 c512_i32_60
  let v103 : BitVec 32 := v102
  let v106 : Index := Scalar.indexCast v103
  let c0_62 : Index := 0#32
  ![v106.toNat, 0]
def k0_off17 (i : grid0.Coords) (k0_t4 : Fin (k0_t4_loop i).trips) : Fin 3 → Nat :=
  let c0_65 : Index := 0#32
  let c0_66 : Index := 0#32
  let c15_i32_59 : BitVec 32 := 15#32
  let c0_i32_48 : BitVec 32 := 0#32
  let c1_i32_50 : BitVec 32 := 1#32
  let arg13 : BitVec 32 := Scf.iv c0_i32_48 c1_i32_50 k0_t4
  let v101 : BitVec 32 := Scalar.subi c15_i32_59 arg13
  let c512_i32_60 : BitVec 32 := 512#32
  let v102 : BitVec 32 := Scalar.muli v101 c512_i32_60
  let v103 : BitVec 32 := v102
  let v111 : Index := Scalar.indexCast v103
  ![0, 0, v111.toNat]
def k0_off18 (i : grid0.Coords) (k0_t4 : Fin (k0_t4_loop i).trips) : Fin 2 → Nat :=
  let c0_68 : Index := 0#32
  let c15_i32_59 : BitVec 32 := 15#32
  let c0_i32_48 : BitVec 32 := 0#32
  let c1_i32_50 : BitVec 32 := 1#32
  let arg13 : BitVec 32 := Scf.iv c0_i32_48 c1_i32_50 k0_t4
  let v101 : BitVec 32 := Scalar.subi c15_i32_59 arg13
  let c512_i32_60 : BitVec 32 := 512#32
  let v102 : BitVec 32 := Scalar.muli v101 c512_i32_60
  let v103 : BitVec 32 := v102
  let v118 : Index := Scalar.indexCast v103
  ![0, v118.toNat]
@[reducible] def k0_t5_loop (i : grid0.Coords) : Scf.Loop 32 :=
  let c0_i32_48 : BitVec 32 := 0#32
  let c15_i32 : BitVec 32 := 15#32
  let arg1 : BitVec 32 := BitVec.ofNat 32 (i 1).val
  let v55 : BitVec 32 := Scalar.subi c15_i32 arg1
  let c4_i32_41 : BitVec 32 := 4#32
  let c0_i32_42 : BitVec 32 := 0#32
  let v78 : BitVec 1 := Scalar.cmpi .eq c4_i32_41 c0_i32_42
  let c1_i32_43 : BitVec 32 := 1#32
  let v79 : BitVec 32 := Scalar.select v78 c1_i32_43 c4_i32_41
  let v80 : BitVec 32 := Scalar.remsi v55 v79
  let c0_i32_45 : BitVec 32 := 0#32
  let v82 : BitVec 1 := Scalar.cmpi .slt v80 c0_i32_45
  let c0_i32_46 : BitVec 32 := 0#32
  let v83 : BitVec 1 := Scalar.cmpi .slt v79 c0_i32_46
  let v84 : BitVec 1 := Scalar.xori v82 v83
  let c0_i32_44 : BitVec 32 := 0#32
  let v81 : BitVec 1 := Scalar.cmpi .ne v80 c0_i32_44
  let v85 : BitVec 1 := Scalar.andi v84 v81
  let v86 : BitVec 32 := Scalar.addi v80 v79
  let v87 : BitVec 32 := Scalar.select v85 v86 v80
  let v88 : BitVec 32 := Scalar.subi v87 c0_i32_48
  let c1_i32_49 : BitVec 32 := 1#32
  let v90 : BitVec 32 := Scalar.divsi v88 c1_i32_49
  let v91 : BitVec 32 := Scalar.muli v90 c1_i32_49
  let v92 : BitVec 32 := Scalar.addi c0_i32_48 v91
  let v89 : BitVec 32 := Scalar.addi c0_i32_48 v88
  let c1_i32_51 : BitVec 32 := 1#32
  ⟨v92, v89, c1_i32_51⟩
def k0_mult12 (i : grid0.Coords) (k0_t5 : Fin (k0_t5_loop i).trips) : BitVec 32 :=
  let c15_i32_59 : BitVec 32 := 15#32
  let c0_i32_48 : BitVec 32 := 0#32
  let c15_i32 : BitVec 32 := 15#32
  let arg1 : BitVec 32 := BitVec.ofNat 32 (i 1).val
  let v55 : BitVec 32 := Scalar.subi c15_i32 arg1
  let c4_i32_41 : BitVec 32 := 4#32
  let c0_i32_42 : BitVec 32 := 0#32
  let v78 : BitVec 1 := Scalar.cmpi .eq c4_i32_41 c0_i32_42
  let c1_i32_43 : BitVec 32 := 1#32
  let v79 : BitVec 32 := Scalar.select v78 c1_i32_43 c4_i32_41
  let v80 : BitVec 32 := Scalar.remsi v55 v79
  let c0_i32_45 : BitVec 32 := 0#32
  let v82 : BitVec 1 := Scalar.cmpi .slt v80 c0_i32_45
  let c0_i32_46 : BitVec 32 := 0#32
  let v83 : BitVec 1 := Scalar.cmpi .slt v79 c0_i32_46
  let v84 : BitVec 1 := Scalar.xori v82 v83
  let c0_i32_44 : BitVec 32 := 0#32
  let v81 : BitVec 1 := Scalar.cmpi .ne v80 c0_i32_44
  let v85 : BitVec 1 := Scalar.andi v84 v81
  let v86 : BitVec 32 := Scalar.addi v80 v79
  let v87 : BitVec 32 := Scalar.select v85 v86 v80
  let v88 : BitVec 32 := Scalar.subi v87 c0_i32_48
  let c1_i32_49 : BitVec 32 := 1#32
  let v90 : BitVec 32 := Scalar.divsi v88 c1_i32_49
  let v91 : BitVec 32 := Scalar.muli v90 c1_i32_49
  let v92 : BitVec 32 := Scalar.addi c0_i32_48 v91
  let c1_i32_51 : BitVec 32 := 1#32
  let arg13 : BitVec 32 := Scf.iv v92 c1_i32_51 k0_t5
  let v101 : BitVec 32 := Scalar.subi c15_i32_59 arg13
  let c512_i32_60 : BitVec 32 := 512#32
  let v102 : BitVec 32 := Scalar.muli v101 c512_i32_60
  v102
def k0_off19 (i : grid0.Coords) (k0_t5 : Fin (k0_t5_loop i).trips) : Fin 2 → Nat :=
  let c15_i32_59 : BitVec 32 := 15#32
  let c0_i32_48 : BitVec 32 := 0#32
  let c15_i32 : BitVec 32 := 15#32
  let arg1 : BitVec 32 := BitVec.ofNat 32 (i 1).val
  let v55 : BitVec 32 := Scalar.subi c15_i32 arg1
  let c4_i32_41 : BitVec 32 := 4#32
  let c0_i32_42 : BitVec 32 := 0#32
  let v78 : BitVec 1 := Scalar.cmpi .eq c4_i32_41 c0_i32_42
  let c1_i32_43 : BitVec 32 := 1#32
  let v79 : BitVec 32 := Scalar.select v78 c1_i32_43 c4_i32_41
  let v80 : BitVec 32 := Scalar.remsi v55 v79
  let c0_i32_45 : BitVec 32 := 0#32
  let v82 : BitVec 1 := Scalar.cmpi .slt v80 c0_i32_45
  let c0_i32_46 : BitVec 32 := 0#32
  let v83 : BitVec 1 := Scalar.cmpi .slt v79 c0_i32_46
  let v84 : BitVec 1 := Scalar.xori v82 v83
  let c0_i32_44 : BitVec 32 := 0#32
  let v81 : BitVec 1 := Scalar.cmpi .ne v80 c0_i32_44
  let v85 : BitVec 1 := Scalar.andi v84 v81
  let v86 : BitVec 32 := Scalar.addi v80 v79
  let v87 : BitVec 32 := Scalar.select v85 v86 v80
  let v88 : BitVec 32 := Scalar.subi v87 c0_i32_48
  let c1_i32_49 : BitVec 32 := 1#32
  let v90 : BitVec 32 := Scalar.divsi v88 c1_i32_49
  let v91 : BitVec 32 := Scalar.muli v90 c1_i32_49
  let v92 : BitVec 32 := Scalar.addi c0_i32_48 v91
  let c1_i32_51 : BitVec 32 := 1#32
  let arg13 : BitVec 32 := Scf.iv v92 c1_i32_51 k0_t5
  let v101 : BitVec 32 := Scalar.subi c15_i32_59 arg13
  let c512_i32_60 : BitVec 32 := 512#32
  let v102 : BitVec 32 := Scalar.muli v101 c512_i32_60
  let v103 : BitVec 32 := v102
  let v104 : Index := Scalar.indexCast v103
  let c0_61 : Index := 0#32
  ![v104.toNat, 0]
def k0_off20 (i : grid0.Coords) (k0_t5 : Fin (k0_t5_loop i).trips) : Fin 2 → Nat :=
  let c15_i32_59 : BitVec 32 := 15#32
  let c0_i32_48 : BitVec 32 := 0#32
  let c15_i32 : BitVec 32 := 15#32
  let arg1 : BitVec 32 := BitVec.ofNat 32 (i 1).val
  let v55 : BitVec 32 := Scalar.subi c15_i32 arg1
  let c4_i32_41 : BitVec 32 := 4#32
  let c0_i32_42 : BitVec 32 := 0#32
  let v78 : BitVec 1 := Scalar.cmpi .eq c4_i32_41 c0_i32_42
  let c1_i32_43 : BitVec 32 := 1#32
  let v79 : BitVec 32 := Scalar.select v78 c1_i32_43 c4_i32_41
  let v80 : BitVec 32 := Scalar.remsi v55 v79
  let c0_i32_45 : BitVec 32 := 0#32
  let v82 : BitVec 1 := Scalar.cmpi .slt v80 c0_i32_45
  let c0_i32_46 : BitVec 32 := 0#32
  let v83 : BitVec 1 := Scalar.cmpi .slt v79 c0_i32_46
  let v84 : BitVec 1 := Scalar.xori v82 v83
  let c0_i32_44 : BitVec 32 := 0#32
  let v81 : BitVec 1 := Scalar.cmpi .ne v80 c0_i32_44
  let v85 : BitVec 1 := Scalar.andi v84 v81
  let v86 : BitVec 32 := Scalar.addi v80 v79
  let v87 : BitVec 32 := Scalar.select v85 v86 v80
  let v88 : BitVec 32 := Scalar.subi v87 c0_i32_48
  let c1_i32_49 : BitVec 32 := 1#32
  let v90 : BitVec 32 := Scalar.divsi v88 c1_i32_49
  let v91 : BitVec 32 := Scalar.muli v90 c1_i32_49
  let v92 : BitVec 32 := Scalar.addi c0_i32_48 v91
  let c1_i32_51 : BitVec 32 := 1#32
  let arg13 : BitVec 32 := Scf.iv v92 c1_i32_51 k0_t5
  let v101 : BitVec 32 := Scalar.subi c15_i32_59 arg13
  let c512_i32_60 : BitVec 32 := 512#32
  let v102 : BitVec 32 := Scalar.muli v101 c512_i32_60
  let v103 : BitVec 32 := v102
  let v106 : Index := Scalar.indexCast v103
  let c0_62 : Index := 0#32
  ![v106.toNat, 0]
def k0_off21 (i : grid0.Coords) (k0_t5 : Fin (k0_t5_loop i).trips) : Fin 3 → Nat :=
  let c0_65 : Index := 0#32
  let c0_66 : Index := 0#32
  let c15_i32_59 : BitVec 32 := 15#32
  let c0_i32_48 : BitVec 32 := 0#32
  let c15_i32 : BitVec 32 := 15#32
  let arg1 : BitVec 32 := BitVec.ofNat 32 (i 1).val
  let v55 : BitVec 32 := Scalar.subi c15_i32 arg1
  let c4_i32_41 : BitVec 32 := 4#32
  let c0_i32_42 : BitVec 32 := 0#32
  let v78 : BitVec 1 := Scalar.cmpi .eq c4_i32_41 c0_i32_42
  let c1_i32_43 : BitVec 32 := 1#32
  let v79 : BitVec 32 := Scalar.select v78 c1_i32_43 c4_i32_41
  let v80 : BitVec 32 := Scalar.remsi v55 v79
  let c0_i32_45 : BitVec 32 := 0#32
  let v82 : BitVec 1 := Scalar.cmpi .slt v80 c0_i32_45
  let c0_i32_46 : BitVec 32 := 0#32
  let v83 : BitVec 1 := Scalar.cmpi .slt v79 c0_i32_46
  let v84 : BitVec 1 := Scalar.xori v82 v83
  let c0_i32_44 : BitVec 32 := 0#32
  let v81 : BitVec 1 := Scalar.cmpi .ne v80 c0_i32_44
  let v85 : BitVec 1 := Scalar.andi v84 v81
  let v86 : BitVec 32 := Scalar.addi v80 v79
  let v87 : BitVec 32 := Scalar.select v85 v86 v80
  let v88 : BitVec 32 := Scalar.subi v87 c0_i32_48
  let c1_i32_49 : BitVec 32 := 1#32
  let v90 : BitVec 32 := Scalar.divsi v88 c1_i32_49
  let v91 : BitVec 32 := Scalar.muli v90 c1_i32_49
  let v92 : BitVec 32 := Scalar.addi c0_i32_48 v91
  let c1_i32_51 : BitVec 32 := 1#32
  let arg13 : BitVec 32 := Scf.iv v92 c1_i32_51 k0_t5
  let v101 : BitVec 32 := Scalar.subi c15_i32_59 arg13
  let c512_i32_60 : BitVec 32 := 512#32
  let v102 : BitVec 32 := Scalar.muli v101 c512_i32_60
  let v103 : BitVec 32 := v102
  let v111 : Index := Scalar.indexCast v103
  ![0, 0, v111.toNat]
def k0_off22 (i : grid0.Coords) (k0_t5 : Fin (k0_t5_loop i).trips) : Fin 2 → Nat :=
  let c0_68 : Index := 0#32
  let c15_i32_59 : BitVec 32 := 15#32
  let c0_i32_48 : BitVec 32 := 0#32
  let c15_i32 : BitVec 32 := 15#32
  let arg1 : BitVec 32 := BitVec.ofNat 32 (i 1).val
  let v55 : BitVec 32 := Scalar.subi c15_i32 arg1
  let c4_i32_41 : BitVec 32 := 4#32
  let c0_i32_42 : BitVec 32 := 0#32
  let v78 : BitVec 1 := Scalar.cmpi .eq c4_i32_41 c0_i32_42
  let c1_i32_43 : BitVec 32 := 1#32
  let v79 : BitVec 32 := Scalar.select v78 c1_i32_43 c4_i32_41
  let v80 : BitVec 32 := Scalar.remsi v55 v79
  let c0_i32_45 : BitVec 32 := 0#32
  let v82 : BitVec 1 := Scalar.cmpi .slt v80 c0_i32_45
  let c0_i32_46 : BitVec 32 := 0#32
  let v83 : BitVec 1 := Scalar.cmpi .slt v79 c0_i32_46
  let v84 : BitVec 1 := Scalar.xori v82 v83
  let c0_i32_44 : BitVec 32 := 0#32
  let v81 : BitVec 1 := Scalar.cmpi .ne v80 c0_i32_44
  let v85 : BitVec 1 := Scalar.andi v84 v81
  let v86 : BitVec 32 := Scalar.addi v80 v79
  let v87 : BitVec 32 := Scalar.select v85 v86 v80
  let v88 : BitVec 32 := Scalar.subi v87 c0_i32_48
  let c1_i32_49 : BitVec 32 := 1#32
  let v90 : BitVec 32 := Scalar.divsi v88 c1_i32_49
  let v91 : BitVec 32 := Scalar.muli v90 c1_i32_49
  let v92 : BitVec 32 := Scalar.addi c0_i32_48 v91
  let c1_i32_51 : BitVec 32 := 1#32
  let arg13 : BitVec 32 := Scf.iv v92 c1_i32_51 k0_t5
  let v101 : BitVec 32 := Scalar.subi c15_i32_59 arg13
  let c512_i32_60 : BitVec 32 := 512#32
  let v102 : BitVec 32 := Scalar.muli v101 c512_i32_60
  let v103 : BitVec 32 := v102
  let v118 : Index := Scalar.indexCast v103
  ![0, v118.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S8192x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S8192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S8192x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | "scale" => some (((Real.sqrt 192)⁻¹ : ℝ) : EReal)
  | "scale2" => some (((Real.sqrt 192)⁻¹ * (Real.log 2)⁻¹ : ℝ) : EReal)
  | _ => none
-- ==== ReferenceIdeal.lean ====
abbrev S8192x1024 : Shape := ⟨2, ![8192, 1024]⟩
abbrev S8192x512 : Shape := ⟨2, ![8192, 512]⟩
abbrev S8192x4x256 : Shape := ⟨3, ![8192, 4, 256]⟩
abbrev S8192x4x128 : Shape := ⟨3, ![8192, 4, 128]⟩
abbrev S4x8192x8192 : Shape := ⟨3, ![4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8192 : Shape := ⟨2, ![4, 8192]⟩
abbrev S4x8192x1 : Shape := ⟨3, ![4, 8192, 1]⟩
abbrev S4x128x8192 : Shape := ⟨3, ![4, 128, 8192]⟩
abbrev S4x8192x256 : Shape := ⟨3, ![4, 8192, 256]⟩

abbrev nBuf : Space → Nat
  | .hbm => 100
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x512, .f32⟩
  | .hbm, ⟨4, _⟩ => ⟨S8192x1024, .f32⟩
  | .hbm, ⟨5, _⟩ => ⟨S8192x1024, .f32⟩
  | .hbm, ⟨6, _⟩ => ⟨S8192x512, .f32⟩
  | .hbm, ⟨7, _⟩ => ⟨S8192x4x256, .f32⟩
  | .hbm, ⟨8, _⟩ => ⟨S8192x4x256, .f32⟩
  | .hbm, ⟨9, _⟩ => ⟨S8192x4x128, .f32⟩
  | .hbm, ⟨10, _⟩ => ⟨S4x8192x8192, .f32⟩
  | .hbm, ⟨11, _⟩ => ⟨S_, .f32⟩
  | .hbm, ⟨12, _⟩ => ⟨S_, .f32⟩
  | .hbm, ⟨13, _⟩ => ⟨S4x8192x8192, .f32⟩
  | .hbm, ⟨14, _⟩ => ⟨S4x8192x8192, .f32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S4x8192x8192, .i1⟩
  | .hbm, ⟨24, _⟩ => ⟨S4x8192x8192, .f32⟩
  | .hbm, ⟨25, _⟩ => ⟨S4x8192x8192, .f32⟩
  | .hbm, ⟨26, _⟩ => ⟨S_, .f32⟩
  | .hbm, ⟨27, _⟩ => ⟨S4x8192x8192, .f32⟩
  | .hbm, ⟨28, _⟩ => ⟨S_, .f32⟩
  | .hbm, ⟨29, _⟩ => ⟨S4x8192, .f32⟩
  | .hbm, ⟨30, _⟩ => ⟨S4x8192x1, .f32⟩
  | .hbm, ⟨31, _⟩ => ⟨S4x8192x8192, .f32⟩
  | .hbm, ⟨32, _⟩ => ⟨S4x8192x8192, .i1⟩
  | .hbm, ⟨33, _⟩ => ⟨S4x8192x8192, .f32⟩
  | .hbm, ⟨34, _⟩ => ⟨S_, .f32⟩
  | .hbm, ⟨35, _⟩ => ⟨S4x8192, .f32⟩
  | .hbm, ⟨36, _⟩ => ⟨S_, .f32⟩
  | .hbm, ⟨37, _⟩ => ⟨S4x8192, .f32⟩
  | .hbm, ⟨38, _⟩ => ⟨S4x8192, .f32⟩
  | .hbm, ⟨39, _⟩ => ⟨S_, .f32⟩
  | .hbm, ⟨40, _⟩ => ⟨S4x8192, .f32⟩
  | .hbm, ⟨41, _⟩ => ⟨S4x8192, .i1⟩
  | .hbm, ⟨42, _⟩ => ⟨S_, .f32⟩
  | .hbm, ⟨43, _⟩ => ⟨S4x8192, .f32⟩
  | .hbm, ⟨44, _⟩ => ⟨S4x8192, .i1⟩
  | .hbm, ⟨45, _⟩ => ⟨S_, .f32⟩
  | .hbm, ⟨46, _⟩ => ⟨S4x8192, .f32⟩
  | .hbm, ⟨47, _⟩ => ⟨S_, .f32⟩
  | .hbm, ⟨48, _⟩ => ⟨S4x8192, .f32⟩
  | .hbm, ⟨49, _⟩ => ⟨S_, .f32⟩
  | .hbm, ⟨50, _⟩ => ⟨S4x8192, .f32⟩
  | .hbm, ⟨51, _⟩ => ⟨S4x8192, .f32⟩
  | .hbm, ⟨52, _⟩ => ⟨S4x8192, .f32⟩
  | .hbm, ⟨53, _⟩ => ⟨S4x8192x1, .f32⟩
  | .hbm, ⟨54, _⟩ => ⟨S4x8192x8192, .f32⟩
  | .hbm, ⟨55, _⟩ => ⟨S4x8192x8192, .f32⟩
  | .hbm, ⟨56, _⟩ => ⟨S4x8192x8192, .f32⟩
  | .hbm, ⟨57, _⟩ => ⟨S_, .f32⟩
  | .hbm, ⟨58, _⟩ => ⟨S4x8192, .f32⟩
  | .hbm, ⟨59, _⟩ => ⟨S4x8192x1, .f32⟩
  | .hbm, ⟨60, _⟩ => ⟨S4x8192x8192, .f32⟩
  | .hbm, ⟨61, _⟩ => ⟨S4x8192x8192, .f32⟩
  | .hbm, ⟨62, _⟩ => ⟨S4x8192x1, .f32⟩
  | .hbm, ⟨63, _⟩ => ⟨S_, .f32⟩
  | .hbm, ⟨64, _⟩ => ⟨S4x8192x1, .f32⟩
  | .hbm, ⟨65, _⟩ => ⟨S4x8192x1, .f32⟩
  | .hbm, ⟨66, _⟩ => ⟨S4x128x8192, .f32⟩
  | .hbm, ⟨67, _⟩ => ⟨S8192x4x128, .f32⟩
  | .hbm, ⟨68, _⟩ => ⟨S8192x512, .f32⟩
  | .hbm, ⟨69, _⟩ => ⟨S8192x4x128, .f32⟩
  | .hbm, ⟨70, _⟩ => ⟨S4x128x8192, .f32⟩
  | .hbm, ⟨71, _⟩ => ⟨S4x8192x8192, .f32⟩
  | .hbm, ⟨72, _⟩ => ⟨S4x128x8192, .f32⟩
  | .hbm, ⟨73, _⟩ => ⟨S8192x4x128, .f32⟩
  | .hbm, ⟨74, _⟩ => ⟨S4x8192x8192, .f32⟩
  | .hbm, ⟨75, _⟩ => ⟨S4x8192x8192, .f32⟩
  | .hbm, ⟨76, _⟩ => ⟨S4x8192x8192, .f32⟩
  | .hbm, ⟨77, _⟩ => ⟨S_, .f32⟩
  | .hbm, ⟨78, _⟩ => ⟨S4x8192, .f32⟩
  | .hbm, ⟨79, _⟩ => ⟨S4x8192x1, .f32⟩
  | .hbm, ⟨80, _⟩ => ⟨S4x8192x1, .f32⟩
  | .hbm, ⟨81, _⟩ => ⟨S4x8192x8192, .f32⟩
  | .hbm, ⟨82, _⟩ => ⟨S4x8192x8192, .f32⟩
  | .hbm, ⟨83, _⟩ => ⟨S_, .f32⟩
  | .hbm, ⟨84, _⟩ => ⟨S4x8192, .f32⟩
  | .hbm, ⟨85, _⟩ => ⟨S4x8192x8192, .f32⟩
  | .hbm, ⟨86, _⟩ => ⟨S4x8192x8192, .f32⟩
  | .hbm, ⟨87, _⟩ => ⟨S4x8192x8192, .f32⟩
  | .hbm, ⟨88, _⟩ => ⟨S_, .f32⟩
  | .hbm, ⟨89, _⟩ => ⟨S4x8192x8192, .f32⟩
  | .hbm, ⟨90, _⟩ => ⟨S4x8192x8192, .f32⟩
  | .hbm, ⟨91, _⟩ => ⟨S4x8192x8192, .f32⟩
  | .hbm, ⟨92, _⟩ => ⟨S4x8192x8192, .f32⟩
  | .hbm, ⟨93, _⟩ => ⟨S4x8192x256, .f32⟩
  | .hbm, ⟨94, _⟩ => ⟨S8192x4x256, .f32⟩
  | .hbm, ⟨95, _⟩ => ⟨S4x8192x256, .f32⟩
  | .hbm, ⟨96, _⟩ => ⟨S8192x4x256, .f32⟩
  | .hbm, ⟨97, _⟩ => ⟨S8192x512, .f32⟩
  | .hbm, ⟨98, _⟩ => ⟨S8192x1024, .f32⟩
  | .hbm, ⟨99, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_v16_1 : Ref sig .tc := ⟨.hbm, 23, rfl⟩
abbrev main_call0_v2 : Ref sig .tc := ⟨.hbm, 24, rfl⟩
abbrev main_v16_0 : Ref sig .tc := ⟨.hbm, 25, rfl⟩
abbrev main_call0_cst : Ref sig .tc := ⟨.hbm, 26, rfl⟩
abbrev main_v16_2 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_call1_cst : Ref sig .tc := ⟨.hbm, 88, rfl⟩
abbrev main_call1_v0 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S1024x384 : Shape := ⟨2, ![1024, 384]⟩
abbrev S1024x256 : Shape := ⟨2, ![1024, 256]⟩
abbrev S1024x128 : Shape := ⟨2, ![1024, 128]⟩
abbrev S1024x512 : Shape := ⟨2, ![1024, 512]⟩
abbrev S1024x1536 : Shape := ⟨2, ![1024, 1536]⟩
abbrev S8192x384 : Shape := ⟨2, ![8192, 384]⟩
abbrev S8192x256 : Shape := ⟨2, ![8192, 256]⟩
abbrev S8192x128 : Shape := ⟨2, ![8192, 128]⟩
abbrev S8192x512 : Shape := ⟨2, ![8192, 512]⟩
abbrev S8192x1536 : Shape := ⟨2, ![8192, 1536]⟩
abbrev S512x1024 : Shape := ⟨2, ![512, 1024]⟩
abbrev S512x384 : Shape := ⟨2, ![512, 384]⟩
abbrev S512x256 : Shape := ⟨2, ![512, 256]⟩
abbrev S512x128 : Shape := ⟨2, ![512, 128]⟩
abbrev S512x512 : Shape := ⟨2, ![512, 512]⟩
abbrev S512x1536 : Shape := ⟨2, ![512, 1536]⟩
abbrev S512 : Shape := ⟨1, ![512]⟩
abbrev S512x1 : Shape := ⟨2, ![512, 1]⟩
abbrev S1024 : Shape := ⟨1, ![1024]⟩

abbrev nBuf : Space → Nat
  | .hbm => 34
  | .vmem => 44
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x384, .bf16⟩
  | .hbm, ⟨7, _⟩ => ⟨S1024x256, .bf16⟩
  | .hbm, ⟨8, _⟩ => ⟨S1024x128, .bf16⟩
  | .hbm, ⟨9, _⟩ => ⟨S1024x512, .bf16⟩
  | .hbm, ⟨10, _⟩ => ⟨S1024x1536, .bf16⟩
  | .hbm, ⟨11, _⟩ => ⟨S1024x128, .bf16⟩
  | .hbm, ⟨12, _⟩ => ⟨S1024x512, .bf16⟩
  | .hbm, ⟨13, _⟩ => ⟨S8192x384, .f32⟩
  | .hbm, ⟨14, _⟩ => ⟨S8192x256, .f32⟩
  | .hbm, ⟨15, _⟩ => ⟨S8192x128, .f32⟩
  | .hbm, ⟨16, _⟩ => ⟨S8192x512, .f32⟩
  | .hbm, ⟨17, _⟩ => ⟨S8192x1536, .f32⟩
  | .hbm, ⟨18, _⟩ => ⟨S8192x128, .f32⟩
  | .hbm, ⟨19, _⟩ => ⟨S8192x512, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1024x384, .f32⟩
  | .hbm, ⟨28, _⟩ => ⟨S1024x256, .f32⟩
  | .hbm, ⟨29, _⟩ => ⟨S1024x128, .f32⟩
  | .hbm, ⟨30, _⟩ => ⟨S1024x512, .f32⟩
  | .hbm, ⟨31, _⟩ => ⟨S1024x1536, .f32⟩
  | .hbm, ⟨32, _⟩ => ⟨S1024x128, .f32⟩
  | .hbm, ⟨33, _⟩ => ⟨S1024x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1024x384, .bf16⟩
  | .local _ .vmem, ⟨8, _⟩ => ⟨S1024x256, .bf16⟩
  | .local _ .vmem, ⟨9, _⟩ => ⟨S1024x128, .bf16⟩
  | .local _ .vmem, ⟨10, _⟩ => ⟨S1024x512, .bf16⟩
  | .local _ .vmem, ⟨11, _⟩ => ⟨S1024x1536, .bf16⟩
  | .local _ .vmem, ⟨12, _⟩ => ⟨S1024x128, .bf16⟩
  | .local _ .vmem, ⟨13, _⟩ => ⟨S1024x512, .bf16⟩
  | .local _ .vmem, ⟨14, _⟩ => ⟨S512x384, .f32⟩
  | .local _ .vmem, ⟨15, _⟩ => ⟨S512x384, .f32⟩
  | .local _ .vmem, ⟨16, _⟩ => ⟨S512x256, .f32⟩
  | .local _ .vmem, ⟨17, _⟩ => ⟨S512x256, .f32⟩
  | .local _ .vmem, ⟨18, _⟩ => ⟨S512x128, .f32⟩
  | .local _ .vmem, ⟨19, _⟩ => ⟨S512x128, .f32⟩
  | .local _ .vmem, ⟨20, _⟩ => ⟨S512x512, .f32⟩
  | .local _ .vmem, ⟨21, _⟩ => ⟨S512x512, .f32⟩
  | .local _ .vmem, ⟨22, _⟩ => ⟨S512x1536, .f32⟩
  | .local _ .vmem, ⟨23, _⟩ => ⟨S512x1536, .f32⟩
  | .local _ .vmem, ⟨24, _⟩ => ⟨S512x128, .f32⟩
  | .local _ .vmem, ⟨25, _⟩ => ⟨S512x128, .f32⟩
  | .local _ .vmem, ⟨26, _⟩ => ⟨S512x512, .f32⟩
  | .local _ .vmem, ⟨27, _⟩ => ⟨S512x512, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S1x1024, .f32⟩
  | .local _ .vmem, ⟨33, _⟩ => ⟨S1x1024, .f32⟩
  | .local _ .vmem, ⟨34, _⟩ => ⟨S1x1024, .f32⟩
  | .local _ .vmem, ⟨35, _⟩ => ⟨S1x1024, .f32⟩
  | .local _ .vmem, ⟨36, _⟩ => ⟨S1x1024, .f32⟩
  | .local _ .vmem, ⟨37, _⟩ => ⟨S1024x384, .f32⟩
  | .local _ .vmem, ⟨38, _⟩ => ⟨S1024x256, .f32⟩
  | .local _ .vmem, ⟨39, _⟩ => ⟨S1024x128, .f32⟩
  | .local _ .vmem, ⟨40, _⟩ => ⟨S1024x512, .f32⟩
  | .local _ .vmem, ⟨41, _⟩ => ⟨S1024x1536, .f32⟩
  | .local _ .vmem, ⟨42, _⟩ => ⟨S1024x128, .f32⟩
  | .local _ .vmem, ⟨43, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0_0 : Ref sig .tc := ⟨.hbm, 21, rfl⟩
abbrev main_v0_1 : Ref sig .tc := ⟨.hbm, 22, rfl⟩
abbrev main_v0_2 : Ref sig .tc := ⟨.hbm, 23, rfl⟩
abbrev main_v0_3 : Ref sig .tc := ⟨.hbm, 24, rfl⟩
abbrev main_v0_4 : Ref sig .tc := ⟨.hbm, 25, rfl⟩
abbrev main_v0_5 : Ref sig .tc := ⟨.hbm, 26, rfl⟩
abbrev main_v0_6 : Ref sig .tc := ⟨.hbm, 27, rfl⟩
abbrev main_v0_7 : Ref sig .tc := ⟨.hbm, 28, rfl⟩
abbrev main_v0_8 : Ref sig .tc := ⟨.hbm, 29, rfl⟩
abbrev main_v0_9 : Ref sig .tc := ⟨.hbm, 30, rfl⟩
abbrev main_v0_10 : Ref sig .tc := ⟨.hbm, 31, rfl⟩
abbrev main_v0_11 : Ref sig .tc := ⟨.hbm, 32, rfl⟩
abbrev main_v0_12 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg23_0 : Ref sig .tc := ⟨.vmem, 33, rfl⟩
abbrev cc0_stg24_0 : Ref sig .tc := ⟨.vmem, 34, rfl⟩
abbrev cc0_stg25_0 : Ref sig .tc := ⟨.vmem, 35, rfl⟩
abbrev cc0_stg26_0 : Ref sig .tc := ⟨.vmem, 36, rfl⟩
abbrev cc0_stg27_0 : Ref sig .tc := ⟨.vmem, 37, rfl⟩
abbrev cc0_stg28_0 : Ref sig .tc := ⟨.vmem, 38, rfl⟩
abbrev cc0_stg29_0 : Ref sig .tc := ⟨.vmem, 39, rfl⟩
abbrev cc0_stg30_0 : Ref sig .tc := ⟨.vmem, 40, rfl⟩
abbrev cc0_stg31_0 : Ref sig .tc := ⟨.vmem, 41, rfl⟩
abbrev cc0_stg32_0 : Ref sig .tc := ⟨.vmem, 42, rfl⟩
abbrev cc0_stg33_0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem23_0 : DmaSem sig := 33
abbrev cc0_sem24_0 : DmaSem sig := 34
abbrev cc0_sem25_0 : DmaSem sig := 35
abbrev cc0_sem26_0 : DmaSem sig := 36
abbrev cc0_sem27_0 : DmaSem sig := 37
abbrev cc0_sem28_0 : DmaSem sig := 38
abbrev cc0_sem29_0 : DmaSem sig := 39
abbrev cc0_sem30_0 : DmaSem sig := 40
abbrev cc0_sem31_0 : DmaSem sig := 41
abbrev cc0_sem32_0 : DmaSem sig := 42
abbrev cc0_sem33_0 : DmaSem sig := 43

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1536 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x384 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1536 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1024x384 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1024x256 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1024x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S1024x512 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S1024x1536 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S1024x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S1024x512 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]
-- ==== Reference2Ideal.lean ====
abbrev S8192x1024 : Shape := ⟨2, ![8192, 1024]⟩
abbrev S1x1024 : Shape := ⟨2, ![1, 1024]⟩
abbrev S1024x384 : Shape := ⟨2, ![1024, 384]⟩
abbrev S1024x256 : Shape := ⟨2, ![1024, 256]⟩
abbrev S1024x128 : Shape := ⟨2, ![1024, 128]⟩
abbrev S1024x512 : Shape := ⟨2, ![1024, 512]⟩
abbrev S1024x1536 : Shape := ⟨2, ![1024, 1536]⟩
abbrev S8192x384 : Shape := ⟨2, ![8192, 384]⟩
abbrev S8192x256 : Shape := ⟨2, ![8192, 256]⟩
abbrev S8192x128 : Shape := ⟨2, ![8192, 128]⟩
abbrev S8192x512 : Shape := ⟨2, ![8192, 512]⟩
abbrev S8192x1536 : Shape := ⟨2, ![8192, 1536]⟩
abbrev S_ : Shape := ⟨0, ![]⟩
abbrev S8192 : Shape := ⟨1, ![8192]⟩
abbrev S8192x1 : Shape := ⟨2, ![8192, 1]⟩
abbrev S512x1024 : Shape := ⟨2, ![512, 1024]⟩
abbrev S128x1024 : Shape := ⟨2, ![128, 1024]⟩
abbrev S1536x1024 : Shape := ⟨2, ![1536, 1024]⟩
abbrev S256x1024 : Shape := ⟨2, ![256, 1024]⟩
abbrev S384x1024 : Shape := ⟨2, ![384, 1024]⟩
abbrev S1024 : Shape := ⟨1, ![1024]⟩

abbrev nBuf : Space → Nat
  | .hbm => 123
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x384, .bf16⟩
  | .hbm, ⟨7, _⟩ => ⟨S1024x256, .bf16⟩
  | .hbm, ⟨8, _⟩ => ⟨S1024x128, .bf16⟩
  | .hbm, ⟨9, _⟩ => ⟨S1024x512, .bf16⟩
  | .hbm, ⟨10, _⟩ => ⟨S1024x1536, .bf16⟩
  | .hbm, ⟨11, _⟩ => ⟨S1024x128, .bf16⟩
  | .hbm, ⟨12, _⟩ => ⟨S1024x512, .bf16⟩
  | .hbm, ⟨13, _⟩ => ⟨S8192x384, .f32⟩
  | .hbm, ⟨14, _⟩ => ⟨S8192x256, .f32⟩
  | .hbm, ⟨15, _⟩ => ⟨S8192x128, .f32⟩
  | .hbm, ⟨16, _⟩ => ⟨S8192x512, .f32⟩
  | .hbm, ⟨17, _⟩ => ⟨S8192x1536, .f32⟩
  | .hbm, ⟨18, _⟩ => ⟨S8192x128, .f32⟩
  | .hbm, ⟨19, _⟩ => ⟨S8192x512, .f32⟩
  | .hbm, ⟨20, _⟩ => ⟨S8192x1024, .f32⟩
  | .hbm, ⟨21, _⟩ => ⟨S1024x384, .f32⟩
  | .hbm, ⟨22, _⟩ => ⟨S1024x256, .f32⟩
  | .hbm, ⟨23, _⟩ => ⟨S1024x128, .f32⟩
  | .hbm, ⟨24, _⟩ => ⟨S1024x512, .f32⟩
  | .hbm, ⟨25, _⟩ => ⟨S1024x1536, .f32⟩
  | .hbm, ⟨26, _⟩ => ⟨S1024x128, .f32⟩
  | .hbm, ⟨27, _⟩ => ⟨S1024x512, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S1x1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x384, .f32⟩
  | .hbm, ⟨57, _⟩ => ⟨S8192x256, .f32⟩
  | .hbm, ⟨58, _⟩ => ⟨S8192x128, .f32⟩
  | .hbm, ⟨59, _⟩ => ⟨S8192x512, .f32⟩
  | .hbm, ⟨60, _⟩ => ⟨S8192x1536, .f32⟩
  | .hbm, ⟨61, _⟩ => ⟨S8192x128, .f32⟩
  | .hbm, ⟨62, _⟩ => ⟨S8192x512, .f32⟩
  | .hbm, ⟨63, _⟩ => ⟨S512x1024, .f32⟩
  | .hbm, ⟨64, _⟩ => ⟨S1024x512, .f32⟩
  | .hbm, ⟨65, _⟩ => ⟨S8192x1024, .f32⟩
  | .hbm, ⟨66, _⟩ => ⟨S128x1024, .f32⟩
  | .hbm, ⟨67, _⟩ => ⟨S1024x128, .f32⟩
  | .hbm, ⟨68, _⟩ => ⟨S8192x1024, .f32⟩
  | .hbm, ⟨69, _⟩ => ⟨S8192x1024, .f32⟩
  | .hbm, ⟨70, _⟩ => ⟨S1536x1024, .f32⟩
  | .hbm, ⟨71, _⟩ => ⟨S1024x1536, .f32⟩
  | .hbm, ⟨72, _⟩ => ⟨S8192x1024, .f32⟩
  | .hbm, ⟨73, _⟩ => ⟨S8192x1024, .f32⟩
  | .hbm, ⟨74, _⟩ => ⟨S512x1024, .f32⟩
  | .hbm, ⟨75, _⟩ => ⟨S1024x512, .f32⟩
  | .hbm, ⟨76, _⟩ => ⟨S8192x1024, .f32⟩
  | .hbm, ⟨77, _⟩ => ⟨S8192x1024, .f32⟩
  | .hbm, ⟨78, _⟩ => ⟨S128x1024, .f32⟩
  | .hbm, ⟨79, _⟩ => ⟨S1024x128, .f32⟩
  | .hbm, ⟨80, _⟩ => ⟨S8192x1024, .f32⟩
  | .hbm, ⟨81, _⟩ => ⟨S8192x1024, .f32⟩
  | .hbm, ⟨82, _⟩ => ⟨S256x1024, .f32⟩
  | .hbm, ⟨83, _⟩ => ⟨S1024x256, .f32⟩
  | .hbm, ⟨84, _⟩ => ⟨S8192x1024, .f32⟩
  | .hbm, ⟨85, _⟩ => ⟨S8192x1024, .f32⟩
  | .hbm, ⟨86, _⟩ => ⟨S384x1024, .f32⟩
  | .hbm, ⟨87, _⟩ => ⟨S1024x384, .f32⟩
  | .hbm, ⟨88, _⟩ => ⟨S8192x1024, .f32⟩
  | .hbm, ⟨89, _⟩ => ⟨S8192x1024, .f32⟩
  | .hbm, ⟨90, _⟩ => ⟨S_, .f32⟩
  | .hbm, ⟨91, _⟩ => ⟨S1024, .f32⟩
  | .hbm, ⟨92, _⟩ => ⟨S1x1024, .f32⟩
  | .hbm, ⟨93, _⟩ => ⟨S8192x1024, .f32⟩
  | .hbm, ⟨94, _⟩ => ⟨S_, .f32⟩
  | .hbm, ⟨95, _⟩ => ⟨S1024, .f32⟩
  | .hbm, ⟨96, _⟩ => ⟨S1x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S_, .f32⟩
  | .hbm, ⟨101, _⟩ => ⟨S1024, .f32⟩
  | .hbm, ⟨102, _⟩ => ⟨S1x1024, .f32⟩
  | .hbm, ⟨103, _⟩ => ⟨S8192x1024, .f32⟩
  | .hbm, ⟨104, _⟩ => ⟨S8192x1024, .f32⟩
  | .hbm, ⟨105, _⟩ => ⟨S8192x1024, .f32⟩
  | .hbm, ⟨106, _⟩ => ⟨S_, .f32⟩
  | .hbm, ⟨107, _⟩ => ⟨S8192, .f32⟩
  | .hbm, ⟨108, _⟩ => ⟨S8192x1, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S8192x1, .f32⟩
  | .hbm, ⟨113, _⟩ => ⟨S_, .f32⟩
  | .hbm, ⟨114, _⟩ => ⟨S8192x1, .f32⟩
  | .hbm, ⟨115, _⟩ => ⟨S8192x1, .f32⟩
  | .hbm, ⟨116, _⟩ => ⟨S_, .f32⟩
  | .hbm, ⟨117, _⟩ => ⟨S8192, .f32⟩
  | .hbm, ⟨118, _⟩ => ⟨S8192x1024, .f32⟩
  | .hbm, ⟨119, _⟩ => ⟨S8192x1024, .f32⟩
  | .hbm, ⟨120, _⟩ => ⟨S8192x1024, .f32⟩
  | .hbm, ⟨121, _⟩ => ⟨S8192x1024, .f32⟩
  | .hbm, ⟨122, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_v10 : Ref sig .tc := ⟨.hbm, 33, rfl⟩
abbrev main_v11 : Ref sig .tc := ⟨.hbm, 34, rfl⟩
abbrev main_cst_1 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_2 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_3 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_4 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_5 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_6 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_7 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_8 : Ref sig .tc := ⟨.hbm, 113, rfl⟩
abbrev main_v83 : Ref sig .tc := ⟨.hbm, 114, rfl⟩
abbrev main_v84 : Ref sig .tc := ⟨.hbm, 115, rfl⟩
abbrev main_cst_9 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S1024x384 : Shape := ⟨2, ![1024, 384]⟩
abbrev S1024x256 : Shape := ⟨2, ![1024, 256]⟩
abbrev S1024x128 : Shape := ⟨2, ![1024, 128]⟩
abbrev S1024x512 : Shape := ⟨2, ![1024, 512]⟩
abbrev S1024x1536 : Shape := ⟨2, ![1024, 1536]⟩
abbrev S8192x384 : Shape := ⟨2, ![8192, 384]⟩
abbrev S8192x256 : Shape := ⟨2, ![8192, 256]⟩
abbrev S8192x128 : Shape := ⟨2, ![8192, 128]⟩
abbrev S8192x512 : Shape := ⟨2, ![8192, 512]⟩
abbrev S8192x1536 : Shape := ⟨2, ![8192, 1536]⟩
abbrev S512x1024 : Shape := ⟨2, ![512, 1024]⟩
abbrev S512x384 : Shape := ⟨2, ![512, 384]⟩
abbrev S512x256 : Shape := ⟨2, ![512, 256]⟩
abbrev S512x128 : Shape := ⟨2, ![512, 128]⟩
abbrev S512x512 : Shape := ⟨2, ![512, 512]⟩
abbrev S512x1536 : Shape := ⟨2, ![512, 1536]⟩
abbrev S512 : Shape := ⟨1, ![512]⟩
abbrev S512x1 : Shape := ⟨2, ![512, 1]⟩

abbrev nBuf : Space → Nat
  | .hbm => 20
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x384, .bf16⟩
  | .hbm, ⟨7, _⟩ => ⟨S1024x256, .bf16⟩
  | .hbm, ⟨8, _⟩ => ⟨S1024x128, .bf16⟩
  | .hbm, ⟨9, _⟩ => ⟨S1024x512, .bf16⟩
  | .hbm, ⟨10, _⟩ => ⟨S1024x1536, .bf16⟩
  | .hbm, ⟨11, _⟩ => ⟨S1024x128, .bf16⟩
  | .hbm, ⟨12, _⟩ => ⟨S1024x512, .bf16⟩
  | .hbm, ⟨13, _⟩ => ⟨S8192x384, .f32⟩
  | .hbm, ⟨14, _⟩ => ⟨S8192x256, .f32⟩
  | .hbm, ⟨15, _⟩ => ⟨S8192x128, .f32⟩
  | .hbm, ⟨16, _⟩ => ⟨S8192x512, .f32⟩
  | .hbm, ⟨17, _⟩ => ⟨S8192x1536, .f32⟩
  | .hbm, ⟨18, _⟩ => ⟨S8192x128, .f32⟩
  | .hbm, ⟨19, _⟩ => ⟨S8192x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1024x384, .bf16⟩
  | .local _ .vmem, ⟨8, _⟩ => ⟨S1024x256, .bf16⟩
  | .local _ .vmem, ⟨9, _⟩ => ⟨S1024x128, .bf16⟩
  | .local _ .vmem, ⟨10, _⟩ => ⟨S1024x512, .bf16⟩
  | .local _ .vmem, ⟨11, _⟩ => ⟨S1024x1536, .bf16⟩
  | .local _ .vmem, ⟨12, _⟩ => ⟨S1024x128, .bf16⟩
  | .local _ .vmem, ⟨13, _⟩ => ⟨S1024x512, .bf16⟩
  | .local _ .vmem, ⟨14, _⟩ => ⟨S512x384, .f32⟩
  | .local _ .vmem, ⟨15, _⟩ => ⟨S512x384, .f32⟩
  | .local _ .vmem, ⟨16, _⟩ => ⟨S512x256, .f32⟩
  | .local _ .vmem, ⟨17, _⟩ => ⟨S512x256, .f32⟩
  | .local _ .vmem, ⟨18, _⟩ => ⟨S512x128, .f32⟩
  | .local _ .vmem, ⟨19, _⟩ => ⟨S512x128, .f32⟩
  | .local _ .vmem, ⟨20, _⟩ => ⟨S512x512, .f32⟩
  | .local _ .vmem, ⟨21, _⟩ => ⟨S512x512, .f32⟩
  | .local _ .vmem, ⟨22, _⟩ => ⟨S512x1536, .f32⟩
  | .local _ .vmem, ⟨23, _⟩ => ⟨S512x1536, .f32⟩
  | .local _ .vmem, ⟨24, _⟩ => ⟨S512x128, .f32⟩
  | .local _ .vmem, ⟨25, _⟩ => ⟨S512x128, .f32⟩
  | .local _ .vmem, ⟨26, _⟩ => ⟨S512x512, .f32⟩
  | .local _ .vmem, ⟨27, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev main_v0_6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1536 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x384 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1536 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference3Ideal.lean ====
abbrev S8192x1024 : Shape := ⟨2, ![8192, 1024]⟩
abbrev S1x1024 : Shape := ⟨2, ![1, 1024]⟩
abbrev S1024x384 : Shape := ⟨2, ![1024, 384]⟩
abbrev S1024x256 : Shape := ⟨2, ![1024, 256]⟩
abbrev S1024x128 : Shape := ⟨2, ![1024, 128]⟩
abbrev S1024x512 : Shape := ⟨2, ![1024, 512]⟩
abbrev S1024x1536 : Shape := ⟨2, ![1024, 1536]⟩
abbrev S_ : Shape := ⟨0, ![]⟩
abbrev S8192 : Shape := ⟨1, ![8192]⟩
abbrev S8192x1 : Shape := ⟨2, ![8192, 1]⟩
abbrev S8192x384 : Shape := ⟨2, ![8192, 384]⟩
abbrev S8192x256 : Shape := ⟨2, ![8192, 256]⟩
abbrev S8192x128 : Shape := ⟨2, ![8192, 128]⟩
abbrev S8192x512 : Shape := ⟨2, ![8192, 512]⟩
abbrev S8192x1536 : Shape := ⟨2, ![8192, 1536]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x384, .bf16⟩
  | .hbm, ⟨7, _⟩ => ⟨S1024x256, .bf16⟩
  | .hbm, ⟨8, _⟩ => ⟨S1024x128, .bf16⟩
  | .hbm, ⟨9, _⟩ => ⟨S1024x512, .bf16⟩
  | .hbm, ⟨10, _⟩ => ⟨S1024x1536, .bf16⟩
  | .hbm, ⟨11, _⟩ => ⟨S1024x128, .bf16⟩
  | .hbm, ⟨12, _⟩ => ⟨S1024x512, .bf16⟩
  | .hbm, ⟨13, _⟩ => ⟨S1024x384, .f32⟩
  | .hbm, ⟨14, _⟩ => ⟨S1024x256, .f32⟩
  | .hbm, ⟨15, _⟩ => ⟨S1024x128, .f32⟩
  | .hbm, ⟨16, _⟩ => ⟨S1024x512, .f32⟩
  | .hbm, ⟨17, _⟩ => ⟨S1024x1536, .f32⟩
  | .hbm, ⟨18, _⟩ => ⟨S1024x128, .f32⟩
  | .hbm, ⟨19, _⟩ => ⟨S1024x512, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x384, .f32⟩
  | .hbm, ⟨45, _⟩ => ⟨S8192x256, .f32⟩
  | .hbm, ⟨46, _⟩ => ⟨S8192x128, .f32⟩
  | .hbm, ⟨47, _⟩ => ⟨S8192x512, .f32⟩
  | .hbm, ⟨48, _⟩ => ⟨S8192x1536, .f32⟩
  | .hbm, ⟨49, _⟩ => ⟨S8192x128, .f32⟩
  | .hbm, ⟨50, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== Kernel4.lean ====
abbrev S8192x1024 : Shape := ⟨2, ![8192, 1024]⟩
abbrev S8192x512 : Shape := ⟨2, ![8192, 512]⟩
abbrev S1x128 : Shape := ⟨2, ![1, 128]⟩
abbrev S1024x1024 : Shape := ⟨2, ![1024, 1024]⟩
abbrev S1x1024 : Shape := ⟨2, ![1, 1024]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1024 : Shape := ⟨1, ![1024]⟩
abbrev S128 : Shape := ⟨1, ![128]⟩
abbrev S512x384 : Shape := ⟨2, ![512, 384]⟩
abbrev S512x256 : Shape := ⟨2, ![512, 256]⟩

abbrev nBuf : Space → Nat
  | .hbm => 21
  | .vmem => 32
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S1x128, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S1x128, .f32⟩
  | .hbm, ⟨17, _⟩ => ⟨S1024x1024, .f32⟩
  | .hbm, ⟨18, _⟩ => ⟨S1x1024, .f32⟩
  | .hbm, ⟨19, _⟩ => ⟨S1x1024, .f32⟩
  | .hbm, ⟨20, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x128, .f32⟩
  | .local _ .vmem, ⟨11, _⟩ => ⟨S1024x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S1x128, .f32⟩
  | .local _ .vmem, ⟨28, _⟩ => ⟨S1024x1024, .f32⟩
  | .local _ .vmem, ⟨29, _⟩ => ⟨S1x1024, .f32⟩
  | .local _ .vmem, ⟨30, _⟩ => ⟨S1x1024, .f32⟩
  | .local _ .vmem, ⟨31, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev main_v0_7 : Ref sig .tc := ⟨.hbm, 18, rfl⟩
abbrev main_v0_8 : Ref sig .tc := ⟨.hbm, 19, rfl⟩
abbrev main_v0_9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem20_0 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Reference4Ideal.lean ====
abbrev S8192x1024 : Shape := ⟨2, ![8192, 1024]⟩
abbrev S8192x512 : Shape := ⟨2, ![8192, 512]⟩
abbrev S1x128 : Shape := ⟨2, ![1, 128]⟩
abbrev S1024x1024 : Shape := ⟨2, ![1024, 1024]⟩
abbrev S1x1024 : Shape := ⟨2, ![1, 1024]⟩
abbrev S_ : Shape := ⟨0, ![]⟩
abbrev S8192x4x128 : Shape := ⟨3, ![8192, 4, 128]⟩
abbrev S8192x4 : Shape := ⟨2, ![8192, 4]⟩
abbrev S8192x4x1 : Shape := ⟨3, ![8192, 4, 1]⟩
abbrev S1x1x128 : Shape := ⟨3, ![1, 1, 128]⟩
abbrev S8192 : Shape := ⟨1, ![8192]⟩
abbrev S8192x1 : Shape := ⟨2, ![8192, 1]⟩
abbrev S1024 : Shape := ⟨1, ![1024]⟩
abbrev S128 : Shape := ⟨1, ![128]⟩

abbrev nBuf : Space → Nat
  | .hbm => 161
  | .vmem => 0
  | .smem => 0
  | _ => 0

abbrev hbmTy0_0 (i : Nat) : BufTy := match i % 128 with
  | 0 => ⟨S8192x1024, .f32⟩
  | 1 => ⟨S8192x512, .f32⟩
  | 2 => ⟨S8192x512, .f32⟩
  | 3 => ⟨S8192x512, .f32⟩
  | 4 => ⟨S8192x512, .f32⟩
  | 5 => ⟨S1x128, .f32⟩
  | 6 => ⟨S1024x1024, .f32⟩
  | 7 => ⟨S1x1024, .f32⟩
  | 8 => ⟨S1x1024, .f32⟩
  | 9 => ⟨S1x1024, .f32⟩
  | 10 => ⟨S8192x1024, .f32⟩
  | 11 => ⟨S8192x512, .f32⟩
  | 12 => ⟨S8192x512, .f32⟩
  | 13 => ⟨S_, .f32⟩
  | 14 => ⟨S8192x512, .f32⟩
  | 15 => ⟨S8192x512, .f32⟩
  | 16 => ⟨S_, .f32⟩
  | 17 => ⟨S8192x512, .f32⟩
  | 18 => ⟨S8192x512, .f32⟩
  | 19 => ⟨S_, .f32⟩
  | 20 => ⟨S8192x512, .f32⟩
  | 21 => ⟨S8192x512, .f32⟩
  | 22 => ⟨S8192x512, .f32⟩
  | 23 => ⟨S8192x512, .f32⟩
  | 24 => ⟨S8192x512, .f32⟩
  | 25 => ⟨S8192x4x128, .f32⟩
  | 26 => ⟨S8192x4x128, .f32⟩
  | 27 => ⟨S_, .f32⟩
  | 28 => ⟨S8192x4, .f32⟩
  | 29 => ⟨S8192x4x1, .f32⟩
  | 30 => ⟨S_, .f32⟩
  | 31 => ⟨S8192x4x1, .f32⟩
  | 32 => ⟨S8192x4x1, .f32⟩
  | 33 => ⟨S_, .f32⟩
  | 34 => ⟨S8192x4x1, .f32⟩
  | 35 => ⟨S8192x4x1, .f32⟩
  | 36 => ⟨S8192x4x1, .f32⟩
  | 37 => ⟨S8192x4x1, .f32⟩
  | 38 => ⟨S_, .f32⟩
  | 39 => ⟨S8192x4x1, .f32⟩
  | 40 => ⟨S8192x4x1, .f32⟩
  | 41 => ⟨S8192x4x128, .f32⟩
  | 42 => ⟨S8192x4x128, .f32⟩
  | 43 => ⟨S1x1x128, .f32⟩
  | 44 => ⟨S8192x4x128, .f32⟩
  | 45 => ⟨S8192x4x128, .f32⟩
  | 46 => ⟨S8192x512, .f32⟩
  | 47 => ⟨S8192x512, .f32⟩
  | 48 => ⟨S8192x512, .f32⟩
  | 49 => ⟨S_, .f32⟩
  | 50 => ⟨S8192x512, .f32⟩
  | 51 => ⟨S8192x512, .f32⟩
  | 52 => ⟨S_, .f32⟩
  | 53 => ⟨S8192x512, .f32⟩
  | 54 => ⟨S8192x512, .f32⟩
  | 55 => ⟨S_, .f32⟩
  | 56 => ⟨S8192x512, .f32⟩
  | 57 => ⟨S8192x512, .f32⟩
  | 58 => ⟨S8192x512, .f32⟩
  | 59 => ⟨S8192x512, .f32⟩
  | 60 => ⟨S8192x512, .f32⟩
  | 61 => ⟨S8192x1024, .f32⟩
  | 62 => ⟨S8192x1024, .f32⟩
  | 63 => ⟨S1x1024, .f32⟩
  | 64 => ⟨S8192x1024, .f32⟩
  | 65 => ⟨S_, .f32⟩
  | 66 => ⟨S8192, .f32⟩
  | 67 => ⟨S8192x1, .f32⟩
  | 68 => ⟨S_, .f32⟩
  | 69 => ⟨S8192x1, .f32⟩
  | 70 => ⟨S8192x1, .f32⟩
  | 71 => ⟨S_, .f32⟩
  | 72 => ⟨S8192x1, .f32⟩
  | 73 => ⟨S8192x1, .f32⟩
  | 74 => ⟨S8192x1, .f32⟩
  | 75 => ⟨S8192x1, .f32⟩
  | 76 => ⟨S_, .f32⟩
  | 77 => ⟨S8192x1, .f32⟩
  | 78 => ⟨S8192x1, .f32⟩
  | 79 => ⟨S8192x1024, .f32⟩
  | 80 => ⟨S8192x1024, .f32⟩
  | 81 => ⟨S8192x1024, .f32⟩
  | 82 => ⟨S8192x1024, .f32⟩
  | 83 => ⟨S8192x1024, .f32⟩
  | 84 => ⟨S8192x1024, .f32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S_, .f32⟩
  | 91 => ⟨S1024, .f32⟩
  | 92 => ⟨S1x1024, .f32⟩
  | 93 => ⟨S8192x1024, .f32⟩
  | 94 => ⟨S_, .f32⟩
  | 95 => ⟨S1024, .f32⟩
  | 96 => ⟨S1x1024, .f32⟩
  | 97 => ⟨S8192x1024, .f32⟩
  | 98 => ⟨S8192x1024, .f32⟩
  | 99 => ⟨S8192x1024, .f32⟩
  | 100 => ⟨S_, .f32⟩
  | 101 => ⟨S8192, .f32⟩
  | 102 => ⟨S8192x1, .f32⟩
  | 103 => ⟨S8192x1024, .f32⟩
  | 104 => ⟨S8192x1024, .f32⟩
  | 105 => ⟨S8192x1, .f32⟩
  | 106 => ⟨S_, .f32⟩
  | 107 => ⟨S8192x1, .f32⟩
  | 108 => ⟨S8192x1, .f32⟩
  | 109 => ⟨S_, .f32⟩
  | 110 => ⟨S8192, .f32⟩
  | 111 => ⟨S8192x1024, .f32⟩
  | 112 => ⟨S8192x1024, .f32⟩
  | 113 => ⟨S8192x1024, .f32⟩
  | 114 => ⟨S8192x1024, .f32⟩
  | 115 => ⟨S8192x1024, .f32⟩
  | 116 => ⟨S1024x1024, .f32⟩
  | 117 => ⟨S1024x1024, .f32⟩
  | 118 => ⟨S8192x1024, .f32⟩
  | 119 => ⟨S8192x512, .f32⟩
  | 120 => ⟨S8192x512, .f32⟩
  | 121 => ⟨S8192x512, .f32⟩
  | 122 => ⟨S8192x512, .f32⟩
  | 123 => ⟨S8192x512, .f32⟩
  | 124 => ⟨S8192x512, .f32⟩
  | 125 => ⟨S8192x512, .f32⟩
  | 126 => ⟨S8192x512, .f32⟩
  | 127 => ⟨S8192x4x128, .f32⟩
  | _ => ⟨S8192x1024, .f32⟩

abbrev hbmTy0_1 (i : Nat) : BufTy := match i % 128 with
  | 0 => ⟨S8192x4x128, .f32⟩
  | 1 => ⟨S_, .f32⟩
  | 2 => ⟨S128, .f32⟩
  | 3 => ⟨S1x1x128, .f32⟩
  | 4 => ⟨S8192x4x128, .f32⟩
  | 5 => ⟨S8192x4x128, .f32⟩
  | 6 => ⟨S_, .f32⟩
  | 7 => ⟨S128, .f32⟩
  | 8 => ⟨S1x128, .f32⟩
  | 9 => ⟨S8192x4x128, .f32⟩
  | 10 => ⟨S_, .f32⟩
  | 11 => ⟨S8192x4, .f32⟩
  | 12 => ⟨S8192x4x1, .f32⟩
  | 13 => ⟨S8192x4x128, .f32⟩
  | 14 => ⟨S8192x4x128, .f32⟩
  | 15 => ⟨S8192x4x1, .f32⟩
  | 16 => ⟨S_, .f32⟩
  | 17 => ⟨S8192x4x1, .f32⟩
  | 18 => ⟨S8192x4x1, .f32⟩
  | 19 => ⟨S_, .f32⟩
  | 20 => ⟨S8192x4, .f32⟩
  | 21 => ⟨S8192x4x128, .f32⟩
  | 22 => ⟨S8192x4x128, .f32⟩
  | 23 => ⟨S8192x4x128, .f32⟩
  | 24 => ⟨S8192x4x128, .f32⟩
  | 25 => ⟨S8192x4x128, .f32⟩
  | 26 => ⟨S8192x512, .f32⟩
  | 27 => ⟨S8192x512, .f32⟩
  | 28 => ⟨S8192x512, .f32⟩
  | 29 => ⟨S8192x512, .f32⟩
  | 30 => ⟨S8192x512, .f32⟩
  | 31 => ⟨S8192x512, .f32⟩
  | 32 => ⟨S8192x512, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v0_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v0_1 : Ref sig .tc := ⟨.hbm, 22, rfl⟩
abbrev main_v0_0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_v5 : Ref sig .tc := ⟨.hbm, 29, rfl⟩
abbrev main_cst_0 : Ref sig .tc := ⟨.hbm, 30, rfl⟩
abbrev main_v6 : Ref sig .tc := ⟨.hbm, 31, rfl⟩
abbrev main_v7 : Ref sig .tc := ⟨.hbm, 32, rfl⟩
abbrev main_cst_1 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst_2 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_v20_2 : Ref sig .tc := ⟨.hbm, 54, rfl⟩
abbrev main_call1_cst_1 : Ref sig .tc := ⟨.hbm, 55, rfl⟩
abbrev main_call1_v6 : Ref sig .tc := ⟨.hbm, 56, rfl⟩
abbrev main_call1_v7 : Ref sig .tc := ⟨.hbm, 57, rfl⟩
abbrev main_v20_1 : Ref sig .tc := ⟨.hbm, 58, rfl⟩
abbrev main_v20_0 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_cst_3 : Ref sig .tc := ⟨.hbm, 65, rfl⟩
abbrev main_v26 : Ref sig .tc := ⟨.hbm, 66, rfl⟩
abbrev main_v27 : Ref sig .tc := ⟨.hbm, 67, rfl⟩
abbrev main_cst_4 : Ref sig .tc := ⟨.hbm, 68, rfl⟩
abbrev main_v28 : Ref sig .tc := ⟨.hbm, 69, rfl⟩
abbrev main_v29 : Ref sig .tc := ⟨.hbm, 70, rfl⟩
abbrev main_cst_5 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_cst_6 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_cst_7 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_cst_8 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_cst_9 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_cst_10 : Ref sig .tc := ⟨.hbm, 106, rfl⟩
abbrev main_v60 : Ref sig .tc := ⟨.hbm, 107, rfl⟩
abbrev main_v61 : Ref sig .tc := ⟨.hbm, 108, rfl⟩
abbrev main_cst_11 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_call2_v0 : Ref sig .tc := ⟨.hbm, 123, rfl⟩
abbrev main_call2_v1 : Ref sig .tc := ⟨.hbm, 124, rfl⟩
abbrev main_call2_v2 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_cst_12 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_cst_13 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_cst_14 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_cst_15 : Ref sig .tc := ⟨.hbm, 144, rfl⟩
abbrev main_v90 : Ref sig .tc := ⟨.hbm, 145, rfl⟩
abbrev main_v91 : Ref sig .tc := ⟨.hbm, 146, rfl⟩
abbrev main_cst_16 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_call3_v0 : Ref sig .tc := ⟨.hbm, 157, rfl⟩
abbrev main_call3_v1 : Ref sig .tc := ⟨.hbm, 158, rfl⟩
abbrev main_call3_v2 : Ref sig .tc := ⟨.hbm, 159, rfl⟩
abbrev main_v101 : Ref sig .tc := ⟨.hbm, 160, rfl⟩

abbrev nD : Nat := 1
abbrev τ : Topo := Topo.v7x

variable {F : FTy → Type} [FloatOps F]
-- ==== Kernel5.lean ====
abbrev S8192x1024 : Shape := ⟨2, ![8192, 1024]⟩
abbrev S8192x512 : Shape := ⟨2, ![8192, 512]⟩
abbrev S1x128 : Shape := ⟨2, ![1, 128]⟩
abbrev S1024x1024 : Shape := ⟨2, ![1024, 1024]⟩
abbrev S1x1024 : Shape := ⟨2, ![1, 1024]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 11
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S1x128, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x128, .f32⟩
  | .local _ .vmem, ⟨11, _⟩ => ⟨S1024x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S8192x1024 : Shape := ⟨2, ![8192, 1024]⟩
abbrev S8192x512 : Shape := ⟨2, ![8192, 512]⟩
abbrev S1x128 : Shape := ⟨2, ![1, 128]⟩
abbrev S1024x1024 : Shape := ⟨2, ![1024, 1024]⟩
abbrev S1x1024 : Shape := ⟨2, ![1, 1024]⟩
abbrev S_ : Shape := ⟨0, ![]⟩
abbrev S8192x4x128 : Shape := ⟨3, ![8192, 4, 128]⟩
abbrev S8192x4 : Shape := ⟨2, ![8192, 4]⟩
abbrev S8192x4x1 : Shape := ⟨3, ![8192, 4, 1]⟩
abbrev S1x1x128 : Shape := ⟨3, ![1, 1, 128]⟩
abbrev S8192 : Shape := ⟨1, ![8192]⟩
abbrev S8192x1 : Shape := ⟨2, ![8192, 1]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S1x128, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x4x128, .f32⟩
  | .hbm, ⟨21, _⟩ => ⟨S8192x4x128, .f32⟩
  | .hbm, ⟨22, _⟩ => ⟨S_, .f32⟩
  | .hbm, ⟨23, _⟩ => ⟨S8192x4, .f32⟩
  | .hbm, ⟨24, _⟩ => ⟨S8192x4x1, .f32⟩
  | .hbm, ⟨25, _⟩ => ⟨S_, .f32⟩
  | .hbm, ⟨26, _⟩ => ⟨S8192x4x1, .f32⟩
  | .hbm, ⟨27, _⟩ => ⟨S8192x4x1, .f32⟩
  | .hbm, ⟨28, _⟩ => ⟨S_, .f32⟩
  | .hbm, ⟨29, _⟩ => ⟨S8192x4x1, .f32⟩
  | .hbm, ⟨30, _⟩ => ⟨S8192x4x1, .f32⟩
  | .hbm, ⟨31, _⟩ => ⟨S8192x4x1, .f32⟩
  | .hbm, ⟨32, _⟩ => ⟨S8192x4x128, .f32⟩
  | .hbm, ⟨33, _⟩ => ⟨S8192x4x128, .f32⟩
  | .hbm, ⟨34, _⟩ => ⟨S1x1x128, .f32⟩
  | .hbm, ⟨35, _⟩ => ⟨S8192x4x128, .f32⟩
  | .hbm, ⟨36, _⟩ => ⟨S8192x4x128, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S_, .f32⟩
  | .hbm, ⟨41, _⟩ => ⟨S8192x512, .f32⟩
  | .hbm, ⟨42, _⟩ => ⟨S8192x512, .f32⟩
  | .hbm, ⟨43, _⟩ => ⟨S_, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x1024, .f32⟩
  | .hbm, ⟨49, _⟩ => ⟨S8192x1024, .f32⟩
  | .hbm, ⟨50, _⟩ => ⟨S1x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_2 : Ref sig .tc := ⟨.hbm, 52, rfl⟩
abbrev main_v23 : Ref sig .tc := ⟨.hbm, 53, rfl⟩
abbrev main_v24 : Ref sig .tc := ⟨.hbm, 54, rfl⟩
abbrev main_cst_3 : Ref sig .tc := ⟨.hbm, 55, rfl⟩
abbrev main_v25 : Ref sig .tc := ⟨.hbm, 56, rfl⟩
abbrev main_v26 : Ref sig .tc := ⟨.hbm, 57, rfl⟩
abbrev main_cst_4 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩

abbrev nD : Nat := 1
abbrev τ : Topo := Topo.v7x

variable {F : FTy → Type} [FloatOps F]
-- ==== Kernel6.lean ====
abbrev S8192x384 : Shape := ⟨2, ![8192, 384]⟩
abbrev S8192x256 : Shape := ⟨2, ![8192, 256]⟩
abbrev S8192x128 : Shape := ⟨2, ![8192, 128]⟩
abbrev S1x384 : Shape := ⟨2, ![1, 384]⟩
abbrev S384x1024 : Shape := ⟨2, ![384, 1024]⟩
abbrev S1x256 : Shape := ⟨2, ![1, 256]⟩
abbrev S256x1024 : Shape := ⟨2, ![256, 1024]⟩
abbrev S8192x1024 : Shape := ⟨2, ![8192, 1024]⟩
abbrev S8192x512 : Shape := ⟨2, ![8192, 512]⟩
abbrev S512x384 : Shape := ⟨2, ![512, 384]⟩
abbrev S512x256 : Shape := ⟨2, ![512, 256]⟩
abbrev S512x128 : Shape := ⟨2, ![512, 128]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x768 : Shape := ⟨2, ![512, 768]⟩
abbrev S512x896 : Shape := ⟨2, ![512, 896]⟩
abbrev S512x640 : Shape := ⟨2, ![512, 640]⟩
abbrev S256 : Shape := ⟨1, ![256]⟩
abbrev S384 : Shape := ⟨1, ![384]⟩

abbrev nBuf : Space → Nat
  | .hbm => 19
  | .vmem => 30
  | .smem => 0
  | _ => 0

abbrev bufTy : (tb : Table) → Fin (tcTables nBuf tb) → BufTy
  | .hbm, ⟨0, _⟩ => ⟨S8192x384, .f32⟩
  | .hbm, ⟨1, _⟩ => ⟨S8192x256, .f32⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S1x384, .f32⟩
  | .hbm, ⟨6, _⟩ => ⟨S384x1024, .f32⟩
  | .hbm, ⟨7, _⟩ => ⟨S1x256, .f32⟩
  | .hbm, ⟨8, _⟩ => ⟨S256x1024, .f32⟩
  | .hbm, ⟨9, _⟩ => ⟨S8192x1024, .f32⟩
  | .hbm, ⟨10, _⟩ => ⟨S8192x1024, .f32⟩
  | .hbm, ⟨11, _⟩ => ⟨S8192x512, .f32⟩
  | .hbm, ⟨12, _⟩ => ⟨S8192x384, .f32⟩
  | .hbm, ⟨13, _⟩ => ⟨S8192x256, .f32⟩
  | .hbm, ⟨14, _⟩ => ⟨S8192x128, .f32⟩
  | .hbm, ⟨15, _⟩ => ⟨S1x384, .f32⟩
  | .hbm, ⟨16, _⟩ => ⟨S384x1024, .f32⟩
  | .hbm, ⟨17, _⟩ => ⟨S1x256, .f32⟩
  | .hbm, ⟨18, _⟩ => ⟨S256x1024, .f32⟩
  | .local _ .vmem, ⟨0, _⟩ => ⟨S512x384, .f32⟩
  | .local _ .vmem, ⟨1, _⟩ => ⟨S512x384, .f32⟩
  | .local _ .vmem, ⟨2, _⟩ => ⟨S512x256, .f32⟩
  | .local _ .vmem, ⟨3, _⟩ => ⟨S512x256, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x384, .f32⟩
  | .local _ .vmem, ⟨11, _⟩ => ⟨S384x1024, .f32⟩
  | .local _ .vmem, ⟨12, _⟩ => ⟨S1x256, .f32⟩
  | .local _ .vmem, ⟨13, _⟩ => ⟨S256x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x512, .f32⟩
  | .local _ .vmem, ⟨19, _⟩ => ⟨S512x512, .f32⟩
  | .local _ .vmem, ⟨20, _⟩ => ⟨S512x384, .f32⟩
  | .local _ .vmem, ⟨21, _⟩ => ⟨S512x384, .f32⟩
  | .local _ .vmem, ⟨22, _⟩ => ⟨S512x256, .f32⟩
  | .local _ .vmem, ⟨23, _⟩ => ⟨S512x256, .f32⟩
  | .local _ .vmem, ⟨24, _⟩ => ⟨S512x128, .f32⟩
  | .local _ .vmem, ⟨25, _⟩ => ⟨S512x128, .f32⟩
  | .local _ .vmem, ⟨26, _⟩ => ⟨S1x384, .f32⟩
  | .local _ .vmem, ⟨27, _⟩ => ⟨S384x1024, .f32⟩
  | .local _ .vmem, ⟨28, _⟩ => ⟨S1x256, .f32⟩
  | .local _ .vmem, ⟨29, _⟩ => ⟨S256x1024, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem17_0 : DmaSem sig := 28
abbrev cc0_sem18_0 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S384x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference6Ideal.lean ====
abbrev S8192x384 : Shape := ⟨2, ![8192, 384]⟩
abbrev S8192x256 : Shape := ⟨2, ![8192, 256]⟩
abbrev S8192x128 : Shape := ⟨2, ![8192, 128]⟩
abbrev S1x384 : Shape := ⟨2, ![1, 384]⟩
abbrev S384x1024 : Shape := ⟨2, ![384, 1024]⟩
abbrev S1x256 : Shape := ⟨2, ![1, 256]⟩
abbrev S256x1024 : Shape := ⟨2, ![256, 1024]⟩
abbrev S8192x1024 : Shape := ⟨2, ![8192, 1024]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S8192x4x256 : Shape := ⟨3, ![8192, 4, 256]⟩
abbrev S8192x4x128 : Shape := ⟨3, ![8192, 4, 128]⟩
abbrev S8192x1x128 : Shape := ⟨3, ![8192, 1, 128]⟩
abbrev S8192x4x64 : Shape := ⟨3, ![8192, 4, 64]⟩
abbrev S8192x1x64 : Shape := ⟨3, ![8192, 1, 64]⟩
abbrev S8192x64 : Shape := ⟨2, ![8192, 64]⟩
abbrev S1024x256 : Shape := ⟨2, ![1024, 256]⟩
abbrev S256 : Shape := ⟨1, ![256]⟩
abbrev S1024x384 : Shape := ⟨2, ![1024, 384]⟩
abbrev S384 : Shape := ⟨1, ![384]⟩

abbrev nBuf : Space → Nat
  | .hbm => 201
  | .vmem => 0
  | .smem => 0
  | _ => 0

abbrev hbmTy0_0 (i : Nat) : BufTy := match i % 128 with
  | 0 => ⟨S8192x384, .f32⟩
  | 1 => ⟨S8192x256, .f32⟩
  | 2 => ⟨S8192x128, .f32⟩
  | 3 => ⟨S8192x128, .f32⟩
  | 4 => ⟨S8192x128, .f32⟩
  | 5 => ⟨S1x384, .f32⟩
  | 6 => ⟨S384x1024, .f32⟩
  | 7 => ⟨S1x256, .f32⟩
  | 8 => ⟨S256x1024, .f32⟩
  | 9 => ⟨S8192x1024, .f32⟩
  | 10 => ⟨S8192x1024, .f32⟩
  | 11 => ⟨S8192x512, .f32⟩
  | 12 => ⟨S8192x384, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1, .f32⟩
  | 23 => ⟨S8192x1, .f32⟩
  | 24 => ⟨S_, .f32⟩
  | 25 => ⟨S8192x1, .f32⟩
  | 26 => ⟨S8192x1, .f32⟩
  | 27 => ⟨S8192x384, .f32⟩
  | 28 => ⟨S8192x384, .f32⟩
  | 29 => ⟨S8192x384, .f32⟩
  | 30 => ⟨S8192x384, .f32⟩
  | 31 => ⟨S8192x1024, .f32⟩
  | 32 => ⟨S8192x4x256, .f32⟩
  | 33 => ⟨S8192x256, .f32⟩
  | 34 => ⟨S_, .f32⟩
  | 35 => ⟨S8192, .f32⟩
  | 36 => ⟨S8192x1, .f32⟩
  | 37 => ⟨S_, .f32⟩
  | 38 => ⟨S8192x1, .f32⟩
  | 39 => ⟨S8192x1, .f32⟩
  | 40 => ⟨S_, .f32⟩
  | 41 => ⟨S8192x1, .f32⟩
  | 42 => ⟨S8192x1, .f32⟩
  | 43 => ⟨S8192x1, .f32⟩
  | 44 => ⟨S8192x1, .f32⟩
  | 45 => ⟨S_, .f32⟩
  | 46 => ⟨S8192x1, .f32⟩
  | 47 => ⟨S8192x1, .f32⟩
  | 48 => ⟨S8192x256, .f32⟩
  | 49 => ⟨S8192x256, .f32⟩
  | 50 => ⟨S8192x256, .f32⟩
  | 51 => ⟨S8192x256, .f32⟩
  | 52 => ⟨S8192x1024, .f32⟩
  | 53 => ⟨S8192x4x128, .f32⟩
  | 54 => ⟨S8192x4x128, .f32⟩
  | 55 => ⟨S8192x1x128, .f32⟩
  | 56 => ⟨S8192x1x128, .f32⟩
  | 57 => ⟨S8192x4x64, .f32⟩
  | 58 => ⟨S8192x4x64, .f32⟩
  | 59 => ⟨S8192x1x64, .f32⟩
  | 60 => ⟨S8192x4x64, .f32⟩
  | 61 => ⟨S8192x4x64, .f32⟩
  | 62 => ⟨S8192x1x64, .f32⟩
  | 63 => ⟨S8192x4x64, .f32⟩
  | 64 => ⟨S8192x4x64, .f32⟩
  | 65 => ⟨S8192x4x64, .f32⟩
  | 66 => ⟨S8192x1x64, .f32⟩
  | 67 => ⟨S8192x4x64, .f32⟩
  | 68 => ⟨S8192x4x64, .f32⟩
  | 69 => ⟨S8192x1x64, .f32⟩
  | 70 => ⟨S8192x4x64, .f32⟩
  | 71 => ⟨S8192x4x64, .f32⟩
  | 72 => ⟨S8192x4x64, .f32⟩
  | 73 => ⟨S8192x4x128, .f32⟩
  | 74 => ⟨S8192x4x256, .f32⟩
  | 75 => ⟨S8192x64, .f32⟩
  | 76 => ⟨S8192x64, .f32⟩
  | 77 => ⟨S8192x64, .f32⟩
  | 78 => ⟨S8192x64, .f32⟩
  | 79 => ⟨S8192x64, .f32⟩
  | 80 => ⟨S8192x64, .f32⟩
  | 81 => ⟨S8192x64, .f32⟩
  | 82 => ⟨S8192x64, .f32⟩
  | 83 => ⟨S8192x64, .f32⟩
  | 84 => ⟨S8192x64, .f32⟩
  | 85 => ⟨S8192x64, .f32⟩
  | 86 => ⟨S8192x64, .f32⟩
  | 87 => ⟨S8192x128, .f32⟩
  | 88 => ⟨S8192x1x128, .f32⟩
  | 89 => ⟨S8192x4x128, .f32⟩
  | 90 => ⟨S8192x512, .f32⟩
  | 91 => ⟨S8192x4x128, .f32⟩
  | 92 => ⟨S8192x4x256, .f32⟩
  | 93 => ⟨S8192x1024, .f32⟩
  | 94 => ⟨S8192x1024, .f32⟩
  | 95 => ⟨S8192x512, .f32⟩
  | 96 => ⟨S_, .f32⟩
  | 97 => ⟨S8192x1024, .f32⟩
  | 98 => ⟨S8192x4x256, .f32⟩
  | 99 => ⟨S8192x4x256, .f32⟩
  | 100 => ⟨S8192x4x128, .f32⟩
  | 101 => ⟨S8192x4x128, .f32⟩
  | 102 => ⟨S8192x512, .f32⟩
  | 103 => ⟨S_, .f32⟩
  | 104 => ⟨S8192x1024, .f32⟩
  | 105 => ⟨S8192x1024, .f32⟩
  | 106 => ⟨S_, .f32⟩
  | 107 => ⟨S8192x128, .f32⟩
  | 108 => ⟨S8192x1x128, .f32⟩
  | 109 => ⟨S_, .f32⟩
  | 110 => ⟨S8192x128, .f32⟩
  | 111 => ⟨S8192x64, .f32⟩
  | 112 => ⟨S8192x64, .f32⟩
  | 113 => ⟨S8192x64, .f32⟩
  | 114 => ⟨S8192x64, .f32⟩
  | 115 => ⟨S8192x64, .f32⟩
  | 116 => ⟨S8192x64, .f32⟩
  | 117 => ⟨S8192x64, .f32⟩
  | 118 => ⟨S8192x64, .f32⟩
  | 119 => ⟨S_, .f32⟩
  | 120 => ⟨S8192x128, .f32⟩
  | 121 => ⟨S_, .f32⟩
  | 122 => ⟨S8192x128, .f32⟩
  | 123 => ⟨S8192x128, .f32⟩
  | 124 => ⟨S8192x4x128, .f32⟩
  | 125 => ⟨S8192x4x128, .f32⟩
  | 126 => ⟨S8192x4x64, .f32⟩
  | 127 => ⟨S8192x4x64, .f32⟩
  | _ => ⟨S8192x384, .f32⟩

abbrev hbmTy0_1 (i : Nat) : BufTy := match i % 128 with
  | 0 => ⟨S8192x4x64, .f32⟩
  | 1 => ⟨S8192x4x64, .f32⟩
  | 2 => ⟨S8192x4x64, .f32⟩
  | 3 => ⟨S8192x4x64, .f32⟩
  | 4 => ⟨S8192x4x64, .f32⟩
  | 5 => ⟨S8192x4x64, .f32⟩
  | 6 => ⟨S8192x4x64, .f32⟩
  | 7 => ⟨S8192x4x64, .f32⟩
  | 8 => ⟨S8192x4x64, .f32⟩
  | 9 => ⟨S8192x4x64, .f32⟩
  | 10 => ⟨S_, .f32⟩
  | 11 => ⟨S8192x4x128, .f32⟩
  | 12 => ⟨S_, .f32⟩
  | 13 => ⟨S8192x4x128, .f32⟩
  | 14 => ⟨S8192x4x128, .f32⟩
  | 15 => ⟨S_, .f32⟩
  | 16 => ⟨S8192x4x256, .f32⟩
  | 17 => ⟨S_, .f32⟩
  | 18 => ⟨S8192x4x256, .f32⟩
  | 19 => ⟨S8192x4x256, .f32⟩
  | 20 => ⟨S1024x256, .f32⟩
  | 21 => ⟨S256x1024, .f32⟩
  | 22 => ⟨S8192x256, .f32⟩
  | 23 => ⟨S8192x256, .f32⟩
  | 24 => ⟨S_, .f32⟩
  | 25 => ⟨S256, .f32⟩
  | 26 => ⟨S1x256, .f32⟩
  | 27 => ⟨S8192x256, .f32⟩
  | 28 => ⟨S8192x256, .f32⟩
  | 29 => ⟨S8192x256, .f32⟩
  | 30 => ⟨S_, .f32⟩
  | 31 => ⟨S8192, .f32⟩
  | 32 => ⟨S8192x1, .f32⟩
  | 33 => ⟨S8192x256, .f32⟩
  | 34 => ⟨S8192x256, .f32⟩
  | 35 => ⟨S8192x1, .f32⟩
  | 36 => ⟨S_, .f32⟩
  | 37 => ⟨S8192x1, .f32⟩
  | 38 => ⟨S8192x1, .f32⟩
  | 39 => ⟨S_, .f32⟩
  | 40 => ⟨S8192, .f32⟩
  | 41 => ⟨S8192x256, .f32⟩
  | 42 => ⟨S8192x256, .f32⟩
  | 43 => ⟨S8192x256, .f32⟩
  | 44 => ⟨S8192x256, .f32⟩
  | 45 => ⟨S8192x256, .f32⟩
  | 46 => ⟨S8192x1024, .f32⟩
  | 47 => ⟨S1024x384, .f32⟩
  | 48 => ⟨S384x1024, .f32⟩
  | 49 => ⟨S8192x384, .f32⟩
  | 50 => ⟨S8192x384, .f32⟩
  | 51 => ⟨S_, .f32⟩
  | 52 => ⟨S384, .f32⟩
  | 53 => ⟨S1x384, .f32⟩
  | 54 => ⟨S8192x384, .f32⟩
  | 55 => ⟨S8192x384, .f32⟩
  | 56 => ⟨S8192x384, .f32⟩
  | 57 => ⟨S_, .f32⟩
  | 58 => ⟨S8192, .f32⟩
  | 59 => ⟨S8192x1, .f32⟩
  | 60 => ⟨S8192x384, .f32⟩
  | 61 => ⟨S8192x384, .f32⟩
  | 62 => ⟨S8192x1, .f32⟩
  | 63 => ⟨S_, .f32⟩
  | 64 => ⟨S8192x1, .f32⟩
  | 65 => ⟨S8192x1, .f32⟩
  | 66 => ⟨S_, .f32⟩
  | 67 => ⟨S8192, .f32⟩
  | 68 => ⟨S8192x384, .f32⟩
  | 69 => ⟨S8192x384, .f32⟩
  | 70 => ⟨S8192x384, .f32⟩
  | 71 => ⟨S8192x384, .f32⟩
  | 72 => ⟨S8192x384, .f32⟩
  | _ => ⟨S8192x384, .f32⟩

abbrev hbmTy (i : Nat) : BufTy := match i / 128 with
  | 0 => hbmTy0_0 i
  | 1 => hbmTy0_1 i
  | _ => ⟨S8192x384, .f32⟩

abbrev bufTy : (tb : Table) → Fin (tcTables nBuf tb) → BufTy
  | .hbm, ⟨i, _⟩ => hbmTy i
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_7 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_8 : Ref sig .tc := ⟨.hbm, 103, rfl⟩
abbrev main_v82 : Ref sig .tc := ⟨.hbm, 104, rfl⟩
abbrev main_v83 : Ref sig .tc := ⟨.hbm, 105, rfl⟩
abbrev main_cst_9 : Ref sig .tc := ⟨.hbm, 106, rfl⟩
abbrev main_v84 : Ref sig .tc := ⟨.hbm, 107, rfl⟩
abbrev main_v85 : Ref sig .tc := ⟨.hbm, 108, rfl⟩
abbrev main_cst_10 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_cst_11 : Ref sig .tc := ⟨.hbm, 119, rfl⟩
abbrev main_v95 : Ref sig .tc := ⟨.hbm, 120, rfl⟩
abbrev main_cst_12 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_cst_13 : Ref sig .tc := ⟨.hbm, 138, rfl⟩
abbrev main_v112 : Ref sig .tc := ⟨.hbm, 139, rfl⟩
abbrev main_cst_14 : Ref sig .tc := ⟨.hbm, 140, rfl⟩
abbrev main_v113 : Ref sig .tc := ⟨.hbm, 141, rfl⟩
abbrev main_v114 : Ref sig .tc := ⟨.hbm, 142, rfl⟩
abbrev main_cst_15 : Ref sig .tc := ⟨.hbm, 143, rfl⟩
abbrev main_v115 : Ref sig .tc := ⟨.hbm, 144, rfl⟩
abbrev main_cst_16 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_cst_17 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_cst_18 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_cst_19 : Ref sig .tc := ⟨.hbm, 164, rfl⟩
abbrev main_v132 : Ref sig .tc := ⟨.hbm, 165, rfl⟩
abbrev main_v133 : Ref sig .tc := ⟨.hbm, 166, rfl⟩
abbrev main_cst_20 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_cst_21 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_cst_22 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_cst_23 : Ref sig .tc := ⟨.hbm, 191, rfl⟩
abbrev main_v155 : Ref sig .tc := ⟨.hbm, 192, rfl⟩
abbrev main_v156 : Ref sig .tc := ⟨.hbm, 193, rfl⟩
abbrev main_cst_24 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩

abbrev nD : Nat := 1
abbrev τ : Topo := Topo.v7x

variable {F : FTy → Type} [FloatOps F]
-- ==== Kernel7.lean ====
abbrev S8192x384 : Shape := ⟨2, ![8192, 384]⟩
abbrev S8192x256 : Shape := ⟨2, ![8192, 256]⟩
abbrev S8192x128 : Shape := ⟨2, ![8192, 128]⟩
abbrev S1x384 : Shape := ⟨2, ![1, 384]⟩
abbrev S384x1024 : Shape := ⟨2, ![384, 1024]⟩
abbrev S1x256 : Shape := ⟨2, ![1, 256]⟩
abbrev S256x1024 : Shape := ⟨2, ![256, 1024]⟩
abbrev S8192x1024 : Shape := ⟨2, ![8192, 1024]⟩
abbrev S8192x512 : Shape := ⟨2, ![8192, 512]⟩
abbrev S512x384 : Shape := ⟨2, ![512, 384]⟩
abbrev S512x256 : Shape := ⟨2, ![512, 256]⟩
abbrev S512x128 : Shape := ⟨2, ![512, 128]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 20
  | .smem => 0
  | _ => 0

abbrev bufTy : (tb : Table) → Fin (tcTables nBuf tb) → BufTy
  | .hbm, ⟨0, _⟩ => ⟨S8192x384, .f32⟩
  | .hbm, ⟨1, _⟩ => ⟨S8192x256, .f32⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S1x384, .f32⟩
  | .hbm, ⟨6, _⟩ => ⟨S384x1024, .f32⟩
  | .hbm, ⟨7, _⟩ => ⟨S1x256, .f32⟩
  | .hbm, ⟨8, _⟩ => ⟨S256x1024, .f32⟩
  | .hbm, ⟨9, _⟩ => ⟨S8192x1024, .bf16⟩
  | .hbm, ⟨10, _⟩ => ⟨S8192x1024, .bf16⟩
  | .hbm, ⟨11, _⟩ => ⟨S8192x512, .bf16⟩
  | .local _ .vmem, ⟨0, _⟩ => ⟨S512x384, .f32⟩
  | .local _ .vmem, ⟨1, _⟩ => ⟨S512x384, .f32⟩
  | .local _ .vmem, ⟨2, _⟩ => ⟨S512x256, .f32⟩
  | .local _ .vmem, ⟨3, _⟩ => ⟨S512x256, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x384, .f32⟩
  | .local _ .vmem, ⟨11, _⟩ => ⟨S384x1024, .f32⟩
  | .local _ .vmem, ⟨12, _⟩ => ⟨S1x256, .f32⟩
  | .local _ .vmem, ⟨13, _⟩ => ⟨S256x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x512, .bf16⟩
  | .local _ .vmem, ⟨19, _⟩ => ⟨S512x512, .bf16⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference7Ideal.lean ====
abbrev S8192x384 : Shape := ⟨2, ![8192, 384]⟩
abbrev S8192x256 : Shape := ⟨2, ![8192, 256]⟩
abbrev S8192x128 : Shape := ⟨2, ![8192, 128]⟩
abbrev S1x384 : Shape := ⟨2, ![1, 384]⟩
abbrev S384x1024 : Shape := ⟨2, ![384, 1024]⟩
abbrev S1x256 : Shape := ⟨2, ![1, 256]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S8192x1024 : Shape := ⟨2, ![8192, 1024]⟩
abbrev S8192x4x256 : Shape := ⟨3, ![8192, 4, 256]⟩
abbrev S8192x4x128 : Shape := ⟨3, ![8192, 4, 128]⟩
abbrev S8192x1x128 : Shape := ⟨3, ![8192, 1, 128]⟩
abbrev S8192x4x64 : Shape := ⟨3, ![8192, 4, 64]⟩
abbrev S8192x1x64 : Shape := ⟨3, ![8192, 1, 64]⟩
abbrev S8192x64 : Shape := ⟨2, ![8192, 64]⟩
abbrev S8192x512 : Shape := ⟨2, ![8192, 512]⟩

abbrev nBuf : Space → Nat
  | .hbm => 88
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S8192x256, .f32⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S1x384, .f32⟩
  | .hbm, ⟨6, _⟩ => ⟨S384x1024, .f32⟩
  | .hbm, ⟨7, _⟩ => ⟨S1x256, .f32⟩
  | .hbm, ⟨8, _⟩ => ⟨S256x1024, .f32⟩
  | .hbm, ⟨9, _⟩ => ⟨S8192x384, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x384, .f32⟩
  | .hbm, ⟨21, _⟩ => ⟨S8192x384, .f32⟩
  | .hbm, ⟨22, _⟩ => ⟨S8192x384, .f32⟩
  | .hbm, ⟨23, _⟩ => ⟨S8192x384, .f32⟩
  | .hbm, ⟨24, _⟩ => ⟨S8192x1024, .f32⟩
  | .hbm, ⟨25, _⟩ => ⟨S8192x4x256, .f32⟩
  | .hbm, ⟨26, _⟩ => ⟨S8192x256, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x256, .f32⟩
  | .hbm, ⟨38, _⟩ => ⟨S8192x256, .f32⟩
  | .hbm, ⟨39, _⟩ => ⟨S8192x256, .f32⟩
  | .hbm, ⟨40, _⟩ => ⟨S8192x256, .f32⟩
  | .hbm, ⟨41, _⟩ => ⟨S8192x1024, .f32⟩
  | .hbm, ⟨42, _⟩ => ⟨S8192x4x128, .f32⟩
  | .hbm, ⟨43, _⟩ => ⟨S8192x4x128, .f32⟩
  | .hbm, ⟨44, _⟩ => ⟨S8192x1x128, .f32⟩
  | .hbm, ⟨45, _⟩ => ⟨S8192x1x128, .f32⟩
  | .hbm, ⟨46, _⟩ => ⟨S8192x4x64, .f32⟩
  | .hbm, ⟨47, _⟩ => ⟨S8192x4x64, .f32⟩
  | .hbm, ⟨48, _⟩ => ⟨S8192x1x64, .f32⟩
  | .hbm, ⟨49, _⟩ => ⟨S8192x4x64, .f32⟩
  | .hbm, ⟨50, _⟩ => ⟨S8192x4x64, .f32⟩
  | .hbm, ⟨51, _⟩ => ⟨S8192x1x64, .f32⟩
  | .hbm, ⟨52, _⟩ => ⟨S8192x4x64, .f32⟩
  | .hbm, ⟨53, _⟩ => ⟨S8192x4x64, .f32⟩
  | .hbm, ⟨54, _⟩ => ⟨S8192x4x64, .f32⟩
  | .hbm, ⟨55, _⟩ => ⟨S8192x1x64, .f32⟩
  | .hbm, ⟨56, _⟩ => ⟨S8192x4x64, .f32⟩
  | .hbm, ⟨57, _⟩ => ⟨S8192x4x64, .f32⟩
  | .hbm, ⟨58, _⟩ => ⟨S8192x1x64, .f32⟩
  | .hbm, ⟨59, _⟩ => ⟨S8192x4x64, .f32⟩
  | .hbm, ⟨60, _⟩ => ⟨S8192x4x64, .f32⟩
  | .hbm, ⟨61, _⟩ => ⟨S8192x4x64, .f32⟩
  | .hbm, ⟨62, _⟩ => ⟨S8192x4x128, .f32⟩
  | .hbm, ⟨63, _⟩ => ⟨S8192x4x256, .f32⟩
  | .hbm, ⟨64, _⟩ => ⟨S8192x64, .f32⟩
  | .hbm, ⟨65, _⟩ => ⟨S8192x64, .f32⟩
  | .hbm, ⟨66, _⟩ => ⟨S8192x64, .f32⟩
  | .hbm, ⟨67, _⟩ => ⟨S8192x64, .f32⟩
  | .hbm, ⟨68, _⟩ => ⟨S8192x64, .f32⟩
  | .hbm, ⟨69, _⟩ => ⟨S8192x64, .f32⟩
  | .hbm, ⟨70, _⟩ => ⟨S8192x64, .f32⟩
  | .hbm, ⟨71, _⟩ => ⟨S8192x64, .f32⟩
  | .hbm, ⟨72, _⟩ => ⟨S8192x64, .f32⟩
  | .hbm, ⟨73, _⟩ => ⟨S8192x64, .f32⟩
  | .hbm, ⟨74, _⟩ => ⟨S8192x64, .f32⟩
  | .hbm, ⟨75, _⟩ => ⟨S8192x64, .f32⟩
  | .hbm, ⟨76, _⟩ => ⟨S8192x128, .f32⟩
  | .hbm, ⟨77, _⟩ => ⟨S8192x1x128, .f32⟩
  | .hbm, ⟨78, _⟩ => ⟨S8192x4x128, .f32⟩
  | .hbm, ⟨79, _⟩ => ⟨S8192x512, .f32⟩
  | .hbm, ⟨80, _⟩ => ⟨S8192x4x128, .f32⟩
  | .hbm, ⟨81, _⟩ => ⟨S8192x4x256, .f32⟩
  | .hbm, ⟨82, _⟩ => ⟨S8192x1024, .f32⟩
  | .hbm, ⟨83, _⟩ => ⟨S8192x1024, .f32⟩
  | .hbm, ⟨84, _⟩ => ⟨S8192x512, .f32⟩
  | .hbm, ⟨85, _⟩ => ⟨S8192x1024, .bf16⟩
  | .hbm, ⟨86, _⟩ => ⟨S8192x1024, .bf16⟩
  | .hbm, ⟨87, _⟩ => ⟨S8192x512, .bf16⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩

abbrev nD : Nat := 1
abbrev τ : Topo := Topo.v7x

variable {F : FTy → Type} [FloatOps F]
-- ==== AdamMod.lean ====
abbrev S4096x768 : Shape := ⟨2, ![4096, 768]⟩
abbrev S512x768 : Shape := ⟨2, ![512, 768]⟩

abbrev nBuf : Space → Nat
  | .hbm => 7
  | .vmem => 14
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S4096x768, .f32⟩
  | .hbm, ⟨6, _⟩ => ⟨S4096x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamModIdeal.lean ====
abbrev S4096x768 : Shape := ⟨2, ![4096, 768]⟩
abbrev S512x768 : Shape := ⟨2, ![512, 768]⟩

abbrev nBuf : Space → Nat
  | .hbm => 7
  | .vmem => 14
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S4096x768, .f32⟩
  | .hbm, ⟨6, _⟩ => ⟨S4096x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateModIdeal.lean ====
abbrev S4096x768 : Shape := ⟨2, ![4096, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S_, .f32⟩
  | .hbm, ⟨5, _⟩ => ⟨S4096x768, .f32⟩
  | .hbm, ⟨6, _⟩ => ⟨S4096x768, .f32⟩
  | .hbm, ⟨7, _⟩ => ⟨S_, .f32⟩
  | .hbm, ⟨8, _⟩ => ⟨S4096x768, .f32⟩
  | .hbm, ⟨9, _⟩ => ⟨S4096x768, .f32⟩
  | .hbm, ⟨10, _⟩ => ⟨S4096x768, .f32⟩
  | .hbm, ⟨11, _⟩ => ⟨S_, .f32⟩
  | .hbm, ⟨12, _⟩ => ⟨S4096x768, .f32⟩
  | .hbm, ⟨13, _⟩ => ⟨S4096x768, .f32⟩
  | .hbm, ⟨14, _⟩ => ⟨S4096x768, .f32⟩
  | .hbm, ⟨15, _⟩ => ⟨S_, .f32⟩
  | .hbm, ⟨16, _⟩ => ⟨S4096x768, .f32⟩
  | .hbm, ⟨17, _⟩ => ⟨S4096x768, .f32⟩
  | .hbm, ⟨18, _⟩ => ⟨S4096x768, .f32⟩
  | .hbm, ⟨19, _⟩ => ⟨S_, .f32⟩
  | .hbm, ⟨20, _⟩ => ⟨S4096x768, .f32⟩
  | .hbm, ⟨21, _⟩ => ⟨S4096x768, .f32⟩
  | .hbm, ⟨22, _⟩ => ⟨S_, .f32⟩
  | .hbm, ⟨23, _⟩ => ⟨S4096x768, .f32⟩
  | .hbm, ⟨24, _⟩ => ⟨S4096x768, .f32⟩
  | .hbm, ⟨25, _⟩ => ⟨S4096x768, .f32⟩
  | .hbm, ⟨26, _⟩ => ⟨S_, .f32⟩
  | .hbm, ⟨27, _⟩ => ⟨S4096x768, .f32⟩
  | .hbm, ⟨28, _⟩ => ⟨S4096x768, .f32⟩
  | .hbm, ⟨29, _⟩ => ⟨S4096x768, .f32⟩
  | .hbm, ⟨30, _⟩ => ⟨S_, .f32⟩
  | .hbm, ⟨31, _⟩ => ⟨S4096x768, .f32⟩
  | .hbm, ⟨32, _⟩ => ⟨S4096x768, .f32⟩
  | .hbm, ⟨33, _⟩ => ⟨S4096x768, .f32⟩
  | .hbm, ⟨34, _⟩ => ⟨S_, .f32⟩
  | .hbm, ⟨35, _⟩ => ⟨S4096x768, .f32⟩
  | .hbm, ⟨36, _⟩ => ⟨S4096x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamModBias.lean ====
abbrev S4x3072 : Shape := ⟨2, ![4, 3072]⟩

abbrev nBuf : Space → Nat
  | .hbm => 7
  | .vmem => 7
  | .smem => 0
  | _ => 0

abbrev bufTy : (tb : Table) → Fin (tcTables nBuf tb) → BufTy
  | .hbm, ⟨0, _⟩ => ⟨S4x3072, .f32⟩
  | .hbm, ⟨1, _⟩ => ⟨S4x3072, .f32⟩
  | .hbm, ⟨2, _⟩ => ⟨S4x3072, .f32⟩
  | .hbm, ⟨3, _⟩ => ⟨S4x3072, .f32⟩
  | .hbm, ⟨4, _⟩ => ⟨S4x3072, .f32⟩
  | .hbm, ⟨5, _⟩ => ⟨S4x3072, .f32⟩
  | .hbm, ⟨6, _⟩ => ⟨S4x3072, .f32⟩
  | .local _ .vmem, ⟨0, _⟩ => ⟨S4x3072, .f32⟩
  | .local _ .vmem, ⟨1, _⟩ => ⟨S4x3072, .f32⟩
  | .local _ .vmem, ⟨2, _⟩ => ⟨S4x3072, .f32⟩
  | .local _ .vmem, ⟨3, _⟩ => ⟨S4x3072, .f32⟩
  | .local _ .vmem, ⟨4, _⟩ => ⟨S4x3072, .f32⟩
  | .local _ .vmem, ⟨5, _⟩ => ⟨S4x3072, .f32⟩
  | .local _ .vmem, ⟨6, _⟩ => ⟨S4x3072, .f32⟩
  | _, _ => ⟨S4x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamModBiasIdeal.lean ====
abbrev S4x3072 : Shape := ⟨2, ![4, 3072]⟩

abbrev nBuf : Space → Nat
  | .hbm => 7
  | .vmem => 7
  | .smem => 0
  | _ => 0

abbrev bufTy : (tb : Table) → Fin (tcTables nBuf tb) → BufTy
  | .hbm, ⟨0, _⟩ => ⟨S4x3072, .f32⟩
  | .hbm, ⟨1, _⟩ => ⟨S4x3072, .f32⟩
  | .hbm, ⟨2, _⟩ => ⟨S4x3072, .f32⟩
  | .hbm, ⟨3, _⟩ => ⟨S4x3072, .f32⟩
  | .hbm, ⟨4, _⟩ => ⟨S4x3072, .f32⟩
  | .hbm, ⟨5, _⟩ => ⟨S4x3072, .f32⟩
  | .hbm, ⟨6, _⟩ => ⟨S4x3072, .f32⟩
  | .local _ .vmem, ⟨0, _⟩ => ⟨S4x3072, .f32⟩
  | .local _ .vmem, ⟨1, _⟩ => ⟨S4x3072, .f32⟩
  | .local _ .vmem, ⟨2, _⟩ => ⟨S4x3072, .f32⟩
  | .local _ .vmem, ⟨3, _⟩ => ⟨S4x3072, .f32⟩
  | .local _ .vmem, ⟨4, _⟩ => ⟨S4x3072, .f32⟩
  | .local _ .vmem, ⟨5, _⟩ => ⟨S4x3072, .f32⟩
  | .local _ .vmem, ⟨6, _⟩ => ⟨S4x3072, .f32⟩
  | _, _ => ⟨S4x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateModBiasIdeal.lean ====
abbrev S4x3072 : Shape := ⟨2, ![4, 3072]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x3072, .f32⟩
  | .hbm, ⟨1, _⟩ => ⟨S4x3072, .f32⟩
  | .hbm, ⟨2, _⟩ => ⟨S4x3072, .f32⟩
  | .hbm, ⟨3, _⟩ => ⟨S4x3072, .f32⟩
  | .hbm, ⟨4, _⟩ => ⟨S_, .f32⟩
  | .hbm, ⟨5, _⟩ => ⟨S4x3072, .f32⟩
  | .hbm, ⟨6, _⟩ => ⟨S4x3072, .f32⟩
  | .hbm, ⟨7, _⟩ => ⟨S_, .f32⟩
  | .hbm, ⟨8, _⟩ => ⟨S4x3072, .f32⟩
  | .hbm, ⟨9, _⟩ => ⟨S4x3072, .f32⟩
  | .hbm, ⟨10, _⟩ => ⟨S4x3072, .f32⟩
  | .hbm, ⟨11, _⟩ => ⟨S_, .f32⟩
  | .hbm, ⟨12, _⟩ => ⟨S4x3072, .f32⟩
  | .hbm, ⟨13, _⟩ => ⟨S4x3072, .f32⟩
  | .hbm, ⟨14, _⟩ => ⟨S4x3072, .f32⟩
  | .hbm, ⟨15, _⟩ => ⟨S_, .f32⟩
  | .hbm, ⟨16, _⟩ => ⟨S4x3072, .f32⟩
  | .hbm, ⟨17, _⟩ => ⟨S4x3072, .f32⟩
  | .hbm, ⟨18, _⟩ => ⟨S4x3072, .f32⟩
  | .hbm, ⟨19, _⟩ => ⟨S_, .f32⟩
  | .hbm, ⟨20, _⟩ => ⟨S4x3072, .f32⟩
  | .hbm, ⟨21, _⟩ => ⟨S4x3072, .f32⟩
  | .hbm, ⟨22, _⟩ => ⟨S_, .f32⟩
  | .hbm, ⟨23, _⟩ => ⟨S4x3072, .f32⟩
  | .hbm, ⟨24, _⟩ => ⟨S4x3072, .f32⟩
  | .hbm, ⟨25, _⟩ => ⟨S4x3072, .f32⟩
  | .hbm, ⟨26, _⟩ => ⟨S_, .f32⟩
  | .hbm, ⟨27, _⟩ => ⟨S4x3072, .f32⟩
  | .hbm, ⟨28, _⟩ => ⟨S4x3072, .f32⟩
  | .hbm, ⟨29, _⟩ => ⟨S4x3072, .f32⟩
  | .hbm, ⟨30, _⟩ => ⟨S_, .f32⟩
  | .hbm, ⟨31, _⟩ => ⟨S4x3072, .f32⟩
  | .hbm, ⟨32, _⟩ => ⟨S4x3072, .f32⟩
  | .hbm, ⟨33, _⟩ => ⟨S4x3072, .f32⟩
  | .hbm, ⟨34, _⟩ => ⟨S_, .f32⟩
  | .hbm, ⟨35, _⟩ => ⟨S4x3072, .f32⟩
  | .hbm, ⟨36, _⟩ => ⟨S4x3072, .f32⟩
  | _, _ => ⟨S4x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamNorm.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateNormIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S4096x818 : Shape := ⟨2, ![4096, 818]⟩
abbrev S512x818 : Shape := ⟨2, ![512, 818]⟩

abbrev nBuf : Space → Nat
  | .hbm => 7
  | .vmem => 14
  | .smem => 0
  | _ => 0

abbrev bufTy : (tb : Table) → Fin (tcTables nBuf tb) → BufTy
  | .hbm, ⟨0, _⟩ => ⟨S4096x818, .f32⟩
  | .hbm, ⟨1, _⟩ => ⟨S4096x818, .f32⟩
  | .hbm, ⟨2, _⟩ => ⟨S4096x818, .f32⟩
  | .hbm, ⟨3, _⟩ => ⟨S4096x818, .f32⟩
  | .hbm, ⟨4, _⟩ => ⟨S4096x818, .f32⟩
  | .hbm, ⟨5, _⟩ => ⟨S4096x818, .f32⟩
  | .hbm, ⟨6, _⟩ => ⟨S4096x818, .f32⟩
  | .local _ .vmem, ⟨0, _⟩ => ⟨S512x818, .f32⟩
  | .local _ .vmem, ⟨1, _⟩ => ⟨S512x818, .f32⟩
  | .local _ .vmem, ⟨2, _⟩ => ⟨S512x818, .f32⟩
  | .local _ .vmem, ⟨3, _⟩ => ⟨S512x818, .f32⟩
  | .local _ .vmem, ⟨4, _⟩ => ⟨S512x818, .f32⟩
  | .local _ .vmem, ⟨5, _⟩ => ⟨S512x818, .f32⟩
  | .local _ .vmem, ⟨6, _⟩ => ⟨S512x818, .f32⟩
  | .local _ .vmem, ⟨7, _⟩ => ⟨S512x818, .f32⟩
  | .local _ .vmem, ⟨8, _⟩ => ⟨S512x818, .f32⟩
  | .local _ .vmem, ⟨9, _⟩ => ⟨S512x818, .f32⟩
  | .local _ .vmem, ⟨10, _⟩ => ⟨S512x818, .f32⟩
  | .local _ .vmem, ⟨11, _⟩ => ⟨S512x818, .f32⟩
  | .local _ .vmem, ⟨12, _⟩ => ⟨S512x818, .f32⟩
  | .local _ .vmem, ⟨13, _⟩ => ⟨S512x818, .f32⟩
  | _, _ => ⟨S4096x818, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x818 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x818 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x818 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x818 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x818 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x818 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x818 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S4096x818 : Shape := ⟨2, ![4096, 818]⟩
abbrev S512x818 : Shape := ⟨2, ![512, 818]⟩

abbrev nBuf : Space → Nat
  | .hbm => 7
  | .vmem => 14
  | .smem => 0
  | _ => 0

abbrev bufTy : (tb : Table) → Fin (tcTables nBuf tb) → BufTy
  | .hbm, ⟨0, _⟩ => ⟨S4096x818, .f32⟩
  | .hbm, ⟨1, _⟩ => ⟨S4096x818, .f32⟩
  | .hbm, ⟨2, _⟩ => ⟨S4096x818, .f32⟩
  | .hbm, ⟨3, _⟩ => ⟨S4096x818, .f32⟩
  | .hbm, ⟨4, _⟩ => ⟨S4096x818, .f32⟩
  | .hbm, ⟨5, _⟩ => ⟨S4096x818, .f32⟩
  | .hbm, ⟨6, _⟩ => ⟨S4096x818, .f32⟩
  | .local _ .vmem, ⟨0, _⟩ => ⟨S512x818, .f32⟩
  | .local _ .vmem, ⟨1, _⟩ => ⟨S512x818, .f32⟩
  | .local _ .vmem, ⟨2, _⟩ => ⟨S512x818, .f32⟩
  | .local _ .vmem, ⟨3, _⟩ => ⟨S512x818, .f32⟩
  | .local _ .vmem, ⟨4, _⟩ => ⟨S512x818, .f32⟩
  | .local _ .vmem, ⟨5, _⟩ => ⟨S512x818, .f32⟩
  | .local _ .vmem, ⟨6, _⟩ => ⟨S512x818, .f32⟩
  | .local _ .vmem, ⟨7, _⟩ => ⟨S512x818, .f32⟩
  | .local _ .vmem, ⟨8, _⟩ => ⟨S512x818, .f32⟩
  | .local _ .vmem, ⟨9, _⟩ => ⟨S512x818, .f32⟩
  | .local _ .vmem, ⟨10, _⟩ => ⟨S512x818, .f32⟩
  | .local _ .vmem, ⟨11, _⟩ => ⟨S512x818, .f32⟩
  | .local _ .vmem, ⟨12, _⟩ => ⟨S512x818, .f32⟩
  | .local _ .vmem, ⟨13, _⟩ => ⟨S512x818, .f32⟩
  | _, _ => ⟨S4096x818, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x818 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x818 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x818 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x818 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x818 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x818 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x818 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateInIdeal.lean ====
abbrev S4096x818 : Shape := ⟨2, ![4096, 818]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x818, .f32⟩
  | .hbm, ⟨1, _⟩ => ⟨S4096x818, .f32⟩
  | .hbm, ⟨2, _⟩ => ⟨S4096x818, .f32⟩
  | .hbm, ⟨3, _⟩ => ⟨S4096x818, .f32⟩
  | .hbm, ⟨4, _⟩ => ⟨S_, .f32⟩
  | .hbm, ⟨5, _⟩ => ⟨S4096x818, .f32⟩
  | .hbm, ⟨6, _⟩ => ⟨S4096x818, .f32⟩
  | .hbm, ⟨7, _⟩ => ⟨S_, .f32⟩
  | .hbm, ⟨8, _⟩ => ⟨S4096x818, .f32⟩
  | .hbm, ⟨9, _⟩ => ⟨S4096x818, .f32⟩
  | .hbm, ⟨10, _⟩ => ⟨S4096x818, .f32⟩
  | .hbm, ⟨11, _⟩ => ⟨S_, .f32⟩
  | .hbm, ⟨12, _⟩ => ⟨S4096x818, .f32⟩
  | .hbm, ⟨13, _⟩ => ⟨S4096x818, .f32⟩
  | .hbm, ⟨14, _⟩ => ⟨S4096x818, .f32⟩
  | .hbm, ⟨15, _⟩ => ⟨S_, .f32⟩
  | .hbm, ⟨16, _⟩ => ⟨S4096x818, .f32⟩
  | .hbm, ⟨17, _⟩ => ⟨S4096x818, .f32⟩
  | .hbm, ⟨18, _⟩ => ⟨S4096x818, .f32⟩
  | .hbm, ⟨19, _⟩ => ⟨S_, .f32⟩
  | .hbm, ⟨20, _⟩ => ⟨S4096x818, .f32⟩
  | .hbm, ⟨21, _⟩ => ⟨S4096x818, .f32⟩
  | .hbm, ⟨22, _⟩ => ⟨S_, .f32⟩
  | .hbm, ⟨23, _⟩ => ⟨S4096x818, .f32⟩
  | .hbm, ⟨24, _⟩ => ⟨S4096x818, .f32⟩
  | .hbm, ⟨25, _⟩ => ⟨S4096x818, .f32⟩
  | .hbm, ⟨26, _⟩ => ⟨S_, .f32⟩
  | .hbm, ⟨27, _⟩ => ⟨S4096x818, .f32⟩
  | .hbm, ⟨28, _⟩ => ⟨S4096x818, .f32⟩
  | .hbm, ⟨29, _⟩ => ⟨S4096x818, .f32⟩
  | .hbm, ⟨30, _⟩ => ⟨S_, .f32⟩
  | .hbm, ⟨31, _⟩ => ⟨S4096x818, .f32⟩
  | .hbm, ⟨32, _⟩ => ⟨S4096x818, .f32⟩
  | .hbm, ⟨33, _⟩ => ⟨S4096x818, .f32⟩
  | .hbm, ⟨34, _⟩ => ⟨S_, .f32⟩
  | .hbm, ⟨35, _⟩ => ⟨S4096x818, .f32⟩
  | .hbm, ⟨36, _⟩ => ⟨S4096x818, .f32⟩
  | _, _ => ⟨S4096x818, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamQNorm.lean ====
abbrev S4x384 : Shape := ⟨2, ![4, 384]⟩

abbrev nBuf : Space → Nat
  | .hbm => 7
  | .vmem => 7
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .local _ .vmem, ⟨0, _⟩ => ⟨S4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | _, _ => ⟨S4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamQNormIdeal.lean ====
abbrev S4x384 : Shape := ⟨2, ![4, 384]⟩

abbrev nBuf : Space → Nat
  | .hbm => 7
  | .vmem => 7
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .local _ .vmem, ⟨0, _⟩ => ⟨S4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | _, _ => ⟨S4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateQNormIdeal.lean ====
abbrev S4x384 : Shape := ⟨2, ![4, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S_, .f32⟩
  | .hbm, ⟨5, _⟩ => ⟨S4x384, .f32⟩
  | .hbm, ⟨6, _⟩ => ⟨S4x384, .f32⟩
  | .hbm, ⟨7, _⟩ => ⟨S_, .f32⟩
  | .hbm, ⟨8, _⟩ => ⟨S4x384, .f32⟩
  | .hbm, ⟨9, _⟩ => ⟨S4x384, .f32⟩
  | .hbm, ⟨10, _⟩ => ⟨S4x384, .f32⟩
  | .hbm, ⟨11, _⟩ => ⟨S_, .f32⟩
  | .hbm, ⟨12, _⟩ => ⟨S4x384, .f32⟩
  | .hbm, ⟨13, _⟩ => ⟨S4x384, .f32⟩
  | .hbm, ⟨14, _⟩ => ⟨S4x384, .f32⟩
  | .hbm, ⟨15, _⟩ => ⟨S_, .f32⟩
  | .hbm, ⟨16, _⟩ => ⟨S4x384, .f32⟩
  | .hbm, ⟨17, _⟩ => ⟨S4x384, .f32⟩
  | .hbm, ⟨18, _⟩ => ⟨S4x384, .f32⟩
  | .hbm, ⟨19, _⟩ => ⟨S_, .f32⟩
  | .hbm, ⟨20, _⟩ => ⟨S4x384, .f32⟩
  | .hbm, ⟨21, _⟩ => ⟨S4x384, .f32⟩
  | .hbm, ⟨22, _⟩ => ⟨S_, .f32⟩
  | .hbm, ⟨23, _⟩ => ⟨S4x384, .f32⟩
  | .hbm, ⟨24, _⟩ => ⟨S4x384, .f32⟩
  | .hbm, ⟨25, _⟩ => ⟨S4x384, .f32⟩
  | .hbm, ⟨26, _⟩ => ⟨S_, .f32⟩
  | .hbm, ⟨27, _⟩ => ⟨S4x384, .f32⟩
  | .hbm, ⟨28, _⟩ => ⟨S4x384, .f32⟩
  | .hbm, ⟨29, _⟩ => ⟨S4x384, .f32⟩
  | .hbm, ⟨30, _⟩ => ⟨S_, .f32⟩
  | .hbm, ⟨31, _⟩ => ⟨S4x384, .f32⟩
  | .hbm, ⟨32, _⟩ => ⟨S4x384, .f32⟩
  | .hbm, ⟨33, _⟩ => ⟨S4x384, .f32⟩
  | .hbm, ⟨34, _⟩ => ⟨S_, .f32⟩
  | .hbm, ⟨35, _⟩ => ⟨S4x384, .f32⟩
  | .hbm, ⟨36, _⟩ => ⟨S4x384, .f32⟩
  | _, _ => ⟨S4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamQUp.lean ====
abbrev S1536x192 : Shape := ⟨2, ![1536, 192]⟩
abbrev S512x192 : Shape := ⟨2, ![512, 192]⟩

abbrev nBuf : Space → Nat
  | .hbm => 7
  | .vmem => 14
  | .smem => 0
  | _ => 0

abbrev bufTy : (tb : Table) → Fin (tcTables nBuf tb) → BufTy
  | .hbm, ⟨0, _⟩ => ⟨S1536x192, .f32⟩
  | .hbm, ⟨1, _⟩ => ⟨S1536x192, .f32⟩
  | .hbm, ⟨2, _⟩ => ⟨S1536x192, .f32⟩
  | .hbm, ⟨3, _⟩ => ⟨S1536x192, .f32⟩
  | .hbm, ⟨4, _⟩ => ⟨S1536x192, .f32⟩
  | .hbm, ⟨5, _⟩ => ⟨S1536x192, .f32⟩
  | .hbm, ⟨6, _⟩ => ⟨S1536x192, .f32⟩
  | .local _ .vmem, ⟨0, _⟩ => ⟨S512x192, .f32⟩
  | .local _ .vmem, ⟨1, _⟩ => ⟨S512x192, .f32⟩
  | .local _ .vmem, ⟨2, _⟩ => ⟨S512x192, .f32⟩
  | .local _ .vmem, ⟨3, _⟩ => ⟨S512x192, .f32⟩
  | .local _ .vmem, ⟨4, _⟩ => ⟨S512x192, .f32⟩
  | .local _ .vmem, ⟨5, _⟩ => ⟨S512x192, .f32⟩
  | .local _ .vmem, ⟨6, _⟩ => ⟨S512x192, .f32⟩
  | .local _ .vmem, ⟨7, _⟩ => ⟨S512x192, .f32⟩
  | .local _ .vmem, ⟨8, _⟩ => ⟨S512x192, .f32⟩
  | .local _ .vmem, ⟨9, _⟩ => ⟨S512x192, .f32⟩
  | .local _ .vmem, ⟨10, _⟩ => ⟨S512x192, .f32⟩
  | .local _ .vmem, ⟨11, _⟩ => ⟨S512x192, .f32⟩
  | .local _ .vmem, ⟨12, _⟩ => ⟨S512x192, .f32⟩
  | .local _ .vmem, ⟨13, _⟩ => ⟨S512x192, .f32⟩
  | _, _ => ⟨S1536x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamQUpIdeal.lean ====
abbrev S1536x192 : Shape := ⟨2, ![1536, 192]⟩
abbrev S512x192 : Shape := ⟨2, ![512, 192]⟩

abbrev nBuf : Space → Nat
  | .hbm => 7
  | .vmem => 14
  | .smem => 0
  | _ => 0

abbrev bufTy : (tb : Table) → Fin (tcTables nBuf tb) → BufTy
  | .hbm, ⟨0, _⟩ => ⟨S1536x192, .f32⟩
  | .hbm, ⟨1, _⟩ => ⟨S1536x192, .f32⟩
  | .hbm, ⟨2, _⟩ => ⟨S1536x192, .f32⟩
  | .hbm, ⟨3, _⟩ => ⟨S1536x192, .f32⟩
  | .hbm, ⟨4, _⟩ => ⟨S1536x192, .f32⟩
  | .hbm, ⟨5, _⟩ => ⟨S1536x192, .f32⟩
  | .hbm, ⟨6, _⟩ => ⟨S1536x192, .f32⟩
  | .local _ .vmem, ⟨0, _⟩ => ⟨S512x192, .f32⟩
  | .local _ .vmem, ⟨1, _⟩ => ⟨S512x192, .f32⟩
  | .local _ .vmem, ⟨2, _⟩ => ⟨S512x192, .f32⟩
  | .local _ .vmem, ⟨3, _⟩ => ⟨S512x192, .f32⟩
  | .local _ .vmem, ⟨4, _⟩ => ⟨S512x192, .f32⟩
  | .local _ .vmem, ⟨5, _⟩ => ⟨S512x192, .f32⟩
  | .local _ .vmem, ⟨6, _⟩ => ⟨S512x192, .f32⟩
  | .local _ .vmem, ⟨7, _⟩ => ⟨S512x192, .f32⟩
  | .local _ .vmem, ⟨8, _⟩ => ⟨S512x192, .f32⟩
  | .local _ .vmem, ⟨9, _⟩ => ⟨S512x192, .f32⟩
  | .local _ .vmem, ⟨10, _⟩ => ⟨S512x192, .f32⟩
  | .local _ .vmem, ⟨11, _⟩ => ⟨S512x192, .f32⟩
  | .local _ .vmem, ⟨12, _⟩ => ⟨S512x192, .f32⟩
  | .local _ .vmem, ⟨13, _⟩ => ⟨S512x192, .f32⟩
  | _, _ => ⟨S1536x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateQUpIdeal.lean ====
abbrev S1536x192 : Shape := ⟨2, ![1536, 192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1536x192, .f32⟩
  | .hbm, ⟨1, _⟩ => ⟨S1536x192, .f32⟩
  | .hbm, ⟨2, _⟩ => ⟨S1536x192, .f32⟩
  | .hbm, ⟨3, _⟩ => ⟨S1536x192, .f32⟩
  | .hbm, ⟨4, _⟩ => ⟨S_, .f32⟩
  | .hbm, ⟨5, _⟩ => ⟨S1536x192, .f32⟩
  | .hbm, ⟨6, _⟩ => ⟨S1536x192, .f32⟩
  | .hbm, ⟨7, _⟩ => ⟨S_, .f32⟩
  | .hbm, ⟨8, _⟩ => ⟨S1536x192, .f32⟩
  | .hbm, ⟨9, _⟩ => ⟨S1536x192, .f32⟩
  | .hbm, ⟨10, _⟩ => ⟨S1536x192, .f32⟩
  | .hbm, ⟨11, _⟩ => ⟨S_, .f32⟩
  | .hbm, ⟨12, _⟩ => ⟨S1536x192, .f32⟩
  | .hbm, ⟨13, _⟩ => ⟨S1536x192, .f32⟩
  | .hbm, ⟨14, _⟩ => ⟨S1536x192, .f32⟩
  | .hbm, ⟨15, _⟩ => ⟨S_, .f32⟩
  | .hbm, ⟨16, _⟩ => ⟨S1536x192, .f32⟩
  | .hbm, ⟨17, _⟩ => ⟨S1536x192, .f32⟩
  | .hbm, ⟨18, _⟩ => ⟨S1536x192, .f32⟩
  | .hbm, ⟨19, _⟩ => ⟨S_, .f32⟩
  | .hbm, ⟨20, _⟩ => ⟨S1536x192, .f32⟩
  | .hbm, ⟨21, _⟩ => ⟨S1536x192, .f32⟩
  | .hbm, ⟨22, _⟩ => ⟨S_, .f32⟩
  | .hbm, ⟨23, _⟩ => ⟨S1536x192, .f32⟩
  | .hbm, ⟨24, _⟩ => ⟨S1536x192, .f32⟩
  | .hbm, ⟨25, _⟩ => ⟨S1536x192, .f32⟩
  | .hbm, ⟨26, _⟩ => ⟨S_, .f32⟩
  | .hbm, ⟨27, _⟩ => ⟨S1536x192, .f32⟩
  | .hbm, ⟨28, _⟩ => ⟨S1536x192, .f32⟩
  | .hbm, ⟨29, _⟩ => ⟨S1536x192, .f32⟩
  | .hbm, ⟨30, _⟩ => ⟨S_, .f32⟩
  | .hbm, ⟨31, _⟩ => ⟨S1536x192, .f32⟩
  | .hbm, ⟨32, _⟩ => ⟨S1536x192, .f32⟩
  | .hbm, ⟨33, _⟩ => ⟨S1536x192, .f32⟩
  | .hbm, ⟨34, _⟩ => ⟨S_, .f32⟩
  | .hbm, ⟨35, _⟩ => ⟨S1536x192, .f32⟩
  | .hbm, ⟨36, _⟩ => ⟨S1536x192, .f32⟩
  | _, _ => ⟨S1536x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKvNorm.lean ====
abbrev S4x256 : Shape := ⟨2, ![4, 256]⟩

abbrev nBuf : Space → Nat
  | .hbm => 7
  | .vmem => 7
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamKvNormIdeal.lean ====
abbrev S4x256 : Shape := ⟨2, ![4, 256]⟩

abbrev nBuf : Space → Nat
  | .hbm => 7
  | .vmem => 7
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateKvNormIdeal.lean ====
abbrev S4x256 : Shape := ⟨2, ![4, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S_, .f32⟩
  | .hbm, ⟨5, _⟩ => ⟨S4x256, .f32⟩
  | .hbm, ⟨6, _⟩ => ⟨S4x256, .f32⟩
  | .hbm, ⟨7, _⟩ => ⟨S_, .f32⟩
  | .hbm, ⟨8, _⟩ => ⟨S4x256, .f32⟩
  | .hbm, ⟨9, _⟩ => ⟨S4x256, .f32⟩
  | .hbm, ⟨10, _⟩ => ⟨S4x256, .f32⟩
  | .hbm, ⟨11, _⟩ => ⟨S_, .f32⟩
  | .hbm, ⟨12, _⟩ => ⟨S4x256, .f32⟩
  | .hbm, ⟨13, _⟩ => ⟨S4x256, .f32⟩
  | .hbm, ⟨14, _⟩ => ⟨S4x256, .f32⟩
  | .hbm, ⟨15, _⟩ => ⟨S_, .f32⟩
  | .hbm, ⟨16, _⟩ => ⟨S4x256, .f32⟩
  | .hbm, ⟨17, _⟩ => ⟨S4x256, .f32⟩
  | .hbm, ⟨18, _⟩ => ⟨S4x256, .f32⟩
  | .hbm, ⟨19, _⟩ => ⟨S_, .f32⟩
  | .hbm, ⟨20, _⟩ => ⟨S4x256, .f32⟩
  | .hbm, ⟨21, _⟩ => ⟨S4x256, .f32⟩
  | .hbm, ⟨22, _⟩ => ⟨S_, .f32⟩
  | .hbm, ⟨23, _⟩ => ⟨S4x256, .f32⟩
  | .hbm, ⟨24, _⟩ => ⟨S4x256, .f32⟩
  | .hbm, ⟨25, _⟩ => ⟨S4x256, .f32⟩
  | .hbm, ⟨26, _⟩ => ⟨S_, .f32⟩
  | .hbm, ⟨27, _⟩ => ⟨S4x256, .f32⟩
  | .hbm, ⟨28, _⟩ => ⟨S4x256, .f32⟩
  | .hbm, ⟨29, _⟩ => ⟨S4x256, .f32⟩
  | .hbm, ⟨30, _⟩ => ⟨S_, .f32⟩
  | .hbm, ⟨31, _⟩ => ⟨S4x256, .f32⟩
  | .hbm, ⟨32, _⟩ => ⟨S4x256, .f32⟩
  | .hbm, ⟨33, _⟩ => ⟨S4x256, .f32⟩
  | .hbm, ⟨34, _⟩ => ⟨S_, .f32⟩
  | .hbm, ⟨35, _⟩ => ⟨S4x256, .f32⟩
  | .hbm, ⟨36, _⟩ => ⟨S4x256, .f32⟩
  | _, _ => ⟨S4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKvUp.lean ====
abbrev S1024x256 : Shape := ⟨2, ![1024, 256]⟩
abbrev S512x256 : Shape := ⟨2, ![512, 256]⟩

abbrev nBuf : Space → Nat
  | .hbm => 7
  | .vmem => 14
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamKvUpIdeal.lean ====
abbrev S1024x256 : Shape := ⟨2, ![1024, 256]⟩
abbrev S512x256 : Shape := ⟨2, ![512, 256]⟩

abbrev nBuf : Space → Nat
  | .hbm => 7
  | .vmem => 14
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateKvUpIdeal.lean ====
abbrev S1024x256 : Shape := ⟨2, ![1024, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S_, .f32⟩
  | .hbm, ⟨5, _⟩ => ⟨S1024x256, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S_, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S1024x256, .f32⟩
  | .hbm, ⟨26, _⟩ => ⟨S_, .f32⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConv.lean ====
abbrev S16x384 : Shape := ⟨2, ![16, 384]⟩

abbrev nBuf : Space → Nat
  | .hbm => 7
  | .vmem => 7
  | .smem => 0
  | _ => 0

abbrev bufTy : (tb : Table) → Fin (tcTables nBuf tb) → BufTy
  | .hbm, ⟨0, _⟩ => ⟨S16x384, .f32⟩
  | .hbm, ⟨1, _⟩ => ⟨S16x384, .f32⟩
  | .hbm, ⟨2, _⟩ => ⟨S16x384, .f32⟩
  | .hbm, ⟨3, _⟩ => ⟨S16x384, .f32⟩
  | .hbm, ⟨4, _⟩ => ⟨S16x384, .f32⟩
  | .hbm, ⟨5, _⟩ => ⟨S16x384, .f32⟩
  | .hbm, ⟨6, _⟩ => ⟨S16x384, .f32⟩
  | .local _ .vmem, ⟨0, _⟩ => ⟨S16x384, .f32⟩
  | .local _ .vmem, ⟨1, _⟩ => ⟨S16x384, .f32⟩
  | .local _ .vmem, ⟨2, _⟩ => ⟨S16x384, .f32⟩
  | .local _ .vmem, ⟨3, _⟩ => ⟨S16x384, .f32⟩
  | .local _ .vmem, ⟨4, _⟩ => ⟨S16x384, .f32⟩
  | .local _ .vmem, ⟨5, _⟩ => ⟨S16x384, .f32⟩
  | .local _ .vmem, ⟨6, _⟩ => ⟨S16x384, .f32⟩
  | _, _ => ⟨S16x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvIdeal.lean ====
abbrev S16x384 : Shape := ⟨2, ![16, 384]⟩

abbrev nBuf : Space → Nat
  | .hbm => 7
  | .vmem => 7
  | .smem => 0
  | _ => 0

abbrev bufTy : (tb : Table) → Fin (tcTables nBuf tb) → BufTy
  | .hbm, ⟨0, _⟩ => ⟨S16x384, .f32⟩
  | .hbm, ⟨1, _⟩ => ⟨S16x384, .f32⟩
  | .hbm, ⟨2, _⟩ => ⟨S16x384, .f32⟩
  | .hbm, ⟨3, _⟩ => ⟨S16x384, .f32⟩
  | .hbm, ⟨4, _⟩ => ⟨S16x384, .f32⟩
  | .hbm, ⟨5, _⟩ => ⟨S16x384, .f32⟩
  | .hbm, ⟨6, _⟩ => ⟨S16x384, .f32⟩
  | .local _ .vmem, ⟨0, _⟩ => ⟨S16x384, .f32⟩
  | .local _ .vmem, ⟨1, _⟩ => ⟨S16x384, .f32⟩
  | .local _ .vmem, ⟨2, _⟩ => ⟨S16x384, .f32⟩
  | .local _ .vmem, ⟨3, _⟩ => ⟨S16x384, .f32⟩
  | .local _ .vmem, ⟨4, _⟩ => ⟨S16x384, .f32⟩
  | .local _ .vmem, ⟨5, _⟩ => ⟨S16x384, .f32⟩
  | .local _ .vmem, ⟨6, _⟩ => ⟨S16x384, .f32⟩
  | _, _ => ⟨S16x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateConvIdeal.lean ====
abbrev S16x384 : Shape := ⟨2, ![16, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x384, .f32⟩
  | .hbm, ⟨1, _⟩ => ⟨S16x384, .f32⟩
  | .hbm, ⟨2, _⟩ => ⟨S16x384, .f32⟩
  | .hbm, ⟨3, _⟩ => ⟨S16x384, .f32⟩
  | .hbm, ⟨4, _⟩ => ⟨S_, .f32⟩
  | .hbm, ⟨5, _⟩ => ⟨S16x384, .f32⟩
  | .hbm, ⟨6, _⟩ => ⟨S16x384, .f32⟩
  | .hbm, ⟨7, _⟩ => ⟨S_, .f32⟩
  | .hbm, ⟨8, _⟩ => ⟨S16x384, .f32⟩
  | .hbm, ⟨9, _⟩ => ⟨S16x384, .f32⟩
  | .hbm, ⟨10, _⟩ => ⟨S16x384, .f32⟩
  | .hbm, ⟨11, _⟩ => ⟨S_, .f32⟩
  | .hbm, ⟨12, _⟩ => ⟨S16x384, .f32⟩
  | .hbm, ⟨13, _⟩ => ⟨S16x384, .f32⟩
  | .hbm, ⟨14, _⟩ => ⟨S16x384, .f32⟩
  | .hbm, ⟨15, _⟩ => ⟨S_, .f32⟩
  | .hbm, ⟨16, _⟩ => ⟨S16x384, .f32⟩
  | .hbm, ⟨17, _⟩ => ⟨S16x384, .f32⟩
  | .hbm, ⟨18, _⟩ => ⟨S16x384, .f32⟩
  | .hbm, ⟨19, _⟩ => ⟨S_, .f32⟩
  | .hbm, ⟨20, _⟩ => ⟨S16x384, .f32⟩
  | .hbm, ⟨21, _⟩ => ⟨S16x384, .f32⟩
  | .hbm, ⟨22, _⟩ => ⟨S_, .f32⟩
  | .hbm, ⟨23, _⟩ => ⟨S16x384, .f32⟩
  | .hbm, ⟨24, _⟩ => ⟨S16x384, .f32⟩
  | .hbm, ⟨25, _⟩ => ⟨S16x384, .f32⟩
  | .hbm, ⟨26, _⟩ => ⟨S_, .f32⟩
  | .hbm, ⟨27, _⟩ => ⟨S16x384, .f32⟩
  | .hbm, ⟨28, _⟩ => ⟨S16x384, .f32⟩
  | .hbm, ⟨29, _⟩ => ⟨S16x384, .f32⟩
  | .hbm, ⟨30, _⟩ => ⟨S_, .f32⟩
  | .hbm, ⟨31, _⟩ => ⟨S16x384, .f32⟩
  | .hbm, ⟨32, _⟩ => ⟨S16x384, .f32⟩
  | .hbm, ⟨33, _⟩ => ⟨S16x384, .f32⟩
  | .hbm, ⟨34, _⟩ => ⟨S_, .f32⟩
  | .hbm, ⟨35, _⟩ => ⟨S16x384, .f32⟩
  | .hbm, ⟨36, _⟩ => ⟨S16x384, .f32⟩
  | _, _ => ⟨S16x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGates.lean ====
abbrev S4x4 : Shape := ⟨2, ![4, 4]⟩

abbrev nBuf : Space → Nat
  | .hbm => 7
  | .vmem => 7
  | .smem => 0
  | _ => 0

abbrev bufTy : (tb : Table) → Fin (tcTables nBuf tb) → BufTy
  | .hbm, ⟨0, _⟩ => ⟨S4x4, .f32⟩
  | .hbm, ⟨1, _⟩ => ⟨S4x4, .f32⟩
  | .hbm, ⟨2, _⟩ => ⟨S4x4, .f32⟩
  | .hbm, ⟨3, _⟩ => ⟨S4x4, .f32⟩
  | .hbm, ⟨4, _⟩ => ⟨S4x4, .f32⟩
  | .hbm, ⟨5, _⟩ => ⟨S4x4, .f32⟩
  | .hbm, ⟨6, _⟩ => ⟨S4x4, .f32⟩
  | .local _ .vmem, ⟨0, _⟩ => ⟨S4x4, .f32⟩
  | .local _ .vmem, ⟨1, _⟩ => ⟨S4x4, .f32⟩
  | .local _ .vmem, ⟨2, _⟩ => ⟨S4x4, .f32⟩
  | .local _ .vmem, ⟨3, _⟩ => ⟨S4x4, .f32⟩
  | .local _ .vmem, ⟨4, _⟩ => ⟨S4x4, .f32⟩
  | .local _ .vmem, ⟨5, _⟩ => ⟨S4x4, .f32⟩
  | .local _ .vmem, ⟨6, _⟩ => ⟨S4x4, .f32⟩
  | _, _ => ⟨S4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGatesIdeal.lean ====
abbrev S4x4 : Shape := ⟨2, ![4, 4]⟩

abbrev nBuf : Space → Nat
  | .hbm => 7
  | .vmem => 7
  | .smem => 0
  | _ => 0

abbrev bufTy : (tb : Table) → Fin (tcTables nBuf tb) → BufTy
  | .hbm, ⟨0, _⟩ => ⟨S4x4, .f32⟩
  | .hbm, ⟨1, _⟩ => ⟨S4x4, .f32⟩
  | .hbm, ⟨2, _⟩ => ⟨S4x4, .f32⟩
  | .hbm, ⟨3, _⟩ => ⟨S4x4, .f32⟩
  | .hbm, ⟨4, _⟩ => ⟨S4x4, .f32⟩
  | .hbm, ⟨5, _⟩ => ⟨S4x4, .f32⟩
  | .hbm, ⟨6, _⟩ => ⟨S4x4, .f32⟩
  | .local _ .vmem, ⟨0, _⟩ => ⟨S4x4, .f32⟩
  | .local _ .vmem, ⟨1, _⟩ => ⟨S4x4, .f32⟩
  | .local _ .vmem, ⟨2, _⟩ => ⟨S4x4, .f32⟩
  | .local _ .vmem, ⟨3, _⟩ => ⟨S4x4, .f32⟩
  | .local _ .vmem, ⟨4, _⟩ => ⟨S4x4, .f32⟩
  | .local _ .vmem, ⟨5, _⟩ => ⟨S4x4, .f32⟩
  | .local _ .vmem, ⟨6, _⟩ => ⟨S4x4, .f32⟩
  | _, _ => ⟨S4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateGatesIdeal.lean ====
abbrev S4x4 : Shape := ⟨2, ![4, 4]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x4, .f32⟩
  | .hbm, ⟨1, _⟩ => ⟨S4x4, .f32⟩
  | .hbm, ⟨2, _⟩ => ⟨S4x4, .f32⟩
  | .hbm, ⟨3, _⟩ => ⟨S4x4, .f32⟩
  | .hbm, ⟨4, _⟩ => ⟨S_, .f32⟩
  | .hbm, ⟨5, _⟩ => ⟨S4x4, .f32⟩
  | .hbm, ⟨6, _⟩ => ⟨S4x4, .f32⟩
  | .hbm, ⟨7, _⟩ => ⟨S_, .f32⟩
  | .hbm, ⟨8, _⟩ => ⟨S4x4, .f32⟩
  | .hbm, ⟨9, _⟩ => ⟨S4x4, .f32⟩
  | .hbm, ⟨10, _⟩ => ⟨S4x4, .f32⟩
  | .hbm, ⟨11, _⟩ => ⟨S_, .f32⟩
  | .hbm, ⟨12, _⟩ => ⟨S4x4, .f32⟩
  | .hbm, ⟨13, _⟩ => ⟨S4x4, .f32⟩
  | .hbm, ⟨14, _⟩ => ⟨S4x4, .f32⟩
  | .hbm, ⟨15, _⟩ => ⟨S_, .f32⟩
  | .hbm, ⟨16, _⟩ => ⟨S4x4, .f32⟩
  | .hbm, ⟨17, _⟩ => ⟨S4x4, .f32⟩
  | .hbm, ⟨18, _⟩ => ⟨S4x4, .f32⟩
  | .hbm, ⟨19, _⟩ => ⟨S_, .f32⟩
  | .hbm, ⟨20, _⟩ => ⟨S4x4, .f32⟩
  | .hbm, ⟨21, _⟩ => ⟨S4x4, .f32⟩
  | .hbm, ⟨22, _⟩ => ⟨S_, .f32⟩
  | .hbm, ⟨23, _⟩ => ⟨S4x4, .f32⟩
  | .hbm, ⟨24, _⟩ => ⟨S4x4, .f32⟩
  | .hbm, ⟨25, _⟩ => ⟨S4x4, .f32⟩
  | .hbm, ⟨26, _⟩ => ⟨S_, .f32⟩
  | .hbm, ⟨27, _⟩ => ⟨S4x4, .f32⟩
  | .hbm, ⟨28, _⟩ => ⟨S4x4, .f32⟩
  | .hbm, ⟨29, _⟩ => ⟨S4x4, .f32⟩
  | .hbm, ⟨30, _⟩ => ⟨S_, .f32⟩
  | .hbm, ⟨31, _⟩ => ⟨S4x4, .f32⟩
  | .hbm, ⟨32, _⟩ => ⟨S4x4, .f32⟩
  | .hbm, ⟨33, _⟩ => ⟨S4x4, .f32⟩
  | .hbm, ⟨34, _⟩ => ⟨S_, .f32⟩
  | .hbm, ⟨35, _⟩ => ⟨S4x4, .f32⟩
  | .hbm, ⟨36, _⟩ => ⟨S4x4, .f32⟩
  | _, _ => ⟨S4x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamONorm.lean ====
abbrev S4x128 : Shape := ⟨2, ![4, 128]⟩

abbrev nBuf : Space → Nat
  | .hbm => 7
  | .vmem => 7
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamONormIdeal.lean ====
abbrev S4x128 : Shape := ⟨2, ![4, 128]⟩

abbrev nBuf : Space → Nat
  | .hbm => 7
  | .vmem => 7
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateONormIdeal.lean ====
abbrev S4x128 : Shape := ⟨2, ![4, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S_, .f32⟩
  | .hbm, ⟨5, _⟩ => ⟨S4x128, .f32⟩
  | .hbm, ⟨6, _⟩ => ⟨S4x128, .f32⟩
  | .hbm, ⟨7, _⟩ => ⟨S_, .f32⟩
  | .hbm, ⟨8, _⟩ => ⟨S4x128, .f32⟩
  | .hbm, ⟨9, _⟩ => ⟨S4x128, .f32⟩
  | .hbm, ⟨10, _⟩ => ⟨S4x128, .f32⟩
  | .hbm, ⟨11, _⟩ => ⟨S_, .f32⟩
  | .hbm, ⟨12, _⟩ => ⟨S4x128, .f32⟩
  | .hbm, ⟨13, _⟩ => ⟨S4x128, .f32⟩
  | .hbm, ⟨14, _⟩ => ⟨S4x128, .f32⟩
  | .hbm, ⟨15, _⟩ => ⟨S_, .f32⟩
  | .hbm, ⟨16, _⟩ => ⟨S4x128, .f32⟩
  | .hbm, ⟨17, _⟩ => ⟨S4x128, .f32⟩
  | .hbm, ⟨18, _⟩ => ⟨S4x128, .f32⟩
  | .hbm, ⟨19, _⟩ => ⟨S_, .f32⟩
  | .hbm, ⟨20, _⟩ => ⟨S4x128, .f32⟩
  | .hbm, ⟨21, _⟩ => ⟨S4x128, .f32⟩
  | .hbm, ⟨22, _⟩ => ⟨S_, .f32⟩
  | .hbm, ⟨23, _⟩ => ⟨S4x128, .f32⟩
  | .hbm, ⟨24, _⟩ => ⟨S4x128, .f32⟩
  | .hbm, ⟨25, _⟩ => ⟨S4x128, .f32⟩
  | .hbm, ⟨26, _⟩ => ⟨S_, .f32⟩
  | .hbm, ⟨27, _⟩ => ⟨S4x128, .f32⟩
  | .hbm, ⟨28, _⟩ => ⟨S4x128, .f32⟩
  | .hbm, ⟨29, _⟩ => ⟨S4x128, .f32⟩
  | .hbm, ⟨30, _⟩ => ⟨S_, .f32⟩
  | .hbm, ⟨31, _⟩ => ⟨S4x128, .f32⟩
  | .hbm, ⟨32, _⟩ => ⟨S4x128, .f32⟩
  | .hbm, ⟨33, _⟩ => ⟨S4x128, .f32⟩
  | .hbm, ⟨34, _⟩ => ⟨S_, .f32⟩
  | .hbm, ⟨35, _⟩ => ⟨S4x128, .f32⟩
  | .hbm, ⟨36, _⟩ => ⟨S4x128, .f32⟩
  | _, _ => ⟨S4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S1024x1024 : Shape := ⟨2, ![1024, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateOutIdeal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Adam.lean ====
module

public import proofs.«01_k».proof.Defs
public import proofs.«01_k».proof.Proof.Gen.AdamMod
public import proofs.«01_k».proof.Proof.Gen.AdamModIdeal
public import proofs.«01_k».proof.Proof.Gen.AdamMod.Frame
public import proofs.«01_k».proof.Proof.Gen.AdamModIdeal.Frame
public import proofs.«01_k».proof.Proof.Gen.AdamModIdeal.Value
public import proofs.«01_k».proof.Proof.Gen.UpdateModIdeal
public import proofs.«01_k».proof.Proof.Gen.UpdateModIdeal.Run
public import proofs.«01_k».proof.Proof.Gen.AdamModBias
public import proofs.«01_k».proof.Proof.Gen.AdamModBiasIdeal
public import proofs.«01_k».proof.Proof.Gen.AdamModBias.Frame
public import proofs.«01_k».proof.Proof.Gen.AdamModBiasIdeal.Frame
public import proofs.«01_k».proof.Proof.Gen.AdamModBiasIdeal.Value
public import proofs.«01_k».proof.Proof.Gen.UpdateModBiasIdeal
public import proofs.«01_k».proof.Proof.Gen.UpdateModBiasIdeal.Run
public import proofs.«01_k».proof.Proof.Gen.AdamNorm
public import proofs.«01_k».proof.Proof.Gen.AdamNormIdeal
public import proofs.«01_k».proof.Proof.Gen.AdamNorm.Frame
public import proofs.«01_k».proof.Proof.Gen.AdamNormIdeal.Frame
public import proofs.«01_k».proof.Proof.Gen.AdamNormIdeal.Value
public import proofs.«01_k».proof.Proof.Gen.UpdateNormIdeal
public import proofs.«01_k».proof.Proof.Gen.UpdateNormIdeal.Run
public import proofs.«01_k».proof.Proof.Gen.AdamIn
public import proofs.«01_k».proof.Proof.Gen.AdamInIdeal
public import proofs.«01_k».proof.Proof.Gen.AdamIn.Frame
public import proofs.«01_k».proof.Proof.Gen.AdamInIdeal.Frame
public import proofs.«01_k».proof.Proof.Gen.AdamInIdeal.Value
public import proofs.«01_k».proof.Proof.Gen.UpdateInIdeal
public import proofs.«01_k».proof.Proof.Gen.UpdateInIdeal.Run
public import proofs.«01_k».proof.Proof.Gen.AdamQNorm
public import proofs.«01_k».proof.Proof.Gen.AdamQNormIdeal
public import proofs.«01_k».proof.Proof.Gen.AdamQNorm.Frame
public import proofs.«01_k».proof.Proof.Gen.AdamQNormIdeal.Frame
public import proofs.«01_k».proof.Proof.Gen.AdamQNormIdeal.Value
public import proofs.«01_k».proof.Proof.Gen.UpdateQNormIdeal
public import proofs.«01_k».proof.Proof.Gen.UpdateQNormIdeal.Run
public import proofs.«01_k».proof.Proof.Gen.AdamQUp
public import proofs.«01_k».proof.Proof.Gen.AdamQUpIdeal
public import proofs.«01_k».proof.Proof.Gen.AdamQUp.Frame
public import proofs.«01_k».proof.Proof.Gen.AdamQUpIdeal.Frame
public import proofs.«01_k».proof.Proof.Gen.AdamQUpIdeal.Value
public import proofs.«01_k».proof.Proof.Gen.UpdateQUpIdeal
public import proofs.«01_k».proof.Proof.Gen.UpdateQUpIdeal.Run
public import proofs.«01_k».proof.Proof.Gen.AdamKvNorm
public import proofs.«01_k».proof.Proof.Gen.AdamKvNormIdeal
public import proofs.«01_k».proof.Proof.Gen.AdamKvNorm.Frame
public import proofs.«01_k».proof.Proof.Gen.AdamKvNormIdeal.Frame
public import proofs.«01_k».proof.Proof.Gen.AdamKvNormIdeal.Value
public import proofs.«01_k».proof.Proof.Gen.UpdateKvNormIdeal
public import proofs.«01_k».proof.Proof.Gen.UpdateKvNormIdeal.Run
public import proofs.«01_k».proof.Proof.Gen.AdamKvUp
public import proofs.«01_k».proof.Proof.Gen.AdamKvUpIdeal
public import proofs.«01_k».proof.Proof.Gen.AdamKvUp.Frame
public import proofs.«01_k».proof.Proof.Gen.AdamKvUpIdeal.Frame
public import proofs.«01_k».proof.Proof.Gen.AdamKvUpIdeal.Value
public import proofs.«01_k».proof.Proof.Gen.UpdateKvUpIdeal
public import proofs.«01_k».proof.Proof.Gen.UpdateKvUpIdeal.Run
public import proofs.«01_k».proof.Proof.Gen.AdamConv
public import proofs.«01_k».proof.Proof.Gen.AdamConvIdeal
public import proofs.«01_k».proof.Proof.Gen.AdamConv.Frame
public import proofs.«01_k».proof.Proof.Gen.AdamConvIdeal.Frame
public import proofs.«01_k».proof.Proof.Gen.AdamConvIdeal.Value
public import proofs.«01_k».proof.Proof.Gen.UpdateConvIdeal
public import proofs.«01_k».proof.Proof.Gen.UpdateConvIdeal.Run
public import proofs.«01_k».proof.Proof.Gen.AdamGates
public import proofs.«01_k».proof.Proof.Gen.AdamGatesIdeal
public import proofs.«01_k».proof.Proof.Gen.AdamGates.Frame
public import proofs.«01_k».proof.Proof.Gen.AdamGatesIdeal.Frame
public import proofs.«01_k».proof.Proof.Gen.AdamGatesIdeal.Value
public import proofs.«01_k».proof.Proof.Gen.UpdateGatesIdeal
public import proofs.«01_k».proof.Proof.Gen.UpdateGatesIdeal.Run
public import proofs.«01_k».proof.Proof.Gen.AdamONorm
public import proofs.«01_k».proof.Proof.Gen.AdamONormIdeal
public import proofs.«01_k».proof.Proof.Gen.AdamONorm.Frame
public import proofs.«01_k».proof.Proof.Gen.AdamONormIdeal.Frame
public import proofs.«01_k».proof.Proof.Gen.AdamONormIdeal.Value
public import proofs.«01_k».proof.Proof.Gen.UpdateONormIdeal
public import proofs.«01_k».proof.Proof.Gen.UpdateONormIdeal.Run
public import proofs.«01_k».proof.Proof.Gen.AdamOut
public import proofs.«01_k».proof.Proof.Gen.AdamOutIdeal
public import proofs.«01_k».proof.Proof.Gen.AdamOut.Frame
public import proofs.«01_k».proof.Proof.Gen.AdamOutIdeal.Frame
public import proofs.«01_k».proof.Proof.Gen.AdamOutIdeal.Value
public import proofs.«01_k».proof.Proof.Gen.UpdateOutIdeal
public import proofs.«01_k».proof.Proof.Gen.UpdateOutIdeal.Run

/-! The optimiser's step, one weight after the other: the change of the weight and its two new moments, entry by entry, are
the plain step's. Both programs do the same operations on each entry, so each equation holds by unfolding. -/

@[expose] public section

noncomputable section

namespace Cert.Proof.Adam

open Idealize.ShloMosaic Idealize.SL.Sem

/-! ## Mod -/

theorem frameMod : Cert.quiescent_AdamMod := fun m ρ _ => Cert.AdamMod.Gen.frame (F := Bits) m ρ

theorem idealMod : Cert.quiescent_AdamModIdeal := fun m ρ _ => Cert.AdamModIdeal.Gen.frame (F := Ideal) m ρ

theorem plainMod : Cert.quiescent_UpdateModIdeal := fun m ρ _ =>
  (θ_run Cert.UpdateModIdeal.defs _ _).mono (fun r h => ⟨fun c => (h c).2.2.2, sem_eq_zero_of_no_sems (by decide) r.2⟩)
    (Cert.UpdateModIdeal.Value.run (F := Ideal) m ρ)

theorem sameMod : Cert.algebraic_AdamModIdeal_UpdateModIdeal := by
  intro m g m' g' hm hargs
  refine ⟨_, _, _, Cert.AdamModIdeal.Value.run (F := Ideal) m g, ?_⟩
  refine (θ_run Cert.UpdateModIdeal.defs _ _).mono (fun r h c => ?_) (Cert.UpdateModIdeal.Value.run (F := Ideal) m' g')
  obtain ⟨e0, e1, e2, e3⟩ := hargs c
  obtain ⟨h0, h1, h2, ha⟩ := h c
  beta_reduce
  rw [← e0, ← e1, ← e2, ← e3]
  exact ⟨h0.trans rfl, h1.trans rfl, h2.trans rfl, ha⟩

/-! ## ModBias -/

theorem frameModBias : Cert.quiescent_AdamModBias := fun m ρ _ => Cert.AdamModBias.Gen.frame (F := Bits) m ρ

theorem idealModBias : Cert.quiescent_AdamModBiasIdeal := fun m ρ _ => Cert.AdamModBiasIdeal.Gen.frame (F := Ideal) m ρ

theorem plainModBias : Cert.quiescent_UpdateModBiasIdeal := fun m ρ _ =>
  (θ_run Cert.UpdateModBiasIdeal.defs _ _).mono (fun r h => ⟨fun c => (h c).2.2.2, sem_eq_zero_of_no_sems (by decide) r.2⟩)
    (Cert.UpdateModBiasIdeal.Value.run (F := Ideal) m ρ)

theorem sameModBias : Cert.algebraic_AdamModBiasIdeal_UpdateModBiasIdeal := by
  intro m g m' g' hm hargs
  refine ⟨_, _, _, Cert.AdamModBiasIdeal.Value.run (F := Ideal) m g, ?_⟩
  refine (θ_run Cert.UpdateModBiasIdeal.defs _ _).mono (fun r h c => ?_) (Cert.UpdateModBiasIdeal.Value.run (F := Ideal) m' g')
  obtain ⟨e0, e1, e2, e3⟩ := hargs c
  obtain ⟨h0, h1, h2, ha⟩ := h c
  beta_reduce
  rw [← e0, ← e1, ← e2, ← e3]
  exact ⟨h0.trans rfl, h1.trans rfl, h2.trans rfl, ha⟩

/-! ## Norm -/

theorem frameNorm : Cert.quiescent_AdamNorm := fun m ρ _ => Cert.AdamNorm.Gen.frame (F := Bits) m ρ

theorem idealNorm : Cert.quiescent_AdamNormIdeal := fun m ρ _ => Cert.AdamNormIdeal.Gen.frame (F := Ideal) m ρ

theorem plainNorm : Cert.quiescent_UpdateNormIdeal := fun m ρ _ =>
  (θ_run Cert.UpdateNormIdeal.defs _ _).mono (fun r h => ⟨fun c => (h c).2.2.2, sem_eq_zero_of_no_sems (by decide) r.2⟩)
    (Cert.UpdateNormIdeal.Value.run (F := Ideal) m ρ)

theorem sameNorm : Cert.algebraic_AdamNormIdeal_UpdateNormIdeal := by
  intro m g m' g' hm hargs
  refine ⟨_, _, _, Cert.AdamNormIdeal.Value.run (F := Ideal) m g, ?_⟩
  refine (θ_run Cert.UpdateNormIdeal.defs _ _).mono (fun r h c => ?_) (Cert.UpdateNormIdeal.Value.run (F := Ideal) m' g')
  obtain ⟨e0, e1, e2, e3⟩ := hargs c
  obtain ⟨h0, h1, h2, ha⟩ := h c
  beta_reduce
  rw [← e0, ← e1, ← e2, ← e3]
  exact ⟨h0.trans rfl, h1.trans rfl, h2.trans rfl, ha⟩

/-! ## In -/

theorem frameIn : Cert.quiescent_AdamIn := fun m ρ _ => Cert.AdamIn.Gen.frame (F := Bits) m ρ

theorem idealIn : Cert.quiescent_AdamInIdeal := fun m ρ _ => Cert.AdamInIdeal.Gen.frame (F := Ideal) m ρ

theorem plainIn : Cert.quiescent_UpdateInIdeal := fun m ρ _ =>
  (θ_run Cert.UpdateInIdeal.defs _ _).mono (fun r h => ⟨fun c => (h c).2.2.2, sem_eq_zero_of_no_sems (by decide) r.2⟩)
    (Cert.UpdateInIdeal.Value.run (F := Ideal) m ρ)

theorem sameIn : Cert.algebraic_AdamInIdeal_UpdateInIdeal := by
  intro m g m' g' hm hargs
  refine ⟨_, _, _, Cert.AdamInIdeal.Value.run (F := Ideal) m g, ?_⟩
  refine (θ_run Cert.UpdateInIdeal.defs _ _).mono (fun r h c => ?_) (Cert.UpdateInIdeal.Value.run (F := Ideal) m' g')
  obtain ⟨e0, e1, e2, e3⟩ := hargs c
  obtain ⟨h0, h1, h2, ha⟩ := h c
  beta_reduce
  rw [← e0, ← e1, ← e2, ← e3]
  exact ⟨h0.trans rfl, h1.trans rfl, h2.trans rfl, ha⟩

/-! ## QNorm -/

theorem frameQNorm : Cert.quiescent_AdamQNorm := fun m ρ _ => Cert.AdamQNorm.Gen.frame (F := Bits) m ρ

theorem idealQNorm : Cert.quiescent_AdamQNormIdeal := fun m ρ _ => Cert.AdamQNormIdeal.Gen.frame (F := Ideal) m ρ

theorem plainQNorm : Cert.quiescent_UpdateQNormIdeal := fun m ρ _ =>
  (θ_run Cert.UpdateQNormIdeal.defs _ _).mono (fun r h => ⟨fun c => (h c).2.2.2, sem_eq_zero_of_no_sems (by decide) r.2⟩)
    (Cert.UpdateQNormIdeal.Value.run (F := Ideal) m ρ)

theorem sameQNorm : Cert.algebraic_AdamQNormIdeal_UpdateQNormIdeal := by
  intro m g m' g' hm hargs
  refine ⟨_, _, _, Cert.AdamQNormIdeal.Value.run (F := Ideal) m g, ?_⟩
  refine (θ_run Cert.UpdateQNormIdeal.defs _ _).mono (fun r h c => ?_) (Cert.UpdateQNormIdeal.Value.run (F := Ideal) m' g')
  obtain ⟨e0, e1, e2, e3⟩ := hargs c
  obtain ⟨h0, h1, h2, ha⟩ := h c
  beta_reduce
  rw [← e0, ← e1, ← e2, ← e3]
  exact ⟨h0.trans rfl, h1.trans rfl, h2.trans rfl, ha⟩

/-! ## QUp -/

theorem frameQUp : Cert.quiescent_AdamQUp := fun m ρ _ => Cert.AdamQUp.Gen.frame (F := Bits) m ρ

theorem idealQUp : Cert.quiescent_AdamQUpIdeal := fun m ρ _ => Cert.AdamQUpIdeal.Gen.frame (F := Ideal) m ρ

theorem plainQUp : Cert.quiescent_UpdateQUpIdeal := fun m ρ _ =>
  (θ_run Cert.UpdateQUpIdeal.defs _ _).mono (fun r h => ⟨fun c => (h c).2.2.2, sem_eq_zero_of_no_sems (by decide) r.2⟩)
    (Cert.UpdateQUpIdeal.Value.run (F := Ideal) m ρ)

theorem sameQUp : Cert.algebraic_AdamQUpIdeal_UpdateQUpIdeal := by
  intro m g m' g' hm hargs
  refine ⟨_, _, _, Cert.AdamQUpIdeal.Value.run (F := Ideal) m g, ?_⟩
  refine (θ_run Cert.UpdateQUpIdeal.defs _ _).mono (fun r h c => ?_) (Cert.UpdateQUpIdeal.Value.run (F := Ideal) m' g')
  obtain ⟨e0, e1, e2, e3⟩ := hargs c
  obtain ⟨h0, h1, h2, ha⟩ := h c
  beta_reduce
  rw [← e0, ← e1, ← e2, ← e3]
  exact ⟨h0.trans rfl, h1.trans rfl, h2.trans rfl, ha⟩

/-! ## KvNorm -/

theorem frameKvNorm : Cert.quiescent_AdamKvNorm := fun m ρ _ => Cert.AdamKvNorm.Gen.frame (F := Bits) m ρ

theorem idealKvNorm : Cert.quiescent_AdamKvNormIdeal := fun m ρ _ => Cert.AdamKvNormIdeal.Gen.frame (F := Ideal) m ρ

theorem plainKvNorm : Cert.quiescent_UpdateKvNormIdeal := fun m ρ _ =>
  (θ_run Cert.UpdateKvNormIdeal.defs _ _).mono (fun r h => ⟨fun c => (h c).2.2.2, sem_eq_zero_of_no_sems (by decide) r.2⟩)
    (Cert.UpdateKvNormIdeal.Value.run (F := Ideal) m ρ)

theorem sameKvNorm : Cert.algebraic_AdamKvNormIdeal_UpdateKvNormIdeal := by
  intro m g m' g' hm hargs
  refine ⟨_, _, _, Cert.AdamKvNormIdeal.Value.run (F := Ideal) m g, ?_⟩
  refine (θ_run Cert.UpdateKvNormIdeal.defs _ _).mono (fun r h c => ?_) (Cert.UpdateKvNormIdeal.Value.run (F := Ideal) m' g')
  obtain ⟨e0, e1, e2, e3⟩ := hargs c
  obtain ⟨h0, h1, h2, ha⟩ := h c
  beta_reduce
  rw [← e0, ← e1, ← e2, ← e3]
  exact ⟨h0.trans rfl, h1.trans rfl, h2.trans rfl, ha⟩

/-! ## KvUp -/

theorem frameKvUp : Cert.quiescent_AdamKvUp := fun m ρ _ => Cert.AdamKvUp.Gen.frame (F := Bits) m ρ

theorem idealKvUp : Cert.quiescent_AdamKvUpIdeal := fun m ρ _ => Cert.AdamKvUpIdeal.Gen.frame (F := Ideal) m ρ

theorem plainKvUp : Cert.quiescent_UpdateKvUpIdeal := fun m ρ _ =>
  (θ_run Cert.UpdateKvUpIdeal.defs _ _).mono (fun r h => ⟨fun c => (h c).2.2.2, sem_eq_zero_of_no_sems (by decide) r.2⟩)
    (Cert.UpdateKvUpIdeal.Value.run (F := Ideal) m ρ)

theorem sameKvUp : Cert.algebraic_AdamKvUpIdeal_UpdateKvUpIdeal := by
  intro m g m' g' hm hargs
  refine ⟨_, _, _, Cert.AdamKvUpIdeal.Value.run (F := Ideal) m g, ?_⟩
  refine (θ_run Cert.UpdateKvUpIdeal.defs _ _).mono (fun r h c => ?_) (Cert.UpdateKvUpIdeal.Value.run (F := Ideal) m' g')
  obtain ⟨e0, e1, e2, e3⟩ := hargs c
  obtain ⟨h0, h1, h2, ha⟩ := h c
  beta_reduce
  rw [← e0, ← e1, ← e2, ← e3]
  exact ⟨h0.trans rfl, h1.trans rfl, h2.trans rfl, ha⟩

/-! ## Conv -/

theorem frameConv : Cert.quiescent_AdamConv := fun m ρ _ => Cert.AdamConv.Gen.frame (F := Bits) m ρ

theorem idealConv : Cert.quiescent_AdamConvIdeal := fun m ρ _ => Cert.AdamConvIdeal.Gen.frame (F := Ideal) m ρ

theorem plainConv : Cert.quiescent_UpdateConvIdeal := fun m ρ _ =>
  (θ_run Cert.UpdateConvIdeal.defs _ _).mono (fun r h => ⟨fun c => (h c).2.2.2, sem_eq_zero_of_no_sems (by decide) r.2⟩)
    (Cert.UpdateConvIdeal.Value.run (F := Ideal) m ρ)

theorem sameConv : Cert.algebraic_AdamConvIdeal_UpdateConvIdeal := by
  intro m g m' g' hm hargs
  refine ⟨_, _, _, Cert.AdamConvIdeal.Value.run (F := Ideal) m g, ?_⟩
  refine (θ_run Cert.UpdateConvIdeal.defs _ _).mono (fun r h c => ?_) (Cert.UpdateConvIdeal.Value.run (F := Ideal) m' g')
  obtain ⟨e0, e1, e2, e3⟩ := hargs c
  obtain ⟨h0, h1, h2, ha⟩ := h c
  beta_reduce
  rw [← e0, ← e1, ← e2, ← e3]
  exact ⟨h0.trans rfl, h1.trans rfl, h2.trans rfl, ha⟩

/-! ## Gates -/

theorem frameGates : Cert.quiescent_AdamGates := fun m ρ _ => Cert.AdamGates.Gen.frame (F := Bits) m ρ

theorem idealGates : Cert.quiescent_AdamGatesIdeal := fun m ρ _ => Cert.AdamGatesIdeal.Gen.frame (F := Ideal) m ρ

theorem plainGates : Cert.quiescent_UpdateGatesIdeal := fun m ρ _ =>
  (θ_run Cert.UpdateGatesIdeal.defs _ _).mono (fun r h => ⟨fun c => (h c).2.2.2, sem_eq_zero_of_no_sems (by decide) r.2⟩)
    (Cert.UpdateGatesIdeal.Value.run (F := Ideal) m ρ)

theorem sameGates : Cert.algebraic_AdamGatesIdeal_UpdateGatesIdeal := by
  intro m g m' g' hm hargs
  refine ⟨_, _, _, Cert.AdamGatesIdeal.Value.run (F := Ideal) m g, ?_⟩
  refine (θ_run Cert.UpdateGatesIdeal.defs _ _).mono (fun r h c => ?_) (Cert.UpdateGatesIdeal.Value.run (F := Ideal) m' g')
  obtain ⟨e0, e1, e2, e3⟩ := hargs c
  obtain ⟨h0, h1, h2, ha⟩ := h c
  beta_reduce
  rw [← e0, ← e1, ← e2, ← e3]
  exact ⟨h0.trans rfl, h1.trans rfl, h2.trans rfl, ha⟩

/-! ## ONorm -/

theorem frameONorm : Cert.quiescent_AdamONorm := fun m ρ _ => Cert.AdamONorm.Gen.frame (F := Bits) m ρ

theorem idealONorm : Cert.quiescent_AdamONormIdeal := fun m ρ _ => Cert.AdamONormIdeal.Gen.frame (F := Ideal) m ρ

theorem plainONorm : Cert.quiescent_UpdateONormIdeal := fun m ρ _ =>
  (θ_run Cert.UpdateONormIdeal.defs _ _).mono (fun r h => ⟨fun c => (h c).2.2.2, sem_eq_zero_of_no_sems (by decide) r.2⟩)
    (Cert.UpdateONormIdeal.Value.run (F := Ideal) m ρ)

theorem sameONorm : Cert.algebraic_AdamONormIdeal_UpdateONormIdeal := by
  intro m g m' g' hm hargs
  refine ⟨_, _, _, Cert.AdamONormIdeal.Value.run (F := Ideal) m g, ?_⟩
  refine (θ_run Cert.UpdateONormIdeal.defs _ _).mono (fun r h c => ?_) (Cert.UpdateONormIdeal.Value.run (F := Ideal) m' g')
  obtain ⟨e0, e1, e2, e3⟩ := hargs c
  obtain ⟨h0, h1, h2, ha⟩ := h c
  beta_reduce
  rw [← e0, ← e1, ← e2, ← e3]
  exact ⟨h0.trans rfl, h1.trans rfl, h2.trans rfl, ha⟩

/-! ## Out -/

theorem frameOut : Cert.quiescent_AdamOut := fun m ρ _ => Cert.AdamOut.Gen.frame (F := Bits) m ρ

theorem idealOut : Cert.quiescent_AdamOutIdeal := fun m ρ _ => Cert.AdamOutIdeal.Gen.frame (F := Ideal) m ρ

theorem plainOut : Cert.quiescent_UpdateOutIdeal := fun m ρ _ =>
  (θ_run Cert.UpdateOutIdeal.defs _ _).mono (fun r h => ⟨fun c => (h c).2.2.2, sem_eq_zero_of_no_sems (by decide) r.2⟩)
    (Cert.UpdateOutIdeal.Value.run (F := Ideal) m ρ)

theorem sameOut : Cert.algebraic_AdamOutIdeal_UpdateOutIdeal := by
  intro m g m' g' hm hargs
  refine ⟨_, _, _, Cert.AdamOutIdeal.Value.run (F := Ideal) m g, ?_⟩
  refine (θ_run Cert.UpdateOutIdeal.defs _ _).mono (fun r h c => ?_) (Cert.UpdateOutIdeal.Value.run (F := Ideal) m' g')
  obtain ⟨e0, e1, e2, e3⟩ := hargs c
  obtain ⟨h0, h1, h2, ha⟩ := h c
  beta_reduce
  rw [← e0, ← e1, ← e2, ← e3]
  exact ⟨h0.trans rfl, h1.trans rfl, h2.trans rfl, ha⟩

end Cert.Proof.Adam
-- ==== Proof.FrontBody.lean ====
/- The gradient kernel of the projections: what one grid point leaves, and its body. -/
module

public import proofs.«01_k».proof.Proof.Gen.Kernel2Ideal.Frame.Runs
public import Idealize.ShloMosaic.Lib.VecWindow

@[expose] public section

set_option maxRecDepth 16384
set_option maxHeartbeats 16000000

noncomputable section

namespace Cert.Proof.Front

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What a grid point reads: 512 rows, the norm's parameters, the matrices, the gradients of the projections and of the skip. -/
structure Ins (F : FTy → Type) where
  x : Vec F S512x1024 .f32
  nw : Vec F S1x1024 .f32
  sr : Vec F S1x1024 .f32
  sb : Vec F S1x1024 .f32
  hr : Vec F S1x1024 .f32
  hb : Vec F S1x1024 .f32
  w0 : Vec F S1024x384 .bf16
  w1 : Vec F S1024x256 .bf16
  w2 : Vec F S1024x128 .bf16
  w3 : Vec F S1024x512 .bf16
  w4 : Vec F S1024x1536 .bf16
  w5 : Vec F S1024x128 .bf16
  w6 : Vec F S1024x512 .bf16
  d0 : Vec F S512x384 .f32
  d1 : Vec F S512x256 .f32
  d2 : Vec F S512x128 .f32
  d3 : Vec F S512x512 .f32
  d4 : Vec F S512x1536 .f32
  d5 : Vec F S512x128 .f32
  d6 : Vec F S512x512 .f32
  sk : Vec F S512x1024 .f32

/-- What is summed over the grid points: the gradients of the norm's parameters and of the matrices. -/
structure Acc (F : FTy → Type) where
  nw : Vec F S1x1024 .f32
  sr : Vec F S1x1024 .f32
  sb : Vec F S1x1024 .f32
  hr : Vec F S1x1024 .f32
  hb : Vec F S1x1024 .f32
  w0 : Vec F S1024x384 .f32
  w1 : Vec F S1024x256 .f32
  w2 : Vec F S1024x128 .f32
  w3 : Vec F S1024x512 .f32
  w4 : Vec F S1024x1536 .f32
  w5 : Vec F S1024x128 .f32
  w6 : Vec F S1024x512 .f32

/-- Before the first point, zeros. -/
def Acc.zero : Acc F := ⟨k0_pay7, k0_pay8, k0_pay9, k0_pay10, k0_pay11, k0_pay12, k0_pay13, k0_pay14, k0_pay15, k0_pay16, k0_pay17, k0_pay18⟩

/-- The gradient of the normalised rows. -/
def Ins.dh (I : Ins F) : Vec F S512x1024 .f32 :=
  k0_pay38 (k0_pay33 I.d3 I.w3) (k0_pay34 I.d4 I.w4) (k0_pay35 I.d5 I.w5) (k0_pay36 I.d6 I.w6) (k0_pay37 (k0_pay26 I.d0) I.d1 I.d2 I.w0 I.w1 I.w2)
/-- The normalised rows. -/
def Ins.h (I : Ins F) : Vec F S512x1024 .bf16 := k0_pay25 I.x I.nw I.sr I.sb I.hr I.hb
/-- The gradient of the rows. -/
def Ins.dx (I : Ins F) : Vec F S512x1024 .f32 := k0_pay1 (k0_pay51 I.x I.nw (k0_pay20 I.x) (k0_pay21 I.x) (k0_pay24 I.sr I.sb) I.dh) I.sk

/-- One point adds its own. -/
def Acc.step (I : Ins F) (S : Acc F) : Acc F where
  nw := k0_pay2 (k0_pay50 (k0_pay22 I.x) (k0_pay24 I.sr I.sb) I.dh) S.nw
  sr := k0_pay3 (k0_pay48 (k0_pay23 I.x I.nw) I.dh) S.sr
  sb := k0_pay4 (k0_pay48 (k0_pay23 I.x I.nw) I.dh) S.sb
  hr := k0_pay5 (k0_pay47 I.dh) S.hr
  hb := k0_pay6 (k0_pay46 I.dh) S.hb
  w0 := k0_pay39 I.h (k0_pay26 I.d0) S.w0
  w1 := k0_pay40 I.h (k0_pay27 I.d1) S.w1
  w2 := k0_pay41 I.h (k0_pay28 I.d2) S.w2
  w3 := k0_pay42 I.h (k0_pay29 I.d3) S.w3
  w4 := k0_pay43 I.h (k0_pay30 I.d4) S.w4
  w5 := k0_pay44 I.h (k0_pay31 I.d5) S.w5
  w6 := k0_pay45 I.h (k0_pay32 I.d6) S.w6

theorem ld_S512x1024 {e : EltTy} (v : View sig .tc .vmem S512x1024 e) (x : S512x1024.Idx → Elt F e) :
    v.readAt (Elt F) (Rect.unit (s := S512x1024) ![0, 0] ![512, 1024] inb_S512x1024_S512x1024_0_0).toLoadRect (v.rep x) = x := View.readAt_rep_full v x _
theorem ld_S1x1024 {e : EltTy} (v : View sig .tc .vmem S1x1024 e) (x : S1x1024.Idx → Elt F e) :
    v.readAt (Elt F) (Rect.unit (s := S1x1024) ![0, 0] ![1, 1024] inb_S1x1024_S1x1024_0_0).toLoadRect (v.rep x) = x := View.readAt_rep_full v x _
theorem ld_S1024x384 {e : EltTy} (v : View sig .tc .vmem S1024x384 e) (x : S1024x384.Idx → Elt F e) :
    v.readAt (Elt F) (Rect.unit (s := S1024x384) ![0, 0] ![1024, 384] inb_S1024x384_S1024x384_0_0).toLoadRect (v.rep x) = x := View.readAt_rep_full v x _
theorem ld_S1024x256 {e : EltTy} (v : View sig .tc .vmem S1024x256 e) (x : S1024x256.Idx → Elt F e) :
    v.readAt (Elt F) (Rect.unit (s := S1024x256) ![0, 0] ![1024, 256] inb_S1024x256_S1024x256_0_0).toLoadRect (v.rep x) = x := View.readAt_rep_full v x _
theorem ld_S1024x128 {e : EltTy} (v : View sig .tc .vmem S1024x128 e) (x : S1024x128.Idx → Elt F e) :
    v.readAt (Elt F) (Rect.unit (s := S1024x128) ![0, 0] ![1024, 128] inb_S1024x128_S1024x128_0_0).toLoadRect (v.rep x) = x := View.readAt_rep_full v x _
theorem ld_S1024x512 {e : EltTy} (v : View sig .tc .vmem S1024x512 e) (x : S1024x512.Idx → Elt F e) :
    v.readAt (Elt F) (Rect.unit (s := S1024x512) ![0, 0] ![1024, 512] inb_S1024x512_S1024x512_0_0).toLoadRect (v.rep x) = x := View.readAt_rep_full v x _
theorem ld_S1024x1536 {e : EltTy} (v : View sig .tc .vmem S1024x1536 e) (x : S1024x1536.Idx → Elt F e) :
    v.readAt (Elt F) (Rect.unit (s := S1024x1536) ![0, 0] ![1024, 1536] inb_S1024x1536_S1024x1536_0_0).toLoadRect (v.rep x) = x := View.readAt_rep_full v x _
theorem ld_S512x384 {e : EltTy} (v : View sig .tc .vmem S512x384 e) (x : S512x384.Idx → Elt F e) :
    v.readAt (Elt F) (Rect.unit (s := S512x384) ![0, 0] ![512, 384] inb_S512x384_S512x384_0_0).toLoadRect (v.rep x) = x := View.readAt_rep_full v x _
theorem ld_S512x256 {e : EltTy} (v : View sig .tc .vmem S512x256 e) (x : S512x256.Idx → Elt F e) :
    v.readAt (Elt F) (Rect.unit (s := S512x256) ![0, 0] ![512, 256] inb_S512x256_S512x256_0_0).toLoadRect (v.rep x) = x := View.readAt_rep_full v x _
theorem ld_S512x128 {e : EltTy} (v : View sig .tc .vmem S512x128 e) (x : S512x128.Idx → Elt F e) :
    v.readAt (Elt F) (Rect.unit (s := S512x128) ![0, 0] ![512, 128] inb_S512x128_S512x128_0_0).toLoadRect (v.rep x) = x := View.readAt_rep_full v x _
theorem ld_S512x512 {e : EltTy} (v : View sig .tc .vmem S512x512 e) (x : S512x512.Idx → Elt F e) :
    v.readAt (Elt F) (Rect.unit (s := S512x512) ![0, 0] ![512, 512] inb_S512x512_S512x512_0_0).toLoadRect (v.rep x) = x := View.readAt_rep_full v x _
theorem ld_S512x1536 {e : EltTy} (v : View sig .tc .vmem S512x1536 e) (x : S512x1536.Idx → Elt F e) :
    v.readAt (Elt F) (Rect.unit (s := S512x1536) ![0, 0] ![512, 1536] inb_S512x1536_S512x1536_0_0).toLoadRect (v.rep x) = x := View.readAt_rep_full v x _
theorem cv_S512x1024 {e : EltTy} (v : View sig .tc .vmem S512x1024 e) (w : S512x1024.Idx → Elt F e) (L : List (View.Piece (Elt F) S512x1024 e)) :
    v.readCov (⟨Rect.unit (s := S512x1024) ![0, 0] ![512, 1024] inb_S512x1024_S512x1024_0_0, w⟩ :: L) (Rect.unit (s := S512x1024) ![0, 0] ![512, 1024] inb_S512x1024_S512x1024_0_0).toLoadRect = w :=
  View.readCov_full v inb_S512x1024_S512x1024_0_0 inb_S512x1024_S512x1024_0_0 w L
theorem cv_S1x1024 {e : EltTy} (v : View sig .tc .vmem S1x1024 e) (w : S1x1024.Idx → Elt F e) (L : List (View.Piece (Elt F) S1x1024 e)) :
    v.readCov (⟨Rect.unit (s := S1x1024) ![0, 0] ![1, 1024] inb_S1x1024_S1x1024_0_0, w⟩ :: L) (Rect.unit (s := S1x1024) ![0, 0] ![1, 1024] inb_S1x1024_S1x1024_0_0).toLoadRect = w :=
  View.readCov_full v inb_S1x1024_S1x1024_0_0 inb_S1x1024_S1x1024_0_0 w L
theorem cv_S1024x384 {e : EltTy} (v : View sig .tc .vmem S1024x384 e) (w : S1024x384.Idx → Elt F e) (L : List (View.Piece (Elt F) S1024x384 e)) :
    v.readCov (⟨Rect.unit (s := S1024x384) ![0, 0] ![1024, 384] inb_S1024x384_S1024x384_0_0, w⟩ :: L) (Rect.unit (s := S1024x384) ![0, 0] ![1024, 384] inb_S1024x384_S1024x384_0_0).toLoadRect = w :=
  View.readCov_full v inb_S1024x384_S1024x384_0_0 inb_S1024x384_S1024x384_0_0 w L
theorem cv_S1024x256 {e : EltTy} (v : View sig .tc .vmem S1024x256 e) (w : S1024x256.Idx → Elt F e) (L : List (View.Piece (Elt F) S1024x256 e)) :
    v.readCov (⟨Rect.unit (s := S1024x256) ![0, 0] ![1024, 256] inb_S1024x256_S1024x256_0_0, w⟩ :: L) (Rect.unit (s := S1024x256) ![0, 0] ![1024, 256] inb_S1024x256_S1024x256_0_0).toLoadRect = w :=
  View.readCov_full v inb_S1024x256_S1024x256_0_0 inb_S1024x256_S1024x256_0_0 w L
theorem cv_S1024x128 {e : EltTy} (v : View sig .tc .vmem S1024x128 e) (w : S1024x128.Idx → Elt F e) (L : List (View.Piece (Elt F) S1024x128 e)) :
    v.readCov (⟨Rect.unit (s := S1024x128) ![0, 0] ![1024, 128] inb_S1024x128_S1024x128_0_0, w⟩ :: L) (Rect.unit (s := S1024x128) ![0, 0] ![1024, 128] inb_S1024x128_S1024x128_0_0).toLoadRect = w :=
  View.readCov_full v inb_S1024x128_S1024x128_0_0 inb_S1024x128_S1024x128_0_0 w L
theorem cv_S1024x512 {e : EltTy} (v : View sig .tc .vmem S1024x512 e) (w : S1024x512.Idx → Elt F e) (L : List (View.Piece (Elt F) S1024x512 e)) :
    v.readCov (⟨Rect.unit (s := S1024x512) ![0, 0] ![1024, 512] inb_S1024x512_S1024x512_0_0, w⟩ :: L) (Rect.unit (s := S1024x512) ![0, 0] ![1024, 512] inb_S1024x512_S1024x512_0_0).toLoadRect = w :=
  View.readCov_full v inb_S1024x512_S1024x512_0_0 inb_S1024x512_S1024x512_0_0 w L
theorem cv_S1024x1536 {e : EltTy} (v : View sig .tc .vmem S1024x1536 e) (w : S1024x1536.Idx → Elt F e) (L : List (View.Piece (Elt F) S1024x1536 e)) :
    v.readCov (⟨Rect.unit (s := S1024x1536) ![0, 0] ![1024, 1536] inb_S1024x1536_S1024x1536_0_0, w⟩ :: L) (Rect.unit (s := S1024x1536) ![0, 0] ![1024, 1536] inb_S1024x1536_S1024x1536_0_0).toLoadRect = w :=
  View.readCov_full v inb_S1024x1536_S1024x1536_0_0 inb_S1024x1536_S1024x1536_0_0 w L
theorem cv_S512x384 {e : EltTy} (v : View sig .tc .vmem S512x384 e) (w : S512x384.Idx → Elt F e) (L : List (View.Piece (Elt F) S512x384 e)) :
    v.readCov (⟨Rect.unit (s := S512x384) ![0, 0] ![512, 384] inb_S512x384_S512x384_0_0, w⟩ :: L) (Rect.unit (s := S512x384) ![0, 0] ![512, 384] inb_S512x384_S512x384_0_0).toLoadRect = w :=
  View.readCov_full v inb_S512x384_S512x384_0_0 inb_S512x384_S512x384_0_0 w L
theorem cv_S512x256 {e : EltTy} (v : View sig .tc .vmem S512x256 e) (w : S512x256.Idx → Elt F e) (L : List (View.Piece (Elt F) S512x256 e)) :
    v.readCov (⟨Rect.unit (s := S512x256) ![0, 0] ![512, 256] inb_S512x256_S512x256_0_0, w⟩ :: L) (Rect.unit (s := S512x256) ![0, 0] ![512, 256] inb_S512x256_S512x256_0_0).toLoadRect = w :=
  View.readCov_full v inb_S512x256_S512x256_0_0 inb_S512x256_S512x256_0_0 w L
theorem cv_S512x128 {e : EltTy} (v : View sig .tc .vmem S512x128 e) (w : S512x128.Idx → Elt F e) (L : List (View.Piece (Elt F) S512x128 e)) :
    v.readCov (⟨Rect.unit (s := S512x128) ![0, 0] ![512, 128] inb_S512x128_S512x128_0_0, w⟩ :: L) (Rect.unit (s := S512x128) ![0, 0] ![512, 128] inb_S512x128_S512x128_0_0).toLoadRect = w :=
  View.readCov_full v inb_S512x128_S512x128_0_0 inb_S512x128_S512x128_0_0 w L
theorem cv_S512x512 {e : EltTy} (v : View sig .tc .vmem S512x512 e) (w : S512x512.Idx → Elt F e) (L : List (View.Piece (Elt F) S512x512 e)) :
    v.readCov (⟨Rect.unit (s := S512x512) ![0, 0] ![512, 512] inb_S512x512_S512x512_0_0, w⟩ :: L) (Rect.unit (s := S512x512) ![0, 0] ![512, 512] inb_S512x512_S512x512_0_0).toLoadRect = w :=
  View.readCov_full v inb_S512x512_S512x512_0_0 inb_S512x512_S512x512_0_0 w L
theorem cv_S512x1536 {e : EltTy} (v : View sig .tc .vmem S512x1536 e) (w : S512x1536.Idx → Elt F e) (L : List (View.Piece (Elt F) S512x1536 e)) :
    v.readCov (⟨Rect.unit (s := S512x1536) ![0, 0] ![512, 1536] inb_S512x1536_S512x1536_0_0, w⟩ :: L) (Rect.unit (s := S512x1536) ![0, 0] ![512, 1536] inb_S512x1536_S512x1536_0_0).toLoadRect = w :=
  View.readCov_full v inb_S512x1536_S512x1536_0_0 inb_S512x1536_S512x1536_0_0 w L

variable (c : Dev nD) (i : grid0.Coords)
  (arg1 : Memref sig .tc .vmem S512x1024 .f32) (harg1 : arg1.IsWhole)
  (arg2 : Memref sig .tc .vmem S1x1024 .f32) (harg2 : arg2.IsWhole)
  (arg3 : Memref sig .tc .vmem S1x1024 .f32) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S1x1024 .f32) (harg6 : arg6.IsWhole)
  (arg7 : Memref sig .tc .vmem S1024x384 .bf16) (harg7 : arg7.IsWhole)
  (arg8 : Memref sig .tc .vmem S1024x256 .bf16) (harg8 : arg8.IsWhole)
  (arg9 : Memref sig .tc .vmem S1024x128 .bf16) (harg9 : arg9.IsWhole)
  (arg10 : Memref sig .tc .vmem S1024x512 .bf16) (harg10 : arg10.IsWhole)
  (arg11 : Memref sig .tc .vmem S1024x1536 .bf16) (harg11 : arg11.IsWhole)
  (arg12 : Memref sig .tc .vmem S1024x128 .bf16) (harg12 : arg12.IsWhole)
  (arg13 : Memref sig .tc .vmem S1024x512 .bf16) (harg13 : arg13.IsWhole)
  (arg14 : Memref sig .tc .vmem S512x384 .f32) (harg14 : arg14.IsWhole)
  (arg15 : Memref sig .tc .vmem S512x256 .f32) (harg15 : arg15.IsWhole)
  (arg16 : Memref sig .tc .vmem S512x128 .f32) (harg16 : arg16.IsWhole)
  (arg17 : Memref sig .tc .vmem S512x512 .f32) (harg17 : arg17.IsWhole)
  (arg18 : Memref sig .tc .vmem S512x1536 .f32) (harg18 : arg18.IsWhole)
  (arg19 : Memref sig .tc .vmem S512x128 .f32) (harg19 : arg19.IsWhole)
  (arg20 : Memref sig .tc .vmem S512x512 .f32) (harg20 : arg20.IsWhole)
  (arg21 : Memref sig .tc .vmem S512x1024 .f32) (harg21 : arg21.IsWhole)
  (arg22 : Memref sig .tc .vmem S512x1024 .f32) (harg22 : arg22.IsWhole)
  (arg23 : Memref sig .tc .vmem S1x1024 .f32) (harg23 : arg23.IsWhole)
  (arg24 : Memref sig .tc .vmem S1x1024 .f32) (harg24 : arg24.IsWhole)
  (arg25 : Memref sig .tc .vmem S1x1024 .f32) (harg25 : arg25.IsWhole)
  (arg26 : Memref sig .tc .vmem S1x1024 .f32) (harg26 : arg26.IsWhole)
  (arg27 : Memref sig .tc .vmem S1x1024 .f32) (harg27 : arg27.IsWhole)
  (arg28 : Memref sig .tc .vmem S1024x384 .f32) (harg28 : arg28.IsWhole)
  (arg29 : Memref sig .tc .vmem S1024x256 .f32) (harg29 : arg29.IsWhole)
  (arg30 : Memref sig .tc .vmem S1024x128 .f32) (harg30 : arg30.IsWhole)
  (arg31 : Memref sig .tc .vmem S1024x512 .f32) (harg31 : arg31.IsWhole)
  (arg32 : Memref sig .tc .vmem S1024x1536 .f32) (harg32 : arg32.IsWhole)
  (arg33 : Memref sig .tc .vmem S1024x128 .f32) (harg33 : arg33.IsWhole)
  (arg34 : Memref sig .tc .vmem S1024x512 .f32) (harg34 : arg34.IsWhole)

/-- The body at the first point: whatever the sums were, it starts them from zero. -/
theorem body_first (I : Ins F) (f21 : BufTy.Contents (Elt F) arg22.view.ty) (f22 : BufTy.Contents (Elt F) arg23.view.ty) (f23 : BufTy.Contents (Elt F) arg24.view.ty) (f24 : BufTy.Contents (Elt F) arg25.view.ty) (f25 : BufTy.Contents (Elt F) arg26.view.ty) (f26 : BufTy.Contents (Elt F) arg27.view.ty) (f27 : BufTy.Contents (Elt F) arg28.view.ty) (f28 : BufTy.Contents (Elt F) arg29.view.ty) (f29 : BufTy.Contents (Elt F) arg30.view.ty) (f30 : BufTy.Contents (Elt F) arg31.view.ty) (f31 : BufTy.Contents (Elt F) arg32.view.ty) (f32 : BufTy.Contents (Elt F) arg33.view.ty) (f33 : BufTy.Contents (Elt F) arg34.view.ty)
    (hc0 : cond0_0 i) :
    (iprop((arg1.view.loc (c : Thread nD τ) ↦[arg1.view.set]{fullShare} arg1.view.rep I.x) ∗
      (arg2.view.loc (c : Thread nD τ) ↦[arg2.view.set]{fullShare} arg2.view.rep I.nw) ∗
      (arg3.view.loc (c : Thread nD τ) ↦[arg3.view.set]{fullShare} arg3.view.rep I.sr) ∗
      (arg4.view.loc (c : Thread nD τ) ↦[arg4.view.set]{fullShare} arg4.view.rep I.sb) ∗
      (arg5.view.loc (c : Thread nD τ) ↦[arg5.view.set]{fullShare} arg5.view.rep I.hr) ∗
      (arg6.view.loc (c : Thread nD τ) ↦[arg6.view.set]{fullShare} arg6.view.rep I.hb) ∗
      (arg7.view.loc (c : Thread nD τ) ↦[arg7.view.set]{fullShare} arg7.view.rep I.w0) ∗
      (arg8.view.loc (c : Thread nD τ) ↦[arg8.view.set]{fullShare} arg8.view.rep I.w1) ∗
      (arg9.view.loc (c : Thread nD τ) ↦[arg9.view.set]{fullShare} arg9.view.rep I.w2) ∗
      (arg10.view.loc (c : Thread nD τ) ↦[arg10.view.set]{fullShare} arg10.view.rep I.w3) ∗
      (arg11.view.loc (c : Thread nD τ) ↦[arg11.view.set]{fullShare} arg11.view.rep I.w4) ∗
      (arg12.view.loc (c : Thread nD τ) ↦[arg12.view.set]{fullShare} arg12.view.rep I.w5) ∗
      (arg13.view.loc (c : Thread nD τ) ↦[arg13.view.set]{fullShare} arg13.view.rep I.w6) ∗
      (arg14.view.loc (c : Thread nD τ) ↦[arg14.view.set]{fullShare} arg14.view.rep I.d0) ∗
      (arg15.view.loc (c : Thread nD τ) ↦[arg15.view.set]{fullShare} arg15.view.rep I.d1) ∗
      (arg16.view.loc (c : Thread nD τ) ↦[arg16.view.set]{fullShare} arg16.view.rep I.d2) ∗
      (arg17.view.loc (c : Thread nD τ) ↦[arg17.view.set]{fullShare} arg17.view.rep I.d3) ∗
      (arg18.view.loc (c : Thread nD τ) ↦[arg18.view.set]{fullShare} arg18.view.rep I.d4) ∗
      (arg19.view.loc (c : Thread nD τ) ↦[arg19.view.set]{fullShare} arg19.view.rep I.d5) ∗
      (arg20.view.loc (c : Thread nD τ) ↦[arg20.view.set]{fullShare} arg20.view.rep I.d6) ∗
      (arg21.view.loc (c : Thread nD τ) ↦[arg21.view.set]{fullShare} arg21.view.rep I.sk) ∗
      (arg22.view.loc (c : Thread nD τ) ↦[arg22.view.set]{fullShare} f21) ∗
      (arg23.view.loc (c : Thread nD τ) ↦[arg23.view.set]{fullShare} f22) ∗
      (arg24.view.loc (c : Thread nD τ) ↦[arg24.view.set]{fullShare} f23) ∗
      (arg25.view.loc (c : Thread nD τ) ↦[arg25.view.set]{fullShare} f24) ∗
      (arg26.view.loc (c : Thread nD τ) ↦[arg26.view.set]{fullShare} f25) ∗
      (arg27.view.loc (c : Thread nD τ) ↦[arg27.view.set]{fullShare} f26) ∗
      (arg28.view.loc (c : Thread nD τ) ↦[arg28.view.set]{fullShare} f27) ∗
      (arg29.view.loc (c : Thread nD τ) ↦[arg29.view.set]{fullShare} f28) ∗
      (arg30.view.loc (c : Thread nD τ) ↦[arg30.view.set]{fullShare} f29) ∗
      (arg31.view.loc (c : Thread nD τ) ↦[arg31.view.set]{fullShare} f30) ∗
      (arg32.view.loc (c : Thread nD τ) ↦[arg32.view.set]{fullShare} f31) ∗
      (arg33.view.loc (c : Thread nD τ) ↦[arg33.view.set]{fullShare} f32) ∗
      (arg34.view.loc (c : Thread nD τ) ↦[arg34.view.set]{fullShare} f33)) : sProp 𝕄)
    ⊢ wp frame (wpE (defs₀ (F := F)) Variants.none (c : Thread nD τ) none) Set.univ
        (cc0_front_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34)
        (fun _ => iprop((arg1.view.loc (c : Thread nD τ) ↦[arg1.view.set]{fullShare} arg1.view.rep I.x) ∗
      (arg2.view.loc (c : Thread nD τ) ↦[arg2.view.set]{fullShare} arg2.view.rep I.nw) ∗
      (arg3.view.loc (c : Thread nD τ) ↦[arg3.view.set]{fullShare} arg3.view.rep I.sr) ∗
      (arg4.view.loc (c : Thread nD τ) ↦[arg4.view.set]{fullShare} arg4.view.rep I.sb) ∗
      (arg5.view.loc (c : Thread nD τ) ↦[arg5.view.set]{fullShare} arg5.view.rep I.hr) ∗
      (arg6.view.loc (c : Thread nD τ) ↦[arg6.view.set]{fullShare} arg6.view.rep I.hb) ∗
      (arg7.view.loc (c : Thread nD τ) ↦[arg7.view.set]{fullShare} arg7.view.rep I.w0) ∗
      (arg8.view.loc (c : Thread nD τ) ↦[arg8.view.set]{fullShare} arg8.view.rep I.w1) ∗
      (arg9.view.loc (c : Thread nD τ) ↦[arg9.view.set]{fullShare} arg9.view.rep I.w2) ∗
      (arg10.view.loc (c : Thread nD τ) ↦[arg10.view.set]{fullShare} arg10.view.rep I.w3) ∗
      (arg11.view.loc (c : Thread nD τ) ↦[arg11.view.set]{fullShare} arg11.view.rep I.w4) ∗
      (arg12.view.loc (c : Thread nD τ) ↦[arg12.view.set]{fullShare} arg12.view.rep I.w5) ∗
      (arg13.view.loc (c : Thread nD τ) ↦[arg13.view.set]{fullShare} arg13.view.rep I.w6) ∗
      (arg14.view.loc (c : Thread nD τ) ↦[arg14.view.set]{fullShare} arg14.view.rep I.d0) ∗
      (arg15.view.loc (c : Thread nD τ) ↦[arg15.view.set]{fullShare} arg15.view.rep I.d1) ∗
      (arg16.view.loc (c : Thread nD τ) ↦[arg16.view.set]{fullShare} arg16.view.rep I.d2) ∗
      (arg17.view.loc (c : Thread nD τ) ↦[arg17.view.set]{fullShare} arg17.view.rep I.d3) ∗
      (arg18.view.loc (c : Thread nD τ) ↦[arg18.view.set]{fullShare} arg18.view.rep I.d4) ∗
      (arg19.view.loc (c : Thread nD τ) ↦[arg19.view.set]{fullShare} arg19.view.rep I.d5) ∗
      (arg20.view.loc (c : Thread nD τ) ↦[arg20.view.set]{fullShare} arg20.view.rep I.d6) ∗
      (arg21.view.loc (c : Thread nD τ) ↦[arg21.view.set]{fullShare} arg21.view.rep I.sk) ∗
      (arg22.view.loc (c : Thread nD τ) ↦[arg22.view.set]{fullShare} arg22.view.rep I.dx) ∗
      (arg23.view.loc (c : Thread nD τ) ↦[arg23.view.set]{fullShare} arg23.view.rep (Acc.step I Acc.zero).nw) ∗
      (arg24.view.loc (c : Thread nD τ) ↦[arg24.view.set]{fullShare} arg24.view.rep (Acc.step I Acc.zero).sr) ∗
      (arg25.view.loc (c : Thread nD τ) ↦[arg25.view.set]{fullShare} arg25.view.rep (Acc.step I Acc.zero).sb) ∗
      (arg26.view.loc (c : Thread nD τ) ↦[arg26.view.set]{fullShare} arg26.view.rep (Acc.step I Acc.zero).hr) ∗
      (arg27.view.loc (c : Thread nD τ) ↦[arg27.view.set]{fullShare} arg27.view.rep (Acc.step I Acc.zero).hb) ∗
      (arg28.view.loc (c : Thread nD τ) ↦[arg28.view.set]{fullShare} arg28.view.rep (Acc.step I Acc.zero).w0) ∗
      (arg29.view.loc (c : Thread nD τ) ↦[arg29.view.set]{fullShare} arg29.view.rep (Acc.step I Acc.zero).w1) ∗
      (arg30.view.loc (c : Thread nD τ) ↦[arg30.view.set]{fullShare} arg30.view.rep (Acc.step I Acc.zero).w2) ∗
      (arg31.view.loc (c : Thread nD τ) ↦[arg31.view.set]{fullShare} arg31.view.rep (Acc.step I Acc.zero).w3) ∗
      (arg32.view.loc (c : Thread nD τ) ↦[arg32.view.set]{fullShare} arg32.view.rep (Acc.step I Acc.zero).w4) ∗
      (arg33.view.loc (c : Thread nD τ) ↦[arg33.view.set]{fullShare} arg33.view.rep (Acc.step I Acc.zero).w5) ∗
      (arg34.view.loc (c : Thread nD τ) ↦[arg34.view.set]{fullShare} arg34.view.rep (Acc.step I Acc.zero).w6))) := by
  rw [cc0_front_bwd_eq_skeleton]; unfold cc0_front_bwd_skel
  simp only [k0_part2_eq_skeleton, k0_part1_eq_skeleton, k0_part3_eq_skeleton, k0_part4_eq_skeleton, k0_part5_eq_skeleton]
  iintro ⟨H1, H2, H3, H4, H5, H6, H7, H8, H9, H10, H11, H12, H13, H14, H15, H16, H17, H18, H19, H20, H21, H22, H23, H24, H25, H26, H27, H28, H29, H30, H31, H32, H33, H34⟩
  sl_exec (disch := first | sl_exact hc0)
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]
  · iapply (pointsTo_rep_of_read (c : Thread nD τ) arg22 _ fullShare _ ?_) $$ H22
    rw [View.read_writes_full]; delta body_first.sl.r body_first.sl.v68 body_first.sl.v73 body_first.sl.v78 body_first.sl.v83 body_first.sl.v88 body_first.sl.v93 body_first.sl.v98 body_first.sl.v135 body_first.sl.v139 body_first.sl.v143 body_first.sl.v147 body_first.sl.v151 body_first.sl.H23_1 body_first.sl.H24_1 body_first.sl.H25_1 body_first.sl.H26_1 body_first.sl.H27_1 body_first.sl.H28_1 body_first.sl.H29_1 body_first.sl.H30_1 body_first.sl.H31_1 body_first.sl.H32_1 body_first.sl.H33_1 body_first.sl.H34_1 body_first.sl.r_1 body_first.sl.r_2 body_first.sl.r_3 body_first.sl.r_4 body_first.sl.r_5 body_first.sl.r_6 body_first.sl.r_7 body_first.sl.r_8 body_first.sl.r_9 body_first.sl.r_10 body_first.sl.r_11 body_first.sl.r_12 body_first.sl.r_13 body_first.sl.r_14 body_first.sl.r_15 body_first.sl.r_16 body_first.sl.r_17 body_first.sl.r_18 body_first.sl.r_19 body_first.sl.r_20 body_first.sl.r_21 body_first.sl.r_22 body_first.sl.r_23 body_first.sl.r_24 body_first.sl.r_25 body_first.sl.r_26; simp only [ld_S512x1024, ld_S1x1024, ld_S1024x384, ld_S1024x256, ld_S1024x128, ld_S1024x512, ld_S1024x1536, ld_S512x384, ld_S512x256, ld_S512x128, ld_S512x512, ld_S512x1536, cv_S512x1024, cv_S1x1024, cv_S1024x384, cv_S1024x256, cv_S1024x128, cv_S1024x512, cv_S1024x1536, cv_S512x384, cv_S512x256, cv_S512x128, cv_S512x512, cv_S512x1536]; rfl
  isplitl [H23]
  · iapply (pointsTo_rep_of_read (c : Thread nD τ) arg23 _ fullShare _ ?_) $$ H23
    rw [View.read_writes_full]; delta body_first.sl.r body_first.sl.v68 body_first.sl.v73 body_first.sl.v78 body_first.sl.v83 body_first.sl.v88 body_first.sl.v93 body_first.sl.v98 body_first.sl.v135 body_first.sl.v139 body_first.sl.v143 body_first.sl.v147 body_first.sl.v151 body_first.sl.H23_1 body_first.sl.H24_1 body_first.sl.H25_1 body_first.sl.H26_1 body_first.sl.H27_1 body_first.sl.H28_1 body_first.sl.H29_1 body_first.sl.H30_1 body_first.sl.H31_1 body_first.sl.H32_1 body_first.sl.H33_1 body_first.sl.H34_1 body_first.sl.r_1 body_first.sl.r_2 body_first.sl.r_3 body_first.sl.r_4 body_first.sl.r_5 body_first.sl.r_6 body_first.sl.r_7 body_first.sl.r_8 body_first.sl.r_9 body_first.sl.r_10 body_first.sl.r_11 body_first.sl.r_12 body_first.sl.r_13 body_first.sl.r_14 body_first.sl.r_15 body_first.sl.r_16 body_first.sl.r_17 body_first.sl.r_18 body_first.sl.r_19 body_first.sl.r_20 body_first.sl.r_21 body_first.sl.r_22 body_first.sl.r_23 body_first.sl.r_24 body_first.sl.r_25 body_first.sl.r_26; simp only [ld_S512x1024, ld_S1x1024, ld_S1024x384, ld_S1024x256, ld_S1024x128, ld_S1024x512, ld_S1024x1536, ld_S512x384, ld_S512x256, ld_S512x128, ld_S512x512, ld_S512x1536, cv_S512x1024, cv_S1x1024, cv_S1024x384, cv_S1024x256, cv_S1024x128, cv_S1024x512, cv_S1024x1536, cv_S512x384, cv_S512x256, cv_S512x128, cv_S512x512, cv_S512x1536]; rfl
  isplitl [H24]
  · iapply (pointsTo_rep_of_read (c : Thread nD τ) arg24 _ fullShare _ ?_) $$ H24
    rw [View.read_writes_full]; delta body_first.sl.r body_first.sl.v68 body_first.sl.v73 body_first.sl.v78 body_first.sl.v83 body_first.sl.v88 body_first.sl.v93 body_first.sl.v98 body_first.sl.v135 body_first.sl.v139 body_first.sl.v143 body_first.sl.v147 body_first.sl.v151 body_first.sl.H23_1 body_first.sl.H24_1 body_first.sl.H25_1 body_first.sl.H26_1 body_first.sl.H27_1 body_first.sl.H28_1 body_first.sl.H29_1 body_first.sl.H30_1 body_first.sl.H31_1 body_first.sl.H32_1 body_first.sl.H33_1 body_first.sl.H34_1 body_first.sl.r_1 body_first.sl.r_2 body_first.sl.r_3 body_first.sl.r_4 body_first.sl.r_5 body_first.sl.r_6 body_first.sl.r_7 body_first.sl.r_8 body_first.sl.r_9 body_first.sl.r_10 body_first.sl.r_11 body_first.sl.r_12 body_first.sl.r_13 body_first.sl.r_14 body_first.sl.r_15 body_first.sl.r_16 body_first.sl.r_17 body_first.sl.r_18 body_first.sl.r_19 body_first.sl.r_20 body_first.sl.r_21 body_first.sl.r_22 body_first.sl.r_23 body_first.sl.r_24 body_first.sl.r_25 body_first.sl.r_26; simp only [ld_S512x1024, ld_S1x1024, ld_S1024x384, ld_S1024x256, ld_S1024x128, ld_S1024x512, ld_S1024x1536, ld_S512x384, ld_S512x256, ld_S512x128, ld_S512x512, ld_S512x1536, cv_S512x1024, cv_S1x1024, cv_S1024x384, cv_S1024x256, cv_S1024x128, cv_S1024x512, cv_S1024x1536, cv_S512x384, cv_S512x256, cv_S512x128, cv_S512x512, cv_S512x1536]; rfl
  isplitl [H25]
  · iapply (pointsTo_rep_of_read (c : Thread nD τ) arg25 _ fullShare _ ?_) $$ H25
    rw [View.read_writes_full]; delta body_first.sl.r body_first.sl.v68 body_first.sl.v73 body_first.sl.v78 body_first.sl.v83 body_first.sl.v88 body_first.sl.v93 body_first.sl.v98 body_first.sl.v135 body_first.sl.v139 body_first.sl.v143 body_first.sl.v147 body_first.sl.v151 body_first.sl.H23_1 body_first.sl.H24_1 body_first.sl.H25_1 body_first.sl.H26_1 body_first.sl.H27_1 body_first.sl.H28_1 body_first.sl.H29_1 body_first.sl.H30_1 body_first.sl.H31_1 body_first.sl.H32_1 body_first.sl.H33_1 body_first.sl.H34_1 body_first.sl.r_1 body_first.sl.r_2 body_first.sl.r_3 body_first.sl.r_4 body_first.sl.r_5 body_first.sl.r_6 body_first.sl.r_7 body_first.sl.r_8 body_first.sl.r_9 body_first.sl.r_10 body_first.sl.r_11 body_first.sl.r_12 body_first.sl.r_13 body_first.sl.r_14 body_first.sl.r_15 body_first.sl.r_16 body_first.sl.r_17 body_first.sl.r_18 body_first.sl.r_19 body_first.sl.r_20 body_first.sl.r_21 body_first.sl.r_22 body_first.sl.r_23 body_first.sl.r_24 body_first.sl.r_25 body_first.sl.r_26; simp only [ld_S512x1024, ld_S1x1024, ld_S1024x384, ld_S1024x256, ld_S1024x128, ld_S1024x512, ld_S1024x1536, ld_S512x384, ld_S512x256, ld_S512x128, ld_S512x512, ld_S512x1536, cv_S512x1024, cv_S1x1024, cv_S1024x384, cv_S1024x256, cv_S1024x128, cv_S1024x512, cv_S1024x1536, cv_S512x384, cv_S512x256, cv_S512x128, cv_S512x512, cv_S512x1536]; rfl
  isplitl [H26]
  · iapply (pointsTo_rep_of_read (c : Thread nD τ) arg26 _ fullShare _ ?_) $$ H26
    rw [View.read_writes_full]; delta body_first.sl.r body_first.sl.v68 body_first.sl.v73 body_first.sl.v78 body_first.sl.v83 body_first.sl.v88 body_first.sl.v93 body_first.sl.v98 body_first.sl.v135 body_first.sl.v139 body_first.sl.v143 body_first.sl.v147 body_first.sl.v151 body_first.sl.H23_1 body_first.sl.H24_1 body_first.sl.H25_1 body_first.sl.H26_1 body_first.sl.H27_1 body_first.sl.H28_1 body_first.sl.H29_1 body_first.sl.H30_1 body_first.sl.H31_1 body_first.sl.H32_1 body_first.sl.H33_1 body_first.sl.H34_1 body_first.sl.r_1 body_first.sl.r_2 body_first.sl.r_3 body_first.sl.r_4 body_first.sl.r_5 body_first.sl.r_6 body_first.sl.r_7 body_first.sl.r_8 body_first.sl.r_9 body_first.sl.r_10 body_first.sl.r_11 body_first.sl.r_12 body_first.sl.r_13 body_first.sl.r_14 body_first.sl.r_15 body_first.sl.r_16 body_first.sl.r_17 body_first.sl.r_18 body_first.sl.r_19 body_first.sl.r_20 body_first.sl.r_21 body_first.sl.r_22 body_first.sl.r_23 body_first.sl.r_24 body_first.sl.r_25 body_first.sl.r_26; simp only [ld_S512x1024, ld_S1x1024, ld_S1024x384, ld_S1024x256, ld_S1024x128, ld_S1024x512, ld_S1024x1536, ld_S512x384, ld_S512x256, ld_S512x128, ld_S512x512, ld_S512x1536, cv_S512x1024, cv_S1x1024, cv_S1024x384, cv_S1024x256, cv_S1024x128, cv_S1024x512, cv_S1024x1536, cv_S512x384, cv_S512x256, cv_S512x128, cv_S512x512, cv_S512x1536]; rfl
  isplitl [H27]
  · iapply (pointsTo_rep_of_read (c : Thread nD τ) arg27 _ fullShare _ ?_) $$ H27
    rw [View.read_writes_full]; delta body_first.sl.r body_first.sl.v68 body_first.sl.v73 body_first.sl.v78 body_first.sl.v83 body_first.sl.v88 body_first.sl.v93 body_first.sl.v98 body_first.sl.v135 body_first.sl.v139 body_first.sl.v143 body_first.sl.v147 body_first.sl.v151 body_first.sl.H23_1 body_first.sl.H24_1 body_first.sl.H25_1 body_first.sl.H26_1 body_first.sl.H27_1 body_first.sl.H28_1 body_first.sl.H29_1 body_first.sl.H30_1 body_first.sl.H31_1 body_first.sl.H32_1 body_first.sl.H33_1 body_first.sl.H34_1 body_first.sl.r_1 body_first.sl.r_2 body_first.sl.r_3 body_first.sl.r_4 body_first.sl.r_5 body_first.sl.r_6 body_first.sl.r_7 body_first.sl.r_8 body_first.sl.r_9 body_first.sl.r_10 body_first.sl.r_11 body_first.sl.r_12 body_first.sl.r_13 body_first.sl.r_14 body_first.sl.r_15 body_first.sl.r_16 body_first.sl.r_17 body_first.sl.r_18 body_first.sl.r_19 body_first.sl.r_20 body_first.sl.r_21 body_first.sl.r_22 body_first.sl.r_23 body_first.sl.r_24 body_first.sl.r_25 body_first.sl.r_26; simp only [ld_S512x1024, ld_S1x1024, ld_S1024x384, ld_S1024x256, ld_S1024x128, ld_S1024x512, ld_S1024x1536, ld_S512x384, ld_S512x256, ld_S512x128, ld_S512x512, ld_S512x1536, cv_S512x1024, cv_S1x1024, cv_S1024x384, cv_S1024x256, cv_S1024x128, cv_S1024x512, cv_S1024x1536, cv_S512x384, cv_S512x256, cv_S512x128, cv_S512x512, cv_S512x1536]; rfl
  isplitl [H28]
  · iapply (pointsTo_rep_of_read (c : Thread nD τ) arg28 _ fullShare _ ?_) $$ H28
    rw [View.read_writes_full]; delta body_first.sl.r body_first.sl.v68 body_first.sl.v73 body_first.sl.v78 body_first.sl.v83 body_first.sl.v88 body_first.sl.v93 body_first.sl.v98 body_first.sl.v135 body_first.sl.v139 body_first.sl.v143 body_first.sl.v147 body_first.sl.v151 body_first.sl.H23_1 body_first.sl.H24_1 body_first.sl.H25_1 body_first.sl.H26_1 body_first.sl.H27_1 body_first.sl.H28_1 body_first.sl.H29_1 body_first.sl.H30_1 body_first.sl.H31_1 body_first.sl.H32_1 body_first.sl.H33_1 body_first.sl.H34_1 body_first.sl.r_1 body_first.sl.r_2 body_first.sl.r_3 body_first.sl.r_4 body_first.sl.r_5 body_first.sl.r_6 body_first.sl.r_7 body_first.sl.r_8 body_first.sl.r_9 body_first.sl.r_10 body_first.sl.r_11 body_first.sl.r_12 body_first.sl.r_13 body_first.sl.r_14 body_first.sl.r_15 body_first.sl.r_16 body_first.sl.r_17 body_first.sl.r_18 body_first.sl.r_19 body_first.sl.r_20 body_first.sl.r_21 body_first.sl.r_22 body_first.sl.r_23 body_first.sl.r_24 body_first.sl.r_25 body_first.sl.r_26; simp only [ld_S512x1024, ld_S1x1024, ld_S1024x384, ld_S1024x256, ld_S1024x128, ld_S1024x512, ld_S1024x1536, ld_S512x384, ld_S512x256, ld_S512x128, ld_S512x512, ld_S512x1536, cv_S512x1024, cv_S1x1024, cv_S1024x384, cv_S1024x256, cv_S1024x128, cv_S1024x512, cv_S1024x1536, cv_S512x384, cv_S512x256, cv_S512x128, cv_S512x512, cv_S512x1536]; rfl
  isplitl [H29]
  · iapply (pointsTo_rep_of_read (c : Thread nD τ) arg29 _ fullShare _ ?_) $$ H29
    rw [View.read_writes_full]; delta body_first.sl.r body_first.sl.v68 body_first.sl.v73 body_first.sl.v78 body_first.sl.v83 body_first.sl.v88 body_first.sl.v93 body_first.sl.v98 body_first.sl.v135 body_first.sl.v139 body_first.sl.v143 body_first.sl.v147 body_first.sl.v151 body_first.sl.H23_1 body_first.sl.H24_1 body_first.sl.H25_1 body_first.sl.H26_1 body_first.sl.H27_1 body_first.sl.H28_1 body_first.sl.H29_1 body_first.sl.H30_1 body_first.sl.H31_1 body_first.sl.H32_1 body_first.sl.H33_1 body_first.sl.H34_1 body_first.sl.r_1 body_first.sl.r_2 body_first.sl.r_3 body_first.sl.r_4 body_first.sl.r_5 body_first.sl.r_6 body_first.sl.r_7 body_first.sl.r_8 body_first.sl.r_9 body_first.sl.r_10 body_first.sl.r_11 body_first.sl.r_12 body_first.sl.r_13 body_first.sl.r_14 body_first.sl.r_15 body_first.sl.r_16 body_first.sl.r_17 body_first.sl.r_18 body_first.sl.r_19 body_first.sl.r_20 body_first.sl.r_21 body_first.sl.r_22 body_first.sl.r_23 body_first.sl.r_24 body_first.sl.r_25 body_first.sl.r_26; simp only [ld_S512x1024, ld_S1x1024, ld_S1024x384, ld_S1024x256, ld_S1024x128, ld_S1024x512, ld_S1024x1536, ld_S512x384, ld_S512x256, ld_S512x128, ld_S512x512, ld_S512x1536, cv_S512x1024, cv_S1x1024, cv_S1024x384, cv_S1024x256, cv_S1024x128, cv_S1024x512, cv_S1024x1536, cv_S512x384, cv_S512x256, cv_S512x128, cv_S512x512, cv_S512x1536]; rfl
  isplitl [H30]
  · iapply (pointsTo_rep_of_read (c : Thread nD τ) arg30 _ fullShare _ ?_) $$ H30
    rw [View.read_writes_full]; delta body_first.sl.r body_first.sl.v68 body_first.sl.v73 body_first.sl.v78 body_first.sl.v83 body_first.sl.v88 body_first.sl.v93 body_first.sl.v98 body_first.sl.v135 body_first.sl.v139 body_first.sl.v143 body_first.sl.v147 body_first.sl.v151 body_first.sl.H23_1 body_first.sl.H24_1 body_first.sl.H25_1 body_first.sl.H26_1 body_first.sl.H27_1 body_first.sl.H28_1 body_first.sl.H29_1 body_first.sl.H30_1 body_first.sl.H31_1 body_first.sl.H32_1 body_first.sl.H33_1 body_first.sl.H34_1 body_first.sl.r_1 body_first.sl.r_2 body_first.sl.r_3 body_first.sl.r_4 body_first.sl.r_5 body_first.sl.r_6 body_first.sl.r_7 body_first.sl.r_8 body_first.sl.r_9 body_first.sl.r_10 body_first.sl.r_11 body_first.sl.r_12 body_first.sl.r_13 body_first.sl.r_14 body_first.sl.r_15 body_first.sl.r_16 body_first.sl.r_17 body_first.sl.r_18 body_first.sl.r_19 body_first.sl.r_20 body_first.sl.r_21 body_first.sl.r_22 body_first.sl.r_23 body_first.sl.r_24 body_first.sl.r_25 body_first.sl.r_26; simp only [ld_S512x1024, ld_S1x1024, ld_S1024x384, ld_S1024x256, ld_S1024x128, ld_S1024x512, ld_S1024x1536, ld_S512x384, ld_S512x256, ld_S512x128, ld_S512x512, ld_S512x1536, cv_S512x1024, cv_S1x1024, cv_S1024x384, cv_S1024x256, cv_S1024x128, cv_S1024x512, cv_S1024x1536, cv_S512x384, cv_S512x256, cv_S512x128, cv_S512x512, cv_S512x1536]; rfl
  isplitl [H31]
  · iapply (pointsTo_rep_of_read (c : Thread nD τ) arg31 _ fullShare _ ?_) $$ H31
    rw [View.read_writes_full]; delta body_first.sl.r body_first.sl.v68 body_first.sl.v73 body_first.sl.v78 body_first.sl.v83 body_first.sl.v88 body_first.sl.v93 body_first.sl.v98 body_first.sl.v135 body_first.sl.v139 body_first.sl.v143 body_first.sl.v147 body_first.sl.v151 body_first.sl.H23_1 body_first.sl.H24_1 body_first.sl.H25_1 body_first.sl.H26_1 body_first.sl.H27_1 body_first.sl.H28_1 body_first.sl.H29_1 body_first.sl.H30_1 body_first.sl.H31_1 body_first.sl.H32_1 body_first.sl.H33_1 body_first.sl.H34_1 body_first.sl.r_1 body_first.sl.r_2 body_first.sl.r_3 body_first.sl.r_4 body_first.sl.r_5 body_first.sl.r_6 body_first.sl.r_7 body_first.sl.r_8 body_first.sl.r_9 body_first.sl.r_10 body_first.sl.r_11 body_first.sl.r_12 body_first.sl.r_13 body_first.sl.r_14 body_first.sl.r_15 body_first.sl.r_16 body_first.sl.r_17 body_first.sl.r_18 body_first.sl.r_19 body_first.sl.r_20 body_first.sl.r_21 body_first.sl.r_22 body_first.sl.r_23 body_first.sl.r_24 body_first.sl.r_25 body_first.sl.r_26; simp only [ld_S512x1024, ld_S1x1024, ld_S1024x384, ld_S1024x256, ld_S1024x128, ld_S1024x512, ld_S1024x1536, ld_S512x384, ld_S512x256, ld_S512x128, ld_S512x512, ld_S512x1536, cv_S512x1024, cv_S1x1024, cv_S1024x384, cv_S1024x256, cv_S1024x128, cv_S1024x512, cv_S1024x1536, cv_S512x384, cv_S512x256, cv_S512x128, cv_S512x512, cv_S512x1536]; rfl
  isplitl [H32]
  · iapply (pointsTo_rep_of_read (c : Thread nD τ) arg32 _ fullShare _ ?_) $$ H32
    rw [View.read_writes_full]; delta body_first.sl.r body_first.sl.v68 body_first.sl.v73 body_first.sl.v78 body_first.sl.v83 body_first.sl.v88 body_first.sl.v93 body_first.sl.v98 body_first.sl.v135 body_first.sl.v139 body_first.sl.v143 body_first.sl.v147 body_first.sl.v151 body_first.sl.H23_1 body_first.sl.H24_1 body_first.sl.H25_1 body_first.sl.H26_1 body_first.sl.H27_1 body_first.sl.H28_1 body_first.sl.H29_1 body_first.sl.H30_1 body_first.sl.H31_1 body_first.sl.H32_1 body_first.sl.H33_1 body_first.sl.H34_1 body_first.sl.r_1 body_first.sl.r_2 body_first.sl.r_3 body_first.sl.r_4 body_first.sl.r_5 body_first.sl.r_6 body_first.sl.r_7 body_first.sl.r_8 body_first.sl.r_9 body_first.sl.r_10 body_first.sl.r_11 body_first.sl.r_12 body_first.sl.r_13 body_first.sl.r_14 body_first.sl.r_15 body_first.sl.r_16 body_first.sl.r_17 body_first.sl.r_18 body_first.sl.r_19 body_first.sl.r_20 body_first.sl.r_21 body_first.sl.r_22 body_first.sl.r_23 body_first.sl.r_24 body_first.sl.r_25 body_first.sl.r_26; simp only [ld_S512x1024, ld_S1x1024, ld_S1024x384, ld_S1024x256, ld_S1024x128, ld_S1024x512, ld_S1024x1536, ld_S512x384, ld_S512x256, ld_S512x128, ld_S512x512, ld_S512x1536, cv_S512x1024, cv_S1x1024, cv_S1024x384, cv_S1024x256, cv_S1024x128, cv_S1024x512, cv_S1024x1536, cv_S512x384, cv_S512x256, cv_S512x128, cv_S512x512, cv_S512x1536]; rfl
  isplitl [H33]
  · iapply (pointsTo_rep_of_read (c : Thread nD τ) arg33 _ fullShare _ ?_) $$ H33
    rw [View.read_writes_full]; delta body_first.sl.r body_first.sl.v68 body_first.sl.v73 body_first.sl.v78 body_first.sl.v83 body_first.sl.v88 body_first.sl.v93 body_first.sl.v98 body_first.sl.v135 body_first.sl.v139 body_first.sl.v143 body_first.sl.v147 body_first.sl.v151 body_first.sl.H23_1 body_first.sl.H24_1 body_first.sl.H25_1 body_first.sl.H26_1 body_first.sl.H27_1 body_first.sl.H28_1 body_first.sl.H29_1 body_first.sl.H30_1 body_first.sl.H31_1 body_first.sl.H32_1 body_first.sl.H33_1 body_first.sl.H34_1 body_first.sl.r_1 body_first.sl.r_2 body_first.sl.r_3 body_first.sl.r_4 body_first.sl.r_5 body_first.sl.r_6 body_first.sl.r_7 body_first.sl.r_8 body_first.sl.r_9 body_first.sl.r_10 body_first.sl.r_11 body_first.sl.r_12 body_first.sl.r_13 body_first.sl.r_14 body_first.sl.r_15 body_first.sl.r_16 body_first.sl.r_17 body_first.sl.r_18 body_first.sl.r_19 body_first.sl.r_20 body_first.sl.r_21 body_first.sl.r_22 body_first.sl.r_23 body_first.sl.r_24 body_first.sl.r_25 body_first.sl.r_26; simp only [ld_S512x1024, ld_S1x1024, ld_S1024x384, ld_S1024x256, ld_S1024x128, ld_S1024x512, ld_S1024x1536, ld_S512x384, ld_S512x256, ld_S512x128, ld_S512x512, ld_S512x1536, cv_S512x1024, cv_S1x1024, cv_S1024x384, cv_S1024x256, cv_S1024x128, cv_S1024x512, cv_S1024x1536, cv_S512x384, cv_S512x256, cv_S512x128, cv_S512x512, cv_S512x1536]; rfl
  iapply (pointsTo_rep_of_read (c : Thread nD τ) arg34 _ fullShare _ ?_) $$ H34
  rw [View.read_writes_full]; delta body_first.sl.r body_first.sl.v68 body_first.sl.v73 body_first.sl.v78 body_first.sl.v83 body_first.sl.v88 body_first.sl.v93 body_first.sl.v98 body_first.sl.v135 body_first.sl.v139 body_first.sl.v143 body_first.sl.v147 body_first.sl.v151 body_first.sl.H23_1 body_first.sl.H24_1 body_first.sl.H25_1 body_first.sl.H26_1 body_first.sl.H27_1 body_first.sl.H28_1 body_first.sl.H29_1 body_first.sl.H30_1 body_first.sl.H31_1 body_first.sl.H32_1 body_first.sl.H33_1 body_first.sl.H34_1 body_first.sl.r_1 body_first.sl.r_2 body_first.sl.r_3 body_first.sl.r_4 body_first.sl.r_5 body_first.sl.r_6 body_first.sl.r_7 body_first.sl.r_8 body_first.sl.r_9 body_first.sl.r_10 body_first.sl.r_11 body_first.sl.r_12 body_first.sl.r_13 body_first.sl.r_14 body_first.sl.r_15 body_first.sl.r_16 body_first.sl.r_17 body_first.sl.r_18 body_first.sl.r_19 body_first.sl.r_20 body_first.sl.r_21 body_first.sl.r_22 body_first.sl.r_23 body_first.sl.r_24 body_first.sl.r_25 body_first.sl.r_26; simp only [ld_S512x1024, ld_S1x1024, ld_S1024x384, ld_S1024x256, ld_S1024x128, ld_S1024x512, ld_S1024x1536, ld_S512x384, ld_S512x256, ld_S512x128, ld_S512x512, ld_S512x1536, cv_S512x1024, cv_S1x1024, cv_S1024x384, cv_S1024x256, cv_S1024x128, cv_S1024x512, cv_S1024x1536, cv_S512x384, cv_S512x256, cv_S512x128, cv_S512x512, cv_S512x1536]; rfl

/-- The body at a later point. -/
theorem body_later (I : Ins F) (S : Acc F) (f21 : BufTy.Contents (Elt F) arg22.view.ty)
    (hc0 : ¬ cond0_0 i) :
    (iprop((arg1.view.loc (c : Thread nD τ) ↦[arg1.view.set]{fullShare} arg1.view.rep I.x) ∗
      (arg2.view.loc (c : Thread nD τ) ↦[arg2.view.set]{fullShare} arg2.view.rep I.nw) ∗
      (arg3.view.loc (c : Thread nD τ) ↦[arg3.view.set]{fullShare} arg3.view.rep I.sr) ∗
      (arg4.view.loc (c : Thread nD τ) ↦[arg4.view.set]{fullShare} arg4.view.rep I.sb) ∗
      (arg5.view.loc (c : Thread nD τ) ↦[arg5.view.set]{fullShare} arg5.view.rep I.hr) ∗
      (arg6.view.loc (c : Thread nD τ) ↦[arg6.view.set]{fullShare} arg6.view.rep I.hb) ∗
      (arg7.view.loc (c : Thread nD τ) ↦[arg7.view.set]{fullShare} arg7.view.rep I.w0) ∗
      (arg8.view.loc (c : Thread nD τ) ↦[arg8.view.set]{fullShare} arg8.view.rep I.w1) ∗
      (arg9.view.loc (c : Thread nD τ) ↦[arg9.view.set]{fullShare} arg9.view.rep I.w2) ∗
      (arg10.view.loc (c : Thread nD τ) ↦[arg10.view.set]{fullShare} arg10.view.rep I.w3) ∗
      (arg11.view.loc (c : Thread nD τ) ↦[arg11.view.set]{fullShare} arg11.view.rep I.w4) ∗
      (arg12.view.loc (c : Thread nD τ) ↦[arg12.view.set]{fullShare} arg12.view.rep I.w5) ∗
      (arg13.view.loc (c : Thread nD τ) ↦[arg13.view.set]{fullShare} arg13.view.rep I.w6) ∗
      (arg14.view.loc (c : Thread nD τ) ↦[arg14.view.set]{fullShare} arg14.view.rep I.d0) ∗
      (arg15.view.loc (c : Thread nD τ) ↦[arg15.view.set]{fullShare} arg15.view.rep I.d1) ∗
      (arg16.view.loc (c : Thread nD τ) ↦[arg16.view.set]{fullShare} arg16.view.rep I.d2) ∗
      (arg17.view.loc (c : Thread nD τ) ↦[arg17.view.set]{fullShare} arg17.view.rep I.d3) ∗
      (arg18.view.loc (c : Thread nD τ) ↦[arg18.view.set]{fullShare} arg18.view.rep I.d4) ∗
      (arg19.view.loc (c : Thread nD τ) ↦[arg19.view.set]{fullShare} arg19.view.rep I.d5) ∗
      (arg20.view.loc (c : Thread nD τ) ↦[arg20.view.set]{fullShare} arg20.view.rep I.d6) ∗
      (arg21.view.loc (c : Thread nD τ) ↦[arg21.view.set]{fullShare} arg21.view.rep I.sk) ∗
      (arg22.view.loc (c : Thread nD τ) ↦[arg22.view.set]{fullShare} f21) ∗
      (arg23.view.loc (c : Thread nD τ) ↦[arg23.view.set]{fullShare} arg23.view.rep S.nw) ∗
      (arg24.view.loc (c : Thread nD τ) ↦[arg24.view.set]{fullShare} arg24.view.rep S.sr) ∗
      (arg25.view.loc (c : Thread nD τ) ↦[arg25.view.set]{fullShare} arg25.view.rep S.sb) ∗
      (arg26.view.loc (c : Thread nD τ) ↦[arg26.view.set]{fullShare} arg26.view.rep S.hr) ∗
      (arg27.view.loc (c : Thread nD τ) ↦[arg27.view.set]{fullShare} arg27.view.rep S.hb) ∗
      (arg28.view.loc (c : Thread nD τ) ↦[arg28.view.set]{fullShare} arg28.view.rep S.w0) ∗
      (arg29.view.loc (c : Thread nD τ) ↦[arg29.view.set]{fullShare} arg29.view.rep S.w1) ∗
      (arg30.view.loc (c : Thread nD τ) ↦[arg30.view.set]{fullShare} arg30.view.rep S.w2) ∗
      (arg31.view.loc (c : Thread nD τ) ↦[arg31.view.set]{fullShare} arg31.view.rep S.w3) ∗
      (arg32.view.loc (c : Thread nD τ) ↦[arg32.view.set]{fullShare} arg32.view.rep S.w4) ∗
      (arg33.view.loc (c : Thread nD τ) ↦[arg33.view.set]{fullShare} arg33.view.rep S.w5) ∗
      (arg34.view.loc (c : Thread nD τ) ↦[arg34.view.set]{fullShare} arg34.view.rep S.w6)) : sProp 𝕄)
    ⊢ wp frame (wpE (defs₀ (F := F)) Variants.none (c : Thread nD τ) none) Set.univ
        (cc0_front_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34)
        (fun _ => iprop((arg1.view.loc (c : Thread nD τ) ↦[arg1.view.set]{fullShare} arg1.view.rep I.x) ∗
      (arg2.view.loc (c : Thread nD τ) ↦[arg2.view.set]{fullShare} arg2.view.rep I.nw) ∗
      (arg3.view.loc (c : Thread nD τ) ↦[arg3.view.set]{fullShare} arg3.view.rep I.sr) ∗
      (arg4.view.loc (c : Thread nD τ) ↦[arg4.view.set]{fullShare} arg4.view.rep I.sb) ∗
      (arg5.view.loc (c : Thread nD τ) ↦[arg5.view.set]{fullShare} arg5.view.rep I.hr) ∗
      (arg6.view.loc (c : Thread nD τ) ↦[arg6.view.set]{fullShare} arg6.view.rep I.hb) ∗
      (arg7.view.loc (c : Thread nD τ) ↦[arg7.view.set]{fullShare} arg7.view.rep I.w0) ∗
      (arg8.view.loc (c : Thread nD τ) ↦[arg8.view.set]{fullShare} arg8.view.rep I.w1) ∗
      (arg9.view.loc (c : Thread nD τ) ↦[arg9.view.set]{fullShare} arg9.view.rep I.w2) ∗
      (arg10.view.loc (c : Thread nD τ) ↦[arg10.view.set]{fullShare} arg10.view.rep I.w3) ∗
      (arg11.view.loc (c : Thread nD τ) ↦[arg11.view.set]{fullShare} arg11.view.rep I.w4) ∗
      (arg12.view.loc (c : Thread nD τ) ↦[arg12.view.set]{fullShare} arg12.view.rep I.w5) ∗
      (arg13.view.loc (c : Thread nD τ) ↦[arg13.view.set]{fullShare} arg13.view.rep I.w6) ∗
      (arg14.view.loc (c : Thread nD τ) ↦[arg14.view.set]{fullShare} arg14.view.rep I.d0) ∗
      (arg15.view.loc (c : Thread nD τ) ↦[arg15.view.set]{fullShare} arg15.view.rep I.d1) ∗
      (arg16.view.loc (c : Thread nD τ) ↦[arg16.view.set]{fullShare} arg16.view.rep I.d2) ∗
      (arg17.view.loc (c : Thread nD τ) ↦[arg17.view.set]{fullShare} arg17.view.rep I.d3) ∗
      (arg18.view.loc (c : Thread nD τ) ↦[arg18.view.set]{fullShare} arg18.view.rep I.d4) ∗
      (arg19.view.loc (c : Thread nD τ) ↦[arg19.view.set]{fullShare} arg19.view.rep I.d5) ∗
      (arg20.view.loc (c : Thread nD τ) ↦[arg20.view.set]{fullShare} arg20.view.rep I.d6) ∗
      (arg21.view.loc (c : Thread nD τ) ↦[arg21.view.set]{fullShare} arg21.view.rep I.sk) ∗
      (arg22.view.loc (c : Thread nD τ) ↦[arg22.view.set]{fullShare} arg22.view.rep I.dx) ∗
      (arg23.view.loc (c : Thread nD τ) ↦[arg23.view.set]{fullShare} arg23.view.rep (Acc.step I S).nw) ∗
      (arg24.view.loc (c : Thread nD τ) ↦[arg24.view.set]{fullShare} arg24.view.rep (Acc.step I S).sr) ∗
      (arg25.view.loc (c : Thread nD τ) ↦[arg25.view.set]{fullShare} arg25.view.rep (Acc.step I S).sb) ∗
      (arg26.view.loc (c : Thread nD τ) ↦[arg26.view.set]{fullShare} arg26.view.rep (Acc.step I S).hr) ∗
      (arg27.view.loc (c : Thread nD τ) ↦[arg27.view.set]{fullShare} arg27.view.rep (Acc.step I S).hb) ∗
      (arg28.view.loc (c : Thread nD τ) ↦[arg28.view.set]{fullShare} arg28.view.rep (Acc.step I S).w0) ∗
      (arg29.view.loc (c : Thread nD τ) ↦[arg29.view.set]{fullShare} arg29.view.rep (Acc.step I S).w1) ∗
      (arg30.view.loc (c : Thread nD τ) ↦[arg30.view.set]{fullShare} arg30.view.rep (Acc.step I S).w2) ∗
      (arg31.view.loc (c : Thread nD τ) ↦[arg31.view.set]{fullShare} arg31.view.rep (Acc.step I S).w3) ∗
      (arg32.view.loc (c : Thread nD τ) ↦[arg32.view.set]{fullShare} arg32.view.rep (Acc.step I S).w4) ∗
      (arg33.view.loc (c : Thread nD τ) ↦[arg33.view.set]{fullShare} arg33.view.rep (Acc.step I S).w5) ∗
      (arg34.view.loc (c : Thread nD τ) ↦[arg34.view.set]{fullShare} arg34.view.rep (Acc.step I S).w6))) := by
  rw [cc0_front_bwd_eq_skeleton]; unfold cc0_front_bwd_skel
  simp only [k0_part2_eq_skeleton, k0_part1_eq_skeleton, k0_part3_eq_skeleton, k0_part4_eq_skeleton, k0_part5_eq_skeleton]
  iintro ⟨H1, H2, H3, H4, H5, H6, H7, H8, H9, H10, H11, H12, H13, H14, H15, H16, H17, H18, H19, H20, H21, H22, H23, H24, H25, H26, H27, H28, H29, H30, H31, H32, H33, H34⟩
  sl_exec (disch := first | sl_exact hc0)
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]
  · iapply (pointsTo_rep_of_read (c : Thread nD τ) arg22 _ fullShare _ ?_) $$ H22
    rw [View.read_writes_full]; delta body_later.sl.r body_later.sl.r_1 body_later.sl.r_2 body_later.sl.r_3 body_later.sl.r_4 body_later.sl.r_5 body_later.sl.r_6 body_later.sl.r_7 body_later.sl.r_8 body_later.sl.r_9 body_later.sl.r_10 body_later.sl.r_11 body_later.sl.r_12 body_later.sl.r_13 body_later.sl.r_14 body_later.sl.r_15 body_later.sl.r_16 body_later.sl.r_17 body_later.sl.r_18 body_later.sl.r_19 body_later.sl.r_20 body_later.sl.r_21 body_later.sl.r_22 body_later.sl.r_23 body_later.sl.r_24 body_later.sl.r_25 body_later.sl.r_26; simp only [ld_S512x1024, ld_S1x1024, ld_S1024x384, ld_S1024x256, ld_S1024x128, ld_S1024x512, ld_S1024x1536, ld_S512x384, ld_S512x256, ld_S512x128, ld_S512x512, ld_S512x1536]; rfl
  isplitl [H23]
  · iapply (pointsTo_rep_of_read (c : Thread nD τ) arg23 _ fullShare _ ?_) $$ H23
    rw [View.read_writes_full]; delta body_later.sl.r body_later.sl.r_1 body_later.sl.r_2 body_later.sl.r_3 body_later.sl.r_4 body_later.sl.r_5 body_later.sl.r_6 body_later.sl.r_7 body_later.sl.r_8 body_later.sl.r_9 body_later.sl.r_10 body_later.sl.r_11 body_later.sl.r_12 body_later.sl.r_13 body_later.sl.r_14 body_later.sl.r_15 body_later.sl.r_16 body_later.sl.r_17 body_later.sl.r_18 body_later.sl.r_19 body_later.sl.r_20 body_later.sl.r_21 body_later.sl.r_22 body_later.sl.r_23 body_later.sl.r_24 body_later.sl.r_25 body_later.sl.r_26; simp only [ld_S512x1024, ld_S1x1024, ld_S1024x384, ld_S1024x256, ld_S1024x128, ld_S1024x512, ld_S1024x1536, ld_S512x384, ld_S512x256, ld_S512x128, ld_S512x512, ld_S512x1536]; rfl
  isplitl [H24]
  · iapply (pointsTo_rep_of_read (c : Thread nD τ) arg24 _ fullShare _ ?_) $$ H24
    rw [View.read_writes_full]; delta body_later.sl.r body_later.sl.r_1 body_later.sl.r_2 body_later.sl.r_3 body_later.sl.r_4 body_later.sl.r_5 body_later.sl.r_6 body_later.sl.r_7 body_later.sl.r_8 body_later.sl.r_9 body_later.sl.r_10 body_later.sl.r_11 body_later.sl.r_12 body_later.sl.r_13 body_later.sl.r_14 body_later.sl.r_15 body_later.sl.r_16 body_later.sl.r_17 body_later.sl.r_18 body_later.sl.r_19 body_later.sl.r_20 body_later.sl.r_21 body_later.sl.r_22 body_later.sl.r_23 body_later.sl.r_24 body_later.sl.r_25 body_later.sl.r_26; simp only [ld_S512x1024, ld_S1x1024, ld_S1024x384, ld_S1024x256, ld_S1024x128, ld_S1024x512, ld_S1024x1536, ld_S512x384, ld_S512x256, ld_S512x128, ld_S512x512, ld_S512x1536]; rfl
  isplitl [H25]
  · iapply (pointsTo_rep_of_read (c : Thread nD τ) arg25 _ fullShare _ ?_) $$ H25
    rw [View.read_writes_full]; delta body_later.sl.r body_later.sl.r_1 body_later.sl.r_2 body_later.sl.r_3 body_later.sl.r_4 body_later.sl.r_5 body_later.sl.r_6 body_later.sl.r_7 body_later.sl.r_8 body_later.sl.r_9 body_later.sl.r_10 body_later.sl.r_11 body_later.sl.r_12 body_later.sl.r_13 body_later.sl.r_14 body_later.sl.r_15 body_later.sl.r_16 body_later.sl.r_17 body_later.sl.r_18 body_later.sl.r_19 body_later.sl.r_20 body_later.sl.r_21 body_later.sl.r_22 body_later.sl.r_23 body_later.sl.r_24 body_later.sl.r_25 body_later.sl.r_26; simp only [ld_S512x1024, ld_S1x1024, ld_S1024x384, ld_S1024x256, ld_S1024x128, ld_S1024x512, ld_S1024x1536, ld_S512x384, ld_S512x256, ld_S512x128, ld_S512x512, ld_S512x1536]; rfl
  isplitl [H26]
  · iapply (pointsTo_rep_of_read (c : Thread nD τ) arg26 _ fullShare _ ?_) $$ H26
    rw [View.read_writes_full]; delta body_later.sl.r body_later.sl.r_1 body_later.sl.r_2 body_later.sl.r_3 body_later.sl.r_4 body_later.sl.r_5 body_later.sl.r_6 body_later.sl.r_7 body_later.sl.r_8 body_later.sl.r_9 body_later.sl.r_10 body_later.sl.r_11 body_later.sl.r_12 body_later.sl.r_13 body_later.sl.r_14 body_later.sl.r_15 body_later.sl.r_16 body_later.sl.r_17 body_later.sl.r_18 body_later.sl.r_19 body_later.sl.r_20 body_later.sl.r_21 body_later.sl.r_22 body_later.sl.r_23 body_later.sl.r_24 body_later.sl.r_25 body_later.sl.r_26; simp only [ld_S512x1024, ld_S1x1024, ld_S1024x384, ld_S1024x256, ld_S1024x128, ld_S1024x512, ld_S1024x1536, ld_S512x384, ld_S512x256, ld_S512x128, ld_S512x512, ld_S512x1536]; rfl
  isplitl [H27]
  · iapply (pointsTo_rep_of_read (c : Thread nD τ) arg27 _ fullShare _ ?_) $$ H27
    rw [View.read_writes_full]; delta body_later.sl.r body_later.sl.r_1 body_later.sl.r_2 body_later.sl.r_3 body_later.sl.r_4 body_later.sl.r_5 body_later.sl.r_6 body_later.sl.r_7 body_later.sl.r_8 body_later.sl.r_9 body_later.sl.r_10 body_later.sl.r_11 body_later.sl.r_12 body_later.sl.r_13 body_later.sl.r_14 body_later.sl.r_15 body_later.sl.r_16 body_later.sl.r_17 body_later.sl.r_18 body_later.sl.r_19 body_later.sl.r_20 body_later.sl.r_21 body_later.sl.r_22 body_later.sl.r_23 body_later.sl.r_24 body_later.sl.r_25 body_later.sl.r_26; simp only [ld_S512x1024, ld_S1x1024, ld_S1024x384, ld_S1024x256, ld_S1024x128, ld_S1024x512, ld_S1024x1536, ld_S512x384, ld_S512x256, ld_S512x128, ld_S512x512, ld_S512x1536]; rfl
  isplitl [H28]
  · iapply (pointsTo_rep_of_read (c : Thread nD τ) arg28 _ fullShare _ ?_) $$ H28
    rw [View.read_writes_full]; delta body_later.sl.r body_later.sl.r_1 body_later.sl.r_2 body_later.sl.r_3 body_later.sl.r_4 body_later.sl.r_5 body_later.sl.r_6 body_later.sl.r_7 body_later.sl.r_8 body_later.sl.r_9 body_later.sl.r_10 body_later.sl.r_11 body_later.sl.r_12 body_later.sl.r_13 body_later.sl.r_14 body_later.sl.r_15 body_later.sl.r_16 body_later.sl.r_17 body_later.sl.r_18 body_later.sl.r_19 body_later.sl.r_20 body_later.sl.r_21 body_later.sl.r_22 body_later.sl.r_23 body_later.sl.r_24 body_later.sl.r_25 body_later.sl.r_26; simp only [ld_S512x1024, ld_S1x1024, ld_S1024x384, ld_S1024x256, ld_S1024x128, ld_S1024x512, ld_S1024x1536, ld_S512x384, ld_S512x256, ld_S512x128, ld_S512x512, ld_S512x1536]; rfl
  isplitl [H29]
  · iapply (pointsTo_rep_of_read (c : Thread nD τ) arg29 _ fullShare _ ?_) $$ H29
    rw [View.read_writes_full]; delta body_later.sl.r body_later.sl.r_1 body_later.sl.r_2 body_later.sl.r_3 body_later.sl.r_4 body_later.sl.r_5 body_later.sl.r_6 body_later.sl.r_7 body_later.sl.r_8 body_later.sl.r_9 body_later.sl.r_10 body_later.sl.r_11 body_later.sl.r_12 body_later.sl.r_13 body_later.sl.r_14 body_later.sl.r_15 body_later.sl.r_16 body_later.sl.r_17 body_later.sl.r_18 body_later.sl.r_19 body_later.sl.r_20 body_later.sl.r_21 body_later.sl.r_22 body_later.sl.r_23 body_later.sl.r_24 body_later.sl.r_25 body_later.sl.r_26; simp only [ld_S512x1024, ld_S1x1024, ld_S1024x384, ld_S1024x256, ld_S1024x128, ld_S1024x512, ld_S1024x1536, ld_S512x384, ld_S512x256, ld_S512x128, ld_S512x512, ld_S512x1536]; rfl
  isplitl [H30]
  · iapply (pointsTo_rep_of_read (c : Thread nD τ) arg30 _ fullShare _ ?_) $$ H30
    rw [View.read_writes_full]; delta body_later.sl.r body_later.sl.r_1 body_later.sl.r_2 body_later.sl.r_3 body_later.sl.r_4 body_later.sl.r_5 body_later.sl.r_6 body_later.sl.r_7 body_later.sl.r_8 body_later.sl.r_9 body_later.sl.r_10 body_later.sl.r_11 body_later.sl.r_12 body_later.sl.r_13 body_later.sl.r_14 body_later.sl.r_15 body_later.sl.r_16 body_later.sl.r_17 body_later.sl.r_18 body_later.sl.r_19 body_later.sl.r_20 body_later.sl.r_21 body_later.sl.r_22 body_later.sl.r_23 body_later.sl.r_24 body_later.sl.r_25 body_later.sl.r_26; simp only [ld_S512x1024, ld_S1x1024, ld_S1024x384, ld_S1024x256, ld_S1024x128, ld_S1024x512, ld_S1024x1536, ld_S512x384, ld_S512x256, ld_S512x128, ld_S512x512, ld_S512x1536]; rfl
  isplitl [H31]
  · iapply (pointsTo_rep_of_read (c : Thread nD τ) arg31 _ fullShare _ ?_) $$ H31
    rw [View.read_writes_full]; delta body_later.sl.r body_later.sl.r_1 body_later.sl.r_2 body_later.sl.r_3 body_later.sl.r_4 body_later.sl.r_5 body_later.sl.r_6 body_later.sl.r_7 body_later.sl.r_8 body_later.sl.r_9 body_later.sl.r_10 body_later.sl.r_11 body_later.sl.r_12 body_later.sl.r_13 body_later.sl.r_14 body_later.sl.r_15 body_later.sl.r_16 body_later.sl.r_17 body_later.sl.r_18 body_later.sl.r_19 body_later.sl.r_20 body_later.sl.r_21 body_later.sl.r_22 body_later.sl.r_23 body_later.sl.r_24 body_later.sl.r_25 body_later.sl.r_26; simp only [ld_S512x1024, ld_S1x1024, ld_S1024x384, ld_S1024x256, ld_S1024x128, ld_S1024x512, ld_S1024x1536, ld_S512x384, ld_S512x256, ld_S512x128, ld_S512x512, ld_S512x1536]; rfl
  isplitl [H32]
  · iapply (pointsTo_rep_of_read (c : Thread nD τ) arg32 _ fullShare _ ?_) $$ H32
    rw [View.read_writes_full]; delta body_later.sl.r body_later.sl.r_1 body_later.sl.r_2 body_later.sl.r_3 body_later.sl.r_4 body_later.sl.r_5 body_later.sl.r_6 body_later.sl.r_7 body_later.sl.r_8 body_later.sl.r_9 body_later.sl.r_10 body_later.sl.r_11 body_later.sl.r_12 body_later.sl.r_13 body_later.sl.r_14 body_later.sl.r_15 body_later.sl.r_16 body_later.sl.r_17 body_later.sl.r_18 body_later.sl.r_19 body_later.sl.r_20 body_later.sl.r_21 body_later.sl.r_22 body_later.sl.r_23 body_later.sl.r_24 body_later.sl.r_25 body_later.sl.r_26; simp only [ld_S512x1024, ld_S1x1024, ld_S1024x384, ld_S1024x256, ld_S1024x128, ld_S1024x512, ld_S1024x1536, ld_S512x384, ld_S512x256, ld_S512x128, ld_S512x512, ld_S512x1536]; rfl
  isplitl [H33]
  · iapply (pointsTo_rep_of_read (c : Thread nD τ) arg33 _ fullShare _ ?_) $$ H33
    rw [View.read_writes_full]; delta body_later.sl.r body_later.sl.r_1 body_later.sl.r_2 body_later.sl.r_3 body_later.sl.r_4 body_later.sl.r_5 body_later.sl.r_6 body_later.sl.r_7 body_later.sl.r_8 body_later.sl.r_9 body_later.sl.r_10 body_later.sl.r_11 body_later.sl.r_12 body_later.sl.r_13 body_later.sl.r_14 body_later.sl.r_15 body_later.sl.r_16 body_later.sl.r_17 body_later.sl.r_18 body_later.sl.r_19 body_later.sl.r_20 body_later.sl.r_21 body_later.sl.r_22 body_later.sl.r_23 body_later.sl.r_24 body_later.sl.r_25 body_later.sl.r_26; simp only [ld_S512x1024, ld_S1x1024, ld_S1024x384, ld_S1024x256, ld_S1024x128, ld_S1024x512, ld_S1024x1536, ld_S512x384, ld_S512x256, ld_S512x128, ld_S512x512, ld_S512x1536]; rfl
  iapply (pointsTo_rep_of_read (c : Thread nD τ) arg34 _ fullShare _ ?_) $$ H34
  rw [View.read_writes_full]; delta body_later.sl.r body_later.sl.r_1 body_later.sl.r_2 body_later.sl.r_3 body_later.sl.r_4 body_later.sl.r_5 body_later.sl.r_6 body_later.sl.r_7 body_later.sl.r_8 body_later.sl.r_9 body_later.sl.r_10 body_later.sl.r_11 body_later.sl.r_12 body_later.sl.r_13 body_later.sl.r_14 body_later.sl.r_15 body_later.sl.r_16 body_later.sl.r_17 body_later.sl.r_18 body_later.sl.r_19 body_later.sl.r_20 body_later.sl.r_21 body_later.sl.r_22 body_later.sl.r_23 body_later.sl.r_24 body_later.sl.r_25 body_later.sl.r_26; simp only [ld_S512x1024, ld_S1x1024, ld_S1024x384, ld_S1024x256, ld_S1024x128, ld_S1024x512, ld_S1024x1536, ld_S512x384, ld_S512x256, ld_S512x128, ld_S512x512, ld_S512x1536]; rfl

end Cert.Proof.Front
-- ==== Proof.FrontTile.lean ====
module

public import proofs.«01_k».proof.Proof.FrontBody
public import Idealize.ShloMosaic.Lib.Pointwise

/-! The gradient of the projections, row by row, and what one grid point of the kernel computes of it. -/

@[expose] public section

noncomputable section

namespace Cert.Proof.Front

open Idealize Idealize.ShloMosaic Idealize.ShloMosaic.TcCoe

/-! ## One row -/

/-- A row's entries. -/
abbrev Row := Fin 1024 → EReal

/-- The length of a row. -/
def len : EReal := Ideal.ofBits .f32 0x44800000#32
/-- The small number added to the mean square. -/
def tiny : EReal := Ideal.ofBits .f32 0x358637BD#32
/-- Minus one half, from the derivative of the inverse square root. -/
def mhalf : EReal := Ideal.ofBits .f32 0xBF000000#32

/-- The mean square of a row, and the small number added to it. -/
def ms (x : Row) : EReal := Ideal.div (∑ k, x k * x k) len + tiny
/-- The factor by which the norm scales the row. -/
def rs (x : Row) : EReal := Ideal.rsqrt (ms x)
/-- The factor that the scale's parameters give. -/
def sc (sr sb : Row) (k : Fin 1024) : EReal := 1 + (sr k + sb k)
/-- The normalised row. -/
def nrm (x nw sr sb hr hb : Row) (k : Fin 1024) : EReal := x k * rs x * nw k * sc sr sb k + (hr k + hb k)
/-- The gradient of the row from the gradient of the normalised one and that of the skip. -/
def gx (x nw sr sb dh sk : Row) (k : Fin 1024) : EReal :=
  let t := Ideal.div ((∑ l, x l * (dh l * sc sr sb l * nw l)) * (mhalf * Ideal.div (rs x) (ms x))) len
  sk k + dh k * sc sr sb k * nw k * rs x + x k * t + t * x k
/-- The gradient of the normalised row, from those of the seven projections. -/

def gh (d0 : Fin 384 → EReal) (d1 : Fin 256 → EReal) (d2 : Fin 128 → EReal) (d3 : Fin 512 → EReal) (d4 : Fin 1536 → EReal) (d5 : Fin 128 → EReal) (d6 : Fin 512 → EReal)
    (w0 : Fin 1024 → Fin 384 → EReal) (w1 : Fin 1024 → Fin 256 → EReal) (w2 : Fin 1024 → Fin 128 → EReal) (w3 : Fin 1024 → Fin 512 → EReal) (w4 : Fin 1024 → Fin 1536 → EReal) (w5 : Fin 1024 → Fin 128 → EReal) (w6 : Fin 1024 → Fin 512 → EReal) (k : Fin 1024) : EReal :=
  (∑ j, d0 j * w0 k j) + (∑ j, d1 j * w1 k j) + (∑ j, d2 j * w2 k j) + (∑ j, d3 j * w3 k j) + (∑ j, d4 j * w4 k j) + (∑ j, d5 j * w5 k j) + (∑ j, d6 j * w6 k j)

open Cert.Kernel2Ideal Cert.Kernel2Ideal.Gen

/-! ## One grid point -/

theorem pay19_at (x : FVec Ideal S512x1024 .f32) (a : Fin 512) : k0_pay19 (F := Ideal) x (ix2 a 0) = ms fun k => x (ix2 a k) := by
  pointwise [k0_pay19]
  rfl

theorem pay20_at (x : FVec Ideal S512x1024 .f32) (a : Fin 512) : k0_pay20 (F := Ideal) x (ix2 a 0) = rs fun k => x (ix2 a k) := by
  pointwise [k0_pay20]
  rw [pay19_at]; rfl

theorem pay21_at (x : FVec Ideal S512x1024 .f32) (a : Fin 512) :
    k0_pay21 (F := Ideal) x (ix2 a 0) = mhalf * Ideal.div (rs fun k => x (ix2 a k)) (ms fun k => x (ix2 a k)) := by
  pointwise [k0_pay21]
  rw [pay19_at, pay20_at]; rfl

theorem pay22_at (x : FVec Ideal S512x1024 .f32) (a : Fin 512) (k : Fin 1024) :
    k0_pay22 (F := Ideal) x (ix2 a k) = x (ix2 a k) * rs fun k => x (ix2 a k) := by
  pointwise [k0_pay22]
  rw [pay20_at]

theorem pay23_at (x : FVec Ideal S512x1024 .f32) (nw : FVec Ideal S1x1024 .f32) (a : Fin 512) (k : Fin 1024) :
    k0_pay23 (F := Ideal) x nw (ix2 a k) = x (ix2 a k) * (rs fun k => x (ix2 a k)) * nw (ix2 0 k) := by
  pointwise [k0_pay23]
  rw [pay22_at]

theorem pay24_at (sr sb : FVec Ideal S1x1024 .f32) (k : Fin 1024) :
    k0_pay24 (F := Ideal) sr sb (ix2 0 k) = sc (fun k => sr (ix2 0 k)) (fun k => sb (ix2 0 k)) k := by
  pointwise [k0_pay24]
  exact add_assoc _ _ _

theorem pay25_at (x : FVec Ideal S512x1024 .f32) (nw sr sb hr hb : FVec Ideal S1x1024 .f32) (a : Fin 512) (k : Fin 1024) :
    k0_pay25 (F := Ideal) x nw sr sb hr hb (ix2 a k)
      = nrm (fun k => x (ix2 a k)) (fun k => nw (ix2 0 k)) (fun k => sr (ix2 0 k)) (fun k => sb (ix2 0 k)) (fun k => hr (ix2 0 k)) (fun k => hb (ix2 0 k)) k := by
  pointwise [k0_pay25]
  rw [pay23_at, pay24_at, nrm, add_assoc]

theorem dx_at (x dh sk : FVec Ideal S512x1024 .f32) (nw sr sb : FVec Ideal S1x1024 .f32) (a : Fin 512) (k : Fin 1024) :
    k0_pay1 (F := Ideal) (k0_pay51 (F := Ideal) x nw (k0_pay20 (F := Ideal) x) (k0_pay21 (F := Ideal) x) (k0_pay24 (F := Ideal) sr sb) dh) sk (ix2 a k)
      = gx (fun k => x (ix2 a k)) (fun k => nw (ix2 0 k)) (fun k => sr (ix2 0 k)) (fun k => sb (ix2 0 k)) (fun k => dh (ix2 a k)) (fun k => sk (ix2 a k)) k := by
  pointwise [k0_pay1, k0_pay51, k0_pay49]
  simp only [pay20_at, pay24_at, Fin.sum_univ_one]
  rw [pay21_at]
  unfold gx
  rw [add_comm _ (sk (ix2 a k))]
  simp only [← add_assoc]
  rfl

theorem dh_at (I : Ins Ideal) (a : Fin 512) (k : Fin 1024) : I.dh (ix2 a k)
    = gh (fun j => I.d0 (ix2 a j)) (fun j => I.d1 (ix2 a j)) (fun j => I.d2 (ix2 a j)) (fun j => I.d3 (ix2 a j)) (fun j => I.d4 (ix2 a j)) (fun j => I.d5 (ix2 a j)) (fun j => I.d6 (ix2 a j))
      (fun k j => I.w0 (ix2 k j)) (fun k j => I.w1 (ix2 k j)) (fun k j => I.w2 (ix2 k j)) (fun k j => I.w3 (ix2 k j)) (fun k j => I.w4 (ix2 k j)) (fun k j => I.w5 (ix2 k j)) (fun k j => I.w6 (ix2 k j)) k := by
  unfold Ins.dh
  pointwise [k0_pay38, k0_pay33, k0_pay34, k0_pay35, k0_pay36, k0_pay37, k0_pay26]
  rfl

/-- The point's rows of the output's gradient, as one row function. -/
def Ins.dhRow (I : Ins Ideal) (a : Fin 512) : Row :=
  gh (fun j => I.d0 (ix2 a j)) (fun j => I.d1 (ix2 a j)) (fun j => I.d2 (ix2 a j)) (fun j => I.d3 (ix2 a j)) (fun j => I.d4 (ix2 a j)) (fun j => I.d5 (ix2 a j)) (fun j => I.d6 (ix2 a j))
    (fun k j => I.w0 (ix2 k j)) (fun k j => I.w1 (ix2 k j)) (fun k j => I.w2 (ix2 k j)) (fun k j => I.w3 (ix2 k j)) (fun k j => I.w4 (ix2 k j)) (fun k j => I.w5 (ix2 k j)) (fun k j => I.w6 (ix2 k j))

/-- The point's normalised rows. -/
def Ins.hRow (I : Ins Ideal) (a : Fin 512) : Row :=
  nrm (fun k => I.x (ix2 a k)) (fun k => I.nw (ix2 0 k)) (fun k => I.sr (ix2 0 k)) (fun k => I.sb (ix2 0 k)) (fun k => I.hr (ix2 0 k)) (fun k => I.hb (ix2 0 k))

theorem Ins.dx_at (I : Ins Ideal) (a : Fin 512) (k : Fin 1024) : I.dx (ix2 a k)
    = gx (fun k => I.x (ix2 a k)) (fun k => I.nw (ix2 0 k)) (fun k => I.sr (ix2 0 k)) (fun k => I.sb (ix2 0 k)) (I.dhRow a) (fun k => I.sk (ix2 a k)) k := by
  unfold Ins.dx
  rw [Front.dx_at]
  simp only [dh_at]
  rfl

theorem step_nw (I : Ins Ideal) (S : Acc Ideal) (k : Fin 1024) : (Acc.step I S).nw (ix2 0 k)
    = S.nw (ix2 0 k) + ∑ a : Fin 512, I.x (ix2 a k) * (rs fun k => I.x (ix2 a k)) * (I.dhRow a k * sc (fun k => I.sr (ix2 0 k)) (fun k => I.sb (ix2 0 k)) k) := by
  unfold Acc.step
  pointwise [k0_pay2, k0_pay50, k0_pay49]
  simp only [pay22_at, pay24_at, dh_at]
  rfl

theorem step_sr (I : Ins Ideal) (S : Acc Ideal) (k : Fin 1024) : (Acc.step I S).sr (ix2 0 k)
    = S.sr (ix2 0 k) + ∑ a : Fin 512, I.x (ix2 a k) * (rs fun k => I.x (ix2 a k)) * I.nw (ix2 0 k) * I.dhRow a k := by
  unfold Acc.step
  pointwise [k0_pay3, k0_pay48]
  simp only [pay23_at, dh_at]
  rfl

theorem step_sb (I : Ins Ideal) (S : Acc Ideal) (k : Fin 1024) : (Acc.step I S).sb (ix2 0 k)
    = S.sb (ix2 0 k) + ∑ a : Fin 512, I.x (ix2 a k) * (rs fun k => I.x (ix2 a k)) * I.nw (ix2 0 k) * I.dhRow a k := by
  unfold Acc.step
  pointwise [k0_pay4, k0_pay48]
  simp only [pay23_at, dh_at]
  rfl

theorem step_hr (I : Ins Ideal) (S : Acc Ideal) (k : Fin 1024) : (Acc.step I S).hr (ix2 0 k)
    = S.hr (ix2 0 k) + ∑ a : Fin 512, I.dhRow a k := by
  unfold Acc.step
  pointwise [k0_pay5, k0_pay47]
  simp only [dh_at]
  rfl

theorem step_hb (I : Ins Ideal) (S : Acc Ideal) (k : Fin 1024) : (Acc.step I S).hb (ix2 0 k)
    = S.hb (ix2 0 k) + ∑ a : Fin 512, I.dhRow a k := by
  unfold Acc.step
  pointwise [k0_pay6, k0_pay46]
  simp only [dh_at]
  rfl

theorem step_w0 (I : Ins Ideal) (S : Acc Ideal) (k : Fin 1024) (j : Fin 384) : (Acc.step I S).w0 (ix2 k j)
    = S.w0 (ix2 k j) + ∑ a : Fin 512, I.d0 (ix2 a j) * I.hRow a k := by
  unfold Acc.step Ins.h
  pointwise [k0_pay39, k0_pay26]
  simp only [pay25_at]
  exact congrArg _ (Finset.sum_congr rfl fun _ _ => mul_comm _ _)

theorem step_w1 (I : Ins Ideal) (S : Acc Ideal) (k : Fin 1024) (j : Fin 256) : (Acc.step I S).w1 (ix2 k j)
    = S.w1 (ix2 k j) + ∑ a : Fin 512, I.d1 (ix2 a j) * I.hRow a k := by
  unfold Acc.step Ins.h
  pointwise [k0_pay40, k0_pay27]
  simp only [pay25_at]
  exact congrArg _ (Finset.sum_congr rfl fun _ _ => mul_comm _ _)

theorem step_w2 (I : Ins Ideal) (S : Acc Ideal) (k : Fin 1024) (j : Fin 128) : (Acc.step I S).w2 (ix2 k j)
    = S.w2 (ix2 k j) + ∑ a : Fin 512, I.d2 (ix2 a j) * I.hRow a k := by
  unfold Acc.step Ins.h
  pointwise [k0_pay41, k0_pay28]
  simp only [pay25_at]
  exact congrArg _ (Finset.sum_congr rfl fun _ _ => mul_comm _ _)

theorem step_w3 (I : Ins Ideal) (S : Acc Ideal) (k : Fin 1024) (j : Fin 512) : (Acc.step I S).w3 (ix2 k j)
    = S.w3 (ix2 k j) + ∑ a : Fin 512, I.d3 (ix2 a j) * I.hRow a k := by
  unfold Acc.step Ins.h
  pointwise [k0_pay42, k0_pay29]
  simp only [pay25_at]
  exact congrArg _ (Finset.sum_congr rfl fun _ _ => mul_comm _ _)

theorem step_w4 (I : Ins Ideal) (S : Acc Ideal) (k : Fin 1024) (j : Fin 1536) : (Acc.step I S).w4 (ix2 k j)
    = S.w4 (ix2 k j) + ∑ a : Fin 512, I.d4 (ix2 a j) * I.hRow a k := by
  unfold Acc.step Ins.h
  pointwise [k0_pay43, k0_pay30]
  simp only [pay25_at]
  exact congrArg _ (Finset.sum_congr rfl fun _ _ => mul_comm _ _)

theorem step_w5 (I : Ins Ideal) (S : Acc Ideal) (k : Fin 1024) (j : Fin 128) : (Acc.step I S).w5 (ix2 k j)
    = S.w5 (ix2 k j) + ∑ a : Fin 512, I.d5 (ix2 a j) * I.hRow a k := by
  unfold Acc.step Ins.h
  pointwise [k0_pay44, k0_pay31]
  simp only [pay25_at]
  exact congrArg _ (Finset.sum_congr rfl fun _ _ => mul_comm _ _)

theorem step_w6 (I : Ins Ideal) (S : Acc Ideal) (k : Fin 1024) (j : Fin 512) : (Acc.step I S).w6 (ix2 k j)
    = S.w6 (ix2 k j) + ∑ a : Fin 512, I.d6 (ix2 a j) * I.hRow a k := by
  unfold Acc.step Ins.h
  pointwise [k0_pay45, k0_pay32]
  simp only [pay25_at]
  exact congrArg _ (Finset.sum_congr rfl fun _ _ => mul_comm _ _)

theorem zero_apply :
    (∀ i, (Acc.zero (F := Ideal)).nw i = 0) ∧ (∀ i, (Acc.zero (F := Ideal)).sr i = 0) ∧ (∀ i, (Acc.zero (F := Ideal)).sb i = 0) ∧ (∀ i, (Acc.zero (F := Ideal)).hr i = 0) ∧ (∀ i, (Acc.zero (F := Ideal)).hb i = 0) ∧ (∀ i, (Acc.zero (F := Ideal)).w0 i = 0) ∧ (∀ i, (Acc.zero (F := Ideal)).w1 i = 0) ∧ (∀ i, (Acc.zero (F := Ideal)).w2 i = 0) ∧ (∀ i, (Acc.zero (F := Ideal)).w3 i = 0) ∧ (∀ i, (Acc.zero (F := Ideal)).w4 i = 0) ∧ (∀ i, (Acc.zero (F := Ideal)).w5 i = 0) ∧ (∀ i, (Acc.zero (F := Ideal)).w6 i = 0) := by
  unfold Acc.zero
  refine ⟨?_, ?_, ?_, ?_, ?_, ?_, ?_, ?_, ?_, ?_, ?_, ?_⟩ <;> intro i
  · pointwise [k0_pay7]
  · pointwise [k0_pay8]
  · pointwise [k0_pay9]
  · pointwise [k0_pay10]
  · pointwise [k0_pay11]
  · pointwise [k0_pay12]
  · pointwise [k0_pay13]
  · pointwise [k0_pay14]
  · pointwise [k0_pay15]
  · pointwise [k0_pay16]
  · pointwise [k0_pay17]
  · pointwise [k0_pay18]

end Cert.Proof.Front
-- ==== Proof.Math.lean ====
module

public import Idealize.ShloMosaic.Lib.Pointwise
public import Mathlib.Analysis.SpecialFunctions.Pow.Real

/-! The gradient of causal attention on real numbers: what both programs compute, as sums over the rows and the columns
    of the score matrix, and the facts that carry an extended-real expression over reals back to a real. -/

@[expose] public section

noncomputable section

namespace Cert.Proof.Math

open Idealize Idealize.ShloMosaic

/-- The real inputs, head by head: queries, keys, values and the gradient of the attention's output. -/
structure Inp where
  q : Fin 4 → Fin 8192 → Fin 256 → ℝ
  k : Fin 4 → Fin 8192 → Fin 256 → ℝ
  v : Fin 4 → Fin 8192 → Fin 128 → ℝ
  g : Fin 4 → Fin 8192 → Fin 128 → ℝ

variable (x : Inp) (h : Fin 4)

/-- The scaled score of query `i` and key `j`. -/
def score (i j : Fin 8192) : ℝ := (∑ d, x.q h i d * x.k h j d) / √192
/-- The softmax's denominator of query `i`. -/
def Z (i : Fin 8192) : ℝ := ∑ j, if j ≤ i then Real.exp (score x h i j) else 0
/-- The softmax's weight of key `j` for query `i`. -/
def p (i j : Fin 8192) : ℝ := if j ≤ i then Real.exp (score x h i j) / Z x h i else 0
/-- The attention's output. -/
def o (i : Fin 8192) (d : Fin 128) : ℝ := ∑ j, x.v h j d * p x h i j
/-- The gradient of a weight. -/
def dp (i j : Fin 8192) : ℝ := ∑ d, x.g h i d * x.v h j d
/-- The mean of a query's weight gradients, under its weights. -/
def delta (i : Fin 8192) : ℝ := ∑ j, dp x h i j * p x h i j
/-- The gradient of a scaled score. -/
def ds (i j : Fin 8192) : ℝ := p x h i j * (dp x h i j - delta x h i)
/-- The gradients of the queries, the keys and the values. -/
def gq (i : Fin 8192) (d : Fin 256) : ℝ := (∑ j, ds x h i j * x.k h j d) / √192
def gk (j : Fin 8192) (d : Fin 256) : ℝ := (∑ i, ds x h i j * x.q h i d) / √192
def gv (j : Fin 8192) (d : Fin 128) : ℝ := ∑ i, p x h i j * x.g h i d

theorem root_pos : (0 : ℝ) < √192 := Real.sqrt_pos.mpr (by norm_num)

theorem Z_pos (i : Fin 8192) : 0 < Z x h i := by
  refine Finset.sum_pos' (fun j _ => by split <;> positivity) ⟨i, Finset.mem_univ i, ?_⟩
  rw [if_pos le_rfl]; exact Real.exp_pos _

theorem p_of_lt {i j : Fin 8192} (hij : i < j) : p x h i j = 0 := if_neg (not_le.mpr hij)
theorem ds_of_lt {i j : Fin 8192} (hij : i < j) : ds x h i j = 0 := by rw [ds, p_of_lt x h hij, zero_mul]

/-- The mean of the weight gradients is the output's product with its gradient. -/
theorem sum_go (i : Fin 8192) : ∑ d, x.g h i d * o x h i d = delta x h i := by
  simp only [o, delta, dp, Finset.mul_sum, Finset.sum_mul]
  rw [Finset.sum_comm]
  exact Finset.sum_congr rfl fun j _ => Finset.sum_congr rfl fun d _ => by ring

/-! ### Extended reals -/

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div_coe (a : ℝ) {b : ℝ} (hb : b ≠ 0) : Ideal.div (a : EReal) (b : EReal) = ((a / b : ℝ) : EReal) := by
  rw [Ideal.div, if_neg (by exact_mod_cast hb), ← EReal.coe_inv, ← EReal.coe_mul, div_eq_mul_inv]

theorem exp_coe (a : ℝ) : Ideal.exp (a : EReal) = (Real.exp a : EReal) := rfl
theorem exp_bot : Ideal.exp ⊥ = ((0 : ℝ) : EReal) := rfl
theorem exp2_coe (a : ℝ) : Ideal.exp2 (a : EReal) = (Real.rpow 2 a : EReal) := rfl
theorem exp2_bot : Ideal.exp2 ⊥ = ((0 : ℝ) : EReal) := rfl
theorem log_coe {a : ℝ} (ha : 0 < a) : Ideal.log (a : EReal) = (Real.log a : EReal) := if_neg (not_le.mpr ha)
theorem sqrt_coe {a : ℝ} (ha : 0 ≤ a) : Ideal.sqrt (a : EReal) = (√a : EReal) := if_neg (not_lt.mpr ha)

theorem bits_192 : Ideal.ofBits .f32 0x43400000#32 = ((192 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_lane : Ideal.ofBits .f32 0x3C000000#32 = ((1 / 128 : ℝ) : EReal) := by
  simp [Ideal.ofBits, Ideal.ieee, -EReal.coe_mul]; norm_num
theorem bits_bot : Ideal.ofBits .f32 0xFF800000#32 = ⊥ := by
  simp [Ideal.ofBits, Ideal.ieee]

theorem root_coe : Ideal.sqrt (Ideal.ofBits .f32 0x43400000#32) = ((√192 : ℝ) : EReal) := by
  rw [bits_192, sqrt_coe (by norm_num)]

/-- The greatest of extended reals none of which is `⊤`, one of them real, is real. -/
theorem fold_max_real {ι : Type*} [Fintype ι] (f : ι → EReal) (ht : ∀ j, f j ≠ ⊤) (j : ι) (hj : f j ≠ ⊥) :
    ∃ M : ℝ, Finset.fold max ⊥ f Finset.univ = (M : EReal) := by
  have hs : Finset.fold max ⊥ f Finset.univ = Finset.univ.sup f := rfl
  rw [hs]
  have hb : Finset.univ.sup f ≠ ⊥ := fun e => hj (le_bot_iff.mp (e ▸ Finset.le_sup (Finset.mem_univ j)))
  obtain ⟨a, -, ha⟩ := Finset.exists_mem_eq_sup Finset.univ ⟨j, Finset.mem_univ j⟩ f
  exact ⟨(Finset.univ.sup f).toReal, (EReal.coe_toReal (ha ▸ ht a) hb).symm⟩

/-- A weight, from the base-2 score less the base-2 logarithm of the denominator. -/
theorem rpow_weight (s : ℝ) {z : ℝ} (hz : 0 < z) :
    Real.rpow 2 (s * ((√192)⁻¹ * (Real.log 2)⁻¹) - Real.log z / Real.log 2) = Real.exp (s / √192) / z := by
  have h2 : Real.log 2 ≠ 0 := (Real.log_pos (by norm_num)).ne'
  show (2 : ℝ) ^ (_ : ℝ) = _
  rw [Real.rpow_def_of_pos (by norm_num), show Real.log 2 * (s * ((√192)⁻¹ * (Real.log 2)⁻¹) - Real.log z / Real.log 2) = s / √192 - Real.log z by
    field_simp, Real.exp_sub, Real.exp_log hz]

end Cert.Proof.Math
-- ==== Proof.Latent.lean ====
module

public import proofs.«01_k».proof.Proof.FrontTile
public import proofs.«01_k».proof.Proof.Math

/-! The attention's latents, row by row: a latent's norm and its up projection, the rotary embedding of the second half of
    each head, and their gradients. -/

@[expose] public section

noncomputable section

namespace Cert.Proof.Latent

open Idealize Idealize.ShloMosaic
open Cert.Proof.Front (Row tiny mhalf)

/-- The lengths of the two latents. -/
def lq : EReal := Ideal.ofBits .f32 0x43C00000#32
def lkv : EReal := Ideal.ofBits .f32 0x43800000#32

variable {n : ℕ}

/-- The mean square of a latent of length `c`, and the small number added to it. -/
def lms (c : EReal) (x : Fin n → EReal) : EReal := Ideal.div (∑ l, x l * x l) c + tiny
/-- The factor by which the norm scales it. -/
def lrs (c : EReal) (x : Fin n → EReal) : EReal := Ideal.rsqrt (lms c x)
/-- The normalised latent, before the weight -/
def hat (c : EReal) (x : Fin n → EReal) (b : Fin n) : EReal := x b * lrs c x
/-- and after it. -/
def nrm (c : EReal) (x w : Fin n → EReal) (b : Fin n) : EReal := hat c x b * w b
/-- The up projection of a latent. -/
def up (y : Fin n → EReal) (u : Fin n → Row) (k : Fin 1024) : EReal := ∑ b, y b * u b k

/-- What the gradient of the up projection sends back. -/
def sent (d : Row) (u : Fin n → Row) (b : Fin n) : EReal := ∑ k, d k * u b k
/-- The gradient of a latent from that of its normalised one. -/
def glat (c : EReal) (x w q : Fin n → EReal) (b : Fin n) : EReal :=
  let t := Ideal.div ((∑ l, x l * (q l * w l)) * (mhalf * Ideal.div (lrs c x) (lms c x))) c
  q b * w b * lrs c x + x b * t + t * x b

/-! ## The rotary embedding -/

/-- A row of 128 lanes. -/
abbrev Lanes := Fin 128 → EReal

/-- The lane half a row away. -/
def half (l : Fin 128) : Fin 128 := ⟨(l.val + 64) % 128, by omega⟩
/-- The rotation by the tables `s` and `t`, -/
def rot (x s t : Lanes) (l : Fin 128) : EReal := x l * s l + x (half l) * t l
/-- and its gradient. -/
def rotb (g s t : Lanes) (l : Fin 128) : EReal := g (half l) * t (half l) + g l * s l

/-- Lane `l` of the `j`-th of eight pieces. -/
def lane (j : Fin 8) (l : Fin 128) : Fin 1024 := ⟨l.val + 128 * j.val, by omega⟩
/-- The piece of a lane, -/
def part (k : Fin 1024) : Fin 8 := ⟨k.val / 128, by omega⟩
/-- and its place in it. -/
def off (k : Fin 1024) : Fin 128 := ⟨k.val % 128, by omega⟩

/-- A head's two pieces, and the piece of the keys' projection that a lane of the keys is read from. -/
def fst (h : Fin 4) : Fin 8 := ⟨2 * h.val, by omega⟩
def snd (h : Fin 4) : Fin 8 := ⟨2 * h.val + 1, by omega⟩
def key (k : Fin 1024) : Fin 8 := ⟨k.val / 256, by omega⟩
/-- The lane of the values' half of the projection. -/
def val (b : Fin 512) : Fin 1024 := ⟨b.val + 512, by omega⟩

/-- The queries: each head's second piece is rotated. -/
def fq (y : Row) (s t : Lanes) (k : Fin 1024) : EReal :=
  if k.val / 128 % 2 = 0 then y k else rot (fun l => y (lane (part k) l)) s t (off k)
/-- The keys: each head's second piece is the rotated row that the heads share. -/
def fk (y : Row) (r s t : Lanes) (k : Fin 1024) : EReal :=
  if k.val / 128 % 2 = 0 then y (lane (key k) (off k)) else rot r s t (off k)

/-- The gradient of the queries' projection, -/
def gq (d : Row) (s t : Lanes) (k : Fin 1024) : EReal :=
  if k.val / 128 % 2 = 0 then d k else rotb (fun l => d (lane (part k) l)) s t (off k)
/-- of the keys' and values' projection, -/
def gk (d : Row) (v : Fin 512 → EReal) (k : Fin 1024) : EReal :=
  if h : k.val < 512 then d (lane ⟨2 * (k.val / 128), by omega⟩ (off k)) else v ⟨k.val - 512, by omega⟩
/-- and of the row that the heads share. -/
def gr (d : Row) (s t : Lanes) (l : Fin 128) : EReal := rotb (fun l => ∑ h, d (lane (snd h) l)) s t l

end Cert.Proof.Latent
-- ==== Proof.FrontAll.lean ====
module

public import proofs.«01_k».proof.Proof.FrontTile

/-! The gradient of the projections on the whole arrays, entry by entry. -/

@[expose] public section

noncomputable section

namespace Cert.Proof.Front

open Idealize Idealize.ShloMosaic Idealize.ShloMosaic.TcCoe

/-- The call's inputs. -/
structure All where
  x : FVec Ideal Kernel2Ideal.S8192x1024 .f32
  nw : FVec Ideal Kernel2Ideal.S1x1024 .f32
  sr : FVec Ideal Kernel2Ideal.S1x1024 .f32
  sb : FVec Ideal Kernel2Ideal.S1x1024 .f32
  hr : FVec Ideal Kernel2Ideal.S1x1024 .f32
  hb : FVec Ideal Kernel2Ideal.S1x1024 .f32
  w0 : FVec Ideal Kernel2Ideal.S1024x384 .bf16
  w1 : FVec Ideal Kernel2Ideal.S1024x256 .bf16
  w2 : FVec Ideal Kernel2Ideal.S1024x128 .bf16
  w3 : FVec Ideal Kernel2Ideal.S1024x512 .bf16
  w4 : FVec Ideal Kernel2Ideal.S1024x1536 .bf16
  w5 : FVec Ideal Kernel2Ideal.S1024x128 .bf16
  w6 : FVec Ideal Kernel2Ideal.S1024x512 .bf16
  d0 : FVec Ideal Kernel2Ideal.S8192x384 .f32
  d1 : FVec Ideal Kernel2Ideal.S8192x256 .f32
  d2 : FVec Ideal Kernel2Ideal.S8192x128 .f32
  d3 : FVec Ideal Kernel2Ideal.S8192x512 .f32
  d4 : FVec Ideal Kernel2Ideal.S8192x1536 .f32
  d5 : FVec Ideal Kernel2Ideal.S8192x128 .f32
  d6 : FVec Ideal Kernel2Ideal.S8192x512 .f32
  sk : FVec Ideal Kernel2Ideal.S8192x1024 .f32

namespace All
variable (A : All) (i : Fin 8192) (k : Fin 1024)

def xr : Row := fun k => A.x (ix2 i k)
def nwr : Row := fun k => A.nw (ix2 0 k)
def srr : Row := fun k => A.sr (ix2 0 k)
def sbr : Row := fun k => A.sb (ix2 0 k)
def hrr : Row := fun k => A.hr (ix2 0 k)
def hbr : Row := fun k => A.hb (ix2 0 k)
def skr : Row := fun k => A.sk (ix2 i k)

/-- Row `i` of the gradient of the normalised rows. -/
def dhRow : Row :=
  gh (fun j => A.d0 (ix2 i j)) (fun j => A.d1 (ix2 i j)) (fun j => A.d2 (ix2 i j)) (fun j => A.d3 (ix2 i j)) (fun j => A.d4 (ix2 i j)) (fun j => A.d5 (ix2 i j)) (fun j => A.d6 (ix2 i j))
    (fun k j => A.w0 (ix2 k j)) (fun k j => A.w1 (ix2 k j)) (fun k j => A.w2 (ix2 k j)) (fun k j => A.w3 (ix2 k j)) (fun k j => A.w4 (ix2 k j)) (fun k j => A.w5 (ix2 k j)) (fun k j => A.w6 (ix2 k j))

/-- Normalised row `i`. -/
def hRow : Row := nrm (A.xr i) A.nwr A.srr A.sbr A.hrr A.hbr

/-- The rows' gradient. -/
def gdx : EReal := gx (A.xr i) A.nwr A.srr A.sbr (A.dhRow i) (A.skr i) k
/-- What row `i` adds to the gradient of the norm's weight. -/
def tnw : EReal := A.xr i k * rs (A.xr i) * (A.dhRow i k * sc A.srr A.sbr k)
/-- What row `i` adds to the gradient of the scale. -/
def tsc : EReal := A.xr i k * rs (A.xr i) * A.nwr k * A.dhRow i k

end All

end Cert.Proof.Front
-- ==== Proof.FrontRef.lean ====
module

public import proofs.«01_k».proof.Proof.FrontAll
public import proofs.«01_k».proof.Proof.Gen.Reference2Ideal
public import proofs.«01_k».proof.Proof.Gen.Reference2Ideal.Run

/-! What the reference computes of the projections' gradient, entry by entry. -/

@[expose] public section

set_option maxRecDepth 16384
noncomputable section

namespace Cert.Proof.Front.Ref

open Idealize Idealize.ShloMosaic Idealize.ShloMosaic.TcCoe
open Cert.Reference2Ideal Cert.Reference2Ideal.Gen

abbrev Big : Type := FVec ShloMosaic.Ideal S8192x1024 .f32
abbrev Col : Type := FVec ShloMosaic.Ideal S8192x1 .f32
abbrev One : Type := FVec ShloMosaic.Ideal S1x1024 .f32

def word (b : BitVec 32) : Col := broadcastInDim S8192x1 ![] bcast_S_S8192x1 (constant S_ .f32 b)
def down (v : One) : Big := broadcastInDim S8192x1024 ![0, 1] bcast_S1x1024_S8192x1024_0_1 v
def across (v : Col) : Big := broadcastInDim S8192x1024 ![0, 1] bcast_S8192x1_S8192x1024_0_1 v
def zeroV : FVec ShloMosaic.Ideal S_ .f32 := constant S_ .f32 0x00000000#32

def msV (x : Big) : Col :=
  addf (Host.divf (broadcastInDim S8192x1 ![0] bcast_S8192_S8192x1_0 (Host.reduceAdd (mulf x x) zeroV reducesTo_S8192x1024_S8192_d1 h_S_)) (word 0x44800000#32)) (word 0x358637BD#32)
def rsV (x : Big) : Col := Host.rsqrt (msV x)
def scV (sr sb : One) : One := addf (broadcastInDim S1x1024 ![] bcast_S_S1x1024 (constant S_ .f32 0x3F800000#32)) (addf sr sb)
def yV (x : Big) : Big := mulf x (across (rsV x))
def hV (x : Big) (nw sr sb hr hb : One) : Big := addf (mulf (mulf (yV x) (down nw)) (down (scV sr sb))) (down (addf hr hb))
def dyV (dh : Big) (nw sr sb : One) : Big := mulf (mulf dh (down (scV sr sb))) (down nw)
def qV (x : Big) : Col := mulf (word 0xBF000000#32) (Host.divf (rsV x) (msV x))
def tV (x dy : Big) : Big := broadcastInDim S8192x1024 ![0] bcast_S8192_S8192x1024_0
  (Host.reduceAdd (Host.divf (mulf (shapeCast S8192x1 (Host.reduceAdd (mulf x dy) zeroV reducesTo_S8192x1024_S8192_d1 h_S_) shapeCasts_S8192_S8192x1) (qV x))
    (word 0x44800000#32)) zeroV reducesTo_S8192x1_S8192_d1 h_S_)
def dxV (x dh sk : Big) (nw sr sb : One) : Big :=
  addf (addf (addf sk (mulf (dyV dh nw sr sb) (across (rsV x)))) (mulf x (tV x (dyV dh nw sr sb)))) (mulf (tV x (dyV dh nw sr sb)) x)
def colsum (v : Big) : One := shapeCast S1x1024 (Host.reduceAdd v zeroV reducesTo_S8192x1024_S1024_d0 h_S_) shapeCasts_S1024_S1x1024

theorem word_at (b : BitVec 32) (i : Fin 8192) : word b (ix2 i 0) = Ideal.ofBits .f32 b := by
  rfl
theorem down_at (v : One) (i : Fin 8192) (k : Fin 1024) : down v (ix2 i k) = v (ix2 0 k) := by
  pointwise [down]
theorem across_at (v : Col) (i : Fin 8192) (k : Fin 1024) : across v (ix2 i k) = v (ix2 i 0) := by
  pointwise [across]
theorem ms_at (x : Big) (i : Fin 8192) : msV x (ix2 i 0) = ms fun k => x (ix2 i k) := by
  unfold msV zeroV
  pointwise []
  simp only [word_at]
  rfl
theorem rs_at (x : Big) (i : Fin 8192) : rsV x (ix2 i 0) = rs fun k => x (ix2 i k) := by
  unfold rsV
  pointwise []
  rw [ms_at]; rfl
theorem sc_at (sr sb : One) (k : Fin 1024) : scV sr sb (ix2 0 k) = sc (fun k => sr (ix2 0 k)) (fun k => sb (ix2 0 k)) k := by
  unfold scV
  pointwise []
  try rfl
theorem y_at (x : Big) (i : Fin 8192) (k : Fin 1024) : yV x (ix2 i k) = x (ix2 i k) * rs fun k => x (ix2 i k) := by
  unfold yV
  pointwise []
  rw [across_at, rs_at]
theorem h_at (x : Big) (nw sr sb hr hb : One) (i : Fin 8192) (k : Fin 1024) : hV x nw sr sb hr hb (ix2 i k)
    = nrm (fun k => x (ix2 i k)) (fun k => nw (ix2 0 k)) (fun k => sr (ix2 0 k)) (fun k => sb (ix2 0 k)) (fun k => hr (ix2 0 k)) (fun k => hb (ix2 0 k)) k := by
  unfold hV
  pointwise []
  rw [y_at, down_at, down_at, down_at, sc_at]; rfl
theorem dy_at (dh : Big) (nw sr sb : One) (i : Fin 8192) (k : Fin 1024) : dyV dh nw sr sb (ix2 i k)
    = dh (ix2 i k) * sc (fun k => sr (ix2 0 k)) (fun k => sb (ix2 0 k)) k * nw (ix2 0 k) := by
  unfold dyV
  pointwise []
  rw [down_at, down_at, sc_at]
theorem q_at (x : Big) (i : Fin 8192) : qV x (ix2 i 0) = mhalf * Ideal.div (rs fun k => x (ix2 i k)) (ms fun k => x (ix2 i k)) := by
  unfold qV
  pointwise []
  rw [word_at, ms_at, rs_at]; rfl
theorem t_at (x dy : Big) (i : Fin 8192) (k : Fin 1024) : tV x dy (ix2 i k)
    = Ideal.div ((∑ l, x (ix2 i l) * dy (ix2 i l)) * (mhalf * Ideal.div (rs fun k => x (ix2 i k)) (ms fun k => x (ix2 i k)))) len := by
  unfold tV zeroV
  pointwise []
  simp only [Fin.sum_univ_one, word_at]
  rw [q_at]
  rfl
theorem dx_at (x dh sk : Big) (nw sr sb : One) (i : Fin 8192) (k : Fin 1024) : dxV x dh sk nw sr sb (ix2 i k)
    = gx (fun k => x (ix2 i k)) (fun k => nw (ix2 0 k)) (fun k => sr (ix2 0 k)) (fun k => sb (ix2 0 k)) (fun k => dh (ix2 i k)) (fun k => sk (ix2 i k)) k := by
  unfold dxV
  pointwise []
  simp only [t_at, dy_at, across_at, rs_at]
  rfl
theorem colsum_at (v : Big) (k : Fin 1024) : colsum v (ix2 0 k) = ∑ i : Fin 8192, v (ix2 i k) := by
  unfold colsum zeroV
  pointwise []

variable (A : All)

def up0 (d : FVec ShloMosaic.Ideal S8192x384 .f32) (w : FVec ShloMosaic.Ideal S1024x384 .bf16) : Big :=
  Host.dotGeneral dot_S8192x384_S1024x384_S8192x1024_1_1_0_0_n_n none d (extf .f32 w bitsLt_bf16_f32 : FVec ShloMosaic.Ideal S1024x384 .f32)
theorem up0_at (d : FVec ShloMosaic.Ideal S8192x384 .f32) (w : FVec ShloMosaic.Ideal S1024x384 .bf16) (i : Fin 8192) (k : Fin 1024) :
    up0 d w (ix2 i k) = ∑ j : Fin 384, d (ix2 i j) * w (ix2 k j) := by
  unfold up0
  pointwise []
  try rfl
def dw0 (d : FVec ShloMosaic.Ideal S8192x384 .f32) (h : Big) : FVec ShloMosaic.Ideal S1024x384 .f32 :=
  transpose S1024x384 [1, 0] (Host.dotGeneral dot_S8192x384_S8192x1024_S384x1024_0_0_1_1_n_n none d h) transposes_S384x1024_S1024x384_1_0
theorem dw0_at (d : FVec ShloMosaic.Ideal S8192x384 .f32) (h : Big) (k : Fin 1024) (j : Fin 384) :
    dw0 d h (ix2 k j) = ∑ i : Fin 8192, d (ix2 i j) * h (ix2 i k) := by
  unfold dw0
  pointwise []
  try rfl

def up1 (d : FVec ShloMosaic.Ideal S8192x256 .f32) (w : FVec ShloMosaic.Ideal S1024x256 .bf16) : Big :=
  Host.dotGeneral dot_S8192x256_S1024x256_S8192x1024_1_1_0_0_n_n none d (extf .f32 w bitsLt_bf16_f32 : FVec ShloMosaic.Ideal S1024x256 .f32)
theorem up1_at (d : FVec ShloMosaic.Ideal S8192x256 .f32) (w : FVec ShloMosaic.Ideal S1024x256 .bf16) (i : Fin 8192) (k : Fin 1024) :
    up1 d w (ix2 i k) = ∑ j : Fin 256, d (ix2 i j) * w (ix2 k j) := by
  unfold up1
  pointwise []
  try rfl
def dw1 (d : FVec ShloMosaic.Ideal S8192x256 .f32) (h : Big) : FVec ShloMosaic.Ideal S1024x256 .f32 :=
  transpose S1024x256 [1, 0] (Host.dotGeneral dot_S8192x256_S8192x1024_S256x1024_0_0_1_1_n_n none d h) transposes_S256x1024_S1024x256_1_0
theorem dw1_at (d : FVec ShloMosaic.Ideal S8192x256 .f32) (h : Big) (k : Fin 1024) (j : Fin 256) :
    dw1 d h (ix2 k j) = ∑ i : Fin 8192, d (ix2 i j) * h (ix2 i k) := by
  unfold dw1
  pointwise []
  try rfl

def up2 (d : FVec ShloMosaic.Ideal S8192x128 .f32) (w : FVec ShloMosaic.Ideal S1024x128 .bf16) : Big :=
  Host.dotGeneral dot_S8192x128_S1024x128_S8192x1024_1_1_0_0_n_n none d (extf .f32 w bitsLt_bf16_f32 : FVec ShloMosaic.Ideal S1024x128 .f32)
theorem up2_at (d : FVec ShloMosaic.Ideal S8192x128 .f32) (w : FVec ShloMosaic.Ideal S1024x128 .bf16) (i : Fin 8192) (k : Fin 1024) :
    up2 d w (ix2 i k) = ∑ j : Fin 128, d (ix2 i j) * w (ix2 k j) := by
  unfold up2
  pointwise []
  try rfl
def dw2 (d : FVec ShloMosaic.Ideal S8192x128 .f32) (h : Big) : FVec ShloMosaic.Ideal S1024x128 .f32 :=
  transpose S1024x128 [1, 0] (Host.dotGeneral dot_S8192x128_S8192x1024_S128x1024_0_0_1_1_n_n none d h) transposes_S128x1024_S1024x128_1_0
theorem dw2_at (d : FVec ShloMosaic.Ideal S8192x128 .f32) (h : Big) (k : Fin 1024) (j : Fin 128) :
    dw2 d h (ix2 k j) = ∑ i : Fin 8192, d (ix2 i j) * h (ix2 i k) := by
  unfold dw2
  pointwise []
  try rfl

def up3 (d : FVec ShloMosaic.Ideal S8192x512 .f32) (w : FVec ShloMosaic.Ideal S1024x512 .bf16) : Big :=
  Host.dotGeneral dot_S8192x512_S1024x512_S8192x1024_1_1_0_0_n_n none d (extf .f32 w bitsLt_bf16_f32 : FVec ShloMosaic.Ideal S1024x512 .f32)
theorem up3_at (d : FVec ShloMosaic.Ideal S8192x512 .f32) (w : FVec ShloMosaic.Ideal S1024x512 .bf16) (i : Fin 8192) (k : Fin 1024) :
    up3 d w (ix2 i k) = ∑ j : Fin 512, d (ix2 i j) * w (ix2 k j) := by
  unfold up3
  pointwise []
  try rfl
def dw3 (d : FVec ShloMosaic.Ideal S8192x512 .f32) (h : Big) : FVec ShloMosaic.Ideal S1024x512 .f32 :=
  transpose S1024x512 [1, 0] (Host.dotGeneral dot_S8192x512_S8192x1024_S512x1024_0_0_1_1_n_n none d h) transposes_S512x1024_S1024x512_1_0
theorem dw3_at (d : FVec ShloMosaic.Ideal S8192x512 .f32) (h : Big) (k : Fin 1024) (j : Fin 512) :
    dw3 d h (ix2 k j) = ∑ i : Fin 8192, d (ix2 i j) * h (ix2 i k) := by
  unfold dw3
  pointwise []
  try rfl

def up4 (d : FVec ShloMosaic.Ideal S8192x1536 .f32) (w : FVec ShloMosaic.Ideal S1024x1536 .bf16) : Big :=
  Host.dotGeneral dot_S8192x1536_S1024x1536_S8192x1024_1_1_0_0_n_n none d (extf .f32 w bitsLt_bf16_f32 : FVec ShloMosaic.Ideal S1024x1536 .f32)
theorem up4_at (d : FVec ShloMosaic.Ideal S8192x1536 .f32) (w : FVec ShloMosaic.Ideal S1024x1536 .bf16) (i : Fin 8192) (k : Fin 1024) :
    up4 d w (ix2 i k) = ∑ j : Fin 1536, d (ix2 i j) * w (ix2 k j) := by
  unfold up4
  pointwise []
  try rfl
def dw4 (d : FVec ShloMosaic.Ideal S8192x1536 .f32) (h : Big) : FVec ShloMosaic.Ideal S1024x1536 .f32 :=
  transpose S1024x1536 [1, 0] (Host.dotGeneral dot_S8192x1536_S8192x1024_S1536x1024_0_0_1_1_n_n none d h) transposes_S1536x1024_S1024x1536_1_0
theorem dw4_at (d : FVec ShloMosaic.Ideal S8192x1536 .f32) (h : Big) (k : Fin 1024) (j : Fin 1536) :
    dw4 d h (ix2 k j) = ∑ i : Fin 8192, d (ix2 i j) * h (ix2 i k) := by
  unfold dw4
  pointwise []
  try rfl

def up5 (d : FVec ShloMosaic.Ideal S8192x128 .f32) (w : FVec ShloMosaic.Ideal S1024x128 .bf16) : Big :=
  Host.dotGeneral dot_S8192x128_S1024x128_S8192x1024_1_1_0_0_n_n none d (extf .f32 w bitsLt_bf16_f32 : FVec ShloMosaic.Ideal S1024x128 .f32)
theorem up5_at (d : FVec ShloMosaic.Ideal S8192x128 .f32) (w : FVec ShloMosaic.Ideal S1024x128 .bf16) (i : Fin 8192) (k : Fin 1024) :
    up5 d w (ix2 i k) = ∑ j : Fin 128, d (ix2 i j) * w (ix2 k j) := by
  unfold up5
  pointwise []
  try rfl
def dw5 (d : FVec ShloMosaic.Ideal S8192x128 .f32) (h : Big) : FVec ShloMosaic.Ideal S1024x128 .f32 :=
  transpose S1024x128 [1, 0] (Host.dotGeneral dot_S8192x128_S8192x1024_S128x1024_0_0_1_1_n_n none d h) transposes_S128x1024_S1024x128_1_0
theorem dw5_at (d : FVec ShloMosaic.Ideal S8192x128 .f32) (h : Big) (k : Fin 1024) (j : Fin 128) :
    dw5 d h (ix2 k j) = ∑ i : Fin 8192, d (ix2 i j) * h (ix2 i k) := by
  unfold dw5
  pointwise []
  try rfl

def up6 (d : FVec ShloMosaic.Ideal S8192x512 .f32) (w : FVec ShloMosaic.Ideal S1024x512 .bf16) : Big :=
  Host.dotGeneral dot_S8192x512_S1024x512_S8192x1024_1_1_0_0_n_n none d (extf .f32 w bitsLt_bf16_f32 : FVec ShloMosaic.Ideal S1024x512 .f32)
theorem up6_at (d : FVec ShloMosaic.Ideal S8192x512 .f32) (w : FVec ShloMosaic.Ideal S1024x512 .bf16) (i : Fin 8192) (k : Fin 1024) :
    up6 d w (ix2 i k) = ∑ j : Fin 512, d (ix2 i j) * w (ix2 k j) := by
  unfold up6
  pointwise []
  try rfl
def dw6 (d : FVec ShloMosaic.Ideal S8192x512 .f32) (h : Big) : FVec ShloMosaic.Ideal S1024x512 .f32 :=
  transpose S1024x512 [1, 0] (Host.dotGeneral dot_S8192x512_S8192x1024_S512x1024_0_0_1_1_n_n none d h) transposes_S512x1024_S1024x512_1_0
theorem dw6_at (d : FVec ShloMosaic.Ideal S8192x512 .f32) (h : Big) (k : Fin 1024) (j : Fin 512) :
    dw6 d h (ix2 k j) = ∑ i : Fin 8192, d (ix2 i j) * h (ix2 i k) := by
  unfold dw6
  pointwise []
  try rfl

/-- The gradient of the normalised rows. -/
def dhV : Big := addf (addf (addf (addf (addf (addf (up6 A.d6 A.w6) (up5 A.d5 A.w5)) (up4 A.d4 A.w4)) (up3 A.d3 A.w3)) (up2 A.d2 A.w2)) (up1 A.d1 A.w1)) (up0 A.d0 A.w0)

theorem sum7 (a b c d e f g : EReal) : g + f + e + d + c + b + a = a + b + c + d + e + f + g := by ac_rfl

theorem dh_at (i : Fin 8192) (k : Fin 1024) : dhV A (ix2 i k) = A.dhRow i k := by
  unfold dhV
  pointwise []
  rw [up0_at, up1_at, up2_at, up3_at, up4_at, up5_at, up6_at]
  exact sum7 _ _ _ _ _ _ _

def outDx : Big := dxV A.x (dhV A) A.sk A.nw A.sr A.sb
def outNw : One := colsum (mulf (yV A.x) (mulf (dhV A) (down (scV A.sr A.sb))))
def outSc : One := colsum (mulf (mulf (yV A.x) (down A.nw)) (dhV A))
def outSh : One := colsum (dhV A)

def outW0 : FVec ShloMosaic.Ideal S1024x384 .f32 := dw0 A.d0 (hV A.x A.nw A.sr A.sb A.hr A.hb)
def outW1 : FVec ShloMosaic.Ideal S1024x256 .f32 := dw1 A.d1 (hV A.x A.nw A.sr A.sb A.hr A.hb)
def outW2 : FVec ShloMosaic.Ideal S1024x128 .f32 := dw2 A.d2 (hV A.x A.nw A.sr A.sb A.hr A.hb)
def outW3 : FVec ShloMosaic.Ideal S1024x512 .f32 := dw3 A.d3 (hV A.x A.nw A.sr A.sb A.hr A.hb)
def outW4 : FVec ShloMosaic.Ideal S1024x1536 .f32 := dw4 A.d4 (hV A.x A.nw A.sr A.sb A.hr A.hb)
def outW5 : FVec ShloMosaic.Ideal S1024x128 .f32 := dw5 A.d5 (hV A.x A.nw A.sr A.sb A.hr A.hb)
def outW6 : FVec ShloMosaic.Ideal S1024x512 .f32 := dw6 A.d6 (hV A.x A.nw A.sr A.sb A.hr A.hb)

theorem outDx_at (i : Fin 8192) (k : Fin 1024) : outDx A (ix2 i k) = A.gdx i k := by
  unfold outDx
  rw [dx_at]
  simp only [dh_at]
  rfl
theorem outNw_at (k : Fin 1024) : outNw A (ix2 0 k) = ∑ i, A.tnw i k := by
  unfold outNw
  rw [colsum_at]
  refine Finset.sum_congr rfl fun i _ => ?_
  pointwise []
  rw [y_at, dh_at, down_at, sc_at]; rfl
theorem outSc_at (k : Fin 1024) : outSc A (ix2 0 k) = ∑ i, A.tsc i k := by
  unfold outSc
  rw [colsum_at]
  refine Finset.sum_congr rfl fun i _ => ?_
  pointwise []
  rw [y_at, dh_at, down_at]; rfl
theorem outSh_at (k : Fin 1024) : outSh A (ix2 0 k) = ∑ i, A.dhRow i k := by
  unfold outSh
  rw [colsum_at]
  exact Finset.sum_congr rfl fun i _ => dh_at A i k

theorem outW0_at (k : Fin 1024) (j : Fin 384) : outW0 A (ix2 k j) = ∑ i, A.d0 (ix2 i j) * A.hRow i k := by
  unfold outW0
  rw [dw0_at]
  exact Finset.sum_congr rfl fun i _ => congrArg _ (h_at A.x A.nw A.sr A.sb A.hr A.hb i k)

theorem outW1_at (k : Fin 1024) (j : Fin 256) : outW1 A (ix2 k j) = ∑ i, A.d1 (ix2 i j) * A.hRow i k := by
  unfold outW1
  rw [dw1_at]
  exact Finset.sum_congr rfl fun i _ => congrArg _ (h_at A.x A.nw A.sr A.sb A.hr A.hb i k)

theorem outW2_at (k : Fin 1024) (j : Fin 128) : outW2 A (ix2 k j) = ∑ i, A.d2 (ix2 i j) * A.hRow i k := by
  unfold outW2
  rw [dw2_at]
  exact Finset.sum_congr rfl fun i _ => congrArg _ (h_at A.x A.nw A.sr A.sb A.hr A.hb i k)

theorem outW3_at (k : Fin 1024) (j : Fin 512) : outW3 A (ix2 k j) = ∑ i, A.d3 (ix2 i j) * A.hRow i k := by
  unfold outW3
  rw [dw3_at]
  exact Finset.sum_congr rfl fun i _ => congrArg _ (h_at A.x A.nw A.sr A.sb A.hr A.hb i k)

theorem outW4_at (k : Fin 1024) (j : Fin 1536) : outW4 A (ix2 k j) = ∑ i, A.d4 (ix2 i j) * A.hRow i k := by
  unfold outW4
  rw [dw4_at]
  exact Finset.sum_congr rfl fun i _ => congrArg _ (h_at A.x A.nw A.sr A.sb A.hr A.hb i k)

theorem outW5_at (k : Fin 1024) (j : Fin 128) : outW5 A (ix2 k j) = ∑ i, A.d5 (ix2 i j) * A.hRow i k := by
  unfold outW5
  rw [dw5_at]
  exact Finset.sum_congr rfl fun i _ => congrArg _ (h_at A.x A.nw A.sr A.sb A.hr A.hb i k)

theorem outW6_at (k : Fin 1024) (j : Fin 512) : outW6 A (ix2 k j) = ∑ i, A.d6 (ix2 i j) * A.hRow i k := by
  unfold outW6
  rw [dw6_at]
  exact Finset.sum_congr rfl fun i _ => congrArg _ (h_at A.x A.nw A.sr A.sb A.hr A.hb i k)

section
variable (m : (ℓ : Loc nD τ sig) → Buf (Elt Ideal) ℓ) (c : Dev nD)

/-- The arrays at launch. -/
def all : All :=
  ⟨m (c.tc.loc main_arg0), m (c.tc.loc main_arg1), m (c.tc.loc main_arg2), m (c.tc.loc main_arg3), m (c.tc.loc main_arg4), m (c.tc.loc main_arg5), m (c.tc.loc main_arg6), m (c.tc.loc main_arg7), m (c.tc.loc main_arg8), m (c.tc.loc main_arg9), m (c.tc.loc main_arg10), m (c.tc.loc main_arg11), m (c.tc.loc main_arg12), m (c.tc.loc main_arg13), m (c.tc.loc main_arg14), m (c.tc.loc main_arg15), m (c.tc.loc main_arg16), m (c.tc.loc main_arg17), m (c.tc.loc main_arg18), m (c.tc.loc main_arg19), m (c.tc.loc main_arg20)⟩

theorem res_dx : Value.res_main_v90 m c = outDx (all m c) := by
  unfold Value.res_main_v90; rfl

end

end Cert.Proof.Front.Ref
-- ==== Proof.LatentRef.lean ====
module

public import proofs.«01_k».proof.Proof.Latent
public import proofs.«01_k».proof.Proof.FrontRef
public import proofs.«01_k».proof.Proof.Gen.Reference6Ideal
public import proofs.«01_k».proof.Proof.Gen.Reference6Ideal.Run

/-! What the reference computes of the latents' gradient, entry by entry. -/

@[expose] public section

set_option maxRecDepth 16384
noncomputable section

namespace Cert.Proof.Latent.Ref

open Idealize Idealize.ShloMosaic Idealize.ShloMosaic.TcCoe
open Cert.Reference6Ideal Cert.Reference6Ideal.Gen
open Cert.Proof.Front (Row tiny mhalf)
open Cert.Proof.Front.Ref (Big Col word zeroV word_at)

abbrev Lat : Type := FVec ShloMosaic.Ideal S8192x384 .f32
abbrev Kv : Type := FVec ShloMosaic.Ideal S8192x256 .f32
abbrev Tab : Type := FVec ShloMosaic.Ideal S8192x128 .f32
abbrev Wide : Type := FVec ShloMosaic.Ideal S8192x512 .f32
abbrev LatW : Type := FVec ShloMosaic.Ideal S1x384 .f32
abbrev KvW : Type := FVec ShloMosaic.Ideal S1x256 .f32
abbrev LatU : Type := FVec ShloMosaic.Ideal S384x1024 .f32
abbrev KvU : Type := FVec ShloMosaic.Ideal S256x1024 .f32
abbrev Cube : Type := FVec ShloMosaic.Ideal S8192x4x256 .f32
abbrev Cub1 : Type := FVec ShloMosaic.Ideal S8192x4x128 .f32
abbrev Cub2 : Type := FVec ShloMosaic.Ideal S8192x4x64 .f32
abbrev Side : Type := FVec ShloMosaic.Ideal S8192x64 .f32

/-- A row of an array. -/
abbrev xrow (x : Lat) (i : Fin 8192) : Fin 384 → EReal := fun b => x (ix2 i b)
abbrev krow (x : Kv) (i : Fin 8192) : Fin 256 → EReal := fun b => x (ix2 i b)
abbrev trow (x : Tab) (i : Fin 8192) : Lanes := fun b => x (ix2 i b)
abbrev brow (x : Big) (i : Fin 8192) : Row := fun b => x (ix2 i b)
abbrev vrow (x : Wide) (i : Fin 8192) : Fin 512 → EReal := fun b => x (ix2 i b)

/-! ## The queries' latent -/

def msQ (x : Lat) : Col :=
  addf (Host.divf (broadcastInDim S8192x1 ![0] bcast_S8192_S8192x1_0 (Host.reduceAdd (mulf x x) zeroV reducesTo_S8192x384_S8192_d1 h_S_)) (word 0x43C00000#32)) (word 0x358637BD#32)
def rsQ (x : Lat) : Col := Host.rsqrt (msQ x)
def acrQ (v : Col) : Lat := broadcastInDim S8192x384 ![0, 1] bcast_S8192x1_S8192x384_0_1 v
def dnQ (w : LatW) : Lat := broadcastInDim S8192x384 ![0, 1] bcast_S1x384_S8192x384_0_1 w
def hatQ (x : Lat) : Lat := mulf x (acrQ (rsQ x))
def nrmQ (x : Lat) (w : LatW) : Lat := mulf (hatQ x) (dnQ w)
def facQ (x : Lat) : Col := mulf (word 0xBF000000#32) (Host.divf (rsQ x) (msQ x))
def tQ (x d : Lat) : Lat := broadcastInDim S8192x384 ![0] bcast_S8192_S8192x384_0
  (Host.reduceAdd (Host.divf (mulf (shapeCast S8192x1 (Host.reduceAdd (mulf x d) zeroV reducesTo_S8192x384_S8192_d1 h_S_) shapeCasts_S8192_S8192x1) (facQ x))
    (word 0x43C00000#32)) zeroV reducesTo_S8192x1_S8192_d1 h_S_)
def glatQ (x q : Lat) (w : LatW) : Lat :=
  addf (addf (mulf (mulf q (dnQ w)) (acrQ (rsQ x))) (mulf x (tQ x (mulf q (dnQ w))))) (mulf (tQ x (mulf q (dnQ w))) x)
def sentQ (d : Big) (u : LatU) : Lat := Host.dotGeneral dot_S8192x1024_S384x1024_S8192x384_1_1_0_0_n_n none d u
def guQ (d : Big) (y : Lat) : LatU :=
  transpose S384x1024 [1, 0] (Host.dotGeneral dot_S8192x1024_S8192x384_S1024x384_0_0_1_1_n_n none d y) transposes_S1024x384_S384x1024_1_0
def gnQ (h q : Lat) : LatW := shapeCast S1x384 (Host.reduceAdd (mulf h q) zeroV reducesTo_S8192x384_S384_d0 h_S_) shapeCasts_S384_S1x384

theorem msQ_at (x : Lat) (i : Fin 8192) : msQ x (ix2 i 0) = lms lq (xrow x i) := by
  unfold msQ zeroV
  pointwise []
  simp only [word_at]
  rfl
theorem rsQ_at (x : Lat) (i : Fin 8192) : rsQ x (ix2 i 0) = lrs lq (xrow x i) := by
  unfold rsQ
  pointwise []
  rw [msQ_at]; rfl
theorem acrQ_at (v : Col) (i : Fin 8192) (b : Fin 384) : acrQ v (ix2 i b) = v (ix2 i 0) := by
  pointwise [acrQ]
theorem dnQ_at (w : LatW) (i : Fin 8192) (b : Fin 384) : dnQ w (ix2 i b) = w (ix2 0 b) := by
  pointwise [dnQ]
theorem hatQ_at (x : Lat) (i : Fin 8192) (b : Fin 384) : hatQ x (ix2 i b) = hat lq (xrow x i) b := by
  unfold hatQ
  pointwise []
  rw [acrQ_at, rsQ_at]; rfl
theorem nrmQ_at (x : Lat) (w : LatW) (i : Fin 8192) (b : Fin 384) : nrmQ x w (ix2 i b) = nrm lq (xrow x i) (fun b => w (ix2 0 b)) b := by
  unfold nrmQ
  pointwise []
  rw [hatQ_at, dnQ_at]; rfl
theorem facQ_at (x : Lat) (i : Fin 8192) : facQ x (ix2 i 0) = mhalf * Ideal.div (lrs lq (xrow x i)) (lms lq (xrow x i)) := by
  unfold facQ
  pointwise []
  rw [word_at, msQ_at, rsQ_at]; rfl
theorem tQ_at (x d : Lat) (i : Fin 8192) (b : Fin 384) : tQ x d (ix2 i b)
    = Ideal.div ((∑ l, x (ix2 i l) * d (ix2 i l)) * (mhalf * Ideal.div (lrs lq (xrow x i)) (lms lq (xrow x i)))) lq := by
  unfold tQ zeroV
  pointwise []
  simp only [Fin.sum_univ_one, word_at]
  rw [facQ_at]
  rfl
theorem glatQ_at (x q : Lat) (w : LatW) (i : Fin 8192) (b : Fin 384) : glatQ x q w (ix2 i b)
    = glat lq (xrow x i) (fun b => w (ix2 0 b)) (xrow q i) b := by
  unfold glatQ
  pointwise []
  simp only [tQ_at, acrQ_at, rsQ_at]
  pointwise []
  simp only [dnQ_at]
  rfl
theorem sentQ_at (d : Big) (u : LatU) (i : Fin 8192) (b : Fin 384) : sentQ d u (ix2 i b) = sent (brow d i) (fun b k => u (ix2 b k)) b := by
  unfold sentQ
  pointwise []
  rfl
theorem guQ_at (d : Big) (y : Lat) (b : Fin 384) (k : Fin 1024) : guQ d y (ix2 b k) = ∑ i, d (ix2 i k) * y (ix2 i b) := by
  unfold guQ
  pointwise []
theorem gnQ_at (h q : Lat) (b : Fin 384) : gnQ h q (ix2 0 b) = ∑ i, h (ix2 i b) * q (ix2 i b) := by
  unfold gnQ zeroV
  pointwise []

/-! ## The keys' and values' latent -/

def msK (x : Kv) : Col :=
  addf (Host.divf (broadcastInDim S8192x1 ![0] bcast_S8192_S8192x1_0 (Host.reduceAdd (mulf x x) zeroV reducesTo_S8192x256_S8192_d1 h_S_)) (word 0x43800000#32)) (word 0x358637BD#32)
def rsK (x : Kv) : Col := Host.rsqrt (msK x)
def acrK (v : Col) : Kv := broadcastInDim S8192x256 ![0, 1] bcast_S8192x1_S8192x256_0_1 v
def dnK (w : KvW) : Kv := broadcastInDim S8192x256 ![0, 1] bcast_S1x256_S8192x256_0_1 w
def hatK (x : Kv) : Kv := mulf x (acrK (rsK x))
def nrmK (x : Kv) (w : KvW) : Kv := mulf (hatK x) (dnK w)
def facK (x : Kv) : Col := mulf (word 0xBF000000#32) (Host.divf (rsK x) (msK x))
def tK (x d : Kv) : Kv := broadcastInDim S8192x256 ![0] bcast_S8192_S8192x256_0
  (Host.reduceAdd (Host.divf (mulf (shapeCast S8192x1 (Host.reduceAdd (mulf x d) zeroV reducesTo_S8192x256_S8192_d1 h_S_) shapeCasts_S8192_S8192x1) (facK x))
    (word 0x43800000#32)) zeroV reducesTo_S8192x1_S8192_d1 h_S_)
def glatK (x q : Kv) (w : KvW) : Kv :=
  addf (addf (mulf (mulf q (dnK w)) (acrK (rsK x))) (mulf x (tK x (mulf q (dnK w))))) (mulf (tK x (mulf q (dnK w))) x)
def sentK (d : Big) (u : KvU) : Kv := Host.dotGeneral dot_S8192x1024_S256x1024_S8192x256_1_1_0_0_n_n none d u
def guK (d : Big) (y : Kv) : KvU :=
  transpose S256x1024 [1, 0] (Host.dotGeneral dot_S8192x1024_S8192x256_S1024x256_0_0_1_1_n_n none d y) transposes_S1024x256_S256x1024_1_0
def gnK (h q : Kv) : KvW := shapeCast S1x256 (Host.reduceAdd (mulf h q) zeroV reducesTo_S8192x256_S256_d0 h_S_) shapeCasts_S256_S1x256

theorem msK_at (x : Kv) (i : Fin 8192) : msK x (ix2 i 0) = lms lkv (krow x i) := by
  unfold msK zeroV
  pointwise []
  simp only [word_at]
  rfl
theorem rsK_at (x : Kv) (i : Fin 8192) : rsK x (ix2 i 0) = lrs lkv (krow x i) := by
  unfold rsK
  pointwise []
  rw [msK_at]; rfl
theorem acrK_at (v : Col) (i : Fin 8192) (b : Fin 256) : acrK v (ix2 i b) = v (ix2 i 0) := by
  pointwise [acrK]
theorem dnK_at (w : KvW) (i : Fin 8192) (b : Fin 256) : dnK w (ix2 i b) = w (ix2 0 b) := by
  pointwise [dnK]
theorem hatK_at (x : Kv) (i : Fin 8192) (b : Fin 256) : hatK x (ix2 i b) = hat lkv (krow x i) b := by
  unfold hatK
  pointwise []
  rw [acrK_at, rsK_at]; rfl
theorem nrmK_at (x : Kv) (w : KvW) (i : Fin 8192) (b : Fin 256) : nrmK x w (ix2 i b) = nrm lkv (krow x i) (fun b => w (ix2 0 b)) b := by
  unfold nrmK
  pointwise []
  rw [hatK_at, dnK_at]; rfl
theorem facK_at (x : Kv) (i : Fin 8192) : facK x (ix2 i 0) = mhalf * Ideal.div (lrs lkv (krow x i)) (lms lkv (krow x i)) := by
  unfold facK
  pointwise []
  rw [word_at, msK_at, rsK_at]; rfl
theorem tK_at (x d : Kv) (i : Fin 8192) (b : Fin 256) : tK x d (ix2 i b)
    = Ideal.div ((∑ l, x (ix2 i l) * d (ix2 i l)) * (mhalf * Ideal.div (lrs lkv (krow x i)) (lms lkv (krow x i)))) lkv := by
  unfold tK zeroV
  pointwise []
  simp only [Fin.sum_univ_one, word_at]
  rw [facK_at]
  rfl
theorem glatK_at (x q : Kv) (w : KvW) (i : Fin 8192) (b : Fin 256) : glatK x q w (ix2 i b)
    = glat lkv (krow x i) (fun b => w (ix2 0 b)) (krow q i) b := by
  unfold glatK
  pointwise []
  simp only [tK_at, acrK_at, rsK_at]
  pointwise []
  simp only [dnK_at]
  rfl
theorem sentK_at (d : Big) (u : KvU) (i : Fin 8192) (b : Fin 256) : sentK d u (ix2 i b) = sent (brow d i) (fun b k => u (ix2 b k)) b := by
  unfold sentK
  pointwise []
  rfl
theorem guK_at (d : Big) (y : Kv) (b : Fin 256) (k : Fin 1024) : guK d y (ix2 b k) = ∑ i, d (ix2 i k) * y (ix2 i b) := by
  unfold guK
  pointwise []
theorem gnK_at (h q : Kv) (b : Fin 256) : gnK h q (ix2 0 b) = ∑ i, h (ix2 i b) * q (ix2 i b) := by
  unfold gnK zeroV
  pointwise []

/-! ## The projections' gradients -/

def cub (d : Big) : Cube := shapeCast S8192x4x256 d shapeCasts_S8192x1024_S8192x4x256
def fstV (d : Cube) : Cub1 := extractStridedSlice S8192x4x128 ![0, 0, 0] d slices_S8192x4x256_S8192x4x128_0_0_0
def sndV (d : Cube) : Cub1 := extractStridedSlice S8192x4x128 ![0, 0, 128] d slices_S8192x4x256_S8192x4x128_0_0_128
def lo (g : Tab) : Side := extractStridedSlice S8192x64 ![0, 0] g slices_S8192x128_S8192x64_0_0
def hi (g : Tab) : Side := extractStridedSlice S8192x64 ![0, 64] g slices_S8192x128_S8192x64_0_64
def lo3 (g : Cub1) : Cub2 := extractStridedSlice S8192x4x64 ![0, 0, 0] g slices_S8192x4x128_S8192x4x64_0_0_0
def hi3 (g : Cub1) : Cub2 := extractStridedSlice S8192x4x64 ![0, 0, 64] g slices_S8192x4x128_S8192x4x64_0_0_64
def mid (t : Tab) : FVec ShloMosaic.Ideal S8192x1x128 .f32 := broadcastInDim S8192x1x128 ![0, 2] bcast_S8192x128_S8192x1x128_0_2 t
def lo1 (t : Tab) : Cub2 := broadcastInDim S8192x4x64 ![0, 1, 2] bcast_S8192x1x64_S8192x4x64_0_1_2 (extractStridedSlice S8192x1x64 ![0, 0, 0] (mid t) slices_S8192x1x128_S8192x1x64_0_0_0)
def hi1 (t : Tab) : Cub2 := broadcastInDim S8192x4x64 ![0, 1, 2] bcast_S8192x1x64_S8192x4x64_0_1_2 (extractStridedSlice S8192x1x64 ![0, 0, 64] (mid t) slices_S8192x1x128_S8192x1x64_0_0_64)

/-- The gradient of a rotated row, -/
def rotV (g s t : Tab) : Tab :=
  addf (pad S8192x128 ![0, 64] ![0, 0] ![0, 0] (addf (mulf (hi g) (hi s)) (mulf (lo g) (lo t))) zeroV pads_S8192x64_S8192x128_000_6400 h_S_)
    (pad S8192x128 ![0, 0] ![0, 64] ![0, 0] (addf (mulf (hi g) (hi t)) (mulf (lo g) (lo s))) zeroV pads_S8192x64_S8192x128_000_0640 h_S_)
/-- and of the rotated pieces of the heads. -/
def rot3 (g : Cub1) (s t : Tab) : Cub1 :=
  addf (pad S8192x4x128 ![0, 0, 64] ![0, 0, 0] ![0, 0, 0] (addf (mulf (hi3 g) (hi1 s)) (mulf (lo3 g) (lo1 t))) zeroV pads_S8192x4x64_S8192x4x128_000_000_6400 h_S_)
    (pad S8192x4x128 ![0, 0, 0] ![0, 0, 64] ![0, 0, 0] (addf (mulf (hi3 g) (hi1 t)) (mulf (lo3 g) (lo1 s))) zeroV pads_S8192x4x64_S8192x4x128_000_000_0640 h_S_)
def sumV (d : Cube) : Tab :=
  Host.reduceAdd (broadcastInDim S8192x1x128 ![0, 2] bcast_S8192x128_S8192x1x128_0_2 (Host.reduceAdd (sndV d) zeroV reducesTo_S8192x4x128_S8192x128_d1 h_S_)) zeroV reducesTo_S8192x1x128_S8192x128_d1 h_S_
def gkV (d : Big) (v : Wide) : Big :=
  addf (pad S8192x1024 ![0, 512] ![0, 0] ![0, 0] v zeroV pads_S8192x512_S8192x1024_000_51200 h_S_)
    (pad S8192x1024 ![0, 0] ![0, 512] ![0, 0] (shapeCast S8192x512 (fstV (cub d)) shapeCasts_S8192x4x128_S8192x512) zeroV pads_S8192x512_S8192x1024_000_05120 h_S_)
def gqV (d : Big) (s t : Tab) : Big :=
  shapeCast S8192x1024 (addf (pad S8192x4x256 ![0, 0, 128] ![0, 0, 0] ![0, 0, 0] (rot3 (sndV (cub d)) s t) zeroV pads_S8192x4x128_S8192x4x256_000_000_12800 h_S_)
    (pad S8192x4x256 ![0, 0, 0] ![0, 0, 128] ![0, 0, 0] (fstV (cub d)) zeroV pads_S8192x4x128_S8192x4x256_000_000_01280 h_S_)) shapeCasts_S8192x4x256_S8192x1024

theorem fst_at (d : Big) (i : Fin 8192) (h : Fin 4) (l : Fin 128) : fstV (cub d) (ix3 i h l) = d (ix2 i (lane (fst h) l)) := by
  unfold fstV cub
  pointwise []
  refine congrArg (fun r => d (ix2 i r)) (Fin.ext ?_)
  simp only [lane, fst]
  omega
theorem snd_at (d : Big) (i : Fin 8192) (h : Fin 4) (l : Fin 128) : sndV (cub d) (ix3 i h l) = d (ix2 i (lane (snd h) l)) := by
  unfold sndV cub
  pointwise []
  refine congrArg (fun r => d (ix2 i r)) (Fin.ext ?_)
  simp only [lane, snd]
  omega
/-- The two padded halves make up the row. -/
theorem join (g s t : Lanes) (l : Fin 128) :
    ((if h : 64 ≤ l.val ∧ l.val - 64 < 64 then
        g ⟨64 + (l.val - 64), by omega⟩ * s ⟨64 + (l.val - 64), by omega⟩ + g ⟨l.val - 64, by omega⟩ * t ⟨l.val - 64, by omega⟩
      else 0) + if h : l.val < 64 then g ⟨64 + l.val, by omega⟩ * t ⟨64 + l.val, by omega⟩ + g l * s l else 0) = rotb g s t l := by
  unfold rotb
  rcases Nat.lt_or_ge l.val 64 with hl | hl
  · rw [dif_neg (by omega), dif_pos hl, zero_add, show half l = ⟨64 + l.val, by omega⟩ from Fin.ext (by simp only [half]; omega)]
  · rw [dif_pos ⟨hl, by omega⟩, dif_neg (by omega), add_zero, show half l = ⟨l.val - 64, by omega⟩ from Fin.ext (by simp only [half]; omega),
      show (⟨64 + (l.val - 64), by omega⟩ : Fin 128) = l from Fin.ext (by dsimp only; omega), add_comm]
theorem rotV_at (g s t : Tab) (i : Fin 8192) (l : Fin 128) : rotV g s t (ix2 i l) = rotb (trow g i) (trow s i) (trow t i) l := by
  unfold rotV hi lo zeroV
  pointwise []
  exact join (trow g i) (trow s i) (trow t i) l
theorem rot3_at (g : Cub1) (s t : Tab) (i : Fin 8192) (h : Fin 4) (l : Fin 128) : rot3 g s t (ix3 i h l)
    = rotb (fun l => g (ix3 i h l)) (trow s i) (trow t i) l := by
  unfold rot3 hi3 lo3 hi1 lo1 mid zeroV
  pointwise []
  exact join (fun l => g (ix3 i h l)) (trow s i) (trow t i) l
theorem sum_at (d : Big) (i : Fin 8192) (l : Fin 128) : sumV (cub d) (ix2 i l) = ∑ h, d (ix2 i (lane (snd h) l)) := by
  unfold sumV zeroV
  pointwise []
  simp only [Fin.sum_univ_one, snd_at]
theorem gr_at (d : Big) (s t : Tab) (i : Fin 8192) (l : Fin 128) : rotV (sumV (cub d)) s t (ix2 i l) = gr (brow d i) (trow s i) (trow t i) l := by
  rw [rotV_at]
  unfold gr
  exact congrArg (fun g => rotb g (trow s i) (trow t i) l) (funext fun l => sum_at d i l)
theorem gk_at (d : Big) (v : Wide) (i : Fin 8192) (k : Fin 1024) : gkV d v (ix2 i k) = gk (brow d i) (vrow v i) k := by
  unfold gkV zeroV
  pointwise []
  simp only [fst_at]
  unfold gk
  rcases Nat.lt_or_ge k.val 512 with hk | hk
  · rw [dif_neg (by omega), dif_pos hk, dif_pos hk, zero_add]; rfl
  · rw [dif_pos ⟨hk, by omega⟩, dif_neg (by omega), dif_neg (by omega), add_zero]
theorem gq_at (d : Big) (s t : Tab) (i : Fin 8192) (k : Fin 1024) : gqV d s t (ix2 i k) = gq (brow d i) (trow s i) (trow t i) k := by
  unfold gqV zeroV
  pointwise []
  simp only [fst_at, rot3_at, snd_at]
  unfold gq
  rcases Nat.lt_or_ge (k.val % 256) 128 with hk | hk
  · rw [dif_neg (by omega), dif_pos ⟨by omega, hk⟩, if_pos (by omega), zero_add]
    exact congrArg (brow d i) (Fin.ext (by simp only [lane, fst]; omega))
  · rw [dif_pos ⟨by omega, hk, by omega⟩, dif_neg (by omega), if_neg (by omega), add_zero,
      show snd ⟨k.val / 256, by omega⟩ = part k from Fin.ext (by simp only [snd, part]; omega),
      show (⟨k.val % 256 - 128, by omega⟩ : Fin 128) = off k from Fin.ext (by simp only [off]; omega)]

/-- The arrays that the reference works on. -/
structure Arrs where
  x : Lat
  y : Kv
  s : Tab
  t : Tab
  nq : LatW
  uq : LatU
  nk : KvW
  uk : KvU
  dq : Big
  dk : Big
  dv : Wide

namespace Arrs

variable (A : Arrs)

/-- The projections' gradients, and what they send back to the normalised latents. -/
def pq : Big := gqV A.dq A.s A.t
def pk : Big := gkV A.dk A.dv
def sq : Lat := sentQ A.pq A.uq
def sk : Kv := sentK A.pk A.uk

/-! The gradients. -/

def outX : Lat := glatQ A.x A.sq A.nq
def outY : Kv := glatK A.y A.sk A.nk
def outS : Tab := rotV (sumV (cub A.dk)) A.s A.t
def outNq : LatW := gnQ (hatQ A.x) A.sq
def outUq : LatU := guQ A.pq (nrmQ A.x A.nq)
def outNk : KvW := gnK (hatK A.y) A.sk
def outUk : KvU := guK A.pk (nrmK A.y A.nk)

end Arrs

/-- The arrays at launch. -/
def arrs (m : (ℓ : Loc nD τ sig) → Buf (Elt Ideal) ℓ) (c : Dev nD) : Arrs :=
  ⟨m (c.tc.loc main_arg0), m (c.tc.loc main_arg1), m (c.tc.loc main_arg3), m (c.tc.loc main_arg4), m (c.tc.loc main_arg5), m (c.tc.loc main_arg6),
    m (c.tc.loc main_arg7), m (c.tc.loc main_arg8), m (c.tc.loc main_arg9), m (c.tc.loc main_arg10), m (c.tc.loc main_arg11)⟩

end Cert.Proof.Latent.Ref
-- ==== Proof.LatentTile.lean ====
module

public import proofs.«01_k».proof.Proof.Gen.Kernel6Ideal.Value
public import proofs.«01_k».proof.Proof.Latent
public import Idealize.ShloMosaic.Lib.Pointwise

/-! What one grid point of the latents' backward kernel computes, row by row. -/

@[expose] public section

set_option maxRecDepth 8192
noncomputable section

namespace Cert.Proof.Latent.Tile

open Idealize Idealize.ShloMosaic Idealize.ShloMosaic.TcCoe
open Cert.Proof.Front (Row tiny mhalf)
open Cert.Kernel6Ideal Cert.Kernel6Ideal.Gen

/-- Blocks of the two latents, of the tables, of the projections and of the values, and the arrays read whole. -/
abbrev Lat := FVec Ideal S512x384 .f32
abbrev Kv := FVec Ideal S512x256 .f32
abbrev Tab := FVec Ideal S512x128 .f32
abbrev Big := FVec Ideal S512x1024 .f32
abbrev Wide := FVec Ideal S512x512 .f32
abbrev LatW := FVec Ideal S1x384 .f32
abbrev KvW := FVec Ideal S1x256 .f32
abbrev LatU := FVec Ideal S384x1024 .f32
abbrev KvU := FVec Ideal S256x1024 .f32

/-- A row of a block. -/
abbrev xrow (x : Lat) (a : Fin 512) : Fin 384 → EReal := fun b => x (ix2 a b)
abbrev krow (x : Kv) (a : Fin 512) : Fin 256 → EReal := fun b => x (ix2 a b)
abbrev trow (x : Tab) (a : Fin 512) : Lanes := fun b => x (ix2 a b)
abbrev brow (x : Big) (a : Fin 512) : Row := fun b => x (ix2 a b)
abbrev vrow (x : Wide) (a : Fin 512) : Fin 512 → EReal := fun b => x (ix2 a b)

/-! ## The norms -/

theorem qms (x : Lat) (a : Fin 512) : k0_pay1 (F := Ideal) x (ix2 a 0) = lms lq (xrow x a) := by
  pointwise [k0_pay1]
  rfl
theorem qrs (x : Lat) (a : Fin 512) : k0_pay2 (F := Ideal) x (ix2 a 0) = lrs lq (xrow x a) := by
  pointwise [k0_pay2]
  rw [qms]; rfl
theorem qfac (x : Lat) (a : Fin 512) : k0_pay3 (F := Ideal) x (ix2 a 0) = mhalf * Ideal.div (lrs lq (xrow x a)) (lms lq (xrow x a)) := by
  pointwise [k0_pay3]
  rw [qms, qrs]; rfl
theorem qhat (x : Lat) (a : Fin 512) (b : Fin 384) : k0_pay4 (F := Ideal) x (ix2 a b) = hat lq (xrow x a) b := by
  pointwise [k0_pay4]
  rw [qrs]; rfl
theorem qnrm (x : Lat) (w : LatW) (a : Fin 512) (b : Fin 384) : k0_pay5 (F := Ideal) x w (ix2 a b) = nrm lq (xrow x a) (fun b => w (ix2 0 b)) b := by
  pointwise [k0_pay5]
  rw [qhat]; rfl
theorem kms (x : Kv) (a : Fin 512) : k0_pay6 (F := Ideal) x (ix2 a 0) = lms lkv (krow x a) := by
  pointwise [k0_pay6]
  rfl
theorem krs (x : Kv) (a : Fin 512) : k0_pay7 (F := Ideal) x (ix2 a 0) = lrs lkv (krow x a) := by
  pointwise [k0_pay7]
  rw [kms]; rfl
theorem kfac (x : Kv) (a : Fin 512) : k0_pay8 (F := Ideal) x (ix2 a 0) = mhalf * Ideal.div (lrs lkv (krow x a)) (lms lkv (krow x a)) := by
  pointwise [k0_pay8]
  rw [kms, krs]; rfl
theorem khat (x : Kv) (a : Fin 512) (b : Fin 256) : k0_pay10 (F := Ideal) x (k0_pay9 x) (ix2 a b) = hat lkv (krow x a) b := by
  pointwise [k0_pay10, k0_pay9]
  rw [krs]; rfl
theorem knrm (x : Kv) (w : KvW) (a : Fin 512) (b : Fin 256) : k0_pay11 (F := Ideal) x w (k0_pay9 x) (ix2 a b) = nrm lkv (krow x a) (fun b => w (ix2 0 b)) b := by
  pointwise [k0_pay11]
  rw [khat]; rfl

/-! ## The projections' gradients -/

theorem three : ((3 : Fin 4) : ℕ) = 3 := rfl
/-- The lane half a row away, as the rotation finds it. -/
theorem turn (l : Fin 128) {h : (l.val + 128 - 64) % 128 < 128} : (⟨(l.val + 128 - 64) % 128, h⟩ : Fin 128) = half l :=
  Fin.ext (by show (l.val + 128 - 64) % 128 = (l.val + 64) % 128; omega)

theorem gq_plain (d : Row) (s t : Lanes) (b f : Fin 1024) (h : b.val / 128 % 2 = 0) (hf : f.val = b.val) : d f = gq d s t b := by
  obtain rfl : f = b := Fin.ext hf
  exact (if_pos h).symm
theorem gq_turn (d : Row) (s t : Lanes) (b f g : Fin 1024) (l r : Fin 128) (h : ¬ b.val / 128 % 2 = 0)
    (hf : f.val = (b.val % 128 + 64) % 128 + 128 * (b.val / 128)) (hl : l.val = (b.val % 128 + 64) % 128)
    (hg : g.val = b.val) (hr : r.val = b.val % 128) : d f * t l + d g * s r = gq d s t b := by
  obtain rfl : f = lane (part b) (half (off b)) := Fin.ext hf
  obtain rfl : l = half (off b) := Fin.ext hl
  obtain rfl : g = lane (part b) (off b) := Fin.ext (by show g.val = b.val % 128 + 128 * (b.val / 128); omega)
  obtain rfl : r = off b := Fin.ext hr
  exact (if_neg h).symm
theorem gk_key (d : Row) (v : Fin 512 → EReal) (b f : Fin 1024) (h : b.val < 512) (hf : f.val = b.val % 128 + 128 * (2 * (b.val / 128))) : d f = gk d v b := by
  unfold gk
  rw [dif_pos h]
  exact congrArg d (Fin.ext hf)

/-- The gradient of the queries' projection, -/
def tQ (s t : Tab) (d : Big) : Big :=
  k0_pay24 s t (k0_pay15 d) (k0_pay16 d) (k0_pay17 d) (k0_pay18 d) (k0_pay19 d) (k0_pay20 d) (k0_pay21 s t d)
/-- and that of the keys' and values'. -/
def tK (d : Big) (v : Wide) : Big := k0_pay23 (k0_pay12 d) (k0_pay13 d) (k0_pay22 d v)

theorem q_at (s t : Tab) (d : Big) (a : Fin 512) (b : Fin 1024) : tQ s t d (ix2 a b) = gq (brow d a) (trow s a) (trow t a) b := by
  unfold tQ
  pointwise [k0_pay24, k0_pay15, k0_pay16, k0_pay17, k0_pay18, k0_pay19, k0_pay20, k0_pay21]
  obtain h | h | h | h | h | h | h | h : b.val < 128 ∨ (128 ≤ b.val ∧ b.val < 256) ∨ (256 ≤ b.val ∧ b.val < 384) ∨ (384 ≤ b.val ∧ b.val < 512)
      ∨ (512 ≤ b.val ∧ b.val < 640) ∨ (640 ≤ b.val ∧ b.val < 768) ∨ (768 ≤ b.val ∧ b.val < 896) ∨ 896 ≤ b.val := by omega
  all_goals simp (disch := omega) only [dif_pos, dif_neg, zero_add, add_zero]
  all_goals first
    | exact gq_plain (brow d a) (trow s a) (trow t a) b _ (by omega) (by first | omega | (dsimp only; omega))
    | exact gq_turn (brow d a) (trow s a) (trow t a) b _ _ _ _ (by omega) (by first | omega | (dsimp only; omega)) (by first | omega | (dsimp only; omega)) (by first | omega | (dsimp only; omega)) (by first | omega | (dsimp only; omega))

theorem k_at (d : Big) (v : Wide) (a : Fin 512) (b : Fin 1024) : tK d v (ix2 a b) = gk (brow d a) (vrow v a) b := by
  unfold tK
  pointwise [k0_pay23, k0_pay12, k0_pay13, k0_pay22]
  obtain h | h | h | h | h : b.val < 128 ∨ (128 ≤ b.val ∧ b.val < 256) ∨ (256 ≤ b.val ∧ b.val < 384) ∨ (384 ≤ b.val ∧ b.val < 512) ∨ 512 ≤ b.val := by omega
  all_goals simp (disch := omega) only [dif_pos, dif_neg, zero_add, add_zero]
  all_goals first
    | exact gk_key (brow d a) (vrow v a) b _ (by omega) (by first | omega | (dsimp only; omega))
    | exact (dif_neg (show ¬ b.val < 512 by omega) : gk (brow d a) (vrow v a) b = _).symm

/-- The gradient of the row that the heads share. -/
def tR (s t : Tab) (d : Big) : Tab := k0_pay26 s (k0_pay14 d) (k0_pay25 t (k0_pay14 d))
theorem r_at (s t : Tab) (d : Big) (a : Fin 512) (l : Fin 128) : tR s t d (ix2 a l) = gr (brow d a) (trow s a) (trow t a) l := by
  unfold tR
  pointwise [k0_pay26, k0_pay14, k0_pay25]
  unfold gr rotb
  simp only [Fin.sum_univ_four]
  refine congrArg₂ (· + ·) (congrArg₂ (· * ·) ?_ (congrArg (trow t a) (turn l))) (congrArg₂ (· * ·) ?_ rfl)
  · refine congrArg₂ (· + ·) (congrArg₂ (· + ·) (congrArg₂ (· + ·) ?_ ?_) ?_) ?_ <;>
      exact congrArg (brow d a) (Fin.ext (by dsimp only [lane, snd, half, Fin.val_zero, Fin.val_one, Fin.val_two, three]; omega))
  · refine congrArg₂ (· + ·) (congrArg₂ (· + ·) (congrArg₂ (· + ·) ?_ ?_) ?_) ?_ <;>
      exact congrArg (brow d a) (Fin.ext (by dsimp only [lane, snd, half, Fin.val_zero, Fin.val_one, Fin.val_two, three]; omega))

/-! ## The latents' gradients -/

variable (x : Lat) (y : Kv) (s t : Tab) (nq : LatW) (uq : LatU) (nk : KvW) (uk : KvU) (dq dk : Big) (dv : Wide)

theorem qsent (a : Fin 512) (b : Fin 384) : k0_pay31 (F := Ideal) uq (tQ s t dq) (ix2 a b)
    = sent (gq (brow dq a) (trow s a) (trow t a)) (fun b k => uq (ix2 b k)) b := by
  pointwise [k0_pay31]
  simp only [q_at]
  rfl
theorem ksent (a : Fin 512) (b : Fin 256) : k0_pay27 (F := Ideal) uk (tK dk dv) (ix2 a b)
    = sent (gk (brow dk a) (vrow dv a)) (fun b k => uk (ix2 b k)) b := by
  pointwise [k0_pay27]
  simp only [k_at]
  rfl

/-- The gradient of the queries' latent, -/
def tGq : Lat := k0_pay37 x (k0_pay35 nq uq (k0_pay2 x) (tQ s t dq)) (k0_pay36 x nq uq (k0_pay3 x) (tQ s t dq))
theorem gq_at (a : Fin 512) (b : Fin 384) : tGq x s t nq uq dq (ix2 a b)
    = glat lq (xrow x a) (fun b => nq (ix2 0 b)) (sent (gq (brow dq a) (trow s a) (trow t a)) (fun b k => uq (ix2 b k))) b := by
  unfold tGq
  pointwise [k0_pay37, k0_pay35, k0_pay36, k0_pay34]
  simp only [Fin.sum_univ_one, qsent, qrs, qfac]
  rfl
/-- and of the keys' and values'. -/
def tGk : Kv := k0_pay30 y nk uk (k0_pay7 y) (k0_pay8 y) (tK dk dv)
theorem gk_at (a : Fin 512) (b : Fin 256) : tGk y nk uk dk dv (ix2 a b)
    = glat lkv (krow y a) (fun b => nk (ix2 0 b)) (sent (gk (brow dk a) (vrow dv a)) (fun b k => uk (ix2 b k))) b := by
  unfold tGk
  pointwise [k0_pay30]
  simp only [Fin.sum_univ_one, ksent, krs, kfac]
  rfl

/-! ## What one grid point adds to the sums over the rows -/

theorem nq_at (b : Fin 384) : k0_pay33 (F := Ideal) uq (k0_pay4 x) (tQ s t dq) (ix2 0 b)
    = ∑ a, hat lq (xrow x a) b * sent (gq (brow dq a) (trow s a) (trow t a)) (fun b k => uq (ix2 b k)) b := by
  pointwise [k0_pay33]
  simp only [qhat, qsent]
theorem uq_at (b : Fin 384) (k : Fin 1024) : k0_pay32 (F := Ideal) (k0_pay5 x nq) (tQ s t dq) (ix2 b k)
    = ∑ a, nrm lq (xrow x a) (fun b => nq (ix2 0 b)) b * gq (brow dq a) (trow s a) (trow t a) k := by
  pointwise [k0_pay32]
  simp only [qnrm, q_at]
theorem nk_at (b : Fin 256) : k0_pay29 (F := Ideal) uk (k0_pay10 y (k0_pay9 y)) (tK dk dv) (ix2 0 b)
    = ∑ a, hat lkv (krow y a) b * sent (gk (brow dk a) (vrow dv a)) (fun b k => uk (ix2 b k)) b := by
  pointwise [k0_pay29]
  simp only [khat, ksent]
theorem uk_at (b : Fin 256) (k : Fin 1024) : k0_pay28 (F := Ideal) (k0_pay11 y nk (k0_pay9 y)) (tK dk dv) (ix2 b k)
    = ∑ a, nrm lkv (krow y a) (fun b => nk (ix2 0 b)) b * gk (brow dk a) (vrow dv a) k := by
  pointwise [k0_pay28]
  simp only [knrm, k_at]

/-! ## The sums as they are kept -/

theorem add15 (p q : LatW) (b : Fin 384) : k0_pay42 (F := Ideal) p q (ix2 0 b) = q (ix2 0 b) + p (ix2 0 b) := by pointwise [k0_pay42]
theorem add16 (p q : LatU) (b : Fin 384) (k : Fin 1024) : k0_pay43 (F := Ideal) p q (ix2 b k) = q (ix2 b k) + p (ix2 b k) := by pointwise [k0_pay43]
theorem add17 (p q : KvW) (b : Fin 256) : k0_pay44 (F := Ideal) p q (ix2 0 b) = q (ix2 0 b) + p (ix2 0 b) := by pointwise [k0_pay44]
theorem add18 (p q : KvU) (b : Fin 256) (k : Fin 1024) : k0_pay45 (F := Ideal) p q (ix2 b k) = q (ix2 b k) + p (ix2 b k) := by pointwise [k0_pay45]
theorem zero15 (b : Fin 384) : k0_pay38 (F := Ideal) (ix2 0 b) = 0 := by pointwise [k0_pay38]
theorem zero16 (b : Fin 384) (k : Fin 1024) : k0_pay39 (F := Ideal) (ix2 b k) = 0 := by pointwise [k0_pay39]
theorem zero17 (b : Fin 256) : k0_pay40 (F := Ideal) (ix2 0 b) = 0 := by pointwise [k0_pay40]
theorem zero18 (b : Fin 256) (k : Fin 1024) : k0_pay41 (F := Ideal) (ix2 b k) = 0 := by pointwise [k0_pay41]

end Cert.Proof.Latent.Tile
-- ==== Proof.LatentPoint.lean ====
module

public import proofs.«01_k».proof.Proof.LatentTile
public import Idealize.ShloMosaic.Lib.VecWindow

/-! What a grid point of the latents' backward kernel leaves in its outputs' buffers. -/

@[expose] public section

set_option maxRecDepth 8192
noncomputable section

namespace Cert.Proof.Latent.Point

open Idealize Idealize.ShloMosaic Idealize.ShloMosaic.TcCoe
open Cert.Kernel6Ideal Cert.Kernel6Ideal.Gen
open Cert.Proof.Latent.Tile

/-- A load of all of a buffer that holds `x`. -/
def lod {s : Shape} (M : Memref sig .tc .vmem s .f32) (h : M.IsWhole) (x : Vec Ideal s .f32) (off : Fin s.rank → ℕ)
    (inb : ∀ a, off a + s.size a ≤ s.size a) : FVec Ideal s .f32 :=
  View.readAt (Elt Ideal) M.view (Rect.unit off s.size inb).toLoadRect (h.unread x)
theorem lod_eq {s : Shape} (M : Memref sig .tc .vmem s .f32) (h : M.IsWhole) (x : Vec Ideal s .f32) (off : Fin s.rank → ℕ)
    (inb : ∀ a, off a + s.size a ≤ s.size a) : lod M h x off inb = x :=
  (View.readAt_full _ _ _).trans (h.read_unread x)

variable (m : (ℓ : Loc nD τ sig) → Buf (Elt Ideal) ℓ) (c : Dev nD) (t : Fin cfg0.N)

/-! The blocks that the point loads. -/

def l0 : Lat := lod (ms0_0 t) (hs0_0 t) (iblk m c 0 t) ![0, 0] inb_S512x384_S512x384_0_0
def l1 : Kv := lod (ms0_1 t) (hs0_1 t) (iblk m c 1 t) ![0, 0] inb_S512x256_S512x256_0_0
def l3 : Tab := lod (ms0_3 t) (hs0_3 t) (iblk m c 3 t) ![0, 0] inb_S512x128_S512x128_0_0
def l4 : Tab := lod (ms0_4 t) (hs0_4 t) (iblk m c 4 t) ![0, 0] inb_S512x128_S512x128_0_0
def l5 : LatW := lod (ms0_5 t) (hs0_5 t) (iblk m c 5 t) ![0, 0] inb_S1x384_S1x384_0_0
def l6 : LatU := lod (ms0_6 t) (hs0_6 t) (iblk m c 6 t) ![0, 0] inb_S384x1024_S384x1024_0_0
def l7 : KvW := lod (ms0_7 t) (hs0_7 t) (iblk m c 7 t) ![0, 0] inb_S1x256_S1x256_0_0
def l8 : KvU := lod (ms0_8 t) (hs0_8 t) (iblk m c 8 t) ![0, 0] inb_S256x1024_S256x1024_0_0
def l9 : Big := lod (ms0_9 t) (hs0_9 t) (iblk m c 9 t) ![0, 0] inb_S512x1024_S512x1024_0_0
def l10 : Big := lod (ms0_10 t) (hs0_10 t) (iblk m c 10 t) ![0, 0] inb_S512x1024_S512x1024_0_0
def l11 : Wide := lod (ms0_11 t) (hs0_11 t) (iblk m c 11 t) ![0, 0] inb_S512x512_S512x512_0_0

theorem l0_eq : l0 m c t = iblk m c 0 t := lod_eq _ _ _ _ _
theorem l1_eq : l1 m c t = iblk m c 1 t := lod_eq _ _ _ _ _
theorem l3_eq : l3 m c t = iblk m c 3 t := lod_eq _ _ _ _ _
theorem l4_eq : l4 m c t = iblk m c 4 t := lod_eq _ _ _ _ _
theorem l5_eq : l5 m c t = iblk m c 5 t := lod_eq _ _ _ _ _
theorem l6_eq : l6 m c t = iblk m c 6 t := lod_eq _ _ _ _ _
theorem l7_eq : l7 m c t = iblk m c 7 t := lod_eq _ _ _ _ _
theorem l8_eq : l8 m c t = iblk m c 8 t := lod_eq _ _ _ _ _
theorem l9_eq : l9 m c t = iblk m c 9 t := lod_eq _ _ _ _ _
theorem l10_eq : l10 m c t = iblk m c 10 t := lod_eq _ _ _ _ _
theorem l11_eq : l11 m c t = iblk m c 11 t := lod_eq _ _ _ _ _

/-! ## The blocks that every point writes for itself -/

theorem at12 : (outsAt0 m c t.val t.isLt).1 = tGq (iblk m c 0 t) (iblk m c 3 t) (iblk m c 4 t) (iblk m c 5 t) (iblk m c 6 t) (iblk m c 9 t) := by
  have e : tGq (l0 m c t) (l3 m c t) (l4 m c t) (l5 m c t) (l6 m c t) (l9 m c t) = tGq (iblk m c 0 t) (iblk m c 3 t) (iblk m c 4 t) (iblk m c 5 t) (iblk m c 6 t) (iblk m c 9 t) := by
    simp only [l0_eq, l1_eq, l3_eq, l4_eq, l5_eq, l6_eq, l7_eq, l8_eq, l9_eq, l10_eq, l11_eq]
  by_cases h0 : t.val % 16 = 0
  · rw [outsAt0_A m c t h0]
    dsimp only
    unfold out0_A_12 kernelRun0_A
    dsimp only
    exact (View.read_writes_full _ _ _ _ _).trans (Eq.trans rfl e)
  · rw [outsAt0_B m c t h0]
    dsimp only
    unfold out0_B_12 kernelRun0_B
    dsimp only
    exact (View.read_writes_full _ _ _ _ _).trans (Eq.trans rfl e)
theorem at13 : (outsAt0 m c t.val t.isLt).2.1 = tGk (iblk m c 1 t) (iblk m c 7 t) (iblk m c 8 t) (iblk m c 10 t) (iblk m c 11 t) := by
  have e : tGk (l1 m c t) (l7 m c t) (l8 m c t) (l10 m c t) (l11 m c t) = tGk (iblk m c 1 t) (iblk m c 7 t) (iblk m c 8 t) (iblk m c 10 t) (iblk m c 11 t) := by
    simp only [l0_eq, l1_eq, l3_eq, l4_eq, l5_eq, l6_eq, l7_eq, l8_eq, l9_eq, l10_eq, l11_eq]
  by_cases h0 : t.val % 16 = 0
  · rw [outsAt0_A m c t h0]
    dsimp only
    unfold out0_A_13 kernelRun0_A
    dsimp only
    exact (View.read_writes_full _ _ _ _ _).trans (Eq.trans rfl e)
  · rw [outsAt0_B m c t h0]
    dsimp only
    unfold out0_B_13 kernelRun0_B
    dsimp only
    exact (View.read_writes_full _ _ _ _ _).trans (Eq.trans rfl e)
theorem at14 : (outsAt0 m c t.val t.isLt).2.2.1 = tR (iblk m c 3 t) (iblk m c 4 t) (iblk m c 10 t) := by
  have e : tR (l3 m c t) (l4 m c t) (l10 m c t) = tR (iblk m c 3 t) (iblk m c 4 t) (iblk m c 10 t) := by
    simp only [l0_eq, l1_eq, l3_eq, l4_eq, l5_eq, l6_eq, l7_eq, l8_eq, l9_eq, l10_eq, l11_eq]
  by_cases h0 : t.val % 16 = 0
  · rw [outsAt0_A m c t h0]
    dsimp only
    unfold out0_A_14 kernelRun0_A
    dsimp only
    exact (View.read_writes_full _ _ _ _ _).trans (Eq.trans rfl e)
  · rw [outsAt0_B m c t h0]
    dsimp only
    unfold out0_B_14 kernelRun0_B
    dsimp only
    exact (View.read_writes_full _ _ _ _ _).trans (Eq.trans rfl e)

/-! ## The sums over the points: begun at the first, added to at the others -/

theorem term15 : k0_pay33 (F := Ideal) (l6 m c t) (k0_pay4 (F := Ideal) (l0 m c t)) (tQ (l3 m c t) (l4 m c t) (l9 m c t)) = k0_pay33 (F := Ideal) (iblk m c 6 t) (k0_pay4 (F := Ideal) (iblk m c 0 t)) (tQ (iblk m c 3 t) (iblk m c 4 t) (iblk m c 9 t)) := by
  simp only [l0_eq, l1_eq, l3_eq, l4_eq, l5_eq, l6_eq, l7_eq, l8_eq, l9_eq, l10_eq, l11_eq]
theorem first15 (h0 : t.val % 16 = 0) : (outsAt0 m c t.val t.isLt).2.2.2.1 = k0_pay42 (F := Ideal) (k0_pay33 (F := Ideal) (iblk m c 6 t) (k0_pay4 (F := Ideal) (iblk m c 0 t)) (tQ (iblk m c 3 t) (iblk m c 4 t) (iblk m c 9 t))) (k0_pay38 (F := Ideal)) := by
  rw [outsAt0_A m c t h0]
  dsimp only
  unfold out0_A_15 kernelRun0_A
  dsimp only
  refine (View.read_writes_full _ _ _ _ _).trans ?_
  unfold kernelRun0_A.sl.v193 kernelRun0_A.sl.H15_1
  rw [View.readCov_full, ← term15]
  rfl
theorem later15 (h0 : ¬ t.val % 16 = 0) : (outsAt0 m c t.val t.isLt).2.2.2.1
    = k0_pay42 (F := Ideal) (k0_pay33 (F := Ideal) (iblk m c 6 t) (k0_pay4 (F := Ideal) (iblk m c 0 t)) (tQ (iblk m c 3 t) (iblk m c 4 t) (iblk m c 9 t))) (outsAt0 m c (t.val - 1) (Nat.lt_of_le_of_lt (Nat.sub_le _ _) t.isLt)).2.2.2.1 := by
  rw [outsAt0_B m c t h0]
  dsimp only
  unfold out0_B_15 kernelRun0_B
  dsimp only
  refine (View.read_writes_full _ _ _ _ _).trans ?_
  refine Eq.trans (b := k0_pay42 (F := Ideal) (k0_pay33 (F := Ideal) (l6 m c t) (k0_pay4 (F := Ideal) (l0 m c t)) (tQ (l3 m c t) (l4 m c t) (l9 m c t))) (lod (ms0_15 t) (hs0_15 t) (outsAt0 m c (t.val - 1) (Nat.lt_of_le_of_lt (Nat.sub_le _ _) t.isLt)).2.2.2.1 ![0, 0] inb_S1x384_S1x384_0_0)) rfl ?_
  rw [lod_eq, term15]
theorem term16 : k0_pay32 (F := Ideal) (k0_pay5 (F := Ideal) (l0 m c t) (l5 m c t)) (tQ (l3 m c t) (l4 m c t) (l9 m c t)) = k0_pay32 (F := Ideal) (k0_pay5 (F := Ideal) (iblk m c 0 t) (iblk m c 5 t)) (tQ (iblk m c 3 t) (iblk m c 4 t) (iblk m c 9 t)) := by
  simp only [l0_eq, l1_eq, l3_eq, l4_eq, l5_eq, l6_eq, l7_eq, l8_eq, l9_eq, l10_eq, l11_eq]
theorem first16 (h0 : t.val % 16 = 0) : (outsAt0 m c t.val t.isLt).2.2.2.2.1 = k0_pay43 (F := Ideal) (k0_pay32 (F := Ideal) (k0_pay5 (F := Ideal) (iblk m c 0 t) (iblk m c 5 t)) (tQ (iblk m c 3 t) (iblk m c 4 t) (iblk m c 9 t))) (k0_pay39 (F := Ideal)) := by
  rw [outsAt0_A m c t h0]
  dsimp only
  unfold out0_A_16 kernelRun0_A
  dsimp only
  refine (View.read_writes_full _ _ _ _ _).trans ?_
  unfold kernelRun0_A.sl.v197 kernelRun0_A.sl.H16_1
  rw [View.readCov_full, ← term16]
  rfl
theorem later16 (h0 : ¬ t.val % 16 = 0) : (outsAt0 m c t.val t.isLt).2.2.2.2.1
    = k0_pay43 (F := Ideal) (k0_pay32 (F := Ideal) (k0_pay5 (F := Ideal) (iblk m c 0 t) (iblk m c 5 t)) (tQ (iblk m c 3 t) (iblk m c 4 t) (iblk m c 9 t))) (outsAt0 m c (t.val - 1) (Nat.lt_of_le_of_lt (Nat.sub_le _ _) t.isLt)).2.2.2.2.1 := by
  rw [outsAt0_B m c t h0]
  dsimp only
  unfold out0_B_16 kernelRun0_B
  dsimp only
  refine (View.read_writes_full _ _ _ _ _).trans ?_
  refine Eq.trans (b := k0_pay43 (F := Ideal) (k0_pay32 (F := Ideal) (k0_pay5 (F := Ideal) (l0 m c t) (l5 m c t)) (tQ (l3 m c t) (l4 m c t) (l9 m c t))) (lod (ms0_16 t) (hs0_16 t) (outsAt0 m c (t.val - 1) (Nat.lt_of_le_of_lt (Nat.sub_le _ _) t.isLt)).2.2.2.2.1 ![0, 0] inb_S384x1024_S384x1024_0_0)) rfl ?_
  rw [lod_eq, term16]
theorem term17 : k0_pay29 (F := Ideal) (l8 m c t) (k0_pay10 (F := Ideal) (l1 m c t) (k0_pay9 (F := Ideal) (l1 m c t))) (tK (l10 m c t) (l11 m c t)) = k0_pay29 (F := Ideal) (iblk m c 8 t) (k0_pay10 (F := Ideal) (iblk m c 1 t) (k0_pay9 (F := Ideal) (iblk m c 1 t))) (tK (iblk m c 10 t) (iblk m c 11 t)) := by
  simp only [l0_eq, l1_eq, l3_eq, l4_eq, l5_eq, l6_eq, l7_eq, l8_eq, l9_eq, l10_eq, l11_eq]
theorem first17 (h0 : t.val % 16 = 0) : (outsAt0 m c t.val t.isLt).2.2.2.2.2.1 = k0_pay44 (F := Ideal) (k0_pay29 (F := Ideal) (iblk m c 8 t) (k0_pay10 (F := Ideal) (iblk m c 1 t) (k0_pay9 (F := Ideal) (iblk m c 1 t))) (tK (iblk m c 10 t) (iblk m c 11 t))) (k0_pay40 (F := Ideal)) := by
  rw [outsAt0_A m c t h0]
  dsimp only
  unfold out0_A_17 kernelRun0_A
  dsimp only
  refine (View.read_writes_full _ _ _ _ _).trans ?_
  unfold kernelRun0_A.sl.v201 kernelRun0_A.sl.H17_1
  rw [View.readCov_full, ← term17]
  rfl
theorem later17 (h0 : ¬ t.val % 16 = 0) : (outsAt0 m c t.val t.isLt).2.2.2.2.2.1
    = k0_pay44 (F := Ideal) (k0_pay29 (F := Ideal) (iblk m c 8 t) (k0_pay10 (F := Ideal) (iblk m c 1 t) (k0_pay9 (F := Ideal) (iblk m c 1 t))) (tK (iblk m c 10 t) (iblk m c 11 t))) (outsAt0 m c (t.val - 1) (Nat.lt_of_le_of_lt (Nat.sub_le _ _) t.isLt)).2.2.2.2.2.1 := by
  rw [outsAt0_B m c t h0]
  dsimp only
  unfold out0_B_17 kernelRun0_B
  dsimp only
  refine (View.read_writes_full _ _ _ _ _).trans ?_
  refine Eq.trans (b := k0_pay44 (F := Ideal) (k0_pay29 (F := Ideal) (l8 m c t) (k0_pay10 (F := Ideal) (l1 m c t) (k0_pay9 (F := Ideal) (l1 m c t))) (tK (l10 m c t) (l11 m c t))) (lod (ms0_17 t) (hs0_17 t) (outsAt0 m c (t.val - 1) (Nat.lt_of_le_of_lt (Nat.sub_le _ _) t.isLt)).2.2.2.2.2.1 ![0, 0] inb_S1x256_S1x256_0_0)) rfl ?_
  rw [lod_eq, term17]
theorem term18 : k0_pay28 (F := Ideal) (k0_pay11 (F := Ideal) (l1 m c t) (l7 m c t) (k0_pay9 (F := Ideal) (l1 m c t))) (tK (l10 m c t) (l11 m c t)) = k0_pay28 (F := Ideal) (k0_pay11 (F := Ideal) (iblk m c 1 t) (iblk m c 7 t) (k0_pay9 (F := Ideal) (iblk m c 1 t))) (tK (iblk m c 10 t) (iblk m c 11 t)) := by
  simp only [l0_eq, l1_eq, l3_eq, l4_eq, l5_eq, l6_eq, l7_eq, l8_eq, l9_eq, l10_eq, l11_eq]
theorem first18 (h0 : t.val % 16 = 0) : (outsAt0 m c t.val t.isLt).2.2.2.2.2.2 = k0_pay45 (F := Ideal) (k0_pay28 (F := Ideal) (k0_pay11 (F := Ideal) (iblk m c 1 t) (iblk m c 7 t) (k0_pay9 (F := Ideal) (iblk m c 1 t))) (tK (iblk m c 10 t) (iblk m c 11 t))) (k0_pay41 (F := Ideal)) := by
  rw [outsAt0_A m c t h0]
  dsimp only
  unfold out0_A_18 kernelRun0_A
  dsimp only
  refine (View.read_writes_full _ _ _ _ _).trans ?_
  unfold kernelRun0_A.sl.r_39 kernelRun0_A.sl.v205 kernelRun0_A.sl.H18_1
  rw [View.readCov_full, ← term18]
  rfl
theorem later18 (h0 : ¬ t.val % 16 = 0) : (outsAt0 m c t.val t.isLt).2.2.2.2.2.2
    = k0_pay45 (F := Ideal) (k0_pay28 (F := Ideal) (k0_pay11 (F := Ideal) (iblk m c 1 t) (iblk m c 7 t) (k0_pay9 (F := Ideal) (iblk m c 1 t))) (tK (iblk m c 10 t) (iblk m c 11 t))) (outsAt0 m c (t.val - 1) (Nat.lt_of_le_of_lt (Nat.sub_le _ _) t.isLt)).2.2.2.2.2.2 := by
  rw [outsAt0_B m c t h0]
  dsimp only
  unfold out0_B_18 kernelRun0_B
  dsimp only
  refine (View.read_writes_full _ _ _ _ _).trans ?_
  refine Eq.trans (b := k0_pay45 (F := Ideal) (k0_pay28 (F := Ideal) (k0_pay11 (F := Ideal) (l1 m c t) (l7 m c t) (k0_pay9 (F := Ideal) (l1 m c t))) (tK (l10 m c t) (l11 m c t))) (lod (ms0_18 t) (hs0_18 t) (outsAt0 m c (t.val - 1) (Nat.lt_of_le_of_lt (Nat.sub_le _ _) t.isLt)).2.2.2.2.2.2 ![0, 0] inb_S256x1024_S256x1024_0_0)) rfl ?_
  rw [lod_eq, term18]

end Cert.Proof.Latent.Point
-- ==== Proof.Tail.lean ====
module

public import proofs.«01_k».proof.Proof.FrontTile
public import proofs.«01_k».proof.Proof.Math

/-! The layer's tail, row by row: two gated branches, the second normalised per head, the output projection, its norm and
    its gate; and the derivative of the gate's activation. -/

@[expose] public section

noncomputable section

namespace Cert.Proof.Tail

open Idealize Idealize.ShloMosaic
open Cert.Proof.Front (Row len tiny mhalf ms rs)

/-- A branch's row: four heads of 128. -/
abbrev Half := Fin 512 → EReal

/-- Lane `l` of head `j`. -/
def hd (j : Fin 4) (l : Fin 128) : Fin 512 := ⟨l.val + 128 * j.val, by omega⟩
/-- The head of a lane, -/
def hof (b : Fin 512) : Fin 4 := ⟨b.val / 128, by omega⟩
/-- and its place in it. -/
def lof (b : Fin 512) : Fin 128 := ⟨b.val % 128, by omega⟩

theorem hd_of (b : Fin 512) : hd (hof b) (lof b) = b := Fin.ext (by show b.val % 128 + 128 * (b.val / 128) = b.val; omega)

/-- The logistic function. -/
def sg (z : EReal) : EReal := Ideal.div 1 (1 + Ideal.exp (-z))
/-- The gate's activation. -/
def silu (z : EReal) : EReal := z * sg z
/-- Its derivative times `q`. -/
def gsilu (z q : EReal) : EReal := q * sg z + z * q * (sg z * (1 - sg z))

/-- A head's length. -/
def hlen : EReal := Ideal.ofBits .f32 0x43000000#32
/-- The mean square of a head, and the small number added to it. -/
def hms (o : Half) (j : Fin 4) : EReal := Ideal.div (∑ l, o (hd j l) * o (hd j l)) hlen + tiny
/-- The factor by which the norm scales the head. -/
def hrs (o : Half) (j : Fin 4) : EReal := Ideal.rsqrt (hms o j)
/-- A head's normalised entry, before the weight. -/
def hy (o : Half) (b : Fin 512) : EReal := o b * hrs o (hof b)

/-- The gated first branch, -/
def y1 (o z : Half) (b : Fin 512) : EReal := o b * silu (z b)
/-- the normalised second branch, -/
def hn (o : Half) (w : Fin 128 → EReal) (b : Fin 512) : EReal := hy o b * w (lof b)
/-- and it gated. -/
def y2 (o z : Half) (w : Fin 128 → EReal) (b : Fin 512) : EReal := hn o w b * silu (z b)

/-- The upper and the lower half of the projection's rows. -/
def top (b : Fin 512) : Fin 1024 := ⟨b.val, by omega⟩
def bot (b : Fin 512) : Fin 1024 := ⟨b.val + 512, by omega⟩

/-- A sum over the projection's rows, half by half. -/
theorem sum_halves (f : Fin 1024 → EReal) : ∑ k, f k = ∑ b, f (top b) + ∑ b, f (bot b) := by
  refine (Fin.sum_univ_add (a := 512) (b := 512) f).trans (congrArg₂ (· + ·) rfl ?_)
  exact Finset.sum_congr rfl fun b _ => congrArg f (Fin.ext (Nat.add_comm 512 b.val))

/-- The projected row. -/
def prj (u v : Half) (w : Fin 1024 → Row) (k : Fin 1024) : EReal := ∑ b, u b * w (top b) k + ∑ b, v b * w (bot b) k

/-- The tail's output row. -/
def out (x y pw gr gb : Row) (k : Fin 1024) : EReal := x k + (gr k + gb k) * (y k * rs y * pw k)

/-! ## The gradients -/

/-- The gradient of the norm's weighted output. -/
def dn (g gr gb : Row) (k : Fin 1024) : EReal := (gr k + gb k) * g k
/-- The gradient of the projected row. -/
def gy (y g pw gr gb : Row) (k : Fin 1024) : EReal :=
  let t := Ideal.div ((∑ l, y l * (dn g gr gb l * pw l)) * (mhalf * Ideal.div (rs y) (ms y))) len
  dn g gr gb k * pw k * rs y + y k * t + t * y k
/-- What the projection's rows, half by half, send back. -/
def back (d : Row) (w : Fin 512 → Row) (b : Fin 512) : EReal := ∑ k, d k * w b k
/-- The gradient of a head's entries from that of its normalised ones. -/
def ghd (o q : Half) (w : Fin 128 → EReal) (b : Fin 512) : EReal :=
  let t := Ideal.div ((∑ l, o (hd (hof b) l) * (q (hd (hof b) l) * w l)) * (mhalf * Ideal.div (hrs o (hof b)) (hms o (hof b)))) hlen
  q b * w (lof b) * hrs o (hof b) + o b * t + t * o b

/-- The normalised entry in a form that names the head. -/
theorem hy_case (o : Half) (b : Fin 512) (j : Fin 4) (f : Fin 512) (g : Fin 128 → Fin 512)
    (hb : b.val / 128 = j.val) (hf : f.val = b.val) (hg : ∀ x, (g x).val = x.val + 128 * j.val) :
    o f * Ideal.rsqrt (Ideal.div (∑ x, o (g x) * o (g x)) hlen + tiny) = hy o b := by
  obtain rfl : f = b := Fin.ext hf
  obtain rfl : g = hd j := funext fun x => Fin.ext (hg x)
  obtain rfl : hof f = j := Fin.ext hb
  rfl

theorem hn_case (o : Half) (w : Fin 128 → EReal) (b : Fin 512) (j : Fin 4) (l : Fin 128) (f : Fin 512) (g : Fin 128 → Fin 512)
    (hb : b.val = l.val + 128 * j.val) (hf : f.val = b.val) (hg : ∀ x, (g x).val = x.val + 128 * j.val) :
    o f * Ideal.rsqrt (Ideal.div (∑ x, o (g x) * o (g x)) hlen + tiny) * w l = hn o w b := by
  obtain rfl : lof b = l := Fin.ext (by show b.val % 128 = l.val; omega)
  rw [hy_case o b j f g (by omega) hf hg]
  rfl

theorem gsilu_eq (z q : EReal) :
    q * sg z + (0 - (0 - z * q * Ideal.div 1 ((1 + Ideal.exp (-z)) * (1 + Ideal.exp (-z))) * 1) * Ideal.exp (-z)) = gsilu z q := by
  have key : Ideal.div 1 ((1 + Ideal.exp (-z)) * (1 + Ideal.exp (-z))) * Ideal.exp (-z) = sg z * (1 - sg z) := by
    unfold sg
    induction -z using EReal.rec with
    | bot =>
      rw [Math.exp_bot]
      have h1 : (1 : EReal) = ((1 : ℝ) : EReal) := rfl
      rw [h1, ← EReal.coe_add, ← EReal.coe_mul, Math.div_coe _ (by norm_num), Math.div_coe _ (by norm_num), ← EReal.coe_sub, ← EReal.coe_mul, ← EReal.coe_mul]
      norm_num
    | coe r =>
      rw [Math.exp_coe]
      have h1 : (1 : EReal) = ((1 : ℝ) : EReal) := rfl
      have hp := Real.exp_pos r
      have hne : (1 + Real.exp r) ≠ 0 := by positivity
      rw [h1, ← EReal.coe_add, ← EReal.coe_mul, Math.div_coe _ (mul_ne_zero hne hne), Math.div_coe _ hne, ← EReal.coe_sub, ← EReal.coe_mul, ← EReal.coe_mul]
      congr 1
      field_simp
      ring
    | top =>
      have ht : Ideal.exp ⊤ = ⊤ := rfl
      have h1 : (1 : EReal) + ⊤ = ⊤ := rfl
      rw [ht, h1, EReal.top_mul_top]
      have hd : Ideal.div 1 ⊤ = 0 := by rw [Ideal.div, if_neg (by simp), EReal.inv_top, mul_zero]
      rw [hd, zero_mul, zero_mul]
  unfold gsilu
  rw [zero_sub, zero_sub, mul_one, EReal.neg_mul, neg_neg, mul_assoc (z * q), key]

end Cert.Proof.Tail
-- ==== Proof.TailTile.lean ====
module

public import proofs.«01_k».proof.Proof.Gen.Kernel4Ideal.Value
public import proofs.«01_k».proof.Proof.Tail
public import Idealize.ShloMosaic.Lib.Pointwise

/-! What one grid point of the tail's backward kernel computes, row by row. -/

@[expose] public section

set_option maxRecDepth 8192
noncomputable section

namespace Cert.Proof.Tail.Tile

open Idealize Idealize.ShloMosaic Idealize.ShloMosaic.TcCoe
open Cert.Proof.Front (Row len tiny mhalf ms rs)
open Cert.Kernel4Ideal Cert.Kernel4Ideal.Gen

/-- A block of a branch, of the projection's rows, and the arrays that every grid point reads whole. -/
abbrev Wide := FVec Ideal S512x512 .f32
abbrev Big := FVec Ideal S512x1024 .f32
abbrev One := FVec Ideal S1x1024 .f32
abbrev Lane := FVec Ideal S1x128 .f32
abbrev Sq := FVec Ideal S1024x1024 .f32
/-- A row of a block. -/
abbrev wrow (o : Wide) (a : Fin 512) : Half := fun k => o (ix2 a k)

/-! ## The gates -/

theorem sg1_at (z : Wide) (a b : Fin 512) : k0_pay7 (F := Ideal) z (ix2 a b) = sg (z (ix2 a b)) := by
  pointwise [k0_pay7, k0_pay6, k0_pay5]
  rw [zero_sub]; rfl
theorem sg2_at (z : Wide) (a b : Fin 512) : k0_pay37 (F := Ideal) z (ix2 a b) = sg (z (ix2 a b)) := by
  pointwise [k0_pay37, k0_pay36, k0_pay35]
  rw [zero_sub]; rfl
theorem silu1_at (z : Wide) (a b : Fin 512) : k0_pay9 (F := Ideal) z (ix2 a b) = silu (z (ix2 a b)) := by
  pointwise [k0_pay9]
  rw [sg1_at]; rfl
theorem silu2_at (z : Wide) (a b : Fin 512) : k0_pay39 (F := Ideal) z (ix2 a b) = silu (z (ix2 a b)) := by
  pointwise [k0_pay39]
  rw [sg2_at]; rfl

/-! ## The heads -/

theorem head0 (o : Wide) (a : Fin 512) (l : Fin 128) : k0_pay11 (F := Ideal) o (ix2 a l) = wrow o a (hd 0 l) := by
  pointwise [k0_pay11]
  rfl
theorem head1 (o : Wide) (a : Fin 512) (l : Fin 128) : k0_pay17 (F := Ideal) o (ix2 a l) = wrow o a (hd 1 l) := by
  pointwise [k0_pay17]
  exact congrArg (wrow o a) (Fin.ext (Nat.add_comm _ _))
theorem head2 (o : Wide) (a : Fin 512) (l : Fin 128) : k0_pay23 (F := Ideal) o (ix2 a l) = wrow o a (hd 2 l) := by
  pointwise [k0_pay23]
  exact congrArg (wrow o a) (Fin.ext (Nat.add_comm _ _))
theorem head3 (o : Wide) (a : Fin 512) (l : Fin 128) : k0_pay29 (F := Ideal) o (ix2 a l) = wrow o a (hd 3 l) := by
  pointwise [k0_pay29]
  exact congrArg (wrow o a) (Fin.ext (Nat.add_comm _ _))

theorem ms0 (o : Wide) (a : Fin 512) : k0_pay12 (F := Ideal) o (ix2 a 0) = hms (wrow o a) 0 := by
  pointwise [k0_pay12]
  simp only [head0]; rfl
theorem ms1 (o : Wide) (a : Fin 512) : k0_pay18 (F := Ideal) o (ix2 a 0) = hms (wrow o a) 1 := by
  pointwise [k0_pay18]
  simp only [head1]; rfl
theorem ms2 (o : Wide) (a : Fin 512) : k0_pay24 (F := Ideal) o (ix2 a 0) = hms (wrow o a) 2 := by
  pointwise [k0_pay24]
  simp only [head2]; rfl
theorem ms3 (o : Wide) (a : Fin 512) : k0_pay30 (F := Ideal) o (ix2 a 0) = hms (wrow o a) 3 := by
  pointwise [k0_pay30]
  simp only [head3]; rfl

theorem rs0 (o : Wide) (a : Fin 512) : k0_pay13 (F := Ideal) o (ix2 a 0) = hrs (wrow o a) 0 := by
  pointwise [k0_pay13]
  rw [ms0]; rfl
theorem rs1 (o : Wide) (a : Fin 512) : k0_pay19 (F := Ideal) o (ix2 a 0) = hrs (wrow o a) 1 := by
  pointwise [k0_pay19]
  rw [ms1]; rfl
theorem rs2 (o : Wide) (a : Fin 512) : k0_pay25 (F := Ideal) o (ix2 a 0) = hrs (wrow o a) 2 := by
  pointwise [k0_pay25]
  rw [ms2]; rfl
theorem rs3 (o : Wide) (a : Fin 512) : k0_pay31 (F := Ideal) o (ix2 a 0) = hrs (wrow o a) 3 := by
  pointwise [k0_pay31]
  rw [ms3]; rfl

/-- The factor that the derivative of a head's scale takes. -/
def hq (o : Half) (j : Fin 4) : EReal := mhalf * Ideal.div (hrs o j) (hms o j)

theorem q0 (o : Wide) (a : Fin 512) : k0_pay14 (F := Ideal) o (ix2 a 0) = hq (wrow o a) 0 := by
  pointwise [k0_pay14]
  rw [ms0, rs0]; rfl
theorem q1 (o : Wide) (a : Fin 512) : k0_pay20 (F := Ideal) o (ix2 a 0) = hq (wrow o a) 1 := by
  pointwise [k0_pay20]
  rw [ms1, rs1]; rfl
theorem q2 (o : Wide) (a : Fin 512) : k0_pay26 (F := Ideal) o (ix2 a 0) = hq (wrow o a) 2 := by
  pointwise [k0_pay26]
  rw [ms2, rs2]; rfl
theorem q3 (o : Wide) (a : Fin 512) : k0_pay32 (F := Ideal) o (ix2 a 0) = hq (wrow o a) 3 := by
  pointwise [k0_pay32]
  rw [ms3, rs3]; rfl

theorem n0 (o : Wide) (a : Fin 512) (l : Fin 128) : k0_pay15 (F := Ideal) (k0_pay11 o) (k0_pay13 o) (ix2 a l) = wrow o a (hd 0 l) * hrs (wrow o a) 0 := by
  pointwise [k0_pay15]
  rw [head0, rs0]
theorem n1 (o : Wide) (a : Fin 512) (l : Fin 128) : k0_pay21 (F := Ideal) o (ix2 a l) = wrow o a (hd 1 l) * hrs (wrow o a) 1 := by
  pointwise [k0_pay21]
  rw [head1, rs1]
theorem n2 (o : Wide) (a : Fin 512) (l : Fin 128) : k0_pay27 (F := Ideal) o (ix2 a l) = wrow o a (hd 2 l) * hrs (wrow o a) 2 := by
  pointwise [k0_pay27]
  rw [head2, rs2]
theorem n3 (o : Wide) (a : Fin 512) (l : Fin 128) : k0_pay33 (F := Ideal) (k0_pay29 o) (k0_pay31 o) (ix2 a l) = wrow o a (hd 3 l) * hrs (wrow o a) 3 := by
  pointwise [k0_pay33]
  rw [head3, rs3]

/-- A lane of head `j`, by its place in the row. -/
theorem lane (b : Fin 512) (j : Fin 4) (l : Fin 128) (h : b.val = l.val + 128 * j.val) : hd j l = b := Fin.ext h.symm
theorem three : ((3 : Fin 4) : ℕ) = 3 := rfl
theorem hof_hd (j : Fin 4) (l : Fin 128) : hof (hd j l) = j := Fin.ext (by show (l.val + 128 * j.val) / 128 = j.val; omega)
theorem lof_hd (j : Fin 4) (l : Fin 128) : lof (hd j l) = l := Fin.ext (by show (l.val + 128 * j.val) % 128 = l.val; omega)
theorem hn_hd (o : Half) (w : Fin 128 → EReal) (j : Fin 4) (l : Fin 128) : o (hd j l) * hrs o j * w l = hn o w (hd j l) := by
  unfold hn hy
  rw [hof_hd, lof_hd]

/-- The normalised second branch. -/
def tHn (o : Wide) (w : Lane) : Wide :=
  k0_pay34 w (k0_pay16 w (k0_pay11 o) (k0_pay13 o)) (k0_pay22 o w) (k0_pay28 o w) (k0_pay29 o) (k0_pay31 o)

theorem hn_at (o : Wide) (w : Lane) (a b : Fin 512) : tHn o w (ix2 a b) = hn (wrow o a) (fun l => w (ix2 0 l)) b := by
  unfold tHn
  pointwise [k0_pay34, k0_pay16, k0_pay22, k0_pay28]
  simp only [n0, n1, n2, n3]
  split_ifs <;> exact (hn_hd (wrow o a) (fun l => w (ix2 0 l)) _ _).trans (congrArg _ (lane b _ _ (by first | omega | (simp only [Fin.val_zero, Fin.val_one, Fin.val_two, three]; omega))))

/-! ## The projection and its gradient -/

/-- The gated branches, -/
def tY1 (o z : Wide) : Wide := k0_pay10 o z
def tY2 (o z : Wide) (w : Lane) : Wide :=
  k0_pay40 z w (k0_pay16 w (k0_pay11 o) (k0_pay13 o)) (k0_pay22 o w) (k0_pay28 o w) (k0_pay29 o) (k0_pay31 o)
/-- the projected rows, -/
def tY (o1 z1 o2 z2 : Wide) (nw : Lane) (w : Sq) : Big :=
  k0_pay43 z2 nw w (tY1 o1 z1) (k0_pay16 nw (k0_pay11 o2) (k0_pay13 o2)) (k0_pay22 o2 nw) (k0_pay28 o2 nw) (k0_pay29 o2) (k0_pay31 o2)
/-- the factors of their norm and of its derivative, -/
def tR (o1 z1 o2 z2 : Wide) (nw : Lane) (w : Sq) : FVec Ideal S512x1 .f32 :=
  k0_pay45 z2 nw w (tY1 o1 z1) (k0_pay16 nw (k0_pay11 o2) (k0_pay13 o2)) (k0_pay22 o2 nw) (k0_pay28 o2 nw) (k0_pay29 o2) (k0_pay31 o2)
def tQ (o1 z1 o2 z2 : Wide) (nw : Lane) (w : Sq) : FVec Ideal S512x1 .f32 :=
  k0_pay46 z2 nw w (tY1 o1 z1) (k0_pay16 nw (k0_pay11 o2) (k0_pay13 o2)) (k0_pay22 o2 nw) (k0_pay28 o2 nw) (k0_pay29 o2) (k0_pay31 o2)
def tN (o1 z1 o2 z2 : Wide) (nw : Lane) (w : Sq) : Big :=
  k0_pay47 z2 nw w (tY1 o1 z1) (k0_pay16 nw (k0_pay11 o2) (k0_pay13 o2)) (k0_pay22 o2 nw) (k0_pay28 o2 nw) (k0_pay29 o2) (k0_pay31 o2)

/-- A row of the projection, from the branches' rows. -/
def yrow (o1 z1 o2 z2 : Wide) (nw : Lane) (w : Sq) (a : Fin 512) : Row :=
  prj (y1 (wrow o1 a) (wrow z1 a)) (y2 (wrow o2 a) (wrow z2 a) fun l => nw (ix2 0 l)) fun r k => w (ix2 r k)

theorem y1_at (o z : Wide) (a b : Fin 512) : tY1 o z (ix2 a b) = y1 (wrow o a) (wrow z a) b := by
  unfold tY1
  pointwise [k0_pay10]
  rw [silu1_at]; rfl
theorem y2_at (o z : Wide) (w : Lane) (a b : Fin 512) : tY2 o z w (ix2 a b) = y2 (wrow o a) (wrow z a) (fun l => w (ix2 0 l)) b := by
  unfold tY2
  pointwise [k0_pay40]
  rw [silu2_at]
  exact congrArg (· * silu (z (ix2 a b))) (hn_at o w a b)
theorem top_at (w : Sq) (b : Fin 512) (k : Fin 1024) : k0_pay41 (F := Ideal) w (ix2 b k) = w (ix2 (top b) k) := by
  pointwise [k0_pay41]
  rfl
theorem bot_at (w : Sq) (b : Fin 512) (k : Fin 1024) : k0_pay42 (F := Ideal) w (ix2 b k) = w (ix2 (bot b) k) := by
  pointwise [k0_pay42]
  exact congrArg (fun r => w (ix2 r k)) (Fin.ext (Nat.add_comm _ _))

variable (o1 z1 o2 z2 : Wide) (nw : Lane) (w : Sq) (pw gr gb : One) (g : Big)

theorem y_at (a : Fin 512) (k : Fin 1024) : tY o1 z1 o2 z2 nw w (ix2 a k) = yrow o1 z1 o2 z2 nw w a k := by
  unfold tY
  pointwise [k0_pay43]
  simp only [y1_at, top_at, bot_at]
  exact congrArg (_ + ·) (Finset.sum_congr rfl fun b _ => congrArg (· * w (ix2 (bot b) k)) (y2_at o2 z2 nw a b))
theorem ms_at (a : Fin 512) : k0_pay44 (F := Ideal) z2 nw w (tY1 o1 z1) (k0_pay16 nw (k0_pay11 o2) (k0_pay13 o2)) (k0_pay22 o2 nw) (k0_pay28 o2 nw) (k0_pay29 o2) (k0_pay31 o2) (ix2 a 0)
    = ms (yrow o1 z1 o2 z2 nw w a) := by
  pointwise [k0_pay44]
  exact congrArg (fun s => Ideal.div s len + tiny) (Finset.sum_congr rfl fun k _ => congrArg₂ (· * ·) (y_at o1 z1 o2 z2 nw w a k) (y_at o1 z1 o2 z2 nw w a k))
theorem r_at (a : Fin 512) : tR o1 z1 o2 z2 nw w (ix2 a 0) = rs (yrow o1 z1 o2 z2 nw w a) := by
  unfold tR
  pointwise [k0_pay45]
  rw [ms_at]; rfl
theorem q_at (a : Fin 512) : tQ o1 z1 o2 z2 nw w (ix2 a 0) = mhalf * Ideal.div (rs (yrow o1 z1 o2 z2 nw w a)) (ms (yrow o1 z1 o2 z2 nw w a)) := by
  unfold tQ
  pointwise [k0_pay46]
  rw [ms_at]
  exact congrArg (fun r => mhalf * Ideal.div r _) (r_at o1 z1 o2 z2 nw w a)
theorem n_at (a : Fin 512) (k : Fin 1024) : tN o1 z1 o2 z2 nw w (ix2 a k) = yrow o1 z1 o2 z2 nw w a k * rs (yrow o1 z1 o2 z2 nw w a) := by
  unfold tN
  pointwise [k0_pay47]
  exact congrArg₂ (· * ·) (y_at o1 z1 o2 z2 nw w a k) (r_at o1 z1 o2 z2 nw w a)

/-- The gradient of the norm's weighted output. -/
def tD : Big := k0_pay49 gr gb g
theorem d_at (a : Fin 512) (k : Fin 1024) : tD gr gb g (ix2 a k)
    = dn (fun k => g (ix2 a k)) (fun k => gr (ix2 0 k)) (fun k => gb (ix2 0 k)) k := by
  unfold tD
  pointwise [k0_pay49, k0_pay48]
  rfl
/-- A row of the gradient of the projected rows. -/
def gyrow (a : Fin 512) : Row :=
  gy (yrow o1 z1 o2 z2 nw w a) (fun k => g (ix2 a k)) (fun k => pw (ix2 0 k)) (fun k => gr (ix2 0 k)) (fun k => gb (ix2 0 k))
theorem gy_at (a : Fin 512) (k : Fin 1024) :
    k0_pay53 (F := Ideal) pw (tY o1 z1 o2 z2 nw w) (tR o1 z1 o2 z2 nw w) (tQ o1 z1 o2 z2 nw w) (tD gr gb g) (ix2 a k)
      = gyrow o1 z1 o2 z2 nw w pw gr gb g a k := by
  pointwise [k0_pay53]
  simp only [Fin.sum_univ_one, y_at, r_at, q_at, d_at]
  rfl

/-- What the gradient of the projected rows sends back to the first branch, -/
def tU : Wide := k0_pay55 pw (k0_pay41 w) (tY o1 z1 o2 z2 nw w) (tR o1 z1 o2 z2 nw w) (tQ o1 z1 o2 z2 nw w) (tD gr gb g)
/-- and to the second. -/
def tV : Wide := k0_pay54 pw (k0_pay42 w) (tY o1 z1 o2 z2 nw w) (tR o1 z1 o2 z2 nw w) (tQ o1 z1 o2 z2 nw w) (tD gr gb g)

theorem u_at (a b : Fin 512) : tU o1 z1 o2 z2 nw w pw gr gb g (ix2 a b)
    = back (gyrow o1 z1 o2 z2 nw w pw gr gb g a) (fun b k => w (ix2 (top b) k)) b := by
  unfold tU
  pointwise [k0_pay55]
  simp only [gy_at, top_at]
  rfl
theorem v_at (a b : Fin 512) : tV o1 z1 o2 z2 nw w pw gr gb g (ix2 a b)
    = back (gyrow o1 z1 o2 z2 nw w pw gr gb g a) (fun b k => w (ix2 (bot b) k)) b := by
  unfold tV
  pointwise [k0_pay54]
  simp only [gy_at, bot_at]
  rfl

/-! ## The branches' gradients -/

theorem o1_at (a b : Fin 512) : k0_pay79 (F := Ideal) (k0_pay9 z1) (tU o1 z1 o2 z2 nw w pw gr gb g) (ix2 a b)
    = back (gyrow o1 z1 o2 z2 nw w pw gr gb g a) (fun b k => w (ix2 (top b) k)) b * silu (z1 (ix2 a b)) := by
  pointwise [k0_pay79]
  rw [u_at, silu1_at]
theorem z1_at (a b : Fin 512) : k0_pay80 (F := Ideal) o1 z1 (k0_pay5 z1) (k0_pay7 z1) (k0_pay8 z1) (tU o1 z1 o2 z2 nw w pw gr gb g) (ix2 a b)
    = gsilu (z1 (ix2 a b)) (o1 (ix2 a b) * back (gyrow o1 z1 o2 z2 nw w pw gr gb g a) (fun b k => w (ix2 (top b) k)) b) := by
  pointwise [k0_pay80, k0_pay8, k0_pay6, k0_pay5]
  rw [u_at, sg1_at, ← gsilu_eq]
  simp only [zero_sub, mul_one]
/-- The gradient of the second branch's gate. -/
def tZ : Wide :=
  k0_pay61 (k0_pay35 z2)
    (k0_pay59 pw (tHn o2 nw) (k0_pay37 z2) (k0_pay42 w) (tY o1 z1 o2 z2 nw w) (tR o1 z1 o2 z2 nw w) (tQ o1 z1 o2 z2 nw w) (tD gr gb g))
    (k0_pay60 z2 pw (tHn o2 nw) (k0_pay38 z2) (k0_pay42 w) (tY o1 z1 o2 z2 nw w) (tR o1 z1 o2 z2 nw w) (tQ o1 z1 o2 z2 nw w) (tD gr gb g))
theorem z2_at (a b : Fin 512) : tZ o1 z1 o2 z2 nw w pw gr gb g (ix2 a b)
    = gsilu (z2 (ix2 a b)) (hn (wrow o2 a) (fun l => nw (ix2 0 l)) b * back (gyrow o1 z1 o2 z2 nw w pw gr gb g a) (fun b k => w (ix2 (bot b) k)) b) := by
  unfold tZ
  have h57 : k0_pay57 (F := Ideal) pw (tHn o2 nw) (k0_pay42 w) (tY o1 z1 o2 z2 nw w) (tR o1 z1 o2 z2 nw w) (tQ o1 z1 o2 z2 nw w) (tD gr gb g) (ix2 a b)
      = hn (wrow o2 a) (fun l => nw (ix2 0 l)) b * back (gyrow o1 z1 o2 z2 nw w pw gr gb g a) (fun b k => w (ix2 (bot b) k)) b := by
    pointwise [k0_pay57]
    rw [hn_at]
    exact congrArg (_ * ·) (v_at o1 z1 o2 z2 nw w pw gr gb g a b)
  pointwise [k0_pay61, k0_pay59, k0_pay60, k0_pay38, k0_pay36, k0_pay35]
  rw [h57, sg2_at, ← gsilu_eq]
  simp only [zero_sub, mul_one]
/-- What reaches the second branch's normalised rows. -/
def tH : Wide := k0_pay58 pw (k0_pay39 z2) (k0_pay42 w) (tY o1 z1 o2 z2 nw w) (tR o1 z1 o2 z2 nw w) (tQ o1 z1 o2 z2 nw w) (tD gr gb g)
theorem h_at (a b : Fin 512) : tH o1 z1 o2 z2 nw w pw gr gb g (ix2 a b)
    = back (gyrow o1 z1 o2 z2 nw w pw gr gb g a) (fun b k => w (ix2 (bot b) k)) b * silu (z2 (ix2 a b)) := by
  unfold tH
  pointwise [k0_pay58]
  rw [silu2_at]
  exact congrArg (· * silu (z2 (ix2 a b))) (v_at o1 z1 o2 z2 nw w pw gr gb g a b)

/-! ## The gradient of the heads -/

theorem dh0 (q : Wide) (a : Fin 512) (l : Fin 128) : k0_pay62 (F := Ideal) q (ix2 a l) = wrow q a (hd 0 l) := by
  pointwise [k0_pay62]
  rfl
theorem dh1 (q : Wide) (a : Fin 512) (l : Fin 128) : k0_pay63 (F := Ideal) q (ix2 a l) = wrow q a (hd 1 l) := by
  pointwise [k0_pay63]
  exact congrArg (wrow q a) (Fin.ext (Nat.add_comm _ _))
theorem dh2 (q : Wide) (a : Fin 512) (l : Fin 128) : k0_pay64 (F := Ideal) q (ix2 a l) = wrow q a (hd 2 l) := by
  pointwise [k0_pay64]
  exact congrArg (wrow q a) (Fin.ext (Nat.add_comm _ _))
theorem dh3 (q : Wide) (a : Fin 512) (l : Fin 128) : k0_pay65 (F := Ideal) q (ix2 a l) = wrow q a (hd 3 l) := by
  pointwise [k0_pay65]
  exact congrArg (wrow q a) (Fin.ext (Nat.add_comm _ _))

/-- One head's term: what its mean square receives. -/
def hT (o q : Half) (w : Fin 128 → EReal) (j : Fin 4) : EReal :=
  Ideal.div ((∑ l, o (hd j l) * (q (hd j l) * w l)) * hq o j) hlen
theorem ghd_hd (o q : Half) (w : Fin 128 → EReal) (j : Fin 4) (l : Fin 128) :
    q (hd j l) * w l * hrs o j + o (hd j l) * hT o q w j + hT o q w j * o (hd j l) = ghd o q w (hd j l) := by
  unfold ghd hT hq
  rw [hof_hd, lof_hd]

/-- The second branch's gradient, head by head. -/
def tG (o q : Wide) (w : Lane) : Wide :=
  k0_pay78 (k0_pay11 o)
    (k0_pay72 w (k0_pay17 o) (k0_pay19 o) (k0_pay20 o) (k0_pay63 q) (k0_pay66 w (k0_pay29 o) (k0_pay31 o) (k0_pay32 o) q)
      (k0_pay70 w (k0_pay23 o) (k0_pay25 o) (k0_pay26 o) q) (k0_pay71 w (k0_pay23 o) (k0_pay26 o) q))
    (k0_pay75 w (k0_pay13 o) (k0_pay62 q)) (k0_pay76 w (k0_pay11 o) (k0_pay14 o) (k0_pay62 q)) (k0_pay77 w (k0_pay11 o) (k0_pay14 o) (k0_pay62 q))

theorem g_at (o q : Wide) (w : Lane) (a b : Fin 512) : tG o q w (ix2 a b) = ghd (wrow o a) (wrow q a) (fun l => w (ix2 0 l)) b := by
  unfold tG
  pointwise [k0_pay78, k0_pay72, k0_pay66, k0_pay70, k0_pay71, k0_pay69, k0_pay68, k0_pay75, k0_pay76, k0_pay77, k0_pay74]
  simp only [Fin.sum_univ_one, head0, head1, head2, head3, rs0, rs1, rs2, rs3, q0, q1, q2, q3, dh0, dh1, dh2, dh3]
  obtain h | h | h | h : b.val < 128 ∨ (128 ≤ b.val ∧ b.val < 256) ∨ (256 ≤ b.val ∧ b.val < 384) ∨ 384 ≤ b.val := by omega
  · simp only [show b.val < 128 by omega, show b.val < 256 by omega, show b.val < 384 by omega, ↓reduceDIte, zero_add, add_zero]
    exact (ghd_hd (wrow o a) (wrow q a) (fun l => w (ix2 0 l)) 0 _).trans (congrArg _ (lane b _ _ rfl))
  · simp only [show ¬ b.val < 128 by omega, show b.val < 256 by omega, show b.val < 384 by omega, ↓reduceDIte, zero_add, add_zero]
    exact (ghd_hd (wrow o a) (wrow q a) (fun l => w (ix2 0 l)) 1 _).trans (congrArg _ (lane b 1 _ (by show b.val = b.val - 128 + 128 * 1; omega)))
  · simp only [show ¬ b.val < 128 by omega, show ¬ b.val < 256 by omega, show b.val < 384 by omega, ↓reduceDIte, zero_add, add_zero]
    exact (ghd_hd (wrow o a) (wrow q a) (fun l => w (ix2 0 l)) 2 _).trans (congrArg _ (lane b 2 _ (by show b.val = b.val - 256 + 128 * 2; omega)))
  · simp only [show ¬ b.val < 128 by omega, show ¬ b.val < 256 by omega, show ¬ b.val < 384 by omega, ↓reduceDIte, zero_add, add_zero]
    exact (ghd_hd (wrow o a) (wrow q a) (fun l => w (ix2 0 l)) 3 _).trans (congrArg _ (lane b 3 _ (by show b.val = b.val - 384 + 128 * 3; omega)))

/-! ## What one grid point adds to the sums over the rows -/

/-- To the gradient of the heads' weight, -/
def tGw (o q : Wide) : Lane :=
  k0_pay73 (k0_pay15 (k0_pay11 o) (k0_pay13 o)) (k0_pay21 o) (k0_pay62 q) (k0_pay63 q) (k0_pay67 (k0_pay27 o) (k0_pay33 (k0_pay29 o) (k0_pay31 o)) q)
theorem gw_at (o q : Wide) (l : Fin 128) : tGw o q (ix2 0 l) = ∑ a, ∑ j, wrow o a (hd j l) * hrs (wrow o a) j * wrow q a (hd j l) := by
  unfold tGw
  pointwise [k0_pay73, k0_pay67]
  simp only [n0, n1, n2, n3, dh0, dh1, dh2, dh3, Fin.sum_univ_four, Finset.sum_add_distrib]
  generalize ∑ a, wrow o a (hd 0 l) * hrs (wrow o a) 0 * wrow q a (hd 0 l) = s0
  generalize ∑ a, wrow o a (hd 1 l) * hrs (wrow o a) 1 * wrow q a (hd 1 l) = s1
  generalize ∑ a, wrow o a (hd 2 l) * hrs (wrow o a) 2 * wrow q a (hd 2 l) = s2
  generalize ∑ a, wrow o a (hd 3 l) * hrs (wrow o a) 3 * wrow q a (hd 3 l) = s3
  ac_rfl
/-- to the gradient of the projection, -/
def tW : Sq := k0_pay56 pw (tY1 o1 z1) (tY2 o2 z2 nw) (tY o1 z1 o2 z2 nw w) (tR o1 z1 o2 z2 nw w) (tQ o1 z1 o2 z2 nw w) (tD gr gb g)
theorem w_top (b : Fin 512) (k : Fin 1024) : tW o1 z1 o2 z2 nw w pw gr gb g (ix2 (top b) k)
    = ∑ a, y1 (wrow o1 a) (wrow z1 a) b * gyrow o1 z1 o2 z2 nw w pw gr gb g a k := by
  unfold tW top
  pointwise [k0_pay56]
  simp only [gy_at, y1_at, y2_at]
theorem w_bot (b : Fin 512) (k : Fin 1024) : tW o1 z1 o2 z2 nw w pw gr gb g (ix2 (bot b) k)
    = ∑ a, y2 (wrow o2 a) (wrow z2 a) (fun l => nw (ix2 0 l)) b * gyrow o1 z1 o2 z2 nw w pw gr gb g a k := by
  unfold tW bot
  pointwise [k0_pay56]
  simp only [gy_at, y1_at, y2_at]
  simp
/-- to the gradient of the norm's weight -/
theorem pw_at (k : Fin 1024) : k0_pay52 (F := Ideal) (tN o1 z1 o2 z2 nw w) (tD gr gb g) (ix2 0 k)
    = ∑ a, yrow o1 z1 o2 z2 nw w a k * rs (yrow o1 z1 o2 z2 nw w a) * dn (fun k => g (ix2 a k)) (fun k => gr (ix2 0 k)) (fun k => gb (ix2 0 k)) k := by
  pointwise [k0_pay52]
  simp only [n_at, d_at]
/-- and to that of the gate. -/
def tGt : Big := k0_pay50 z2 nw w pw (tY1 o1 z1) (k0_pay16 nw (k0_pay11 o2) (k0_pay13 o2)) (k0_pay22 o2 nw) (k0_pay28 o2 nw) (k0_pay29 o2) (k0_pay31 o2) g
theorem gt_at (k : Fin 1024) : k0_pay51 (F := Ideal) (tGt o1 z1 o2 z2 nw w pw g) (ix2 0 k)
    = ∑ a, g (ix2 a k) * (yrow o1 z1 o2 z2 nw w a k * rs (yrow o1 z1 o2 z2 nw w a) * pw (ix2 0 k)) := by
  pointwise [k0_pay51]
  refine Finset.sum_congr rfl fun a _ => ?_
  unfold tGt
  pointwise [k0_pay50, k0_pay48]
  exact congrArg (fun r => g (ix2 a k) * (r * pw (ix2 0 k))) (n_at o1 z1 o2 z2 nw w a k)

/-! ## The sums as they are kept -/

theorem add16 (t s : Lane) (l : Fin 128) : k0_pay86 (F := Ideal) t s (ix2 0 l) = s (ix2 0 l) + t (ix2 0 l) := by pointwise [k0_pay86]
theorem add17 (t s : Sq) (r k : Fin 1024) : k0_pay1 (F := Ideal) t s (ix2 r k) = s (ix2 r k) + t (ix2 r k) := by pointwise [k0_pay1]
theorem add18 (t s : One) (k : Fin 1024) : k0_pay2 (F := Ideal) t s (ix2 0 k) = s (ix2 0 k) + t (ix2 0 k) := by pointwise [k0_pay2]
theorem add19 (t s : One) (k : Fin 1024) : k0_pay3 (F := Ideal) t s (ix2 0 k) = s (ix2 0 k) + t (ix2 0 k) := by pointwise [k0_pay3]
theorem add20 (t s : One) (k : Fin 1024) : k0_pay4 (F := Ideal) t s (ix2 0 k) = s (ix2 0 k) + t (ix2 0 k) := by pointwise [k0_pay4]
theorem zero16 (l : Fin 128) : k0_pay81 (F := Ideal) (ix2 0 l) = 0 := by pointwise [k0_pay81]
theorem zero17 (r k : Fin 1024) : k0_pay82 (F := Ideal) (ix2 r k) = 0 := by pointwise [k0_pay82]
theorem zero18 (k : Fin 1024) : k0_pay83 (F := Ideal) (ix2 0 k) = 0 := by pointwise [k0_pay83]
theorem zero19 (k : Fin 1024) : k0_pay84 (F := Ideal) (ix2 0 k) = 0 := by pointwise [k0_pay84]
theorem zero20 (k : Fin 1024) : k0_pay85 (F := Ideal) (ix2 0 k) = 0 := by pointwise [k0_pay85]

end Cert.Proof.Tail.Tile
-- ==== Proof.TailPoint.lean ====
module

public import proofs.«01_k».proof.Proof.TailTile
public import Idealize.ShloMosaic.Lib.VecWindow

/-! What a grid point of the tail's backward kernel leaves in its outputs' buffers. -/

@[expose] public section

set_option maxRecDepth 8192
noncomputable section

namespace Cert.Proof.Tail.Point

open Idealize Idealize.ShloMosaic Idealize.ShloMosaic.TcCoe
open Cert.Kernel4Ideal Cert.Kernel4Ideal.Gen
open Cert.Proof.Tail.Tile

/-- A load of all of a buffer that holds `x`. -/
def lod {s : Shape} (M : Memref sig .tc .vmem s .f32) (h : M.IsWhole) (x : Vec Ideal s .f32) (off : Fin s.rank → ℕ)
    (inb : ∀ a, off a + s.size a ≤ s.size a) : FVec Ideal s .f32 :=
  View.readAt (Elt Ideal) M.view (Rect.unit off s.size inb).toLoadRect (h.unread x)
theorem lod_eq {s : Shape} (M : Memref sig .tc .vmem s .f32) (h : M.IsWhole) (x : Vec Ideal s .f32) (off : Fin s.rank → ℕ)
    (inb : ∀ a, off a + s.size a ≤ s.size a) : lod M h x off inb = x :=
  (View.readAt_full _ _ _).trans (h.read_unread x)

variable (m : (ℓ : Loc nD τ sig) → Buf (Elt Ideal) ℓ) (c : Dev nD) (t : Fin cfg0.N)

/-! The blocks that the point loads. -/

def l1 : Wide := lod (ms0_1 t) (hs0_1 t) (iblk m c 1 t) ![0, 0] inb_S512x512_S512x512_0_0
def l2 : Wide := lod (ms0_2 t) (hs0_2 t) (iblk m c 2 t) ![0, 0] inb_S512x512_S512x512_0_0
def l3 : Wide := lod (ms0_3 t) (hs0_3 t) (iblk m c 3 t) ![0, 0] inb_S512x512_S512x512_0_0
def l4 : Wide := lod (ms0_4 t) (hs0_4 t) (iblk m c 4 t) ![0, 0] inb_S512x512_S512x512_0_0
def l5 : Lane := lod (ms0_5 t) (hs0_5 t) (iblk m c 5 t) ![0, 0] inb_S1x128_S1x128_0_0
def l6 : Sq := lod (ms0_6 t) (hs0_6 t) (iblk m c 6 t) ![0, 0] inb_S1024x1024_S1024x1024_0_0
def l7 : One := lod (ms0_7 t) (hs0_7 t) (iblk m c 7 t) ![0, 0] inb_S1x1024_S1x1024_0_0
def l8 : One := lod (ms0_8 t) (hs0_8 t) (iblk m c 8 t) ![0, 0] inb_S1x1024_S1x1024_0_0
def l9 : One := lod (ms0_9 t) (hs0_9 t) (iblk m c 9 t) ![0, 0] inb_S1x1024_S1x1024_0_0
def l10 : Big := lod (ms0_10 t) (hs0_10 t) (iblk m c 10 t) ![0, 0] inb_S512x1024_S512x1024_0_0

theorem l1_eq : l1 m c t = iblk m c 1 t := lod_eq _ _ _ _ _
theorem l2_eq : l2 m c t = iblk m c 2 t := lod_eq _ _ _ _ _
theorem l3_eq : l3 m c t = iblk m c 3 t := lod_eq _ _ _ _ _
theorem l4_eq : l4 m c t = iblk m c 4 t := lod_eq _ _ _ _ _
theorem l5_eq : l5 m c t = iblk m c 5 t := lod_eq _ _ _ _ _
theorem l6_eq : l6 m c t = iblk m c 6 t := lod_eq _ _ _ _ _
theorem l7_eq : l7 m c t = iblk m c 7 t := lod_eq _ _ _ _ _
theorem l8_eq : l8 m c t = iblk m c 8 t := lod_eq _ _ _ _ _
theorem l9_eq : l9 m c t = iblk m c 9 t := lod_eq _ _ _ _ _
theorem l10_eq : l10 m c t = iblk m c 10 t := lod_eq _ _ _ _ _

/-! ## The blocks that every point writes for itself -/

theorem at11 : (outsAt0 m c t.val t.isLt).1 = (iblk m c 10 t) := by
  by_cases h0 : t.val % 16 = 0
  · rw [outsAt0_A m c t h0]
    dsimp only
    unfold out0_A_11 kernelRun0_A
    dsimp only
    refine (View.read_writes_full _ _ _ _ _).trans ?_
    refine Eq.trans (b := (l10 m c t)) rfl ?_
    simp only [l1_eq, l2_eq, l3_eq, l4_eq, l5_eq, l6_eq, l7_eq, l8_eq, l9_eq, l10_eq]
  · rw [outsAt0_B m c t h0]
    dsimp only
    unfold out0_B_11 kernelRun0_B
    dsimp only
    refine (View.read_writes_full _ _ _ _ _).trans ?_
    refine Eq.trans (b := (l10 m c t)) rfl ?_
    simp only [l1_eq, l2_eq, l3_eq, l4_eq, l5_eq, l6_eq, l7_eq, l8_eq, l9_eq, l10_eq]
theorem at12 : (outsAt0 m c t.val t.isLt).2.1 = k0_pay79 (F := Ideal) (k0_pay9 (F := Ideal) (iblk m c 2 t)) (tU (iblk m c 1 t) (iblk m c 2 t) (iblk m c 3 t) (iblk m c 4 t) (iblk m c 5 t) (iblk m c 6 t) (iblk m c 7 t) (iblk m c 8 t) (iblk m c 9 t) (iblk m c 10 t)) := by
  by_cases h0 : t.val % 16 = 0
  · rw [outsAt0_A m c t h0]
    dsimp only
    unfold out0_A_12 kernelRun0_A
    dsimp only
    refine (View.read_writes_full _ _ _ _ _).trans ?_
    refine Eq.trans (b := k0_pay79 (F := Ideal) (k0_pay9 (F := Ideal) (l2 m c t)) (tU (l1 m c t) (l2 m c t) (l3 m c t) (l4 m c t) (l5 m c t) (l6 m c t) (l7 m c t) (l8 m c t) (l9 m c t) (l10 m c t))) rfl ?_
    simp only [l1_eq, l2_eq, l3_eq, l4_eq, l5_eq, l6_eq, l7_eq, l8_eq, l9_eq, l10_eq]
  · rw [outsAt0_B m c t h0]
    dsimp only
    unfold out0_B_12 kernelRun0_B
    dsimp only
    refine (View.read_writes_full _ _ _ _ _).trans ?_
    refine Eq.trans (b := k0_pay79 (F := Ideal) (k0_pay9 (F := Ideal) (l2 m c t)) (tU (l1 m c t) (l2 m c t) (l3 m c t) (l4 m c t) (l5 m c t) (l6 m c t) (l7 m c t) (l8 m c t) (l9 m c t) (l10 m c t))) rfl ?_
    simp only [l1_eq, l2_eq, l3_eq, l4_eq, l5_eq, l6_eq, l7_eq, l8_eq, l9_eq, l10_eq]
theorem at13 : (outsAt0 m c t.val t.isLt).2.2.1 = k0_pay80 (F := Ideal) (iblk m c 1 t) (iblk m c 2 t) (k0_pay5 (F := Ideal) (iblk m c 2 t)) (k0_pay7 (F := Ideal) (iblk m c 2 t)) (k0_pay8 (F := Ideal) (iblk m c 2 t)) (tU (iblk m c 1 t) (iblk m c 2 t) (iblk m c 3 t) (iblk m c 4 t) (iblk m c 5 t) (iblk m c 6 t) (iblk m c 7 t) (iblk m c 8 t) (iblk m c 9 t) (iblk m c 10 t)) := by
  by_cases h0 : t.val % 16 = 0
  · rw [outsAt0_A m c t h0]
    dsimp only
    unfold out0_A_13 kernelRun0_A
    dsimp only
    refine (View.read_writes_full _ _ _ _ _).trans ?_
    refine Eq.trans (b := k0_pay80 (F := Ideal) (l1 m c t) (l2 m c t) (k0_pay5 (F := Ideal) (l2 m c t)) (k0_pay7 (F := Ideal) (l2 m c t)) (k0_pay8 (F := Ideal) (l2 m c t)) (tU (l1 m c t) (l2 m c t) (l3 m c t) (l4 m c t) (l5 m c t) (l6 m c t) (l7 m c t) (l8 m c t) (l9 m c t) (l10 m c t))) rfl ?_
    simp only [l1_eq, l2_eq, l3_eq, l4_eq, l5_eq, l6_eq, l7_eq, l8_eq, l9_eq, l10_eq]
  · rw [outsAt0_B m c t h0]
    dsimp only
    unfold out0_B_13 kernelRun0_B
    dsimp only
    refine (View.read_writes_full _ _ _ _ _).trans ?_
    refine Eq.trans (b := k0_pay80 (F := Ideal) (l1 m c t) (l2 m c t) (k0_pay5 (F := Ideal) (l2 m c t)) (k0_pay7 (F := Ideal) (l2 m c t)) (k0_pay8 (F := Ideal) (l2 m c t)) (tU (l1 m c t) (l2 m c t) (l3 m c t) (l4 m c t) (l5 m c t) (l6 m c t) (l7 m c t) (l8 m c t) (l9 m c t) (l10 m c t))) rfl ?_
    simp only [l1_eq, l2_eq, l3_eq, l4_eq, l5_eq, l6_eq, l7_eq, l8_eq, l9_eq, l10_eq]
theorem at14 : (outsAt0 m c t.val t.isLt).2.2.2.1 = tG (iblk m c 3 t) (tH (iblk m c 1 t) (iblk m c 2 t) (iblk m c 3 t) (iblk m c 4 t) (iblk m c 5 t) (iblk m c 6 t) (iblk m c 7 t) (iblk m c 8 t) (iblk m c 9 t) (iblk m c 10 t)) (iblk m c 5 t) := by
  by_cases h0 : t.val % 16 = 0
  · rw [outsAt0_A m c t h0]
    dsimp only
    unfold out0_A_14 kernelRun0_A
    dsimp only
    refine (View.read_writes_full _ _ _ _ _).trans ?_
    refine Eq.trans (b := tG (l3 m c t) (tH (l1 m c t) (l2 m c t) (l3 m c t) (l4 m c t) (l5 m c t) (l6 m c t) (l7 m c t) (l8 m c t) (l9 m c t) (l10 m c t)) (l5 m c t)) rfl ?_
    simp only [l1_eq, l2_eq, l3_eq, l4_eq, l5_eq, l6_eq, l7_eq, l8_eq, l9_eq, l10_eq]
  · rw [outsAt0_B m c t h0]
    dsimp only
    unfold out0_B_14 kernelRun0_B
    dsimp only
    refine (View.read_writes_full _ _ _ _ _).trans ?_
    refine Eq.trans (b := tG (l3 m c t) (tH (l1 m c t) (l2 m c t) (l3 m c t) (l4 m c t) (l5 m c t) (l6 m c t) (l7 m c t) (l8 m c t) (l9 m c t) (l10 m c t)) (l5 m c t)) rfl ?_
    simp only [l1_eq, l2_eq, l3_eq, l4_eq, l5_eq, l6_eq, l7_eq, l8_eq, l9_eq, l10_eq]
theorem at15 : (outsAt0 m c t.val t.isLt).2.2.2.2.1 = tZ (iblk m c 1 t) (iblk m c 2 t) (iblk m c 3 t) (iblk m c 4 t) (iblk m c 5 t) (iblk m c 6 t) (iblk m c 7 t) (iblk m c 8 t) (iblk m c 9 t) (iblk m c 10 t) := by
  by_cases h0 : t.val % 16 = 0
  · rw [outsAt0_A m c t h0]
    dsimp only
    unfold out0_A_15 kernelRun0_A
    dsimp only
    refine (View.read_writes_full _ _ _ _ _).trans ?_
    refine Eq.trans (b := tZ (l1 m c t) (l2 m c t) (l3 m c t) (l4 m c t) (l5 m c t) (l6 m c t) (l7 m c t) (l8 m c t) (l9 m c t) (l10 m c t)) rfl ?_
    simp only [l1_eq, l2_eq, l3_eq, l4_eq, l5_eq, l6_eq, l7_eq, l8_eq, l9_eq, l10_eq]
  · rw [outsAt0_B m c t h0]
    dsimp only
    unfold out0_B_15 kernelRun0_B
    dsimp only
    refine (View.read_writes_full _ _ _ _ _).trans ?_
    refine Eq.trans (b := tZ (l1 m c t) (l2 m c t) (l3 m c t) (l4 m c t) (l5 m c t) (l6 m c t) (l7 m c t) (l8 m c t) (l9 m c t) (l10 m c t)) rfl ?_
    simp only [l1_eq, l2_eq, l3_eq, l4_eq, l5_eq, l6_eq, l7_eq, l8_eq, l9_eq, l10_eq]

/-! ## The sums over the points: begun at the first, added to at the others -/

theorem first16 (h0 : t.val % 16 = 0) : (outsAt0 m c t.val t.isLt).2.2.2.2.2.1 = k0_pay86 (F := Ideal) (tGw (iblk m c 3 t) (tH (iblk m c 1 t) (iblk m c 2 t) (iblk m c 3 t) (iblk m c 4 t) (iblk m c 5 t) (iblk m c 6 t) (iblk m c 7 t) (iblk m c 8 t) (iblk m c 9 t) (iblk m c 10 t))) (k0_pay81 (F := Ideal)) := by
  rw [outsAt0_A m c t h0]
  dsimp only
  unfold out0_A_16 kernelRun0_A
  dsimp only
  refine (View.read_writes_full _ _ _ _ _).trans ?_
  unfold kernelRun0_A.sl.v303 kernelRun0_A.sl.H16_1
  rw [View.readCov_full]
  refine Eq.trans (b := k0_pay86 (F := Ideal) (tGw (l3 m c t) (tH (l1 m c t) (l2 m c t) (l3 m c t) (l4 m c t) (l5 m c t) (l6 m c t) (l7 m c t) (l8 m c t) (l9 m c t) (l10 m c t))) (k0_pay81 (F := Ideal))) rfl ?_
  simp only [l1_eq, l2_eq, l3_eq, l4_eq, l5_eq, l6_eq, l7_eq, l8_eq, l9_eq, l10_eq]
theorem later16 (h0 : ¬ t.val % 16 = 0) : (outsAt0 m c t.val t.isLt).2.2.2.2.2.1
    = k0_pay86 (F := Ideal) (tGw (iblk m c 3 t) (tH (iblk m c 1 t) (iblk m c 2 t) (iblk m c 3 t) (iblk m c 4 t) (iblk m c 5 t) (iblk m c 6 t) (iblk m c 7 t) (iblk m c 8 t) (iblk m c 9 t) (iblk m c 10 t))) (outsAt0 m c (t.val - 1) (Nat.lt_of_le_of_lt (Nat.sub_le _ _) t.isLt)).2.2.2.2.2.1 := by
  rw [outsAt0_B m c t h0]
  dsimp only
  unfold out0_B_16 kernelRun0_B
  dsimp only
  refine (View.read_writes_full _ _ _ _ _).trans ?_
  refine Eq.trans (b := k0_pay86 (F := Ideal) (tGw (l3 m c t) (tH (l1 m c t) (l2 m c t) (l3 m c t) (l4 m c t) (l5 m c t) (l6 m c t) (l7 m c t) (l8 m c t) (l9 m c t) (l10 m c t))) (lod (ms0_16 t) (hs0_16 t) (outsAt0 m c (t.val - 1) (Nat.lt_of_le_of_lt (Nat.sub_le _ _) t.isLt)).2.2.2.2.2.1 ![0, 0] inb_S1x128_S1x128_0_0)) rfl ?_
  rw [lod_eq]
  simp only [l1_eq, l2_eq, l3_eq, l4_eq, l5_eq, l6_eq, l7_eq, l8_eq, l9_eq, l10_eq]
theorem first17 (h0 : t.val % 16 = 0) : (outsAt0 m c t.val t.isLt).2.2.2.2.2.2.1 = k0_pay1 (F := Ideal) (tW (iblk m c 1 t) (iblk m c 2 t) (iblk m c 3 t) (iblk m c 4 t) (iblk m c 5 t) (iblk m c 6 t) (iblk m c 7 t) (iblk m c 8 t) (iblk m c 9 t) (iblk m c 10 t)) (k0_pay82 (F := Ideal)) := by
  rw [outsAt0_A m c t h0]
  dsimp only
  unfold out0_A_17 kernelRun0_A
  dsimp only
  refine (View.read_writes_full _ _ _ _ _).trans ?_
  unfold kernelRun0_A.sl.v307 kernelRun0_A.sl.H17_1
  rw [View.readCov_full]
  refine Eq.trans (b := k0_pay1 (F := Ideal) (tW (l1 m c t) (l2 m c t) (l3 m c t) (l4 m c t) (l5 m c t) (l6 m c t) (l7 m c t) (l8 m c t) (l9 m c t) (l10 m c t)) (k0_pay82 (F := Ideal))) rfl ?_
  simp only [l1_eq, l2_eq, l3_eq, l4_eq, l5_eq, l6_eq, l7_eq, l8_eq, l9_eq, l10_eq]
theorem later17 (h0 : ¬ t.val % 16 = 0) : (outsAt0 m c t.val t.isLt).2.2.2.2.2.2.1
    = k0_pay1 (F := Ideal) (tW (iblk m c 1 t) (iblk m c 2 t) (iblk m c 3 t) (iblk m c 4 t) (iblk m c 5 t) (iblk m c 6 t) (iblk m c 7 t) (iblk m c 8 t) (iblk m c 9 t) (iblk m c 10 t)) (outsAt0 m c (t.val - 1) (Nat.lt_of_le_of_lt (Nat.sub_le _ _) t.isLt)).2.2.2.2.2.2.1 := by
  rw [outsAt0_B m c t h0]
  dsimp only
  unfold out0_B_17 kernelRun0_B
  dsimp only
  refine (View.read_writes_full _ _ _ _ _).trans ?_
  refine Eq.trans (b := k0_pay1 (F := Ideal) (tW (l1 m c t) (l2 m c t) (l3 m c t) (l4 m c t) (l5 m c t) (l6 m c t) (l7 m c t) (l8 m c t) (l9 m c t) (l10 m c t)) (lod (ms0_17 t) (hs0_17 t) (outsAt0 m c (t.val - 1) (Nat.lt_of_le_of_lt (Nat.sub_le _ _) t.isLt)).2.2.2.2.2.2.1 ![0, 0] inb_S1024x1024_S1024x1024_0_0)) rfl ?_
  rw [lod_eq]
  simp only [l1_eq, l2_eq, l3_eq, l4_eq, l5_eq, l6_eq, l7_eq, l8_eq, l9_eq, l10_eq]
theorem first18 (h0 : t.val % 16 = 0) : (outsAt0 m c t.val t.isLt).2.2.2.2.2.2.2.1 = k0_pay2 (F := Ideal) (k0_pay52 (F := Ideal) (tN (iblk m c 1 t) (iblk m c 2 t) (iblk m c 3 t) (iblk m c 4 t) (iblk m c 5 t) (iblk m c 6 t)) (tD (iblk m c 8 t) (iblk m c 9 t) (iblk m c 10 t))) (k0_pay83 (F := Ideal)) := by
  rw [outsAt0_A m c t h0]
  dsimp only
  unfold out0_A_18 kernelRun0_A
  dsimp only
  refine (View.read_writes_full _ _ _ _ _).trans ?_
  unfold kernelRun0_A.sl.v311 kernelRun0_A.sl.H18_1
  rw [View.readCov_full]
  refine Eq.trans (b := k0_pay2 (F := Ideal) (k0_pay52 (F := Ideal) (tN (l1 m c t) (l2 m c t) (l3 m c t) (l4 m c t) (l5 m c t) (l6 m c t)) (tD (l8 m c t) (l9 m c t) (l10 m c t))) (k0_pay83 (F := Ideal))) rfl ?_
  simp only [l1_eq, l2_eq, l3_eq, l4_eq, l5_eq, l6_eq, l7_eq, l8_eq, l9_eq, l10_eq]
theorem later18 (h0 : ¬ t.val % 16 = 0) : (outsAt0 m c t.val t.isLt).2.2.2.2.2.2.2.1
    = k0_pay2 (F := Ideal) (k0_pay52 (F := Ideal) (tN (iblk m c 1 t) (iblk m c 2 t) (iblk m c 3 t) (iblk m c 4 t) (iblk m c 5 t) (iblk m c 6 t)) (tD (iblk m c 8 t) (iblk m c 9 t) (iblk m c 10 t))) (outsAt0 m c (t.val - 1) (Nat.lt_of_le_of_lt (Nat.sub_le _ _) t.isLt)).2.2.2.2.2.2.2.1 := by
  rw [outsAt0_B m c t h0]
  dsimp only
  unfold out0_B_18 kernelRun0_B
  dsimp only
  refine (View.read_writes_full _ _ _ _ _).trans ?_
  refine Eq.trans (b := k0_pay2 (F := Ideal) (k0_pay52 (F := Ideal) (tN (l1 m c t) (l2 m c t) (l3 m c t) (l4 m c t) (l5 m c t) (l6 m c t)) (tD (l8 m c t) (l9 m c t) (l10 m c t))) (lod (ms0_18 t) (hs0_18 t) (outsAt0 m c (t.val - 1) (Nat.lt_of_le_of_lt (Nat.sub_le _ _) t.isLt)).2.2.2.2.2.2.2.1 ![0, 0] inb_S1x1024_S1x1024_0_0)) rfl ?_
  rw [lod_eq]
  simp only [l1_eq, l2_eq, l3_eq, l4_eq, l5_eq, l6_eq, l7_eq, l8_eq, l9_eq, l10_eq]
theorem first19 (h0 : t.val % 16 = 0) : (outsAt0 m c t.val t.isLt).2.2.2.2.2.2.2.2.1 = k0_pay3 (F := Ideal) (k0_pay51 (F := Ideal) (tGt (iblk m c 1 t) (iblk m c 2 t) (iblk m c 3 t) (iblk m c 4 t) (iblk m c 5 t) (iblk m c 6 t) (iblk m c 7 t) (iblk m c 10 t))) (k0_pay84 (F := Ideal)) := by
  rw [outsAt0_A m c t h0]
  dsimp only
  unfold out0_A_19 kernelRun0_A
  dsimp only
  refine (View.read_writes_full _ _ _ _ _).trans ?_
  unfold kernelRun0_A.sl.v315 kernelRun0_A.sl.H19_1
  rw [View.readCov_full]
  refine Eq.trans (b := k0_pay3 (F := Ideal) (k0_pay51 (F := Ideal) (tGt (l1 m c t) (l2 m c t) (l3 m c t) (l4 m c t) (l5 m c t) (l6 m c t) (l7 m c t) (l10 m c t))) (k0_pay84 (F := Ideal))) rfl ?_
  simp only [l1_eq, l2_eq, l3_eq, l4_eq, l5_eq, l6_eq, l7_eq, l8_eq, l9_eq, l10_eq]
theorem later19 (h0 : ¬ t.val % 16 = 0) : (outsAt0 m c t.val t.isLt).2.2.2.2.2.2.2.2.1
    = k0_pay3 (F := Ideal) (k0_pay51 (F := Ideal) (tGt (iblk m c 1 t) (iblk m c 2 t) (iblk m c 3 t) (iblk m c 4 t) (iblk m c 5 t) (iblk m c 6 t) (iblk m c 7 t) (iblk m c 10 t))) (outsAt0 m c (t.val - 1) (Nat.lt_of_le_of_lt (Nat.sub_le _ _) t.isLt)).2.2.2.2.2.2.2.2.1 := by
  rw [outsAt0_B m c t h0]
  dsimp only
  unfold out0_B_19 kernelRun0_B
  dsimp only
  refine (View.read_writes_full _ _ _ _ _).trans ?_
  refine Eq.trans (b := k0_pay3 (F := Ideal) (k0_pay51 (F := Ideal) (tGt (l1 m c t) (l2 m c t) (l3 m c t) (l4 m c t) (l5 m c t) (l6 m c t) (l7 m c t) (l10 m c t))) (lod (ms0_19 t) (hs0_19 t) (outsAt0 m c (t.val - 1) (Nat.lt_of_le_of_lt (Nat.sub_le _ _) t.isLt)).2.2.2.2.2.2.2.2.1 ![0, 0] inb_S1x1024_S1x1024_0_0)) rfl ?_
  rw [lod_eq]
  simp only [l1_eq, l2_eq, l3_eq, l4_eq, l5_eq, l6_eq, l7_eq, l8_eq, l9_eq, l10_eq]
theorem first20 (h0 : t.val % 16 = 0) : (outsAt0 m c t.val t.isLt).2.2.2.2.2.2.2.2.2 = k0_pay4 (F := Ideal) (k0_pay51 (F := Ideal) (tGt (iblk m c 1 t) (iblk m c 2 t) (iblk m c 3 t) (iblk m c 4 t) (iblk m c 5 t) (iblk m c 6 t) (iblk m c 7 t) (iblk m c 10 t))) (k0_pay85 (F := Ideal)) := by
  rw [outsAt0_A m c t h0]
  dsimp only
  unfold out0_A_20 kernelRun0_A
  dsimp only
  refine (View.read_writes_full _ _ _ _ _).trans ?_
  unfold kernelRun0_A.sl.v319 kernelRun0_A.sl.H20_1
  rw [View.readCov_full]
  refine Eq.trans (b := k0_pay4 (F := Ideal) (k0_pay51 (F := Ideal) (tGt (l1 m c t) (l2 m c t) (l3 m c t) (l4 m c t) (l5 m c t) (l6 m c t) (l7 m c t) (l10 m c t))) (k0_pay85 (F := Ideal))) rfl ?_
  simp only [l1_eq, l2_eq, l3_eq, l4_eq, l5_eq, l6_eq, l7_eq, l8_eq, l9_eq, l10_eq]
theorem later20 (h0 : ¬ t.val % 16 = 0) : (outsAt0 m c t.val t.isLt).2.2.2.2.2.2.2.2.2
    = k0_pay4 (F := Ideal) (k0_pay51 (F := Ideal) (tGt (iblk m c 1 t) (iblk m c 2 t) (iblk m c 3 t) (iblk m c 4 t) (iblk m c 5 t) (iblk m c 6 t) (iblk m c 7 t) (iblk m c 10 t))) (outsAt0 m c (t.val - 1) (Nat.lt_of_le_of_lt (Nat.sub_le _ _) t.isLt)).2.2.2.2.2.2.2.2.2 := by
  rw [outsAt0_B m c t h0]
  dsimp only
  unfold out0_B_20 kernelRun0_B
  dsimp only
  refine (View.read_writes_full _ _ _ _ _).trans ?_
  refine Eq.trans (b := k0_pay4 (F := Ideal) (k0_pay51 (F := Ideal) (tGt (l1 m c t) (l2 m c t) (l3 m c t) (l4 m c t) (l5 m c t) (l6 m c t) (l7 m c t) (l10 m c t))) (lod (ms0_20 t) (hs0_20 t) (outsAt0 m c (t.val - 1) (Nat.lt_of_le_of_lt (Nat.sub_le _ _) t.isLt)).2.2.2.2.2.2.2.2.2 ![0, 0] inb_S1x1024_S1x1024_0_0)) rfl ?_
  rw [lod_eq]
  simp only [l1_eq, l2_eq, l3_eq, l4_eq, l5_eq, l6_eq, l7_eq, l8_eq, l9_eq, l10_eq]

end Cert.Proof.Tail.Point
-- ==== Proof.FrontRun.lean ====
/- The run of the gradient kernel of the projections, and that it leaves its arguments as they were. -/
module

public import proofs.«01_k».proof.Proof.FrontBody
public import Idealize.ShloMosaic.Lib.Claim
public import Idealize.ShloMosaic.Lib.Pipeline.Value
public import Idealize.ShloMosaic.Lib.Pipeline.TableIdle

@[expose] public section

set_option maxRecDepth 16384
set_option maxHeartbeats 16000000

noncomputable section

namespace Cert.Proof.Front

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What point `t` reads. -/
def ins (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t⟩

/-- Point `n`, and the last one from there on. -/
def pt (n : ℕ) : Fin cfg0.N := ⟨min n 15, lt_of_lt_of_eq (by omega) N_0.symm⟩

theorem pt_val (t : Fin cfg0.N) : pt t.val = t := Fin.ext (by
  have : t.val < 16 := lt_of_lt_of_eq t.isLt N_0
  show min t.val 15 = t.val
  omega)

/-- The sums after points `0 … n`. -/
def sums (c : Dev nD) : ℕ → Acc F
  | 0 => Acc.step (ins m c (pt 0)) Acc.zero
  | n + 1 => Acc.step (ins m c (pt (n + 1))) (sums c n)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => (ins m c t).dx
    | ⟨22, _⟩ => (sums m c t.val).nw
    | ⟨23, _⟩ => (sums m c t.val).sr
    | ⟨24, _⟩ => (sums m c t.val).sb
    | ⟨25, _⟩ => (sums m c t.val).hr
    | ⟨26, _⟩ => (sums m c t.val).hb
    | ⟨27, _⟩ => (sums m c t.val).w0
    | ⟨28, _⟩ => (sums m c t.val).w1
    | ⟨29, _⟩ => (sums m c t.val).w2
    | ⟨30, _⟩ => (sums m c t.val).w3
    | ⟨31, _⟩ => (sums m c t.val).w4
    | ⟨32, _⟩ => (sums m c t.val).w5
    | ⟨33, _⟩ => (sums m c t.val).w6
    | ⟨_ + 34, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = (ins m c t).x :=
  before0_0_of m (dats m 0 c) (A_eq m c 0) (fun _ => rfl) t d
theorem before_1 (c : Dev nD) (t : Fin cfg0.N) (d) : (dats m 0 c).before 1 t d = (ins m c t).nw :=
  before0_1_of m (dats m 0 c) (A_eq m c 1) (fun _ => rfl) t d
theorem before_2 (c : Dev nD) (t : Fin cfg0.N) (d) : (dats m 0 c).before 2 t d = (ins m c t).sr :=
  before0_2_of m (dats m 0 c) (A_eq m c 2) (fun _ => rfl) t d
theorem before_3 (c : Dev nD) (t : Fin cfg0.N) (d) : (dats m 0 c).before 3 t d = (ins m c t).sb :=
  before0_3_of m (dats m 0 c) (A_eq m c 3) (fun _ => rfl) t d
theorem before_4 (c : Dev nD) (t : Fin cfg0.N) (d) : (dats m 0 c).before 4 t d = (ins m c t).hr :=
  before0_4_of m (dats m 0 c) (A_eq m c 4) (fun _ => rfl) t d
theorem before_5 (c : Dev nD) (t : Fin cfg0.N) (d) : (dats m 0 c).before 5 t d = (ins m c t).hb :=
  before0_5_of m (dats m 0 c) (A_eq m c 5) (fun _ => rfl) t d
theorem before_6 (c : Dev nD) (t : Fin cfg0.N) (d) : (dats m 0 c).before 6 t d = (ins m c t).w0 :=
  before0_6_of m (dats m 0 c) (A_eq m c 6) (fun _ => rfl) t d
theorem before_7 (c : Dev nD) (t : Fin cfg0.N) (d) : (dats m 0 c).before 7 t d = (ins m c t).w1 :=
  before0_7_of m (dats m 0 c) (A_eq m c 7) (fun _ => rfl) t d
theorem before_8 (c : Dev nD) (t : Fin cfg0.N) (d) : (dats m 0 c).before 8 t d = (ins m c t).w2 :=
  before0_8_of m (dats m 0 c) (A_eq m c 8) (fun _ => rfl) t d
theorem before_9 (c : Dev nD) (t : Fin cfg0.N) (d) : (dats m 0 c).before 9 t d = (ins m c t).w3 :=
  before0_9_of m (dats m 0 c) (A_eq m c 9) (fun _ => rfl) t d
theorem before_10 (c : Dev nD) (t : Fin cfg0.N) (d) : (dats m 0 c).before 10 t d = (ins m c t).w4 :=
  before0_10_of m (dats m 0 c) (A_eq m c 10) (fun _ => rfl) t d
theorem before_11 (c : Dev nD) (t : Fin cfg0.N) (d) : (dats m 0 c).before 11 t d = (ins m c t).w5 :=
  before0_11_of m (dats m 0 c) (A_eq m c 11) (fun _ => rfl) t d
theorem before_12 (c : Dev nD) (t : Fin cfg0.N) (d) : (dats m 0 c).before 12 t d = (ins m c t).w6 :=
  before0_12_of m (dats m 0 c) (A_eq m c 12) (fun _ => rfl) t d
theorem before_13 (c : Dev nD) (t : Fin cfg0.N) (d) : (dats m 0 c).before 13 t d = (ins m c t).d0 :=
  before0_13_of m (dats m 0 c) (A_eq m c 13) (fun _ => rfl) t d
theorem before_14 (c : Dev nD) (t : Fin cfg0.N) (d) : (dats m 0 c).before 14 t d = (ins m c t).d1 :=
  before0_14_of m (dats m 0 c) (A_eq m c 14) (fun _ => rfl) t d
theorem before_15 (c : Dev nD) (t : Fin cfg0.N) (d) : (dats m 0 c).before 15 t d = (ins m c t).d2 :=
  before0_15_of m (dats m 0 c) (A_eq m c 15) (fun _ => rfl) t d
theorem before_16 (c : Dev nD) (t : Fin cfg0.N) (d) : (dats m 0 c).before 16 t d = (ins m c t).d3 :=
  before0_16_of m (dats m 0 c) (A_eq m c 16) (fun _ => rfl) t d
theorem before_17 (c : Dev nD) (t : Fin cfg0.N) (d) : (dats m 0 c).before 17 t d = (ins m c t).d4 :=
  before0_17_of m (dats m 0 c) (A_eq m c 17) (fun _ => rfl) t d
theorem before_18 (c : Dev nD) (t : Fin cfg0.N) (d) : (dats m 0 c).before 18 t d = (ins m c t).d5 :=
  before0_18_of m (dats m 0 c) (A_eq m c 18) (fun _ => rfl) t d
theorem before_19 (c : Dev nD) (t : Fin cfg0.N) (d) : (dats m 0 c).before 19 t d = (ins m c t).d6 :=
  before0_19_of m (dats m 0 c) (A_eq m c 19) (fun _ => rfl) t d
theorem before_20 (c : Dev nD) (t : Fin cfg0.N) (d) : (dats m 0 c).before 20 t d = (ins m c t).sk :=
  before0_20_of m (dats m 0 c) (A_eq m c 20) (fun _ => rfl) t d

theorem after_0 (c : Dev nD) (t : Fin cfg0.N) : (dats m 0 c).after 0 t = (ins m c t).x := rfl
theorem after_1 (c : Dev nD) (t : Fin cfg0.N) : (dats m 0 c).after 1 t = (ins m c t).nw := rfl
theorem after_2 (c : Dev nD) (t : Fin cfg0.N) : (dats m 0 c).after 2 t = (ins m c t).sr := rfl
theorem after_3 (c : Dev nD) (t : Fin cfg0.N) : (dats m 0 c).after 3 t = (ins m c t).sb := rfl
theorem after_4 (c : Dev nD) (t : Fin cfg0.N) : (dats m 0 c).after 4 t = (ins m c t).hr := rfl
theorem after_5 (c : Dev nD) (t : Fin cfg0.N) : (dats m 0 c).after 5 t = (ins m c t).hb := rfl
theorem after_6 (c : Dev nD) (t : Fin cfg0.N) : (dats m 0 c).after 6 t = (ins m c t).w0 := rfl
theorem after_7 (c : Dev nD) (t : Fin cfg0.N) : (dats m 0 c).after 7 t = (ins m c t).w1 := rfl
theorem after_8 (c : Dev nD) (t : Fin cfg0.N) : (dats m 0 c).after 8 t = (ins m c t).w2 := rfl
theorem after_9 (c : Dev nD) (t : Fin cfg0.N) : (dats m 0 c).after 9 t = (ins m c t).w3 := rfl
theorem after_10 (c : Dev nD) (t : Fin cfg0.N) : (dats m 0 c).after 10 t = (ins m c t).w4 := rfl
theorem after_11 (c : Dev nD) (t : Fin cfg0.N) : (dats m 0 c).after 11 t = (ins m c t).w5 := rfl
theorem after_12 (c : Dev nD) (t : Fin cfg0.N) : (dats m 0 c).after 12 t = (ins m c t).w6 := rfl
theorem after_13 (c : Dev nD) (t : Fin cfg0.N) : (dats m 0 c).after 13 t = (ins m c t).d0 := rfl
theorem after_14 (c : Dev nD) (t : Fin cfg0.N) : (dats m 0 c).after 14 t = (ins m c t).d1 := rfl
theorem after_15 (c : Dev nD) (t : Fin cfg0.N) : (dats m 0 c).after 15 t = (ins m c t).d2 := rfl
theorem after_16 (c : Dev nD) (t : Fin cfg0.N) : (dats m 0 c).after 16 t = (ins m c t).d3 := rfl
theorem after_17 (c : Dev nD) (t : Fin cfg0.N) : (dats m 0 c).after 17 t = (ins m c t).d4 := rfl
theorem after_18 (c : Dev nD) (t : Fin cfg0.N) : (dats m 0 c).after 18 t = (ins m c t).d5 := rfl
theorem after_19 (c : Dev nD) (t : Fin cfg0.N) : (dats m 0 c).after 19 t = (ins m c t).d6 := rfl
theorem after_20 (c : Dev nD) (t : Fin cfg0.N) : (dats m 0 c).after 20 t = (ins m c t).sk := rfl
theorem after_21 (c : Dev nD) (t : Fin cfg0.N) : (dats m 0 c).after 21 t = (ins m c t).dx := by dsimp only [dats]
theorem after_22 (c : Dev nD) (t : Fin cfg0.N) : (dats m 0 c).after 22 t = (sums m c t.val).nw := by dsimp only [dats]
theorem after_23 (c : Dev nD) (t : Fin cfg0.N) : (dats m 0 c).after 23 t = (sums m c t.val).sr := by dsimp only [dats]
theorem after_24 (c : Dev nD) (t : Fin cfg0.N) : (dats m 0 c).after 24 t = (sums m c t.val).sb := by dsimp only [dats]
theorem after_25 (c : Dev nD) (t : Fin cfg0.N) : (dats m 0 c).after 25 t = (sums m c t.val).hr := by dsimp only [dats]
theorem after_26 (c : Dev nD) (t : Fin cfg0.N) : (dats m 0 c).after 26 t = (sums m c t.val).hb := by dsimp only [dats]
theorem after_27 (c : Dev nD) (t : Fin cfg0.N) : (dats m 0 c).after 27 t = (sums m c t.val).w0 := by dsimp only [dats]
theorem after_28 (c : Dev nD) (t : Fin cfg0.N) : (dats m 0 c).after 28 t = (sums m c t.val).w1 := by dsimp only [dats]
theorem after_29 (c : Dev nD) (t : Fin cfg0.N) : (dats m 0 c).after 29 t = (sums m c t.val).w2 := by dsimp only [dats]
theorem after_30 (c : Dev nD) (t : Fin cfg0.N) : (dats m 0 c).after 30 t = (sums m c t.val).w3 := by dsimp only [dats]
theorem after_31 (c : Dev nD) (t : Fin cfg0.N) : (dats m 0 c).after 31 t = (sums m c t.val).w4 := by dsimp only [dats]
theorem after_32 (c : Dev nD) (t : Fin cfg0.N) : (dats m 0 c).after 32 t = (sums m c t.val).w5 := by dsimp only [dats]
theorem after_33 (c : Dev nD) (t : Fin cfg0.N) : (dats m 0 c).after 33 t = (sums m c t.val).w6 := by dsimp only [dats]

/-! After the first point, the sums are found as the point before left them. -/

theorem before_22 (c : Dev nD) (t : Fin cfg0.N) (h : t.val ≠ 0) (d) : (dats m 0 c).before 22 t d = (sums m c (t.val - 1)).nw := by
  have ht : t.val < 16 := lt_of_lt_of_eq t.isLt N_0
  rw [(dats m 0 c).before_out_kept 22 rfl t h (Bool.eq_false_iff.mpr fun hf => by have := (flush0_22 _).mp hf; dsimp only at this; omega)
    (fun _ => rfl) (fun _ _ => rfl) d, after_22]
theorem before_23 (c : Dev nD) (t : Fin cfg0.N) (h : t.val ≠ 0) (d) : (dats m 0 c).before 23 t d = (sums m c (t.val - 1)).sr := by
  have ht : t.val < 16 := lt_of_lt_of_eq t.isLt N_0
  rw [(dats m 0 c).before_out_kept 23 rfl t h (Bool.eq_false_iff.mpr fun hf => by have := (flush0_23 _).mp hf; dsimp only at this; omega)
    (fun _ => rfl) (fun _ _ => rfl) d, after_23]
theorem before_24 (c : Dev nD) (t : Fin cfg0.N) (h : t.val ≠ 0) (d) : (dats m 0 c).before 24 t d = (sums m c (t.val - 1)).sb := by
  have ht : t.val < 16 := lt_of_lt_of_eq t.isLt N_0
  rw [(dats m 0 c).before_out_kept 24 rfl t h (Bool.eq_false_iff.mpr fun hf => by have := (flush0_24 _).mp hf; dsimp only at this; omega)
    (fun _ => rfl) (fun _ _ => rfl) d, after_24]
theorem before_25 (c : Dev nD) (t : Fin cfg0.N) (h : t.val ≠ 0) (d) : (dats m 0 c).before 25 t d = (sums m c (t.val - 1)).hr := by
  have ht : t.val < 16 := lt_of_lt_of_eq t.isLt N_0
  rw [(dats m 0 c).before_out_kept 25 rfl t h (Bool.eq_false_iff.mpr fun hf => by have := (flush0_25 _).mp hf; dsimp only at this; omega)
    (fun _ => rfl) (fun _ _ => rfl) d, after_25]
theorem before_26 (c : Dev nD) (t : Fin cfg0.N) (h : t.val ≠ 0) (d) : (dats m 0 c).before 26 t d = (sums m c (t.val - 1)).hb := by
  have ht : t.val < 16 := lt_of_lt_of_eq t.isLt N_0
  rw [(dats m 0 c).before_out_kept 26 rfl t h (Bool.eq_false_iff.mpr fun hf => by have := (flush0_26 _).mp hf; dsimp only at this; omega)
    (fun _ => rfl) (fun _ _ => rfl) d, after_26]
theorem before_27 (c : Dev nD) (t : Fin cfg0.N) (h : t.val ≠ 0) (d) : (dats m 0 c).before 27 t d = (sums m c (t.val - 1)).w0 := by
  have ht : t.val < 16 := lt_of_lt_of_eq t.isLt N_0
  rw [(dats m 0 c).before_out_kept 27 rfl t h (Bool.eq_false_iff.mpr fun hf => by have := (flush0_27 _).mp hf; dsimp only at this; omega)
    (fun _ => rfl) (fun _ _ => rfl) d, after_27]
theorem before_28 (c : Dev nD) (t : Fin cfg0.N) (h : t.val ≠ 0) (d) : (dats m 0 c).before 28 t d = (sums m c (t.val - 1)).w1 := by
  have ht : t.val < 16 := lt_of_lt_of_eq t.isLt N_0
  rw [(dats m 0 c).before_out_kept 28 rfl t h (Bool.eq_false_iff.mpr fun hf => by have := (flush0_28 _).mp hf; dsimp only at this; omega)
    (fun _ => rfl) (fun _ _ => rfl) d, after_28]
theorem before_29 (c : Dev nD) (t : Fin cfg0.N) (h : t.val ≠ 0) (d) : (dats m 0 c).before 29 t d = (sums m c (t.val - 1)).w2 := by
  have ht : t.val < 16 := lt_of_lt_of_eq t.isLt N_0
  rw [(dats m 0 c).before_out_kept 29 rfl t h (Bool.eq_false_iff.mpr fun hf => by have := (flush0_29 _).mp hf; dsimp only at this; omega)
    (fun _ => rfl) (fun _ _ => rfl) d, after_29]
theorem before_30 (c : Dev nD) (t : Fin cfg0.N) (h : t.val ≠ 0) (d) : (dats m 0 c).before 30 t d = (sums m c (t.val - 1)).w3 := by
  have ht : t.val < 16 := lt_of_lt_of_eq t.isLt N_0
  rw [(dats m 0 c).before_out_kept 30 rfl t h (Bool.eq_false_iff.mpr fun hf => by have := (flush0_30 _).mp hf; dsimp only at this; omega)
    (fun _ => rfl) (fun _ _ => rfl) d, after_30]
theorem before_31 (c : Dev nD) (t : Fin cfg0.N) (h : t.val ≠ 0) (d) : (dats m 0 c).before 31 t d = (sums m c (t.val - 1)).w4 := by
  have ht : t.val < 16 := lt_of_lt_of_eq t.isLt N_0
  rw [(dats m 0 c).before_out_kept 31 rfl t h (Bool.eq_false_iff.mpr fun hf => by have := (flush0_31 _).mp hf; dsimp only at this; omega)
    (fun _ => rfl) (fun _ _ => rfl) d, after_31]
theorem before_32 (c : Dev nD) (t : Fin cfg0.N) (h : t.val ≠ 0) (d) : (dats m 0 c).before 32 t d = (sums m c (t.val - 1)).w5 := by
  have ht : t.val < 16 := lt_of_lt_of_eq t.isLt N_0
  rw [(dats m 0 c).before_out_kept 32 rfl t h (Bool.eq_false_iff.mpr fun hf => by have := (flush0_32 _).mp hf; dsimp only at this; omega)
    (fun _ => rfl) (fun _ _ => rfl) d, after_32]
theorem before_33 (c : Dev nD) (t : Fin cfg0.N) (h : t.val ≠ 0) (d) : (dats m 0 c).before 33 t d = (sums m c (t.val - 1)).w6 := by
  have ht : t.val < 16 := lt_of_lt_of_eq t.isLt N_0
  rw [(dats m 0 c).before_out_kept 33 rfl t h (Bool.eq_false_iff.mpr fun hf => by have := (flush0_33 _).mp hf; dsimp only at this; omega)
    (fun _ => rfl) (fun _ _ => rfl) d, after_33]

theorem sums_first (c : Dev nD) (t : Fin cfg0.N) (h : t.val = 0) : sums m c t.val = Acc.step (ins m c t) Acc.zero := by
  have e : sums m c t.val = Acc.step (ins m c (pt t.val)) Acc.zero := by rw [h]; rfl
  rw [e, pt_val t]

theorem sums_later (c : Dev nD) (t : Fin cfg0.N) (h : t.val ≠ 0) : sums m c t.val = Acc.step (ins m c t) (sums m c (t.val - 1)) := by
  have e : ∀ n, n ≠ 0 → sums m c n = Acc.step (ins m c (pt n)) (sums m c (n - 1))
    | 0, h => absurd rfl h
    | n + 1, _ => rfl
  exact (e t.val h).trans (by rw [pt_val t])

abbrev 𝒱₀ : Variants := Variants.none

set_option backward.isDefEq.respectTransparency.types false in
theorem body_obligation (c : Dev nD) : BodyObligation (dats (F := F) m 0 c) (defs₀ (F := F)) 𝒱₀ () Set.univ := fun t => by
  rw [bigSep_W0, bigSep_W0]
  sl_whnfR [defs₀, Defs.onTc]
  simp only [before_0, before_1, before_2, before_3, before_4, before_5, before_6, before_7, before_8, before_9, before_10, before_11, before_12, before_13, before_14, before_15, before_16, before_17, before_18, before_19, before_20]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26, after_27, after_28, after_29, after_30, after_31, after_32, after_33]
  simp only [owns_eq_rep]
  have ht : t.val < 16 := lt_of_lt_of_eq t.isLt N_0
  by_cases h : t.val = 0
  · rw [sums_first m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩⟩
    iapply (wp_wand_r frame (wpE (defs₀ (F := F)) Variants.none (c : Thread nD τ) none) Set.univ)
    isplitl [H0 H1 H2 H3 H4 H5 H6 H7 H8 H9 H10 H11 H12 H13 H14 H15 H16 H17 H18 H19 H20 H21 H22 H23 H24 H25 H26 H27 H28 H29 H30 H31 H32 H33]
    · iapply (body_first c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (ins m c t) _ _ _ _ _ _ _ _ _ _ _ _ _ ((hcond0_0 t).mpr (by omega)))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      isplitl [H31]; · iexact H31
      isplitl [H32]; · iexact H32
      iexact H33
    · iintro %a ⟨H0, H1, H2, H3, H4, H5, H6, H7, H8, H9, H10, H11, H12, H13, H14, H15, H16, H17, H18, H19, H20, H21, H22, H23, H24, H25, H26, H27, H28, H29, H30, H31, H32, H33⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      isplitl [H31]; · iexact H31
      isplitl [H32]; · iexact H32
      iexact H33

  · rw [sums_later m c t h]
    simp only [before_22 m c t h, before_23 m c t h, before_24 m c t h, before_25 m c t h, before_26 m c t h, before_27 m c t h, before_28 m c t h, before_29 m c t h, before_30 m c t h, before_31 m c t h, before_32 m c t h, before_33 m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩⟩
    iapply (wp_wand_r frame (wpE (defs₀ (F := F)) Variants.none (c : Thread nD τ) none) Set.univ)
    isplitl [H0 H1 H2 H3 H4 H5 H6 H7 H8 H9 H10 H11 H12 H13 H14 H15 H16 H17 H18 H19 H20 H21 H22 H23 H24 H25 H26 H27 H28 H29 H30 H31 H32 H33]
    · iapply (body_later c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (ins m c t) (sums m c (t.val - 1)) _ (fun hc => h (by have := (hcond0_0 t).mp hc; omega)))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      isplitl [H31]; · iexact H31
      isplitl [H32]; · iexact H32
      iexact H33
    · iintro %a ⟨H0, H1, H2, H3, H4, H5, H6, H7, H8, H9, H10, H11, H12, H13, H14, H15, H16, H17, H18, H19, H20, H21, H22, H23, H24, H25, H26, H27, H28, H29, H30, H31, H32, H33⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      isplitl [H31]; · iexact H31
      isplitl [H32]; · iexact H32
      iexact H33

set_option backward.isDefEq.respectTransparency.types false in
/-- Every fair execution ends, with every array at what the proof data say and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

theorem frame_main (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  θ_run_with_sems (frame_of m ρ (dats m) (A_eq m)) (run_main m ρ)

end Cert.Proof.Front
-- ==== Proof.Attn.lean ====
module

public import proofs.«01_k».proof.Proof.Math
public import proofs.«01_k».proof.Proof.Gen.ReferenceIdeal.Run

/-! The host's lines read at an index: the masked scores, their greatest, the softmax and its saved denominator, and the
    derivative's three results, each as the real formula of Math.lean. -/

@[expose] public section

noncomputable section

namespace Cert.Proof.Attn

open Idealize Idealize.ShloMosaic Idealize.SL.Sem Idealize.ShloMosaic.TcCoe
open Cert.ReferenceIdeal Cert.ReferenceIdeal.Gen
open Cert.Proof.Math

abbrev Sq : Type := FVec ShloMosaic.Ideal S4x8192x8192 .f32
abbrev Row : Type := FVec ShloMosaic.Ideal S4x8192 .f32

/-! ### The terms -/

def keep : S4x8192x8192.Idx → BitVec 1 :=
  broadcastInDim S4x8192x8192 ![1, 2] bcast_S8192x8192_S4x8192x8192_1_2
    (cmpi .sle (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))

def wide (q : FVec Ideal S8192x1024 .bf16) : FVec Ideal S8192x4x256 .f32 :=
  shapeCast S8192x4x256 (extf .f32 q bitsLt_bf16_f32 : FVec Ideal S8192x1024 .f32) shapeCasts_S8192x1024_S8192x4x256

def narrow (v : FVec Ideal S8192x512 .bf16) : FVec Ideal S8192x4x128 .f32 :=
  shapeCast S8192x4x128 (extf .f32 v bitsLt_bf16_f32 : FVec Ideal S8192x512 .f32) shapeCasts_S8192x512_S8192x4x128

def rootV : FVec Ideal S_ .f32 := Host.sqrt (constant S_ .f32 0x43400000#32)

def sc (q k : FVec Ideal S8192x1024 .bf16) : Sq :=
  select keep (Host.divf (Host.dotGeneral dot_S8192x4x256_S8192x4x256_S4x8192x8192_2_2_0_0_1_1 none (wide q) (wide k))
    (broadcastInDim S4x8192x8192 ![] bcast_S_S4x8192x8192 rootV))
    (broadcastInDim S4x8192x8192 ![] bcast_S_S4x8192x8192 (constant S_ .f32 0xFF800000#32))

def mx (s : Sq) : Row :=
  Host.reduce FloatOps.maximumf s (constant S_ .f32 0xFF800000#32) reducesTo_S4x8192x8192_S4x8192_d2 h_S_

def atLeast (r : Row) : Row :=
  maximumf (broadcastInDim S4x8192 ![] bcast_S_S4x8192 (constant S_ .f32 0xFF800000#32)) r

def mx' (s : Sq) : Row := atLeast (mx s)

def col (r : Row) : FVec Ideal S4x8192x1 .f32 := broadcastInDim S4x8192x1 ![0, 1] bcast_S4x8192_S4x8192x1_0_1 r

def over (r : FVec Ideal S4x8192x1 .f32) : Sq := broadcastInDim S4x8192x8192 ![0, 1, 2] bcast_S4x8192x1_S4x8192x8192_0_1_2 r

def ex (s : Sq) (r : Row) : Sq := Host.exp (subf s (over (col r)))

def total (s : Sq) : Row := Host.reduceAdd s (constant S_ .f32 0x00000000#32) reducesTo_S4x8192x8192_S4x8192_d2 h_S_

def soft (e : Sq) : Sq := Host.divf e (over (col (total e)))

def grad (g : FVec Ideal S8192x512 .f32) : FVec Ideal S4x128x8192 .f32 :=
  transpose S4x128x8192 [1, 2, 0] (shapeCast S8192x4x128 g shapeCasts_S8192x512_S8192x4x128) transposes_S8192x4x128_S4x128x8192_1_2_0

def dpV (v : FVec Ideal S8192x512 .bf16) (g : FVec Ideal S8192x512 .f32) : Sq :=
  Host.dotGeneral dot_S4x128x8192_S8192x4x128_S4x8192x8192_1_2_2_0_0_1 none (grad g) (narrow v)

def dsV (d e : Sq) : Sq :=
  Host.divf (select keep (mulf (addf (Host.divf d (over (col (total e))))
      (broadcastInDim S4x8192x8192 ![0, 1] bcast_S4x8192_S4x8192x8192_0_1
        (Host.reduceAdd (Host.negf (shapeCast S4x8192x1 (total (mulf (mulf d
            (over (Host.divf (broadcastInDim S4x8192x1 ![] bcast_S_S4x8192x1 (constant S_ .f32 0x3F800000#32)) (mulf (col (total e)) (col (total e)))))) e))
          shapeCasts_S4x8192_S4x8192x1)) (constant S_ .f32 0x00000000#32) reducesTo_S4x8192x1_S4x8192_d2 h_S_))) e)
    (broadcastInDim S4x8192x8192 ![] bcast_S_S4x8192x8192 (constant S_ .f32 0x00000000#32)))
    (broadcastInDim S4x8192x8192 ![] bcast_S_S4x8192x8192 rootV)

def outQ (q k : FVec Ideal S8192x1024 .bf16) (v : FVec Ideal S8192x512 .bf16) (g : FVec Ideal S8192x512 .f32) : FVec Ideal S8192x1024 .f32 :=
  shapeCast S8192x1024 (transpose S8192x4x256 [1, 0, 2] (Host.dotGeneral dot_S4x8192x8192_S8192x4x256_S4x8192x256_2_0_1_2_0_1 none
    (dsV (dpV v g) (ex (sc q k) (mx' (sc q k)))) (wide k)) transposes_S4x8192x256_S8192x4x256_1_0_2) shapeCasts_S8192x4x256_S8192x1024

def outK (q k : FVec Ideal S8192x1024 .bf16) (v : FVec Ideal S8192x512 .bf16) (g : FVec Ideal S8192x512 .f32) : FVec Ideal S8192x1024 .f32 :=
  shapeCast S8192x1024 (transpose S8192x4x256 [1, 0, 2] (Host.dotGeneral dot_S4x8192x8192_S8192x4x256_S4x8192x256_1_0_2_2_0_1 none
    (dsV (dpV v g) (ex (sc q k) (mx' (sc q k)))) (wide q)) transposes_S4x8192x256_S8192x4x256_1_0_2) shapeCasts_S8192x4x256_S8192x1024

def outV (q k : FVec Ideal S8192x1024 .bf16) (g : FVec Ideal S8192x512 .f32) : FVec Ideal S8192x512 .f32 :=
  shapeCast S8192x512 (transpose S8192x4x128 [2, 0, 1] (Host.dotGeneral dot_S4x128x8192_S4x8192x8192_S4x128x8192_2_1_1_2_0_0 none
    (grad g) (soft (ex (sc q k) (mx' (sc q k))))) transposes_S4x128x8192_S8192x4x128_2_0_1) shapeCasts_S8192x4x128_S8192x512

/-- The attention's output, heads side by side. -/
def outO (q k : FVec Ideal S8192x1024 .bf16) (v : FVec Ideal S8192x512 .bf16) : FVec Ideal S8192x512 .f32 :=
  shapeCast S8192x512 (transpose S8192x4x128 [2, 0, 1] (Host.dotGeneral dot_S8192x4x128_S4x8192x8192_S4x128x8192_0_2_2_1_1_0 none
    (narrow v) (soft (ex (sc q k) (mx' (sc q k))))) transposes_S4x128x8192_S8192x4x128_2_0_1) shapeCasts_S8192x4x128_S8192x512

section
variable (m : (ℓ : Loc nD τ sig) → Buf (Elt Ideal) ℓ) (c : Dev nD)

theorem res_q : Value.res_main_v74 m c = outQ (m (c.tc.loc main_arg0)) (m (c.tc.loc main_arg1)) (m (c.tc.loc main_arg2)) (m (c.tc.loc main_arg3)) := by
  unfold Value.res_main_v74; rfl
theorem res_k : Value.res_main_v73 m c = outK (m (c.tc.loc main_arg0)) (m (c.tc.loc main_arg1)) (m (c.tc.loc main_arg2)) (m (c.tc.loc main_arg3)) := by
  unfold Value.res_main_v73; rfl
theorem res_v : Value.res_main_v72 m c = outV (m (c.tc.loc main_arg0)) (m (c.tc.loc main_arg1)) (m (c.tc.loc main_arg3)) := by
  unfold Value.res_main_v72; rfl
end

/-! ### Their values -/

/-- The four arguments are the real inputs, heads side by side. -/
structure Holds (x : Inp) (q k : FVec Ideal S8192x1024 .bf16) (v : FVec Ideal S8192x512 .bf16) (g : FVec Ideal S8192x512 .f32) : Prop where
  q : ∀ (h : Fin 4) (i : Fin 8192) (d : Fin 256) (hd : h.val * 256 + d.val < 1024), q (ix2 i ⟨h.val * 256 + d.val, hd⟩) = (x.q h i d : EReal)
  k : ∀ (h : Fin 4) (i : Fin 8192) (d : Fin 256) (hd : h.val * 256 + d.val < 1024), k (ix2 i ⟨h.val * 256 + d.val, hd⟩) = (x.k h i d : EReal)
  v : ∀ (h : Fin 4) (i : Fin 8192) (d : Fin 128) (hd : h.val * 128 + d.val < 512), v (ix2 i ⟨h.val * 128 + d.val, hd⟩) = (x.v h i d : EReal)
  g : ∀ (h : Fin 4) (i : Fin 8192) (d : Fin 128) (hd : h.val * 128 + d.val < 512), g (ix2 i ⟨h.val * 128 + d.val, hd⟩) = (x.g h i d : EReal)

theorem keep_at (h : Fin 4) (i j : Fin 8192) : keep (ix3 h i j) = if j ≤ i then 1#1 else 0#1 := by
  pointwise [keep]
  have hi : (BitVec.ofNat 32 i.val).toInt = i.val := by
    rw [BitVec.toInt_ofNat']; have := i.isLt; rw [Int.bmod_def]; omega
  have hj : (BitVec.ofNat 32 j.val).toInt = j.val := by
    rw [BitVec.toInt_ofNat']; have := j.isLt; rw [Int.bmod_def]; omega
  by_cases hij : j ≤ i
  · rw [if_pos hij, IntOp.cmpi_sle, hi, hj]; exact_mod_cast hij
  · rw [if_neg hij]
    have hn : ¬ IntOp.cmpi .sle (BitVec.ofNat 32 j.val) (BitVec.ofNat 32 i.val) = 1#1 := by
      rw [IntOp.cmpi_sle, hi, hj]; exact_mod_cast hij
    generalize IntOp.cmpi .sle (BitVec.ofNat 32 j.val) (BitVec.ofNat 32 i.val) = b at hn
    revert b; decide

variable {x : Inp} {q k : FVec Ideal S8192x1024 .bf16} {v : FVec Ideal S8192x512 .bf16} {g : FVec Ideal S8192x512 .f32}
  (hx : Holds x q k v g) (h : Fin 4) (i j : Fin 8192)

theorem sel_if {α : Type} (c : Prop) [Decidable c] (a b : α) : Scalar.select (if c then 1#1 else 0#1) a b = if c then a else b := by
  split <;> rfl

theorem rootV_at (y : S_.Idx) : rootV y = ((√192 : ℝ) : EReal) := by
  pointwise [rootV]
  exact root_coe

include hx in
theorem sc_at : sc q k (ix3 h i j) = if j ≤ i then (score x h i j : EReal) else ⊥ := by
  pointwise [sc, wide]
  rw [keep_at, sel_if, bits_bot]
  simp only [hx.q, hx.k, ← EReal.coe_mul, coe_sum, rootV_at, div_coe _ root_pos.ne']
  rfl

theorem mx_at (s : Sq) : mx s (ix2 h i) = Finset.fold (max : EReal → EReal → EReal) (⊥ : EReal) (fun l : Fin 8192 => (s (ix3 h i l) : EReal)) Finset.univ := by
  pointwise [mx]
  rw [bits_bot]

include hx in
theorem mx_real : ∃ M : ℝ, mx (sc q k) (ix2 h i) = (M : EReal) := by
  rw [mx_at]
  generalize hf : (fun l : Fin 8192 => (sc q k (ix3 h i l) : EReal)) = f
  have hl : ∀ l, f l = if l ≤ i then (score x h i l : EReal) else ⊥ := fun l => by rw [← hf]; exact sc_at hx h i l
  refine fold_max_real f (fun l => ?_) i ?_
  · rw [hl]; split
    · exact EReal.coe_ne_top _
    · exact bot_ne_top
  · rw [hl, if_pos le_rfl]; exact EReal.coe_ne_bot _

theorem atLeast_at (r : Row) (y : S4x8192.Idx) : atLeast r y = r y := by
  pointwise [atLeast]
  rw [bits_bot]
  exact max_eq_right bot_le

theorem mx'_at (s : Sq) : mx' s (ix2 h i) = mx s (ix2 h i) := atLeast_at (mx s) (ix2 h i)

/-- The real scale by which the exponentials are the softmax's. -/
def E (x : Inp) (M : ℝ) (h : Fin 4) (i j : Fin 8192) : ℝ := if j ≤ i then Real.exp (score x h i j - M) else 0

include hx in
theorem ex_at {r : Row} {M : ℝ} (hM : r (ix2 h i) = (M : EReal)) : ex (sc q k) r (ix3 h i j) = (E x M h i j : EReal) := by
  pointwise [ex, over, col]
  rw [sc_at hx, hM, E]
  split
  · rw [← EReal.coe_sub, exp_coe]
  · rw [EReal.bot_sub]; rfl

theorem total_at (s : Sq) : total s (ix2 h i) = ∑ j, s (ix3 h i j) := by
  pointwise [total]

theorem E_sum (M : ℝ) : ∑ j, E x M h i j = Z x h i * Real.exp (-M) := by
  rw [Z, Finset.sum_mul]
  refine Finset.sum_congr rfl fun j _ => ?_
  rw [E]; split
  · rw [← Real.exp_add]; rfl
  · rw [zero_mul]

theorem E_eq (M : ℝ) : E x M h i j = p x h i j * (Z x h i * Real.exp (-M)) := by
  have hZ := (Z_pos x h i).ne'
  rw [E, p]; split
  · rw [sub_eq_add_neg, Real.exp_add]; field_simp
  · rw [zero_mul]

include hx in
theorem total_ex {r : Row} {M : ℝ} (hM : r (ix2 h i) = (M : EReal)) : total (ex (sc q k) r) (ix2 h i) = ((Z x h i * Real.exp (-M) : ℝ) : EReal) := by
  rw [total_at]
  simp only [ex_at hx h i _ hM, coe_sum, E_sum]

theorem den_ne (M : ℝ) : Z x h i * Real.exp (-M) ≠ 0 := (mul_pos (Z_pos x h i) (Real.exp_pos _)).ne'

include hx in
theorem soft_at {r : Row} {M : ℝ} (hM : r (ix2 h i) = (M : EReal)) : soft (ex (sc q k) r) (ix3 h i j) = (p x h i j : EReal) := by
  pointwise [soft, over, col]
  rw [total_ex hx h i hM, ex_at hx h i j hM, div_coe _ (den_ne h i M), E_eq, mul_div_assoc, div_self (den_ne h i M), mul_one]

include hx in
theorem softmax_at : soft (ex (sc q k) (mx' (sc q k))) (ix3 h i j) = (p x h i j : EReal) := by
  obtain ⟨M, hM⟩ := mx_real hx h i
  exact soft_at hx h i j ((mx'_at h i _).trans hM)

include hx in
theorem dpV_at : dpV v g (ix3 h i j) = (dp x h i j : EReal) := by
  pointwise [dpV, grad, narrow]
  simp only [hx.v, hx.g, ← EReal.coe_mul, coe_sum]
  rfl

theorem ds_term (M : ℝ) : (dp x h i j / (Z x h i * Real.exp (-M))
      + -∑ l, dp x h i l * (1 / ((Z x h i * Real.exp (-M)) * (Z x h i * Real.exp (-M)))) * E x M h i l) * E x M h i j = ds x h i j := by
  have hL := den_ne (x := x) h i M
  have hs : ∑ l, dp x h i l * (1 / ((Z x h i * Real.exp (-M)) * (Z x h i * Real.exp (-M)))) * E x M h i l
      = delta x h i / (Z x h i * Real.exp (-M)) := by
    rw [delta, Finset.sum_div]
    refine Finset.sum_congr rfl fun l _ => ?_
    rw [E_eq]; field_simp
  rw [hs, E_eq, ds]
  clear hs
  generalize Z x h i * Real.exp (-M) = L at hL
  field_simp
  ring

include hx in
theorem dsV_at {r : Row} {M : ℝ} (hM : r (ix2 h i) = (M : EReal)) :
    dsV (dpV v g) (ex (sc q k) r) (ix3 h i j) = ((ds x h i j / √192 : ℝ) : EReal) := by
  pointwise [dsV, over, col]
  rw [keep_at, sel_if, rootV_at]
  simp only [total_at, total_ex hx h i hM]
  pointwise
  simp only [total_ex hx h i hM, ex_at hx h i _ hM, dpV_at hx, div_coe _ (den_ne h i M)]
  rw [Finset.univ_unique, Finset.sum_singleton, ← EReal.coe_mul, ← EReal.coe_one, div_coe _ (mul_ne_zero (den_ne h i M) (den_ne h i M))]
  simp only [← EReal.coe_mul, coe_sum, ← EReal.coe_neg, ← EReal.coe_add]
  rw [ds_term]
  by_cases hij : j ≤ i
  · rw [if_pos hij, div_coe _ root_pos.ne']
  · rw [if_neg hij, ds_of_lt x h (not_le.mp hij), ← EReal.coe_zero, div_coe _ root_pos.ne']

include hx in
theorem dsW_at : dsV (dpV v g) (ex (sc q k) (mx' (sc q k))) (ix3 h i j) = ((ds x h i j / √192 : ℝ) : EReal) := by
  obtain ⟨M, hM⟩ := mx_real hx h i
  exact dsV_at hx h i j ((mx'_at h i _).trans hM)

include hx in
theorem outQ_at (d : Fin 256) (hd : h.val * 256 + d.val < 1024) : outQ q k v g (ix2 i ⟨h.val * 256 + d.val, hd⟩) = (gq x h i d : EReal) := by
  pointwise [outQ, wide]
  simp only [dsW_at hx, hx.k, ← EReal.coe_mul, coe_sum]
  rw [gq, Finset.sum_div]
  exact congrArg _ (Finset.sum_congr rfl fun l _ => by ring)

include hx in
theorem outK_at (d : Fin 256) (hd : h.val * 256 + d.val < 1024) : outK q k v g (ix2 j ⟨h.val * 256 + d.val, hd⟩) = (gk x h j d : EReal) := by
  pointwise [outK, wide]
  simp only [dsW_at hx, hx.q, ← EReal.coe_mul, coe_sum]
  rw [gk, Finset.sum_div]
  exact congrArg _ (Finset.sum_congr rfl fun l _ => by ring)

include hx in
theorem outV_at (d : Fin 128) (hd : h.val * 128 + d.val < 512) : outV q k g (ix2 j ⟨h.val * 128 + d.val, hd⟩) = (gv x h j d : EReal) := by
  pointwise [outV, grad]
  simp only [softmax_at hx, hx.g, ← EReal.coe_mul, coe_sum]
  rw [gv]
  exact congrArg _ (Finset.sum_congr rfl fun l _ => mul_comm _ _)

include hx in
theorem outO_at (d : Fin 128) (hd : h.val * 128 + d.val < 512) : outO q k v (ix2 i ⟨h.val * 128 + d.val, hd⟩) = (o x h i d : EReal) := by
  pointwise [outO, narrow]
  simp only [softmax_at hx, hx.v, ← EReal.coe_mul, coe_sum]
  rfl

end Cert.Proof.Attn
-- ==== Proof.Step.lean ====
/- What one block row of queries adds to the three gradients, and what a whole grid point does, as functions of contents. -/
module

public import proofs.«01_k».proof.Proof.Gen.KernelIdeal.Skeleton
public import Idealize.ShloMosaic.Lib.VecWindow

@[expose] public section

noncomputable section

namespace Cert.Proof.Bwd

open Cert.KernelIdeal Cert.KernelIdeal.Gen
open Idealize.ShloMosaic Idealize.ShloMosaic.TcCoe

variable {F : FTy → Type} [FloatOps F] [Named F]

/-- What a grid point reads: the head's queries, the block's keys and values, the head's row of log-sum-exps (the first of the eight equal rows is read), the
    head's row of `δ`, and the upstream gradient in the narrow format. -/
structure Ins (F : FTy → Type) where
  q : Vec F S8192x256 .bf16
  k : Vec F S512x256 .bf16
  v : Vec F S512x128 .bf16
  lse : Vec F S1x8x8192 .f32
  dl : Vec F S8x8192 .f32
  d16 : Vec F S8192x128 .bf16

/-- What a grid point writes: the head's gradient of the queries, and the block's gradients of the keys and the values. -/
structure Outs (F : FTy → Type) where
  dq : Vec F S8192x256 .f32
  dk : Vec F S512x256 .f32
  dv : Vec F S512x128 .f32

theorem rowQ_inb (r : Fin 16) : ∀ a, (![512 * r.val, 0] : Fin 2 → ℕ) a + S512x256.size a ≤ S8192x256.size a := by decide +revert +kernel
theorem rowD_inb (r : Fin 16) : ∀ a, (![512 * r.val, 0] : Fin 2 → ℕ) a + S512x128.size a ≤ S8192x128.size a := by decide +revert +kernel
theorem rowL_inb (r : Fin 16) : ∀ a, (![0, 0, 512 * r.val] : Fin 3 → ℕ) a + S1x1x512.size a ≤ S1x8x8192.size a := by decide +revert +kernel
theorem rowI_inb (r : Fin 16) : ∀ a, (![0, 512 * r.val] : Fin 2 → ℕ) a + S1x512.size a ≤ S8x8192.size a := by decide +revert +kernel

/-- Block row `r` of a 256-wide buffer. -/
def rowQ {e : EltTy} (x : Vec F S8192x256 e) (r : Fin 16) : Vec F S512x256 e := VecWindow.window x ![512 * r.val, 0] S512x256.size (rowQ_inb r)
/-- Block row `r` of a 128-wide buffer. -/
def rowD {e : EltTy} (x : Vec F S8192x128 e) (r : Fin 16) : Vec F S512x128 e := VecWindow.window x ![512 * r.val, 0] S512x128.size (rowD_inb r)
/-- The 512 log-sum-exps of block row `r`. -/
def rowL (x : Vec F S1x8x8192 .f32) (r : Fin 16) : Vec F S1x1x512 .f32 := VecWindow.window x ![0, 0, 512 * r.val] S1x1x512.size (rowL_inb r)
/-- The 512 entries of `δ` of block row `r`. -/
def rowI (x : Vec F S8x8192 .f32) (r : Fin 16) : Vec F S1x512 .f32 := VecWindow.window x ![0, 512 * r.val] S1x512.size (rowI_inb r)
/-- Block row `r` replaced. -/
def setQ (x : Vec F S8192x256 .f32) (r : Fin 16) (w : Vec F S512x256 .f32) : Vec F S8192x256 .f32 := VecWindow.put x ![512 * r.val, 0] S512x256.size w

/-- One block row strictly below the diagonal. -/
def step (I : Ins F) (r : Fin 16) (S : Outs F) : Outs F where
  dq := setQ S.dq r (k0_pay68 I.k (k0_pay39 I.k I.v (rowQ I.q r) (rowD I.d16 r) (rowL I.lse r) (rowI I.dl r)) (rowQ S.dq r))
  dk := k0_pay41 I.k I.v (rowQ I.q r) (rowD I.d16 r) (rowL I.lse r) (rowI I.dl r) S.dk
  dv := k0_pay40 I.k (rowQ I.q r) (rowD I.d16 r) (rowL I.lse r) S.dv

/-- The block row on the diagonal, its later keys masked. -/
def diag (I : Ins F) (r : Fin 16) (S : Outs F) : Outs F where
  dq := setQ S.dq r (k0_pay57 I.k (k0_pay51 I.k (rowQ I.q r) (rowL I.lse r)) (k0_pay52 I.v (rowD I.d16 r)) (k0_pay53 (rowI I.dl r)) (rowQ S.dq r))
  dk := k0_pay56 (rowQ I.q r) (k0_pay51 I.k (rowQ I.q r) (rowL I.lse r)) (k0_pay52 I.v (rowD I.d16 r)) (k0_pay53 (rowI I.dl r)) S.dk
  dv := k0_pay55 (rowD I.d16 r) (k0_pay51 I.k (rowQ I.q r) (rowL I.lse r)) S.dv

/-- The block row of number `n`. -/
def blk (n : ℕ) : Fin 16 := ⟨n % 16, Nat.mod_lt _ (by decide)⟩

theorem blk_val {n : ℕ} (h : n < 16) : (blk n).val = n := Nat.mod_eq_of_lt h

/-- The block rows `s, s + 1, …, s + n - 1`, in this order. -/
def up (I : Ins F) (s : ℕ) : ℕ → Outs F → Outs F
  | 0, S => S
  | n + 1, S => step I (blk (s + n)) (up I s n S)

/-- The block rows `15, 14, …, 16 - n`, in this order. -/
def down (I : Ins F) : ℕ → Outs F → Outs F
  | 0, S => S
  | n + 1, S => step I (blk (15 - n)) (down I n S)

/-- The whole of what a grid point of key block `j` adds: the diagonal, the rows below it in groups of four, the rest from the last one up. -/
def sweep (I : Ins F) (j : ℕ) (S : Outs F) : Outs F :=
  down I ((15 - j) % 4) (up I (j + 1) (4 * ((15 - j) / 4)) (diag I (blk j) S))

/-- What is staged at a head's first grid point: `δ` row by row … -/
def stageI (dO o : Vec F S8192x128 .f32) : ℕ → Vec F S8x8192 .f32 → Vec F S8x8192 .f32
  | 0, x => x
  | n + 1, x => VecWindow.put (stageI dO o n x) ![0, 512 * (blk n).val] S8x512.size (k0_pay47 (rowD dO (blk n)) (rowD o (blk n)))

/-- … and the upstream gradient in the narrow format. -/
def stageD (dO : Vec F S8192x128 .f32) : ℕ → Vec F S8192x128 .bf16 → Vec F S8192x128 .bf16
  | 0, x => x
  | n + 1, x => VecWindow.put (stageD dO n x) ![512 * (blk n).val, 0] S512x128.size (k0_pay48 (rowD dO (blk n)))

end Cert.Proof.Bwd
-- ==== Proof.Tile.lean ====
module

public import proofs.«01_k».proof.Proof.Attn
public import proofs.«01_k».proof.Proof.Step

/-! One tile of the backward call, on real inputs: the weights and the score gradients of 512 queries and 512 keys, and
    what the tile adds to the three gradients. -/

@[expose] public section

noncomputable section

namespace Cert.Proof.Tile

open Idealize Idealize.ShloMosaic Idealize.ShloMosaic.TcCoe
open Cert.KernelIdeal Cert.KernelIdeal.Gen
open Cert.Proof.Math

/-- Row `a` of block `r`. -/
def row (r : Fin 16) (a : Fin 512) : Fin 8192 := finProdFinEquiv (r, a)

theorem row_val (r : Fin 16) (a : Fin 512) : (row r a).val = a.val + 512 * r.val := rfl

theorem sum_row (f : Fin 8192 → ℝ) : ∑ r, ∑ a, f (row r a) = ∑ i, f i := by
  rw [← Fintype.sum_prod_type' (f := fun r a => f (row r a))]
  exact Equiv.sum_comp (finProdFinEquiv (m := 16) (n := 512)) f

theorem named_scale2 : (Named.named (F := Ideal) κ "scale2" (φ := .f32) 0x3DD53B95#32 : EReal) = (((√192)⁻¹ * (Real.log 2)⁻¹ : ℝ) : EReal) := rfl
theorem named_scale : (Named.named (F := Ideal) κ "scale" (φ := .f32) 0x3D93CD3A#32 : EReal) = (((√192)⁻¹ : ℝ) : EReal) := rfl
theorem named_mask : (Named.named (F := Ideal) κ "mask" (φ := .f32) 0xF149F2CA#32 : EReal) = ⊥ := rfl

theorem cmpi_le (b a : Fin 512) : IntOp.cmpi .sle (BitVec.ofNat 32 b.val) (BitVec.ofNat 32 a.val) = if b ≤ a then 1#1 else 0#1 := by
  have ha : (BitVec.ofNat 32 a.val).toInt = a.val := by
    rw [BitVec.toInt_ofNat']; have := a.isLt; rw [Int.bmod_def]; omega
  have hb : (BitVec.ofNat 32 b.val).toInt = b.val := by
    rw [BitVec.toInt_ofNat']; have := b.isLt; rw [Int.bmod_def]; omega
  by_cases hba : b ≤ a
  · rw [if_pos hba, IntOp.cmpi_sle, hb, ha]; exact_mod_cast hba
  · rw [if_neg hba]
    have hn : ¬ IntOp.cmpi .sle (BitVec.ofNat 32 b.val) (BitVec.ofNat 32 a.val) = 1#1 := by
      rw [IntOp.cmpi_sle, hb, ha]; exact fun hc => hba (by exact_mod_cast hc)
    generalize IntOp.cmpi .sle (BitVec.ofNat 32 b.val) (BitVec.ofNat 32 a.val) = c at hn ⊢
    revert c; decide

variable (x : Inp) (h : Fin 4) (j r : Fin 16)

/-- What a tile of key block `j` and query block `r` reads. -/
structure Reads (K Q : FVec Ideal S512x256 .bf16) (V G : FVec Ideal S512x128 .bf16) (L : FVec Ideal S1x1x512 .f32) (D : FVec Ideal S1x512 .f32) : Prop where
  k : ∀ (b : Fin 512) (d : Fin 256), K (ix2 b d) = (x.k h (row j b) d : EReal)
  q : ∀ (a : Fin 512) (d : Fin 256), Q (ix2 a d) = (x.q h (row r a) d : EReal)
  v : ∀ (b : Fin 512) (d : Fin 128), V (ix2 b d) = (x.v h (row j b) d : EReal)
  g : ∀ (a : Fin 512) (d : Fin 128), G (ix2 a d) = (x.g h (row r a) d : EReal)
  l : ∀ a : Fin 512, L (ix3 0 0 a) = ((Real.log (Z x h (row r a)) / Real.log 2 : ℝ) : EReal)
  d : ∀ a : Fin 512, D (ix2 0 a) = (delta x h (row r a) : EReal)

variable {x h j r} {K Q : FVec Ideal S512x256 .bf16} {V G : FVec Ideal S512x128 .bf16} {L : FVec Ideal S1x1x512 .f32} {D : FVec Ideal S1x512 .f32}
  (H : Reads x h j r K Q V G L D)

theorem pay38_apply (K Q : FVec Ideal S512x256 .bf16) (L : FVec Ideal S1x1x512 .f32) (b a : Fin 512) :
    k0_pay38 (F := Ideal) K Q L (ix2 b a) = Ideal.exp2 ((∑ d : Fin 256, K (ix2 b d) * Q (ix2 a d)) * (((√192)⁻¹ * (Real.log 2)⁻¹ : ℝ) : EReal) - L (ix3 0 0 a)) := by
  pointwise [k0_pay38]
  rw [named_scale2]; rfl

theorem pay51_apply (K Q : FVec Ideal S512x256 .bf16) (L : FVec Ideal S1x1x512 .f32) (b a : Fin 512) :
    k0_pay51 (F := Ideal) K Q L (ix2 b a) = Ideal.exp2 (if b ≤ a then (∑ d : Fin 256, K (ix2 b d) * Q (ix2 a d)) * (((√192)⁻¹ * (Real.log 2)⁻¹ : ℝ) : EReal) - L (ix3 0 0 a) else ⊥) := by
  pointwise [k0_pay51]
  rw [named_scale2, named_mask, cmpi_le, Attn.sel_if]; rfl

theorem pay39_apply (a b : Fin 512) :
    k0_pay39 (F := Ideal) K V Q G L D (ix2 b a) = k0_pay38 (F := Ideal) K Q L (ix2 b a) * ((∑ d : Fin 128, V (ix2 b d) * G (ix2 a d)) - D (ix2 0 a)) := by
  pointwise [k0_pay39]

theorem pay54_apply (W : FVec Ideal S512x512 .f32) (a b : Fin 512) :
    k0_pay54 (F := Ideal) W (k0_pay52 (F := Ideal) V G) (k0_pay53 (F := Ideal) D) (ix2 b a) = W (ix2 b a) * ((∑ d : Fin 128, V (ix2 b d) * G (ix2 a d)) - D (ix2 0 a)) := by
  pointwise [k0_pay54, k0_pay52, k0_pay53]

theorem pay40_apply (S : FVec Ideal S512x128 .f32) (b : Fin 512) (d : Fin 128) :
    k0_pay40 (F := Ideal) K Q G L S (ix2 b d) = S (ix2 b d) + ∑ a : Fin 512, k0_pay38 (F := Ideal) K Q L (ix2 b a) * G (ix2 a d) := by
  pointwise [k0_pay40]

theorem pay41_apply (S : FVec Ideal S512x256 .f32) (b : Fin 512) (d : Fin 256) :
    k0_pay41 (F := Ideal) K V Q G L D S (ix2 b d) = S (ix2 b d) + ∑ a : Fin 512, k0_pay39 (F := Ideal) K V Q G L D (ix2 b a) * Q (ix2 a d) := by
  pointwise [k0_pay41]

theorem pay68_apply (T : FVec Ideal S512x512 .f32) (S : FVec Ideal S512x256 .f32) (a : Fin 512) (d : Fin 256) :
    k0_pay68 (F := Ideal) K T S (ix2 a d) = S (ix2 a d) + ∑ b : Fin 512, T (ix2 b a) * K (ix2 b d) := by
  pointwise [k0_pay68]

theorem pay55_apply (W : FVec Ideal S512x512 .f32) (S : FVec Ideal S512x128 .f32) (b : Fin 512) (d : Fin 128) :
    k0_pay55 (F := Ideal) G W S (ix2 b d) = S (ix2 b d) + ∑ a : Fin 512, W (ix2 b a) * G (ix2 a d) := by
  pointwise [k0_pay55]

theorem pay56_apply (W P' D' : FVec Ideal S512x512 .f32) (S : FVec Ideal S512x256 .f32) (b : Fin 512) (d : Fin 256) :
    k0_pay56 (F := Ideal) Q W P' D' S (ix2 b d) = S (ix2 b d) + ∑ a : Fin 512, k0_pay54 (F := Ideal) W P' D' (ix2 b a) * Q (ix2 a d) := by
  pointwise [k0_pay56]

theorem pay57_apply (W P' D' : FVec Ideal S512x512 .f32) (S : FVec Ideal S512x256 .f32) (a : Fin 512) (d : Fin 256) :
    k0_pay57 (F := Ideal) K W P' D' S (ix2 a d) = S (ix2 a d) + ∑ b : Fin 512, k0_pay54 (F := Ideal) W P' D' (ix2 b a) * K (ix2 b d) := by
  pointwise [k0_pay57]

theorem pay47_apply (G O : FVec Ideal S512x128 .f32) (e : Fin 8) (a : Fin 512) :
    k0_pay47 (F := Ideal) G O (ix2 e a) = ∑ _x : Fin 128, ((1 / 128 : ℝ) : EReal) * ∑ d : Fin 128, G (ix2 a d) * O (ix2 a d) := by
  pointwise [k0_pay47]
  rw [bits_lane]

theorem pay48_apply (G : FVec Ideal S512x128 .f32) (y : S512x128.Idx) : k0_pay48 (F := Ideal) G y = G y := by
  pointwise [k0_pay48]

theorem pay49_apply (y : S512x256.Idx) : k0_pay49 (F := Ideal) y = 0 := by
  pointwise [k0_pay49]
theorem pay50_apply (y : S512x128.Idx) : k0_pay50 (F := Ideal) y = 0 := by
  pointwise [k0_pay50]
theorem pay46_apply (y : S8192x256.Idx) : k0_pay46 (F := Ideal) y = 0 := by
  pointwise [k0_pay46]
theorem pay1_apply (S : FVec Ideal S8192x256 .f32) (y : S8192x256.Idx) : k0_pay1 (F := Ideal) S y = S y * (((√192)⁻¹ : ℝ) : EReal) := by
  pointwise [k0_pay1]
  rfl
theorem pay70_apply (S : FVec Ideal S512x256 .f32) (y : S512x256.Idx) : k0_pay70 (F := Ideal) S y = S y * (((√192)⁻¹ : ℝ) : EReal) := by
  pointwise [k0_pay70]
  rfl

/-- What the tile adds to the gradients of the queries, the keys and the values. -/
def cq (x : Inp) (h : Fin 4) (j r : Fin 16) (a : Fin 512) (d : Fin 256) : ℝ := ∑ b, ds x h (row r a) (row j b) * x.k h (row j b) d
def ck (x : Inp) (h : Fin 4) (j r : Fin 16) (b : Fin 512) (d : Fin 256) : ℝ := ∑ a, ds x h (row r a) (row j b) * x.q h (row r a) d
def cv (x : Inp) (h : Fin 4) (j r : Fin 16) (b : Fin 512) (d : Fin 128) : ℝ := ∑ a, p x h (row r a) (row j b) * x.g h (row r a) d

include H

theorem weight (a b : Fin 512) :
    Ideal.exp2 ((∑ d : Fin 256, K (ix2 b d) * Q (ix2 a d)) * (((√192)⁻¹ * (Real.log 2)⁻¹ : ℝ) : EReal) - L (ix3 0 0 a)) = ((Real.exp (score x h (row r a) (row j b)) / Z x h (row r a) : ℝ) : EReal) := by
  simp only [H.k, H.q, H.l, ← EReal.coe_mul, coe_sum, ← EReal.coe_sub, exp2_coe]
  rw [rpow_weight _ (Z_pos x h _), score]
  simp only [mul_comm (x.k h _ _)]

theorem weight_below (hjr : j < r) (a b : Fin 512) : k0_pay38 (F := Ideal) K Q L (ix2 b a) = (p x h (row r a) (row j b) : EReal) := by
  rw [pay38_apply, weight H, p, if_pos]
  have := a.isLt; have := b.isLt
  rw [Fin.le_def, row_val, row_val]
  rw [Fin.lt_def] at hjr
  omega

theorem weight_diag (hjr : j = r) (a b : Fin 512) : k0_pay51 (F := Ideal) K Q L (ix2 b a) = (p x h (row r a) (row j b) : EReal) := by
  rw [pay51_apply, p]
  subst hjr
  have : row j b ≤ row j a ↔ b ≤ a := by rw [Fin.le_def, Fin.le_def, row_val, row_val]; omega
  by_cases hba : b ≤ a
  · rw [if_pos hba, weight H, if_pos (this.mpr hba)]
  · rw [if_neg hba, if_neg (fun hc => hba (this.mp hc))]; rfl

theorem slope (a b : Fin 512) : (p x h (row r a) (row j b) : EReal) * ((∑ d : Fin 128, V (ix2 b d) * G (ix2 a d)) - D (ix2 0 a)) = (ds x h (row r a) (row j b) : EReal) := by
  simp only [H.v, H.g, H.d, ← EReal.coe_mul, coe_sum, ← EReal.coe_sub, ds, dp]
  simp only [mul_comm (x.v h _ _)]

theorem slope_below (hjr : j < r) (a b : Fin 512) : k0_pay39 (F := Ideal) K V Q G L D (ix2 b a) = (ds x h (row r a) (row j b) : EReal) := by
  rw [pay39_apply, weight_below H hjr, slope H]

theorem slope_diag (hjr : j = r) (a b : Fin 512) :
    k0_pay54 (F := Ideal) (k0_pay51 (F := Ideal) K Q L) (k0_pay52 (F := Ideal) V G) (k0_pay53 (F := Ideal) D) (ix2 b a) = (ds x h (row r a) (row j b) : EReal) := by
  rw [pay54_apply, weight_diag H hjr, slope H]

theorem dv_below (hjr : j < r) (S : FVec Ideal S512x128 .f32) (b : Fin 512) (d : Fin 128) :
    k0_pay40 (F := Ideal) K Q G L S (ix2 b d) = S (ix2 b d) + (cv x h j r b d : EReal) := by
  rw [pay40_apply]
  simp only [weight_below H hjr, H.g, ← EReal.coe_mul, coe_sum]
  rfl

theorem dv_diag (hjr : j = r) (S : FVec Ideal S512x128 .f32) (b : Fin 512) (d : Fin 128) :
    k0_pay55 (F := Ideal) G (k0_pay51 (F := Ideal) K Q L) S (ix2 b d) = S (ix2 b d) + (cv x h j r b d : EReal) := by
  rw [pay55_apply]
  simp only [weight_diag H hjr, H.g, ← EReal.coe_mul, coe_sum]
  rfl

theorem dk_below (hjr : j < r) (S : FVec Ideal S512x256 .f32) (b : Fin 512) (d : Fin 256) :
    k0_pay41 (F := Ideal) K V Q G L D S (ix2 b d) = S (ix2 b d) + (ck x h j r b d : EReal) := by
  rw [pay41_apply]
  simp only [slope_below H hjr, H.q, ← EReal.coe_mul, coe_sum]
  rfl

theorem dk_diag (hjr : j = r) (S : FVec Ideal S512x256 .f32) (b : Fin 512) (d : Fin 256) :
    k0_pay56 (F := Ideal) Q (k0_pay51 (F := Ideal) K Q L) (k0_pay52 (F := Ideal) V G) (k0_pay53 (F := Ideal) D) S (ix2 b d) = S (ix2 b d) + (ck x h j r b d : EReal) := by
  rw [pay56_apply]
  simp only [slope_diag H hjr, H.q, ← EReal.coe_mul, coe_sum]
  rfl

theorem dq_below (hjr : j < r) (S : FVec Ideal S512x256 .f32) (a : Fin 512) (d : Fin 256) :
    k0_pay68 (F := Ideal) K (k0_pay39 (F := Ideal) K V Q G L D) S (ix2 a d) = S (ix2 a d) + (cq x h j r a d : EReal) := by
  rw [pay68_apply]
  simp only [slope_below H hjr, H.k, ← EReal.coe_mul, coe_sum]
  rfl

theorem dq_diag (hjr : j = r) (S : FVec Ideal S512x256 .f32) (a : Fin 512) (d : Fin 256) :
    k0_pay57 (F := Ideal) K (k0_pay51 (F := Ideal) K Q L) (k0_pay52 (F := Ideal) V G) (k0_pay53 (F := Ideal) D) S (ix2 a d) = S (ix2 a d) + (cq x h j r a d : EReal) := by
  rw [pay57_apply]
  simp only [slope_diag H hjr, H.k, ← EReal.coe_mul, coe_sum]
  rfl

end Cert.Proof.Tile
-- ==== Proof.FrontFinal.lean ====
module

public import proofs.«01_k».proof.Proof.FrontRun
public import proofs.«01_k».proof.Proof.FrontAll
public import proofs.«01_k».proof.Proof.Tile
public import Idealize.ShloMosaic.Lib.Pipeline.ValueKit
public import Idealize.ShloMosaic.Lib.Pipeline.Covers

/-! The arrays that the gradient kernel of the projections leaves. -/

@[expose] public section

set_option maxRecDepth 8192
noncomputable section

namespace Cert.Proof.Front

open Idealize Idealize.ShloMosaic Idealize.ShloMosaic.TcCoe
open Cert.Kernel2Ideal Cert.Kernel2Ideal.Gen
open Cert.Proof.Tile (row row_val)

/-- Sixteen points of 512 rows are all rows. -/
theorem sum_all {s : ℕ → EReal} {u : ℕ → Fin 512 → EReal} {T : Fin 8192 → EReal} (h0 : s 0 = ∑ a, u 0 a)
    (hs : ∀ n, s (n + 1) = s n + ∑ a, u (n + 1) a) (hu : ∀ (r : Fin 16) (a : Fin 512), u r.val a = T (row r a)) : s 15 = ∑ i, T i := by
  have h : ∀ n, s n = ∑ p ∈ Finset.range (n + 1), ∑ a, u p a := by
    intro n
    induction n with
    | zero => rw [h0, Finset.sum_range_one]
    | succ n ih => rw [hs, ih, Finset.sum_range_succ _ (n + 1)]
  rw [h, Finset.sum_range]
  have e : ∀ r : Fin 16, ∑ a, u r.val a = ∑ a, T (row r a) := fun r => Finset.sum_congr rfl fun a _ => hu r a
  refine (Finset.sum_congr rfl fun r _ => e r).trans ?_
  rw [← Fintype.sum_prod_type' (f := fun r a => T (row r a))]
  exact Equiv.sum_comp (finProdFinEquiv (m := 16) (n := 512)) T

variable (m : (ℓ : Loc nD τ sig) → Buf (Elt Ideal) ℓ) (c : Dev nD)

/-- The arrays at launch. -/
def all : All :=
  ⟨m (c.tc.loc main_arg0), m (c.tc.loc main_arg1), m (c.tc.loc main_arg2), m (c.tc.loc main_arg3), m (c.tc.loc main_arg4), m (c.tc.loc main_arg5), m (c.tc.loc main_arg6), m (c.tc.loc main_arg7), m (c.tc.loc main_arg8), m (c.tc.loc main_arg9), m (c.tc.loc main_arg10), m (c.tc.loc main_arg11), m (c.tc.loc main_arg12), m (c.tc.loc main_arg13), m (c.tc.loc main_arg14), m (c.tc.loc main_arg15), m (c.tc.loc main_arg16), m (c.tc.loc main_arg17), m (c.tc.loc main_arg18), m (c.tc.loc main_arg19), m (c.tc.loc main_arg20)⟩

theorem coord (t : Fin cfg0.N) : (BitVec.ofNat 32 (grid0.coords t 0).val).toNat = t.val := by
  have h : t.val < 16 := lt_of_lt_of_eq t.isLt N_0
  have e := Pipeline.Grid.coords_val (G := grid0) t 0 (S := 1) (B := 16) (by decide) rfl
  rw [e, BitVec.toNat_ofNat]
  omega

theorem pt_row (r : Fin 16) : (pt r.val).val = r.val := by
  have := r.isLt
  show min r.val 15 = r.val
  omega

/-- Point `t` as one of sixteen. -/
def six (t : Fin cfg0.N) : Fin 16 := ⟨t.val, lt_of_lt_of_eq t.isLt N_0⟩

theorem pt_six (t : Fin cfg0.N) : pt (six t).val = t := pt_val t

variable (r : Fin 16) (a : Fin 512)

theorem ins_x (k : Fin 1024) : (ins m c (pt r.val)).x (ix2 a k) = (all m c).x (ix2 (row r a) k) := by
  refine congrArg (V m c main_arg0) (funext fun b => Fin.ext ?_)
  refine ((cfg0.win 0).rect_emb_val (pt r.val) (ix2 a k : S512x1024.Idx) b).trans ?_
  match b with
  | 0 => show (BitVec.ofNat 32 (grid0.coords (pt r.val) 0).val).toNat * 512 + a.val = a.val + 512 * r.val; rw [coord, pt_row]; omega
  | 1 => show 0 * 1024 + k.val = k.val; omega

theorem ins_nw (t : Fin cfg0.N) (k : Fin 1024) : (ins m c t).nw (ix2 0 k) = (all m c).nw (ix2 0 k) := by
  refine congrArg (V m c main_arg1) (funext fun b => Fin.ext ?_)
  refine ((cfg0.win 1).rect_emb_val t (ix2 0 k : S1x1024.Idx) b).trans ?_
  match b with
  | 0 => show 0 * 1 + 0 = 0; omega
  | 1 => show 0 * 1024 + k.val = k.val; omega

theorem ins_sr (t : Fin cfg0.N) (k : Fin 1024) : (ins m c t).sr (ix2 0 k) = (all m c).sr (ix2 0 k) := by
  refine congrArg (V m c main_arg2) (funext fun b => Fin.ext ?_)
  refine ((cfg0.win 2).rect_emb_val t (ix2 0 k : S1x1024.Idx) b).trans ?_
  match b with
  | 0 => show 0 * 1 + 0 = 0; omega
  | 1 => show 0 * 1024 + k.val = k.val; omega

theorem ins_sb (t : Fin cfg0.N) (k : Fin 1024) : (ins m c t).sb (ix2 0 k) = (all m c).sb (ix2 0 k) := by
  refine congrArg (V m c main_arg3) (funext fun b => Fin.ext ?_)
  refine ((cfg0.win 3).rect_emb_val t (ix2 0 k : S1x1024.Idx) b).trans ?_
  match b with
  | 0 => show 0 * 1 + 0 = 0; omega
  | 1 => show 0 * 1024 + k.val = k.val; omega

theorem ins_hr (t : Fin cfg0.N) (k : Fin 1024) : (ins m c t).hr (ix2 0 k) = (all m c).hr (ix2 0 k) := by
  refine congrArg (V m c main_arg4) (funext fun b => Fin.ext ?_)
  refine ((cfg0.win 4).rect_emb_val t (ix2 0 k : S1x1024.Idx) b).trans ?_
  match b with
  | 0 => show 0 * 1 + 0 = 0; omega
  | 1 => show 0 * 1024 + k.val = k.val; omega

theorem ins_hb (t : Fin cfg0.N) (k : Fin 1024) : (ins m c t).hb (ix2 0 k) = (all m c).hb (ix2 0 k) := by
  refine congrArg (V m c main_arg5) (funext fun b => Fin.ext ?_)
  refine ((cfg0.win 5).rect_emb_val t (ix2 0 k : S1x1024.Idx) b).trans ?_
  match b with
  | 0 => show 0 * 1 + 0 = 0; omega
  | 1 => show 0 * 1024 + k.val = k.val; omega

theorem ins_w0 (t : Fin cfg0.N) (j : Fin 1024) (k : Fin 384) : (ins m c t).w0 (ix2 j k) = (all m c).w0 (ix2 j k) := by
  refine congrArg (V m c main_arg6) (funext fun b => Fin.ext ?_)
  refine ((cfg0.win 6).rect_emb_val t (ix2 j k : S1024x384.Idx) b).trans ?_
  match b with
  | 0 => show 0 * 1024 + j.val = j.val; omega
  | 1 => show 0 * 384 + k.val = k.val; omega

theorem ins_w1 (t : Fin cfg0.N) (j : Fin 1024) (k : Fin 256) : (ins m c t).w1 (ix2 j k) = (all m c).w1 (ix2 j k) := by
  refine congrArg (V m c main_arg7) (funext fun b => Fin.ext ?_)
  refine ((cfg0.win 7).rect_emb_val t (ix2 j k : S1024x256.Idx) b).trans ?_
  match b with
  | 0 => show 0 * 1024 + j.val = j.val; omega
  | 1 => show 0 * 256 + k.val = k.val; omega

theorem ins_w2 (t : Fin cfg0.N) (j : Fin 1024) (k : Fin 128) : (ins m c t).w2 (ix2 j k) = (all m c).w2 (ix2 j k) := by
  refine congrArg (V m c main_arg8) (funext fun b => Fin.ext ?_)
  refine ((cfg0.win 8).rect_emb_val t (ix2 j k : S1024x128.Idx) b).trans ?_
  match b with
  | 0 => show 0 * 1024 + j.val = j.val; omega
  | 1 => show 0 * 128 + k.val = k.val; omega

theorem ins_w3 (t : Fin cfg0.N) (j : Fin 1024) (k : Fin 512) : (ins m c t).w3 (ix2 j k) = (all m c).w3 (ix2 j k) := by
  refine congrArg (V m c main_arg9) (funext fun b => Fin.ext ?_)
  refine ((cfg0.win 9).rect_emb_val t (ix2 j k : S1024x512.Idx) b).trans ?_
  match b with
  | 0 => show 0 * 1024 + j.val = j.val; omega
  | 1 => show 0 * 512 + k.val = k.val; omega

theorem ins_w4 (t : Fin cfg0.N) (j : Fin 1024) (k : Fin 1536) : (ins m c t).w4 (ix2 j k) = (all m c).w4 (ix2 j k) := by
  refine congrArg (V m c main_arg10) (funext fun b => Fin.ext ?_)
  refine ((cfg0.win 10).rect_emb_val t (ix2 j k : S1024x1536.Idx) b).trans ?_
  match b with
  | 0 => show 0 * 1024 + j.val = j.val; omega
  | 1 => show 0 * 1536 + k.val = k.val; omega

theorem ins_w5 (t : Fin cfg0.N) (j : Fin 1024) (k : Fin 128) : (ins m c t).w5 (ix2 j k) = (all m c).w5 (ix2 j k) := by
  refine congrArg (V m c main_arg11) (funext fun b => Fin.ext ?_)
  refine ((cfg0.win 11).rect_emb_val t (ix2 j k : S1024x128.Idx) b).trans ?_
  match b with
  | 0 => show 0 * 1024 + j.val = j.val; omega
  | 1 => show 0 * 128 + k.val = k.val; omega

theorem ins_w6 (t : Fin cfg0.N) (j : Fin 1024) (k : Fin 512) : (ins m c t).w6 (ix2 j k) = (all m c).w6 (ix2 j k) := by
  refine congrArg (V m c main_arg12) (funext fun b => Fin.ext ?_)
  refine ((cfg0.win 12).rect_emb_val t (ix2 j k : S1024x512.Idx) b).trans ?_
  match b with
  | 0 => show 0 * 1024 + j.val = j.val; omega
  | 1 => show 0 * 512 + k.val = k.val; omega

theorem ins_d0 (k : Fin 384) : (ins m c (pt r.val)).d0 (ix2 a k) = (all m c).d0 (ix2 (row r a) k) := by
  refine congrArg (V m c main_arg13) (funext fun b => Fin.ext ?_)
  refine ((cfg0.win 13).rect_emb_val (pt r.val) (ix2 a k : S512x384.Idx) b).trans ?_
  match b with
  | 0 => show (BitVec.ofNat 32 (grid0.coords (pt r.val) 0).val).toNat * 512 + a.val = a.val + 512 * r.val; rw [coord, pt_row]; omega
  | 1 => show 0 * 384 + k.val = k.val; omega

theorem ins_d1 (k : Fin 256) : (ins m c (pt r.val)).d1 (ix2 a k) = (all m c).d1 (ix2 (row r a) k) := by
  refine congrArg (V m c main_arg14) (funext fun b => Fin.ext ?_)
  refine ((cfg0.win 14).rect_emb_val (pt r.val) (ix2 a k : S512x256.Idx) b).trans ?_
  match b with
  | 0 => show (BitVec.ofNat 32 (grid0.coords (pt r.val) 0).val).toNat * 512 + a.val = a.val + 512 * r.val; rw [coord, pt_row]; omega
  | 1 => show 0 * 256 + k.val = k.val; omega

theorem ins_d2 (k : Fin 128) : (ins m c (pt r.val)).d2 (ix2 a k) = (all m c).d2 (ix2 (row r a) k) := by
  refine congrArg (V m c main_arg15) (funext fun b => Fin.ext ?_)
  refine ((cfg0.win 15).rect_emb_val (pt r.val) (ix2 a k : S512x128.Idx) b).trans ?_
  match b with
  | 0 => show (BitVec.ofNat 32 (grid0.coords (pt r.val) 0).val).toNat * 512 + a.val = a.val + 512 * r.val; rw [coord, pt_row]; omega
  | 1 => show 0 * 128 + k.val = k.val; omega

theorem ins_d3 (k : Fin 512) : (ins m c (pt r.val)).d3 (ix2 a k) = (all m c).d3 (ix2 (row r a) k) := by
  refine congrArg (V m c main_arg16) (funext fun b => Fin.ext ?_)
  refine ((cfg0.win 16).rect_emb_val (pt r.val) (ix2 a k : S512x512.Idx) b).trans ?_
  match b with
  | 0 => show (BitVec.ofNat 32 (grid0.coords (pt r.val) 0).val).toNat * 512 + a.val = a.val + 512 * r.val; rw [coord, pt_row]; omega
  | 1 => show 0 * 512 + k.val = k.val; omega

theorem ins_d4 (k : Fin 1536) : (ins m c (pt r.val)).d4 (ix2 a k) = (all m c).d4 (ix2 (row r a) k) := by
  refine congrArg (V m c main_arg17) (funext fun b => Fin.ext ?_)
  refine ((cfg0.win 17).rect_emb_val (pt r.val) (ix2 a k : S512x1536.Idx) b).trans ?_
  match b with
  | 0 => show (BitVec.ofNat 32 (grid0.coords (pt r.val) 0).val).toNat * 512 + a.val = a.val + 512 * r.val; rw [coord, pt_row]; omega
  | 1 => show 0 * 1536 + k.val = k.val; omega

theorem ins_d5 (k : Fin 128) : (ins m c (pt r.val)).d5 (ix2 a k) = (all m c).d5 (ix2 (row r a) k) := by
  refine congrArg (V m c main_arg18) (funext fun b => Fin.ext ?_)
  refine ((cfg0.win 18).rect_emb_val (pt r.val) (ix2 a k : S512x128.Idx) b).trans ?_
  match b with
  | 0 => show (BitVec.ofNat 32 (grid0.coords (pt r.val) 0).val).toNat * 512 + a.val = a.val + 512 * r.val; rw [coord, pt_row]; omega
  | 1 => show 0 * 128 + k.val = k.val; omega

theorem ins_d6 (k : Fin 512) : (ins m c (pt r.val)).d6 (ix2 a k) = (all m c).d6 (ix2 (row r a) k) := by
  refine congrArg (V m c main_arg19) (funext fun b => Fin.ext ?_)
  refine ((cfg0.win 19).rect_emb_val (pt r.val) (ix2 a k : S512x512.Idx) b).trans ?_
  match b with
  | 0 => show (BitVec.ofNat 32 (grid0.coords (pt r.val) 0).val).toNat * 512 + a.val = a.val + 512 * r.val; rw [coord, pt_row]; omega
  | 1 => show 0 * 512 + k.val = k.val; omega

theorem ins_sk (k : Fin 1024) : (ins m c (pt r.val)).sk (ix2 a k) = (all m c).sk (ix2 (row r a) k) := by
  refine congrArg (V m c main_arg20) (funext fun b => Fin.ext ?_)
  refine ((cfg0.win 20).rect_emb_val (pt r.val) (ix2 a k : S512x1024.Idx) b).trans ?_
  match b with
  | 0 => show (BitVec.ofNat 32 (grid0.coords (pt r.val) 0).val).toNat * 512 + a.val = a.val + 512 * r.val; rw [coord, pt_row]; omega
  | 1 => show 0 * 1024 + k.val = k.val; omega

theorem sums_zero : sums m c 0 = Acc.step (ins m c (pt 0)) Acc.zero := rfl
theorem sums_succ (n : ℕ) : sums m c (n + 1) = Acc.step (ins m c (pt (n + 1))) (sums m c n) := rfl

theorem ins_dh : (ins m c (pt r.val)).dhRow a = (all m c).dhRow (row r a) := by
  unfold Ins.dhRow All.dhRow
  simp only [ins_d0, ins_w0, ins_d1, ins_w1, ins_d2, ins_w2, ins_d3, ins_w3, ins_d4, ins_w4, ins_d5, ins_w5, ins_d6, ins_w6]

theorem ins_h : (ins m c (pt r.val)).hRow a = (all m c).hRow (row r a) := by
  unfold Ins.hRow All.hRow
  simp only [ins_x, ins_nw, ins_sr, ins_sb, ins_hr, ins_hb]
  rfl

theorem ins_dx (k : Fin 1024) : (ins m c (pt r.val)).dx (ix2 a k) = (all m c).gdx (row r a) k := by
  rw [Ins.dx_at]
  simp only [ins_x, ins_nw, ins_sr, ins_sb, ins_sk, ins_dh]
  rfl

theorem sums_nw (k : Fin 1024) : (sums m c 15).nw (ix2 0 k) = ∑ i, (all m c).tnw i k := by
  have h0 : (sums m c 0).nw (ix2 0 k) = _ := (congrArg (fun S : Acc Ideal => S.nw (ix2 0 k)) (sums_zero m c)).trans (step_nw (ins m c (pt 0)) Acc.zero k)
  have hs : ∀ n, (sums m c (n + 1)).nw (ix2 0 k) = _ := fun n => (congrArg (fun S : Acc Ideal => S.nw (ix2 0 k)) (sums_succ m c n)).trans (step_nw (ins m c (pt (n + 1))) (sums m c n) k)
  rw [zero_apply.1, zero_add] at h0
  exact sum_all (s := fun n => (sums m c n).nw (ix2 0 k)) (u := fun n a => (ins m c (pt n)).x (ix2 a k) * (rs fun k => (ins m c (pt n)).x (ix2 a k)) * ((ins m c (pt n)).dhRow a k * sc (fun k => (ins m c (pt n)).sr (ix2 0 k)) (fun k => (ins m c (pt n)).sb (ix2 0 k)) k)) (T := fun i => (all m c).tnw i k) h0 hs fun r a => by
    simp only [ins_x, ins_dh, ins_sr, ins_sb]
    rfl

theorem sums_sr (k : Fin 1024) : (sums m c 15).sr (ix2 0 k) = ∑ i, (all m c).tsc i k := by
  have h0 : (sums m c 0).sr (ix2 0 k) = _ := (congrArg (fun S : Acc Ideal => S.sr (ix2 0 k)) (sums_zero m c)).trans (step_sr (ins m c (pt 0)) Acc.zero k)
  have hs : ∀ n, (sums m c (n + 1)).sr (ix2 0 k) = _ := fun n => (congrArg (fun S : Acc Ideal => S.sr (ix2 0 k)) (sums_succ m c n)).trans (step_sr (ins m c (pt (n + 1))) (sums m c n) k)
  rw [zero_apply.2.1, zero_add] at h0
  exact sum_all (s := fun n => (sums m c n).sr (ix2 0 k)) (u := fun n a => (ins m c (pt n)).x (ix2 a k) * (rs fun k => (ins m c (pt n)).x (ix2 a k)) * (ins m c (pt n)).nw (ix2 0 k) * (ins m c (pt n)).dhRow a k) (T := fun i => (all m c).tsc i k) h0 hs fun r a => by
    simp only [ins_x, ins_nw, ins_dh]
    rfl

theorem sums_sb (k : Fin 1024) : (sums m c 15).sb (ix2 0 k) = ∑ i, (all m c).tsc i k := by
  have h0 : (sums m c 0).sb (ix2 0 k) = _ := (congrArg (fun S : Acc Ideal => S.sb (ix2 0 k)) (sums_zero m c)).trans (step_sb (ins m c (pt 0)) Acc.zero k)
  have hs : ∀ n, (sums m c (n + 1)).sb (ix2 0 k) = _ := fun n => (congrArg (fun S : Acc Ideal => S.sb (ix2 0 k)) (sums_succ m c n)).trans (step_sb (ins m c (pt (n + 1))) (sums m c n) k)
  rw [zero_apply.2.2.1, zero_add] at h0
  exact sum_all (s := fun n => (sums m c n).sb (ix2 0 k)) (u := fun n a => (ins m c (pt n)).x (ix2 a k) * (rs fun k => (ins m c (pt n)).x (ix2 a k)) * (ins m c (pt n)).nw (ix2 0 k) * (ins m c (pt n)).dhRow a k) (T := fun i => (all m c).tsc i k) h0 hs fun r a => by
    simp only [ins_x, ins_nw, ins_dh]
    rfl

theorem sums_hr (k : Fin 1024) : (sums m c 15).hr (ix2 0 k) = ∑ i, (all m c).dhRow i k := by
  have h0 : (sums m c 0).hr (ix2 0 k) = _ := (congrArg (fun S : Acc Ideal => S.hr (ix2 0 k)) (sums_zero m c)).trans (step_hr (ins m c (pt 0)) Acc.zero k)
  have hs : ∀ n, (sums m c (n + 1)).hr (ix2 0 k) = _ := fun n => (congrArg (fun S : Acc Ideal => S.hr (ix2 0 k)) (sums_succ m c n)).trans (step_hr (ins m c (pt (n + 1))) (sums m c n) k)
  rw [zero_apply.2.2.2.1, zero_add] at h0
  exact sum_all (s := fun n => (sums m c n).hr (ix2 0 k)) (u := fun n a => (ins m c (pt n)).dhRow a k) (T := fun i => (all m c).dhRow i k) h0 hs fun r a => by
    simp only [ins_dh]

theorem sums_hb (k : Fin 1024) : (sums m c 15).hb (ix2 0 k) = ∑ i, (all m c).dhRow i k := by
  have h0 : (sums m c 0).hb (ix2 0 k) = _ := (congrArg (fun S : Acc Ideal => S.hb (ix2 0 k)) (sums_zero m c)).trans (step_hb (ins m c (pt 0)) Acc.zero k)
  have hs : ∀ n, (sums m c (n + 1)).hb (ix2 0 k) = _ := fun n => (congrArg (fun S : Acc Ideal => S.hb (ix2 0 k)) (sums_succ m c n)).trans (step_hb (ins m c (pt (n + 1))) (sums m c n) k)
  rw [zero_apply.2.2.2.2.1, zero_add] at h0
  exact sum_all (s := fun n => (sums m c n).hb (ix2 0 k)) (u := fun n a => (ins m c (pt n)).dhRow a k) (T := fun i => (all m c).dhRow i k) h0 hs fun r a => by
    simp only [ins_dh]

theorem sums_w0 (k : Fin 1024) (j : Fin 384) : (sums m c 15).w0 (ix2 k j) = ∑ i, (all m c).d0 (ix2 i j) * (all m c).hRow i k := by
  have h0 : (sums m c 0).w0 (ix2 k j) = _ := (congrArg (fun S : Acc Ideal => S.w0 (ix2 k j)) (sums_zero m c)).trans (step_w0 (ins m c (pt 0)) Acc.zero k j)
  have hs : ∀ n, (sums m c (n + 1)).w0 (ix2 k j) = _ := fun n => (congrArg (fun S : Acc Ideal => S.w0 (ix2 k j)) (sums_succ m c n)).trans (step_w0 (ins m c (pt (n + 1))) (sums m c n) k j)
  rw [zero_apply.2.2.2.2.2.1, zero_add] at h0
  exact sum_all (s := fun n => (sums m c n).w0 (ix2 k j)) (u := fun n a => (ins m c (pt n)).d0 (ix2 a j) * (ins m c (pt n)).hRow a k) (T := fun i => (all m c).d0 (ix2 i j) * (all m c).hRow i k) h0 hs fun r a => by
    simp only [ins_d0, ins_h]

theorem sums_w1 (k : Fin 1024) (j : Fin 256) : (sums m c 15).w1 (ix2 k j) = ∑ i, (all m c).d1 (ix2 i j) * (all m c).hRow i k := by
  have h0 : (sums m c 0).w1 (ix2 k j) = _ := (congrArg (fun S : Acc Ideal => S.w1 (ix2 k j)) (sums_zero m c)).trans (step_w1 (ins m c (pt 0)) Acc.zero k j)
  have hs : ∀ n, (sums m c (n + 1)).w1 (ix2 k j) = _ := fun n => (congrArg (fun S : Acc Ideal => S.w1 (ix2 k j)) (sums_succ m c n)).trans (step_w1 (ins m c (pt (n + 1))) (sums m c n) k j)
  rw [zero_apply.2.2.2.2.2.2.1, zero_add] at h0
  exact sum_all (s := fun n => (sums m c n).w1 (ix2 k j)) (u := fun n a => (ins m c (pt n)).d1 (ix2 a j) * (ins m c (pt n)).hRow a k) (T := fun i => (all m c).d1 (ix2 i j) * (all m c).hRow i k) h0 hs fun r a => by
    simp only [ins_d1, ins_h]

theorem sums_w2 (k : Fin 1024) (j : Fin 128) : (sums m c 15).w2 (ix2 k j) = ∑ i, (all m c).d2 (ix2 i j) * (all m c).hRow i k := by
  have h0 : (sums m c 0).w2 (ix2 k j) = _ := (congrArg (fun S : Acc Ideal => S.w2 (ix2 k j)) (sums_zero m c)).trans (step_w2 (ins m c (pt 0)) Acc.zero k j)
  have hs : ∀ n, (sums m c (n + 1)).w2 (ix2 k j) = _ := fun n => (congrArg (fun S : Acc Ideal => S.w2 (ix2 k j)) (sums_succ m c n)).trans (step_w2 (ins m c (pt (n + 1))) (sums m c n) k j)
  rw [zero_apply.2.2.2.2.2.2.2.1, zero_add] at h0
  exact sum_all (s := fun n => (sums m c n).w2 (ix2 k j)) (u := fun n a => (ins m c (pt n)).d2 (ix2 a j) * (ins m c (pt n)).hRow a k) (T := fun i => (all m c).d2 (ix2 i j) * (all m c).hRow i k) h0 hs fun r a => by
    simp only [ins_d2, ins_h]

theorem sums_w3 (k : Fin 1024) (j : Fin 512) : (sums m c 15).w3 (ix2 k j) = ∑ i, (all m c).d3 (ix2 i j) * (all m c).hRow i k := by
  have h0 : (sums m c 0).w3 (ix2 k j) = _ := (congrArg (fun S : Acc Ideal => S.w3 (ix2 k j)) (sums_zero m c)).trans (step_w3 (ins m c (pt 0)) Acc.zero k j)
  have hs : ∀ n, (sums m c (n + 1)).w3 (ix2 k j) = _ := fun n => (congrArg (fun S : Acc Ideal => S.w3 (ix2 k j)) (sums_succ m c n)).trans (step_w3 (ins m c (pt (n + 1))) (sums m c n) k j)
  rw [zero_apply.2.2.2.2.2.2.2.2.1, zero_add] at h0
  exact sum_all (s := fun n => (sums m c n).w3 (ix2 k j)) (u := fun n a => (ins m c (pt n)).d3 (ix2 a j) * (ins m c (pt n)).hRow a k) (T := fun i => (all m c).d3 (ix2 i j) * (all m c).hRow i k) h0 hs fun r a => by
    simp only [ins_d3, ins_h]

theorem sums_w4 (k : Fin 1024) (j : Fin 1536) : (sums m c 15).w4 (ix2 k j) = ∑ i, (all m c).d4 (ix2 i j) * (all m c).hRow i k := by
  have h0 : (sums m c 0).w4 (ix2 k j) = _ := (congrArg (fun S : Acc Ideal => S.w4 (ix2 k j)) (sums_zero m c)).trans (step_w4 (ins m c (pt 0)) Acc.zero k j)
  have hs : ∀ n, (sums m c (n + 1)).w4 (ix2 k j) = _ := fun n => (congrArg (fun S : Acc Ideal => S.w4 (ix2 k j)) (sums_succ m c n)).trans (step_w4 (ins m c (pt (n + 1))) (sums m c n) k j)
  rw [zero_apply.2.2.2.2.2.2.2.2.2.1, zero_add] at h0
  exact sum_all (s := fun n => (sums m c n).w4 (ix2 k j)) (u := fun n a => (ins m c (pt n)).d4 (ix2 a j) * (ins m c (pt n)).hRow a k) (T := fun i => (all m c).d4 (ix2 i j) * (all m c).hRow i k) h0 hs fun r a => by
    simp only [ins_d4, ins_h]

theorem sums_w5 (k : Fin 1024) (j : Fin 128) : (sums m c 15).w5 (ix2 k j) = ∑ i, (all m c).d5 (ix2 i j) * (all m c).hRow i k := by
  have h0 : (sums m c 0).w5 (ix2 k j) = _ := (congrArg (fun S : Acc Ideal => S.w5 (ix2 k j)) (sums_zero m c)).trans (step_w5 (ins m c (pt 0)) Acc.zero k j)
  have hs : ∀ n, (sums m c (n + 1)).w5 (ix2 k j) = _ := fun n => (congrArg (fun S : Acc Ideal => S.w5 (ix2 k j)) (sums_succ m c n)).trans (step_w5 (ins m c (pt (n + 1))) (sums m c n) k j)
  rw [zero_apply.2.2.2.2.2.2.2.2.2.2.1, zero_add] at h0
  exact sum_all (s := fun n => (sums m c n).w5 (ix2 k j)) (u := fun n a => (ins m c (pt n)).d5 (ix2 a j) * (ins m c (pt n)).hRow a k) (T := fun i => (all m c).d5 (ix2 i j) * (all m c).hRow i k) h0 hs fun r a => by
    simp only [ins_d5, ins_h]

theorem sums_w6 (k : Fin 1024) (j : Fin 512) : (sums m c 15).w6 (ix2 k j) = ∑ i, (all m c).d6 (ix2 i j) * (all m c).hRow i k := by
  have h0 : (sums m c 0).w6 (ix2 k j) = _ := (congrArg (fun S : Acc Ideal => S.w6 (ix2 k j)) (sums_zero m c)).trans (step_w6 (ins m c (pt 0)) Acc.zero k j)
  have hs : ∀ n, (sums m c (n + 1)).w6 (ix2 k j) = _ := fun n => (congrArg (fun S : Acc Ideal => S.w6 (ix2 k j)) (sums_succ m c n)).trans (step_w6 (ins m c (pt (n + 1))) (sums m c n) k j)
  rw [zero_apply.2.2.2.2.2.2.2.2.2.2.2, zero_add] at h0
  exact sum_all (s := fun n => (sums m c n).w6 (ix2 k j)) (u := fun n a => (ins m c (pt n)).d6 (ix2 a j) * (ins m c (pt n)).hRow a k) (T := fun i => (all m c).d6 (ix2 i j) * (all m c).hRow i k) h0 hs fun r a => by
    simp only [ins_d6, ins_h]

/-! ### The arrays -/

theorem arr_dx (G : FVec Ideal S8192x1024 .f32) (hG : ∀ (i : Fin 8192) (k : Fin 1024), G (ix2 i k) = (all m c).gdx i k) :
    (dats m 0 c).arrAt 21 cfg0.N = G := by
  refine (dats m 0 c).arrAt_eq_of_covers 21 G (by decide +kernel) fun t hf y => ?_
  obtain ⟨a, ha⟩ : ∃ a : Fin 512, a.val = (y 0).val := ⟨y 0, rfl⟩
  obtain ⟨b, hb⟩ : ∃ b : Fin 1024, b.val = (y 1).val := ⟨y 1, rfl⟩
  have he : ((cfg0.win 21).blk t).view.emb y = (ix2 (row (six t) a) b : S8192x1024.Idx) := by
    funext k
    refine Fin.ext (((cfg0.win 21).rect_emb_val t y k).trans ?_)
    match k with
    | 0 => show (BitVec.ofNat 32 (grid0.coords t 0).val).toNat * 512 + (y 0).val = a.val + 512 * t.val; rw [coord]; omega
    | 1 => show 0 * 1024 + (y 1).val = b.val; omega
  have hy : (cfg0.win 21).xinj (cfg0.grid.coords t) y = (ix2 a b : (S512x1024).Idx) := by
    funext k
    match k with
    | 0 => exact Fin.ext ha.symm
    | 1 => exact Fin.ext hb.symm
  refine Eq.trans ?_ ((congrArg G he).trans (hG _ b)).symm
  refine (cast_eq _ _).trans ((congrFun (after_21 m c t) _).trans ((congrArg (ins m c t).dx hy).trans ?_))
  have e := ins_dx m c (six t) a b
  rwa [pt_six] at e

theorem arr_nw (G : FVec Ideal S1x1024 .f32) (hG : ∀ k : Fin 1024, G (ix2 0 k) = ∑ i, (all m c).tnw i k) :
    (dats m 0 c).arrAt 22 cfg0.N = G := by
  refine (dats m 0 c).arrAt_eq_of_covers 22 G (by decide +kernel) fun t hf y => ?_
  have h0 : (y 0).val < 1 := (y 0).isLt
  obtain ⟨b, hb⟩ : ∃ b : Fin 1024, b.val = (y 1).val := ⟨y 1, rfl⟩
  have he : ((cfg0.win 22).blk t).view.emb y = (ix2 0 b : S1x1024.Idx) := by
    funext k
    refine Fin.ext (((cfg0.win 22).rect_emb_val t y k).trans ?_)
    match k with
    | 0 => show 0 * 1 + (y 0).val = 0; omega
    | 1 => show 0 * 1024 + (y 1).val = b.val; omega
  have hy : (cfg0.win 22).xinj (cfg0.grid.coords t) y = (ix2 0 b : S1x1024.Idx) := by
    funext k
    match k with
    | 0 => exact Fin.ext (show (y 0).val = 0 by omega)
    | 1 => exact Fin.ext hb.symm
  have ht : t.val = 15 := by
    have h1 := (flush0_22 t).mp hf
    have h2 : t.val < 16 := lt_of_lt_of_eq t.isLt N_0
    omega
  refine Eq.trans ?_ ((congrArg G he).trans (hG b)).symm
  refine (cast_eq _ _).trans ((congrFun (after_22 m c t) _).trans ((congrArg (sums m c t.val).nw hy).trans ?_))
  rw [ht]
  exact sums_nw m c b

theorem arr_sr (G : FVec Ideal S1x1024 .f32) (hG : ∀ k : Fin 1024, G (ix2 0 k) = ∑ i, (all m c).tsc i k) :
    (dats m 0 c).arrAt 23 cfg0.N = G := by
  refine (dats m 0 c).arrAt_eq_of_covers 23 G (by decide +kernel) fun t hf y => ?_
  have h0 : (y 0).val < 1 := (y 0).isLt
  obtain ⟨b, hb⟩ : ∃ b : Fin 1024, b.val = (y 1).val := ⟨y 1, rfl⟩
  have he : ((cfg0.win 23).blk t).view.emb y = (ix2 0 b : S1x1024.Idx) := by
    funext k
    refine Fin.ext (((cfg0.win 23).rect_emb_val t y k).trans ?_)
    match k with
    | 0 => show 0 * 1 + (y 0).val = 0; omega
    | 1 => show 0 * 1024 + (y 1).val = b.val; omega
  have hy : (cfg0.win 23).xinj (cfg0.grid.coords t) y = (ix2 0 b : S1x1024.Idx) := by
    funext k
    match k with
    | 0 => exact Fin.ext (show (y 0).val = 0 by omega)
    | 1 => exact Fin.ext hb.symm
  have ht : t.val = 15 := by
    have h1 := (flush0_23 t).mp hf
    have h2 : t.val < 16 := lt_of_lt_of_eq t.isLt N_0
    omega
  refine Eq.trans ?_ ((congrArg G he).trans (hG b)).symm
  refine (cast_eq _ _).trans ((congrFun (after_23 m c t) _).trans ((congrArg (sums m c t.val).sr hy).trans ?_))
  rw [ht]
  exact sums_sr m c b

theorem arr_sb (G : FVec Ideal S1x1024 .f32) (hG : ∀ k : Fin 1024, G (ix2 0 k) = ∑ i, (all m c).tsc i k) :
    (dats m 0 c).arrAt 24 cfg0.N = G := by
  refine (dats m 0 c).arrAt_eq_of_covers 24 G (by decide +kernel) fun t hf y => ?_
  have h0 : (y 0).val < 1 := (y 0).isLt
  obtain ⟨b, hb⟩ : ∃ b : Fin 1024, b.val = (y 1).val := ⟨y 1, rfl⟩
  have he : ((cfg0.win 24).blk t).view.emb y = (ix2 0 b : S1x1024.Idx) := by
    funext k
    refine Fin.ext (((cfg0.win 24).rect_emb_val t y k).trans ?_)
    match k with
    | 0 => show 0 * 1 + (y 0).val = 0; omega
    | 1 => show 0 * 1024 + (y 1).val = b.val; omega
  have hy : (cfg0.win 24).xinj (cfg0.grid.coords t) y = (ix2 0 b : S1x1024.Idx) := by
    funext k
    match k with
    | 0 => exact Fin.ext (show (y 0).val = 0 by omega)
    | 1 => exact Fin.ext hb.symm
  have ht : t.val = 15 := by
    have h1 := (flush0_24 t).mp hf
    have h2 : t.val < 16 := lt_of_lt_of_eq t.isLt N_0
    omega
  refine Eq.trans ?_ ((congrArg G he).trans (hG b)).symm
  refine (cast_eq _ _).trans ((congrFun (after_24 m c t) _).trans ((congrArg (sums m c t.val).sb hy).trans ?_))
  rw [ht]
  exact sums_sb m c b

theorem arr_hr (G : FVec Ideal S1x1024 .f32) (hG : ∀ k : Fin 1024, G (ix2 0 k) = ∑ i, (all m c).dhRow i k) :
    (dats m 0 c).arrAt 25 cfg0.N = G := by
  refine (dats m 0 c).arrAt_eq_of_covers 25 G (by decide +kernel) fun t hf y => ?_
  have h0 : (y 0).val < 1 := (y 0).isLt
  obtain ⟨b, hb⟩ : ∃ b : Fin 1024, b.val = (y 1).val := ⟨y 1, rfl⟩
  have he : ((cfg0.win 25).blk t).view.emb y = (ix2 0 b : S1x1024.Idx) := by
    funext k
    refine Fin.ext (((cfg0.win 25).rect_emb_val t y k).trans ?_)
    match k with
    | 0 => show 0 * 1 + (y 0).val = 0; omega
    | 1 => show 0 * 1024 + (y 1).val = b.val; omega
  have hy : (cfg0.win 25).xinj (cfg0.grid.coords t) y = (ix2 0 b : S1x1024.Idx) := by
    funext k
    match k with
    | 0 => exact Fin.ext (show (y 0).val = 0 by omega)
    | 1 => exact Fin.ext hb.symm
  have ht : t.val = 15 := by
    have h1 := (flush0_25 t).mp hf
    have h2 : t.val < 16 := lt_of_lt_of_eq t.isLt N_0
    omega
  refine Eq.trans ?_ ((congrArg G he).trans (hG b)).symm
  refine (cast_eq _ _).trans ((congrFun (after_25 m c t) _).trans ((congrArg (sums m c t.val).hr hy).trans ?_))
  rw [ht]
  exact sums_hr m c b

theorem arr_hb (G : FVec Ideal S1x1024 .f32) (hG : ∀ k : Fin 1024, G (ix2 0 k) = ∑ i, (all m c).dhRow i k) :
    (dats m 0 c).arrAt 26 cfg0.N = G := by
  refine (dats m 0 c).arrAt_eq_of_covers 26 G (by decide +kernel) fun t hf y => ?_
  have h0 : (y 0).val < 1 := (y 0).isLt
  obtain ⟨b, hb⟩ : ∃ b : Fin 1024, b.val = (y 1).val := ⟨y 1, rfl⟩
  have he : ((cfg0.win 26).blk t).view.emb y = (ix2 0 b : S1x1024.Idx) := by
    funext k
    refine Fin.ext (((cfg0.win 26).rect_emb_val t y k).trans ?_)
    match k with
    | 0 => show 0 * 1 + (y 0).val = 0; omega
    | 1 => show 0 * 1024 + (y 1).val = b.val; omega
  have hy : (cfg0.win 26).xinj (cfg0.grid.coords t) y = (ix2 0 b : S1x1024.Idx) := by
    funext k
    match k with
    | 0 => exact Fin.ext (show (y 0).val = 0 by omega)
    | 1 => exact Fin.ext hb.symm
  have ht : t.val = 15 := by
    have h1 := (flush0_26 t).mp hf
    have h2 : t.val < 16 := lt_of_lt_of_eq t.isLt N_0
    omega
  refine Eq.trans ?_ ((congrArg G he).trans (hG b)).symm
  refine (cast_eq _ _).trans ((congrFun (after_26 m c t) _).trans ((congrArg (sums m c t.val).hb hy).trans ?_))
  rw [ht]
  exact sums_hb m c b

theorem arr_w0 (G : FVec Ideal S1024x384 .f32) (hG : ∀ (k : Fin 1024) (j : Fin 384), G (ix2 k j) = ∑ i, (all m c).d0 (ix2 i j) * (all m c).hRow i k) :
    (dats m 0 c).arrAt 27 cfg0.N = G := by
  refine (dats m 0 c).arrAt_eq_of_covers 27 G (by decide +kernel) fun t hf y => ?_
  obtain ⟨a, ha⟩ : ∃ a : Fin 1024, a.val = (y 0).val := ⟨y 0, rfl⟩
  obtain ⟨b, hb⟩ : ∃ b : Fin 384, b.val = (y 1).val := ⟨y 1, rfl⟩
  have he : ((cfg0.win 27).blk t).view.emb y = (ix2 a b : S1024x384.Idx) := by
    funext k
    refine Fin.ext (((cfg0.win 27).rect_emb_val t y k).trans ?_)
    match k with
    | 0 => show 0 * 1024 + (y 0).val = a.val; omega
    | 1 => show 0 * 384 + (y 1).val = b.val; omega
  have hy : (cfg0.win 27).xinj (cfg0.grid.coords t) y = (ix2 a b : S1024x384.Idx) := by
    funext k
    match k with
    | 0 => exact Fin.ext ha.symm
    | 1 => exact Fin.ext hb.symm
  have ht : t.val = 15 := by
    have h1 := (flush0_27 t).mp hf
    have h2 : t.val < 16 := lt_of_lt_of_eq t.isLt N_0
    omega
  refine Eq.trans ?_ ((congrArg G he).trans (hG a b)).symm
  refine (cast_eq _ _).trans ((congrFun (after_27 m c t) _).trans ((congrArg (sums m c t.val).w0 hy).trans ?_))
  rw [ht]
  exact sums_w0 m c a b

theorem arr_w1 (G : FVec Ideal S1024x256 .f32) (hG : ∀ (k : Fin 1024) (j : Fin 256), G (ix2 k j) = ∑ i, (all m c).d1 (ix2 i j) * (all m c).hRow i k) :
    (dats m 0 c).arrAt 28 cfg0.N = G := by
  refine (dats m 0 c).arrAt_eq_of_covers 28 G (by decide +kernel) fun t hf y => ?_
  obtain ⟨a, ha⟩ : ∃ a : Fin 1024, a.val = (y 0).val := ⟨y 0, rfl⟩
  obtain ⟨b, hb⟩ : ∃ b : Fin 256, b.val = (y 1).val := ⟨y 1, rfl⟩
  have he : ((cfg0.win 28).blk t).view.emb y = (ix2 a b : S1024x256.Idx) := by
    funext k
    refine Fin.ext (((cfg0.win 28).rect_emb_val t y k).trans ?_)
    match k with
    | 0 => show 0 * 1024 + (y 0).val = a.val; omega
    | 1 => show 0 * 256 + (y 1).val = b.val; omega
  have hy : (cfg0.win 28).xinj (cfg0.grid.coords t) y = (ix2 a b : S1024x256.Idx) := by
    funext k
    match k with
    | 0 => exact Fin.ext ha.symm
    | 1 => exact Fin.ext hb.symm
  have ht : t.val = 15 := by
    have h1 := (flush0_28 t).mp hf
    have h2 : t.val < 16 := lt_of_lt_of_eq t.isLt N_0
    omega
  refine Eq.trans ?_ ((congrArg G he).trans (hG a b)).symm
  refine (cast_eq _ _).trans ((congrFun (after_28 m c t) _).trans ((congrArg (sums m c t.val).w1 hy).trans ?_))
  rw [ht]
  exact sums_w1 m c a b

theorem arr_w2 (G : FVec Ideal S1024x128 .f32) (hG : ∀ (k : Fin 1024) (j : Fin 128), G (ix2 k j) = ∑ i, (all m c).d2 (ix2 i j) * (all m c).hRow i k) :
    (dats m 0 c).arrAt 29 cfg0.N = G := by
  refine (dats m 0 c).arrAt_eq_of_covers 29 G (by decide +kernel) fun t hf y => ?_
  obtain ⟨a, ha⟩ : ∃ a : Fin 1024, a.val = (y 0).val := ⟨y 0, rfl⟩
  obtain ⟨b, hb⟩ : ∃ b : Fin 128, b.val = (y 1).val := ⟨y 1, rfl⟩
  have he : ((cfg0.win 29).blk t).view.emb y = (ix2 a b : S1024x128.Idx) := by
    funext k
    refine Fin.ext (((cfg0.win 29).rect_emb_val t y k).trans ?_)
    match k with
    | 0 => show 0 * 1024 + (y 0).val = a.val; omega
    | 1 => show 0 * 128 + (y 1).val = b.val; omega
  have hy : (cfg0.win 29).xinj (cfg0.grid.coords t) y = (ix2 a b : S1024x128.Idx) := by
    funext k
    match k with
    | 0 => exact Fin.ext ha.symm
    | 1 => exact Fin.ext hb.symm
  have ht : t.val = 15 := by
    have h1 := (flush0_29 t).mp hf
    have h2 : t.val < 16 := lt_of_lt_of_eq t.isLt N_0
    omega
  refine Eq.trans ?_ ((congrArg G he).trans (hG a b)).symm
  refine (cast_eq _ _).trans ((congrFun (after_29 m c t) _).trans ((congrArg (sums m c t.val).w2 hy).trans ?_))
  rw [ht]
  exact sums_w2 m c a b

theorem arr_w3 (G : FVec Ideal S1024x512 .f32) (hG : ∀ (k : Fin 1024) (j : Fin 512), G (ix2 k j) = ∑ i, (all m c).d3 (ix2 i j) * (all m c).hRow i k) :
    (dats m 0 c).arrAt 30 cfg0.N = G := by
  refine (dats m 0 c).arrAt_eq_of_covers 30 G (by decide +kernel) fun t hf y => ?_
  obtain ⟨a, ha⟩ : ∃ a : Fin 1024, a.val = (y 0).val := ⟨y 0, rfl⟩
  obtain ⟨b, hb⟩ : ∃ b : Fin 512, b.val = (y 1).val := ⟨y 1, rfl⟩
  have he : ((cfg0.win 30).blk t).view.emb y = (ix2 a b : S1024x512.Idx) := by
    funext k
    refine Fin.ext (((cfg0.win 30).rect_emb_val t y k).trans ?_)
    match k with
    | 0 => show 0 * 1024 + (y 0).val = a.val; omega
    | 1 => show 0 * 512 + (y 1).val = b.val; omega
  have hy : (cfg0.win 30).xinj (cfg0.grid.coords t) y = (ix2 a b : S1024x512.Idx) := by
    funext k
    match k with
    | 0 => exact Fin.ext ha.symm
    | 1 => exact Fin.ext hb.symm
  have ht : t.val = 15 := by
    have h1 := (flush0_30 t).mp hf
    have h2 : t.val < 16 := lt_of_lt_of_eq t.isLt N_0
    omega
  refine Eq.trans ?_ ((congrArg G he).trans (hG a b)).symm
  refine (cast_eq _ _).trans ((congrFun (after_30 m c t) _).trans ((congrArg (sums m c t.val).w3 hy).trans ?_))
  rw [ht]
  exact sums_w3 m c a b

theorem arr_w4 (G : FVec Ideal S1024x1536 .f32) (hG : ∀ (k : Fin 1024) (j : Fin 1536), G (ix2 k j) = ∑ i, (all m c).d4 (ix2 i j) * (all m c).hRow i k) :
    (dats m 0 c).arrAt 31 cfg0.N = G := by
  refine (dats m 0 c).arrAt_eq_of_covers 31 G (by decide +kernel) fun t hf y => ?_
  obtain ⟨a, ha⟩ : ∃ a : Fin 1024, a.val = (y 0).val := ⟨y 0, rfl⟩
  obtain ⟨b, hb⟩ : ∃ b : Fin 1536, b.val = (y 1).val := ⟨y 1, rfl⟩
  have he : ((cfg0.win 31).blk t).view.emb y = (ix2 a b : S1024x1536.Idx) := by
    funext k
    refine Fin.ext (((cfg0.win 31).rect_emb_val t y k).trans ?_)
    match k with
    | 0 => show 0 * 1024 + (y 0).val = a.val; omega
    | 1 => show 0 * 1536 + (y 1).val = b.val; omega
  have hy : (cfg0.win 31).xinj (cfg0.grid.coords t) y = (ix2 a b : S1024x1536.Idx) := by
    funext k
    match k with
    | 0 => exact Fin.ext ha.symm
    | 1 => exact Fin.ext hb.symm
  have ht : t.val = 15 := by
    have h1 := (flush0_31 t).mp hf
    have h2 : t.val < 16 := lt_of_lt_of_eq t.isLt N_0
    omega
  refine Eq.trans ?_ ((congrArg G he).trans (hG a b)).symm
  refine (cast_eq _ _).trans ((congrFun (after_31 m c t) _).trans ((congrArg (sums m c t.val).w4 hy).trans ?_))
  rw [ht]
  exact sums_w4 m c a b

theorem arr_w5 (G : FVec Ideal S1024x128 .f32) (hG : ∀ (k : Fin 1024) (j : Fin 128), G (ix2 k j) = ∑ i, (all m c).d5 (ix2 i j) * (all m c).hRow i k) :
    (dats m 0 c).arrAt 32 cfg0.N = G := by
  refine (dats m 0 c).arrAt_eq_of_covers 32 G (by decide +kernel) fun t hf y => ?_
  obtain ⟨a, ha⟩ : ∃ a : Fin 1024, a.val = (y 0).val := ⟨y 0, rfl⟩
  obtain ⟨b, hb⟩ : ∃ b : Fin 128, b.val = (y 1).val := ⟨y 1, rfl⟩
  have he : ((cfg0.win 32).blk t).view.emb y = (ix2 a b : S1024x128.Idx) := by
    funext k
    refine Fin.ext (((cfg0.win 32).rect_emb_val t y k).trans ?_)
    match k with
    | 0 => show 0 * 1024 + (y 0).val = a.val; omega
    | 1 => show 0 * 128 + (y 1).val = b.val; omega
  have hy : (cfg0.win 32).xinj (cfg0.grid.coords t) y = (ix2 a b : S1024x128.Idx) := by
    funext k
    match k with
    | 0 => exact Fin.ext ha.symm
    | 1 => exact Fin.ext hb.symm
  have ht : t.val = 15 := by
    have h1 := (flush0_32 t).mp hf
    have h2 : t.val < 16 := lt_of_lt_of_eq t.isLt N_0
    omega
  refine Eq.trans ?_ ((congrArg G he).trans (hG a b)).symm
  refine (cast_eq _ _).trans ((congrFun (after_32 m c t) _).trans ((congrArg (sums m c t.val).w5 hy).trans ?_))
  rw [ht]
  exact sums_w5 m c a b

theorem arr_w6 (G : FVec Ideal S1024x512 .f32) (hG : ∀ (k : Fin 1024) (j : Fin 512), G (ix2 k j) = ∑ i, (all m c).d6 (ix2 i j) * (all m c).hRow i k) :
    (dats m 0 c).arrAt 33 cfg0.N = G := by
  refine (dats m 0 c).arrAt_eq_of_covers 33 G (by decide +kernel) fun t hf y => ?_
  obtain ⟨a, ha⟩ : ∃ a : Fin 1024, a.val = (y 0).val := ⟨y 0, rfl⟩
  obtain ⟨b, hb⟩ : ∃ b : Fin 512, b.val = (y 1).val := ⟨y 1, rfl⟩
  have he : ((cfg0.win 33).blk t).view.emb y = (ix2 a b : S1024x512.Idx) := by
    funext k
    refine Fin.ext (((cfg0.win 33).rect_emb_val t y k).trans ?_)
    match k with
    | 0 => show 0 * 1024 + (y 0).val = a.val; omega
    | 1 => show 0 * 512 + (y 1).val = b.val; omega
  have hy : (cfg0.win 33).xinj (cfg0.grid.coords t) y = (ix2 a b : S1024x512.Idx) := by
    funext k
    match k with
    | 0 => exact Fin.ext ha.symm
    | 1 => exact Fin.ext hb.symm
  have ht : t.val = 15 := by
    have h1 := (flush0_33 t).mp hf
    have h2 : t.val < 16 := lt_of_lt_of_eq t.isLt N_0
    omega
  refine Eq.trans ?_ ((congrArg G he).trans (hG a b)).symm
  refine (cast_eq _ _).trans ((congrFun (after_33 m c t) _).trans ((congrArg (sums m c t.val).w6 hy).trans ?_))
  rw [ht]
  exact sums_w6 m c a b

end Cert.Proof.Front
-- ==== Proof.TailFinal.lean ====
module

public import proofs.«01_k».proof.Proof.TailPoint
public import proofs.«01_k».proof.Proof.FrontFinal

/-! The arrays that the tail's backward kernel leaves. -/

@[expose] public section

set_option maxRecDepth 8192
noncomputable section

namespace Cert.Proof.Tail

open Idealize Idealize.ShloMosaic Idealize.ShloMosaic.TcCoe
open Cert.Proof.Front (Row rs sum_all)
open Cert.Proof.Tile (row row_val)

/-- The rows that the tail works on, and its weights. -/
structure Rows (n : ℕ) where
  o1 : Fin n → Half
  z1 : Fin n → Half
  o2 : Fin n → Half
  z2 : Fin n → Half
  nw : Fin 128 → EReal
  w : Fin 1024 → Row
  pw : Row
  gr : Row
  gb : Row
  g : Fin n → Row

namespace Rows

variable {n : ℕ} (R : Rows n) (i : Fin n)

/-- Some of the rows, with the same weights. -/
def pick {k : ℕ} (f : Fin k → Fin n) : Rows k :=
  ⟨fun a => R.o1 (f a), fun a => R.z1 (f a), fun a => R.o2 (f a), fun a => R.z2 (f a), R.nw, R.w, R.pw, R.gr, R.gb, fun a => R.g (f a)⟩

def u1 : Half := y1 (R.o1 i) (R.z1 i)
def u2 : Half := y2 (R.o2 i) (R.z2 i) R.nw
/-- The projected row. -/
def yr : Row := prj (R.u1 i) (R.u2 i) R.w
/-- Its gradient. -/
def dr : Row := gy (R.yr i) (R.g i) R.pw R.gr R.gb
/-- The gradients of the two halves before the projection. -/
def d1 (b : Fin 512) : EReal := back (R.dr i) (fun b k => R.w (top b) k) b
def d2 (b : Fin 512) : EReal := back (R.dr i) (fun b k => R.w (bot b) k) b
def q2 (b : Fin 512) : EReal := R.d2 i b * silu (R.z2 i b)

/-! The terms of the gradients. -/

def go1 (b : Fin 512) : EReal := R.d1 i b * silu (R.z1 i b)
def gz1 (b : Fin 512) : EReal := gsilu (R.z1 i b) (R.o1 i b * R.d1 i b)
def go2 (b : Fin 512) : EReal := ghd (R.o2 i) (R.q2 i) R.nw b
def gz2 (b : Fin 512) : EReal := gsilu (R.z2 i b) (hn (R.o2 i) R.nw b * R.d2 i b)
def tnw (l : Fin 128) : EReal := ∑ j, R.o2 i (hd j l) * hrs (R.o2 i) j * R.q2 i (hd j l)
def twt (b : Fin 512) (k : Fin 1024) : EReal := R.u1 i b * R.dr i k
def twb (b : Fin 512) (k : Fin 1024) : EReal := R.u2 i b * R.dr i k
def tpw (k : Fin 1024) : EReal := R.yr i k * rs (R.yr i) * dn (R.g i) R.gr R.gb k
def tgt (k : Fin 1024) : EReal := R.g i k * (R.yr i k * rs (R.yr i) * R.pw k)

section
variable {k : ℕ} (f : Fin k → Fin n) (a : Fin k) (b : Fin 512)

theorem pick_yr : (R.pick f).yr a = R.yr (f a) := rfl
theorem pick_dr : (R.pick f).dr a = R.dr (f a) := by
  unfold dr
  rw [pick_yr]
  rfl
theorem pick_d1 : (R.pick f).d1 a b = R.d1 (f a) b := by
  unfold d1
  rw [pick_dr]
  rfl
theorem pick_d2 : (R.pick f).d2 a b = R.d2 (f a) b := by
  unfold d2
  rw [pick_dr]
  rfl
theorem pick_q2 : (R.pick f).q2 a = R.q2 (f a) := by
  funext b
  unfold q2
  rw [pick_d2]
  rfl
theorem pick_go1 : (R.pick f).go1 a b = R.go1 (f a) b := by
  unfold go1
  rw [pick_d1]
  rfl
theorem pick_gz1 : (R.pick f).gz1 a b = R.gz1 (f a) b := by
  unfold gz1
  rw [pick_d1]
  rfl
theorem pick_go2 : (R.pick f).go2 a b = R.go2 (f a) b := by
  unfold go2
  rw [pick_q2]
  rfl
theorem pick_gz2 : (R.pick f).gz2 a b = R.gz2 (f a) b := by
  unfold gz2
  rw [pick_d2]
  rfl
theorem pick_tnw (l : Fin 128) : (R.pick f).tnw a l = R.tnw (f a) l := by
  unfold tnw
  rw [pick_q2]
  rfl
theorem pick_twt (r : Fin 1024) : (R.pick f).twt a b r = R.twt (f a) b r := by
  unfold twt
  rw [pick_dr]
  rfl
theorem pick_twb (r : Fin 1024) : (R.pick f).twb a b r = R.twb (f a) b r := by
  unfold twb
  rw [pick_dr]
  rfl
theorem pick_tpw (r : Fin 1024) : (R.pick f).tpw a r = R.tpw (f a) r := by
  unfold tpw
  rw [pick_yr]
  rfl
theorem pick_tgt (r : Fin 1024) : (R.pick f).tgt a r = R.tgt (f a) r := by
  unfold tgt
  rw [pick_yr]
  rfl

end

end Rows

/-- A sum carried through sixteen points of 512 rows is the sum over all rows. -/
theorem sum_points {N : ℕ} (hN : N = 16) {s : Fin N → EReal} {T : Fin 8192 → EReal}
    (h0 : ∀ t : Fin N, t.val % 16 = 0 → s t = ∑ a, T (row ⟨t.val, lt_of_lt_of_eq t.isLt hN⟩ a))
    (hs : ∀ t : Fin N, ¬ t.val % 16 = 0 →
      s t = s ⟨t.val - 1, Nat.lt_of_le_of_lt (Nat.sub_le _ _) t.isLt⟩ + ∑ a, T (row ⟨t.val, lt_of_lt_of_eq t.isLt hN⟩ a))
    (t : Fin N) (ht : t.val = 15) : s t = ∑ i, T i := by
  subst hN
  let U : ℕ → Fin 512 → EReal := fun p a => if h : p < 16 then T (row ⟨p, h⟩ a) else 0
  have hU : ∀ r : Fin 16, ∀ a, U r.val a = T (row r a) := fun r a => dif_pos r.isLt
  have e : ∀ n (h : n < 16), s ⟨n, h⟩ = ∑ p ∈ Finset.range (n + 1), ∑ a, U p a := by
    intro n
    induction n with
    | zero => exact fun h => (h0 ⟨0, h⟩ rfl).trans ((Finset.sum_congr rfl fun a _ => (hU ⟨0, h⟩ a).symm).trans (Finset.sum_range_one fun p => ∑ a, U p a).symm)
    | succ n ih =>
      intro h
      refine (hs ⟨n + 1, h⟩ (show ¬ (n + 1) % 16 = 0 by omega)).trans ?_
      rw [Finset.sum_range_succ _ (n + 1)]
      exact congrArg₂ (· + ·) (ih (Nat.lt_of_succ_lt h)) (Finset.sum_congr rfl fun a _ => (hU ⟨n + 1, h⟩ a).symm)
  have h15 : t = ⟨15, by decide⟩ := Fin.ext ht
  rw [h15, e]
  exact sum_all (s := fun n => ∑ p ∈ Finset.range (n + 1), ∑ a, U p a) (u := U) (T := T) (Finset.sum_range_one _)
    (fun n => Finset.sum_range_succ _ (n + 1)) hU

namespace Final

open Cert.Kernel4Ideal Cert.Kernel4Ideal.Gen
open Cert.Proof.Tail.Tile Cert.Proof.Tail.Point

section
variable (o1 z1 o2 z2 : Tile.Wide) (nw : Tile.Lane) (w : Tile.Sq) (pw gr gb : Tile.One) (g : Tile.Big)

/-- The rows of some blocks. -/
def cut : Rows 512 where
  o1 a b := o1 (ix2 a b)
  z1 a b := z1 (ix2 a b)
  o2 a b := o2 (ix2 a b)
  z2 a b := z2 (ix2 a b)
  nw l := nw (ix2 0 l)
  w r k := w (ix2 r k)
  pw k := pw (ix2 0 k)
  gr k := gr (ix2 0 k)
  gb k := gb (ix2 0 k)
  g a k := g (ix2 a k)

theorem cut_o1 (a b : Fin 512) : k0_pay79 (F := Ideal) (k0_pay9 (F := Ideal) z1) (tU o1 z1 o2 z2 nw w pw gr gb g) (ix2 a b) = (cut o1 z1 o2 z2 nw w pw gr gb g).go1 a b :=
  o1_at o1 z1 o2 z2 nw w pw gr gb g a b
theorem cut_z1 (a b : Fin 512) : k0_pay80 (F := Ideal) o1 z1 (k0_pay5 (F := Ideal) z1) (k0_pay7 (F := Ideal) z1) (k0_pay8 (F := Ideal) z1) (tU o1 z1 o2 z2 nw w pw gr gb g) (ix2 a b) = (cut o1 z1 o2 z2 nw w pw gr gb g).gz1 a b :=
  z1_at o1 z1 o2 z2 nw w pw gr gb g a b
theorem cut_q2 (a : Fin 512) : Tile.wrow (tH o1 z1 o2 z2 nw w pw gr gb g) a = (cut o1 z1 o2 z2 nw w pw gr gb g).q2 a :=
  funext fun b => h_at o1 z1 o2 z2 nw w pw gr gb g a b
theorem cut_o2 (a b : Fin 512) : tG o2 (tH o1 z1 o2 z2 nw w pw gr gb g) nw (ix2 a b) = (cut o1 z1 o2 z2 nw w pw gr gb g).go2 a b := by
  rw [g_at, cut_q2]
  rfl
theorem cut_z2 (a b : Fin 512) : tZ o1 z1 o2 z2 nw w pw gr gb g (ix2 a b) = (cut o1 z1 o2 z2 nw w pw gr gb g).gz2 a b :=
  z2_at o1 z1 o2 z2 nw w pw gr gb g a b
theorem cut_nw (l : Fin 128) : tGw o2 (tH o1 z1 o2 z2 nw w pw gr gb g) (ix2 0 l) = ∑ a, (cut o1 z1 o2 z2 nw w pw gr gb g).tnw a l := by
  refine (gw_at _ _ l).trans (Finset.sum_congr rfl fun a _ => ?_)
  rw [cut_q2]
  rfl
theorem cut_wt (b : Fin 512) (k : Fin 1024) : tW o1 z1 o2 z2 nw w pw gr gb g (ix2 (top b) k) = ∑ a, (cut o1 z1 o2 z2 nw w pw gr gb g).twt a b k :=
  w_top o1 z1 o2 z2 nw w pw gr gb g b k
theorem cut_wb (b : Fin 512) (k : Fin 1024) : tW o1 z1 o2 z2 nw w pw gr gb g (ix2 (bot b) k) = ∑ a, (cut o1 z1 o2 z2 nw w pw gr gb g).twb a b k :=
  w_bot o1 z1 o2 z2 nw w pw gr gb g b k
theorem cut_pw (k : Fin 1024) : k0_pay52 (F := Ideal) (tN o1 z1 o2 z2 nw w) (tD gr gb g) (ix2 0 k) = ∑ a, (cut o1 z1 o2 z2 nw w pw gr gb g).tpw a k :=
  pw_at o1 z1 o2 z2 nw w gr gb g k
theorem cut_gt (k : Fin 1024) : k0_pay51 (F := Ideal) (tGt o1 z1 o2 z2 nw w pw g) (ix2 0 k) = ∑ a, (cut o1 z1 o2 z2 nw w pw gr gb g).tgt a k :=
  gt_at o1 z1 o2 z2 nw w pw g k

end

variable (m : (ℓ : Loc nD τ sig) → Buf (Elt Ideal) ℓ) (c : Dev nD)

/-- The rows of the arrays at launch. -/
def rows : Rows 8192 where
  o1 i b := m (c.tc.loc main_arg1) (ix2 i b : S8192x512.Idx)
  z1 i b := m (c.tc.loc main_arg2) (ix2 i b : S8192x512.Idx)
  o2 i b := m (c.tc.loc main_arg3) (ix2 i b : S8192x512.Idx)
  z2 i b := m (c.tc.loc main_arg4) (ix2 i b : S8192x512.Idx)
  nw l := m (c.tc.loc main_arg5) (ix2 0 l : S1x128.Idx)
  w r k := m (c.tc.loc main_arg6) (ix2 r k : S1024x1024.Idx)
  pw k := m (c.tc.loc main_arg7) (ix2 0 k : S1x1024.Idx)
  gr k := m (c.tc.loc main_arg8) (ix2 0 k : S1x1024.Idx)
  gb k := m (c.tc.loc main_arg9) (ix2 0 k : S1x1024.Idx)
  g i k := m (c.tc.loc main_arg10) (ix2 i k : S8192x1024.Idx)

theorem coord (t : Fin cfg0.N) : (BitVec.ofNat 32 (grid0.coords t 0).val).toNat = t.val := by
  have h : t.val < 16 := lt_of_lt_of_eq t.isLt N_0
  have e := Pipeline.Grid.coords_val (G := grid0) t 0 (S := 1) (B := 16) (by decide) rfl
  rw [e, BitVec.toNat_ofNat]
  omega

/-- Point `t` as one of sixteen. -/
def six (t : Fin cfg0.N) : Fin 16 := ⟨t.val, lt_of_lt_of_eq t.isLt N_0⟩

section
variable (t : Fin cfg0.N) (a : Fin 512)

theorem in1 (k : Fin 512) : iblk m c 1 t (ix2 a k : S512x512.Idx) = m (c.tc.loc main_arg1) (ix2 (row (six t) a) k : S8192x512.Idx) := by
  refine congrArg (V m c main_arg1) (funext fun b => Fin.ext ?_)
  refine ((cfg0.win 1).rect_emb_val t (ix2 a k : S512x512.Idx) b).trans ?_
  match b with
  | 0 => show (BitVec.ofNat 32 (grid0.coords t 0).val).toNat * 512 + a.val = a.val + 512 * t.val; rw [coord]; omega
  | 1 => show 0 * 512 + k.val = k.val; omega
theorem in2 (k : Fin 512) : iblk m c 2 t (ix2 a k : S512x512.Idx) = m (c.tc.loc main_arg2) (ix2 (row (six t) a) k : S8192x512.Idx) := by
  refine congrArg (V m c main_arg2) (funext fun b => Fin.ext ?_)
  refine ((cfg0.win 2).rect_emb_val t (ix2 a k : S512x512.Idx) b).trans ?_
  match b with
  | 0 => show (BitVec.ofNat 32 (grid0.coords t 0).val).toNat * 512 + a.val = a.val + 512 * t.val; rw [coord]; omega
  | 1 => show 0 * 512 + k.val = k.val; omega
theorem in3 (k : Fin 512) : iblk m c 3 t (ix2 a k : S512x512.Idx) = m (c.tc.loc main_arg3) (ix2 (row (six t) a) k : S8192x512.Idx) := by
  refine congrArg (V m c main_arg3) (funext fun b => Fin.ext ?_)
  refine ((cfg0.win 3).rect_emb_val t (ix2 a k : S512x512.Idx) b).trans ?_
  match b with
  | 0 => show (BitVec.ofNat 32 (grid0.coords t 0).val).toNat * 512 + a.val = a.val + 512 * t.val; rw [coord]; omega
  | 1 => show 0 * 512 + k.val = k.val; omega
theorem in4 (k : Fin 512) : iblk m c 4 t (ix2 a k : S512x512.Idx) = m (c.tc.loc main_arg4) (ix2 (row (six t) a) k : S8192x512.Idx) := by
  refine congrArg (V m c main_arg4) (funext fun b => Fin.ext ?_)
  refine ((cfg0.win 4).rect_emb_val t (ix2 a k : S512x512.Idx) b).trans ?_
  match b with
  | 0 => show (BitVec.ofNat 32 (grid0.coords t 0).val).toNat * 512 + a.val = a.val + 512 * t.val; rw [coord]; omega
  | 1 => show 0 * 512 + k.val = k.val; omega
theorem in10 (k : Fin 1024) : iblk m c 10 t (ix2 a k : S512x1024.Idx) = m (c.tc.loc main_arg10) (ix2 (row (six t) a) k : S8192x1024.Idx) := by
  refine congrArg (V m c main_arg10) (funext fun b => Fin.ext ?_)
  refine ((cfg0.win 10).rect_emb_val t (ix2 a k : S512x1024.Idx) b).trans ?_
  match b with
  | 0 => show (BitVec.ofNat 32 (grid0.coords t 0).val).toNat * 512 + a.val = a.val + 512 * t.val; rw [coord]; omega
  | 1 => show 0 * 1024 + k.val = k.val; omega
theorem in5 (k : Fin 128) : iblk m c 5 t (ix2 0 k : S1x128.Idx) = m (c.tc.loc main_arg5) (ix2 0 k : S1x128.Idx) := by
  refine congrArg (V m c main_arg5) (funext fun b => Fin.ext ?_)
  refine ((cfg0.win 5).rect_emb_val t (ix2 0 k : S1x128.Idx) b).trans ?_
  match b with
  | 0 => show 0 * 1 + 0 = 0; omega
  | 1 => show 0 * 128 + k.val = k.val; omega
theorem in7 (k : Fin 1024) : iblk m c 7 t (ix2 0 k : S1x1024.Idx) = m (c.tc.loc main_arg7) (ix2 0 k : S1x1024.Idx) := by
  refine congrArg (V m c main_arg7) (funext fun b => Fin.ext ?_)
  refine ((cfg0.win 7).rect_emb_val t (ix2 0 k : S1x1024.Idx) b).trans ?_
  match b with
  | 0 => show 0 * 1 + 0 = 0; omega
  | 1 => show 0 * 1024 + k.val = k.val; omega
theorem in8 (k : Fin 1024) : iblk m c 8 t (ix2 0 k : S1x1024.Idx) = m (c.tc.loc main_arg8) (ix2 0 k : S1x1024.Idx) := by
  refine congrArg (V m c main_arg8) (funext fun b => Fin.ext ?_)
  refine ((cfg0.win 8).rect_emb_val t (ix2 0 k : S1x1024.Idx) b).trans ?_
  match b with
  | 0 => show 0 * 1 + 0 = 0; omega
  | 1 => show 0 * 1024 + k.val = k.val; omega
theorem in9 (k : Fin 1024) : iblk m c 9 t (ix2 0 k : S1x1024.Idx) = m (c.tc.loc main_arg9) (ix2 0 k : S1x1024.Idx) := by
  refine congrArg (V m c main_arg9) (funext fun b => Fin.ext ?_)
  refine ((cfg0.win 9).rect_emb_val t (ix2 0 k : S1x1024.Idx) b).trans ?_
  match b with
  | 0 => show 0 * 1 + 0 = 0; omega
  | 1 => show 0 * 1024 + k.val = k.val; omega
theorem in6 (r k : Fin 1024) : iblk m c 6 t (ix2 r k : S1024x1024.Idx) = m (c.tc.loc main_arg6) (ix2 r k : S1024x1024.Idx) := by
  refine congrArg (V m c main_arg6) (funext fun b => Fin.ext ?_)
  refine ((cfg0.win 6).rect_emb_val t (ix2 r k : S1024x1024.Idx) b).trans ?_
  match b with
  | 0 => show 0 * 1024 + r.val = r.val; omega
  | 1 => show 0 * 1024 + k.val = k.val; omega

theorem part_eq : cut (iblk m c 1 t) (iblk m c 2 t) (iblk m c 3 t) (iblk m c 4 t) (iblk m c 5 t) (iblk m c 6 t) (iblk m c 7 t) (iblk m c 8 t) (iblk m c 9 t) (iblk m c 10 t) = (rows m c).pick (row (six t)) := by
  unfold cut rows Rows.pick
  simp only [in1, in2, in3, in4, in5, in6, in7, in8, in9, in10]

/-! ## What a point writes -/

theorem at_o1 (b : Fin 512) : (outsAt0 m c t.val t.isLt).2.1 (ix2 a b) = (rows m c).go1 (row (six t) a) b := by
  have e := cut_o1 (iblk m c 1 t) (iblk m c 2 t) (iblk m c 3 t) (iblk m c 4 t) (iblk m c 5 t) (iblk m c 6 t) (iblk m c 7 t) (iblk m c 8 t) (iblk m c 9 t) (iblk m c 10 t) a b
  rw [part_eq, Rows.pick_go1] at e
  exact (congrFun (at12 m c t) (ix2 a b)).trans e
theorem at_z1 (b : Fin 512) : (outsAt0 m c t.val t.isLt).2.2.1 (ix2 a b) = (rows m c).gz1 (row (six t) a) b := by
  have e := cut_z1 (iblk m c 1 t) (iblk m c 2 t) (iblk m c 3 t) (iblk m c 4 t) (iblk m c 5 t) (iblk m c 6 t) (iblk m c 7 t) (iblk m c 8 t) (iblk m c 9 t) (iblk m c 10 t) a b
  rw [part_eq, Rows.pick_gz1] at e
  exact (congrFun (at13 m c t) (ix2 a b)).trans e
theorem at_o2 (b : Fin 512) : (outsAt0 m c t.val t.isLt).2.2.2.1 (ix2 a b) = (rows m c).go2 (row (six t) a) b := by
  have e := cut_o2 (iblk m c 1 t) (iblk m c 2 t) (iblk m c 3 t) (iblk m c 4 t) (iblk m c 5 t) (iblk m c 6 t) (iblk m c 7 t) (iblk m c 8 t) (iblk m c 9 t) (iblk m c 10 t) a b
  rw [part_eq, Rows.pick_go2] at e
  exact (congrFun (at14 m c t) (ix2 a b)).trans e
theorem at_z2 (b : Fin 512) : (outsAt0 m c t.val t.isLt).2.2.2.2.1 (ix2 a b) = (rows m c).gz2 (row (six t) a) b := by
  have e := cut_z2 (iblk m c 1 t) (iblk m c 2 t) (iblk m c 3 t) (iblk m c 4 t) (iblk m c 5 t) (iblk m c 6 t) (iblk m c 7 t) (iblk m c 8 t) (iblk m c 9 t) (iblk m c 10 t) a b
  rw [part_eq, Rows.pick_gz2] at e
  exact (congrFun (at15 m c t) (ix2 a b)).trans e

/-! ## What a point adds to the sums -/

theorem add_nw (l : Fin 128) : tGw (iblk m c 3 t) (tH (iblk m c 1 t) (iblk m c 2 t) (iblk m c 3 t) (iblk m c 4 t) (iblk m c 5 t) (iblk m c 6 t) (iblk m c 7 t) (iblk m c 8 t) (iblk m c 9 t) (iblk m c 10 t)) (ix2 0 l)
    = ∑ a, (rows m c).tnw (row (six t) a) l := by
  have e := cut_nw (iblk m c 1 t) (iblk m c 2 t) (iblk m c 3 t) (iblk m c 4 t) (iblk m c 5 t) (iblk m c 6 t) (iblk m c 7 t) (iblk m c 8 t) (iblk m c 9 t) (iblk m c 10 t) l
  rw [part_eq] at e
  exact e.trans (Finset.sum_congr rfl fun a _ => Rows.pick_tnw _ _ a l)
theorem add_wt (b : Fin 512) (k : Fin 1024) : tW (iblk m c 1 t) (iblk m c 2 t) (iblk m c 3 t) (iblk m c 4 t) (iblk m c 5 t) (iblk m c 6 t) (iblk m c 7 t) (iblk m c 8 t) (iblk m c 9 t) (iblk m c 10 t) (ix2 (top b) k)
    = ∑ a, (rows m c).twt (row (six t) a) b k := by
  have e := cut_wt (iblk m c 1 t) (iblk m c 2 t) (iblk m c 3 t) (iblk m c 4 t) (iblk m c 5 t) (iblk m c 6 t) (iblk m c 7 t) (iblk m c 8 t) (iblk m c 9 t) (iblk m c 10 t) b k
  rw [part_eq] at e
  exact e.trans (Finset.sum_congr rfl fun a _ => Rows.pick_twt _ _ a b k)
theorem add_wb (b : Fin 512) (k : Fin 1024) : tW (iblk m c 1 t) (iblk m c 2 t) (iblk m c 3 t) (iblk m c 4 t) (iblk m c 5 t) (iblk m c 6 t) (iblk m c 7 t) (iblk m c 8 t) (iblk m c 9 t) (iblk m c 10 t) (ix2 (bot b) k)
    = ∑ a, (rows m c).twb (row (six t) a) b k := by
  have e := cut_wb (iblk m c 1 t) (iblk m c 2 t) (iblk m c 3 t) (iblk m c 4 t) (iblk m c 5 t) (iblk m c 6 t) (iblk m c 7 t) (iblk m c 8 t) (iblk m c 9 t) (iblk m c 10 t) b k
  rw [part_eq] at e
  exact e.trans (Finset.sum_congr rfl fun a _ => Rows.pick_twb _ _ a b k)
theorem add_pw (k : Fin 1024) : k0_pay52 (F := Ideal) (tN (iblk m c 1 t) (iblk m c 2 t) (iblk m c 3 t) (iblk m c 4 t) (iblk m c 5 t) (iblk m c 6 t)) (tD (iblk m c 8 t) (iblk m c 9 t) (iblk m c 10 t)) (ix2 0 k)
    = ∑ a, (rows m c).tpw (row (six t) a) k := by
  have e := cut_pw (iblk m c 1 t) (iblk m c 2 t) (iblk m c 3 t) (iblk m c 4 t) (iblk m c 5 t) (iblk m c 6 t) (iblk m c 7 t) (iblk m c 8 t) (iblk m c 9 t) (iblk m c 10 t) k
  rw [part_eq] at e
  exact e.trans (Finset.sum_congr rfl fun a _ => Rows.pick_tpw _ _ a k)
theorem add_gt (k : Fin 1024) : k0_pay51 (F := Ideal) (tGt (iblk m c 1 t) (iblk m c 2 t) (iblk m c 3 t) (iblk m c 4 t) (iblk m c 5 t) (iblk m c 6 t) (iblk m c 7 t) (iblk m c 10 t)) (ix2 0 k)
    = ∑ a, (rows m c).tgt (row (six t) a) k := by
  have e := cut_gt (iblk m c 1 t) (iblk m c 2 t) (iblk m c 3 t) (iblk m c 4 t) (iblk m c 5 t) (iblk m c 6 t) (iblk m c 7 t) (iblk m c 8 t) (iblk m c 9 t) (iblk m c 10 t) k
  rw [part_eq] at e
  exact e.trans (Finset.sum_congr rfl fun a _ => Rows.pick_tgt _ _ a k)

end

/-! ## The sums after the last point -/

variable (t : Fin cfg0.N) (ht : t.val = 15)
include ht

theorem sum_nw (l : Fin 128) : (outsAt0 m c t.val t.isLt).2.2.2.2.2.1 (ix2 0 l) = ∑ i, (rows m c).tnw i l := by
  refine sum_points N_0 (s := fun t => (outsAt0 m c t.val t.isLt).2.2.2.2.2.1 (ix2 0 l)) (T := fun i => (rows m c).tnw i l) (fun t h => ?_) (fun t h => ?_) t ht
  · refine ((congrFun (first16 m c t h) _).trans (add16 _ _ l)).trans ?_
    rw [zero16, zero_add]
    exact add_nw m c t l
  · exact ((congrFun (later16 m c t h) _).trans (add16 _ _ l)).trans (congrArg₂ (· + ·) rfl (add_nw m c t l))

theorem sum_wt (b : Fin 512) (k : Fin 1024) : (outsAt0 m c t.val t.isLt).2.2.2.2.2.2.1 (ix2 (top b) k) = ∑ i, (rows m c).twt i b k := by
  refine sum_points N_0 (s := fun t => (outsAt0 m c t.val t.isLt).2.2.2.2.2.2.1 (ix2 (top b) k)) (T := fun i => (rows m c).twt i b k) (fun t h => ?_) (fun t h => ?_) t ht
  · refine ((congrFun (first17 m c t h) _).trans (add17 _ _ (top b) k)).trans ?_
    rw [zero17, zero_add]
    exact add_wt m c t b k
  · exact ((congrFun (later17 m c t h) _).trans (add17 _ _ (top b) k)).trans (congrArg₂ (· + ·) rfl (add_wt m c t b k))

theorem sum_wb (b : Fin 512) (k : Fin 1024) : (outsAt0 m c t.val t.isLt).2.2.2.2.2.2.1 (ix2 (bot b) k) = ∑ i, (rows m c).twb i b k := by
  refine sum_points N_0 (s := fun t => (outsAt0 m c t.val t.isLt).2.2.2.2.2.2.1 (ix2 (bot b) k)) (T := fun i => (rows m c).twb i b k) (fun t h => ?_) (fun t h => ?_) t ht
  · refine ((congrFun (first17 m c t h) _).trans (add17 _ _ (bot b) k)).trans ?_
    rw [zero17, zero_add]
    exact add_wb m c t b k
  · exact ((congrFun (later17 m c t h) _).trans (add17 _ _ (bot b) k)).trans (congrArg₂ (· + ·) rfl (add_wb m c t b k))

theorem sum_pw (k : Fin 1024) : (outsAt0 m c t.val t.isLt).2.2.2.2.2.2.2.1 (ix2 0 k) = ∑ i, (rows m c).tpw i k := by
  refine sum_points N_0 (s := fun t => (outsAt0 m c t.val t.isLt).2.2.2.2.2.2.2.1 (ix2 0 k)) (T := fun i => (rows m c).tpw i k) (fun t h => ?_) (fun t h => ?_) t ht
  · refine ((congrFun (first18 m c t h) _).trans (add18 _ _ k)).trans ?_
    rw [zero18, zero_add]
    exact add_pw m c t k
  · exact ((congrFun (later18 m c t h) _).trans (add18 _ _ k)).trans (congrArg₂ (· + ·) rfl (add_pw m c t k))

theorem sum_gr (k : Fin 1024) : (outsAt0 m c t.val t.isLt).2.2.2.2.2.2.2.2.1 (ix2 0 k) = ∑ i, (rows m c).tgt i k := by
  refine sum_points N_0 (s := fun t => (outsAt0 m c t.val t.isLt).2.2.2.2.2.2.2.2.1 (ix2 0 k)) (T := fun i => (rows m c).tgt i k) (fun t h => ?_) (fun t h => ?_) t ht
  · refine ((congrFun (first19 m c t h) _).trans (add19 _ _ k)).trans ?_
    rw [zero19, zero_add]
    exact add_gt m c t k
  · exact ((congrFun (later19 m c t h) _).trans (add19 _ _ k)).trans (congrArg₂ (· + ·) rfl (add_gt m c t k))

theorem sum_gb (k : Fin 1024) : (outsAt0 m c t.val t.isLt).2.2.2.2.2.2.2.2.2 (ix2 0 k) = ∑ i, (rows m c).tgt i k := by
  refine sum_points N_0 (s := fun t => (outsAt0 m c t.val t.isLt).2.2.2.2.2.2.2.2.2 (ix2 0 k)) (T := fun i => (rows m c).tgt i k) (fun t h => ?_) (fun t h => ?_) t ht
  · refine ((congrFun (first20 m c t h) _).trans (add20 _ _ k)).trans ?_
    rw [zero20, zero_add]
    exact add_gt m c t k
  · exact ((congrFun (later20 m c t h) _).trans (add20 _ _ k)).trans (congrArg₂ (· + ·) rfl (add_gt m c t k))

omit ht

/-! ## The arrays -/

theorem arr_x (G : FVec Ideal S8192x1024 .f32) (hG : ∀ (i : Fin 8192) (b : Fin 1024), G (ix2 i b) = (rows m c).g i b) :
    (dats m 0 c).arrAt 11 cfg0.N = G := by
  refine (dats m 0 c).arrAt_eq_of_covers 11 G (by decide +kernel) fun t hf y => ?_
  obtain ⟨a, ha⟩ : ∃ a : Fin 512, a.val = (y 0).val := ⟨y 0, rfl⟩
  obtain ⟨b, hb⟩ : ∃ b : Fin 1024, b.val = (y 1).val := ⟨y 1, rfl⟩
  have he : ((cfg0.win 11).blk t).view.emb y = (ix2 (row (six t) a) b : S8192x1024.Idx) := by
    funext k
    refine Fin.ext (((cfg0.win 11).rect_emb_val t y k).trans ?_)
    match k with
    | 0 => show (BitVec.ofNat 32 (grid0.coords t 0).val).toNat * 512 + (y 0).val = a.val + 512 * t.val; rw [coord]; omega
    | 1 => show 0 * 1024 + (y 1).val = b.val; omega
  have hy : (cfg0.win 11).xinj (cfg0.grid.coords t) y = (ix2 a b : (S512x1024).Idx) := by
    funext k
    match k with
    | 0 => exact Fin.ext ha.symm
    | 1 => exact Fin.ext hb.symm
  refine Eq.trans ?_ ((congrArg G he).trans (hG _ b)).symm
  refine (cast_eq _ _).trans ((congrArg ((dats m 0 c).after 11 t) hy).trans ((congrFun (after0_11 m c t) _).trans ?_))
  exact (congrFun (at11 m c t) _).trans (in10 m c t a b)

theorem arr_o1 (G : FVec Ideal S8192x512 .f32) (hG : ∀ (i : Fin 8192) (b : Fin 512), G (ix2 i b) = (rows m c).go1 i b) :
    (dats m 0 c).arrAt 12 cfg0.N = G := by
  refine (dats m 0 c).arrAt_eq_of_covers 12 G (by decide +kernel) fun t hf y => ?_
  obtain ⟨a, ha⟩ : ∃ a : Fin 512, a.val = (y 0).val := ⟨y 0, rfl⟩
  obtain ⟨b, hb⟩ : ∃ b : Fin 512, b.val = (y 1).val := ⟨y 1, rfl⟩
  have he : ((cfg0.win 12).blk t).view.emb y = (ix2 (row (six t) a) b : S8192x512.Idx) := by
    funext k
    refine Fin.ext (((cfg0.win 12).rect_emb_val t y k).trans ?_)
    match k with
    | 0 => show (BitVec.ofNat 32 (grid0.coords t 0).val).toNat * 512 + (y 0).val = a.val + 512 * t.val; rw [coord]; omega
    | 1 => show 0 * 512 + (y 1).val = b.val; omega
  have hy : (cfg0.win 12).xinj (cfg0.grid.coords t) y = (ix2 a b : (S512x512).Idx) := by
    funext k
    match k with
    | 0 => exact Fin.ext ha.symm
    | 1 => exact Fin.ext hb.symm
  refine Eq.trans ?_ ((congrArg G he).trans (hG _ b)).symm
  refine (cast_eq _ _).trans ((congrArg ((dats m 0 c).after 12 t) hy).trans ((congrFun (after0_12 m c t) _).trans ?_))
  exact at_o1 m c t a b

theorem arr_z1 (G : FVec Ideal S8192x512 .f32) (hG : ∀ (i : Fin 8192) (b : Fin 512), G (ix2 i b) = (rows m c).gz1 i b) :
    (dats m 0 c).arrAt 13 cfg0.N = G := by
  refine (dats m 0 c).arrAt_eq_of_covers 13 G (by decide +kernel) fun t hf y => ?_
  obtain ⟨a, ha⟩ : ∃ a : Fin 512, a.val = (y 0).val := ⟨y 0, rfl⟩
  obtain ⟨b, hb⟩ : ∃ b : Fin 512, b.val = (y 1).val := ⟨y 1, rfl⟩
  have he : ((cfg0.win 13).blk t).view.emb y = (ix2 (row (six t) a) b : S8192x512.Idx) := by
    funext k
    refine Fin.ext (((cfg0.win 13).rect_emb_val t y k).trans ?_)
    match k with
    | 0 => show (BitVec.ofNat 32 (grid0.coords t 0).val).toNat * 512 + (y 0).val = a.val + 512 * t.val; rw [coord]; omega
    | 1 => show 0 * 512 + (y 1).val = b.val; omega
  have hy : (cfg0.win 13).xinj (cfg0.grid.coords t) y = (ix2 a b : (S512x512).Idx) := by
    funext k
    match k with
    | 0 => exact Fin.ext ha.symm
    | 1 => exact Fin.ext hb.symm
  refine Eq.trans ?_ ((congrArg G he).trans (hG _ b)).symm
  refine (cast_eq _ _).trans ((congrArg ((dats m 0 c).after 13 t) hy).trans ((congrFun (after0_13 m c t) _).trans ?_))
  exact at_z1 m c t a b

theorem arr_o2 (G : FVec Ideal S8192x512 .f32) (hG : ∀ (i : Fin 8192) (b : Fin 512), G (ix2 i b) = (rows m c).go2 i b) :
    (dats m 0 c).arrAt 14 cfg0.N = G := by
  refine (dats m 0 c).arrAt_eq_of_covers 14 G (by decide +kernel) fun t hf y => ?_
  obtain ⟨a, ha⟩ : ∃ a : Fin 512, a.val = (y 0).val := ⟨y 0, rfl⟩
  obtain ⟨b, hb⟩ : ∃ b : Fin 512, b.val = (y 1).val := ⟨y 1, rfl⟩
  have he : ((cfg0.win 14).blk t).view.emb y = (ix2 (row (six t) a) b : S8192x512.Idx) := by
    funext k
    refine Fin.ext (((cfg0.win 14).rect_emb_val t y k).trans ?_)
    match k with
    | 0 => show (BitVec.ofNat 32 (grid0.coords t 0).val).toNat * 512 + (y 0).val = a.val + 512 * t.val; rw [coord]; omega
    | 1 => show 0 * 512 + (y 1).val = b.val; omega
  have hy : (cfg0.win 14).xinj (cfg0.grid.coords t) y = (ix2 a b : (S512x512).Idx) := by
    funext k
    match k with
    | 0 => exact Fin.ext ha.symm
    | 1 => exact Fin.ext hb.symm
  refine Eq.trans ?_ ((congrArg G he).trans (hG _ b)).symm
  refine (cast_eq _ _).trans ((congrArg ((dats m 0 c).after 14 t) hy).trans ((congrFun (after0_14 m c t) _).trans ?_))
  exact at_o2 m c t a b

theorem arr_z2 (G : FVec Ideal S8192x512 .f32) (hG : ∀ (i : Fin 8192) (b : Fin 512), G (ix2 i b) = (rows m c).gz2 i b) :
    (dats m 0 c).arrAt 15 cfg0.N = G := by
  refine (dats m 0 c).arrAt_eq_of_covers 15 G (by decide +kernel) fun t hf y => ?_
  obtain ⟨a, ha⟩ : ∃ a : Fin 512, a.val = (y 0).val := ⟨y 0, rfl⟩
  obtain ⟨b, hb⟩ : ∃ b : Fin 512, b.val = (y 1).val := ⟨y 1, rfl⟩
  have he : ((cfg0.win 15).blk t).view.emb y = (ix2 (row (six t) a) b : S8192x512.Idx) := by
    funext k
    refine Fin.ext (((cfg0.win 15).rect_emb_val t y k).trans ?_)
    match k with
    | 0 => show (BitVec.ofNat 32 (grid0.coords t 0).val).toNat * 512 + (y 0).val = a.val + 512 * t.val; rw [coord]; omega
    | 1 => show 0 * 512 + (y 1).val = b.val; omega
  have hy : (cfg0.win 15).xinj (cfg0.grid.coords t) y = (ix2 a b : (S512x512).Idx) := by
    funext k
    match k with
    | 0 => exact Fin.ext ha.symm
    | 1 => exact Fin.ext hb.symm
  refine Eq.trans ?_ ((congrArg G he).trans (hG _ b)).symm
  refine (cast_eq _ _).trans ((congrArg ((dats m 0 c).after 15 t) hy).trans ((congrFun (after0_15 m c t) _).trans ?_))
  exact at_z2 m c t a b

theorem arr_nw (G : FVec Ideal S1x128 .f32) (hG : ∀ k : Fin 128, G (ix2 0 k) = ∑ i, (rows m c).tnw i k) :
    (dats m 0 c).arrAt 16 cfg0.N = G := by
  refine (dats m 0 c).arrAt_eq_of_covers 16 G (by decide +kernel) fun t hf y => ?_
  have h0 : (y 0).val < 1 := (y 0).isLt
  obtain ⟨b, hb⟩ : ∃ b : Fin 128, b.val = (y 1).val := ⟨y 1, rfl⟩
  have he : ((cfg0.win 16).blk t).view.emb y = (ix2 0 b : S1x128.Idx) := by
    funext k
    refine Fin.ext (((cfg0.win 16).rect_emb_val t y k).trans ?_)
    match k with
    | 0 => show 0 * 1 + (y 0).val = 0; omega
    | 1 => show 0 * 128 + (y 1).val = b.val; omega
  have hy : (cfg0.win 16).xinj (cfg0.grid.coords t) y = (ix2 0 b : S1x128.Idx) := by
    funext k
    match k with
    | 0 => exact Fin.ext (show (y 0).val = 0 by omega)
    | 1 => exact Fin.ext hb.symm
  have ht : t.val = 15 := by
    have h1 := (flush0_16 t).mp hf
    have h2 : t.val < 16 := lt_of_lt_of_eq t.isLt N_0
    omega
  refine Eq.trans ?_ ((congrArg G he).trans (hG b)).symm
  refine (cast_eq _ _).trans ((congrArg ((dats m 0 c).after 16 t) hy).trans ((congrFun (after0_16 m c t) _).trans ?_))
  exact sum_nw m c t ht b

theorem arr_pw (G : FVec Ideal S1x1024 .f32) (hG : ∀ k : Fin 1024, G (ix2 0 k) = ∑ i, (rows m c).tpw i k) :
    (dats m 0 c).arrAt 18 cfg0.N = G := by
  refine (dats m 0 c).arrAt_eq_of_covers 18 G (by decide +kernel) fun t hf y => ?_
  have h0 : (y 0).val < 1 := (y 0).isLt
  obtain ⟨b, hb⟩ : ∃ b : Fin 1024, b.val = (y 1).val := ⟨y 1, rfl⟩
  have he : ((cfg0.win 18).blk t).view.emb y = (ix2 0 b : S1x1024.Idx) := by
    funext k
    refine Fin.ext (((cfg0.win 18).rect_emb_val t y k).trans ?_)
    match k with
    | 0 => show 0 * 1 + (y 0).val = 0; omega
    | 1 => show 0 * 1024 + (y 1).val = b.val; omega
  have hy : (cfg0.win 18).xinj (cfg0.grid.coords t) y = (ix2 0 b : S1x1024.Idx) := by
    funext k
    match k with
    | 0 => exact Fin.ext (show (y 0).val = 0 by omega)
    | 1 => exact Fin.ext hb.symm
  have ht : t.val = 15 := by
    have h1 := (flush0_18 t).mp hf
    have h2 : t.val < 16 := lt_of_lt_of_eq t.isLt N_0
    omega
  refine Eq.trans ?_ ((congrArg G he).trans (hG b)).symm
  refine (cast_eq _ _).trans ((congrArg ((dats m 0 c).after 18 t) hy).trans ((congrFun (after0_18 m c t) _).trans ?_))
  exact sum_pw m c t ht b

theorem arr_gr (G : FVec Ideal S1x1024 .f32) (hG : ∀ k : Fin 1024, G (ix2 0 k) = ∑ i, (rows m c).tgt i k) :
    (dats m 0 c).arrAt 19 cfg0.N = G := by
  refine (dats m 0 c).arrAt_eq_of_covers 19 G (by decide +kernel) fun t hf y => ?_
  have h0 : (y 0).val < 1 := (y 0).isLt
  obtain ⟨b, hb⟩ : ∃ b : Fin 1024, b.val = (y 1).val := ⟨y 1, rfl⟩
  have he : ((cfg0.win 19).blk t).view.emb y = (ix2 0 b : S1x1024.Idx) := by
    funext k
    refine Fin.ext (((cfg0.win 19).rect_emb_val t y k).trans ?_)
    match k with
    | 0 => show 0 * 1 + (y 0).val = 0; omega
    | 1 => show 0 * 1024 + (y 1).val = b.val; omega
  have hy : (cfg0.win 19).xinj (cfg0.grid.coords t) y = (ix2 0 b : S1x1024.Idx) := by
    funext k
    match k with
    | 0 => exact Fin.ext (show (y 0).val = 0 by omega)
    | 1 => exact Fin.ext hb.symm
  have ht : t.val = 15 := by
    have h1 := (flush0_19 t).mp hf
    have h2 : t.val < 16 := lt_of_lt_of_eq t.isLt N_0
    omega
  refine Eq.trans ?_ ((congrArg G he).trans (hG b)).symm
  refine (cast_eq _ _).trans ((congrArg ((dats m 0 c).after 19 t) hy).trans ((congrFun (after0_19 m c t) _).trans ?_))
  exact sum_gr m c t ht b

theorem arr_gb (G : FVec Ideal S1x1024 .f32) (hG : ∀ k : Fin 1024, G (ix2 0 k) = ∑ i, (rows m c).tgt i k) :
    (dats m 0 c).arrAt 20 cfg0.N = G := by
  refine (dats m 0 c).arrAt_eq_of_covers 20 G (by decide +kernel) fun t hf y => ?_
  have h0 : (y 0).val < 1 := (y 0).isLt
  obtain ⟨b, hb⟩ : ∃ b : Fin 1024, b.val = (y 1).val := ⟨y 1, rfl⟩
  have he : ((cfg0.win 20).blk t).view.emb y = (ix2 0 b : S1x1024.Idx) := by
    funext k
    refine Fin.ext (((cfg0.win 20).rect_emb_val t y k).trans ?_)
    match k with
    | 0 => show 0 * 1 + (y 0).val = 0; omega
    | 1 => show 0 * 1024 + (y 1).val = b.val; omega
  have hy : (cfg0.win 20).xinj (cfg0.grid.coords t) y = (ix2 0 b : S1x1024.Idx) := by
    funext k
    match k with
    | 0 => exact Fin.ext (show (y 0).val = 0 by omega)
    | 1 => exact Fin.ext hb.symm
  have ht : t.val = 15 := by
    have h1 := (flush0_20 t).mp hf
    have h2 : t.val < 16 := lt_of_lt_of_eq t.isLt N_0
    omega
  refine Eq.trans ?_ ((congrArg G he).trans (hG b)).symm
  refine (cast_eq _ _).trans ((congrArg ((dats m 0 c).after 20 t) hy).trans ((congrFun (after0_20 m c t) _).trans ?_))
  exact sum_gb m c t ht b

/-- A row of the projection belongs to one of its halves. -/
theorem half_cases (r : Fin 1024) : (∃ b, r = top b) ∨ ∃ b, r = bot b := by
  by_cases h : r.val < 512
  · exact Or.inl ⟨⟨r.val, h⟩, rfl⟩
  · exact Or.inr ⟨⟨r.val - 512, by omega⟩, Fin.ext (show r.val = r.val - 512 + 512 by omega)⟩

theorem arr_w (G : FVec Ideal S1024x1024 .f32) (hT : ∀ (b : Fin 512) (k : Fin 1024), G (ix2 (top b) k) = ∑ i, (rows m c).twt i b k)
    (hB : ∀ (b : Fin 512) (k : Fin 1024), G (ix2 (bot b) k) = ∑ i, (rows m c).twb i b k) : (dats m 0 c).arrAt 17 cfg0.N = G := by
  refine (dats m 0 c).arrAt_eq_of_covers 17 G (by decide +kernel) fun t hf y => ?_
  obtain ⟨a, ha⟩ : ∃ a : Fin 1024, a.val = (y 0).val := ⟨y 0, rfl⟩
  obtain ⟨b, hb⟩ : ∃ b : Fin 1024, b.val = (y 1).val := ⟨y 1, rfl⟩
  have he : ((cfg0.win 17).blk t).view.emb y = (ix2 a b : S1024x1024.Idx) := by
    funext k
    refine Fin.ext (((cfg0.win 17).rect_emb_val t y k).trans ?_)
    match k with
    | 0 => show 0 * 1024 + (y 0).val = a.val; omega
    | 1 => show 0 * 1024 + (y 1).val = b.val; omega
  have hy : (cfg0.win 17).xinj (cfg0.grid.coords t) y = (ix2 a b : S1024x1024.Idx) := by
    funext k
    match k with
    | 0 => exact Fin.ext ha.symm
    | 1 => exact Fin.ext hb.symm
  have ht : t.val = 15 := by
    have h1 := (flush0_17 t).mp hf
    have h2 : t.val < 16 := lt_of_lt_of_eq t.isLt N_0
    omega
  refine Eq.trans ?_ (congrArg G he).symm
  refine (cast_eq _ _).trans ((congrArg ((dats m 0 c).after 17 t) hy).trans ((congrFun (after0_17 m c t) _).trans ?_))
  rcases half_cases a with ⟨r, rfl⟩ | ⟨r, rfl⟩
  · exact (sum_wt m c t ht r b).trans (hT r b).symm
  · exact (sum_wb m c t ht r b).trans (hB r b).symm

end Final

end Cert.Proof.Tail
-- ==== Proof.LatentFinal.lean ====
module

public import proofs.«01_k».proof.Proof.LatentPoint
public import proofs.«01_k».proof.Proof.TailFinal

/-! The arrays that the latents' backward kernel leaves. -/

@[expose] public section

set_option maxRecDepth 8192
noncomputable section

namespace Cert.Proof.Latent

open Idealize Idealize.ShloMosaic Idealize.ShloMosaic.TcCoe
open Cert.Proof.Front (Row)
open Cert.Proof.Tile (row row_val)

/-- The rows of the two latents, of the tables and of the gradients given, and the weights. -/
structure Rows (n : ℕ) where
  x : Fin n → Fin 384 → EReal
  y : Fin n → Fin 256 → EReal
  s : Fin n → Lanes
  t : Fin n → Lanes
  nq : Fin 384 → EReal
  uq : Fin 384 → Row
  nk : Fin 256 → EReal
  uk : Fin 256 → Row
  dq : Fin n → Row
  dk : Fin n → Row
  dv : Fin n → Fin 512 → EReal

namespace Rows

variable {n : ℕ} (R : Rows n) (i : Fin n)

/-- Some of the rows, with the same weights. -/
def pick {k : ℕ} (f : Fin k → Fin n) : Rows k :=
  ⟨fun a => R.x (f a), fun a => R.y (f a), fun a => R.s (f a), fun a => R.t (f a), R.nq, R.uq, R.nk, R.uk,
    fun a => R.dq (f a), fun a => R.dk (f a), fun a => R.dv (f a)⟩

/-- The gradients of the two projections, and what they send back to the normalised latents. -/
def pq : Row := gq (R.dq i) (R.s i) (R.t i)
def pk : Row := gk (R.dk i) (R.dv i)
def sq : Fin 384 → EReal := sent (R.pq i) R.uq
def sk : Fin 256 → EReal := sent (R.pk i) R.uk

/-! The gradients, and the terms of those of the weights. -/

def gx (b : Fin 384) : EReal := glat lq (R.x i) R.nq (R.sq i) b
def gy (b : Fin 256) : EReal := glat lkv (R.y i) R.nk (R.sk i) b
def gs (l : Fin 128) : EReal := gr (R.dk i) (R.s i) (R.t i) l
def tnq (b : Fin 384) : EReal := hat lq (R.x i) b * R.sq i b
def tuq (b : Fin 384) (k : Fin 1024) : EReal := nrm lq (R.x i) R.nq b * R.pq i k
def tnk (b : Fin 256) : EReal := hat lkv (R.y i) b * R.sk i b
def tuk (b : Fin 256) (k : Fin 1024) : EReal := nrm lkv (R.y i) R.nk b * R.pk i k

end Rows

namespace Final

open Cert.Kernel6Ideal Cert.Kernel6Ideal.Gen
open Cert.Proof.Latent.Tile Cert.Proof.Latent.Point
open Cert.Proof.Tail (sum_points)

section
variable (x : Tile.Lat) (y : Tile.Kv) (s t : Tile.Tab) (nq : Tile.LatW) (uq : Tile.LatU) (nk : Tile.KvW) (uk : Tile.KvU)
  (dq dk : Tile.Big) (dv : Tile.Wide)

/-- The rows of some blocks. -/
def cut : Rows 512 where
  x a b := x (ix2 a b)
  y a b := y (ix2 a b)
  s a l := s (ix2 a l)
  t a l := t (ix2 a l)
  nq b := nq (ix2 0 b)
  uq b k := uq (ix2 b k)
  nk b := nk (ix2 0 b)
  uk b k := uk (ix2 b k)
  dq a k := dq (ix2 a k)
  dk a k := dk (ix2 a k)
  dv a b := dv (ix2 a b)

theorem cut_x (a : Fin 512) (b : Fin 384) : tGq x s t nq uq dq (ix2 a b) = (cut x y s t nq uq nk uk dq dk dv).gx a b :=
  gq_at x s t nq uq dq a b
theorem cut_y (a : Fin 512) (b : Fin 256) : tGk y nk uk dk dv (ix2 a b) = (cut x y s t nq uq nk uk dq dk dv).gy a b :=
  gk_at y nk uk dk dv a b
theorem cut_s (a : Fin 512) (b : Fin 128) : tR s t dk (ix2 a b) = (cut x y s t nq uq nk uk dq dk dv).gs a b :=
  r_at s t dk a b
theorem cut_nq (b : Fin 384) : k0_pay33 (F := Ideal) uq (k0_pay4 (F := Ideal) x) (tQ s t dq) (ix2 0 b) = ∑ a, (cut x y s t nq uq nk uk dq dk dv).tnq a b :=
  nq_at x s t uq dq b
theorem cut_uq (b : Fin 384) (k : Fin 1024) : k0_pay32 (F := Ideal) (k0_pay5 (F := Ideal) x nq) (tQ s t dq) (ix2 b k) = ∑ a, (cut x y s t nq uq nk uk dq dk dv).tuq a b k :=
  uq_at x s t nq dq b k
theorem cut_nk (b : Fin 256) : k0_pay29 (F := Ideal) uk (k0_pay10 (F := Ideal) y (k0_pay9 (F := Ideal) y)) (tK dk dv) (ix2 0 b) = ∑ a, (cut x y s t nq uq nk uk dq dk dv).tnk a b :=
  nk_at y uk dk dv b
theorem cut_uk (b : Fin 256) (k : Fin 1024) : k0_pay28 (F := Ideal) (k0_pay11 (F := Ideal) y nk (k0_pay9 (F := Ideal) y)) (tK dk dv) (ix2 b k) = ∑ a, (cut x y s t nq uq nk uk dq dk dv).tuk a b k :=
  uk_at y nk dk dv b k

end

variable (m : (ℓ : Loc nD τ sig) → Buf (Elt Ideal) ℓ) (c : Dev nD)

/-- The rows of the arrays at launch. -/
def rows : Rows 8192 where
  x i b := m (c.tc.loc main_arg0) (ix2 i b : S8192x384.Idx)
  y i b := m (c.tc.loc main_arg1) (ix2 i b : S8192x256.Idx)
  s i l := m (c.tc.loc main_arg3) (ix2 i l : S8192x128.Idx)
  t i l := m (c.tc.loc main_arg4) (ix2 i l : S8192x128.Idx)
  nq b := m (c.tc.loc main_arg5) (ix2 0 b : S1x384.Idx)
  uq b k := m (c.tc.loc main_arg6) (ix2 b k : S384x1024.Idx)
  nk b := m (c.tc.loc main_arg7) (ix2 0 b : S1x256.Idx)
  uk b k := m (c.tc.loc main_arg8) (ix2 b k : S256x1024.Idx)
  dq i k := m (c.tc.loc main_arg9) (ix2 i k : S8192x1024.Idx)
  dk i k := m (c.tc.loc main_arg10) (ix2 i k : S8192x1024.Idx)
  dv i b := m (c.tc.loc main_arg11) (ix2 i b : S8192x512.Idx)

theorem coord (t : Fin cfg0.N) : (BitVec.ofNat 32 (grid0.coords t 0).val).toNat = t.val := by
  have h : t.val < 16 := lt_of_lt_of_eq t.isLt N_0
  have e := Pipeline.Grid.coords_val (G := grid0) t 0 (S := 1) (B := 16) (by decide) rfl
  rw [e, BitVec.toNat_ofNat]
  omega

/-- Point `t` as one of sixteen. -/
def six (t : Fin cfg0.N) : Fin 16 := ⟨t.val, lt_of_lt_of_eq t.isLt N_0⟩

section
variable (t : Fin cfg0.N) (a : Fin 512)

theorem in0 (k : Fin 384) : iblk m c 0 t (ix2 a k : S512x384.Idx) = m (c.tc.loc main_arg0) (ix2 (row (six t) a) k : S8192x384.Idx) := by
  refine congrArg (V m c main_arg0) (funext fun b => Fin.ext ?_)
  refine ((cfg0.win 0).rect_emb_val t (ix2 a k : S512x384.Idx) b).trans ?_
  match b with
  | 0 => show (BitVec.ofNat 32 (grid0.coords t 0).val).toNat * 512 + a.val = a.val + 512 * t.val; rw [coord]; omega
  | 1 => show 0 * 384 + k.val = k.val; omega
theorem in1 (k : Fin 256) : iblk m c 1 t (ix2 a k : S512x256.Idx) = m (c.tc.loc main_arg1) (ix2 (row (six t) a) k : S8192x256.Idx) := by
  refine congrArg (V m c main_arg1) (funext fun b => Fin.ext ?_)
  refine ((cfg0.win 1).rect_emb_val t (ix2 a k : S512x256.Idx) b).trans ?_
  match b with
  | 0 => show (BitVec.ofNat 32 (grid0.coords t 0).val).toNat * 512 + a.val = a.val + 512 * t.val; rw [coord]; omega
  | 1 => show 0 * 256 + k.val = k.val; omega
theorem in3 (k : Fin 128) : iblk m c 3 t (ix2 a k : S512x128.Idx) = m (c.tc.loc main_arg3) (ix2 (row (six t) a) k : S8192x128.Idx) := by
  refine congrArg (V m c main_arg3) (funext fun b => Fin.ext ?_)
  refine ((cfg0.win 3).rect_emb_val t (ix2 a k : S512x128.Idx) b).trans ?_
  match b with
  | 0 => show (BitVec.ofNat 32 (grid0.coords t 0).val).toNat * 512 + a.val = a.val + 512 * t.val; rw [coord]; omega
  | 1 => show 0 * 128 + k.val = k.val; omega
theorem in4 (k : Fin 128) : iblk m c 4 t (ix2 a k : S512x128.Idx) = m (c.tc.loc main_arg4) (ix2 (row (six t) a) k : S8192x128.Idx) := by
  refine congrArg (V m c main_arg4) (funext fun b => Fin.ext ?_)
  refine ((cfg0.win 4).rect_emb_val t (ix2 a k : S512x128.Idx) b).trans ?_
  match b with
  | 0 => show (BitVec.ofNat 32 (grid0.coords t 0).val).toNat * 512 + a.val = a.val + 512 * t.val; rw [coord]; omega
  | 1 => show 0 * 128 + k.val = k.val; omega
theorem in9 (k : Fin 1024) : iblk m c 9 t (ix2 a k : S512x1024.Idx) = m (c.tc.loc main_arg9) (ix2 (row (six t) a) k : S8192x1024.Idx) := by
  refine congrArg (V m c main_arg9) (funext fun b => Fin.ext ?_)
  refine ((cfg0.win 9).rect_emb_val t (ix2 a k : S512x1024.Idx) b).trans ?_
  match b with
  | 0 => show (BitVec.ofNat 32 (grid0.coords t 0).val).toNat * 512 + a.val = a.val + 512 * t.val; rw [coord]; omega
  | 1 => show 0 * 1024 + k.val = k.val; omega
theorem in10 (k : Fin 1024) : iblk m c 10 t (ix2 a k : S512x1024.Idx) = m (c.tc.loc main_arg10) (ix2 (row (six t) a) k : S8192x1024.Idx) := by
  refine congrArg (V m c main_arg10) (funext fun b => Fin.ext ?_)
  refine ((cfg0.win 10).rect_emb_val t (ix2 a k : S512x1024.Idx) b).trans ?_
  match b with
  | 0 => show (BitVec.ofNat 32 (grid0.coords t 0).val).toNat * 512 + a.val = a.val + 512 * t.val; rw [coord]; omega
  | 1 => show 0 * 1024 + k.val = k.val; omega
theorem in11 (k : Fin 512) : iblk m c 11 t (ix2 a k : S512x512.Idx) = m (c.tc.loc main_arg11) (ix2 (row (six t) a) k : S8192x512.Idx) := by
  refine congrArg (V m c main_arg11) (funext fun b => Fin.ext ?_)
  refine ((cfg0.win 11).rect_emb_val t (ix2 a k : S512x512.Idx) b).trans ?_
  match b with
  | 0 => show (BitVec.ofNat 32 (grid0.coords t 0).val).toNat * 512 + a.val = a.val + 512 * t.val; rw [coord]; omega
  | 1 => show 0 * 512 + k.val = k.val; omega
theorem in5 (k : Fin 384) : iblk m c 5 t (ix2 0 k : S1x384.Idx) = m (c.tc.loc main_arg5) (ix2 0 k : S1x384.Idx) := by
  refine congrArg (V m c main_arg5) (funext fun b => Fin.ext ?_)
  refine ((cfg0.win 5).rect_emb_val t (ix2 0 k : S1x384.Idx) b).trans ?_
  match b with
  | 0 => show 0 * 1 + 0 = 0; omega
  | 1 => show 0 * 384 + k.val = k.val; omega
theorem in7 (k : Fin 256) : iblk m c 7 t (ix2 0 k : S1x256.Idx) = m (c.tc.loc main_arg7) (ix2 0 k : S1x256.Idx) := by
  refine congrArg (V m c main_arg7) (funext fun b => Fin.ext ?_)
  refine ((cfg0.win 7).rect_emb_val t (ix2 0 k : S1x256.Idx) b).trans ?_
  match b with
  | 0 => show 0 * 1 + 0 = 0; omega
  | 1 => show 0 * 256 + k.val = k.val; omega
theorem in6 (r : Fin 384) (k : Fin 1024) : iblk m c 6 t (ix2 r k : S384x1024.Idx) = m (c.tc.loc main_arg6) (ix2 r k : S384x1024.Idx) := by
  refine congrArg (V m c main_arg6) (funext fun b => Fin.ext ?_)
  refine ((cfg0.win 6).rect_emb_val t (ix2 r k : S384x1024.Idx) b).trans ?_
  match b with
  | 0 => show 0 * 384 + r.val = r.val; omega
  | 1 => show 0 * 1024 + k.val = k.val; omega
theorem in8 (r : Fin 256) (k : Fin 1024) : iblk m c 8 t (ix2 r k : S256x1024.Idx) = m (c.tc.loc main_arg8) (ix2 r k : S256x1024.Idx) := by
  refine congrArg (V m c main_arg8) (funext fun b => Fin.ext ?_)
  refine ((cfg0.win 8).rect_emb_val t (ix2 r k : S256x1024.Idx) b).trans ?_
  match b with
  | 0 => show 0 * 256 + r.val = r.val; omega
  | 1 => show 0 * 1024 + k.val = k.val; omega

theorem part_eq : cut (iblk m c 0 t) (iblk m c 1 t) (iblk m c 3 t) (iblk m c 4 t) (iblk m c 5 t) (iblk m c 6 t) (iblk m c 7 t) (iblk m c 8 t) (iblk m c 9 t) (iblk m c 10 t) (iblk m c 11 t) = (rows m c).pick (row (six t)) := by
  unfold cut rows Rows.pick
  simp only [in0, in1, in3, in4, in5, in6, in7, in8, in9, in10, in11]

/-! ## What a point writes -/

theorem at_x (b : Fin 384) : (outsAt0 m c t.val t.isLt).1 (ix2 a b) = (rows m c).gx (row (six t) a) b := by
  have e := cut_x (iblk m c 0 t) (iblk m c 1 t) (iblk m c 3 t) (iblk m c 4 t) (iblk m c 5 t) (iblk m c 6 t) (iblk m c 7 t) (iblk m c 8 t) (iblk m c 9 t) (iblk m c 10 t) (iblk m c 11 t) a b
  rw [part_eq] at e
  exact (congrFun (at12 m c t) (ix2 a b)).trans e
theorem at_y (b : Fin 256) : (outsAt0 m c t.val t.isLt).2.1 (ix2 a b) = (rows m c).gy (row (six t) a) b := by
  have e := cut_y (iblk m c 0 t) (iblk m c 1 t) (iblk m c 3 t) (iblk m c 4 t) (iblk m c 5 t) (iblk m c 6 t) (iblk m c 7 t) (iblk m c 8 t) (iblk m c 9 t) (iblk m c 10 t) (iblk m c 11 t) a b
  rw [part_eq] at e
  exact (congrFun (at13 m c t) (ix2 a b)).trans e
theorem at_s (b : Fin 128) : (outsAt0 m c t.val t.isLt).2.2.1 (ix2 a b) = (rows m c).gs (row (six t) a) b := by
  have e := cut_s (iblk m c 0 t) (iblk m c 1 t) (iblk m c 3 t) (iblk m c 4 t) (iblk m c 5 t) (iblk m c 6 t) (iblk m c 7 t) (iblk m c 8 t) (iblk m c 9 t) (iblk m c 10 t) (iblk m c 11 t) a b
  rw [part_eq] at e
  exact (congrFun (at14 m c t) (ix2 a b)).trans e

/-! ## What a point adds to the sums -/

theorem add_nq (b : Fin 384) : k0_pay33 (F := Ideal) (iblk m c 6 t) (k0_pay4 (F := Ideal) (iblk m c 0 t)) (tQ (iblk m c 3 t) (iblk m c 4 t) (iblk m c 9 t)) (ix2 0 b)
    = ∑ a, (rows m c).tnq (row (six t) a) b := by
  have e := cut_nq (iblk m c 0 t) (iblk m c 1 t) (iblk m c 3 t) (iblk m c 4 t) (iblk m c 5 t) (iblk m c 6 t) (iblk m c 7 t) (iblk m c 8 t) (iblk m c 9 t) (iblk m c 10 t) (iblk m c 11 t) b
  rw [part_eq] at e
  exact e
theorem add_uq (b : Fin 384) (k : Fin 1024) : k0_pay32 (F := Ideal) (k0_pay5 (F := Ideal) (iblk m c 0 t) (iblk m c 5 t)) (tQ (iblk m c 3 t) (iblk m c 4 t) (iblk m c 9 t)) (ix2 b k)
    = ∑ a, (rows m c).tuq (row (six t) a) b k := by
  have e := cut_uq (iblk m c 0 t) (iblk m c 1 t) (iblk m c 3 t) (iblk m c 4 t) (iblk m c 5 t) (iblk m c 6 t) (iblk m c 7 t) (iblk m c 8 t) (iblk m c 9 t) (iblk m c 10 t) (iblk m c 11 t) b k
  rw [part_eq] at e
  exact e
theorem add_nk (b : Fin 256) : k0_pay29 (F := Ideal) (iblk m c 8 t) (k0_pay10 (F := Ideal) (iblk m c 1 t) (k0_pay9 (F := Ideal) (iblk m c 1 t))) (tK (iblk m c 10 t) (iblk m c 11 t)) (ix2 0 b)
    = ∑ a, (rows m c).tnk (row (six t) a) b := by
  have e := cut_nk (iblk m c 0 t) (iblk m c 1 t) (iblk m c 3 t) (iblk m c 4 t) (iblk m c 5 t) (iblk m c 6 t) (iblk m c 7 t) (iblk m c 8 t) (iblk m c 9 t) (iblk m c 10 t) (iblk m c 11 t) b
  rw [part_eq] at e
  exact e
theorem add_uk (b : Fin 256) (k : Fin 1024) : k0_pay28 (F := Ideal) (k0_pay11 (F := Ideal) (iblk m c 1 t) (iblk m c 7 t) (k0_pay9 (F := Ideal) (iblk m c 1 t))) (tK (iblk m c 10 t) (iblk m c 11 t)) (ix2 b k)
    = ∑ a, (rows m c).tuk (row (six t) a) b k := by
  have e := cut_uk (iblk m c 0 t) (iblk m c 1 t) (iblk m c 3 t) (iblk m c 4 t) (iblk m c 5 t) (iblk m c 6 t) (iblk m c 7 t) (iblk m c 8 t) (iblk m c 9 t) (iblk m c 10 t) (iblk m c 11 t) b k
  rw [part_eq] at e
  exact e

end

/-! ## The sums after the last point -/

variable (t : Fin cfg0.N) (ht : t.val = 15)
include ht

theorem sum_nq (b : Fin 384) : (outsAt0 m c t.val t.isLt).2.2.2.1 (ix2 0 b) = ∑ i, (rows m c).tnq i b := by
  refine sum_points N_0 (s := fun t => (outsAt0 m c t.val t.isLt).2.2.2.1 (ix2 0 b)) (T := fun i => (rows m c).tnq i b) (fun t h => ?_) (fun t h => ?_) t ht
  · refine ((congrFun (first15 m c t h) _).trans (add15 _ _ b)).trans ?_
    rw [zero15, zero_add]
    exact add_nq m c t b
  · exact ((congrFun (later15 m c t h) _).trans (add15 _ _ b)).trans (congrArg₂ (· + ·) rfl (add_nq m c t b))

theorem sum_uq (b : Fin 384) (k : Fin 1024) : (outsAt0 m c t.val t.isLt).2.2.2.2.1 (ix2 b k) = ∑ i, (rows m c).tuq i b k := by
  refine sum_points N_0 (s := fun t => (outsAt0 m c t.val t.isLt).2.2.2.2.1 (ix2 b k)) (T := fun i => (rows m c).tuq i b k) (fun t h => ?_) (fun t h => ?_) t ht
  · refine ((congrFun (first16 m c t h) _).trans (add16 _ _ b k)).trans ?_
    rw [zero16, zero_add]
    exact add_uq m c t b k
  · exact ((congrFun (later16 m c t h) _).trans (add16 _ _ b k)).trans (congrArg₂ (· + ·) rfl (add_uq m c t b k))

theorem sum_nk (b : Fin 256) : (outsAt0 m c t.val t.isLt).2.2.2.2.2.1 (ix2 0 b) = ∑ i, (rows m c).tnk i b := by
  refine sum_points N_0 (s := fun t => (outsAt0 m c t.val t.isLt).2.2.2.2.2.1 (ix2 0 b)) (T := fun i => (rows m c).tnk i b) (fun t h => ?_) (fun t h => ?_) t ht
  · refine ((congrFun (first17 m c t h) _).trans (add17 _ _ b)).trans ?_
    rw [zero17, zero_add]
    exact add_nk m c t b
  · exact ((congrFun (later17 m c t h) _).trans (add17 _ _ b)).trans (congrArg₂ (· + ·) rfl (add_nk m c t b))

theorem sum_uk (b : Fin 256) (k : Fin 1024) : (outsAt0 m c t.val t.isLt).2.2.2.2.2.2 (ix2 b k) = ∑ i, (rows m c).tuk i b k := by
  refine sum_points N_0 (s := fun t => (outsAt0 m c t.val t.isLt).2.2.2.2.2.2 (ix2 b k)) (T := fun i => (rows m c).tuk i b k) (fun t h => ?_) (fun t h => ?_) t ht
  · refine ((congrFun (first18 m c t h) _).trans (add18 _ _ b k)).trans ?_
    rw [zero18, zero_add]
    exact add_uk m c t b k
  · exact ((congrFun (later18 m c t h) _).trans (add18 _ _ b k)).trans (congrArg₂ (· + ·) rfl (add_uk m c t b k))

omit ht

/-! ## The arrays -/

theorem arr_x (G : FVec Ideal S8192x384 .f32) (hG : ∀ (i : Fin 8192) (b : Fin 384), G (ix2 i b) = (rows m c).gx i b) :
    (dats m 0 c).arrAt 12 cfg0.N = G := by
  refine (dats m 0 c).arrAt_eq_of_covers 12 G (by decide +kernel) fun t hf y => ?_
  obtain ⟨a, ha⟩ : ∃ a : Fin 512, a.val = (y 0).val := ⟨y 0, rfl⟩
  obtain ⟨b, hb⟩ : ∃ b : Fin 384, b.val = (y 1).val := ⟨y 1, rfl⟩
  have he : ((cfg0.win 12).blk t).view.emb y = (ix2 (row (six t) a) b : S8192x384.Idx) := by
    funext k
    refine Fin.ext (((cfg0.win 12).rect_emb_val t y k).trans ?_)
    match k with
    | 0 => show (BitVec.ofNat 32 (grid0.coords t 0).val).toNat * 512 + (y 0).val = a.val + 512 * t.val; rw [coord]; omega
    | 1 => show 0 * 384 + (y 1).val = b.val; omega
  have hy : (cfg0.win 12).xinj (cfg0.grid.coords t) y = (ix2 a b : (S512x384).Idx) := by
    funext k
    match k with
    | 0 => exact Fin.ext ha.symm
    | 1 => exact Fin.ext hb.symm
  refine Eq.trans ?_ ((congrArg G he).trans (hG _ b)).symm
  refine (cast_eq _ _).trans ((congrArg ((dats m 0 c).after 12 t) hy).trans ((congrFun (after0_12 m c t) _).trans ?_))
  exact at_x m c t a b

theorem arr_y (G : FVec Ideal S8192x256 .f32) (hG : ∀ (i : Fin 8192) (b : Fin 256), G (ix2 i b) = (rows m c).gy i b) :
    (dats m 0 c).arrAt 13 cfg0.N = G := by
  refine (dats m 0 c).arrAt_eq_of_covers 13 G (by decide +kernel) fun t hf y => ?_
  obtain ⟨a, ha⟩ : ∃ a : Fin 512, a.val = (y 0).val := ⟨y 0, rfl⟩
  obtain ⟨b, hb⟩ : ∃ b : Fin 256, b.val = (y 1).val := ⟨y 1, rfl⟩
  have he : ((cfg0.win 13).blk t).view.emb y = (ix2 (row (six t) a) b : S8192x256.Idx) := by
    funext k
    refine Fin.ext (((cfg0.win 13).rect_emb_val t y k).trans ?_)
    match k with
    | 0 => show (BitVec.ofNat 32 (grid0.coords t 0).val).toNat * 512 + (y 0).val = a.val + 512 * t.val; rw [coord]; omega
    | 1 => show 0 * 256 + (y 1).val = b.val; omega
  have hy : (cfg0.win 13).xinj (cfg0.grid.coords t) y = (ix2 a b : (S512x256).Idx) := by
    funext k
    match k with
    | 0 => exact Fin.ext ha.symm
    | 1 => exact Fin.ext hb.symm
  refine Eq.trans ?_ ((congrArg G he).trans (hG _ b)).symm
  refine (cast_eq _ _).trans ((congrArg ((dats m 0 c).after 13 t) hy).trans ((congrFun (after0_13 m c t) _).trans ?_))
  exact at_y m c t a b

theorem arr_s (G : FVec Ideal S8192x128 .f32) (hG : ∀ (i : Fin 8192) (b : Fin 128), G (ix2 i b) = (rows m c).gs i b) :
    (dats m 0 c).arrAt 14 cfg0.N = G := by
  refine (dats m 0 c).arrAt_eq_of_covers 14 G (by decide +kernel) fun t hf y => ?_
  obtain ⟨a, ha⟩ : ∃ a : Fin 512, a.val = (y 0).val := ⟨y 0, rfl⟩
  obtain ⟨b, hb⟩ : ∃ b : Fin 128, b.val = (y 1).val := ⟨y 1, rfl⟩
  have he : ((cfg0.win 14).blk t).view.emb y = (ix2 (row (six t) a) b : S8192x128.Idx) := by
    funext k
    refine Fin.ext (((cfg0.win 14).rect_emb_val t y k).trans ?_)
    match k with
    | 0 => show (BitVec.ofNat 32 (grid0.coords t 0).val).toNat * 512 + (y 0).val = a.val + 512 * t.val; rw [coord]; omega
    | 1 => show 0 * 128 + (y 1).val = b.val; omega
  have hy : (cfg0.win 14).xinj (cfg0.grid.coords t) y = (ix2 a b : (S512x128).Idx) := by
    funext k
    match k with
    | 0 => exact Fin.ext ha.symm
    | 1 => exact Fin.ext hb.symm
  refine Eq.trans ?_ ((congrArg G he).trans (hG _ b)).symm
  refine (cast_eq _ _).trans ((congrArg ((dats m 0 c).after 14 t) hy).trans ((congrFun (after0_14 m c t) _).trans ?_))
  exact at_s m c t a b

theorem arr_nq (G : FVec Ideal S1x384 .f32) (hG : ∀ k : Fin 384, G (ix2 0 k) = ∑ i, (rows m c).tnq i k) :
    (dats m 0 c).arrAt 15 cfg0.N = G := by
  refine (dats m 0 c).arrAt_eq_of_covers 15 G (by decide +kernel) fun t hf y => ?_
  have h0 : (y 0).val < 1 := (y 0).isLt
  obtain ⟨b, hb⟩ : ∃ b : Fin 384, b.val = (y 1).val := ⟨y 1, rfl⟩
  have he : ((cfg0.win 15).blk t).view.emb y = (ix2 0 b : S1x384.Idx) := by
    funext k
    refine Fin.ext (((cfg0.win 15).rect_emb_val t y k).trans ?_)
    match k with
    | 0 => show 0 * 1 + (y 0).val = 0; omega
    | 1 => show 0 * 384 + (y 1).val = b.val; omega
  have hy : (cfg0.win 15).xinj (cfg0.grid.coords t) y = (ix2 0 b : S1x384.Idx) := by
    funext k
    match k with
    | 0 => exact Fin.ext (show (y 0).val = 0 by omega)
    | 1 => exact Fin.ext hb.symm
  have ht : t.val = 15 := by
    have h1 := (flush0_15 t).mp hf
    have h2 : t.val < 16 := lt_of_lt_of_eq t.isLt N_0
    omega
  refine Eq.trans ?_ ((congrArg G he).trans (hG b)).symm
  refine (cast_eq _ _).trans ((congrArg ((dats m 0 c).after 15 t) hy).trans ((congrFun (after0_15 m c t) _).trans ?_))
  exact sum_nq m c t ht b

theorem arr_nk (G : FVec Ideal S1x256 .f32) (hG : ∀ k : Fin 256, G (ix2 0 k) = ∑ i, (rows m c).tnk i k) :
    (dats m 0 c).arrAt 17 cfg0.N = G := by
  refine (dats m 0 c).arrAt_eq_of_covers 17 G (by decide +kernel) fun t hf y => ?_
  have h0 : (y 0).val < 1 := (y 0).isLt
  obtain ⟨b, hb⟩ : ∃ b : Fin 256, b.val = (y 1).val := ⟨y 1, rfl⟩
  have he : ((cfg0.win 17).blk t).view.emb y = (ix2 0 b : S1x256.Idx) := by
    funext k
    refine Fin.ext (((cfg0.win 17).rect_emb_val t y k).trans ?_)
    match k with
    | 0 => show 0 * 1 + (y 0).val = 0; omega
    | 1 => show 0 * 256 + (y 1).val = b.val; omega
  have hy : (cfg0.win 17).xinj (cfg0.grid.coords t) y = (ix2 0 b : S1x256.Idx) := by
    funext k
    match k with
    | 0 => exact Fin.ext (show (y 0).val = 0 by omega)
    | 1 => exact Fin.ext hb.symm
  have ht : t.val = 15 := by
    have h1 := (flush0_17 t).mp hf
    have h2 : t.val < 16 := lt_of_lt_of_eq t.isLt N_0
    omega
  refine Eq.trans ?_ ((congrArg G he).trans (hG b)).symm
  refine (cast_eq _ _).trans ((congrArg ((dats m 0 c).after 17 t) hy).trans ((congrFun (after0_17 m c t) _).trans ?_))
  exact sum_nk m c t ht b

theorem arr_uq (G : FVec Ideal S384x1024 .f32) (hG : ∀ (b : Fin 384) (k : Fin 1024), G (ix2 b k) = ∑ i, (rows m c).tuq i b k) :
    (dats m 0 c).arrAt 16 cfg0.N = G := by
  refine (dats m 0 c).arrAt_eq_of_covers 16 G (by decide +kernel) fun t hf y => ?_
  obtain ⟨a, ha⟩ : ∃ a : Fin 384, a.val = (y 0).val := ⟨y 0, rfl⟩
  obtain ⟨b, hb⟩ : ∃ b : Fin 1024, b.val = (y 1).val := ⟨y 1, rfl⟩
  have he : ((cfg0.win 16).blk t).view.emb y = (ix2 a b : S384x1024.Idx) := by
    funext k
    refine Fin.ext (((cfg0.win 16).rect_emb_val t y k).trans ?_)
    match k with
    | 0 => show 0 * 384 + (y 0).val = a.val; omega
    | 1 => show 0 * 1024 + (y 1).val = b.val; omega
  have hy : (cfg0.win 16).xinj (cfg0.grid.coords t) y = (ix2 a b : S384x1024.Idx) := by
    funext k
    match k with
    | 0 => exact Fin.ext ha.symm
    | 1 => exact Fin.ext hb.symm
  have ht : t.val = 15 := by
    have h1 := (flush0_16 t).mp hf
    have h2 : t.val < 16 := lt_of_lt_of_eq t.isLt N_0
    omega
  refine Eq.trans ?_ ((congrArg G he).trans (hG a b)).symm
  refine (cast_eq _ _).trans ((congrArg ((dats m 0 c).after 16 t) hy).trans ((congrFun (after0_16 m c t) _).trans ?_))
  exact sum_uq m c t ht a b

theorem arr_uk (G : FVec Ideal S256x1024 .f32) (hG : ∀ (b : Fin 256) (k : Fin 1024), G (ix2 b k) = ∑ i, (rows m c).tuk i b k) :
    (dats m 0 c).arrAt 18 cfg0.N = G := by
  refine (dats m 0 c).arrAt_eq_of_covers 18 G (by decide +kernel) fun t hf y => ?_
  obtain ⟨a, ha⟩ : ∃ a : Fin 256, a.val = (y 0).val := ⟨y 0, rfl⟩
  obtain ⟨b, hb⟩ : ∃ b : Fin 1024, b.val = (y 1).val := ⟨y 1, rfl⟩
  have he : ((cfg0.win 18).blk t).view.emb y = (ix2 a b : S256x1024.Idx) := by
    funext k
    refine Fin.ext (((cfg0.win 18).rect_emb_val t y k).trans ?_)
    match k with
    | 0 => show 0 * 256 + (y 0).val = a.val; omega
    | 1 => show 0 * 1024 + (y 1).val = b.val; omega
  have hy : (cfg0.win 18).xinj (cfg0.grid.coords t) y = (ix2 a b : S256x1024.Idx) := by
    funext k
    match k with
    | 0 => exact Fin.ext ha.symm
    | 1 => exact Fin.ext hb.symm
  have ht : t.val = 15 := by
    have h1 := (flush0_18 t).mp hf
    have h2 : t.val < 16 := lt_of_lt_of_eq t.isLt N_0
    omega
  refine Eq.trans ?_ ((congrArg G he).trans (hG a b)).symm
  refine (cast_eq _ _).trans ((congrArg ((dats m 0 c).after 18 t) hy).trans ((congrFun (after0_18 m c t) _).trans ?_))
  exact sum_uk m c t ht a b

end Final

end Cert.Proof.Latent
-- ==== Proof.LatentSame.lean ====
module

public import proofs.«01_k».proof.Proof.LatentRef
public import proofs.«01_k».proof.Proof.LatentFinal

/-! The latents' kernels leave what their references compute. -/

@[expose] public section

set_option maxRecDepth 16384
noncomputable section

namespace Cert.Proof.Latent

open Idealize Idealize.ShloMosaic Idealize.ShloMosaic.TcCoe
open Cert.Proof.Front (Row)

namespace Ref.Arrs

variable (A : Ref.Arrs)

/-- The rows of the arrays. -/
def rows : Rows 8192 where
  x i b := A.x (ix2 i b)
  y i b := A.y (ix2 i b)
  s i l := A.s (ix2 i l)
  t i l := A.t (ix2 i l)
  nq b := A.nq (ix2 0 b)
  uq b k := A.uq (ix2 b k)
  nk b := A.nk (ix2 0 b)
  uk b k := A.uk (ix2 b k)
  dq i k := A.dq (ix2 i k)
  dk i k := A.dk (ix2 i k)
  dv i b := A.dv (ix2 i b)

variable (i : Fin 8192)

theorem pq_row : Ref.brow A.pq i = A.rows.pq i := funext fun k => Ref.gq_at A.dq A.s A.t i k
theorem pk_row : Ref.brow A.pk i = A.rows.pk i := funext fun k => Ref.gk_at A.dk A.dv i k
theorem sq_row : Ref.xrow A.sq i = A.rows.sq i := by
  funext b
  refine (Ref.sentQ_at A.pq A.uq i b).trans ?_
  rw [A.pq_row]
  rfl
theorem sk_row : Ref.krow A.sk i = A.rows.sk i := by
  funext b
  refine (Ref.sentK_at A.pk A.uk i b).trans ?_
  rw [A.pk_row]
  rfl
theorem outX_at (b : Fin 384) : A.outX (ix2 i b) = A.rows.gx i b := by
  refine (Ref.glatQ_at A.x A.sq A.nq i b).trans ?_
  rw [A.sq_row]
  rfl
theorem outY_at (b : Fin 256) : A.outY (ix2 i b) = A.rows.gy i b := by
  refine (Ref.glatK_at A.y A.sk A.nk i b).trans ?_
  rw [A.sk_row]
  rfl
theorem outS_at (l : Fin 128) : A.outS (ix2 i l) = A.rows.gs i l := Ref.gr_at A.dk A.s A.t i l

omit i
theorem outNq_at (b : Fin 384) : A.outNq (ix2 0 b) = ∑ i, A.rows.tnq i b :=
  (Ref.gnQ_at (Ref.hatQ A.x) A.sq b).trans (Finset.sum_congr rfl fun i _ => congrArg₂ (· * ·) (Ref.hatQ_at A.x i b) (congrFun (A.sq_row i) b))
theorem outNk_at (b : Fin 256) : A.outNk (ix2 0 b) = ∑ i, A.rows.tnk i b :=
  (Ref.gnK_at (Ref.hatK A.y) A.sk b).trans (Finset.sum_congr rfl fun i _ => congrArg₂ (· * ·) (Ref.hatK_at A.y i b) (congrFun (A.sk_row i) b))
theorem outUq_at (b : Fin 384) (k : Fin 1024) : A.outUq (ix2 b k) = ∑ i, A.rows.tuq i b k :=
  (Ref.guQ_at A.pq (Ref.nrmQ A.x A.nq) b k).trans (Finset.sum_congr rfl fun i _ =>
    (mul_comm _ _).trans (congrArg₂ (· * ·) (Ref.nrmQ_at A.x A.nq i b) (congrFun (A.pq_row i) k)))
theorem outUk_at (b : Fin 256) (k : Fin 1024) : A.outUk (ix2 b k) = ∑ i, A.rows.tuk i b k :=
  (Ref.guK_at A.pk (Ref.nrmK A.y A.nk) b k).trans (Finset.sum_congr rfl fun i _ =>
    (mul_comm _ _).trans (congrArg₂ (· * ·) (Ref.nrmK_at A.y A.nk i b) (congrFun (A.pk_row i) k)))

end Ref.Arrs

namespace Final

open Cert.Kernel6Ideal

variable (m : (ℓ : Loc nD τ sig) → Buf (Elt Ideal) ℓ) (c : Dev nD)

/-- The arrays at launch, in the reference's form. -/
def arrs : Ref.Arrs :=
  ⟨m (c.tc.loc main_arg0), m (c.tc.loc main_arg1), m (c.tc.loc main_arg3), m (c.tc.loc main_arg4), m (c.tc.loc main_arg5), m (c.tc.loc main_arg6),
    m (c.tc.loc main_arg7), m (c.tc.loc main_arg8), m (c.tc.loc main_arg9), m (c.tc.loc main_arg10), m (c.tc.loc main_arg11)⟩

theorem rows_eq : rows m c = (arrs m c).rows := rfl

end Final

end Cert.Proof.Latent
-- ==== Proof.LatentFwd.lean ====
module

public import proofs.«01_k».proof.Proof.Latent
public import proofs.«01_k».proof.Proof.Tile
public import proofs.«01_k».proof.Proof.Gen.Kernel7Ideal.Value
public import Idealize.ShloMosaic.Lib.Pointwise
public import Idealize.ShloMosaic.Lib.Pipeline.ValueKit
public import Idealize.ShloMosaic.Lib.Pipeline.Covers

/-! The queries, keys and values that the latents' forward kernel leaves. -/

@[expose] public section

set_option maxRecDepth 8192
noncomputable section

namespace Cert.Proof.Latent.Fwd

open Idealize Idealize.ShloMosaic Idealize.ShloMosaic.TcCoe
open Cert.Kernel7Ideal Cert.Kernel7Ideal.Gen
open Cert.Proof.Front (Row)
open Cert.Proof.Tile (row row_val)

/-! ## What a point computes -/

abbrev Lat := FVec Ideal S512x384 .f32
abbrev Kv := FVec Ideal S512x256 .f32
abbrev Tab := FVec Ideal S512x128 .f32
abbrev Big := FVec Ideal S512x1024 .f32
abbrev LatW := FVec Ideal S1x384 .f32
abbrev KvW := FVec Ideal S1x256 .f32
abbrev LatU := FVec Ideal S384x1024 .f32
abbrev KvU := FVec Ideal S256x1024 .f32

/-- Row `a` of a block. -/
abbrev xrow (x : Lat) (a : Fin 512) : Fin 384 → EReal := fun b => x (ix2 a b)
abbrev krow (x : Kv) (a : Fin 512) : Fin 256 → EReal := fun b => x (ix2 a b)
abbrev trow (x : Tab) (a : Fin 512) : Lanes := fun b => x (ix2 a b)
abbrev brow (x : Big) (a : Fin 512) : Row := fun b => x (ix2 a b)

section
variable (x : Lat) (y : Kv) (r s t : Tab) (nq : LatW) (uq : LatU) (nk : KvW) (uk : KvU) (a : Fin 512)

theorem q_row : brow (k0_pay1 (F := Ideal) x nq uq) a = up (nrm lq (xrow x a) fun b => nq (ix2 0 b)) fun b k => uq (ix2 b k) := by
  funext k
  unfold brow
  pointwise [k0_pay1]
  rfl
theorem k_row : brow (k0_pay3 (F := Ideal) nk uk (k0_pay2 (F := Ideal) y)) a = up (nrm lkv (krow y a) fun b => nk (ix2 0 b)) fun b k => uk (ix2 b k) := by
  funext k
  unfold brow
  pointwise [k0_pay3, k0_pay2]
  rfl

theorem fq_plain (y : Row) (s t : Lanes) (b f : Fin 1024) (h : b.val / 128 % 2 = 0) (hf : f.val = b.val) : y f = fq y s t b := by
  obtain rfl : f = b := Fin.ext hf
  exact (if_pos h).symm
theorem fq_turn (y : Row) (s t : Lanes) (b f g : Fin 1024) (r : Fin 128) (h : ¬ b.val / 128 % 2 = 0)
    (hf : f.val = (b.val % 128 + 64) % 128 + 128 * (b.val / 128)) (hg : g.val = b.val) (hr : r.val = b.val % 128) : y g * s r + y f * t r = fq y s t b := by
  obtain rfl : f = lane (part b) (half (off b)) := Fin.ext hf
  obtain rfl : g = lane (part b) (off b) := Fin.ext (by show g.val = b.val % 128 + 128 * (b.val / 128); omega)
  obtain rfl : r = off b := Fin.ext hr
  exact (if_neg h).symm
theorem fk_key (y : Row) (r s t : Lanes) (b f : Fin 1024) (h : b.val / 128 % 2 = 0) (hf : f.val = b.val % 128 + 128 * (b.val / 256)) : y f = fk y r s t b := by
  obtain rfl : f = lane (key b) (off b) := Fin.ext hf
  exact (if_pos h).symm
theorem fk_turn (y : Row) (r s t : Lanes) (b : Fin 1024) (f g l : Fin 128) (h : ¬ b.val / 128 % 2 = 0)
    (hf : f.val = (b.val % 128 + 64) % 128) (hg : g.val = b.val % 128) (hl : l.val = b.val % 128) : r g * s l + r f * t l = fk y r s t b := by
  obtain rfl : f = half (off b) := Fin.ext hf
  obtain rfl : g = off b := Fin.ext hg
  obtain rfl : l = off b := Fin.ext hl
  exact (if_neg h).symm

set_option maxHeartbeats 1000000 in
theorem q_at (b : Fin 1024) : k0_pay4 (F := Ideal) s t (k0_pay1 (F := Ideal) x nq uq) (ix2 a b)
    = fq (up (nrm lq (xrow x a) fun b => nq (ix2 0 b)) fun b k => uq (ix2 b k)) (trow s a) (trow t a) b := by
  rw [← q_row]
  generalize k0_pay1 (F := Ideal) x nq uq = y
  pointwise [k0_pay4]
  obtain h | h | h | h | h | h | h | h : b.val < 128 ∨ (128 ≤ b.val ∧ b.val < 256) ∨ (256 ≤ b.val ∧ b.val < 384) ∨ (384 ≤ b.val ∧ b.val < 512)
      ∨ (512 ≤ b.val ∧ b.val < 640) ∨ (640 ≤ b.val ∧ b.val < 768) ∨ (768 ≤ b.val ∧ b.val < 896) ∨ 896 ≤ b.val := by omega
  all_goals simp (disch := omega) only [dif_pos, dif_neg]
  all_goals first
    | exact fq_plain (brow y a) (trow s a) (trow t a) b _ (by omega) (by first | omega | (dsimp only; omega))
    | exact fq_turn (brow y a) (trow s a) (trow t a) b _ _ _ (by omega) (by first | omega | (dsimp only; omega)) (by first | omega | (dsimp only; omega)) (by first | omega | (dsimp only; omega))
set_option maxHeartbeats 1000000 in
theorem k_at (b : Fin 1024) : k0_pay5 (F := Ideal) r s t nk uk (k0_pay2 (F := Ideal) y) (ix2 a b)
    = fk (up (nrm lkv (krow y a) fun b => nk (ix2 0 b)) fun b k => uk (ix2 b k)) (trow r a) (trow s a) (trow t a) b := by
  rw [← k_row]
  pointwise [k0_pay5]
  obtain h | h | h | h | h | h | h | h : b.val < 128 ∨ (128 ≤ b.val ∧ b.val < 256) ∨ (256 ≤ b.val ∧ b.val < 384) ∨ (384 ≤ b.val ∧ b.val < 512)
      ∨ (512 ≤ b.val ∧ b.val < 640) ∨ (640 ≤ b.val ∧ b.val < 768) ∨ (768 ≤ b.val ∧ b.val < 896) ∨ 896 ≤ b.val := by omega
  all_goals simp (disch := omega) only [dif_pos, dif_neg]
  all_goals first
    | exact fk_key (brow (k0_pay3 (F := Ideal) nk uk (k0_pay2 (F := Ideal) y)) a) (trow r a) (trow s a) (trow t a) b _ (by omega) (by first | omega | (dsimp only; omega))
    | exact fk_turn (brow (k0_pay3 (F := Ideal) nk uk (k0_pay2 (F := Ideal) y)) a) (trow r a) (trow s a) (trow t a) b _ _ _ (by omega) (by first | omega | (dsimp only; omega)) (by first | omega | (dsimp only; omega)) (by first | omega | (dsimp only; omega))
theorem v_at (b : Fin 512) : k0_pay6 (F := Ideal) nk uk (k0_pay2 (F := Ideal) y) (ix2 a b)
    = up (nrm lkv (krow y a) fun b => nk (ix2 0 b)) (fun b k => uk (ix2 b k)) (val b) := by
  rw [← k_row]
  unfold k0_pay6
  generalize k0_pay3 (F := Ideal) nk uk (k0_pay2 (F := Ideal) y) = z
  pointwise []
  exact congrArg (brow z a) (Fin.ext (Nat.add_comm _ _))
end

/-! ## The point's blocks and its results -/

variable (m : (ℓ : Loc nD τ sig) → Buf (Elt Ideal) ℓ) (c : Dev nD)

/-- A row of the keys' and values' projection, -/
def kv (i : Fin 8192) : Row :=
  up (nrm lkv (fun b => m (c.tc.loc main_arg1) (ix2 i b : S8192x256.Idx)) fun b => m (c.tc.loc main_arg7) (ix2 0 b : S1x256.Idx))
    fun b k => m (c.tc.loc main_arg8) (ix2 b k : S256x1024.Idx)
/-- and of the results. -/
def resQ (i : Fin 8192) : Row :=
  fq (up (nrm lq (fun b => m (c.tc.loc main_arg0) (ix2 i b : S8192x384.Idx)) fun b => m (c.tc.loc main_arg5) (ix2 0 b : S1x384.Idx))
    fun b k => m (c.tc.loc main_arg6) (ix2 b k : S384x1024.Idx)) (fun l => m (c.tc.loc main_arg3) (ix2 i l : S8192x128.Idx)) fun l => m (c.tc.loc main_arg4) (ix2 i l : S8192x128.Idx)
def resK (i : Fin 8192) : Row :=
  fk (kv m c i) (fun l => m (c.tc.loc main_arg2) (ix2 i l : S8192x128.Idx)) (fun l => m (c.tc.loc main_arg3) (ix2 i l : S8192x128.Idx)) fun l => m (c.tc.loc main_arg4) (ix2 i l : S8192x128.Idx)
def resV (i : Fin 8192) (b : Fin 512) : EReal := kv m c i (val b)

theorem coord (t : Fin cfg0.N) : (BitVec.ofNat 32 (grid0.coords t 0).val).toNat = t.val := by
  have h : t.val < 16 := lt_of_lt_of_eq t.isLt N_0
  have e := Pipeline.Grid.coords_val (G := grid0) t 0 (S := 1) (B := 16) (by decide) rfl
  rw [e, BitVec.toNat_ofNat]
  omega

/-- Point `t` as one of sixteen. -/
def six (t : Fin cfg0.N) : Fin 16 := ⟨t.val, lt_of_lt_of_eq t.isLt N_0⟩

variable (t : Fin cfg0.N) (a : Fin 512)

theorem in0 (k : Fin 384) : iblk m c 0 t (ix2 a k : S512x384.Idx) = m (c.tc.loc main_arg0) (ix2 (row (six t) a) k : S8192x384.Idx) := by
  refine congrArg (V m c main_arg0) (funext fun b => Fin.ext ?_)
  refine ((cfg0.win 0).rect_emb_val t (ix2 a k : S512x384.Idx) b).trans ?_
  match b with
  | 0 => show (BitVec.ofNat 32 (grid0.coords t 0).val).toNat * 512 + a.val = a.val + 512 * t.val; rw [coord]; omega
  | 1 => show 0 * 384 + k.val = k.val; omega
theorem in1 (k : Fin 256) : iblk m c 1 t (ix2 a k : S512x256.Idx) = m (c.tc.loc main_arg1) (ix2 (row (six t) a) k : S8192x256.Idx) := by
  refine congrArg (V m c main_arg1) (funext fun b => Fin.ext ?_)
  refine ((cfg0.win 1).rect_emb_val t (ix2 a k : S512x256.Idx) b).trans ?_
  match b with
  | 0 => show (BitVec.ofNat 32 (grid0.coords t 0).val).toNat * 512 + a.val = a.val + 512 * t.val; rw [coord]; omega
  | 1 => show 0 * 256 + k.val = k.val; omega
theorem in2 (k : Fin 128) : iblk m c 2 t (ix2 a k : S512x128.Idx) = m (c.tc.loc main_arg2) (ix2 (row (six t) a) k : S8192x128.Idx) := by
  refine congrArg (V m c main_arg2) (funext fun b => Fin.ext ?_)
  refine ((cfg0.win 2).rect_emb_val t (ix2 a k : S512x128.Idx) b).trans ?_
  match b with
  | 0 => show (BitVec.ofNat 32 (grid0.coords t 0).val).toNat * 512 + a.val = a.val + 512 * t.val; rw [coord]; omega
  | 1 => show 0 * 128 + k.val = k.val; omega
theorem in3 (k : Fin 128) : iblk m c 3 t (ix2 a k : S512x128.Idx) = m (c.tc.loc main_arg3) (ix2 (row (six t) a) k : S8192x128.Idx) := by
  refine congrArg (V m c main_arg3) (funext fun b => Fin.ext ?_)
  refine ((cfg0.win 3).rect_emb_val t (ix2 a k : S512x128.Idx) b).trans ?_
  match b with
  | 0 => show (BitVec.ofNat 32 (grid0.coords t 0).val).toNat * 512 + a.val = a.val + 512 * t.val; rw [coord]; omega
  | 1 => show 0 * 128 + k.val = k.val; omega
theorem in4 (k : Fin 128) : iblk m c 4 t (ix2 a k : S512x128.Idx) = m (c.tc.loc main_arg4) (ix2 (row (six t) a) k : S8192x128.Idx) := by
  refine congrArg (V m c main_arg4) (funext fun b => Fin.ext ?_)
  refine ((cfg0.win 4).rect_emb_val t (ix2 a k : S512x128.Idx) b).trans ?_
  match b with
  | 0 => show (BitVec.ofNat 32 (grid0.coords t 0).val).toNat * 512 + a.val = a.val + 512 * t.val; rw [coord]; omega
  | 1 => show 0 * 128 + k.val = k.val; omega
theorem in5 (k : Fin 384) : iblk m c 5 t (ix2 0 k : S1x384.Idx) = m (c.tc.loc main_arg5) (ix2 0 k : S1x384.Idx) := by
  refine congrArg (V m c main_arg5) (funext fun b => Fin.ext ?_)
  refine ((cfg0.win 5).rect_emb_val t (ix2 0 k : S1x384.Idx) b).trans ?_
  match b with
  | 0 => show 0 * 1 + 0 = 0; omega
  | 1 => show 0 * 384 + k.val = k.val; omega
theorem in7 (k : Fin 256) : iblk m c 7 t (ix2 0 k : S1x256.Idx) = m (c.tc.loc main_arg7) (ix2 0 k : S1x256.Idx) := by
  refine congrArg (V m c main_arg7) (funext fun b => Fin.ext ?_)
  refine ((cfg0.win 7).rect_emb_val t (ix2 0 k : S1x256.Idx) b).trans ?_
  match b with
  | 0 => show 0 * 1 + 0 = 0; omega
  | 1 => show 0 * 256 + k.val = k.val; omega
theorem in6 (r : Fin 384) (k : Fin 1024) : iblk m c 6 t (ix2 r k : S384x1024.Idx) = m (c.tc.loc main_arg6) (ix2 r k : S384x1024.Idx) := by
  refine congrArg (V m c main_arg6) (funext fun b => Fin.ext ?_)
  refine ((cfg0.win 6).rect_emb_val t (ix2 r k : S384x1024.Idx) b).trans ?_
  match b with
  | 0 => show 0 * 384 + r.val = r.val; omega
  | 1 => show 0 * 1024 + k.val = k.val; omega
theorem in8 (r : Fin 256) (k : Fin 1024) : iblk m c 8 t (ix2 r k : S256x1024.Idx) = m (c.tc.loc main_arg8) (ix2 r k : S256x1024.Idx) := by
  refine congrArg (V m c main_arg8) (funext fun b => Fin.ext ?_)
  refine ((cfg0.win 8).rect_emb_val t (ix2 r k : S256x1024.Idx) b).trans ?_
  match b with
  | 0 => show 0 * 256 + r.val = r.val; omega
  | 1 => show 0 * 1024 + k.val = k.val; omega

theorem ld0 (X : Vec Ideal S512x384 .f32) : View.ld (Val := Elt Ideal) X r0_0 = X := View.ld_unit_lit (Val := Elt Ideal) (S := S512x384) (e := .f32) _ X (by decide)
theorem ld1 (X : Vec Ideal S512x256 .f32) : View.ld (Val := Elt Ideal) X r0_1 = X := View.ld_unit_lit (Val := Elt Ideal) (S := S512x256) (e := .f32) _ X (by decide)
theorem ld2 (X : Vec Ideal S512x128 .f32) : View.ld (Val := Elt Ideal) X r0_2 = X := View.ld_unit_lit (Val := Elt Ideal) (S := S512x128) (e := .f32) _ X (by decide)
theorem ld3 (X : Vec Ideal S1x384 .f32) : View.ld (Val := Elt Ideal) X r0_3 = X := View.ld_unit_lit (Val := Elt Ideal) (S := S1x384) (e := .f32) _ X (by decide)
theorem ld4 (X : Vec Ideal S384x1024 .f32) : View.ld (Val := Elt Ideal) X r0_4 = X := View.ld_unit_lit (Val := Elt Ideal) (S := S384x1024) (e := .f32) _ X (by decide)
theorem ld5 (X : Vec Ideal S1x256 .f32) : View.ld (Val := Elt Ideal) X r0_5 = X := View.ld_unit_lit (Val := Elt Ideal) (S := S1x256) (e := .f32) _ X (by decide)
theorem ld6 (X : Vec Ideal S256x1024 .f32) : View.ld (Val := Elt Ideal) X r0_6 = X := View.ld_unit_lit (Val := Elt Ideal) (S := S256x1024) (e := .f32) _ X (by decide)

theorem after_q (k : Fin 1024) : (dats m 0 c).after 9 t (ix2 a k : S512x1024.Idx) = resQ m c (row (six t) a) k := by
  rw [after0_9]
  unfold out0_9
  refine (congrFun (View.canon_cons_unit_lit _ _ _ (by decide)) _).trans ?_
  simp only [ld0, ld1, ld2, ld3, ld4, ld5, ld6]
  refine (q_at (iblk m c 0 t) (iblk m c 3 t) (iblk m c 4 t) (iblk m c 5 t) (iblk m c 6 t) a k).trans ?_
  unfold resQ xrow trow
  simp only [in0, in1, in2, in3, in4, in5, in6, in7, in8]
theorem after_k (k : Fin 1024) : (dats m 0 c).after 10 t (ix2 a k : S512x1024.Idx) = resK m c (row (six t) a) k := by
  rw [after0_10]
  unfold out0_10 k0_pay7
  refine (congrFun (View.canon_cons_unit_lit _ _ _ (by decide)) _).trans ?_
  simp only [ld0, ld1, ld2, ld3, ld4, ld5, ld6]
  refine (k_at (iblk m c 1 t) (iblk m c 2 t) (iblk m c 3 t) (iblk m c 4 t) (iblk m c 7 t) (iblk m c 8 t) a k).trans ?_
  unfold resK kv krow trow
  simp only [in0, in1, in2, in3, in4, in5, in6, in7, in8]
theorem after_v (k : Fin 512) : (dats m 0 c).after 11 t (ix2 a k : S512x512.Idx) = resV m c (row (six t) a) k := by
  rw [after0_11]
  unfold out0_11 k0_pay7
  refine (congrFun (View.canon_cons_unit_lit _ _ _ (by decide)) _).trans ?_
  simp only [ld0, ld1, ld2, ld3, ld4, ld5, ld6]
  refine (v_at (iblk m c 1 t) (iblk m c 7 t) (iblk m c 8 t) a k).trans ?_
  unfold resV kv krow
  simp only [in0, in1, in2, in3, in4, in5, in6, in7, in8]

omit t a
theorem arr_q (G : FVec Ideal S8192x1024 .bf16) (hG : ∀ (i : Fin 8192) (b : Fin 1024), G (ix2 i b) = resQ m c i b) :
    (dats m 0 c).arrAt 9 cfg0.N = G := by
  refine (dats m 0 c).arrAt_eq_of_covers 9 G (by decide +kernel) fun t hf y => ?_
  obtain ⟨a, ha⟩ : ∃ a : Fin 512, a.val = (y 0).val := ⟨y 0, rfl⟩
  obtain ⟨b, hb⟩ : ∃ b : Fin 1024, b.val = (y 1).val := ⟨y 1, rfl⟩
  have he : ((cfg0.win 9).blk t).view.emb y = (ix2 (row (six t) a) b : S8192x1024.Idx) := by
    funext k
    refine Fin.ext (((cfg0.win 9).rect_emb_val t y k).trans ?_)
    match k with
    | 0 => show (BitVec.ofNat 32 (grid0.coords t 0).val).toNat * 512 + (y 0).val = a.val + 512 * t.val; rw [coord]; omega
    | 1 => show 0 * 1024 + (y 1).val = b.val; omega
  have hy : (cfg0.win 9).xinj (cfg0.grid.coords t) y = (ix2 a b : (S512x1024).Idx) := by
    funext k
    match k with
    | 0 => exact Fin.ext ha.symm
    | 1 => exact Fin.ext hb.symm
  refine Eq.trans ?_ ((congrArg G he).trans (hG _ b)).symm
  exact (cast_eq _ _).trans ((congrArg ((dats m 0 c).after 9 t) hy).trans (after_q m c t a b))
theorem arr_k (G : FVec Ideal S8192x1024 .bf16) (hG : ∀ (i : Fin 8192) (b : Fin 1024), G (ix2 i b) = resK m c i b) :
    (dats m 0 c).arrAt 10 cfg0.N = G := by
  refine (dats m 0 c).arrAt_eq_of_covers 10 G (by decide +kernel) fun t hf y => ?_
  obtain ⟨a, ha⟩ : ∃ a : Fin 512, a.val = (y 0).val := ⟨y 0, rfl⟩
  obtain ⟨b, hb⟩ : ∃ b : Fin 1024, b.val = (y 1).val := ⟨y 1, rfl⟩
  have he : ((cfg0.win 10).blk t).view.emb y = (ix2 (row (six t) a) b : S8192x1024.Idx) := by
    funext k
    refine Fin.ext (((cfg0.win 10).rect_emb_val t y k).trans ?_)
    match k with
    | 0 => show (BitVec.ofNat 32 (grid0.coords t 0).val).toNat * 512 + (y 0).val = a.val + 512 * t.val; rw [coord]; omega
    | 1 => show 0 * 1024 + (y 1).val = b.val; omega
  have hy : (cfg0.win 10).xinj (cfg0.grid.coords t) y = (ix2 a b : (S512x1024).Idx) := by
    funext k
    match k with
    | 0 => exact Fin.ext ha.symm
    | 1 => exact Fin.ext hb.symm
  refine Eq.trans ?_ ((congrArg G he).trans (hG _ b)).symm
  exact (cast_eq _ _).trans ((congrArg ((dats m 0 c).after 10 t) hy).trans (after_k m c t a b))
theorem arr_v (G : FVec Ideal S8192x512 .bf16) (hG : ∀ (i : Fin 8192) (b : Fin 512), G (ix2 i b) = resV m c i b) :
    (dats m 0 c).arrAt 11 cfg0.N = G := by
  refine (dats m 0 c).arrAt_eq_of_covers 11 G (by decide +kernel) fun t hf y => ?_
  obtain ⟨a, ha⟩ : ∃ a : Fin 512, a.val = (y 0).val := ⟨y 0, rfl⟩
  obtain ⟨b, hb⟩ : ∃ b : Fin 512, b.val = (y 1).val := ⟨y 1, rfl⟩
  have he : ((cfg0.win 11).blk t).view.emb y = (ix2 (row (six t) a) b : S8192x512.Idx) := by
    funext k
    refine Fin.ext (((cfg0.win 11).rect_emb_val t y k).trans ?_)
    match k with
    | 0 => show (BitVec.ofNat 32 (grid0.coords t 0).val).toNat * 512 + (y 0).val = a.val + 512 * t.val; rw [coord]; omega
    | 1 => show 0 * 512 + (y 1).val = b.val; omega
  have hy : (cfg0.win 11).xinj (cfg0.grid.coords t) y = (ix2 a b : (S512x512).Idx) := by
    funext k
    match k with
    | 0 => exact Fin.ext ha.symm
    | 1 => exact Fin.ext hb.symm
  refine Eq.trans ?_ ((congrArg G he).trans (hG _ b)).symm
  exact (cast_eq _ _).trans ((congrArg ((dats m 0 c).after 11 t) hy).trans (after_v m c t a b))

end Cert.Proof.Latent.Fwd
-- ==== Proof.LatentFwdRef.lean ====
module

public import proofs.«01_k».proof.Proof.LatentRef
public import proofs.«01_k».proof.Proof.Gen.Reference7Ideal
public import proofs.«01_k».proof.Proof.Gen.Reference7Ideal.Run

/-! What the reference computes of the attention's queries, keys and values, entry by entry. -/

@[expose] public section

set_option maxRecDepth 16384
noncomputable section

namespace Cert.Proof.Latent.Fwd.Ref

open Idealize Idealize.ShloMosaic Idealize.ShloMosaic.TcCoe
open Cert.Reference7Ideal Cert.Reference7Ideal.Gen
open Cert.Proof.Front (Row)
open Cert.Proof.Front.Ref (Big)
open Cert.Proof.Latent.Ref

abbrev BigH : Type := FVec ShloMosaic.Ideal S8192x1024 .bf16
abbrev WideH : Type := FVec ShloMosaic.Ideal S8192x512 .bf16

def upQ (x : Lat) (w : LatW) (u : LatU) : Big := Host.dotGeneral dot_S8192x384_S384x1024_S8192x1024_1_0_0_1_n_n none (nrmQ x w) u
def upK (y : Kv) (w : KvW) (u : KvU) : Big := Host.dotGeneral dot_S8192x256_S256x1024_S8192x1024_1_0_0_1_n_n none (nrmK y w) u
/-- A rotated row, -/
def turnV (g s t : Tab) : Tab := concatenate S8192x128 1 [⟨S8192x64, addf (mulf (lo g) (lo s)) (mulf (hi g) (lo t))⟩,
  ⟨S8192x64, addf (mulf (hi g) (hi s)) (mulf (lo g) (hi t))⟩] concatenates_S8192x64_S8192x64_S8192x128_d1
/-- and the rotated pieces of the heads. -/
def turn3 (g : Cub1) (s t : Tab) : Cub1 := concatenate S8192x4x128 2 [⟨S8192x4x64, addf (mulf (lo3 g) (lo1 s)) (mulf (hi3 g) (lo1 t))⟩,
  ⟨S8192x4x64, addf (mulf (hi3 g) (hi1 s)) (mulf (lo3 g) (hi1 t))⟩] concatenates_S8192x4x64_S8192x4x64_S8192x4x128_d2
def outQ (y : Big) (s t : Tab) : BigH := truncf .bf16 (shapeCast _ (concatenate S8192x4x256 2 [⟨S8192x4x128, fstV (cub y)⟩,
  ⟨S8192x4x128, turn3 (sndV (cub y)) s t⟩] concatenates_S8192x4x128_S8192x4x128_S8192x4x256_d2) shapeCasts_S8192x4x256_S8192x1024) bitsLt_bf16_f32
def keys (y : Big) : Cub1 := shapeCast _ (extractStridedSlice S8192x512 ![0, 0] y slices_S8192x1024_S8192x512_0_0) shapeCasts_S8192x512_S8192x4x128
def share (r : Tab) : Cub1 := broadcastInDim S8192x4x128 ![0, 1, 2] bcast_S8192x1x128_S8192x4x128_0_1_2 (mid r)
def outK (y : Big) (r s t : Tab) : BigH := truncf .bf16 (shapeCast _ (concatenate S8192x4x256 2 [⟨S8192x4x128, keys y⟩,
  ⟨S8192x4x128, share (turnV r s t)⟩] concatenates_S8192x4x128_S8192x4x128_S8192x4x256_d2) shapeCasts_S8192x4x256_S8192x1024) bitsLt_bf16_f32
def outV (y : Big) : WideH := truncf .bf16 (extractStridedSlice S8192x512 ![0, 512] y slices_S8192x1024_S8192x512_0_512) bitsLt_bf16_f32

variable (i : Fin 8192)

theorem upQ_row (x : Lat) (w : LatW) (u : LatU) : brow (upQ x w u) i = up (nrm lq (xrow x i) fun b => w (ix2 0 b)) (fun b k => u (ix2 b k)) := by
  funext k
  unfold brow upQ
  pointwise []
  simp only [nrmQ_at]
  rfl
theorem upK_row (y : Kv) (w : KvW) (u : KvU) : brow (upK y w u) i = up (nrm lkv (krow y i) fun b => w (ix2 0 b)) (fun b k => u (ix2 b k)) := by
  funext k
  unfold brow upK
  pointwise []
  simp only [nrmK_at]
  rfl

/-- The two halves make up the row. -/
theorem turn (g s t : Lanes) (l : Fin 128) :
    (if h : l.val < 64 then g l * s l + g ⟨64 + l.val, by omega⟩ * t l
      else g ⟨64 + (l.val - 64), by omega⟩ * s ⟨64 + (l.val - 64), by omega⟩ + g ⟨l.val - 64, by omega⟩ * t ⟨64 + (l.val - 64), by omega⟩) = rot g s t l := by
  unfold rot
  rcases Nat.lt_or_ge l.val 64 with hl | hl
  · rw [dif_pos hl, show half l = ⟨64 + l.val, by omega⟩ from Fin.ext (by simp only [half]; omega)]
  · rw [dif_neg (by omega), show half l = ⟨l.val - 64, by omega⟩ from Fin.ext (by simp only [half]; omega),
      show (⟨64 + (l.val - 64), by omega⟩ : Fin 128) = l from Fin.ext (by dsimp only; omega)]
theorem turnV_at (g s t : Tab) (l : Fin 128) : turnV g s t (ix2 i l) = rot (trow g i) (trow s i) (trow t i) l := by
  unfold turnV hi lo
  pointwise []
  exact turn (trow g i) (trow s i) (trow t i) l
theorem turn3_at (g : Cub1) (s t : Tab) (h : Fin 4) (l : Fin 128) : turn3 g s t (ix3 i h l)
    = rot (fun l => g (ix3 i h l)) (trow s i) (trow t i) l := by
  unfold turn3 hi3 lo3 hi1 lo1 mid
  pointwise []
  exact turn (fun l => g (ix3 i h l)) (trow s i) (trow t i) l
theorem outQ_at (y : Big) (s t : Tab) (k : Fin 1024) : outQ y s t (ix2 i k) = fq (brow y i) (trow s i) (trow t i) k := by
  unfold outQ
  pointwise []
  simp only [fst_at, turn3_at, snd_at]
  unfold fq
  rcases Nat.lt_or_ge (k.val % 256) 128 with hk | hk
  · refine (dif_pos hk).trans (Eq.trans ?_ (if_pos (show k.val / 128 % 2 = 0 by omega)).symm)
    exact congrArg (brow y i) (Fin.ext (by simp only [lane, fst]; omega))
  · refine (dif_neg (show ¬ k.val % 256 < 128 by omega)).trans (Eq.trans ?_ (if_neg (show ¬ k.val / 128 % 2 = 0 by omega)).symm)
    rw [show snd ⟨k.val / 256, by omega⟩ = part k from Fin.ext (by simp only [snd, part]; omega),
      show (⟨k.val % 256 - 128, by omega⟩ : Fin 128) = off k from Fin.ext (by simp only [off]; omega)]
theorem outK_at (y : Big) (r s t : Tab) (k : Fin 1024) : outK y r s t (ix2 i k) = fk (brow y i) (trow r i) (trow s i) (trow t i) k := by
  unfold outK keys share mid
  pointwise []
  simp only [turnV_at]
  unfold fk
  rcases Nat.lt_or_ge (k.val % 256) 128 with hk | hk
  · refine (dif_pos hk).trans (Eq.trans ?_ (if_pos (show k.val / 128 % 2 = 0 by omega)).symm)
    exact congrArg (brow y i) (Fin.ext (by simp only [lane, key, off]; omega))
  · refine (dif_neg (show ¬ k.val % 256 < 128 by omega)).trans (Eq.trans ?_ (if_neg (show ¬ k.val / 128 % 2 = 0 by omega)).symm)
    rw [show (⟨k.val % 256 - 128, by omega⟩ : Fin 128) = off k from Fin.ext (by simp only [off]; omega)]
theorem outV_at (y : Big) (b : Fin 512) : outV y (ix2 i b) = brow y i (val b) := by
  unfold outV
  pointwise []
  refine congrArg (brow y i) (Fin.ext ?_)
  simp only [val]
  omega

end Cert.Proof.Latent.Fwd.Ref

namespace Cert.Proof.Latent.Fwd

open Idealize Idealize.ShloMosaic
open Cert.Proof.Front.Ref (Big)
open Cert.Proof.Latent.Ref

/-! The results from the arrays at launch. -/

theorem q_val (x : Lat) (s t : Tab) (w : LatW) (u : LatU) (i : Fin 8192) (k : Fin 1024) : Ref.outQ (Ref.upQ x w u) s t (ix2 i k)
    = fq (up (nrm lq (fun b => x (ix2 i b)) fun b => w (ix2 0 b)) fun b k => u (ix2 b k)) (fun l => s (ix2 i l)) (fun l => t (ix2 i l)) k := by
  rw [Ref.outQ_at, Ref.upQ_row]
theorem k_val (y : Kv) (r s t : Tab) (w : KvW) (u : KvU) (i : Fin 8192) (k : Fin 1024) : Ref.outK (Ref.upK y w u) r s t (ix2 i k)
    = fk (up (nrm lkv (fun b => y (ix2 i b)) fun b => w (ix2 0 b)) fun b k => u (ix2 b k)) (fun l => r (ix2 i l)) (fun l => s (ix2 i l)) (fun l => t (ix2 i l)) k := by
  rw [Ref.outK_at, Ref.upK_row]
theorem v_val (y : Kv) (w : KvW) (u : KvU) (i : Fin 8192) (b : Fin 512) : Ref.outV (Ref.upK y w u) (ix2 i b)
    = up (nrm lkv (fun b => y (ix2 i b)) fun b => w (ix2 0 b)) (fun b k => u (ix2 b k)) (val b) := by
  rw [Ref.outV_at, Ref.upK_row]

end Cert.Proof.Latent.Fwd
-- ==== Proof.Offsets.lean ====
/- Where the kernel's loads and stores lie, in closed form.  Block row `r` of a 8192-row buffer begins at row `512 * r`.  In the grouped loop trip `k` takes the
   block rows `j + 1 + 4 k … j + 4 + 4 k`; in the rest loop trip `k` takes block row `15 - k`. -/
module

public import proofs.«01_k».proof.Proof.Gen.KernelIdeal
public import proofs.«01_k».proof.Proof.Gen.KernelIdeal.Skeleton
public import Idealize.ShloMosaic.Lib.Exec
public import Idealize.ShloMosaic.Lib.Tactic

@[expose] public section

namespace Cert.Proof.Bwd

open Cert.KernelIdeal Cert.KernelIdeal.Gen
open Idealize.ShloMosaic Idealize.ShloMosaic.Tactic

/-! ## The two loops' trip counts -/

theorem t2_trips : ∀ i : grid0.Coords, (k0_t2_loop i).trips = (15 - (i 1).val) / 4 := by decide +kernel
theorem t3_trips : ∀ i : grid0.Coords, (k0_t3_loop i).trips = 0 := by decide +kernel
theorem t4_trips : ∀ i : grid0.Coords, (k0_t4_loop i).trips = (15 - (i 1).val) % 4 := by decide +kernel
theorem t5_trips : ∀ i : grid0.Coords, (k0_t5_loop i).trips = 0 := by decide +kernel

/-! ## The grouped loop: block row `j + 1 + 4 k + u` for `u = 0, 1, 2, 3` -/

theorem off7_all : ∀ (i : grid0.Coords) (k : Fin (k0_t2_loop i).trips) (u : Fin 4),
    k0_off7 i k (BitVec.ofNat 32 u.val) = ![512 * ((i 1).val + 1 + 4 * k.val + u.val), 0] := by decide +kernel
theorem off8_all : ∀ (i : grid0.Coords) (k : Fin (k0_t2_loop i).trips) (u : Fin 4),
    k0_off8 i k (BitVec.ofNat 32 u.val) = ![512 * ((i 1).val + 1 + 4 * k.val + u.val), 0] := by decide +kernel
theorem off9_all : ∀ (i : grid0.Coords) (k : Fin (k0_t2_loop i).trips) (u : Fin 4),
    k0_off9 i k (BitVec.ofNat 32 u.val) = ![0, 0, 512 * ((i 1).val + 1 + 4 * k.val + u.val)] := by decide +kernel
theorem off10_all : ∀ (i : grid0.Coords) (k : Fin (k0_t2_loop i).trips) (u : Fin 4),
    k0_off10 i k (BitVec.ofNat 32 u.val) = ![0, 512 * ((i 1).val + 1 + 4 * k.val + u.val)] := by decide +kernel

instance closed7_0 (i : grid0.Coords) (k : Fin (k0_t2_loop i).trips) : ClosedOff (k0_off7 i k 0#32) := ⟨_, off7_all i k 0⟩
instance closed7_1 (i : grid0.Coords) (k : Fin (k0_t2_loop i).trips) : ClosedOff (k0_off7 i k 1#32) := ⟨_, off7_all i k 1⟩
instance closed7_2 (i : grid0.Coords) (k : Fin (k0_t2_loop i).trips) : ClosedOff (k0_off7 i k 2#32) := ⟨_, off7_all i k 2⟩
instance closed7_3 (i : grid0.Coords) (k : Fin (k0_t2_loop i).trips) : ClosedOff (k0_off7 i k 3#32) := ⟨_, off7_all i k 3⟩

/-! ## The rest loop: block row `15 - k` -/

theorem off15_all : ∀ (i : grid0.Coords) (k : Fin (k0_t4_loop i).trips), k0_off15 i k = ![512 * (15 - k.val), 0] := by decide +kernel
theorem off16_all : ∀ (i : grid0.Coords) (k : Fin (k0_t4_loop i).trips), k0_off16 i k = ![512 * (15 - k.val), 0] := by decide +kernel
theorem off17_all : ∀ (i : grid0.Coords) (k : Fin (k0_t4_loop i).trips), k0_off17 i k = ![0, 0, 512 * (15 - k.val)] := by decide +kernel
theorem off18_all : ∀ (i : grid0.Coords) (k : Fin (k0_t4_loop i).trips), k0_off18 i k = ![0, 512 * (15 - k.val)] := by decide +kernel

instance closed15 (i : grid0.Coords) (k : Fin (k0_t4_loop i).trips) : ClosedOff (k0_off15 i k) := ⟨_, off15_all i k⟩

end Cert.Proof.Bwd
-- ==== Proof.Loops.lean ====
/- One trip of each of the kernel's loops, at a symbolic trip, and the loops' invariants. -/
module

public import proofs.«01_k».proof.Proof.Offsets
public import proofs.«01_k».proof.Proof.Step
public import proofs.«01_k».proof.Proof.Gen.KernelIdeal.Loops

@[expose] public section

set_option maxRecDepth 8192
set_option maxHeartbeats 4000000

noncomputable section

namespace Cert.Proof.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section Reads

variable {κ : Kind} {sp : Space}

theorem read_rowQ {e : EltTy} (v : View sig κ sp S8192x256 e) (x : Vec F S8192x256 e) {off : Fin 2 → ℕ} (inb : ∀ a, off a + S512x256.size a ≤ S8192x256.size a)
    (r : Fin 16) (h : off = ![512 * r.val, 0]) : v.readAt (Elt F) (Rect.unit (s := S8192x256) off S512x256.size inb).toLoadRect (v.rep x) = rowQ x r :=
  View.readAt_rep_unit v x inb h (rowQ_inb r)

theorem read_rowD {e : EltTy} (v : View sig κ sp S8192x128 e) (x : Vec F S8192x128 e) {off : Fin 2 → ℕ} (inb : ∀ a, off a + S512x128.size a ≤ S8192x128.size a)
    (r : Fin 16) (h : off = ![512 * r.val, 0]) : v.readAt (Elt F) (Rect.unit (s := S8192x128) off S512x128.size inb).toLoadRect (v.rep x) = rowD x r :=
  View.readAt_rep_unit v x inb h (rowD_inb r)

theorem read_rowL (v : View sig κ sp S1x8x8192 .f32) (x : Vec F S1x8x8192 .f32) {off : Fin 3 → ℕ} (inb : ∀ a, off a + S1x1x512.size a ≤ S1x8x8192.size a)
    (r : Fin 16) (h : off = ![0, 0, 512 * r.val]) : v.readAt (Elt F) (Rect.unit (s := S1x8x8192) off S1x1x512.size inb).toLoadRect (v.rep x) = rowL x r :=
  View.readAt_rep_unit v x inb h (rowL_inb r)

theorem read_rowI (v : View sig κ sp S8x8192 .f32) (x : Vec F S8x8192 .f32) {off : Fin 2 → ℕ} (inb : ∀ a, off a + S1x512.size a ≤ S8x8192.size a)
    (r : Fin 16) (h : off = ![0, 512 * r.val]) : v.readAt (Elt F) (Rect.unit (s := S8x8192) off S1x512.size inb).toLoadRect (v.rep x) = rowI x r :=
  View.readAt_rep_unit v x inb h (rowI_inb r)

theorem read_rowQ' {e : EltTy} (v : View sig κ sp S8192x256 e) (f : v.ty.Contents (Elt F)) {off : Fin 2 → ℕ} (inb : ∀ a, off a + S512x256.size a ≤ S8192x256.size a)
    (r : Fin 16) (h : off = ![512 * r.val, 0]) : v.readAt (Elt F) (Rect.unit (s := S8192x256) off S512x256.size inb).toLoadRect f = rowQ (v.read (Elt F) f) r :=
  View.readAt_unit v f inb h (rowQ_inb r)

end Reads

/-- What the row loops hold: the four read buffers at their contents and the three written ones at theirs. -/
abbrev Held (c : Dev nD) (arg2 : Memref sig .tc .vmem S8192x256 .bf16) (arg5 : Memref sig .tc .vmem S1x8x8192 .f32)
    (arg8 : Memref sig .tc .vmem S8192x256 .f32) (arg9 : Memref sig .tc .vmem S512x256 .f32) (arg10 : Memref sig .tc .vmem S512x128 .f32)
    (arg11 : Memref sig .tc .vmem S8x8192 .f32) (arg12 : Memref sig .tc .vmem S8192x128 .bf16) (I : Ins F) (S : Outs F) : sProp 𝕄 :=
  iprop((arg2.view.loc (c : Thread nD τ) ↦[arg2.view.set]{fullShare} arg2.view.rep I.q) ∗
    (arg5.view.loc (c : Thread nD τ) ↦[arg5.view.set]{fullShare} arg5.view.rep I.lse) ∗
    (arg11.view.loc (c : Thread nD τ) ↦[arg11.view.set]{fullShare} arg11.view.rep I.dl) ∗
    (arg12.view.loc (c : Thread nD τ) ↦[arg12.view.set]{fullShare} arg12.view.rep I.d16) ∗
    (arg8.view.loc (c : Thread nD τ) ↦[arg8.view.set]{fullShare} arg8.view.rep S.dq) ∗
    (arg9.view.loc (c : Thread nD τ) ↦[arg9.view.set]{fullShare} arg9.view.rep S.dk) ∗
    (arg10.view.loc (c : Thread nD τ) ↦[arg10.view.set]{fullShare} arg10.view.rep S.dv))

variable (c : Dev nD) (i : grid0.Coords)
  (arg2 : Memref sig .tc .vmem S8192x256 .bf16) (harg2 : arg2.IsWhole) (arg3 : Memref sig .tc .vmem S512x256 .bf16) (harg3 : arg3.IsWhole)
  (arg4 : Memref sig .tc .vmem S512x128 .bf16) (harg4 : arg4.IsWhole) (arg5 : Memref sig .tc .vmem S1x8x8192 .f32) (harg5 : arg5.IsWhole)
  (arg6 : Memref sig .tc .vmem S8192x128 .f32) (harg6 : arg6.IsWhole) (arg7 : Memref sig .tc .vmem S8192x128 .f32) (harg7 : arg7.IsWhole)
  (arg8 : Memref sig .tc .vmem S8192x256 .f32) (harg8 : arg8.IsWhole) (arg9 : Memref sig .tc .vmem S512x256 .f32) (harg9 : arg9.IsWhole)
  (arg10 : Memref sig .tc .vmem S512x128 .f32) (harg10 : arg10.IsWhole) (arg11 : Memref sig .tc .vmem S8x8192 .f32) (harg11 : arg11.IsWhole)
  (arg12 : Memref sig .tc .vmem S8192x128 .bf16) (harg12 : arg12.IsWhole)

theorem trip4 (I : Ins F) (S : Outs F) (arg1 v55 v56 : BitVec 32) (v67 v69 : BitVec 1) (k : Fin (k0_t4_loop i).trips) (r : Fin 16) (hr : r.val = 15 - k.val) :
    (Held c arg2 arg5 arg8 arg9 arg10 arg11 arg12 I S : sProp 𝕄)
    ⊢ wp frame (wpE (defs₀ (F := F)) Variants.none (c : Thread nD τ) none) Set.univ
        (k0_t4_body (F := F) i arg2 harg2 arg3 harg3 arg4 harg4 arg5 harg5 arg6 harg6 arg7 harg7 arg8 harg8 arg9 harg9 arg10 harg10 arg11 harg11 arg12 harg12 arg1 I.k I.v v55 v56 v67 v69 k PUnit.unit)
        (fun _ => Held c arg2 arg5 arg8 arg9 arg10 arg11 arg12 I (step I r S)) := by
  unfold k0_t4_body
  iintro ⟨H2, H5, H11, H12, H8, H9, H10⟩
  sl_exec
  sl_step
  isplitl [H2]; · iexact H2
  isplitl [H5]; · iexact H5
  isplitl [H11]; · iexact H11
  isplitl [H12]; · iexact H12
  have h15 : k0_off15 i k = ![512 * r.val, 0] := by rw [off15_all, hr]
  have h16 : k0_off16 i k = ![512 * r.val, 0] := by rw [off16_all, hr]
  have h17 : k0_off17 i k = ![0, 0, 512 * r.val] := by rw [off17_all, hr]
  have h18 : k0_off18 i k = ![0, 512 * r.val] := by rw [off18_all, hr]
  isplitl [H8]
  · iapply (pointsTo_rep_of_read (c : Thread nD τ) arg8 _ fullShare (step I r S).dq ?_) $$ H8
    unfold trip4.sl.r trip4.sl.r_1
    rw [View.read_writes_rep_unit _ _ _ _ h15, read_rowQ _ _ _ r h15, read_rowD _ _ _ r h16, read_rowL _ _ _ r h17, read_rowI _ _ _ r h18, read_rowQ _ _ _ r h15]
    rfl
  isplitl [H9]
  · iapply (pointsTo_rep_of_read (c : Thread nD τ) arg9 _ fullShare (step I r S).dk ?_) $$ H9
    rw [View.read_writes_full, read_rowQ _ _ _ r h15, read_rowD _ _ _ r h16, read_rowL _ _ _ r h17, read_rowI _ _ _ r h18, View.readAt_rep_full]
    rfl
  iapply (pointsTo_rep_of_read (c : Thread nD τ) arg10 _ fullShare (step I r S).dv ?_) $$ H10
  rw [View.read_writes_full, read_rowQ _ _ _ r h15, read_rowD _ _ _ r h16, read_rowL _ _ _ r h17, View.readAt_rep_full]
  rfl

theorem trip2 (I : Ins F) (S : Outs F) (arg1 v55 v56 : BitVec 32) (v67 v69 : BitVec 1) (k : Fin (k0_t2_loop i).trips) (r : Fin 4 → Fin 16)
    (hr : ∀ u, (r u).val = (i 1).val + 1 + 4 * k.val + u.val) :
    (Held c arg2 arg5 arg8 arg9 arg10 arg11 arg12 I S : sProp 𝕄)
    ⊢ wp frame (wpE (defs₀ (F := F)) Variants.none (c : Thread nD τ) none) Set.univ
        (k0_t2_body (F := F) i arg2 harg2 arg3 harg3 arg4 harg4 arg5 harg5 arg6 harg6 arg7 harg7 arg8 harg8 arg9 harg9 arg10 harg10 arg11 harg11 arg12 harg12 arg1 I.k I.v v55 v56 v67 v69 k PUnit.unit)
        (fun _ => Held c arg2 arg5 arg8 arg9 arg10 arg11 arg12 I (step I (r 3) (step I (r 2) (step I (r 1) (step I (r 0) S))))) := by
  unfold k0_t2_body
  iintro ⟨H2, H5, H11, H12, H8, H9, H10⟩
  sl_exec
  sl_step
  isplitl [H2]; · iexact H2
  isplitl [H5]; · iexact H5
  isplitl [H11]; · iexact H11
  isplitl [H12]; · iexact H12
  have h7_0 : k0_off7 i k 0#32 = ![512 * (r 0).val, 0] := by rw [hr 0]; exact off7_all i k 0
  have h8_0 : k0_off8 i k 0#32 = ![512 * (r 0).val, 0] := by rw [hr 0]; exact off8_all i k 0
  have h9_0 : k0_off9 i k 0#32 = ![0, 0, 512 * (r 0).val] := by rw [hr 0]; exact off9_all i k 0
  have h10_0 : k0_off10 i k 0#32 = ![0, 512 * (r 0).val] := by rw [hr 0]; exact off10_all i k 0
  have h7_1 : k0_off7 i k 1#32 = ![512 * (r 1).val, 0] := by rw [hr 1]; exact off7_all i k 1
  have h8_1 : k0_off8 i k 1#32 = ![512 * (r 1).val, 0] := by rw [hr 1]; exact off8_all i k 1
  have h9_1 : k0_off9 i k 1#32 = ![0, 0, 512 * (r 1).val] := by rw [hr 1]; exact off9_all i k 1
  have h10_1 : k0_off10 i k 1#32 = ![0, 512 * (r 1).val] := by rw [hr 1]; exact off10_all i k 1
  have h7_2 : k0_off7 i k 2#32 = ![512 * (r 2).val, 0] := by rw [hr 2]; exact off7_all i k 2
  have h8_2 : k0_off8 i k 2#32 = ![512 * (r 2).val, 0] := by rw [hr 2]; exact off8_all i k 2
  have h9_2 : k0_off9 i k 2#32 = ![0, 0, 512 * (r 2).val] := by rw [hr 2]; exact off9_all i k 2
  have h10_2 : k0_off10 i k 2#32 = ![0, 512 * (r 2).val] := by rw [hr 2]; exact off10_all i k 2
  have h7_3 : k0_off7 i k 3#32 = ![512 * (r 3).val, 0] := by rw [hr 3]; exact off7_all i k 3
  have h8_3 : k0_off8 i k 3#32 = ![512 * (r 3).val, 0] := by rw [hr 3]; exact off8_all i k 3
  have h9_3 : k0_off9 i k 3#32 = ![0, 0, 512 * (r 3).val] := by rw [hr 3]; exact off9_all i k 3
  have h10_3 : k0_off10 i k 3#32 = ![0, 512 * (r 3).val] := by rw [hr 3]; exact off10_all i k 3
  have q1 : arg8.view.read (Elt F) (arg8.view.writes (Elt F) (arg8.view.rep S.dq) (trip2.sl.H8_1 i arg2 arg5 arg8 arg11 arg12 I S k)) = (step I (r 0) S).dq := by
    unfold trip2.sl.H8_1 trip2.sl.r
    rw [View.read_writes_cons_put _ _ _ _ _ h7_0, View.writes_nil, View.read_rep]
    rw [read_rowQ _ _ _ (r 0) h7_0, read_rowD _ _ _ (r 0) h8_0, read_rowL _ _ _ (r 0) h9_0, read_rowI _ _ _ (r 0) h10_0, read_rowQ _ _ _ (r 0) h7_0]
    rfl
  have q2 : arg8.view.read (Elt F) (arg8.view.writes (Elt F) (arg8.view.rep S.dq) (trip2.sl.H8_2 i arg2 arg5 arg8 arg11 arg12 I S k)) = (step I (r 1) (step I (r 0) S)).dq := by
    unfold trip2.sl.H8_2 trip2.sl.r_3
    rw [View.read_writes_cons_put _ _ _ _ _ h7_1, q1]
    rw [read_rowQ _ _ _ (r 1) h7_1, read_rowD _ _ _ (r 1) h8_1, read_rowL _ _ _ (r 1) h9_1, read_rowI _ _ _ (r 1) h10_1, read_rowQ' _ _ _ (r 1) h7_1, q1]
    rfl
  have q3 : arg8.view.read (Elt F) (arg8.view.writes (Elt F) (arg8.view.rep S.dq) (trip2.sl.H8_3 i arg2 arg5 arg8 arg11 arg12 I S k)) = (step I (r 2) (step I (r 1) (step I (r 0) S))).dq := by
    unfold trip2.sl.H8_3 trip2.sl.r_7 trip2.sl.r_8
    rw [View.read_writes_cons_put _ _ _ _ _ h7_2, q2]
    rw [read_rowQ _ _ _ (r 2) h7_2, read_rowD _ _ _ (r 2) h8_2, read_rowL _ _ _ (r 2) h9_2, read_rowI _ _ _ (r 2) h10_2, read_rowQ' _ _ _ (r 2) h7_2, q2]
    rfl
  have k1 : arg9.view.readCov (trip2.sl.H9_1 i arg2 arg5 arg9 arg11 arg12 I S k) (Rect.unit (s := S512x256) ![0, 0] S512x256.size inb_S512x256_S512x256_0_0).toLoadRect = (step I (r 0) S).dk := by
    unfold trip2.sl.H9_1
    rw [View.readCov_full]
    unfold trip2.sl.r_1
    rw [read_rowQ _ _ _ (r 0) h7_0, read_rowD _ _ _ (r 0) h8_0, read_rowL _ _ _ (r 0) h9_0, read_rowI _ _ _ (r 0) h10_0, View.readAt_rep_full]
    rfl
  have k2 : arg9.view.readCov (trip2.sl.H9_2 i arg2 arg5 arg9 arg11 arg12 I S k) (Rect.unit (s := S512x256) ![0, 0] S512x256.size inb_S512x256_S512x256_0_0).toLoadRect = (step I (r 1) (step I (r 0) S)).dk := by
    unfold trip2.sl.H9_2
    rw [View.readCov_full]
    unfold trip2.sl.v177 trip2.sl.r_2 trip2.sl.r_3
    rw [read_rowQ _ _ _ (r 1) h7_1, read_rowD _ _ _ (r 1) h8_1, read_rowL _ _ _ (r 1) h9_1, read_rowI _ _ _ (r 1) h10_1, k1]
    rfl
  have k3 : arg9.view.readCov (trip2.sl.H9_3 i arg2 arg5 arg9 arg11 arg12 I S k) (Rect.unit (s := S512x256) ![0, 0] S512x256.size inb_S512x256_S512x256_0_0).toLoadRect = (step I (r 2) (step I (r 1) (step I (r 0) S))).dk := by
    unfold trip2.sl.H9_3
    rw [View.readCov_full]
    unfold trip2.sl.v222 trip2.sl.r_5 trip2.sl.r_7 trip2.sl.r_8
    rw [read_rowQ _ _ _ (r 2) h7_2, read_rowD _ _ _ (r 2) h8_2, read_rowL _ _ _ (r 2) h9_2, read_rowI _ _ _ (r 2) h10_2, k2]
    rfl
  have v1 : arg10.view.readCov (trip2.sl.H10_1 i arg2 arg5 arg10 arg12 I S k) (Rect.unit (s := S512x128) ![0, 0] S512x128.size inb_S512x128_S512x128_0_0).toLoadRect = (step I (r 0) S).dv := by
    unfold trip2.sl.H10_1
    rw [View.readCov_full]
    rw [read_rowQ _ _ _ (r 0) h7_0, read_rowD _ _ _ (r 0) h8_0, read_rowL _ _ _ (r 0) h9_0, View.readAt_rep_full]
    rfl
  have v2 : arg10.view.readCov (trip2.sl.H10_2 i arg2 arg5 arg10 arg12 I S k) (Rect.unit (s := S512x128) ![0, 0] S512x128.size inb_S512x128_S512x128_0_0).toLoadRect = (step I (r 1) (step I (r 0) S)).dv := by
    unfold trip2.sl.H10_2
    rw [View.readCov_full]
    unfold trip2.sl.r_4 trip2.sl.v171
    rw [read_rowQ _ _ _ (r 1) h7_1, read_rowD _ _ _ (r 1) h8_1, read_rowL _ _ _ (r 1) h9_1, v1]
    rfl
  have v3 : arg10.view.readCov (trip2.sl.H10_3 i arg2 arg5 arg10 arg12 I S k) (Rect.unit (s := S512x128) ![0, 0] S512x128.size inb_S512x128_S512x128_0_0).toLoadRect = (step I (r 2) (step I (r 1) (step I (r 0) S))).dv := by
    unfold trip2.sl.H10_3
    rw [View.readCov_full]
    unfold trip2.sl.v216 trip2.sl.r_6 trip2.sl.r_7
    rw [read_rowQ _ _ _ (r 2) h7_2, read_rowD _ _ _ (r 2) h8_2, read_rowL _ _ _ (r 2) h9_2, v2]
    rfl
  isplitl [H8]
  · iapply (pointsTo_rep_of_read (c : Thread nD τ) arg8 _ fullShare ((step I (r 3) (step I (r 2) (step I (r 1) (step I (r 0) S))))).dq ?_) $$ H8
    unfold trip2.sl.r_10 trip2.sl.r_11
    rw [View.read_writes_cons_put _ _ _ _ _ h7_3, q3, read_rowQ _ _ _ (r 3) h7_3, read_rowD _ _ _ (r 3) h8_3, read_rowL _ _ _ (r 3) h9_3, read_rowI _ _ _ (r 3) h10_3, read_rowQ' _ _ _ (r 3) h7_3, q3]
    rfl
  isplitl [H9]
  · iapply (pointsTo_rep_of_read (c : Thread nD τ) arg9 _ fullShare ((step I (r 3) (step I (r 2) (step I (r 1) (step I (r 0) S))))).dk ?_) $$ H9
    unfold trip2.sl.r_9 trip2.sl.r_10 trip2.sl.r_11 trip2.sl.v267
    rw [View.read_writes_full, k3, read_rowQ _ _ _ (r 3) h7_3, read_rowD _ _ _ (r 3) h8_3, read_rowL _ _ _ (r 3) h9_3, read_rowI _ _ _ (r 3) h10_3]
    rfl
  iapply (pointsTo_rep_of_read (c : Thread nD τ) arg10 _ fullShare ((step I (r 3) (step I (r 2) (step I (r 1) (step I (r 0) S))))).dv ?_) $$ H10
  unfold trip2.sl.r_10 trip2.sl.r_11 trip2.sl.v261
  rw [View.read_writes_full, v3, read_rowQ _ _ _ (r 3) h7_3, read_rowD _ _ _ (r 3) h8_3, read_rowL _ _ _ (r 3) h9_3]
  rfl

/-- What the staging loop holds: the forward output and the upstream gradient, read; `δ` and the narrow gradient, written. -/
abbrev Staged (c : Dev nD) (arg6 arg7 : Memref sig .tc .vmem S8192x128 .f32) (arg11 : Memref sig .tc .vmem S8x8192 .f32)
    (arg12 : Memref sig .tc .vmem S8192x128 .bf16) (o dO : Vec F S8192x128 .f32) (x : Vec F S8x8192 .f32) (y : Vec F S8192x128 .bf16) : sProp 𝕄 :=
  iprop((arg6.view.loc (c : Thread nD τ) ↦[arg6.view.set]{fullShare} arg6.view.rep o) ∗
    (arg7.view.loc (c : Thread nD τ) ↦[arg7.view.set]{fullShare} arg7.view.rep dO) ∗
    (arg11.view.loc (c : Thread nD τ) ↦[arg11.view.set]{fullShare} arg11.view.rep x) ∗
    (arg12.view.loc (c : Thread nD τ) ↦[arg12.view.set]{fullShare} arg12.view.rep y))

theorem trip1 (o dO : Vec F S8192x128 .f32) (x : Vec F S8x8192 .f32) (y : Vec F S8192x128 .bf16) (h1 : k0_cond1 i = 1#1) (k : Fin k0_t1_loop.trips) (r : Fin 16) (hr : r.val = k.val) :
    (Staged c arg6 arg7 arg11 arg12 o dO x y : sProp 𝕄)
    ⊢ wp frame (wpE (defs₀ (F := F)) Variants.none (c : Thread nD τ) none) Set.univ
        (k0_t1_body (F := F) i arg2 harg2 arg3 harg3 arg4 harg4 arg5 harg5 arg6 harg6 arg7 harg7 arg8 harg8 arg9 harg9 arg10 harg10 arg11 harg11 arg12 harg12 h1 k PUnit.unit)
        (fun _ => Staged c arg6 arg7 arg11 arg12 o dO (VecWindow.put x ![0, 512 * r.val] S8x512.size (k0_pay47 (rowD dO r) (rowD o r)))
          (VecWindow.put y ![512 * r.val, 0] S512x128.size (k0_pay48 (rowD dO r)))) := by
  unfold k0_t1_body
  iintro ⟨H6, H7, H11, H12⟩
  sl_exec
  sl_step
  have h1 : k0_off1 k = ![512 * r.val, 0] := by rw [k0_off1_eq, hr]
  have h2 : k0_off2 k = ![0, 512 * r.val] := by rw [k0_off2_eq, hr]
  isplitl [H6]; · iexact H6
  isplitl [H7]; · iexact H7
  isplitl [H11]
  · iapply (pointsTo_rep_of_read (c : Thread nD τ) arg11 _ fullShare _ ?_) $$ H11
    rw [View.read_writes_rep_unit _ _ _ _ h2, read_rowD _ _ _ r h1, read_rowD _ _ _ r h1]
  iapply (pointsTo_rep_of_read (c : Thread nD τ) arg12 _ fullShare _ ?_) $$ H12
  rw [View.read_writes_rep_unit _ _ _ _ h1, read_rowD _ _ _ r h1]

/-! ## The invariants -/

theorem up_four (I : Ins F) (s k : ℕ) (S : Outs F) :
    up I s (4 * (k + 1)) S = step I (blk (s + 4 * k + 3)) (step I (blk (s + 4 * k + 2)) (step I (blk (s + 4 * k + 1)) (step I (blk (s + 4 * k)) (up I s (4 * k) S)))) := rfl

/-- The staging loop: before trip `k` the first `k` block rows are staged. -/
@[sl_loop, instance_reducible] def inv1 (o dO : Vec F S8192x128 .f32) (x : Vec F S8x8192 .f32) (y : Vec F S8192x128 .bf16) (h1 : k0_cond1 i = 1#1) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 h1 where
  inv k _ := Staged c arg6 arg7 arg11 arg12 o dO (stageI dO o k x) (stageD dO k y)
  step k acc := trip1 c i arg2 harg2 arg3 harg3 arg4 harg4 arg5 harg5 arg6 harg6 arg7 harg7 arg8 harg8 arg9 harg9 arg10 harg10 arg11 harg11 arg12 harg12 o dO (stageI dO o k.val x) (stageD dO k.val y) h1 k (blk k.val)
    (blk_val (lt_of_lt_of_le k.isLt k0_t1_abs.2.1))

/-- The grouped loop: before trip `k` the `4 k` block rows below the diagonal's are done. -/
@[sl_loop, instance_reducible] def inv2 (I : Ins F) (S : Outs F) (arg1 v55 v56 : BitVec 32) (v67 v69 : BitVec 1) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg1 I.k I.v v55 v56 v67 v69 where
  inv k _ := Held c arg2 arg5 arg8 arg9 arg10 arg11 arg12 I (up I ((i 1).val + 1) (4 * k) S)
  step k acc := by
    have hk : k.val < (15 - (i 1).val) / 4 := lt_of_lt_of_eq k.isLt (t2_trips i)
    exact trip2 c i arg2 harg2 arg3 harg3 arg4 harg4 arg5 harg5 arg6 harg6 arg7 harg7 arg8 harg8 arg9 harg9 arg10 harg10 arg11 harg11 arg12 harg12 I (up I ((i 1).val + 1) (4 * k.val) S) arg1 v55 v56 v67 v69 k
      (fun u => blk ((i 1).val + 1 + 4 * k.val + u.val)) (fun u => blk_val (by have := u.isLt; omega))

/-- What the rest loop has left after `k` trips, the entry contents named as they stand when it has made none. -/
abbrev rest (I : Ins F) (S : Outs F) (k : ℕ) : Outs F :=
  match k with
  | 0 => S
  | k + 1 => down I (k + 1) S

theorem rest_eq (I : Ins F) (S : Outs F) (k : ℕ) : rest I S k = down I k S := by cases k <;> rfl

/-- The rest loop: before trip `k` the last `k` block rows are done. -/
@[sl_loop, instance_reducible] def inv4 (I : Ins F) (S : Outs F) (arg1 v55 v56 : BitVec 32) (v67 v69 : BitVec 1) :
    LoopInvTy_k0_t4 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg1 I.k I.v v55 v56 v67 v69 where
  inv k _ := Held c arg2 arg5 arg8 arg9 arg10 arg11 arg12 I (rest I S k)
  step k acc := by
    simp only [rest_eq]
    have hk : k.val < (15 - (i 1).val) % 4 := lt_of_lt_of_eq k.isLt (t4_trips i)
    exact trip4 c i arg2 harg2 arg3 harg3 arg4 harg4 arg5 harg5 arg6 harg6 arg7 harg7 arg8 harg8 arg9 harg9 arg10 harg10 arg11 harg11 arg12 harg12 I (down I k.val S) arg1 v55 v56 v67 v69 k (blk (15 - k.val)) (blk_val (by omega))

end Cert.Proof.Bwd
-- ==== Proof.Body.lean ====
/- The kernel's body at a grid point, part by part and whole. -/
module

public import proofs.«01_k».proof.Proof.Loops
public import Idealize.ShloMosaic.Lib.LoopRemainder

@[expose] public section

set_option maxRecDepth 8192
set_option maxHeartbeats 4000000

noncomputable section

namespace Cert.Proof.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg2 : Memref sig .tc .vmem S8192x256 .bf16) (harg2 : arg2.IsWhole) (arg3 : Memref sig .tc .vmem S512x256 .bf16) (harg3 : arg3.IsWhole)
  (arg4 : Memref sig .tc .vmem S512x128 .bf16) (harg4 : arg4.IsWhole) (arg5 : Memref sig .tc .vmem S1x8x8192 .f32) (harg5 : arg5.IsWhole)
  (arg6 : Memref sig .tc .vmem S8192x128 .f32) (harg6 : arg6.IsWhole) (arg7 : Memref sig .tc .vmem S8192x128 .f32) (harg7 : arg7.IsWhole)
  (arg8 : Memref sig .tc .vmem S8192x256 .f32) (harg8 : arg8.IsWhole) (arg9 : Memref sig .tc .vmem S512x256 .f32) (harg9 : arg9.IsWhole)
  (arg10 : Memref sig .tc .vmem S512x128 .f32) (harg10 : arg10.IsWhole) (arg11 : Memref sig .tc .vmem S8x8192 .f32) (harg11 : arg11.IsWhole)
  (arg12 : Memref sig .tc .vmem S8192x128 .bf16) (harg12 : arg12.IsWhole)

theorem part13_run (I : Ins F) (S : Outs F) (arg1 v55 v56 : BitVec 32) (v67 v69 : BitVec 1) :
    (Held c arg2 arg5 arg8 arg9 arg10 arg11 arg12 I S : sProp 𝕄)
    ⊢ wp frame (wpE (defs₀ (F := F)) Variants.none (c : Thread nD τ) none) Set.univ
        (k0_part13 (F := F) i arg2 harg2 arg3 harg3 arg4 harg4 arg5 harg5 arg6 harg6 arg7 harg7 arg8 harg8 arg9 harg9 arg10 harg10 arg11 harg11 arg12 harg12 arg1 I.k I.v v55 v56 v67 v69)
        (fun b => iprop(⌜b = Scalar.cmpi .ne (Scalar.extui (Scalar.cmpi .eq arg1 15#32) : BitVec 32) 0#32⌝ ∗ Held c arg2 arg5 arg8 arg9 arg10 arg11 arg12 I
          ⟨(down I ((15 - (i 1).val) % 4) (up I ((i 1).val + 1) (4 * ((15 - (i 1).val) / 4)) S)).dq,
            k0_pay70 (down I ((15 - (i 1).val) % 4) (up I ((i 1).val + 1) (4 * ((15 - (i 1).val) / 4)) S)).dk,
            (down I ((15 - (i 1).val) % 4) (up I ((i 1).val + 1) (4 * ((15 - (i 1).val) / 4)) S)).dv⟩)) := by
  rw [k0_part13_eq_skeleton]
  unfold k0_part13_skel
  iintro ⟨H2, H5, H11, H12, H8, H9, H10⟩
  let L2 := inv2 c i arg2 harg2 arg3 harg3 arg4 harg4 arg5 harg5 arg6 harg6 arg7 harg7 arg8 harg8 arg9 harg9 arg10 harg10 arg11 harg11 arg12 harg12 I S arg1 v55 v56 v67 v69
  let L4 := inv4 c i arg2 harg2 arg3 harg3 arg4 harg4 arg5 harg5 arg6 harg6 arg7 harg7 arg8 harg8 arg9 harg9 arg10 harg10 arg11 harg11 arg12 harg12 I (up I ((i 1).val + 1) (4 * (k0_t2_loop i).trips) S) arg1 v55 v56 v67 v69
  sl_exec
  sl_step
  isplitr
  · ipureintro; rfl
  isplitl [H2]; · iexact H2
  isplitl [H5]; · iexact H5
  isplitl [H11]; · iexact H11
  isplitl [H12]; · iexact H12
  have e : rest I (up I ((i 1).val + 1) (4 * (k0_t2_loop i).trips) S) (Scf.trips (k0_t4_loop i).lb (k0_t4_loop i).ub (k0_t4_loop i).st)
      = down I ((15 - (i 1).val) % 4) (up I ((i 1).val + 1) (4 * ((15 - (i 1).val) / 4)) S) := by
    rw [rest_eq, show Scf.trips (k0_t4_loop i).lb (k0_t4_loop i).ub (k0_t4_loop i).st = (15 - (i 1).val) % 4 from t4_trips i, t2_trips i]
  isplitl [H8]
  · simp only [e]; iexact H8
  isplitl [H9]
  · iapply (pointsTo_rep_of_read (c : Thread nD τ) arg9 _ fullShare _ ?_) $$ H9
    unfold part13_run.sl.v93
    rw [View.read_writes_full, View.readAt_rep_full, e]
  simp only [e]; iexact H10

theorem part12_run (I : Ins F) (S : Outs F) (arg1 v10 : BitVec 32) :
    (Held c arg2 arg5 arg8 arg9 arg10 arg11 arg12 I S : sProp 𝕄)
    ⊢ wp frame (wpE (defs₀ (F := F)) Variants.none (c : Thread nD τ) none) Set.univ
        (k0_part12 (F := F) i arg2 harg2 arg3 harg3 arg4 harg4 arg5 harg5 arg6 harg6 arg7 harg7 arg8 harg8 arg9 harg9 arg10 harg10 arg11 harg11 arg12 harg12 arg1 I.k v10 (rowQ I.q (blk (i 1).val)) (rowD I.d16 (blk (i 1).val))
          (k0_pay51 I.k (rowQ I.q (blk (i 1).val)) (rowL I.lse (blk (i 1).val))) (k0_pay52 I.v (rowD I.d16 (blk (i 1).val))) (k0_pay53 (rowI I.dl (blk (i 1).val))))
        (fun _ => Held c arg2 arg5 arg8 arg9 arg10 arg11 arg12 I (diag I (blk (i 1).val) S)) := by
  rw [k0_part12_eq_skeleton]
  unfold k0_part12_skel
  iintro ⟨H2, H5, H11, H12, H8, H9, H10⟩
  sl_exec
  sl_step
  isplitl [H2]; · iexact H2
  isplitl [H5]; · iexact H5
  isplitl [H11]; · iexact H11
  isplitl [H12]; · iexact H12
  have hb : (blk (i 1).val).val = (i 1).val := blk_val (i 1).isLt
  have h3 : k0_off3 i = ![512 * (blk (i 1).val).val, 0] := by rw [k0_off3_eq, hb]
  isplitl [H8]
  · iapply (pointsTo_rep_of_read (c : Thread nD τ) arg8 _ fullShare _ ?_) $$ H8
    rw [View.read_writes_rep_unit _ _ _ _ h3, read_rowQ _ _ _ _ h3]
    rfl
  isplitl [H9]
  · iapply (pointsTo_rep_of_read (c : Thread nD τ) arg9 _ fullShare _ ?_) $$ H9
    rw [View.read_writes_full, View.readAt_rep_full]
    rfl
  iapply (pointsTo_rep_of_read (c : Thread nD τ) arg10 _ fullShare _ ?_) $$ H10
  rw [View.read_writes_full, View.readAt_rep_full]
  rfl

/-- What the first part hands on, `j` being the key block. -/
abbrev firstVals (I : Ins F) : Σ' (arg1 : BitVec 32) (v7 : Vec F S512x256 .bf16) (v8 : Vec F S512x128 .bf16) (v10 : BitVec 32) (v12 : Vec F S512x256 .bf16) (v14 : Vec F S512x128 .bf16) (v28 : FVec F S512x512 .f32) (v29 : FVec F S512x512 .f32), FVec F S512x512 .f32 :=
  ⟨BitVec.ofNat 32 (i 1).val, I.k, I.v, Scalar.muli (BitVec.ofNat 32 (i 1).val) 512#32, rowQ I.q (blk (i 1).val), rowD I.d16 (blk (i 1).val),
    k0_pay51 I.k (rowQ I.q (blk (i 1).val)) (rowL I.lse (blk (i 1).val)), k0_pay52 I.v (rowD I.d16 (blk (i 1).val)), k0_pay53 (rowI I.dl (blk (i 1).val))⟩

theorem part11_later (I : Ins F) (Q : Vec F S8192x256 .f32) (f9 : BufTy.Contents (Elt F) arg9.view.ty) (f10 : BufTy.Contents (Elt F) arg10.view.ty)
    (h1 : ¬ k0_cond1 i = 1#1) :
    (iprop((arg2.view.loc (c : Thread nD τ) ↦[arg2.view.set]{fullShare} arg2.view.rep I.q) ∗
      (arg3.view.loc (c : Thread nD τ) ↦[arg3.view.set]{fullShare} arg3.view.rep I.k) ∗
      (arg4.view.loc (c : Thread nD τ) ↦[arg4.view.set]{fullShare} arg4.view.rep I.v) ∗
      (arg5.view.loc (c : Thread nD τ) ↦[arg5.view.set]{fullShare} arg5.view.rep I.lse) ∗
      (arg8.view.loc (c : Thread nD τ) ↦[arg8.view.set]{fullShare} arg8.view.rep Q) ∗
      (arg9.view.loc (c : Thread nD τ) ↦[arg9.view.set]{fullShare} f9) ∗
      (arg10.view.loc (c : Thread nD τ) ↦[arg10.view.set]{fullShare} f10) ∗
      (arg11.view.loc (c : Thread nD τ) ↦[arg11.view.set]{fullShare} arg11.view.rep I.dl) ∗
      (arg12.view.loc (c : Thread nD τ) ↦[arg12.view.set]{fullShare} arg12.view.rep I.d16)) : sProp 𝕄)
    ⊢ wp frame (wpE (defs₀ (F := F)) Variants.none (c : Thread nD τ) none) Set.univ
        (k0_part11 (F := F) i arg2 harg2 arg3 harg3 arg4 harg4 arg5 harg5 arg6 harg6 arg7 harg7 arg8 harg8 arg9 harg9 arg10 harg10 arg11 harg11 arg12 harg12)
        (fun v => iprop(⌜v = firstVals i I⌝ ∗ (arg3.view.loc (c : Thread nD τ) ↦[arg3.view.set]{fullShare} arg3.view.rep I.k) ∗
          (arg4.view.loc (c : Thread nD τ) ↦[arg4.view.set]{fullShare} arg4.view.rep I.v) ∗
          Held c arg2 arg5 arg8 arg9 arg10 arg11 arg12 I ⟨Q, k0_pay49, k0_pay50⟩)) := by
  rw [k0_part11_eq_skeleton]
  unfold k0_part11_skel
  iintro ⟨H2, H3, H4, H5, H8, H9, H10, H11, H12⟩
  sl_exec
  have hb : (blk (i 1).val).val = (i 1).val := blk_val (i 1).isLt
  have h3 : k0_off3 i = ![512 * (blk (i 1).val).val, 0] := by rw [k0_off3_eq, hb]
  have h4 : k0_off4 i = ![512 * (blk (i 1).val).val, 0] := by rw [k0_off4_eq, hb]
  have h5 : k0_off5 i = ![0, 0, 512 * (blk (i 1).val).val] := by rw [k0_off5_eq, hb]
  have h6 : k0_off6 i = ![0, 512 * (blk (i 1).val).val] := by rw [k0_off6_eq, hb]
  sl_step
  isplitr
  · ipureintro
    rw [View.readAt_rep_full, View.readAt_rep_full, read_rowQ _ _ _ _ h3, read_rowD _ _ _ _ h4, read_rowL _ _ _ _ h5, read_rowI _ _ _ _ h6]
    rfl
  isplitl [H3]; · iexact H3
  isplitl [H4]; · iexact H4
  isplitl [H2]; · iexact H2
  isplitl [H5]; · iexact H5
  isplitl [H11]; · iexact H11
  isplitl [H12]; · iexact H12
  isplitl [H8]; · iexact H8
  isplitl [H9]
  · iapply (pointsTo_rep_of_read (c : Thread nD τ) arg9 _ fullShare _ ?_) $$ H9
    rw [View.read_writes_full]
  iapply (pointsTo_rep_of_read (c : Thread nD τ) arg10 _ fullShare _ ?_) $$ H10
  rw [View.read_writes_full]

theorem part11_first (I : Ins F) (o dO : Vec F S8192x128 .f32) (f8 : BufTy.Contents (Elt F) arg8.view.ty) (f9 : BufTy.Contents (Elt F) arg9.view.ty) (f10 : BufTy.Contents (Elt F) arg10.view.ty)
    (x : Vec F S8x8192 .f32) (y : Vec F S8192x128 .bf16)
    (h1 : k0_cond1 i = 1#1) (hx : stageI dO o 16 x = I.dl) (hy : stageD dO 16 y = I.d16) :
    (iprop((arg2.view.loc (c : Thread nD τ) ↦[arg2.view.set]{fullShare} arg2.view.rep I.q) ∗
      (arg3.view.loc (c : Thread nD τ) ↦[arg3.view.set]{fullShare} arg3.view.rep I.k) ∗
      (arg4.view.loc (c : Thread nD τ) ↦[arg4.view.set]{fullShare} arg4.view.rep I.v) ∗
      (arg5.view.loc (c : Thread nD τ) ↦[arg5.view.set]{fullShare} arg5.view.rep I.lse) ∗
      (arg6.view.loc (c : Thread nD τ) ↦[arg6.view.set]{fullShare} arg6.view.rep o) ∗
      (arg7.view.loc (c : Thread nD τ) ↦[arg7.view.set]{fullShare} arg7.view.rep dO) ∗
      (arg8.view.loc (c : Thread nD τ) ↦[arg8.view.set]{fullShare} f8) ∗
      (arg9.view.loc (c : Thread nD τ) ↦[arg9.view.set]{fullShare} f9) ∗
      (arg10.view.loc (c : Thread nD τ) ↦[arg10.view.set]{fullShare} f10) ∗
      (arg11.view.loc (c : Thread nD τ) ↦[arg11.view.set]{fullShare} arg11.view.rep x) ∗
      (arg12.view.loc (c : Thread nD τ) ↦[arg12.view.set]{fullShare} arg12.view.rep y)) : sProp 𝕄)
    ⊢ wp frame (wpE (defs₀ (F := F)) Variants.none (c : Thread nD τ) none) Set.univ
        (k0_part11 (F := F) i arg2 harg2 arg3 harg3 arg4 harg4 arg5 harg5 arg6 harg6 arg7 harg7 arg8 harg8 arg9 harg9 arg10 harg10 arg11 harg11 arg12 harg12)
        (fun v => iprop(⌜v = firstVals i I⌝ ∗ (arg3.view.loc (c : Thread nD τ) ↦[arg3.view.set]{fullShare} arg3.view.rep I.k) ∗
          (arg4.view.loc (c : Thread nD τ) ↦[arg4.view.set]{fullShare} arg4.view.rep I.v) ∗
          (arg6.view.loc (c : Thread nD τ) ↦[arg6.view.set]{fullShare} arg6.view.rep o) ∗
          (arg7.view.loc (c : Thread nD τ) ↦[arg7.view.set]{fullShare} arg7.view.rep dO) ∗
          Held c arg2 arg5 arg8 arg9 arg10 arg11 arg12 I ⟨k0_pay46, k0_pay49, k0_pay50⟩)) := by
  rw [k0_part11_eq_skeleton]
  unfold k0_part11_skel
  iintro ⟨H2, H3, H4, H5, H6, H7, H8, H9, H10, H11, H12⟩
  let L1 := inv1 c i arg2 harg2 arg3 harg3 arg4 harg4 arg5 harg5 arg6 harg6 arg7 harg7 arg8 harg8 arg9 harg9 arg10 harg10 arg11 harg11 arg12 harg12 o dO x y h1
  sl_exec
  have hb : (blk (i 1).val).val = (i 1).val := blk_val (i 1).isLt
  have h3 : k0_off3 i = ![512 * (blk (i 1).val).val, 0] := by rw [k0_off3_eq, hb]
  have h4 : k0_off4 i = ![512 * (blk (i 1).val).val, 0] := by rw [k0_off4_eq, hb]
  have h5 : k0_off5 i = ![0, 0, 512 * (blk (i 1).val).val] := by rw [k0_off5_eq, hb]
  have h6 : k0_off6 i = ![0, 512 * (blk (i 1).val).val] := by rw [k0_off6_eq, hb]
  have e11 : stageI dO o (Scf.trips k0_t1_loop.lb k0_t1_loop.ub k0_t1_loop.st) x = I.dl := by rw [show Scf.trips k0_t1_loop.lb k0_t1_loop.ub k0_t1_loop.st = 16 from by decide +kernel, hx]
  have e12 : stageD dO (Scf.trips k0_t1_loop.lb k0_t1_loop.ub k0_t1_loop.st) y = I.d16 := by rw [show Scf.trips k0_t1_loop.lb k0_t1_loop.ub k0_t1_loop.st = 16 from by decide +kernel, hy]
  sl_step
  isplitr
  · ipureintro
    rw [e11, e12, View.readAt_rep_full, View.readAt_rep_full, read_rowQ _ _ _ _ h3, read_rowD _ _ _ _ h4, read_rowL _ _ _ _ h5, read_rowI _ _ _ _ h6]
    rfl
  isplitl [H3]; · iexact H3
  isplitl [H4]; · iexact H4
  isplitl [H6]; · iexact H6
  isplitl [H7]; · iexact H7
  isplitl [H2]; · iexact H2
  isplitl [H5]; · iexact H5
  isplitl [H11]; · rw [e11]; iexact H11
  isplitl [H12]; · rw [e12]; iexact H12
  isplitl [H8]
  · iapply (pointsTo_rep_of_read (c : Thread nD τ) arg8 _ fullShare _ ?_) $$ H8
    unfold part11_first.sl.H8_1
    rw [View.read_writes_full]
  isplitl [H9]
  · iapply (pointsTo_rep_of_read (c : Thread nD τ) arg9 _ fullShare _ ?_) $$ H9
    rw [View.read_writes_full]
  iapply (pointsTo_rep_of_read (c : Thread nD τ) arg10 _ fullShare _ ?_) $$ H10
  rw [View.read_writes_full]

/-- What a grid point of key block `j` leaves, from what it finds. -/
def point (I : Ins F) (j : ℕ) (Q : Vec F S8192x256 .f32) : Outs F where
  dq := if j = 15 then k0_pay1 (sweep I j ⟨Q, k0_pay49, k0_pay50⟩).dq else (sweep I j ⟨Q, k0_pay49, k0_pay50⟩).dq
  dk := k0_pay70 (sweep I j ⟨Q, k0_pay49, k0_pay50⟩).dk
  dv := (sweep I j ⟨Q, k0_pay49, k0_pay50⟩).dv

theorem last_iff : ∀ i : grid0.Coords, (Scalar.cmpi .ne (Scalar.extui (Scalar.cmpi .eq (BitVec.ofNat 32 (i 1).val) 15#32) : BitVec 32) 0#32 = 1#1) ↔ (i 1).val = 15 := by
  decide +kernel

theorem first_iff : ∀ i : grid0.Coords, (k0_cond1 i = 1#1) ↔ (i 1).val = 0 := by decide +kernel

/-- The body after its first part. -/
theorem body_rest (I : Ins F) (Q : Vec F S8192x256 .f32) (R : sProp 𝕄) (p : Prog (TpuEff nD τ sig (Elt F) Λ₀ .tc) _) (hp : p = k0_part11 (F := F) i arg2 harg2 arg3 harg3 arg4 harg4 arg5 harg5 arg6 harg6 arg7 harg7 arg8 harg8 arg9 harg9 arg10 harg10 arg11 harg11 arg12 harg12)
    (P : sProp 𝕄)
    (h11 : P ⊢ wp frame (wpE (defs₀ (F := F)) Variants.none (c : Thread nD τ) none) Set.univ p
        (fun v => iprop(⌜v = firstVals i I⌝ ∗ R ∗ Held c arg2 arg5 arg8 arg9 arg10 arg11 arg12 I ⟨Q, k0_pay49, k0_pay50⟩))) :
    P ⊢ wp frame (wpE (defs₀ (F := F)) Variants.none (c : Thread nD τ) none) Set.univ
        (cc0_flash_bwd (F := F) i arg2 harg2 arg3 harg3 arg4 harg4 arg5 harg5 arg6 harg6 arg7 harg7 arg8 harg8 arg9 harg9 arg10 harg10 arg11 harg11 arg12 harg12)
        (fun _ => iprop(R ∗ Held c arg2 arg5 arg8 arg9 arg10 arg11 arg12 I (point I (i 1).val Q))) := by
  subst hp
  rw [cc0_flash_bwd_eq_skeleton]
  unfold cc0_flash_bwd_skel
  rw [wp_bind]
  refine h11.trans (wp_mono _ _ _ fun v => ?_)
  iintro ⟨%hv, HR, H⟩
  subst hv
  dsimp only
  rw [wp_bind]
  iapply (wp_wand_r frame (wpE (defs₀ (F := F)) Variants.none (c : Thread nD τ) none) Set.univ)
  isplitl [H]
  · iapply (part12_run c i arg2 harg2 arg3 harg3 arg4 harg4 arg5 harg5 arg6 harg6 arg7 harg7 arg8 harg8 arg9 harg9 arg10 harg10 arg11 harg11 arg12 harg12 I ⟨Q, k0_pay49, k0_pay50⟩) $$ H
  iintro %v H
  rw [wp_bind]
  iapply (wp_wand_r frame (wpE (defs₀ (F := F)) Variants.none (c : Thread nD τ) none) Set.univ)
  isplitl [H]
  · iapply (part13_run c i arg2 harg2 arg3 harg3 arg4 harg4 arg5 harg5 arg6 harg6 arg7 harg7 arg8 harg8 arg9 harg9 arg10 harg10 arg11 harg11 arg12 harg12 I (diag I (blk (i 1).val) ⟨Q, k0_pay49, k0_pay50⟩)) $$ H
  iintro %b ⟨%hb, H2, H5, H11, H12, H8, H9, H10⟩
  have hl := last_iff i
  by_cases hj : (i 1).val = 15
  · have hb1 : b = 1#1 := hb.trans (hl.2 hj)
    rw [dif_pos hb1]
    sl_exec
    sl_step
    isplitl [HR]; · iexact HR
    isplitl [H2]; · iexact H2
    isplitl [H5]; · iexact H5
    isplitl [H11]; · iexact H11
    isplitl [H12]; · iexact H12
    isplitl [H8]
    · iapply (pointsTo_rep_of_read (c : Thread nD τ) arg8 _ fullShare _ ?_) $$ H8
      unfold body_rest.sl.v101
      rw [View.read_writes_full, View.readAt_rep_full]
      exact (if_pos hj).symm
    isplitl [H9]; · iexact H9
    iexact H10
  · have hb1 : ¬ b = 1#1 := fun e => hj (hl.1 (hb.symm.trans e))
    rw [dif_neg hb1]
    sl_exec
    sl_step
    isplitl [HR]; · iexact HR
    isplitl [H2]; · iexact H2
    isplitl [H5]; · iexact H5
    isplitl [H11]; · iexact H11
    isplitl [H12]; · iexact H12
    isplitl [H8]
    · rw [show (point I (i 1).val Q).dq = (sweep I (i 1).val ⟨Q, k0_pay49, k0_pay50⟩).dq from if_neg hj]
      iexact H8
    isplitl [H9]; · iexact H9
    iexact H10

/-- The body at a head's first grid point. -/
theorem body_first (I : Ins F) (o dO : Vec F S8192x128 .f32) (f8 : BufTy.Contents (Elt F) arg8.view.ty) (f9 : BufTy.Contents (Elt F) arg9.view.ty) (f10 : BufTy.Contents (Elt F) arg10.view.ty)
    (x : Vec F S8x8192 .f32) (y : Vec F S8192x128 .bf16) (h1 : k0_cond1 i = 1#1) (hx : stageI dO o 16 x = I.dl) (hy : stageD dO 16 y = I.d16) :
    (iprop((arg2.view.loc (c : Thread nD τ) ↦[arg2.view.set]{fullShare} arg2.view.rep I.q) ∗
      (arg3.view.loc (c : Thread nD τ) ↦[arg3.view.set]{fullShare} arg3.view.rep I.k) ∗
      (arg4.view.loc (c : Thread nD τ) ↦[arg4.view.set]{fullShare} arg4.view.rep I.v) ∗
      (arg5.view.loc (c : Thread nD τ) ↦[arg5.view.set]{fullShare} arg5.view.rep I.lse) ∗
      (arg6.view.loc (c : Thread nD τ) ↦[arg6.view.set]{fullShare} arg6.view.rep o) ∗
      (arg7.view.loc (c : Thread nD τ) ↦[arg7.view.set]{fullShare} arg7.view.rep dO) ∗
      (arg8.view.loc (c : Thread nD τ) ↦[arg8.view.set]{fullShare} f8) ∗
      (arg9.view.loc (c : Thread nD τ) ↦[arg9.view.set]{fullShare} f9) ∗
      (arg10.view.loc (c : Thread nD τ) ↦[arg10.view.set]{fullShare} f10) ∗
      (arg11.view.loc (c : Thread nD τ) ↦[arg11.view.set]{fullShare} arg11.view.rep x) ∗
      (arg12.view.loc (c : Thread nD τ) ↦[arg12.view.set]{fullShare} arg12.view.rep y)) : sProp 𝕄)
    ⊢ wp frame (wpE (defs₀ (F := F)) Variants.none (c : Thread nD τ) none) Set.univ
        (cc0_flash_bwd (F := F) i arg2 harg2 arg3 harg3 arg4 harg4 arg5 harg5 arg6 harg6 arg7 harg7 arg8 harg8 arg9 harg9 arg10 harg10 arg11 harg11 arg12 harg12)
        (fun _ => iprop((arg2.view.loc (c : Thread nD τ) ↦[arg2.view.set]{fullShare} arg2.view.rep I.q) ∗
      (arg3.view.loc (c : Thread nD τ) ↦[arg3.view.set]{fullShare} arg3.view.rep I.k) ∗
      (arg4.view.loc (c : Thread nD τ) ↦[arg4.view.set]{fullShare} arg4.view.rep I.v) ∗
      (arg5.view.loc (c : Thread nD τ) ↦[arg5.view.set]{fullShare} arg5.view.rep I.lse) ∗
      (arg6.view.loc (c : Thread nD τ) ↦[arg6.view.set]{fullShare} arg6.view.rep o) ∗
      (arg7.view.loc (c : Thread nD τ) ↦[arg7.view.set]{fullShare} arg7.view.rep dO) ∗
      (arg8.view.loc (c : Thread nD τ) ↦[arg8.view.set]{fullShare} arg8.view.rep (point I (i 1).val k0_pay46).dq) ∗
      (arg9.view.loc (c : Thread nD τ) ↦[arg9.view.set]{fullShare} arg9.view.rep (point I (i 1).val k0_pay46).dk) ∗
      (arg10.view.loc (c : Thread nD τ) ↦[arg10.view.set]{fullShare} arg10.view.rep (point I (i 1).val k0_pay46).dv) ∗
      (arg11.view.loc (c : Thread nD τ) ↦[arg11.view.set]{fullShare} arg11.view.rep I.dl) ∗
      (arg12.view.loc (c : Thread nD τ) ↦[arg12.view.set]{fullShare} arg12.view.rep I.d16))) := by
  refine (body_rest c i arg2 harg2 arg3 harg3 arg4 harg4 arg5 harg5 arg6 harg6 arg7 harg7 arg8 harg8 arg9 harg9 arg10 harg10 arg11 harg11 arg12 harg12 I k0_pay46 iprop((arg3.view.loc (c : Thread nD τ) ↦[arg3.view.set]{fullShare} arg3.view.rep I.k) ∗ (arg4.view.loc (c : Thread nD τ) ↦[arg4.view.set]{fullShare} arg4.view.rep I.v) ∗ (arg6.view.loc (c : Thread nD τ) ↦[arg6.view.set]{fullShare} arg6.view.rep o) ∗ (arg7.view.loc (c : Thread nD τ) ↦[arg7.view.set]{fullShare} arg7.view.rep dO)) _ rfl _ ?_).trans (wp_mono _ _ _ fun _ => ?_)
  · iintro ⟨H2, H3, H4, H5, H6, H7, H8, H9, H10, H11, H12⟩
    iapply (wp_wand_r frame (wpE (defs₀ (F := F)) Variants.none (c : Thread nD τ) none) Set.univ)
    isplitl [H2 H3 H4 H5 H6 H7 H8 H9 H10 H11 H12]
    · iapply (part11_first c i arg2 harg2 arg3 harg3 arg4 harg4 arg5 harg5 arg6 harg6 arg7 harg7 arg8 harg8 arg9 harg9 arg10 harg10 arg11 harg11 arg12 harg12 I o dO f8 f9 f10 x y h1 hx hy)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    iintro %v ⟨%hv, H3, H4, H6, H7, H⟩
    isplitr
    · ipureintro; exact hv
    isplitr [H]
    · isplitl [H3]; · iexact H3
      isplitl [H4]; · iexact H4
      isplitl [H6]; · iexact H6
      iexact H7
    iexact H
  · iintro ⟨⟨H3, H4, H6, H7⟩, H2, H5, H11, H12, H8, H9, H10⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body at any later grid point of a head. -/
theorem body_later (I : Ins F) (o dO : Vec F S8192x128 .f32) (Q : Vec F S8192x256 .f32) (f9 : BufTy.Contents (Elt F) arg9.view.ty) (f10 : BufTy.Contents (Elt F) arg10.view.ty)
    (h1 : ¬ k0_cond1 i = 1#1) :
    (iprop((arg2.view.loc (c : Thread nD τ) ↦[arg2.view.set]{fullShare} arg2.view.rep I.q) ∗
      (arg3.view.loc (c : Thread nD τ) ↦[arg3.view.set]{fullShare} arg3.view.rep I.k) ∗
      (arg4.view.loc (c : Thread nD τ) ↦[arg4.view.set]{fullShare} arg4.view.rep I.v) ∗
      (arg5.view.loc (c : Thread nD τ) ↦[arg5.view.set]{fullShare} arg5.view.rep I.lse) ∗
      (arg6.view.loc (c : Thread nD τ) ↦[arg6.view.set]{fullShare} arg6.view.rep o) ∗
      (arg7.view.loc (c : Thread nD τ) ↦[arg7.view.set]{fullShare} arg7.view.rep dO) ∗
      (arg8.view.loc (c : Thread nD τ) ↦[arg8.view.set]{fullShare} arg8.view.rep Q) ∗
      (arg9.view.loc (c : Thread nD τ) ↦[arg9.view.set]{fullShare} f9) ∗
      (arg10.view.loc (c : Thread nD τ) ↦[arg10.view.set]{fullShare} f10) ∗
      (arg11.view.loc (c : Thread nD τ) ↦[arg11.view.set]{fullShare} arg11.view.rep I.dl) ∗
      (arg12.view.loc (c : Thread nD τ) ↦[arg12.view.set]{fullShare} arg12.view.rep I.d16)) : sProp 𝕄)
    ⊢ wp frame (wpE (defs₀ (F := F)) Variants.none (c : Thread nD τ) none) Set.univ
        (cc0_flash_bwd (F := F) i arg2 harg2 arg3 harg3 arg4 harg4 arg5 harg5 arg6 harg6 arg7 harg7 arg8 harg8 arg9 harg9 arg10 harg10 arg11 harg11 arg12 harg12)
        (fun _ => iprop((arg2.view.loc (c : Thread nD τ) ↦[arg2.view.set]{fullShare} arg2.view.rep I.q) ∗
      (arg3.view.loc (c : Thread nD τ) ↦[arg3.view.set]{fullShare} arg3.view.rep I.k) ∗
      (arg4.view.loc (c : Thread nD τ) ↦[arg4.view.set]{fullShare} arg4.view.rep I.v) ∗
      (arg5.view.loc (c : Thread nD τ) ↦[arg5.view.set]{fullShare} arg5.view.rep I.lse) ∗
      (arg6.view.loc (c : Thread nD τ) ↦[arg6.view.set]{fullShare} arg6.view.rep o) ∗
      (arg7.view.loc (c : Thread nD τ) ↦[arg7.view.set]{fullShare} arg7.view.rep dO) ∗
      (arg8.view.loc (c : Thread nD τ) ↦[arg8.view.set]{fullShare} arg8.view.rep (point I (i 1).val Q).dq) ∗
      (arg9.view.loc (c : Thread nD τ) ↦[arg9.view.set]{fullShare} arg9.view.rep (point I (i 1).val Q).dk) ∗
      (arg10.view.loc (c : Thread nD τ) ↦[arg10.view.set]{fullShare} arg10.view.rep (point I (i 1).val Q).dv) ∗
      (arg11.view.loc (c : Thread nD τ) ↦[arg11.view.set]{fullShare} arg11.view.rep I.dl) ∗
      (arg12.view.loc (c : Thread nD τ) ↦[arg12.view.set]{fullShare} arg12.view.rep I.d16))) := by
  refine (body_rest c i arg2 harg2 arg3 harg3 arg4 harg4 arg5 harg5 arg6 harg6 arg7 harg7 arg8 harg8 arg9 harg9 arg10 harg10 arg11 harg11 arg12 harg12 I Q iprop((arg3.view.loc (c : Thread nD τ) ↦[arg3.view.set]{fullShare} arg3.view.rep I.k) ∗ (arg4.view.loc (c : Thread nD τ) ↦[arg4.view.set]{fullShare} arg4.view.rep I.v) ∗ (arg6.view.loc (c : Thread nD τ) ↦[arg6.view.set]{fullShare} arg6.view.rep o) ∗ (arg7.view.loc (c : Thread nD τ) ↦[arg7.view.set]{fullShare} arg7.view.rep dO)) _ rfl _ ?_).trans (wp_mono _ _ _ fun _ => ?_)
  · iintro ⟨H2, H3, H4, H5, H6, H7, H8, H9, H10, H11, H12⟩
    iapply (wp_wand_r frame (wpE (defs₀ (F := F)) Variants.none (c : Thread nD τ) none) Set.univ)
    isplitl [H2 H3 H4 H5 H8 H9 H10 H11 H12]
    · iapply (part11_later c i arg2 harg2 arg3 harg3 arg4 harg4 arg5 harg5 arg6 harg6 arg7 harg7 arg8 harg8 arg9 harg9 arg10 harg10 arg11 harg11 arg12 harg12 I Q f9 f10 h1)
      isplitl [H2]; · iexact H2
      isplitl [H3]; · iexact H3
      isplitl [H4]; · iexact H4
      isplitl [H5]; · iexact H5
      isplitl [H8]; · iexact H8
      isplitl [H9]; · iexact H9
      isplitl [H10]; · iexact H10
      isplitl [H11]; · iexact H11
      iexact H12
    iintro %v ⟨%hv, H3, H4, H⟩
    isplitr
    · ipureintro; exact hv
    isplitr [H]
    · isplitl [H3]; · iexact H3
      isplitl [H4]; · iexact H4
      isplitl [H6]; · iexact H6
      iexact H7
    iexact H
  · iintro ⟨⟨H3, H4, H6, H7⟩, H2, H5, H11, H12, H8, H9, H10⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

end Cert.Proof.Bwd
-- ==== Proof.Data.lean ====
/- What each grid point reads and writes, from the whole arrays: head `h`, key block `j`. -/
module

public import proofs.«01_k».proof.Proof.Body
public import proofs.«01_k».proof.Proof.Gen.KernelIdeal.Frame
public import Idealize.ShloMosaic.Lib.Pipeline.Value

@[expose] public section

set_option maxRecDepth 8192
set_option maxHeartbeats 4000000

noncomputable section

namespace Cert.Proof.Bwd

open Cert.KernelIdeal Cert.KernelIdeal.Gen
open Idealize.ShloMosaic Idealize.ShloMosaic.TcCoe

variable {F : FTy → Type} [FloatOps F] [Named F]

theorem headQ_inb (h : Fin 4) : ∀ a, (![0, 256 * h.val] : Fin 2 → ℕ) a + S8192x256.size a ≤ S8192x1024.size a := by decide +revert +kernel
theorem headD_inb (h : Fin 4) : ∀ a, (![0, 128 * h.val] : Fin 2 → ℕ) a + S8192x128.size a ≤ S8192x512.size a := by decide +revert +kernel
theorem headL_inb (h : Fin 4) : ∀ a, (![h.val, 0, 0] : Fin 3 → ℕ) a + S1x8x8192.size a ≤ S4x8x8192.size a := by decide +revert +kernel
theorem blkK_inb (h : Fin 4) (j : Fin 16) : ∀ a, (![512 * j.val, 256 * h.val] : Fin 2 → ℕ) a + S512x256.size a ≤ S8192x1024.size a := by decide +revert +kernel
theorem blkV_inb (h : Fin 4) (j : Fin 16) : ∀ a, (![512 * j.val, 128 * h.val] : Fin 2 → ℕ) a + S512x128.size a ≤ S8192x512.size a := by decide +revert +kernel

/-- The 256 columns of head `h`. -/
def headQ {e : EltTy} (x : Vec F S8192x1024 e) (h : Fin 4) : Vec F S8192x256 e := VecWindow.window x ![0, 256 * h.val] S8192x256.size (headQ_inb h)
/-- The 128 columns of head `h`. -/
def headD {e : EltTy} (x : Vec F S8192x512 e) (h : Fin 4) : Vec F S8192x128 e := VecWindow.window x ![0, 128 * h.val] S8192x128.size (headD_inb h)
/-- Head `h`'s rows of log-sum-exps. -/
def headL (x : Vec F S4x8x8192 .f32) (h : Fin 4) : Vec F S1x8x8192 .f32 := VecWindow.window x ![h.val, 0, 0] S1x8x8192.size (headL_inb h)
/-- Key block `j` of head `h`, 256 wide. -/
def blkK {e : EltTy} (x : Vec F S8192x1024 e) (h : Fin 4) (j : Fin 16) : Vec F S512x256 e := VecWindow.window x ![512 * j.val, 256 * h.val] S512x256.size (blkK_inb h j)
/-- Key block `j` of head `h`, 128 wide. -/
def blkV {e : EltTy} (x : Vec F S8192x512 e) (h : Fin 4) (j : Fin 16) : Vec F S512x128 e := VecWindow.window x ![512 * j.val, 128 * h.val] S512x128.size (blkV_inb h j)

/-- The arrays the kernel reads. -/
structure Arrays (F : FTy → Type) where
  q : Vec F S8192x1024 .bf16
  k : Vec F S8192x1024 .bf16
  v : Vec F S8192x512 .bf16
  lse : Vec F S4x8x8192 .f32
  o : Vec F S8192x512 .f32
  dO : Vec F S8192x512 .f32

/-- What is read at head `h`, key block `j`. -/
def Arrays.ins (A : Arrays F) (h : Fin 4) (j : Fin 16) : Ins F where
  q := headQ A.q h
  k := blkK A.k h j
  v := blkV A.v h j
  lse := headL A.lse h
  dl := stageI (headD A.dO h) (headD A.o h) 16 (constant S8x8192 .f32 0#32)
  d16 := stageD (headD A.dO h) 16 (constant S8192x128 .bf16 0#16)

/-- Head `h`'s gradient of the queries after key blocks `0 … n`. -/
def Arrays.dqAt (A : Arrays F) (h : Fin 4) : ℕ → Vec F S8192x256 .f32
  | 0 => (point (A.ins h 0) 0 k0_pay46).dq
  | n + 1 => (point (A.ins h (blk (n + 1))) (n + 1) (A.dqAt h n)).dq

/-- What the gradient of the queries is before key block `n`. -/
def Arrays.dqBefore (A : Arrays F) (h : Fin 4) : ℕ → Vec F S8192x256 .f32
  | 0 => k0_pay46
  | n + 1 => A.dqAt h n

/-- What grid point `(h, j)` leaves. -/
def Arrays.outs (A : Arrays F) (h : Fin 4) (j : Fin 16) : Outs F := point (A.ins h j) j.val (A.dqBefore h j.val)

theorem Arrays.outs_dq (A : Arrays F) (h : Fin 4) (j : Fin 16) : (A.outs h j).dq = A.dqAt h j.val := by
  obtain ⟨n, hn⟩ := j
  cases n with
  | zero => rfl
  | succ n =>
    have : blk (n + 1) = ⟨n + 1, hn⟩ := Fin.ext (blk_val hn)
    unfold Arrays.outs Arrays.dqAt Arrays.dqBefore
    rw [this]

/-! ## What is staged does not depend on what was there -/

theorem stageI_below (dO o : Vec F S8192x128 .f32) (x x' : Vec F S8x8192 .f32) : ∀ n, n ≤ 16 → ∀ y : S8x8192.Idx, (y 1).val < 512 * n →
    stageI dO o n x y = stageI dO o n x' y
  | 0, _, y, h => absurd h (by omega)
  | n + 1, hn, y, h => by
    have hb : (blk n).val = n := blk_val (by omega)
    unfold stageI VecWindow.put
    by_cases hy : ∀ a, (![0, 512 * (blk n).val] : Fin 2 → ℕ) a ≤ (y a).val ∧ (y a).val < (![0, 512 * (blk n).val] : Fin 2 → ℕ) a + S8x512.size a
    · rw [dif_pos hy, dif_pos hy]
    · rw [dif_neg hy, dif_neg hy]
      refine stageI_below dO o x x' n (by omega) y ?_
      by_contra hc
      refine hy fun a => ?_
      rw [hb]
      match a with
      | 0 => exact ⟨Nat.zero_le _, lt_of_lt_of_eq (y 0).isLt (Nat.zero_add _).symm⟩
      | 1 =>
        show 512 * n ≤ (y 1).val ∧ (y 1).val < 512 * n + 512
        omega

theorem stageI_any (dO o : Vec F S8192x128 .f32) (x x' : Vec F S8x8192 .f32) : stageI dO o 16 x = stageI dO o 16 x' :=
  funext fun y => stageI_below dO o x x' 16 (le_refl _) y (y 1).isLt

theorem stageD_below (dO : Vec F S8192x128 .f32) (x x' : Vec F S8192x128 .bf16) : ∀ n, n ≤ 16 → ∀ y : S8192x128.Idx, (y 0).val < 512 * n →
    stageD dO n x y = stageD dO n x' y
  | 0, _, y, h => absurd h (by omega)
  | n + 1, hn, y, h => by
    have hb : (blk n).val = n := blk_val (by omega)
    unfold stageD VecWindow.put
    by_cases hy : ∀ a, (![512 * (blk n).val, 0] : Fin 2 → ℕ) a ≤ (y a).val ∧ (y a).val < (![512 * (blk n).val, 0] : Fin 2 → ℕ) a + S512x128.size a
    · rw [dif_pos hy, dif_pos hy]
    · rw [dif_neg hy, dif_neg hy]
      refine stageD_below dO x x' n (by omega) y ?_
      by_contra hc
      refine hy fun a => ?_
      rw [hb]
      match a with
      | 0 =>
        show 512 * n ≤ (y 0).val ∧ (y 0).val < 512 * n + 512
        omega
      | 1 => exact ⟨Nat.zero_le _, lt_of_lt_of_eq (y 1).isLt (Nat.zero_add _).symm⟩

theorem stageD_any (dO : Vec F S8192x128 .f32) (x x' : Vec F S8192x128 .bf16) : stageD dO 16 x = stageD dO 16 x' :=
  funext fun y => stageD_below dO x x' 16 (le_refl _) y (y 0).isLt

/-! ## The windows' blocks -/

variable (m : (ℓ : Loc nD τ sig) → Buf (Elt F) ℓ)

/-- The arrays as the region finds them. -/
def arrays (c : Dev nD) : Arrays F where
  q := V m c main_arg0
  k := V m c main_arg1
  v := V m c main_arg2
  lse := V m c main_v43
  o := V m c main_v44
  dO := V m c main_arg3

/-- The head of a grid point … -/
def hd (t : Fin cfg0.N) : Fin 4 := grid0.coords t 0
/-- … and its key block. -/
def kb (t : Fin cfg0.N) : Fin 16 := grid0.coords t 1

theorem hd_val (t : Fin cfg0.N) : (hd t).val = t.val / 16 := by
  have h := Pipeline.Grid.coords_val (G := grid0) t 0 (S := 16) (B := 4) (by decide) rfl
  have ht : t.val < 64 := lt_of_lt_of_eq t.isLt N_0
  unfold hd; rw [h]; omega

theorem kb_val (t : Fin cfg0.N) : (kb t).val = t.val % 16 := by
  have h := Pipeline.Grid.coords_val (G := grid0) t 1 (S := 1) (B := 16) (by decide) rfl
  unfold kb; rw [h, Nat.div_one]

theorem toNat_hd (t : Fin cfg0.N) : (BitVec.ofNat 32 (grid0.coords t 0).val).toNat = (hd t).val := by
  have := (hd t).isLt
  exact (BitVec.toNat_ofNat _ _).trans (Nat.mod_eq_of_lt (lt_trans this (by decide)))
theorem toNat_kb (t : Fin cfg0.N) : (BitVec.ofNat 32 (grid0.coords t 1).val).toNat = (kb t).val := by
  have := (kb t).isLt
  exact (BitVec.toNat_ofNat _ _).trans (Nat.mod_eq_of_lt (lt_trans this (by decide)))

theorem iblk_0 (c : Dev nD) (t : Fin cfg0.N) : iblk m c 0 t = ((arrays m c).ins (hd t) (kb t)).q := by
  funext y
  refine congrArg (V m c main_arg0) (funext fun a => Fin.ext ?_)
  refine ((cfg0.win 0).rect_emb_val t y a).trans ?_
  match a with
  | 0 => show 0 * 8192 + (y 0).val = 0 + 1 * (y 0).val; omega
  | 1 => show (BitVec.ofNat 32 (grid0.coords t 0).val).toNat * 256 + (y 1).val = 256 * (hd t).val + 1 * (y 1).val; rw [toNat_hd]; omega

theorem iblk_1 (c : Dev nD) (t : Fin cfg0.N) : iblk m c 1 t = ((arrays m c).ins (hd t) (kb t)).k := by
  funext y
  refine congrArg (V m c main_arg1) (funext fun a => Fin.ext ?_)
  refine ((cfg0.win 1).rect_emb_val t y a).trans ?_
  match a with
  | 0 => show (BitVec.ofNat 32 (grid0.coords t 1).val).toNat * 512 + (y 0).val = 512 * (kb t).val + 1 * (y 0).val; rw [toNat_kb]; omega
  | 1 => show (BitVec.ofNat 32 (grid0.coords t 0).val).toNat * 256 + (y 1).val = 256 * (hd t).val + 1 * (y 1).val; rw [toNat_hd]; omega

theorem iblk_2 (c : Dev nD) (t : Fin cfg0.N) : iblk m c 2 t = ((arrays m c).ins (hd t) (kb t)).v := by
  funext y
  refine congrArg (V m c main_arg2) (funext fun a => Fin.ext ?_)
  refine ((cfg0.win 2).rect_emb_val t y a).trans ?_
  match a with
  | 0 => show (BitVec.ofNat 32 (grid0.coords t 1).val).toNat * 512 + (y 0).val = 512 * (kb t).val + 1 * (y 0).val; rw [toNat_kb]; omega
  | 1 => show (BitVec.ofNat 32 (grid0.coords t 0).val).toNat * 128 + (y 1).val = 128 * (hd t).val + 1 * (y 1).val; rw [toNat_hd]; omega

theorem iblk_3 (c : Dev nD) (t : Fin cfg0.N) : iblk m c 3 t = ((arrays m c).ins (hd t) (kb t)).lse := by
  funext y
  refine congrArg (V m c main_v43) (funext fun a => Fin.ext ?_)
  refine ((cfg0.win 3).rect_emb_val t y a).trans ?_
  match a with
  | 0 => show (BitVec.ofNat 32 (grid0.coords t 0).val).toNat * 1 + (y 0).val = (hd t).val + 1 * (y 0).val; rw [toNat_hd]; omega
  | 1 => show 0 * 8 + (y 1).val = 0 + 1 * (y 1).val; omega
  | 2 => show 0 * 8192 + (y 2).val = 0 + 1 * (y 2).val; omega

theorem iblk_4 (c : Dev nD) (t : Fin cfg0.N) : iblk m c 4 t = headD (arrays m c).o (hd t) := by
  funext y
  refine congrArg (V m c main_v44) (funext fun a => Fin.ext ?_)
  refine ((cfg0.win 4).rect_emb_val t y a).trans ?_
  match a with
  | 0 => show 0 * 8192 + (y 0).val = 0 + 1 * (y 0).val; omega
  | 1 => show (BitVec.ofNat 32 (grid0.coords t 0).val).toNat * 128 + (y 1).val = 128 * (hd t).val + 1 * (y 1).val; rw [toNat_hd]; omega

theorem iblk_5 (c : Dev nD) (t : Fin cfg0.N) : iblk m c 5 t = headD (arrays m c).dO (hd t) := by
  funext y
  refine congrArg (V m c main_arg3) (funext fun a => Fin.ext ?_)
  refine ((cfg0.win 5).rect_emb_val t y a).trans ?_
  match a with
  | 0 => show 0 * 8192 + (y 0).val = 0 + 1 * (y 0).val; omega
  | 1 => show (BitVec.ofNat 32 (grid0.coords t 0).val).toNat * 128 + (y 1).val = 128 * (hd t).val + 1 * (y 1).val; rw [toNat_hd]; omega

end Cert.Proof.Bwd
-- ==== Proof.Run.lean ====
/- The kernel's run: every grid point's body between the contents the pipeline hands it and those it leaves. -/
module

public import proofs.«01_k».proof.Proof.Data
public import Idealize.ShloMosaic.Lib.Pipeline.TableIdle

@[expose] public section

set_option maxRecDepth 8192
set_option maxHeartbeats 4000000

noncomputable section

namespace Cert.Proof.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Between two points of one head the two scratch buffers hold what was staged at the head's first point; between two heads, anything. -/
def Scratch (c : Dev nD) (n : ℕ) : sProp 𝕄 :=
  iprop((∃ X, ∃ Y, ⌜∀ h : Fin 4, n % 16 ≠ 0 → h.val = n / 16 → X = ((arrays m c).ins h 0).dl ∧ Y = ((arrays m c).ins h 0).d16⌝
      ∗ owns (c : Thread nD τ) (Memref.whole cc0_scratch0) fullShare X ∗ owns (c : Thread nD τ) (Memref.whole cc0_scratch1) fullShare Y)
    ∗ ∃ r, prngReg c r)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => ((arrays m c).outs (hd t) (kb t)).dq
    | ⟨7, _⟩ => ((arrays m c).outs (hd t) (kb t)).dk
    | ⟨8, _⟩ => ((arrays m c).outs (hd t) (kb t)).dv
  Φ n := Scratch m c n.val
  q _ := fullShare
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = ((arrays m c).ins (hd t) (kb t)).q :=
  (before0_0_of m (dats m 0 c) (A_eq m c 0) (fun _ => rfl) t d).trans (iblk_0 m c t)
theorem before_1 (c : Dev nD) (t : Fin cfg0.N) (d) : (dats m 0 c).before 1 t d = ((arrays m c).ins (hd t) (kb t)).k :=
  (before0_1_of m (dats m 0 c) (A_eq m c 1) (fun _ => rfl) t d).trans (iblk_1 m c t)
theorem before_2 (c : Dev nD) (t : Fin cfg0.N) (d) : (dats m 0 c).before 2 t d = ((arrays m c).ins (hd t) (kb t)).v :=
  (before0_2_of m (dats m 0 c) (A_eq m c 2) (fun _ => rfl) t d).trans (iblk_2 m c t)
theorem before_3 (c : Dev nD) (t : Fin cfg0.N) (d) : (dats m 0 c).before 3 t d = ((arrays m c).ins (hd t) (kb t)).lse :=
  (before0_3_of m (dats m 0 c) (A_eq m c 3) (fun _ => rfl) t d).trans (iblk_3 m c t)
theorem before_4 (c : Dev nD) (t : Fin cfg0.N) (d) : (dats m 0 c).before 4 t d = headD (arrays m c).o (hd t) :=
  (before0_4_of m (dats m 0 c) (A_eq m c 4) (fun _ => rfl) t d).trans (iblk_4 m c t)
theorem before_5 (c : Dev nD) (t : Fin cfg0.N) (d) : (dats m 0 c).before 5 t d = headD (arrays m c).dO (hd t) :=
  (before0_5_of m (dats m 0 c) (A_eq m c 5) (fun _ => rfl) t d).trans (iblk_5 m c t)

theorem after_0 (c : Dev nD) (t : Fin cfg0.N) : (dats m 0 c).after 0 t = ((arrays m c).ins (hd t) (kb t)).q := iblk_0 m c t
theorem after_1 (c : Dev nD) (t : Fin cfg0.N) : (dats m 0 c).after 1 t = ((arrays m c).ins (hd t) (kb t)).k := iblk_1 m c t
theorem after_2 (c : Dev nD) (t : Fin cfg0.N) : (dats m 0 c).after 2 t = ((arrays m c).ins (hd t) (kb t)).v := iblk_2 m c t
theorem after_3 (c : Dev nD) (t : Fin cfg0.N) : (dats m 0 c).after 3 t = ((arrays m c).ins (hd t) (kb t)).lse := iblk_3 m c t
theorem after_4 (c : Dev nD) (t : Fin cfg0.N) : (dats m 0 c).after 4 t = headD (arrays m c).o (hd t) := iblk_4 m c t
theorem after_5 (c : Dev nD) (t : Fin cfg0.N) : (dats m 0 c).after 5 t = headD (arrays m c).dO (hd t) := iblk_5 m c t
theorem after_6 (c : Dev nD) (t : Fin cfg0.N) : (dats m 0 c).after 6 t = ((arrays m c).outs (hd t) (kb t)).dq := by dsimp only [dats]
theorem after_7 (c : Dev nD) (t : Fin cfg0.N) : (dats m 0 c).after 7 t = ((arrays m c).outs (hd t) (kb t)).dk := by dsimp only [dats]
theorem after_8 (c : Dev nD) (t : Fin cfg0.N) : (dats m 0 c).after 8 t = ((arrays m c).outs (hd t) (kb t)).dv := by dsimp only [dats]

/-- Within a head, the queries' gradient is found as the point before left it. -/
theorem before_6 (c : Dev nD) (t : Fin cfg0.N) (h : t.val % 16 ≠ 0) (d) :
    (dats m 0 c).before 6 t d = (arrays m c).dqBefore (hd t) (kb t).val := by
  have ht : t.val ≠ 0 := fun h0 => h (by rw [h0])
  rw [(dats m 0 c).before_out_kept 6 rfl t ht (by
    rw [← Bool.not_eq_true, flush0_6]; dsimp only; omega) (fun _ => rfl) (fun _ _ => rfl) d, after_6, Arrays.outs_dq]
  have e1 : hd ⟨t.val - 1, Nat.lt_of_le_of_lt (Nat.sub_le _ _) t.isLt⟩ = hd t := Fin.ext (by
    rw [hd_val, hd_val]; dsimp only; omega)
  have e2 : (kb t).val = (kb ⟨t.val - 1, Nat.lt_of_le_of_lt (Nat.sub_le _ _) t.isLt⟩).val + 1 := by
    rw [kb_val, kb_val]; dsimp only; omega
  rw [e1, e2]
  rfl

abbrev 𝒱₀ : Variants := Variants.none

set_option backward.isDefEq.respectTransparency.types false in
theorem body_obligation (c : Dev nD) : BodyObligation (dats (F := F) m 0 c) (defs₀ (F := F)) 𝒱₀ () Set.univ := fun t => by
  rw [bigSep_W0, bigSep_W0]
  sl_whnfR [defs₀, Defs.onTc]
  simp only [before_0, before_1, before_2, before_3, before_4, before_5]
  rw [show (dats m 0 c).Φ t.succ = Scratch m c (t.val + 1) from rfl, show (dats m 0 c).Φ t.castSucc = Scratch m c t.val from rfl,
    show (dats m 0 c).owesAt () t.succ = (dats m 0 c).owesAt () t.castSucc from rfl,
    after_0, after_1, after_2, after_3, after_4, after_5, after_6, after_7, after_8]
  unfold Scratch
  simp only [owns_eq_rep]
  have hk : (grid0.coords t 1).val = t.val % 16 := kb_val t
  have hh : (hd t).val = t.val / 16 := hd_val t
  by_cases h : t.val % 16 = 0
  · iintro ⟨⟨⟨%X, %Y, %hXY, HX, HY⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (wp_wand_r frame (wpE (defs₀ (F := F)) Variants.none (c : Thread nD τ) none) Set.univ)
    isplitl [HX HY H0 H1 H2 H3 H4 H5 H6 H7 H8]
    · iapply (body_first c (grid0.coords t) _ _ _ _ _ _ _ _ _ _ _ _ _ _ _ _ _ _ _ _ _ _ ((arrays m c).ins (hd t) (kb t)) (headD (arrays m c).o (hd t)) (headD (arrays m c).dO (hd t)) _ _ _ X Y
        ((first_iff _).mpr (hk.trans h)) (stageI_any _ _ _ _) (stageD_any _ _ _))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HX]; · iexact HX
      iexact HY
    · have e : (arrays m c).outs (hd t) (kb t) = point ((arrays m c).ins (hd t) (kb t)) (grid0.coords t 1).val k0_pay46 := by
        unfold Arrays.outs
        rw [show (kb t).val = 0 from hk.trans h, hk, h]
        rfl
      iintro %a ⟨H0, H1, H2, H3, H4, H5, H6, H7, H8, HX, HY⟩
      rw [e]
      isplitl [HX HY Hr]
      · isplitl [HX HY]
        · iexists _; iexists _
          isplitr; swap
          · isplitl [HX]; · iexact HX
            iexact HY
          ipureintro
          intro h' _ hv
          have : h' = hd t := Fin.ext (by rw [hv, hh]; omega)
          subst this
          exact ⟨rfl, rfl⟩
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · simp only [before_6 m c t h]
    iintro ⟨⟨⟨%X, %Y, %hXY, HX, HY⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    obtain ⟨hX, hY⟩ := hXY (hd t) h hh
    subst hX hY
    iapply (wp_wand_r frame (wpE (defs₀ (F := F)) Variants.none (c : Thread nD τ) none) Set.univ)
    isplitl [HX HY H0 H1 H2 H3 H4 H5 H6 H7 H8]
    · iapply (body_later c (grid0.coords t) _ _ _ _ _ _ _ _ _ _ _ _ _ _ _ _ _ _ _ _ _ _ ((arrays m c).ins (hd t) (kb t)) (headD (arrays m c).o (hd t)) (headD (arrays m c).dO (hd t)) ((arrays m c).dqBefore (hd t) (kb t).val) _ _
        (fun hc => h (hk.symm.trans ((first_iff _).mp hc))))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HX]; · iexact HX
      iexact HY
    · iintro %a ⟨H0, H1, H2, H3, H4, H5, H6, H7, H8, HX, HY⟩
      isplitl [HX HY Hr]
      · isplitl [HX HY]
        · iexists _; iexists _
          isplitr; swap
          · isplitl [HX]; · iexact HX
            iexact HY
          ipureintro
          intro h' _ hv
          have : h' = hd t := Fin.ext (by rw [hv, hh]; omega)
          subst this
          exact ⟨rfl, rfl⟩
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

theorem entry (c : Dev nD) : (Pipeline.ΦA (Val := Elt F) (U := UR sig nD τ) spec0 c : sProp 𝕄) ⊢ Scratch m c 0 := by
  unfold Pipeline.ΦA Scratch
  rw [scopedRest0_eq]
  simp only [owns_whole_eq]
  iintro ⟨⟨⟨%f, Hf⟩, ⟨%g, Hg⟩⟩, Hr⟩
  isplitl [Hf Hg]
  · iexists f; iexists g
    isplitr; · ipureintro; exact fun _ h => absurd rfl h
    isplitl [Hf]
    · iexists f; isplitr; · ipureintro; rfl
      iexact Hf
    · iexists g; isplitr; · ipureintro; rfl
      iexact Hg
  iexact Hr

theorem leave (c : Dev nD) (n : ℕ) : (Scratch m c n : sProp 𝕄) ⊢ Pipeline.ΦA (Val := Elt F) (U := UR sig nD τ) spec0 c := by
  unfold Pipeline.ΦA Scratch
  rw [scopedRest0_eq]
  simp only [owns_whole_eq]
  iintro ⟨⟨%X, %Y, -, ⟨%f, -, Hf⟩, ⟨%g, -, Hg⟩⟩, Hr⟩
  isplitl [Hf Hg]
  · isplitl [Hf]
    · iexists f; iexact Hf
    · iexists g; iexact Hg
  iexact Hr

set_option backward.isDefEq.respectTransparency.types false in
/-- Every fair execution ends, with every array at what the proof data say and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hin := entry m) (hout := fun c => leave m c _)

theorem frame_main (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (frame_of m ρ (dats m) (A_eq m)) (run_main m ρ)

end Cert.Proof.Bwd
-- ==== Proof.Same.lean ====
/- The kernel at the machine's floats is the idealized text, its named constants being the words that stand in the program; so one run gives both frames. -/
module

public import proofs.«01_k».proof.Defs
public import proofs.«01_k».proof.Proof.Gen.Kernel
public import proofs.«01_k».proof.Proof.Run

@[expose] public section

set_option maxRecDepth 16384
set_option maxHeartbeats 4000000

noncomputable section

namespace Cert.Proof

open Idealize.ShloMosaic Idealize.SL.Sem

/-- At the machine's floats a named constant is the word that stands in the program. -/
local instance : Named Bits where
  named _ _ {φ} b := FloatOps.ofBits φ b

/-- The host code and the launch are the same. -/
theorem main_same : Kernel.main (F := Bits) = KernelIdeal.main (F := Bits) := by rfl

/-- So is the kernel's body … -/
theorem body_same : Kernel.cc0_flash_bwd (F := Bits) = KernelIdeal.cc0_flash_bwd (F := Bits) := by rfl

/-- … hence the definitions that the launch calls. -/
theorem bodies_same : Kernel.defs₀ (F := Bits) = KernelIdeal.defs₀ (F := Bits) := by
  unfold Kernel.defs₀ KernelIdeal.defs₀
  refine congrArg Defs.onTc (funext fun l => funext fun a => ?_)
  match l, a with
  | ⟨0, _⟩, (t, s) =>
    exact congrArg (fun f : type_of% (KernelIdeal.cc0_flash_bwd (F := Bits)) => f _ _ _ _ _ _ _ _ _ _ _ _ _ _ _ _ _ _ _ _ _ _ _) body_same
  | ⟨_ + 1, h⟩, _ => exact absurd h (Nat.not_lt.2 (Nat.le_add_left _ _))

theorem defs_same : Kernel.defs (F := Bits) = KernelIdeal.defs (F := Bits) := congrArg (Pipeline.defs KernelIdeal.pcfgs) bodies_same

/-- The kernel terminates without fault, with its arguments unchanged and its semaphores at zero. -/
theorem frame_kernel : Cert.quiescent_Kernel := fun m ρ _ => by
  rw [defs_same, main_same]
  exact Bwd.frame_main (F := Bits) m ρ

end Cert.Proof

end
-- ==== Proof.FrontSame.lean ====
/- The gradient kernel of the projections at the machine's floats is the text of the idealized one; so one run gives both frames. -/
module

public import proofs.«01_k».proof.Defs
public import proofs.«01_k».proof.Proof.Gen.Kernel2
public import proofs.«01_k».proof.Proof.FrontRun

@[expose] public section

set_option maxRecDepth 16384
set_option maxHeartbeats 4000000

noncomputable section

namespace Cert.Proof.Front

open Idealize.ShloMosaic Idealize.SL.Sem

/-- The host code and the launch are the same. -/
theorem main_same : Kernel2.main (F := Bits) = Kernel2Ideal.main (F := Bits) := by rfl

/-- So is the kernel's body … -/
theorem body_same : Kernel2.cc0_front_bwd (F := Bits) = Kernel2Ideal.cc0_front_bwd (F := Bits) := by rfl

/-- … hence the definitions that the launch calls. -/
theorem bodies_same : Kernel2.defs₀ (F := Bits) = Kernel2Ideal.defs₀ (F := Bits) := by
  unfold Kernel2.defs₀ Kernel2Ideal.defs₀
  refine congrArg Defs.onTc (funext fun l => funext fun a => ?_)
  match l, a with
  | ⟨0, _⟩, (t, s) =>
    exact congrArg (fun f : type_of% (Kernel2Ideal.cc0_front_bwd (F := Bits)) => f _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) body_same
  | ⟨_ + 1, h⟩, _ => exact absurd h (Nat.not_lt.2 (Nat.le_add_left _ _))

theorem defs_same : Kernel2.defs (F := Bits) = Kernel2Ideal.defs (F := Bits) := congrArg (Pipeline.defs Kernel2Ideal.pcfgs) bodies_same

/-- The kernel terminates without fault, with its arguments unchanged and its semaphores at zero. -/
theorem frame_kernel : Cert.quiescent_Kernel2 := fun m ρ _ => by
  rw [defs_same, main_same]
  exact frame_main (F := Bits) m ρ

end Cert.Proof.Front

end
-- ==== Proof.FwdFinal.lean ====
module

public import proofs.«01_k».proof.Proof.Gen.Kernel3Ideal.Value
public import proofs.«01_k».proof.Proof.FrontFinal

/-! The seven projections that the forward call leaves. -/

@[expose] public section

set_option maxRecDepth 8192
noncomputable section

namespace Cert.Proof.Fwd

open Idealize Idealize.ShloMosaic Idealize.ShloMosaic.TcCoe
open Cert.Kernel3Ideal Cert.Kernel3Ideal.Gen
open Cert.Proof.Tile (row row_val)
open Cert.Proof.Front (Row rs ms nrm sc)

/-! ## One grid point -/

/-- The rounded normalised rows. -/
theorem h_at (x : FVec Ideal S512x1024 .f32) (nw sr sb hr hb : FVec Ideal S1x1024 .f32) (a : Fin 512) (k : Fin 1024) :
    k0_pay6 (F := Ideal) x nw sr sb hr hb (ix2 a k)
      = nrm (fun k => x (ix2 a k)) (fun k => nw (ix2 0 k)) (fun k => sr (ix2 0 k)) (fun k => sb (ix2 0 k)) (fun k => hr (ix2 0 k)) (fun k => hb (ix2 0 k)) k := by
  pointwise [k0_pay6]
  unfold nrm sc rs ms
  rw [add_assoc, add_assoc (1 : EReal)]
  rfl

theorem tile0 (x : FVec Ideal S512x1024 .f32) (nw sr sb hr hb : FVec Ideal S1x1024 .f32) (w : FVec Ideal S1024x384 .bf16) (a : Fin 512) (b : Fin 384) :
    k0_pay7 (F := Ideal) x nw sr sb hr hb w (ix2 a b)
      = ∑ k, nrm (fun k => x (ix2 a k)) (fun k => nw (ix2 0 k)) (fun k => sr (ix2 0 k)) (fun k => sb (ix2 0 k)) (fun k => hr (ix2 0 k)) (fun k => hb (ix2 0 k)) k * w (ix2 k b) := by
  pointwise [k0_pay7]
  simp only [h_at]

theorem tile1 (x : FVec Ideal S512x1024 .f32) (nw sr sb hr hb : FVec Ideal S1x1024 .f32) (w : FVec Ideal S1024x256 .bf16) (a : Fin 512) (b : Fin 256) :
    k0_pay8 (F := Ideal) x nw sr sb hr hb w (ix2 a b)
      = ∑ k, nrm (fun k => x (ix2 a k)) (fun k => nw (ix2 0 k)) (fun k => sr (ix2 0 k)) (fun k => sb (ix2 0 k)) (fun k => hr (ix2 0 k)) (fun k => hb (ix2 0 k)) k * w (ix2 k b) := by
  pointwise [k0_pay8]
  simp only [h_at]

theorem tile2 (x : FVec Ideal S512x1024 .f32) (nw sr sb hr hb : FVec Ideal S1x1024 .f32) (w : FVec Ideal S1024x128 .bf16) (a : Fin 512) (b : Fin 128) :
    k0_pay1 (F := Ideal) (k0_pay6 (F := Ideal) x nw sr sb hr hb) w (ix2 a b)
      = ∑ k, nrm (fun k => x (ix2 a k)) (fun k => nw (ix2 0 k)) (fun k => sr (ix2 0 k)) (fun k => sb (ix2 0 k)) (fun k => hr (ix2 0 k)) (fun k => hb (ix2 0 k)) k * w (ix2 k b) := by
  pointwise [k0_pay1]
  simp only [h_at]

theorem tile3 (x : FVec Ideal S512x1024 .f32) (nw sr sb hr hb : FVec Ideal S1x1024 .f32) (w : FVec Ideal S1024x512 .bf16) (a : Fin 512) (b : Fin 512) :
    k0_pay2 (F := Ideal) (k0_pay6 (F := Ideal) x nw sr sb hr hb) w (ix2 a b)
      = ∑ k, nrm (fun k => x (ix2 a k)) (fun k => nw (ix2 0 k)) (fun k => sr (ix2 0 k)) (fun k => sb (ix2 0 k)) (fun k => hr (ix2 0 k)) (fun k => hb (ix2 0 k)) k * w (ix2 k b) := by
  pointwise [k0_pay2]
  simp only [h_at]

theorem tile4 (x : FVec Ideal S512x1024 .f32) (nw sr sb hr hb : FVec Ideal S1x1024 .f32) (w : FVec Ideal S1024x1536 .bf16) (a : Fin 512) (b : Fin 1536) :
    k0_pay3 (F := Ideal) (k0_pay6 (F := Ideal) x nw sr sb hr hb) w (ix2 a b)
      = ∑ k, nrm (fun k => x (ix2 a k)) (fun k => nw (ix2 0 k)) (fun k => sr (ix2 0 k)) (fun k => sb (ix2 0 k)) (fun k => hr (ix2 0 k)) (fun k => hb (ix2 0 k)) k * w (ix2 k b) := by
  pointwise [k0_pay3]
  simp only [h_at]

theorem tile5 (x : FVec Ideal S512x1024 .f32) (nw sr sb hr hb : FVec Ideal S1x1024 .f32) (w : FVec Ideal S1024x128 .bf16) (a : Fin 512) (b : Fin 128) :
    k0_pay4 (F := Ideal) (k0_pay6 (F := Ideal) x nw sr sb hr hb) w (ix2 a b)
      = ∑ k, nrm (fun k => x (ix2 a k)) (fun k => nw (ix2 0 k)) (fun k => sr (ix2 0 k)) (fun k => sb (ix2 0 k)) (fun k => hr (ix2 0 k)) (fun k => hb (ix2 0 k)) k * w (ix2 k b) := by
  pointwise [k0_pay4]
  simp only [h_at]

theorem tile6 (x : FVec Ideal S512x1024 .f32) (nw sr sb hr hb : FVec Ideal S1x1024 .f32) (w : FVec Ideal S1024x512 .bf16) (a : Fin 512) (b : Fin 512) :
    k0_pay5 (F := Ideal) (k0_pay6 (F := Ideal) x nw sr sb hr hb) w (ix2 a b)
      = ∑ k, nrm (fun k => x (ix2 a k)) (fun k => nw (ix2 0 k)) (fun k => sr (ix2 0 k)) (fun k => sb (ix2 0 k)) (fun k => hr (ix2 0 k)) (fun k => hb (ix2 0 k)) k * w (ix2 k b) := by
  pointwise [k0_pay5]
  simp only [h_at]

/-! ## The arrays -/

variable (m : (ℓ : Loc nD τ sig) → Buf (Elt Ideal) ℓ) (c : Dev nD)

/-- The rows and the norm's parameters, as functions of the entries. -/
def hRow (x : FVec Ideal S8192x1024 .f32) (nw sr sb hr hb : FVec Ideal S1x1024 .f32) (i : Fin 8192) : Row :=
  nrm (fun k => x (ix2 i k)) (fun k => nw (ix2 0 k)) (fun k => sr (ix2 0 k)) (fun k => sb (ix2 0 k)) (fun k => hr (ix2 0 k)) (fun k => hb (ix2 0 k))

/-- The normalised rows of the arrays at launch. -/
def hAll (i : Fin 8192) : Row :=
  hRow (m (c.tc.loc main_arg0)) (m (c.tc.loc main_arg1)) (m (c.tc.loc main_arg2)) (m (c.tc.loc main_arg3)) (m (c.tc.loc main_arg4)) (m (c.tc.loc main_arg5)) i

theorem coord (t : Fin cfg0.N) : (BitVec.ofNat 32 (grid0.coords t 0).val).toNat = t.val := by
  have h : t.val < 16 := lt_of_lt_of_eq t.isLt N_0
  have e := Pipeline.Grid.coords_val (G := grid0) t 0 (S := 1) (B := 16) (by decide) rfl
  rw [e, BitVec.toNat_ofNat]
  omega

/-- Point `t` as one of sixteen. -/
def six (t : Fin cfg0.N) : Fin 16 := ⟨t.val, lt_of_lt_of_eq t.isLt N_0⟩

variable (t : Fin cfg0.N) (a : Fin 512)

theorem in_x (k : Fin 1024) : iblk m c 0 t (ix2 a k : S512x1024.Idx) = m (c.tc.loc main_arg0) (ix2 (row (six t) a) k : S8192x1024.Idx) := by
  refine congrArg (V m c main_arg0) (funext fun b => Fin.ext ?_)
  refine ((cfg0.win 0).rect_emb_val t (ix2 a k : S512x1024.Idx) b).trans ?_
  match b with
  | 0 => show (BitVec.ofNat 32 (grid0.coords t 0).val).toNat * 512 + a.val = a.val + 512 * t.val; rw [coord]; omega
  | 1 => show 0 * 1024 + k.val = k.val; omega

theorem in_nw (k : Fin 1024) : iblk m c 1 t (ix2 0 k : S1x1024.Idx) = m (c.tc.loc main_arg1) (ix2 0 k : S1x1024.Idx) := by
  refine congrArg (V m c main_arg1) (funext fun b => Fin.ext ?_)
  refine ((cfg0.win 1).rect_emb_val t (ix2 0 k : S1x1024.Idx) b).trans ?_
  match b with
  | 0 => show 0 * 1 + 0 = 0; omega
  | 1 => show 0 * 1024 + k.val = k.val; omega

theorem in_sr (k : Fin 1024) : iblk m c 2 t (ix2 0 k : S1x1024.Idx) = m (c.tc.loc main_arg2) (ix2 0 k : S1x1024.Idx) := by
  refine congrArg (V m c main_arg2) (funext fun b => Fin.ext ?_)
  refine ((cfg0.win 2).rect_emb_val t (ix2 0 k : S1x1024.Idx) b).trans ?_
  match b with
  | 0 => show 0 * 1 + 0 = 0; omega
  | 1 => show 0 * 1024 + k.val = k.val; omega

theorem in_sb (k : Fin 1024) : iblk m c 3 t (ix2 0 k : S1x1024.Idx) = m (c.tc.loc main_arg3) (ix2 0 k : S1x1024.Idx) := by
  refine congrArg (V m c main_arg3) (funext fun b => Fin.ext ?_)
  refine ((cfg0.win 3).rect_emb_val t (ix2 0 k : S1x1024.Idx) b).trans ?_
  match b with
  | 0 => show 0 * 1 + 0 = 0; omega
  | 1 => show 0 * 1024 + k.val = k.val; omega

theorem in_hr (k : Fin 1024) : iblk m c 4 t (ix2 0 k : S1x1024.Idx) = m (c.tc.loc main_arg4) (ix2 0 k : S1x1024.Idx) := by
  refine congrArg (V m c main_arg4) (funext fun b => Fin.ext ?_)
  refine ((cfg0.win 4).rect_emb_val t (ix2 0 k : S1x1024.Idx) b).trans ?_
  match b with
  | 0 => show 0 * 1 + 0 = 0; omega
  | 1 => show 0 * 1024 + k.val = k.val; omega

theorem in_hb (k : Fin 1024) : iblk m c 5 t (ix2 0 k : S1x1024.Idx) = m (c.tc.loc main_arg5) (ix2 0 k : S1x1024.Idx) := by
  refine congrArg (V m c main_arg5) (funext fun b => Fin.ext ?_)
  refine ((cfg0.win 5).rect_emb_val t (ix2 0 k : S1x1024.Idx) b).trans ?_
  match b with
  | 0 => show 0 * 1 + 0 = 0; omega
  | 1 => show 0 * 1024 + k.val = k.val; omega

theorem in_w0 (k : Fin 1024) (b : Fin 384) : iblk m c 6 t (ix2 k b : S1024x384.Idx) = m (c.tc.loc main_arg6) (ix2 k b : S1024x384.Idx) := by
  refine congrArg (V m c main_arg6) (funext fun d => Fin.ext ?_)
  refine ((cfg0.win 6).rect_emb_val t (ix2 k b : S1024x384.Idx) d).trans ?_
  match d with
  | 0 => show 0 * 1024 + k.val = k.val; omega
  | 1 => show 0 * 384 + b.val = b.val; omega

theorem in_w1 (k : Fin 1024) (b : Fin 256) : iblk m c 7 t (ix2 k b : S1024x256.Idx) = m (c.tc.loc main_arg7) (ix2 k b : S1024x256.Idx) := by
  refine congrArg (V m c main_arg7) (funext fun d => Fin.ext ?_)
  refine ((cfg0.win 7).rect_emb_val t (ix2 k b : S1024x256.Idx) d).trans ?_
  match d with
  | 0 => show 0 * 1024 + k.val = k.val; omega
  | 1 => show 0 * 256 + b.val = b.val; omega

theorem in_w2 (k : Fin 1024) (b : Fin 128) : iblk m c 8 t (ix2 k b : S1024x128.Idx) = m (c.tc.loc main_arg8) (ix2 k b : S1024x128.Idx) := by
  refine congrArg (V m c main_arg8) (funext fun d => Fin.ext ?_)
  refine ((cfg0.win 8).rect_emb_val t (ix2 k b : S1024x128.Idx) d).trans ?_
  match d with
  | 0 => show 0 * 1024 + k.val = k.val; omega
  | 1 => show 0 * 128 + b.val = b.val; omega

theorem in_w3 (k : Fin 1024) (b : Fin 512) : iblk m c 9 t (ix2 k b : S1024x512.Idx) = m (c.tc.loc main_arg9) (ix2 k b : S1024x512.Idx) := by
  refine congrArg (V m c main_arg9) (funext fun d => Fin.ext ?_)
  refine ((cfg0.win 9).rect_emb_val t (ix2 k b : S1024x512.Idx) d).trans ?_
  match d with
  | 0 => show 0 * 1024 + k.val = k.val; omega
  | 1 => show 0 * 512 + b.val = b.val; omega

theorem in_w4 (k : Fin 1024) (b : Fin 1536) : iblk m c 10 t (ix2 k b : S1024x1536.Idx) = m (c.tc.loc main_arg10) (ix2 k b : S1024x1536.Idx) := by
  refine congrArg (V m c main_arg10) (funext fun d => Fin.ext ?_)
  refine ((cfg0.win 10).rect_emb_val t (ix2 k b : S1024x1536.Idx) d).trans ?_
  match d with
  | 0 => show 0 * 1024 + k.val = k.val; omega
  | 1 => show 0 * 1536 + b.val = b.val; omega

theorem in_w5 (k : Fin 1024) (b : Fin 128) : iblk m c 11 t (ix2 k b : S1024x128.Idx) = m (c.tc.loc main_arg11) (ix2 k b : S1024x128.Idx) := by
  refine congrArg (V m c main_arg11) (funext fun d => Fin.ext ?_)
  refine ((cfg0.win 11).rect_emb_val t (ix2 k b : S1024x128.Idx) d).trans ?_
  match d with
  | 0 => show 0 * 1024 + k.val = k.val; omega
  | 1 => show 0 * 128 + b.val = b.val; omega

theorem in_w6 (k : Fin 1024) (b : Fin 512) : iblk m c 12 t (ix2 k b : S1024x512.Idx) = m (c.tc.loc main_arg12) (ix2 k b : S1024x512.Idx) := by
  refine congrArg (V m c main_arg12) (funext fun d => Fin.ext ?_)
  refine ((cfg0.win 12).rect_emb_val t (ix2 k b : S1024x512.Idx) d).trans ?_
  match d with
  | 0 => show 0 * 1024 + k.val = k.val; omega
  | 1 => show 0 * 512 + b.val = b.val; omega

theorem ld_x (X : Vec Ideal S512x1024 .f32) : View.ld (Val := Elt Ideal) X r0_0 = X := View.ld_unit_lit (Val := Elt Ideal) (S := S512x1024) (e := .f32) _ X (by decide)
theorem ld_p (X : Vec Ideal S1x1024 .f32) : View.ld (Val := Elt Ideal) X r0_1 = X := View.ld_unit_lit (Val := Elt Ideal) (S := S1x1024) (e := .f32) _ X (by decide)
theorem ld_w384 (X : Vec Ideal S1024x384 .bf16) : View.ld (Val := Elt Ideal) X r0_2 = X := View.ld_unit_lit (Val := Elt Ideal) (S := S1024x384) (e := .bf16) _ X (by decide)
theorem ld_w256 (X : Vec Ideal S1024x256 .bf16) : View.ld (Val := Elt Ideal) X r0_4 = X := View.ld_unit_lit (Val := Elt Ideal) (S := S1024x256) (e := .bf16) _ X (by decide)
theorem ld_w128 (X : Vec Ideal S1024x128 .bf16) : View.ld (Val := Elt Ideal) X r0_6 = X := View.ld_unit_lit (Val := Elt Ideal) (S := S1024x128) (e := .bf16) _ X (by decide)
theorem ld_w512 (X : Vec Ideal S1024x512 .bf16) : View.ld (Val := Elt Ideal) X r0_8 = X := View.ld_unit_lit (Val := Elt Ideal) (S := S1024x512) (e := .bf16) _ X (by decide)
theorem ld_w1536 (X : Vec Ideal S1024x1536 .bf16) : View.ld (Val := Elt Ideal) X r0_10 = X := View.ld_unit_lit (Val := Elt Ideal) (S := S1024x1536) (e := .bf16) _ X (by decide)

theorem out0_at (b : Fin 384) : (dats m 0 c).after 13 t (ix2 a b : S512x384.Idx)
    = ∑ k, hAll m c (row (six t) a) k * (m (c.tc.loc main_arg6) : FVec Ideal S1024x384 .bf16) (ix2 k b) := by
  rw [after0_13]
  unfold out0_13
  refine (congrFun (View.canon_cons_unit_lit _ _ _ (by decide)) _).trans ?_
  rw [ld_x, ld_p, ld_p, ld_p, ld_p, ld_p, ld_w384]
  refine (tile0 _ _ _ _ _ _ _ a b).trans ?_
  refine Finset.sum_congr rfl fun k _ => ?_
  refine congrArg₂ (· * ·) ?_ (in_w0 m c t k b)
  unfold hAll hRow
  simp only [← in_x, ← in_nw m c t, ← in_sr m c t, ← in_sb m c t, ← in_hr m c t, ← in_hb m c t]

theorem arr0 (G : FVec Ideal S8192x384 .f32)
    (hG : ∀ (i : Fin 8192) (b : Fin 384), G (ix2 i b) = ∑ k, hAll m c i k * (m (c.tc.loc main_arg6) : FVec Ideal S1024x384 .bf16) (ix2 k b)) :
    (dats m 0 c).arrAt 13 cfg0.N = G := by
  refine (dats m 0 c).arrAt_eq_of_covers 13 G (by decide +kernel) fun t hf y => ?_
  obtain ⟨a, ha⟩ : ∃ a : Fin 512, a.val = (y 0).val := ⟨y 0, rfl⟩
  obtain ⟨b, hb⟩ : ∃ b : Fin 384, b.val = (y 1).val := ⟨y 1, rfl⟩
  have he : ((cfg0.win 13).blk t).view.emb y = (ix2 (row (six t) a) b : S8192x384.Idx) := by
    funext k
    refine Fin.ext (((cfg0.win 13).rect_emb_val t y k).trans ?_)
    match k with
    | 0 => show (BitVec.ofNat 32 (grid0.coords t 0).val).toNat * 512 + (y 0).val = a.val + 512 * t.val; rw [coord]; omega
    | 1 => show 0 * 384 + (y 1).val = b.val; omega
  have hy : (cfg0.win 13).xinj (cfg0.grid.coords t) y = (ix2 a b : (S512x384).Idx) := by
    funext k
    match k with
    | 0 => exact Fin.ext ha.symm
    | 1 => exact Fin.ext hb.symm
  refine Eq.trans ?_ ((congrArg G he).trans (hG _ b)).symm
  exact (cast_eq _ _).trans ((congrArg ((dats m 0 c).after 13 t) hy).trans (out0_at m c t a b))

theorem out1_at (b : Fin 256) : (dats m 0 c).after 14 t (ix2 a b : S512x256.Idx)
    = ∑ k, hAll m c (row (six t) a) k * (m (c.tc.loc main_arg7) : FVec Ideal S1024x256 .bf16) (ix2 k b) := by
  rw [after0_14]
  unfold out0_14
  refine (congrFun (View.canon_cons_unit_lit _ _ _ (by decide)) _).trans ?_
  rw [ld_x, ld_p, ld_p, ld_p, ld_p, ld_p, ld_w256]
  refine (tile1 _ _ _ _ _ _ _ a b).trans ?_
  refine Finset.sum_congr rfl fun k _ => ?_
  refine congrArg₂ (· * ·) ?_ (in_w1 m c t k b)
  unfold hAll hRow
  simp only [← in_x, ← in_nw m c t, ← in_sr m c t, ← in_sb m c t, ← in_hr m c t, ← in_hb m c t]

theorem arr1 (G : FVec Ideal S8192x256 .f32)
    (hG : ∀ (i : Fin 8192) (b : Fin 256), G (ix2 i b) = ∑ k, hAll m c i k * (m (c.tc.loc main_arg7) : FVec Ideal S1024x256 .bf16) (ix2 k b)) :
    (dats m 0 c).arrAt 14 cfg0.N = G := by
  refine (dats m 0 c).arrAt_eq_of_covers 14 G (by decide +kernel) fun t hf y => ?_
  obtain ⟨a, ha⟩ : ∃ a : Fin 512, a.val = (y 0).val := ⟨y 0, rfl⟩
  obtain ⟨b, hb⟩ : ∃ b : Fin 256, b.val = (y 1).val := ⟨y 1, rfl⟩
  have he : ((cfg0.win 14).blk t).view.emb y = (ix2 (row (six t) a) b : S8192x256.Idx) := by
    funext k
    refine Fin.ext (((cfg0.win 14).rect_emb_val t y k).trans ?_)
    match k with
    | 0 => show (BitVec.ofNat 32 (grid0.coords t 0).val).toNat * 512 + (y 0).val = a.val + 512 * t.val; rw [coord]; omega
    | 1 => show 0 * 256 + (y 1).val = b.val; omega
  have hy : (cfg0.win 14).xinj (cfg0.grid.coords t) y = (ix2 a b : (S512x256).Idx) := by
    funext k
    match k with
    | 0 => exact Fin.ext ha.symm
    | 1 => exact Fin.ext hb.symm
  refine Eq.trans ?_ ((congrArg G he).trans (hG _ b)).symm
  exact (cast_eq _ _).trans ((congrArg ((dats m 0 c).after 14 t) hy).trans (out1_at m c t a b))

theorem out2_at (b : Fin 128) : (dats m 0 c).after 15 t (ix2 a b : S512x128.Idx)
    = ∑ k, hAll m c (row (six t) a) k * (m (c.tc.loc main_arg8) : FVec Ideal S1024x128 .bf16) (ix2 k b) := by
  rw [after0_15]
  unfold out0_15 k0_pay9
  refine (congrFun (View.canon_cons_unit_lit _ _ _ (by decide)) _).trans ?_
  rw [ld_x, ld_p, ld_p, ld_p, ld_p, ld_p, ld_w128]
  refine (tile2 _ _ _ _ _ _ _ a b).trans ?_
  refine Finset.sum_congr rfl fun k _ => ?_
  refine congrArg₂ (· * ·) ?_ (in_w2 m c t k b)
  unfold hAll hRow
  simp only [← in_x, ← in_nw m c t, ← in_sr m c t, ← in_sb m c t, ← in_hr m c t, ← in_hb m c t]

theorem arr2 (G : FVec Ideal S8192x128 .f32)
    (hG : ∀ (i : Fin 8192) (b : Fin 128), G (ix2 i b) = ∑ k, hAll m c i k * (m (c.tc.loc main_arg8) : FVec Ideal S1024x128 .bf16) (ix2 k b)) :
    (dats m 0 c).arrAt 15 cfg0.N = G := by
  refine (dats m 0 c).arrAt_eq_of_covers 15 G (by decide +kernel) fun t hf y => ?_
  obtain ⟨a, ha⟩ : ∃ a : Fin 512, a.val = (y 0).val := ⟨y 0, rfl⟩
  obtain ⟨b, hb⟩ : ∃ b : Fin 128, b.val = (y 1).val := ⟨y 1, rfl⟩
  have he : ((cfg0.win 15).blk t).view.emb y = (ix2 (row (six t) a) b : S8192x128.Idx) := by
    funext k
    refine Fin.ext (((cfg0.win 15).rect_emb_val t y k).trans ?_)
    match k with
    | 0 => show (BitVec.ofNat 32 (grid0.coords t 0).val).toNat * 512 + (y 0).val = a.val + 512 * t.val; rw [coord]; omega
    | 1 => show 0 * 128 + (y 1).val = b.val; omega
  have hy : (cfg0.win 15).xinj (cfg0.grid.coords t) y = (ix2 a b : (S512x128).Idx) := by
    funext k
    match k with
    | 0 => exact Fin.ext ha.symm
    | 1 => exact Fin.ext hb.symm
  refine Eq.trans ?_ ((congrArg G he).trans (hG _ b)).symm
  exact (cast_eq _ _).trans ((congrArg ((dats m 0 c).after 15 t) hy).trans (out2_at m c t a b))

theorem out3_at (b : Fin 512) : (dats m 0 c).after 16 t (ix2 a b : S512x512.Idx)
    = ∑ k, hAll m c (row (six t) a) k * (m (c.tc.loc main_arg9) : FVec Ideal S1024x512 .bf16) (ix2 k b) := by
  rw [after0_16]
  unfold out0_16 k0_pay9
  refine (congrFun (View.canon_cons_unit_lit _ _ _ (by decide)) _).trans ?_
  rw [ld_x, ld_p, ld_p, ld_p, ld_p, ld_p, ld_w512]
  refine (tile3 _ _ _ _ _ _ _ a b).trans ?_
  refine Finset.sum_congr rfl fun k _ => ?_
  refine congrArg₂ (· * ·) ?_ (in_w3 m c t k b)
  unfold hAll hRow
  simp only [← in_x, ← in_nw m c t, ← in_sr m c t, ← in_sb m c t, ← in_hr m c t, ← in_hb m c t]

theorem arr3 (G : FVec Ideal S8192x512 .f32)
    (hG : ∀ (i : Fin 8192) (b : Fin 512), G (ix2 i b) = ∑ k, hAll m c i k * (m (c.tc.loc main_arg9) : FVec Ideal S1024x512 .bf16) (ix2 k b)) :
    (dats m 0 c).arrAt 16 cfg0.N = G := by
  refine (dats m 0 c).arrAt_eq_of_covers 16 G (by decide +kernel) fun t hf y => ?_
  obtain ⟨a, ha⟩ : ∃ a : Fin 512, a.val = (y 0).val := ⟨y 0, rfl⟩
  obtain ⟨b, hb⟩ : ∃ b : Fin 512, b.val = (y 1).val := ⟨y 1, rfl⟩
  have he : ((cfg0.win 16).blk t).view.emb y = (ix2 (row (six t) a) b : S8192x512.Idx) := by
    funext k
    refine Fin.ext (((cfg0.win 16).rect_emb_val t y k).trans ?_)
    match k with
    | 0 => show (BitVec.ofNat 32 (grid0.coords t 0).val).toNat * 512 + (y 0).val = a.val + 512 * t.val; rw [coord]; omega
    | 1 => show 0 * 512 + (y 1).val = b.val; omega
  have hy : (cfg0.win 16).xinj (cfg0.grid.coords t) y = (ix2 a b : (S512x512).Idx) := by
    funext k
    match k with
    | 0 => exact Fin.ext ha.symm
    | 1 => exact Fin.ext hb.symm
  refine Eq.trans ?_ ((congrArg G he).trans (hG _ b)).symm
  exact (cast_eq _ _).trans ((congrArg ((dats m 0 c).after 16 t) hy).trans (out3_at m c t a b))

theorem out4_at (b : Fin 1536) : (dats m 0 c).after 17 t (ix2 a b : S512x1536.Idx)
    = ∑ k, hAll m c (row (six t) a) k * (m (c.tc.loc main_arg10) : FVec Ideal S1024x1536 .bf16) (ix2 k b) := by
  rw [after0_17]
  unfold out0_17 k0_pay9
  refine (congrFun (View.canon_cons_unit_lit _ _ _ (by decide)) _).trans ?_
  rw [ld_x, ld_p, ld_p, ld_p, ld_p, ld_p, ld_w1536]
  refine (tile4 _ _ _ _ _ _ _ a b).trans ?_
  refine Finset.sum_congr rfl fun k _ => ?_
  refine congrArg₂ (· * ·) ?_ (in_w4 m c t k b)
  unfold hAll hRow
  simp only [← in_x, ← in_nw m c t, ← in_sr m c t, ← in_sb m c t, ← in_hr m c t, ← in_hb m c t]

theorem arr4 (G : FVec Ideal S8192x1536 .f32)
    (hG : ∀ (i : Fin 8192) (b : Fin 1536), G (ix2 i b) = ∑ k, hAll m c i k * (m (c.tc.loc main_arg10) : FVec Ideal S1024x1536 .bf16) (ix2 k b)) :
    (dats m 0 c).arrAt 17 cfg0.N = G := by
  refine (dats m 0 c).arrAt_eq_of_covers 17 G (by decide +kernel) fun t hf y => ?_
  obtain ⟨a, ha⟩ : ∃ a : Fin 512, a.val = (y 0).val := ⟨y 0, rfl⟩
  obtain ⟨b, hb⟩ : ∃ b : Fin 1536, b.val = (y 1).val := ⟨y 1, rfl⟩
  have he : ((cfg0.win 17).blk t).view.emb y = (ix2 (row (six t) a) b : S8192x1536.Idx) := by
    funext k
    refine Fin.ext (((cfg0.win 17).rect_emb_val t y k).trans ?_)
    match k with
    | 0 => show (BitVec.ofNat 32 (grid0.coords t 0).val).toNat * 512 + (y 0).val = a.val + 512 * t.val; rw [coord]; omega
    | 1 => show 0 * 1536 + (y 1).val = b.val; omega
  have hy : (cfg0.win 17).xinj (cfg0.grid.coords t) y = (ix2 a b : (S512x1536).Idx) := by
    funext k
    match k with
    | 0 => exact Fin.ext ha.symm
    | 1 => exact Fin.ext hb.symm
  refine Eq.trans ?_ ((congrArg G he).trans (hG _ b)).symm
  exact (cast_eq _ _).trans ((congrArg ((dats m 0 c).after 17 t) hy).trans (out4_at m c t a b))

theorem out5_at (b : Fin 128) : (dats m 0 c).after 18 t (ix2 a b : S512x128.Idx)
    = ∑ k, hAll m c (row (six t) a) k * (m (c.tc.loc main_arg11) : FVec Ideal S1024x128 .bf16) (ix2 k b) := by
  rw [after0_18]
  unfold out0_18 k0_pay9
  refine (congrFun (View.canon_cons_unit_lit _ _ _ (by decide)) _).trans ?_
  rw [ld_x, ld_p, ld_p, ld_p, ld_p, ld_p, ld_w128]
  refine (tile5 _ _ _ _ _ _ _ a b).trans ?_
  refine Finset.sum_congr rfl fun k _ => ?_
  refine congrArg₂ (· * ·) ?_ (in_w5 m c t k b)
  unfold hAll hRow
  simp only [← in_x, ← in_nw m c t, ← in_sr m c t, ← in_sb m c t, ← in_hr m c t, ← in_hb m c t]

theorem arr5 (G : FVec Ideal S8192x128 .f32)
    (hG : ∀ (i : Fin 8192) (b : Fin 128), G (ix2 i b) = ∑ k, hAll m c i k * (m (c.tc.loc main_arg11) : FVec Ideal S1024x128 .bf16) (ix2 k b)) :
    (dats m 0 c).arrAt 18 cfg0.N = G := by
  refine (dats m 0 c).arrAt_eq_of_covers 18 G (by decide +kernel) fun t hf y => ?_
  obtain ⟨a, ha⟩ : ∃ a : Fin 512, a.val = (y 0).val := ⟨y 0, rfl⟩
  obtain ⟨b, hb⟩ : ∃ b : Fin 128, b.val = (y 1).val := ⟨y 1, rfl⟩
  have he : ((cfg0.win 18).blk t).view.emb y = (ix2 (row (six t) a) b : S8192x128.Idx) := by
    funext k
    refine Fin.ext (((cfg0.win 18).rect_emb_val t y k).trans ?_)
    match k with
    | 0 => show (BitVec.ofNat 32 (grid0.coords t 0).val).toNat * 512 + (y 0).val = a.val + 512 * t.val; rw [coord]; omega
    | 1 => show 0 * 128 + (y 1).val = b.val; omega
  have hy : (cfg0.win 18).xinj (cfg0.grid.coords t) y = (ix2 a b : (S512x128).Idx) := by
    funext k
    match k with
    | 0 => exact Fin.ext ha.symm
    | 1 => exact Fin.ext hb.symm
  refine Eq.trans ?_ ((congrArg G he).trans (hG _ b)).symm
  exact (cast_eq _ _).trans ((congrArg ((dats m 0 c).after 18 t) hy).trans (out5_at m c t a b))

theorem out6_at (b : Fin 512) : (dats m 0 c).after 19 t (ix2 a b : S512x512.Idx)
    = ∑ k, hAll m c (row (six t) a) k * (m (c.tc.loc main_arg12) : FVec Ideal S1024x512 .bf16) (ix2 k b) := by
  rw [after0_19]
  unfold out0_19 k0_pay9
  refine (congrFun (View.canon_cons_unit_lit _ _ _ (by decide)) _).trans ?_
  rw [ld_x, ld_p, ld_p, ld_p, ld_p, ld_p, ld_w512]
  refine (tile6 _ _ _ _ _ _ _ a b).trans ?_
  refine Finset.sum_congr rfl fun k _ => ?_
  refine congrArg₂ (· * ·) ?_ (in_w6 m c t k b)
  unfold hAll hRow
  simp only [← in_x, ← in_nw m c t, ← in_sr m c t, ← in_sb m c t, ← in_hr m c t, ← in_hb m c t]

theorem arr6 (G : FVec Ideal S8192x512 .f32)
    (hG : ∀ (i : Fin 8192) (b : Fin 512), G (ix2 i b) = ∑ k, hAll m c i k * (m (c.tc.loc main_arg12) : FVec Ideal S1024x512 .bf16) (ix2 k b)) :
    (dats m 0 c).arrAt 19 cfg0.N = G := by
  refine (dats m 0 c).arrAt_eq_of_covers 19 G (by decide +kernel) fun t hf y => ?_
  obtain ⟨a, ha⟩ : ∃ a : Fin 512, a.val = (y 0).val := ⟨y 0, rfl⟩
  obtain ⟨b, hb⟩ : ∃ b : Fin 512, b.val = (y 1).val := ⟨y 1, rfl⟩
  have he : ((cfg0.win 19).blk t).view.emb y = (ix2 (row (six t) a) b : S8192x512.Idx) := by
    funext k
    refine Fin.ext (((cfg0.win 19).rect_emb_val t y k).trans ?_)
    match k with
    | 0 => show (BitVec.ofNat 32 (grid0.coords t 0).val).toNat * 512 + (y 0).val = a.val + 512 * t.val; rw [coord]; omega
    | 1 => show 0 * 512 + (y 1).val = b.val; omega
  have hy : (cfg0.win 19).xinj (cfg0.grid.coords t) y = (ix2 a b : (S512x512).Idx) := by
    funext k
    match k with
    | 0 => exact Fin.ext ha.symm
    | 1 => exact Fin.ext hb.symm
  refine Eq.trans ?_ ((congrArg G he).trans (hG _ b)).symm
  exact (cast_eq _ _).trans ((congrArg ((dats m 0 c).after 19 t) hy).trans (out6_at m c t a b))

end Cert.Proof.Fwd
-- ==== Proof.FwdRef.lean ====
module

public import proofs.«01_k».proof.Proof.FrontRef
public import proofs.«01_k».proof.Proof.FwdFinal
public import proofs.«01_k».proof.Proof.Gen.Reference3Ideal
public import proofs.«01_k».proof.Proof.Gen.Reference3Ideal.Run

/-! What the reference computes of the seven projections, entry by entry. -/

@[expose] public section

set_option maxRecDepth 16384
noncomputable section

namespace Cert.Proof.Fwd.Ref

open Idealize Idealize.ShloMosaic Idealize.ShloMosaic.TcCoe
open Cert.Reference3Ideal Cert.Reference3Ideal.Gen
open Cert.Proof.Front.Ref (Big One hV)

variable (x : Big) (nw sr sb hr hb : One)

def out0 (w : FVec ShloMosaic.Ideal S1024x384 .bf16) : FVec ShloMosaic.Ideal S8192x384 .f32 :=
  Host.dotGeneral dot_S8192x1024_S1024x384_S8192x384_1_0_0_1_n_n none (hV x nw sr sb hr hb) (extf .f32 w bitsLt_bf16_f32)

theorem out0_at (w : FVec ShloMosaic.Ideal S1024x384 .bf16) (i : Fin 8192) (b : Fin 384) :
    out0 x nw sr sb hr hb w (ix2 i b) = ∑ k, hRow x nw sr sb hr hb i k * w (ix2 k b) := by
  unfold out0
  pointwise []
  exact Finset.sum_congr rfl fun k _ => congrArg₂ (· * ·) (Front.Ref.h_at x nw sr sb hr hb i k) rfl

def out1 (w : FVec ShloMosaic.Ideal S1024x256 .bf16) : FVec ShloMosaic.Ideal S8192x256 .f32 :=
  Host.dotGeneral dot_S8192x1024_S1024x256_S8192x256_1_0_0_1_n_n none (hV x nw sr sb hr hb) (extf .f32 w bitsLt_bf16_f32)

theorem out1_at (w : FVec ShloMosaic.Ideal S1024x256 .bf16) (i : Fin 8192) (b : Fin 256) :
    out1 x nw sr sb hr hb w (ix2 i b) = ∑ k, hRow x nw sr sb hr hb i k * w (ix2 k b) := by
  unfold out1
  pointwise []
  exact Finset.sum_congr rfl fun k _ => congrArg₂ (· * ·) (Front.Ref.h_at x nw sr sb hr hb i k) rfl

def out2 (w : FVec ShloMosaic.Ideal S1024x128 .bf16) : FVec ShloMosaic.Ideal S8192x128 .f32 :=
  Host.dotGeneral dot_S8192x1024_S1024x128_S8192x128_1_0_0_1_n_n none (hV x nw sr sb hr hb) (extf .f32 w bitsLt_bf16_f32)

theorem out2_at (w : FVec ShloMosaic.Ideal S1024x128 .bf16) (i : Fin 8192) (b : Fin 128) :
    out2 x nw sr sb hr hb w (ix2 i b) = ∑ k, hRow x nw sr sb hr hb i k * w (ix2 k b) := by
  unfold out2
  pointwise []
  exact Finset.sum_congr rfl fun k _ => congrArg₂ (· * ·) (Front.Ref.h_at x nw sr sb hr hb i k) rfl

def out3 (w : FVec ShloMosaic.Ideal S1024x512 .bf16) : FVec ShloMosaic.Ideal S8192x512 .f32 :=
  Host.dotGeneral dot_S8192x1024_S1024x512_S8192x512_1_0_0_1_n_n none (hV x nw sr sb hr hb) (extf .f32 w bitsLt_bf16_f32)

theorem out3_at (w : FVec ShloMosaic.Ideal S1024x512 .bf16) (i : Fin 8192) (b : Fin 512) :
    out3 x nw sr sb hr hb w (ix2 i b) = ∑ k, hRow x nw sr sb hr hb i k * w (ix2 k b) := by
  unfold out3
  pointwise []
  exact Finset.sum_congr rfl fun k _ => congrArg₂ (· * ·) (Front.Ref.h_at x nw sr sb hr hb i k) rfl

def out4 (w : FVec ShloMosaic.Ideal S1024x1536 .bf16) : FVec ShloMosaic.Ideal S8192x1536 .f32 :=
  Host.dotGeneral dot_S8192x1024_S1024x1536_S8192x1536_1_0_0_1_n_n none (hV x nw sr sb hr hb) (extf .f32 w bitsLt_bf16_f32)

theorem out4_at (w : FVec ShloMosaic.Ideal S1024x1536 .bf16) (i : Fin 8192) (b : Fin 1536) :
    out4 x nw sr sb hr hb w (ix2 i b) = ∑ k, hRow x nw sr sb hr hb i k * w (ix2 k b) := by
  unfold out4
  pointwise []
  exact Finset.sum_congr rfl fun k _ => congrArg₂ (· * ·) (Front.Ref.h_at x nw sr sb hr hb i k) rfl

def out5 (w : FVec ShloMosaic.Ideal S1024x128 .bf16) : FVec ShloMosaic.Ideal S8192x128 .f32 :=
  Host.dotGeneral dot_S8192x1024_S1024x128_S8192x128_1_0_0_1_n_n none (hV x nw sr sb hr hb) (extf .f32 w bitsLt_bf16_f32)

theorem out5_at (w : FVec ShloMosaic.Ideal S1024x128 .bf16) (i : Fin 8192) (b : Fin 128) :
    out5 x nw sr sb hr hb w (ix2 i b) = ∑ k, hRow x nw sr sb hr hb i k * w (ix2 k b) := by
  unfold out5
  pointwise []
  exact Finset.sum_congr rfl fun k _ => congrArg₂ (· * ·) (Front.Ref.h_at x nw sr sb hr hb i k) rfl

def out6 (w : FVec ShloMosaic.Ideal S1024x512 .bf16) : FVec ShloMosaic.Ideal S8192x512 .f32 :=
  Host.dotGeneral dot_S8192x1024_S1024x512_S8192x512_1_0_0_1_n_n none (hV x nw sr sb hr hb) (extf .f32 w bitsLt_bf16_f32)

theorem out6_at (w : FVec ShloMosaic.Ideal S1024x512 .bf16) (i : Fin 8192) (b : Fin 512) :
    out6 x nw sr sb hr hb w (ix2 i b) = ∑ k, hRow x nw sr sb hr hb i k * w (ix2 k b) := by
  unfold out6
  pointwise []
  exact Finset.sum_congr rfl fun k _ => congrArg₂ (· * ·) (Front.Ref.h_at x nw sr sb hr hb i k) rfl

end Cert.Proof.Fwd.Ref
-- ==== Proof.TailRef.lean ====
module

public import proofs.«01_k».proof.Proof.Tail
public import proofs.«01_k».proof.Proof.FrontRef
public import proofs.«01_k».proof.Proof.Gen.Reference4Ideal
public import proofs.«01_k».proof.Proof.Gen.Reference4Ideal.Run

/-! What the reference computes of the tail and of its gradient, entry by entry. -/

@[expose] public section

set_option maxRecDepth 16384
noncomputable section

namespace Cert.Proof.Tail.Ref

open Idealize Idealize.ShloMosaic Idealize.ShloMosaic.TcCoe
open Cert.Reference4Ideal Cert.Reference4Ideal.Gen
open Cert.Proof.Front (Row len tiny mhalf ms rs)
open Cert.Proof.Front.Ref (Big One down across zeroV msV rsV yV tV colsum down_at across_at rs_at y_at t_at colsum_at)

abbrev Wide : Type := FVec ShloMosaic.Ideal S8192x512 .f32
abbrev Cube : Type := FVec ShloMosaic.Ideal S8192x4x128 .f32
abbrev Head : Type := FVec ShloMosaic.Ideal S8192x4x1 .f32
abbrev Lane : Type := FVec ShloMosaic.Ideal S1x128 .f32
abbrev Sq : Type := FVec ShloMosaic.Ideal S1024x1024 .f32

/-! ## The forward pass -/

def oneV : Wide := broadcastInDim S8192x512 ![] bcast_S_S8192x512 (constant S_ .f32 0x3F800000#32)
def sgV (z : Wide) : Wide := Host.divf oneV (addf oneV (Host.exp (Host.negf z)))
def siluV (z : Wide) : Wide := mulf z (sgV z)
def cub (o : Wide) : Cube := shapeCast S8192x4x128 o shapeCasts_S8192x512_S8192x4x128
def flat (v : Cube) : Wide := shapeCast S8192x512 v shapeCasts_S8192x4x128_S8192x512
def wordL (b : BitVec 32) : Head := broadcastInDim S8192x4x1 ![] bcast_S_S8192x4x1 (constant S_ .f32 b)
def hmsV (o : Wide) : Head :=
  addf (Host.divf (broadcastInDim S8192x4x1 ![0, 1] bcast_S8192x4_S8192x4x1_0_1 (Host.reduceAdd (mulf (cub o) (cub o)) zeroV reducesTo_S8192x4x128_S8192x4_d2 h_S_)) (wordL 0x43000000#32)) (wordL 0x358637BD#32)
def hrsV (o : Wide) : Head := Host.rsqrt (hmsV o)
def acr (v : Head) : Cube := broadcastInDim S8192x4x128 ![0, 1, 2] bcast_S8192x4x1_S8192x4x128_0_1_2 v
def wtV (w : Lane) : Cube := broadcastInDim S8192x4x128 ![0, 1, 2] bcast_S1x1x128_S8192x4x128_0_1_2 (broadcastInDim S1x1x128 ![1, 2] bcast_S1x128_S1x1x128_1_2 w)
def hyV (o : Wide) : Cube := mulf (cub o) (acr (hrsV o))
def hnV (o : Wide) (w : Lane) : Wide := flat (mulf (hyV o) (wtV w))
def y1V (o z : Wide) : Wide := mulf o (siluV z)
def y2V (o z : Wide) (w : Lane) : Wide := mulf (hnV o w) (siluV z)
def catV (u v : Wide) : Big := concatenate S8192x1024 1 [⟨S8192x512, u⟩, ⟨S8192x512, v⟩] concatenates_S8192x512_S8192x512_S8192x1024_d1
def prjV (u v : Wide) (w : Sq) : Big := Host.dotGeneral dot_S8192x1024_S1024x1024_S8192x1024_1_0_0_1_n_n none (catV u v) w
def outV (x y : Big) (pw gr gb : One) : Big := addf x (mulf (down (addf gr gb)) (mulf (yV y) (down pw)))

/-- A row of the wide arrays. -/
abbrev wrow (o : Wide) (i : Fin 8192) : Half := fun b => o (ix2 i b)

theorem sg_at (z : Wide) (i : Fin 8192) (b : Fin 512) : sgV z (ix2 i b) = sg (z (ix2 i b)) := by
  unfold sgV oneV
  pointwise []
  rfl
theorem silu_at (z : Wide) (i : Fin 8192) (b : Fin 512) : siluV z (ix2 i b) = silu (z (ix2 i b)) := by
  unfold siluV
  pointwise []
  rw [sg_at]; rfl
theorem cub_at (o : Wide) (i : Fin 8192) (j : Fin 4) (l : Fin 128) : cub o (ix3 i j l) = o (ix2 i (hd j l)) := by
  unfold cub
  pointwise []
  exact congrArg (fun r => o (ix2 i r)) (Fin.ext (by show j.val * 128 + l.val = l.val + 128 * j.val; omega))
theorem flat_at (v : Cube) (i : Fin 8192) (b : Fin 512) : flat v (ix2 i b) = v (ix3 i (hof b) (lof b)) := by
  unfold flat
  pointwise []
  rfl
theorem wordL_at (b : BitVec 32) (i : Fin 8192) (j : Fin 4) : wordL b (ix3 i j 0) = Ideal.ofBits .f32 b := by
  rfl
theorem hms_at (o : Wide) (i : Fin 8192) (j : Fin 4) : hmsV o (ix3 i j 0) = hms (wrow o i) j := by
  unfold hmsV zeroV
  pointwise []
  simp only [wordL_at, cub_at]
  rfl
theorem hrs_at (o : Wide) (i : Fin 8192) (j : Fin 4) : hrsV o (ix3 i j 0) = hrs (wrow o i) j := by
  unfold hrsV
  pointwise []
  rw [hms_at]; rfl
theorem acr_at (v : Head) (i : Fin 8192) (j : Fin 4) (l : Fin 128) : acr v (ix3 i j l) = v (ix3 i j 0) := by
  unfold acr
  pointwise []
theorem wt_at (w : Lane) (i : Fin 8192) (j : Fin 4) (l : Fin 128) : wtV w (ix3 i j l) = w (ix2 0 l) := by
  unfold wtV
  pointwise []
theorem hy_at (o : Wide) (i : Fin 8192) (j : Fin 4) (l : Fin 128) : hyV o (ix3 i j l) = o (ix2 i (hd j l)) * hrs (wrow o i) j := by
  unfold hyV
  pointwise []
  rw [cub_at, acr_at, hrs_at]
theorem hn_at (o : Wide) (w : Lane) (i : Fin 8192) (b : Fin 512) : hnV o w (ix2 i b) = hn (wrow o i) (fun l => w (ix2 0 l)) b := by
  unfold hnV
  rw [flat_at]
  pointwise []
  rw [hy_at, wt_at, hd_of]; rfl
theorem y1_at (o z : Wide) (i : Fin 8192) (b : Fin 512) : y1V o z (ix2 i b) = y1 (wrow o i) (wrow z i) b := by
  unfold y1V
  pointwise []
  rw [silu_at]; rfl
theorem y2_at (o z : Wide) (w : Lane) (i : Fin 8192) (b : Fin 512) : y2V o z w (ix2 i b) = y2 (wrow o i) (wrow z i) (fun l => w (ix2 0 l)) b := by
  unfold y2V
  pointwise []
  rw [silu_at, hn_at]; rfl
theorem cat_top (u v : Wide) (i : Fin 8192) (b : Fin 512) : catV u v (ix2 i (top b)) = u (ix2 i b) := by
  unfold catV top
  pointwise []
theorem cat_bot (u v : Wide) (i : Fin 8192) (b : Fin 512) : catV u v (ix2 i (bot b)) = v (ix2 i b) := by
  unfold catV bot
  pointwise []
  simp
theorem prj_at (u v : Wide) (w : Sq) (i : Fin 8192) (k : Fin 1024) :
    prjV u v w (ix2 i k) = prj (wrow u i) (wrow v i) (fun r k => w (ix2 r k)) k := by
  unfold prjV
  pointwise []
  rw [sum_halves]
  simp only [cat_top, cat_bot]
  rfl
theorem out_at (x y : Big) (pw gr gb : One) (i : Fin 8192) (k : Fin 1024) : outV x y pw gr gb (ix2 i k)
    = out (fun k => x (ix2 i k)) (fun k => y (ix2 i k)) (fun k => pw (ix2 0 k)) (fun k => gr (ix2 0 k)) (fun k => gb (ix2 0 k)) k := by
  unfold outV
  pointwise []
  rw [down_at, down_at, y_at]
  pointwise []
  rfl

/-! ## The gradients -/

def gV (g : Big) : Big := shapeCast S8192x1024 g shapeCasts_S8192x1024_S8192x1024
def dnV (g : Big) (gr gb : One) : Big := mulf (down (addf gr gb)) (gV g)
def dyV (g : Big) (pw gr gb : One) : Big := mulf (dnV g gr gb) (down pw)
def gyV (y g : Big) (pw gr gb : One) : Big :=
  addf (addf (mulf (dyV g pw gr gb) (across (rsV y))) (mulf y (tV y (dyV g pw gr gb)))) (mulf (tV y (dyV g pw gr gb)) y)
def upV (d : Big) (w : Sq) : Big := Host.dotGeneral dot_S8192x1024_S1024x1024_S8192x1024_1_1_0_0_n_n none d w
def upTop (d : Big) (w : Sq) : Wide := extractStridedSlice S8192x512 ![0, 0] (upV d w) slices_S8192x1024_S8192x512_0_0
def upBot (d : Big) (w : Sq) : Wide := extractStridedSlice S8192x512 ![0, 512] (upV d w) slices_S8192x1024_S8192x512_0_512
def gsiluV (z q : Wide) : Wide := addf (mulf q (sgV z)) (mulf (mulf z q) (mulf (sgV z) (subf oneV (sgV z))))
def qhV (o : Wide) : Head := mulf (wordL 0xBF000000#32) (Host.divf (hrsV o) (hmsV o))
def dhV (q : Wide) (w : Lane) : Cube := mulf (cub q) (wtV w)
def thV (o q : Wide) (w : Lane) : Cube := broadcastInDim S8192x4x128 ![0, 1] bcast_S8192x4_S8192x4x128_0_1
  (Host.reduceAdd (Host.divf (mulf (shapeCast S8192x4x1 (Host.reduceAdd (mulf (cub o) (dhV q w)) zeroV reducesTo_S8192x4x128_S8192x4_d2 h_S_) shapeCasts_S8192x4_S8192x4x1) (qhV o))
    (wordL 0x43000000#32)) zeroV reducesTo_S8192x4x1_S8192x4_d2 h_S_)
def ghdV (o q : Wide) (w : Lane) : Wide :=
  flat (addf (addf (mulf (dhV q w) (acr (hrsV o))) (mulf (cub o) (thV o q w))) (mulf (thV o q w) (cub o)))
def gwV (o q : Wide) : Lane := broadcastInDim S1x128 ![1] bcast_S128_S1x128_1
  (Host.reduceAdd (shapeCast S1x1x128 (Host.reduceAdd (mulf (hyV o) (cub q)) zeroV reducesTo_S8192x4x128_S128_d0_1 h_S_) shapeCasts_S128_S1x1x128) zeroV reducesTo_S1x1x128_S128_d0_1 h_S_)
def gprjV (u v : Wide) (d : Big) : Sq :=
  transpose S1024x1024 [1, 0] (Host.dotGeneral dot_S8192x1024_S8192x1024_S1024x1024_0_0_1_1_n_n none d (catV u v)) transposes_S1024x1024_S1024x1024_1_0
def gpwV (y g : Big) (gr gb : One) : One := colsum (mulf (yV y) (dnV g gr gb))
def ggtV (y g : Big) (pw : One) : One := colsum (mulf (gV g) (mulf (yV y) (down pw)))

theorem g_at (g : Big) (i : Fin 8192) (k : Fin 1024) : gV g (ix2 i k) = g (ix2 i k) := by
  unfold gV
  pointwise []
theorem dn_at (g : Big) (gr gb : One) (i : Fin 8192) (k : Fin 1024) : dnV g gr gb (ix2 i k)
    = dn (fun k => g (ix2 i k)) (fun k => gr (ix2 0 k)) (fun k => gb (ix2 0 k)) k := by
  unfold dnV
  pointwise []
  rw [down_at, g_at]
  rfl
theorem dy_at (g : Big) (pw gr gb : One) (i : Fin 8192) (k : Fin 1024) : dyV g pw gr gb (ix2 i k)
    = dn (fun k => g (ix2 i k)) (fun k => gr (ix2 0 k)) (fun k => gb (ix2 0 k)) k * pw (ix2 0 k) := by
  unfold dyV
  pointwise []
  rw [down_at, dn_at]
theorem gy_at (y g : Big) (pw gr gb : One) (i : Fin 8192) (k : Fin 1024) : gyV y g pw gr gb (ix2 i k)
    = gy (fun k => y (ix2 i k)) (fun k => g (ix2 i k)) (fun k => pw (ix2 0 k)) (fun k => gr (ix2 0 k)) (fun k => gb (ix2 0 k)) k := by
  unfold gyV
  pointwise []
  simp only [t_at, dy_at, across_at, rs_at]
  rfl
theorem up_at (d : Big) (w : Sq) (i : Fin 8192) (r : Fin 1024) : upV d w (ix2 i r) = ∑ k, d (ix2 i k) * w (ix2 r k) := by
  unfold upV
  pointwise []
theorem upTop_at (d : Big) (w : Sq) (i : Fin 8192) (b : Fin 512) :
    upTop d w (ix2 i b) = back (fun k => d (ix2 i k)) (fun b k => w (ix2 (top b) k)) b := by
  unfold upTop
  pointwise []
  exact up_at d w i (top b)
theorem upBot_at (d : Big) (w : Sq) (i : Fin 8192) (b : Fin 512) :
    upBot d w (ix2 i b) = back (fun k => d (ix2 i k)) (fun b k => w (ix2 (bot b) k)) b := by
  unfold upBot
  pointwise []
  refine Eq.trans (congrArg (fun r => upV d w (ix2 i r)) (Fin.ext ?_)) (up_at d w i (bot b))
  exact Nat.add_comm 512 b.val
theorem gsilu_at (z q : Wide) (i : Fin 8192) (b : Fin 512) : gsiluV z q (ix2 i b) = gsilu (z (ix2 i b)) (q (ix2 i b)) := by
  unfold gsiluV oneV
  pointwise []
  rw [sg_at]; rfl
theorem qh_at (o : Wide) (i : Fin 8192) (j : Fin 4) : qhV o (ix3 i j 0) = mhalf * Ideal.div (hrs (wrow o i) j) (hms (wrow o i) j) := by
  unfold qhV
  pointwise []
  rw [wordL_at, hrs_at, hms_at]; rfl
theorem dh_at (q : Wide) (w : Lane) (i : Fin 8192) (j : Fin 4) (l : Fin 128) : dhV q w (ix3 i j l) = q (ix2 i (hd j l)) * w (ix2 0 l) := by
  unfold dhV
  pointwise []
  rw [cub_at, wt_at]
theorem th_at (o q : Wide) (w : Lane) (i : Fin 8192) (j : Fin 4) (l : Fin 128) : thV o q w (ix3 i j l)
    = Ideal.div ((∑ l, o (ix2 i (hd j l)) * (q (ix2 i (hd j l)) * w (ix2 0 l))) * (mhalf * Ideal.div (hrs (wrow o i) j) (hms (wrow o i) j))) hlen := by
  unfold thV zeroV
  pointwise []
  simp only [Fin.sum_univ_one, wordL_at, cub_at, dh_at]
  rw [qh_at]
  rfl
theorem ghd_at (o q : Wide) (w : Lane) (i : Fin 8192) (b : Fin 512) :
    ghdV o q w (ix2 i b) = ghd (wrow o i) (wrow q i) (fun l => w (ix2 0 l)) b := by
  unfold ghdV
  rw [flat_at]
  pointwise []
  rw [th_at, dh_at, acr_at, hrs_at, cub_at, hd_of]
  rfl
/-- Dropping the two leading axes keeps the last coordinate. -/
theorem drop_two {n0 n1 n2 : ℕ} (h : (⟨3, ![n0, n1, n2]⟩ : Shape).ReducesTo [0, 1] ⟨1, ![n2]⟩)
    (a : Fin n0) (b : Fin n1) (c : Fin n2) : h.drop (ix3 a b c) = ix1 c := by
  funext q
  match q with
  | ⟨0, _⟩ => exact Fin.ext rfl
/-- The sum over the two leading axes. -/
theorem reduce_two {n0 n1 n2 : ℕ} (h : (⟨3, ![n0, n1, n2]⟩ : Shape).ReducesTo [0, 1] ⟨1, ![n2]⟩)
    (x : (⟨3, ![n0, n1, n2]⟩ : Shape).Idx → EReal) (z : EReal) (l : Fin n2) :
    Ideal.hostReduceAdd h x z (ix1 l) = z + ∑ a, ∑ b, x (ix3 a b l) := by
  unfold Ideal.hostReduceAdd
  rw [Finset.sum_filter, sum_idx3]
  refine congrArg (z + ·) (Finset.sum_congr rfl fun a _ => Finset.sum_congr rfl fun b _ => ?_)
  refine ((Finset.sum_congr rfl fun c _ => ?_).trans (Finset.sum_ite_eq' Finset.univ l fun c => x (ix3 a b c))).trans (if_pos (Finset.mem_univ l))
  rw [drop_two]
  exact if_congr ⟨fun e => congrFun e ⟨0, Nat.zero_lt_one⟩, fun e => by rw [e]⟩ rfl rfl
theorem gw_at (o q : Wide) (l : Fin 128) :
    gwV o q (ix2 0 l) = ∑ i, ∑ j, o (ix2 i (hd j l)) * hrs (wrow o i) j * q (ix2 i (hd j l)) := by
  unfold gwV zeroV
  pointwise []
  rw [reduce_two]
  simp only [Fin.sum_univ_one]
  pointwise []
  rw [reduce_two]
  pointwise []
  simp only [hy_at, cub_at]
theorem gprj_top (u v : Wide) (d : Big) (b : Fin 512) (k : Fin 1024) : gprjV u v d (ix2 (top b) k) = ∑ i, d (ix2 i k) * u (ix2 i b) := by
  unfold gprjV
  pointwise []
  simp only [cat_top]
theorem gprj_bot (u v : Wide) (d : Big) (b : Fin 512) (k : Fin 1024) : gprjV u v d (ix2 (bot b) k) = ∑ i, d (ix2 i k) * v (ix2 i b) := by
  unfold gprjV
  pointwise []
  simp only [cat_bot]
theorem gpw_at (y g : Big) (gr gb : One) (k : Fin 1024) : gpwV y g gr gb (ix2 0 k)
    = ∑ i, y (ix2 i k) * (rs fun k => y (ix2 i k)) * dn (fun k => g (ix2 i k)) (fun k => gr (ix2 0 k)) (fun k => gb (ix2 0 k)) k := by
  unfold gpwV
  rw [colsum_at]
  refine Finset.sum_congr rfl fun i _ => ?_
  pointwise []
  rw [y_at, dn_at]
theorem ggt_at (y g : Big) (pw : One) (k : Fin 1024) : ggtV y g pw (ix2 0 k)
    = ∑ i, g (ix2 i k) * (y (ix2 i k) * (rs fun k => y (ix2 i k)) * pw (ix2 0 k)) := by
  unfold ggtV
  rw [colsum_at]
  refine Finset.sum_congr rfl fun i _ => ?_
  pointwise []
  rw [y_at, g_at, down_at]

/-- The arrays that the tail's gradient reads. -/
structure Arrs where
  o1 : Wide
  z1 : Wide
  o2 : Wide
  z2 : Wide
  nw : Lane
  w : Sq
  pw : One
  gr : One
  gb : One
  g : Big

namespace Arrs

variable (A : Arrs)

def y1 : Wide := y1V A.o1 A.z1
def y2 : Wide := y2V A.o2 A.z2 A.nw
def y : Big := prjV A.y1 A.y2 A.w
def dy : Big := gyV A.y A.g A.pw A.gr A.gb
def u : Wide := upTop A.dy A.w
def v : Wide := upBot A.dy A.w
def q : Wide := mulf A.v (siluV A.z2)

/-! The gradients. -/

def outO1 : Wide := mulf A.u (siluV A.z1)
def outZ1 : Wide := gsiluV A.z1 (mulf A.o1 A.u)
def outO2 : Wide := ghdV A.o2 A.q A.nw
def outZ2 : Wide := gsiluV A.z2 (mulf (hnV A.o2 A.nw) A.v)
def outNw : Lane := gwV A.o2 A.q
def outW : Sq := gprjV A.y1 A.y2 A.dy
def outPw : One := gpwV A.y A.g A.gr A.gb
def outGt : One := ggtV A.y A.g A.pw

end Arrs

section
variable (m : (ℓ : Loc nD τ sig) → Buf (Elt Ideal) ℓ) (c : Dev nD)

/-- The arrays at launch. -/
def arrs : Arrs :=
  ⟨m (c.tc.loc main_arg1), m (c.tc.loc main_arg2), m (c.tc.loc main_arg3), m (c.tc.loc main_arg4), m (c.tc.loc main_arg5), m (c.tc.loc main_arg6),
    m (c.tc.loc main_arg7), m (c.tc.loc main_arg8), m (c.tc.loc main_arg9), m (c.tc.loc main_arg10)⟩

theorem res_o1 : Value.res_main_v100 m c = (arrs m c).outO1 := by
  unfold Value.res_main_v100; rfl
theorem res_z1 : Value.res_main_v101 m c = (arrs m c).outZ1 := by
  unfold Value.res_main_v101; rfl
theorem res_o2 : Value.res_main_v98 m c = (arrs m c).outO2 := by
  unfold Value.res_main_v98; rfl
theorem res_z2 : Value.res_main_v75 m c = (arrs m c).outZ2 := by
  unfold Value.res_main_v75; rfl
theorem res_nw : Value.res_main_v83 m c = (arrs m c).outNw := by
  unfold Value.res_main_v83; rfl
theorem res_w : Value.res_main_v69 m c = (arrs m c).outW := by
  unfold Value.res_main_v69; rfl
theorem res_pw : Value.res_main_v51 m c = (arrs m c).outPw := by
  unfold Value.res_main_v51; rfl
theorem res_gt : Value.res_main_v48 m c = (arrs m c).outGt := by
  unfold Value.res_main_v48; rfl

end

end Cert.Proof.Tail.Ref
-- ==== Proof.TailFwd.lean ====
module

public import proofs.«01_k».proof.Proof.Tail
public import proofs.«01_k».proof.Proof.Tile
public import proofs.«01_k».proof.Proof.Gen.Kernel5Ideal.Value
public import Idealize.ShloMosaic.Lib.Pointwise
public import Idealize.ShloMosaic.Lib.Pipeline.ValueKit
public import Idealize.ShloMosaic.Lib.Pipeline.Covers

/-! The array that the tail's forward kernel leaves. -/

@[expose] public section

set_option maxRecDepth 8192
noncomputable section

namespace Cert.Proof.Tail.Fwd

open Idealize Idealize.ShloMosaic Idealize.ShloMosaic.TcCoe
open Cert.Kernel5Ideal Cert.Kernel5Ideal.Gen
open Cert.Proof.Front (Row rs)
open Cert.Proof.Tile (row row_val)

/-! ## What a point computes -/

abbrev Wide := FVec Ideal S512x512 .f32
abbrev Big := FVec Ideal S512x1024 .f32
abbrev One := FVec Ideal S1x1024 .f32
abbrev Lane := FVec Ideal S1x128 .f32
abbrev Sq := FVec Ideal S1024x1024 .f32

/-- Row `a` of a block. -/
abbrev wrow (o : Wide) (a : Fin 512) : Half := fun k => o (ix2 a k)

/-- The second branch before its product with the projection. -/
def tY2 (o z : Wide) (w : Lane) : Wide := k0_pay5 o z w (k0_pay3 o w) (k0_pay4 o)

theorem y1_at (o z : Wide) (a b : Fin 512) : k0_pay2 (F := Ideal) o z (ix2 a b) = y1 (wrow o a) (wrow z a) b := by
  pointwise [k0_pay2]
  rw [zero_sub]; rfl

theorem three : ((3 : Fin 4) : ℕ) = 3 := rfl

theorem y2_at (o z : Wide) (w : Lane) (a b : Fin 512) : tY2 o z w (ix2 a b) = y2 (wrow o a) (wrow z a) (fun l => w (ix2 0 l)) b := by
  unfold tY2
  pointwise [k0_pay5, k0_pay4, k0_pay3]
  rw [zero_sub]
  refine congrArg₂ (· * ·) ?_ rfl
  by_cases h0 : b.val < 128
  · rw [dif_pos h0]
    exact hn_case (wrow o a) (fun l => w (ix2 0 l)) b 0 ⟨b.val, h0⟩ ⟨b.val, b.isLt⟩ (fun x => ⟨x.val, by omega⟩) (by simp only [Fin.val_zero]; omega) rfl (fun x => by simp only [Fin.val_zero]; omega)
  rw [dif_neg h0]
  by_cases h1 : b.val - 128 < 128
  · rw [dif_pos h1]
    exact hn_case (wrow o a) (fun l => w (ix2 0 l)) b 1 ⟨b.val - 128, h1⟩ ⟨128 + (b.val - 128), by omega⟩ (fun x => ⟨128 + x.val, by omega⟩) (by simp only [Fin.val_one]; omega) (by simp only []; omega) (fun x => by simp only [Fin.val_one]; omega)
  rw [dif_neg h1]
  by_cases h2 : b.val - 128 - 128 < 128
  · rw [dif_pos h2]
    exact hn_case (wrow o a) (fun l => w (ix2 0 l)) b 2 ⟨b.val - 128 - 128, h2⟩ ⟨256 + (b.val - 128 - 128), by omega⟩ (fun x => ⟨256 + x.val, by omega⟩) (by simp only [Fin.val_two]; omega) (by simp only []; omega) (fun x => by simp only [Fin.val_two]; omega)
  rw [dif_neg h2]
  exact hn_case (wrow o a) (fun l => w (ix2 0 l)) b 3 ⟨b.val - 128 - 128 - 128, by omega⟩ ⟨384 + (b.val - 128 - 128 - 128), by omega⟩ (fun x => ⟨384 + x.val, by omega⟩) (by simp only [three]; omega) (by simp only []; omega) (fun x => by simp only [three]; omega)

/-- A row of the projection. -/
def yrow (o1 z1 o2 z2 : Half) (nw : Fin 128 → EReal) (w : Fin 1024 → Row) : Row := prj (y1 o1 z1) (y2 o2 z2 nw) w

theorem out_at (x : Big) (w : Sq) (pw gr gb : One) (u v : Wide) (y : Row) (a : Fin 512) (hy : prj (wrow u a) (wrow v a) (fun r k => w (ix2 r k)) = y)
    (k : Fin 1024) : k0_pay1 (F := Ideal) x w pw gr gb u v (ix2 a k)
    = out (fun k => x (ix2 a k)) y (fun k => pw (ix2 0 k)) (fun k => gr (ix2 0 k)) (fun k => gb (ix2 0 k)) k := by
  subst hy
  have e : (fun k => ∑ b : Fin 512, u (ix2 a b) * w (ix2 ⟨b.val, by omega⟩ k) + ∑ b : Fin 512, v (ix2 a b) * w (ix2 ⟨512 + b.val, by omega⟩ k))
      = prj (wrow u a) (wrow v a) (fun r k => w (ix2 r k)) :=
    funext fun k => congrArg₂ (· + ·) rfl (Finset.sum_congr rfl fun b _ => congrArg (fun r => v (ix2 a b) * w (ix2 r k)) (Fin.ext (Nat.add_comm _ _)))
  pointwise [k0_pay1]
  exact congrArg (fun y : Row => x (ix2 a k) + (gr (ix2 0 k) + gb (ix2 0 k)) * (y k * rs y * pw (ix2 0 k))) e

/-! ## The point's blocks and its result -/

variable (m : (ℓ : Loc nD τ sig) → Buf (Elt Ideal) ℓ) (c : Dev nD)

/-- A result row from the arrays at launch. -/
def res (i : Fin 8192) : Row :=
  out (fun k => m (c.tc.loc main_arg0) (ix2 i k : S8192x1024.Idx))
    (yrow (fun b => m (c.tc.loc main_arg1) (ix2 i b : S8192x512.Idx)) (fun b => m (c.tc.loc main_arg2) (ix2 i b : S8192x512.Idx))
      (fun b => m (c.tc.loc main_arg3) (ix2 i b : S8192x512.Idx)) (fun b => m (c.tc.loc main_arg4) (ix2 i b : S8192x512.Idx))
      (fun l => m (c.tc.loc main_arg5) (ix2 0 l : S1x128.Idx)) (fun r k => m (c.tc.loc main_arg6) (ix2 r k : S1024x1024.Idx)))
    (fun k => m (c.tc.loc main_arg7) (ix2 0 k : S1x1024.Idx)) (fun k => m (c.tc.loc main_arg8) (ix2 0 k : S1x1024.Idx))
    (fun k => m (c.tc.loc main_arg9) (ix2 0 k : S1x1024.Idx))

theorem coord (t : Fin cfg0.N) : (BitVec.ofNat 32 (grid0.coords t 0).val).toNat = t.val := by
  have h : t.val < 16 := lt_of_lt_of_eq t.isLt N_0
  have e := Pipeline.Grid.coords_val (G := grid0) t 0 (S := 1) (B := 16) (by decide) rfl
  rw [e, BitVec.toNat_ofNat]
  omega

/-- Point `t` as one of sixteen. -/
def six (t : Fin cfg0.N) : Fin 16 := ⟨t.val, lt_of_lt_of_eq t.isLt N_0⟩

variable (t : Fin cfg0.N) (a : Fin 512)

theorem in0 (k : Fin 1024) : iblk m c 0 t (ix2 a k : S512x1024.Idx) = m (c.tc.loc main_arg0) (ix2 (row (six t) a) k : S8192x1024.Idx) := by
  refine congrArg (V m c main_arg0) (funext fun b => Fin.ext ?_)
  refine ((cfg0.win 0).rect_emb_val t (ix2 a k : S512x1024.Idx) b).trans ?_
  match b with
  | 0 => show (BitVec.ofNat 32 (grid0.coords t 0).val).toNat * 512 + a.val = a.val + 512 * t.val; rw [coord]; omega
  | 1 => show 0 * 1024 + k.val = k.val; omega
theorem in1 (k : Fin 512) : iblk m c 1 t (ix2 a k : S512x512.Idx) = m (c.tc.loc main_arg1) (ix2 (row (six t) a) k : S8192x512.Idx) := by
  refine congrArg (V m c main_arg1) (funext fun b => Fin.ext ?_)
  refine ((cfg0.win 1).rect_emb_val t (ix2 a k : S512x512.Idx) b).trans ?_
  match b with
  | 0 => show (BitVec.ofNat 32 (grid0.coords t 0).val).toNat * 512 + a.val = a.val + 512 * t.val; rw [coord]; omega
  | 1 => show 0 * 512 + k.val = k.val; omega
theorem in2 (k : Fin 512) : iblk m c 2 t (ix2 a k : S512x512.Idx) = m (c.tc.loc main_arg2) (ix2 (row (six t) a) k : S8192x512.Idx) := by
  refine congrArg (V m c main_arg2) (funext fun b => Fin.ext ?_)
  refine ((cfg0.win 2).rect_emb_val t (ix2 a k : S512x512.Idx) b).trans ?_
  match b with
  | 0 => show (BitVec.ofNat 32 (grid0.coords t 0).val).toNat * 512 + a.val = a.val + 512 * t.val; rw [coord]; omega
  | 1 => show 0 * 512 + k.val = k.val; omega
theorem in3 (k : Fin 512) : iblk m c 3 t (ix2 a k : S512x512.Idx) = m (c.tc.loc main_arg3) (ix2 (row (six t) a) k : S8192x512.Idx) := by
  refine congrArg (V m c main_arg3) (funext fun b => Fin.ext ?_)
  refine ((cfg0.win 3).rect_emb_val t (ix2 a k : S512x512.Idx) b).trans ?_
  match b with
  | 0 => show (BitVec.ofNat 32 (grid0.coords t 0).val).toNat * 512 + a.val = a.val + 512 * t.val; rw [coord]; omega
  | 1 => show 0 * 512 + k.val = k.val; omega
theorem in4 (k : Fin 512) : iblk m c 4 t (ix2 a k : S512x512.Idx) = m (c.tc.loc main_arg4) (ix2 (row (six t) a) k : S8192x512.Idx) := by
  refine congrArg (V m c main_arg4) (funext fun b => Fin.ext ?_)
  refine ((cfg0.win 4).rect_emb_val t (ix2 a k : S512x512.Idx) b).trans ?_
  match b with
  | 0 => show (BitVec.ofNat 32 (grid0.coords t 0).val).toNat * 512 + a.val = a.val + 512 * t.val; rw [coord]; omega
  | 1 => show 0 * 512 + k.val = k.val; omega
theorem in5 (k : Fin 128) : iblk m c 5 t (ix2 0 k : S1x128.Idx) = m (c.tc.loc main_arg5) (ix2 0 k : S1x128.Idx) := by
  refine congrArg (V m c main_arg5) (funext fun b => Fin.ext ?_)
  refine ((cfg0.win 5).rect_emb_val t (ix2 0 k : S1x128.Idx) b).trans ?_
  match b with
  | 0 => show 0 * 1 + 0 = 0; omega
  | 1 => show 0 * 128 + k.val = k.val; omega
theorem in7 (k : Fin 1024) : iblk m c 7 t (ix2 0 k : S1x1024.Idx) = m (c.tc.loc main_arg7) (ix2 0 k : S1x1024.Idx) := by
  refine congrArg (V m c main_arg7) (funext fun b => Fin.ext ?_)
  refine ((cfg0.win 7).rect_emb_val t (ix2 0 k : S1x1024.Idx) b).trans ?_
  match b with
  | 0 => show 0 * 1 + 0 = 0; omega
  | 1 => show 0 * 1024 + k.val = k.val; omega
theorem in8 (k : Fin 1024) : iblk m c 8 t (ix2 0 k : S1x1024.Idx) = m (c.tc.loc main_arg8) (ix2 0 k : S1x1024.Idx) := by
  refine congrArg (V m c main_arg8) (funext fun b => Fin.ext ?_)
  refine ((cfg0.win 8).rect_emb_val t (ix2 0 k : S1x1024.Idx) b).trans ?_
  match b with
  | 0 => show 0 * 1 + 0 = 0; omega
  | 1 => show 0 * 1024 + k.val = k.val; omega
theorem in9 (k : Fin 1024) : iblk m c 9 t (ix2 0 k : S1x1024.Idx) = m (c.tc.loc main_arg9) (ix2 0 k : S1x1024.Idx) := by
  refine congrArg (V m c main_arg9) (funext fun b => Fin.ext ?_)
  refine ((cfg0.win 9).rect_emb_val t (ix2 0 k : S1x1024.Idx) b).trans ?_
  match b with
  | 0 => show 0 * 1 + 0 = 0; omega
  | 1 => show 0 * 1024 + k.val = k.val; omega
theorem in6 (r k : Fin 1024) : iblk m c 6 t (ix2 r k : S1024x1024.Idx) = m (c.tc.loc main_arg6) (ix2 r k : S1024x1024.Idx) := by
  refine congrArg (V m c main_arg6) (funext fun b => Fin.ext ?_)
  refine ((cfg0.win 6).rect_emb_val t (ix2 r k : S1024x1024.Idx) b).trans ?_
  match b with
  | 0 => show 0 * 1024 + r.val = r.val; omega
  | 1 => show 0 * 1024 + k.val = k.val; omega

theorem ld_x (X : Vec Ideal S512x1024 .f32) : View.ld (Val := Elt Ideal) X r0_0 = X := View.ld_unit_lit (Val := Elt Ideal) (S := S512x1024) (e := .f32) _ X (by decide)
theorem ld_o (X : Vec Ideal S512x512 .f32) : View.ld (Val := Elt Ideal) X r0_1 = X := View.ld_unit_lit (Val := Elt Ideal) (S := S512x512) (e := .f32) _ X (by decide)
theorem ld_n (X : Vec Ideal S1x128 .f32) : View.ld (Val := Elt Ideal) X r0_2 = X := View.ld_unit_lit (Val := Elt Ideal) (S := S1x128) (e := .f32) _ X (by decide)
theorem ld_w (X : Vec Ideal S1024x1024 .f32) : View.ld (Val := Elt Ideal) X r0_3 = X := View.ld_unit_lit (Val := Elt Ideal) (S := S1024x1024) (e := .f32) _ X (by decide)
theorem ld_p (X : Vec Ideal S1x1024 .f32) : View.ld (Val := Elt Ideal) X r0_4 = X := View.ld_unit_lit (Val := Elt Ideal) (S := S1x1024) (e := .f32) _ X (by decide)

theorem point_at (o1 z1 o2 z2 : Wide) (nw : Lane) (w : Sq) (pw gr gb : One) (x : Big) (k : Fin 1024) :
    k0_pay1 (F := Ideal) x w pw gr gb (k0_pay2 (F := Ideal) o1 z1) (k0_pay5 (F := Ideal) o2 z2 nw (k0_pay3 (F := Ideal) o2 nw) (k0_pay4 (F := Ideal) o2)) (ix2 a k)
    = out (fun k => x (ix2 a k)) (yrow (wrow o1 a) (wrow z1 a) (wrow o2 a) (wrow z2 a) (fun l => nw (ix2 0 l)) fun r k => w (ix2 r k))
      (fun k => pw (ix2 0 k)) (fun k => gr (ix2 0 k)) (fun k => gb (ix2 0 k)) k := by
  refine out_at x w pw gr gb _ (tY2 o2 z2 nw) _ a ?_ k
  unfold yrow
  exact congrArg₂ (fun u v => prj u v fun r k => w (ix2 r k)) (funext fun b => y1_at o1 z1 a b) (funext fun b => y2_at o2 z2 nw a b)

theorem after_at (k : Fin 1024) : (dats m 0 c).after 10 t (ix2 a k : S512x1024.Idx) = res m c (row (six t) a) k := by
  rw [after0_10]
  unfold out0_10
  refine (congrFun (View.canon_cons_unit_lit _ _ _ (by decide)) _).trans ?_
  simp only [ld_x, ld_o, ld_n, ld_w, ld_p]
  refine (point_at a (iblk m c 1 t) (iblk m c 2 t) (iblk m c 3 t) (iblk m c 4 t) (iblk m c 5 t) (iblk m c 6 t) (iblk m c 7 t) (iblk m c 8 t) (iblk m c 9 t) (iblk m c 0 t) k).trans ?_
  unfold res wrow
  simp only [in0, in1, in2, in3, in4, in5, in6, in7, in8, in9]

omit t a
theorem arr (G : FVec Ideal S8192x1024 .f32) (hG : ∀ (i : Fin 8192) (b : Fin 1024), G (ix2 i b) = res m c i b) :
    (dats m 0 c).arrAt 10 cfg0.N = G := by
  refine (dats m 0 c).arrAt_eq_of_covers 10 G (by decide +kernel) fun t hf y => ?_
  obtain ⟨a, ha⟩ : ∃ a : Fin 512, a.val = (y 0).val := ⟨y 0, rfl⟩
  obtain ⟨b, hb⟩ : ∃ b : Fin 1024, b.val = (y 1).val := ⟨y 1, rfl⟩
  have he : ((cfg0.win 10).blk t).view.emb y = (ix2 (row (six t) a) b : S8192x1024.Idx) := by
    funext k
    refine Fin.ext (((cfg0.win 10).rect_emb_val t y k).trans ?_)
    match k with
    | 0 => show (BitVec.ofNat 32 (grid0.coords t 0).val).toNat * 512 + (y 0).val = a.val + 512 * t.val; rw [coord]; omega
    | 1 => show 0 * 1024 + (y 1).val = b.val; omega
  have hy : (cfg0.win 10).xinj (cfg0.grid.coords t) y = (ix2 a b : (S512x1024).Idx) := by
    funext k
    match k with
    | 0 => exact Fin.ext ha.symm
    | 1 => exact Fin.ext hb.symm
  refine Eq.trans ?_ ((congrArg G he).trans (hG _ b)).symm
  exact (cast_eq _ _).trans ((congrArg ((dats m 0 c).after 10 t) hy).trans (after_at m c t a b))

end Cert.Proof.Tail.Fwd
-- ==== Proof.TailSame.lean ====
module

public import proofs.«01_k».proof.Proof.TailRef
public import proofs.«01_k».proof.Proof.TailFinal
public import proofs.«01_k».proof.Proof.TailFwd
public import proofs.«01_k».proof.Proof.Gen.Reference5Ideal
public import proofs.«01_k».proof.Proof.Gen.Reference5Ideal.Run

/-! The tail's kernels leave what its references compute. -/

@[expose] public section

set_option maxRecDepth 16384
noncomputable section

namespace Cert.Proof.Tail

open Idealize Idealize.ShloMosaic Idealize.ShloMosaic.TcCoe
open Cert.Proof.Front (Row rs)

namespace Ref.Arrs

variable (A : Ref.Arrs)

/-- The rows of the arrays. -/
def rows : Rows 8192 where
  o1 i b := A.o1 (ix2 i b)
  z1 i b := A.z1 (ix2 i b)
  o2 i b := A.o2 (ix2 i b)
  z2 i b := A.z2 (ix2 i b)
  nw l := A.nw (ix2 0 l)
  w r k := A.w (ix2 r k)
  pw k := A.pw (ix2 0 k)
  gr k := A.gr (ix2 0 k)
  gb k := A.gb (ix2 0 k)
  g i k := A.g (ix2 i k)

variable (i : Fin 8192) (b : Fin 512) (k : Fin 1024)

theorem y1_at : A.y1 (ix2 i b) = A.rows.u1 i b := Ref.y1_at A.o1 A.z1 i b
theorem y2_at : A.y2 (ix2 i b) = A.rows.u2 i b := Ref.y2_at A.o2 A.z2 A.nw i b
theorem y_row : (fun k => A.y (ix2 i k)) = A.rows.yr i := by
  funext k
  refine (Ref.prj_at A.y1 A.y2 A.w i k).trans ?_
  have e1 : Ref.wrow A.y1 i = A.rows.u1 i := funext fun b => A.y1_at i b
  have e2 : Ref.wrow A.y2 i = A.rows.u2 i := funext fun b => A.y2_at i b
  rw [e1, e2]
  rfl
theorem y_at : A.y (ix2 i k) = A.rows.yr i k := congrFun (A.y_row i) k
theorem dy_row : (fun k => A.dy (ix2 i k)) = A.rows.dr i := by
  funext k
  refine (Ref.gy_at A.y A.g A.pw A.gr A.gb i k).trans ?_
  rw [A.y_row]
  rfl
theorem dy_at : A.dy (ix2 i k) = A.rows.dr i k := congrFun (A.dy_row i) k
theorem u_at : A.u (ix2 i b) = A.rows.d1 i b := by
  refine (Ref.upTop_at A.dy A.w i b).trans ?_
  rw [A.dy_row]
  rfl
theorem v_at : A.v (ix2 i b) = A.rows.d2 i b := by
  refine (Ref.upBot_at A.dy A.w i b).trans ?_
  rw [A.dy_row]
  rfl
theorem q_row : Ref.wrow A.q i = A.rows.q2 i := by
  funext b
  show A.v (ix2 i b) * Ref.siluV A.z2 (ix2 i b) = _
  rw [A.v_at, Ref.silu_at]
  rfl
theorem outO1_at : A.outO1 (ix2 i b) = A.rows.go1 i b := by
  show A.u (ix2 i b) * Ref.siluV A.z1 (ix2 i b) = _
  rw [A.u_at, Ref.silu_at]
  rfl
theorem outZ1_at : A.outZ1 (ix2 i b) = A.rows.gz1 i b := by
  refine (Ref.gsilu_at A.z1 _ i b).trans ?_
  show gsilu _ (A.o1 (ix2 i b) * A.u (ix2 i b)) = _
  rw [A.u_at]
  rfl
theorem outO2_at : A.outO2 (ix2 i b) = A.rows.go2 i b := by
  refine (Ref.ghd_at A.o2 A.q A.nw i b).trans ?_
  rw [A.q_row]
  rfl
theorem outZ2_at : A.outZ2 (ix2 i b) = A.rows.gz2 i b := by
  refine (Ref.gsilu_at A.z2 _ i b).trans ?_
  show gsilu _ (Ref.hnV A.o2 A.nw (ix2 i b) * A.v (ix2 i b)) = _
  rw [A.v_at, Ref.hn_at]
  rfl
theorem outNw_at (l : Fin 128) : A.outNw (ix2 0 l) = ∑ i, A.rows.tnw i l := by
  refine (Ref.gw_at A.o2 A.q l).trans (Finset.sum_congr rfl fun i _ => Finset.sum_congr rfl fun j _ => ?_)
  exact congrArg (fun q : Half => A.o2 (ix2 i (hd j l)) * hrs (Ref.wrow A.o2 i) j * q (hd j l)) (A.q_row i)
theorem outW_top : A.outW (ix2 (top b) k) = ∑ i, A.rows.twt i b k := by
  refine (Ref.gprj_top A.y1 A.y2 A.dy b k).trans (Finset.sum_congr rfl fun i _ => ?_)
  rw [A.dy_at, A.y1_at]
  exact mul_comm _ _
theorem outW_bot : A.outW (ix2 (bot b) k) = ∑ i, A.rows.twb i b k := by
  refine (Ref.gprj_bot A.y1 A.y2 A.dy b k).trans (Finset.sum_congr rfl fun i _ => ?_)
  rw [A.dy_at, A.y2_at]
  exact mul_comm _ _
theorem outPw_at : A.outPw (ix2 0 k) = ∑ i, A.rows.tpw i k := by
  refine (Ref.gpw_at A.y A.g A.gr A.gb k).trans (Finset.sum_congr rfl fun i _ => ?_)
  rw [A.y_row, A.y_at]
  rfl
theorem outGt_at : A.outGt (ix2 0 k) = ∑ i, A.rows.tgt i k := by
  refine (Ref.ggt_at A.y A.g A.pw k).trans (Finset.sum_congr rfl fun i _ => ?_)
  rw [A.y_row, A.y_at]
  rfl

end Ref.Arrs

namespace Final

open Cert.Kernel4Ideal

variable (m : (ℓ : Loc nD τ sig) → Buf (Elt Ideal) ℓ) (c : Dev nD)

/-- The arrays at launch, in the reference's form. -/
def arrs : Ref.Arrs :=
  ⟨m (c.tc.loc main_arg1), m (c.tc.loc main_arg2), m (c.tc.loc main_arg3), m (c.tc.loc main_arg4), m (c.tc.loc main_arg5), m (c.tc.loc main_arg6),
    m (c.tc.loc main_arg7), m (c.tc.loc main_arg8), m (c.tc.loc main_arg9), m (c.tc.loc main_arg10)⟩

theorem rows_eq : rows m c = (arrs m c).rows := rfl

end Final

namespace Fwd

/-- What the reference of the forward pass computes. -/
def val (x : Cert.Proof.Front.Ref.Big) (o1 z1 o2 z2 : Ref.Wide) (nw : Ref.Lane) (w : Ref.Sq) (pw gr gb : Cert.Proof.Front.Ref.One) : Cert.Proof.Front.Ref.Big :=
  Ref.outV x (Ref.prjV (Ref.y1V o1 z1) (Ref.y2V o2 z2 nw) w) pw gr gb

theorem val_at (x : Cert.Proof.Front.Ref.Big) (o1 z1 o2 z2 : Ref.Wide) (nw : Ref.Lane) (w : Ref.Sq) (pw gr gb : Cert.Proof.Front.Ref.One) (i : Fin 8192) (k : Fin 1024) :
    val x o1 z1 o2 z2 nw w pw gr gb (ix2 i k) = out (fun k => x (ix2 i k)) (yrow (Ref.wrow o1 i) (Ref.wrow z1 i) (Ref.wrow o2 i) (Ref.wrow z2 i)
      (fun l => nw (ix2 0 l)) fun r k => w (ix2 r k)) (fun k => pw (ix2 0 k)) (fun k => gr (ix2 0 k)) (fun k => gb (ix2 0 k)) k := by
  refine (Ref.out_at _ _ _ _ _ i k).trans ?_
  refine congrArg (fun y : Row => out (fun k => x (ix2 i k)) y (fun k => pw (ix2 0 k)) (fun k => gr (ix2 0 k)) (fun k => gb (ix2 0 k)) k) (funext fun k => ?_)
  refine (Ref.prj_at _ _ w i k).trans ?_
  unfold yrow
  exact congrArg₂ (fun u v => prj u v (fun r k => w (ix2 r k)) k) (funext fun b => Ref.y1_at o1 z1 i b) (funext fun b => Ref.y2_at o2 z2 nw i b)

open Cert.Reference5Ideal Cert.Reference5Ideal.Gen in
theorem res_val (m : (ℓ : Loc nD τ sig) → Buf (Elt Ideal) ℓ) (c : Dev nD) : Value.res_main_v36 m c
    = val (m (c.tc.loc main_arg0)) (m (c.tc.loc main_arg1)) (m (c.tc.loc main_arg2)) (m (c.tc.loc main_arg3)) (m (c.tc.loc main_arg4)) (m (c.tc.loc main_arg5))
      (m (c.tc.loc main_arg6)) (m (c.tc.loc main_arg7)) (m (c.tc.loc main_arg8)) (m (c.tc.loc main_arg9)) := by
  unfold Value.res_main_v36; rfl

end Fwd

end Cert.Proof.Tail
-- ==== Proof.Fold.lean ====
module

public import proofs.«01_k».proof.Proof.Tile
public import proofs.«01_k».proof.Proof.Data

/-! What a grid point of the backward call leaves, on real inputs: the tiles below the diagonal and the one on it, each
    added once. -/

@[expose] public section

noncomputable section

namespace Cert.Proof.Fold

open Idealize Idealize.ShloMosaic Idealize.ShloMosaic.TcCoe
open Cert.KernelIdeal Cert.KernelIdeal.Gen
open Cert.Proof.Math Cert.Proof.Tile Cert.Proof.Bwd

/-! ## Block rows, entry by entry -/

section Rows
variable {F : FTy → Type}

theorem rowQ_at {e : EltTy} (X : Vec F S8192x256 e) (r : Fin 16) (a : Fin 512) (d : Fin 256) : rowQ X r (ix2 a d) = X (ix2 (row r a) d) := by
  refine congrArg X (funext fun k => Fin.ext ?_)
  match k with
  | 0 => show 512 * r.val + 1 * a.val = a.val + 512 * r.val; omega
  | 1 => show 0 + 1 * d.val = d.val; omega

theorem rowD_at {e : EltTy} (X : Vec F S8192x128 e) (r : Fin 16) (a : Fin 512) (d : Fin 128) : rowD X r (ix2 a d) = X (ix2 (row r a) d) := by
  refine congrArg X (funext fun k => Fin.ext ?_)
  match k with
  | 0 => show 512 * r.val + 1 * a.val = a.val + 512 * r.val; omega
  | 1 => show 0 + 1 * d.val = d.val; omega

theorem rowL_at (X : Vec F S1x8x8192 .f32) (r : Fin 16) (a : Fin 512) : rowL X r (ix3 0 0 a) = X (ix3 0 0 (row r a)) := by
  refine congrArg X (funext fun k => Fin.ext ?_)
  match k with
  | 0 => rfl
  | 1 => rfl
  | 2 => show 512 * r.val + 1 * a.val = a.val + 512 * r.val; omega

theorem rowI_at (X : Vec F S8x8192 .f32) (r : Fin 16) (a : Fin 512) : rowI X r (ix2 0 a) = X (ix2 0 (row r a)) := by
  refine congrArg X (funext fun k => Fin.ext ?_)
  match k with
  | 0 => rfl
  | 1 => show 512 * r.val + 1 * a.val = a.val + 512 * r.val; omega

theorem setQ_same (X : Vec F S8192x256 .f32) (r : Fin 16) (w : Vec F S512x256 .f32) (a : Fin 512) (d : Fin 256) : setQ X r w (ix2 (row r a) d) = w (ix2 a d) := by
  exact (rowQ_at (setQ X r w) r a d).symm.trans (congrFun (VecWindow.window_put_same X _ _ (rowQ_inb r) w) _)

theorem setQ_other (X : Vec F S8192x256 .f32) {r s : Fin 16} (hrs : s ≠ r) (w : Vec F S512x256 .f32) (a : Fin 512) (d : Fin 256) : setQ X r w (ix2 (row s a) d) = X (ix2 (row s a) d) := by
  refine dif_neg fun hy => ?_
  have h0 : 512 * r.val ≤ a.val + 512 * s.val ∧ a.val + 512 * s.val < 512 * r.val + 512 := hy 0
  have := a.isLt
  exact hrs (Fin.ext (by omega))
end Rows

/-! ## The sweep over the block rows -/

variable {x : Inp} {h : Fin 4} {j : Fin 16} {base : Fin 16 → Fin 512 → Fin 256 → ℝ}

/-- The three gradients once the block rows in `R` are added. -/
structure Is (x : Inp) (h : Fin 4) (j : Fin 16) (base : Fin 16 → Fin 512 → Fin 256 → ℝ) (R : Finset (Fin 16)) (S : Outs Ideal) : Prop where
  dq : ∀ r a d, S.dq (ix2 (row r a) d) = ((base r a d + if r ∈ R then cq x h j r a d else 0 : ℝ) : EReal)
  dk : ∀ b d, S.dk (ix2 b d) = ((∑ r ∈ R, ck x h j r b d : ℝ) : EReal)
  dv : ∀ b d, S.dv (ix2 b d) = ((∑ r ∈ R, cv x h j r b d : ℝ) : EReal)

/-- What a grid point of key block `j` reads. -/
def Good (x : Inp) (h : Fin 4) (j : Fin 16) (I : Ins Ideal) : Prop :=
  ∀ r : Fin 16, Reads x h j r I.k (rowQ I.q r) I.v (rowD I.d16 r) (rowL I.lse r) (rowI I.dl r)

variable {I : Ins Ideal} (hI : Good x h j I) {R R' : Finset (Fin 16)} {S : Outs Ideal} {r : Fin 16}

theorem dq_insert (hS : Is x h j base R S) (hr : r ∉ R) (w : FVec Ideal S512x256 .f32)
    (hw : ∀ a d, w (ix2 a d) = rowQ S.dq r (ix2 a d) + (cq x h j r a d : EReal)) (s : Fin 16) (a : Fin 512) (d : Fin 256) :
    setQ S.dq r w (ix2 (row s a) d) = ((base s a d + if s ∈ insert r R then cq x h j s a d else 0 : ℝ) : EReal) := by
  by_cases hs : s = r
  · subst hs
    rw [setQ_same, hw, rowQ_at, hS.dq, ← EReal.coe_add, if_neg hr, if_pos (Finset.mem_insert_self _ _), add_zero]
  · rw [setQ_other _ hs, hS.dq]
    simp only [Finset.mem_insert, hs, false_or]

include hI

theorem step_is (hjr : j < r) (hr : r ∉ R) (hR : R' = insert r R) (hS : Is x h j base R S) : Is x h j base R' (step I r S) := by
  subst hR
  refine ⟨dq_insert hS hr _ fun a d => dq_below (hI r) hjr _ a d, fun b d => ?_, fun b d => ?_⟩
  · refine (dk_below (hI r) hjr _ b d).trans ?_
    rw [hS.dk, ← EReal.coe_add, Finset.sum_insert hr, add_comm]
  · refine (dv_below (hI r) hjr _ b d).trans ?_
    rw [hS.dv, ← EReal.coe_add, Finset.sum_insert hr, add_comm]

theorem diag_is (hr : j ∉ R) (hR : R' = insert j R) (hS : Is x h j base R S) : Is x h j base R' (diag I j S) := by
  subst hR
  refine ⟨dq_insert hS hr _ fun a d => dq_diag (hI j) rfl _ a d, fun b d => ?_, fun b d => ?_⟩
  · refine (dk_diag (hI j) rfl _ b d).trans ?_
    rw [hS.dk, ← EReal.coe_add, Finset.sum_insert hr, add_comm]
  · refine (dv_diag (hI j) rfl _ b d).trans ?_
    rw [hS.dv, ← EReal.coe_add, Finset.sum_insert hr, add_comm]

theorem up_is (hS : Is x h j base {j} S) : ∀ n, j.val + n < 16 →
    Is x h j base (Finset.univ.filter fun r : Fin 16 => j.val ≤ r.val ∧ r.val < j.val + 1 + n) (up I (j.val + 1) n S)
  | 0, _ => by
    have : (Finset.univ.filter fun r : Fin 16 => j.val ≤ r.val ∧ r.val < j.val + 1 + 0) = {j} := by
      ext r; simp only [Finset.mem_filter, Finset.mem_univ, true_and, Finset.mem_singleton, Fin.ext_iff]; omega
    rw [this]; exact hS
  | n + 1, hn => by
    have hb : (blk (j.val + 1 + n)).val = j.val + 1 + n := blk_val (by omega)
    refine step_is hI (R := Finset.univ.filter fun r : Fin 16 => j.val ≤ r.val ∧ r.val < j.val + 1 + n) ?_ ?_ ?_ (up_is hS n (by omega))
    · rw [Fin.lt_def, hb]; omega
    · simp only [Finset.mem_filter, hb]; omega
    · ext r; simp only [Finset.mem_filter, Finset.mem_univ, true_and, Finset.mem_insert, Fin.ext_iff, hb]; omega

theorem down_is {t : ℕ} (ht : j.val < t) (hS : Is x h j base (Finset.univ.filter fun r : Fin 16 => j.val ≤ r.val ∧ r.val < t) S) : ∀ n, t + n ≤ 16 →
    Is x h j base (Finset.univ.filter fun r : Fin 16 => j.val ≤ r.val ∧ (r.val < t ∨ 16 - n ≤ r.val)) (down I n S)
  | 0, _ => by
    have : (Finset.univ.filter fun r : Fin 16 => j.val ≤ r.val ∧ (r.val < t ∨ 16 - 0 ≤ r.val)) = Finset.univ.filter fun r : Fin 16 => j.val ≤ r.val ∧ r.val < t := by
      ext r; have := r.isLt; simp only [Finset.mem_filter, Finset.mem_univ, true_and]; omega
    rw [this]; exact hS
  | n + 1, hn => by
    have hb : (blk (15 - n)).val = 15 - n := blk_val (by omega)
    refine step_is hI (R := Finset.univ.filter fun r : Fin 16 => j.val ≤ r.val ∧ (r.val < t ∨ 16 - n ≤ r.val)) ?_ ?_ ?_ (down_is ht hS n (by omega))
    · rw [Fin.lt_def, hb]; omega
    · simp only [Finset.mem_filter, hb]; omega
    · ext r; have := r.isLt; simp only [Finset.mem_filter, Finset.mem_univ, true_and, Finset.mem_insert, Fin.ext_iff, hb]; omega

theorem sweep_is (hS : Is x h j base ∅ S) : Is x h j base (Finset.univ.filter fun r : Fin 16 => j ≤ r) (sweep I j.val S) := by
  have hj := j.isLt
  have hb : blk j.val = j := Fin.ext (blk_val hj)
  have h1 : Is x h j base {j} (diag I (blk j.val) S) := by
    rw [hb]; exact diag_is hI (Finset.notMem_empty j) rfl hS
  have h2 := up_is hI h1 (4 * ((15 - j.val) / 4)) (by omega)
  have h3 := down_is hI (by omega) h2 ((15 - j.val) % 4) (by omega)
  have : (Finset.univ.filter fun r : Fin 16 => j.val ≤ r.val ∧ (r.val < j.val + 1 + 4 * ((15 - j.val) / 4) ∨ 16 - (15 - j.val) % 4 ≤ r.val)) = Finset.univ.filter fun r : Fin 16 => j ≤ r := by
    ext r; simp only [Finset.mem_filter, Finset.mem_univ, true_and, Fin.le_def]; omega
  rw [this] at h3
  exact h3

omit hI

/-! ## The block rows above the diagonal add nothing -/

theorem row_lt (hjr : r < j) (a b : Fin 512) : row r a < row j b := by
  rw [Fin.lt_def] at hjr ⊢
  rw [row_val, row_val]
  have := a.isLt
  omega

theorem cq_above (hjr : r < j) (a : Fin 512) (d : Fin 256) : cq x h j r a d = 0 :=
  Finset.sum_eq_zero fun b _ => by rw [ds_of_lt x h (row_lt hjr a b), zero_mul]
theorem ck_above (hjr : r < j) (b : Fin 512) (d : Fin 256) : ck x h j r b d = 0 :=
  Finset.sum_eq_zero fun a _ => by rw [ds_of_lt x h (row_lt hjr a b), zero_mul]
theorem cv_above (hjr : r < j) (b : Fin 512) (d : Fin 128) : cv x h j r b d = 0 :=
  Finset.sum_eq_zero fun a _ => by rw [p_of_lt x h (row_lt hjr a b), zero_mul]

theorem sum_below (f : Fin 16 → ℝ) (hf : ∀ r, r < j → f r = 0) : ∑ r ∈ Finset.univ.filter (fun r : Fin 16 => j ≤ r), f r = ∑ r, f r :=
  Finset.sum_subset (Finset.filter_subset _ _) fun r _ hr => hf r (by
    simp only [Finset.mem_filter, Finset.mem_univ, true_and, not_le] at hr; exact hr)

/-! ## A grid point -/

include hI

theorem swept {Q : Vec Ideal S8192x256 .f32} (hQ : ∀ r a d, Q (ix2 (row r a) d) = (base r a d : EReal)) :
    Is x h j base (Finset.univ.filter fun r : Fin 16 => j ≤ r) (sweep I j.val ⟨Q, k0_pay49 (F := Ideal), k0_pay50 (F := Ideal)⟩) :=
  sweep_is hI ⟨fun r a d => (hQ r a d).trans (by simp), fun b d => (pay49_apply (ix2 b d)).trans (by simp), fun b d => (pay50_apply (ix2 b d)).trans (by simp)⟩

theorem point_dq {Q : Vec Ideal S8192x256 .f32} (hQ : ∀ r a d, Q (ix2 (row r a) d) = (base r a d : EReal)) (r : Fin 16) (a : Fin 512) (d : Fin 256) :
    (point I j.val Q).dq (ix2 (row r a) d) = (((base r a d + cq x h j r a d) * (if j.val = 15 then (√192)⁻¹ else 1) : ℝ) : EReal) := by
  have hs := (swept hI hQ).dq r a d
  have hc : (if r ∈ Finset.univ.filter (fun r : Fin 16 => j ≤ r) then cq x h j r a d else 0) = cq x h j r a d := by
    by_cases hjr : j ≤ r
    · rw [if_pos (by simpa using hjr)]
    · rw [if_neg (by simpa using hjr), cq_above (not_le.mp hjr)]
  rw [hc] at hs
  unfold point
  dsimp only
  by_cases h15 : j.val = 15
  · rw [if_pos h15, if_pos h15, pay1_apply, hs, ← EReal.coe_mul]
  · rw [if_neg h15, if_neg h15, hs, mul_one]

theorem point_dk {Q : Vec Ideal S8192x256 .f32} (hQ : ∀ r a d, Q (ix2 (row r a) d) = (base r a d : EReal)) (b : Fin 512) (d : Fin 256) :
    (point I j.val Q).dk (ix2 b d) = (gk x h (row j b) d : EReal) := by
  have hs := (swept hI hQ).dk b d
  rw [sum_below _ fun r hr => ck_above hr b d] at hs
  unfold point
  dsimp only
  rw [pay70_apply, hs, ← EReal.coe_mul]
  simp only [ck, gk]
  rw [sum_row (fun i => ds x h i (row j b) * x.q h i d), div_eq_mul_inv]

theorem point_dv {Q : Vec Ideal S8192x256 .f32} (hQ : ∀ r a d, Q (ix2 (row r a) d) = (base r a d : EReal)) (b : Fin 512) (d : Fin 128) :
    (point I j.val Q).dv (ix2 b d) = (gv x h (row j b) d : EReal) := by
  have hs := (swept hI hQ).dv b d
  rw [sum_below _ fun r hr => cv_above hr b d] at hs
  unfold point
  dsimp only
  rw [hs]
  simp only [cv, gv]
  rw [sum_row (fun i => p x h i (row j b) * x.g h i d)]

omit hI

/-! ## What is read, from the whole arrays -/

/-- The arrays hold the inputs and what the forward pass saved. -/
structure Full (x : Inp) (A : Arrays Ideal) : Prop where
  inp : Attn.Holds x A.q A.k A.v A.dO
  lse : ∀ h e i, A.lse (ix3 h e i) = ((Real.log (Z x h i) / Real.log 2 : ℝ) : EReal)
  o : ∀ (h : Fin 4) (i : Fin 8192) (d : Fin 128) (hd : h.val * 128 + d.val < 512), A.o (ix2 i ⟨h.val * 128 + d.val, hd⟩) = (o x h i d : EReal)

theorem headD_at {F : FTy → Type} {e : EltTy} (X : Vec F S8192x512 e) (h : Fin 4) (i : Fin 8192) (d : Fin 128) (hd : h.val * 128 + d.val < 512) :
    headD X h (ix2 i d) = X (ix2 i ⟨h.val * 128 + d.val, hd⟩) := by
  refine congrArg X (funext fun k => Fin.ext ?_)
  match k with
  | 0 => show 0 + 1 * i.val = i.val; omega
  | 1 => show 128 * h.val + 1 * d.val = h.val * 128 + d.val; omega

theorem headQ_at {F : FTy → Type} {e : EltTy} (X : Vec F S8192x1024 e) (h : Fin 4) (i : Fin 8192) (d : Fin 256) (hd : h.val * 256 + d.val < 1024) :
    headQ X h (ix2 i d) = X (ix2 i ⟨h.val * 256 + d.val, hd⟩) := by
  refine congrArg X (funext fun k => Fin.ext ?_)
  match k with
  | 0 => show 0 + 1 * i.val = i.val; omega
  | 1 => show 256 * h.val + 1 * d.val = h.val * 256 + d.val; omega

theorem headL_at {F : FTy → Type} (X : Vec F S4x8x8192 .f32) (h : Fin 4) (i : Fin 8192) : headL X h (ix3 0 0 i) = X (ix3 h 0 i) := by
  refine congrArg X (funext fun k => Fin.ext ?_)
  match k with
  | 0 => rfl
  | 1 => rfl
  | 2 => show 0 + 1 * i.val = i.val; omega

theorem blkK_at {F : FTy → Type} {e : EltTy} (X : Vec F S8192x1024 e) (h : Fin 4) (j : Fin 16) (b : Fin 512) (d : Fin 256) (hd : h.val * 256 + d.val < 1024) :
    blkK X h j (ix2 b d) = X (ix2 (row j b) ⟨h.val * 256 + d.val, hd⟩) := by
  refine congrArg X (funext fun k => Fin.ext ?_)
  match k with
  | 0 => show 512 * j.val + 1 * b.val = b.val + 512 * j.val; omega
  | 1 => show 256 * h.val + 1 * d.val = h.val * 256 + d.val; omega

theorem blkV_at {F : FTy → Type} {e : EltTy} (X : Vec F S8192x512 e) (h : Fin 4) (j : Fin 16) (b : Fin 512) (d : Fin 128) (hd : h.val * 128 + d.val < 512) :
    blkV X h j (ix2 b d) = X (ix2 (row j b) ⟨h.val * 128 + d.val, hd⟩) := by
  refine congrArg X (funext fun k => Fin.ext ?_)
  match k with
  | 0 => show 512 * j.val + 1 * b.val = b.val + 512 * j.val; omega
  | 1 => show 128 * h.val + 1 * d.val = h.val * 128 + d.val; omega

theorem stageD_at (dO : Vec Ideal S8192x128 .f32) (X : Vec Ideal S8192x128 .bf16) (r : Fin 16) (a : Fin 512) (d : Fin 128) : ∀ n, n ≤ 16 → r.val < n →
    stageD dO n X (ix2 (row r a) d) = dO (ix2 (row r a) d)
  | 0, _, hr => absurd hr (by omega)
  | n + 1, hn, hr => by
    have hb : (blk n).val = n := blk_val (by omega)
    by_cases hrn : r = blk n
    · subst hrn
      have := congrFun (VecWindow.window_put_same (stageD dO n X) _ _ (rowD_inb (blk n)) (k0_pay48 (F := Ideal) (rowD dO (blk n)))) (ix2 a d)
      refine (rowD_at (stageD dO (n + 1) X) (blk n) a d).symm.trans (this.trans ?_)
      exact (pay48_apply _ _).trans (rowD_at dO (blk n) a d)
    · refine Eq.trans (dif_neg fun hy => ?_) (stageD_at dO X r a d n (by omega) ?_)
      · have h0 : 512 * (blk n).val ≤ a.val + 512 * r.val ∧ a.val + 512 * r.val < 512 * (blk n).val + 512 := hy 0
        have := a.isLt
        exact hrn (Fin.ext (by omega))
      · have : r.val ≠ n := fun hc => hrn (Fin.ext (hc.trans hb.symm))
        omega

theorem stageI_at (dO o : Vec Ideal S8192x128 .f32) (X : Vec Ideal S8x8192 .f32) (r : Fin 16) (a : Fin 512) : ∀ n, n ≤ 16 → r.val < n →
    stageI dO o n X (ix2 0 (row r a)) = ∑ _l : Fin 128, ((1 / 128 : ℝ) : EReal) * ∑ d : Fin 128, (dO (ix2 (row r a) d) : EReal) * o (ix2 (row r a) d)
  | 0, _, hr => absurd hr (by omega)
  | n + 1, hn, hr => by
    have hb : (blk n).val = n := blk_val (by omega)
    by_cases hrn : r = blk n
    · subst hrn
      refine Eq.trans (dif_pos fun k => ?_) ((congrArg (k0_pay47 (F := Ideal) (rowD dO (blk n)) (rowD o (blk n))) (?_ : _ = ix2 (0 : Fin 8) a)).trans ?_)
      · match k with
        | 0 => exact ⟨Nat.zero_le _, Nat.zero_lt_of_lt (by decide : 0 < 8)⟩
        | 1 =>
          have := a.isLt
          show 512 * (blk n).val ≤ a.val + 512 * (blk n).val ∧ a.val + 512 * (blk n).val < 512 * (blk n).val + 512
          omega
      · funext k
        refine Fin.ext ?_
        match k with
        | 0 => rfl
        | 1 => show a.val + 512 * (blk n).val - 512 * (blk n).val = a.val; omega
      · rw [pay47_apply]
        simp only [rowD_at]
    · refine Eq.trans (dif_neg fun hy => ?_) (stageI_at dO o X r a n (by omega) ?_)
      · have h0 : 512 * (blk n).val ≤ a.val + 512 * r.val ∧ a.val + 512 * r.val < 512 * (blk n).val + 512 := hy 1
        have := a.isLt
        exact hrn (Fin.ext (by omega))
      · have : r.val ≠ n := fun hc => hrn (Fin.ext (hc.trans hb.symm))
        omega

theorem lanes (t : ℝ) : ∑ _l : Fin 128, (1 / 128 : ℝ) * t = t := by
  rw [Finset.sum_const, Finset.card_univ, Fintype.card_fin, nsmul_eq_mul]; push_cast; ring

variable {A : Arrays Ideal} (hA : Full x A)
include hA

theorem good (h : Fin 4) (j : Fin 16) : Good x h j (A.ins h j) := fun r => by
  have h4 := h.isLt
  refine ⟨fun b d => ?_, fun a d => ?_, fun b d => ?_, fun a d => ?_, fun a => ?_, fun a => ?_⟩
  · exact (blkK_at A.k h j b d (by have := d.isLt; omega)).trans (hA.inp.k h _ d _)
  · exact (rowQ_at _ r a d).trans ((headQ_at A.q h _ d (by have := d.isLt; omega)).trans (hA.inp.q h _ d _))
  · exact (blkV_at A.v h j b d (by have := d.isLt; omega)).trans (hA.inp.v h _ d _)
  · exact (rowD_at _ r a d).trans ((stageD_at _ _ r a d 16 le_rfl r.isLt).trans ((headD_at A.dO h _ d (by have := d.isLt; omega)).trans (hA.inp.g h _ d _)))
  · exact (rowL_at _ r a).trans ((headL_at A.lse h _).trans (hA.lse h 0 _))
  · refine (rowI_at _ r a).trans ((stageI_at _ _ _ r a 16 le_rfl r.isLt).trans ?_)
    have hg : ∀ d : Fin 128, headD A.dO h (ix2 (row r a) d) = (x.g h (row r a) d : EReal) := fun d =>
      (headD_at A.dO h _ d (by have := d.isLt; omega)).trans (hA.inp.g h _ d _)
    have ho : ∀ d : Fin 128, headD A.o h (ix2 (row r a) d) = (o x h (row r a) d : EReal) := fun d =>
      (headD_at A.o h _ d (by have := d.isLt; omega)).trans (hA.o h _ d _)
    simp only [hg, ho, ← EReal.coe_mul, coe_sum, sum_go, lanes]

theorem dqAt_at (h : Fin 4) (r : Fin 16) (a : Fin 512) (d : Fin 256) : ∀ n, n < 16 →
    A.dqAt h n (ix2 (row r a) d) = (((∑ j ∈ Finset.univ.filter (fun j : Fin 16 => j.val ≤ n), cq x h j r a d) * (if n = 15 then (√192)⁻¹ else 1) : ℝ) : EReal)
  | 0, _ => by
    have hf : (Finset.univ.filter fun j : Fin 16 => j.val ≤ 0) = {0} := by decide
    rw [hf, Finset.sum_singleton]
    refine (point_dq (base := fun _ _ _ => 0) (good hA h 0) (fun r a d => (pay46_apply _).trans rfl) r a d).trans ?_
    rw [zero_add]; rfl
  | n + 1, hn => by
    have hb : (blk (n + 1)).val = n + 1 := blk_val hn
    have hf : (Finset.univ.filter fun j : Fin 16 => j.val ≤ n + 1) = insert (blk (n + 1)) (Finset.univ.filter fun j : Fin 16 => j.val ≤ n) := by
      ext j; simp only [Finset.mem_filter, Finset.mem_univ, true_and, Finset.mem_insert, Fin.ext_iff, hb]; omega
    rw [hf, Finset.sum_insert (by simp only [Finset.mem_filter, hb]; omega)]
    have := point_dq (good hA h (blk (n + 1))) (Q := A.dqAt h n) (fun r a d => (dqAt_at h r a d n (by omega)).trans (by rw [if_neg (by omega), mul_one])) r a d
    rw [hb] at this
    rw [add_comm (cq x h _ r a d)]
    exact this

theorem outs_dq_at (h : Fin 4) (i : Fin 8192) (d : Fin 256) : A.dqAt h 15 (ix2 i d) = (gq x h i d : EReal) := by
  obtain ⟨⟨r, a⟩, rfl⟩ := (finProdFinEquiv (m := 16) (n := 512)).surjective i
  refine (dqAt_at hA h r a d 15 (by decide)).trans ?_
  rw [if_pos rfl, Finset.filter_true_of_mem (fun j _ => by have := j.isLt; omega)]
  simp only [cq, gq]
  rw [sum_row (fun l => ds x h (row r a) l * x.k h l d), div_eq_mul_inv]
  rfl

theorem before_at (h : Fin 4) (j : Fin 16) : ∃ base : Fin 16 → Fin 512 → Fin 256 → ℝ, ∀ r a d, A.dqBefore h j.val (ix2 (row r a) d) = (base r a d : EReal) := by
  obtain ⟨n, hn⟩ := j
  cases n with
  | zero => exact ⟨fun _ _ _ => 0, fun r a d => (pay46_apply (ix2 (row r a) d)).trans rfl⟩
  | succ n => exact ⟨_, fun r a d => dqAt_at hA h r a d n (by omega)⟩

theorem outs_dk_at (h : Fin 4) (j : Fin 16) (b : Fin 512) (d : Fin 256) : (A.outs h j).dk (ix2 b d) = (gk x h (row j b) d : EReal) := by
  obtain ⟨base, hQ⟩ := before_at hA h j
  exact point_dk (good hA h j) hQ b d

theorem outs_dv_at (h : Fin 4) (j : Fin 16) (b : Fin 512) (d : Fin 128) : (A.outs h j).dv (ix2 b d) = (gv x h (row j b) d : EReal) := by
  obtain ⟨base, hQ⟩ := before_at hA h j
  exact point_dv (good hA h j) hQ b d

end Cert.Proof.Fold
-- ==== Proof.Saved.lean ====
module

public import proofs.«01_k».proof.Proof.Attn
public import proofs.«01_k».proof.Proof.Data
public import Idealize.ShloMosaic.Lib.Claim

/-! What the host's lines leave for the backward call, as real formulas: the attention's output and the base-2 logarithm
    of each query's denominator. -/

@[expose] public section

noncomputable section

namespace Cert.Proof.Attn

open Idealize Idealize.ShloMosaic Idealize.SL.Sem Idealize.ShloMosaic.TcCoe
open Cert.KernelIdeal Cert.KernelIdeal.Gen
open Cert.Proof.Math

def lseT (r l : Row) : FVec Ideal S4x8x8192 .f32 :=
  broadcastInDim S4x8x8192 ![0, 1, 2] bcast_S4x1x8192_S4x8x8192_0_1_2 (broadcastInDim S4x1x8192 ![0, 2] bcast_S4x8192_S4x1x8192_0_2
    (Host.divf (addf (shapeCast S4x8192 (col r) shapeCasts_S4x8192x1_S4x8192) (Host.log l) : Row)
      (broadcastInDim S4x8192 ![] bcast_S_S4x8192 (Host.log (constant S_ .f32 0x40000000#32)))))

theorem lseT_at (r l : Row) (h : Fin 4) (e : Fin 8) (i : Fin 8192) :
    lseT r l (ix3 h e i) = Ideal.div (r (ix2 h i) + Ideal.log (l (ix2 h i))) (Ideal.log (Ideal.ofBits .f32 0x40000000#32)) := by
  pointwise [lseT, col]

def lseV (s : Sq) : FVec Ideal S4x8x8192 .f32 := lseT (mx s) (total (ex s (mx s)))

variable (m : (ℓ : Loc nD τ sig) → Buf (Elt Ideal) ℓ) (c : Dev nD)

set_option maxRecDepth 8192 in
set_option maxHeartbeats 4000000 in
theorem V_o : V m c main_v44 = outO (m (c.tc.loc main_arg0)) (m (c.tc.loc main_arg1)) (m (c.tc.loc main_arg2)) := by
  simp only [V, hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl

set_option maxRecDepth 8192 in
set_option maxHeartbeats 4000000 in
theorem V_lse : V m c main_v43 = lseV (sc (m (c.tc.loc main_arg0)) (m (c.tc.loc main_arg1))) := by
  simp only [V, hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl

variable {x : Inp} {q k : FVec Ideal S8192x1024 .bf16} {v : FVec Ideal S8192x512 .bf16} {g : FVec Ideal S8192x512 .f32}
  (hx : Holds x q k v g) (h : Fin 4) (i : Fin 8192)

include hx in
theorem lseV_at (e : Fin 8) : lseV (sc q k) (ix3 h e i) = ((Real.log (Z x h i) / Real.log 2 : ℝ) : EReal) := by
  obtain ⟨M, hM⟩ := mx_real hx h i
  rw [lseV, lseT_at, hM, total_ex hx h i hM, log_coe (mul_pos (Z_pos x h i) (Real.exp_pos _)), bits_two, log_coe (by norm_num : (0 : ℝ) < 2), ← EReal.coe_add,
    div_coe _ (Real.log_pos (by norm_num)).ne', Real.log_mul (Z_pos x h i).ne' (Real.exp_pos _).ne', Real.log_exp]
  exact congrArg (fun t : ℝ => (t : EReal)) (by ring)

end Cert.Proof.Attn
-- ==== Proof.Final.lean ====
module

public import proofs.«01_k».proof.Proof.Fold
public import proofs.«01_k».proof.Proof.Run
public import proofs.«01_k».proof.Proof.Saved
public import Idealize.ShloMosaic.Lib.Pipeline.ValueKit
public import Idealize.ShloMosaic.Lib.Pipeline.Covers

/-! The three arrays the backward call leaves. -/

@[expose] public section

set_option maxRecDepth 8192
noncomputable section

namespace Cert.Proof.Final

open Idealize Idealize.ShloMosaic Idealize.ShloMosaic.TcCoe
open Cert.KernelIdeal Cert.KernelIdeal.Gen
open Cert.Proof.Math Cert.Proof.Tile Cert.Proof.Bwd Cert.Proof.Fold

variable (m : (ℓ : Loc nD τ sig) → Buf (Elt Ideal) ℓ) (c : Dev nD) {x : Inp}

theorem full_of {A : Arrays Ideal} {q k : FVec Ideal S8192x1024 .bf16} {v : FVec Ideal S8192x512 .bf16} {g : FVec Ideal S8192x512 .f32}
    (hq : A.q = q) (hk : A.k = k) (hv : A.v = v) (hg : A.dO = g) (hl : A.lse = Attn.lseV (Attn.sc q k)) (ho : A.o = Attn.outO q k v)
    (hx : Attn.Holds x q k v g) : Full x A := by
  refine ⟨?_, fun h e i => ?_, fun h i d hd => ?_⟩
  · rw [hq, hk, hv, hg]; exact hx
  · rw [hl]; exact Attn.lseV_at hx h i e
  · rw [ho]; exact Attn.outO_at hx h i d hd

set_option maxHeartbeats 4000000 in
/-- The call's arrays hold the inputs and what the host's lines save of the forward pass. -/
theorem full (hx : Attn.Holds x (m (c.tc.loc main_arg0)) (m (c.tc.loc main_arg1)) (m (c.tc.loc main_arg2)) (m (c.tc.loc main_arg3))) :
    Full x (arrays m c) :=
  full_of (V_main_arg0 m c) (V_main_arg1 m c) (V_main_arg2 m c) (V_main_arg3 m c) (Attn.V_lse m c) (Attn.V_o m c) hx

variable {m c} (hA : Full x (arrays m c))
include hA

theorem arr_q (G : Vec Ideal S8192x1024 .f32) (hG : ∀ (h : Fin 4) (i : Fin 8192) (d : Fin 256) (hd : h.val * 256 + d.val < 1024), G (ix2 i ⟨h.val * 256 + d.val, hd⟩) = (gq x h i d : EReal)) :
    (dats m 0 c).arrAt 6 cfg0.N = G := by
  refine (dats m 0 c).arrAt_eq_of_covers 6 G (by decide +kernel) fun t hf y => ?_
  obtain ⟨a, ha⟩ : ∃ a : Fin 8192, a.val = (y 0).val := ⟨y 0, rfl⟩
  obtain ⟨b, hb⟩ : ∃ b : Fin 256, b.val = (y 1).val := ⟨y 1, rfl⟩
  have hl : (hd t).val * 256 + b.val < 1024 := by
    have := (hd t).isLt
    omega
  have he : ((cfg0.win 6).blk t).view.emb y = (ix2 a ⟨(hd t).val * 256 + b.val, hl⟩ : S8192x1024.Idx) := by
    funext k
    refine Fin.ext (((cfg0.win 6).rect_emb_val t y k).trans ?_)
    match k with
    | 0 => show 0 * 8192 + (y 0).val = a.val; omega
    | 1 => show (BitVec.ofNat 32 (grid0.coords t 0).val).toNat * 256 + (y 1).val = (hd t).val * 256 + b.val; rw [toNat_hd, hb]
  have hy : (cfg0.win 6).xinj (cfg0.grid.coords t) y = (ix2 a b : (S8192x256).Idx) := by
    funext k
    match k with
    | 0 => exact Fin.ext ha.symm
    | 1 => exact Fin.ext hb.symm
  refine Eq.trans ?_ ((congrArg G he).trans (hG (hd t) _ b hl)).symm
  refine (cast_eq _ _).trans ((congrFun (after_6 m c t) _).trans ((congrArg ((arrays m c).outs (hd t) (kb t)).dq hy).trans ?_))
  have hk : (kb t).val = 15 := (kb_val t).trans ((flush0_6 t).mp hf)
  rw [Arrays.outs_dq, hk]
  exact outs_dq_at hA (hd t) a b

theorem arr_k (G : Vec Ideal S8192x1024 .f32) (hG : ∀ (h : Fin 4) (i : Fin 8192) (d : Fin 256) (hd : h.val * 256 + d.val < 1024), G (ix2 i ⟨h.val * 256 + d.val, hd⟩) = (gk x h i d : EReal)) :
    (dats m 0 c).arrAt 7 cfg0.N = G := by
  refine (dats m 0 c).arrAt_eq_of_covers 7 G (by decide +kernel) fun t hf y => ?_
  obtain ⟨a, ha⟩ : ∃ a : Fin 512, a.val = (y 0).val := ⟨y 0, rfl⟩
  obtain ⟨b, hb⟩ : ∃ b : Fin 256, b.val = (y 1).val := ⟨y 1, rfl⟩
  have hl : (hd t).val * 256 + b.val < 1024 := by
    have := (hd t).isLt
    omega
  have he : ((cfg0.win 7).blk t).view.emb y = (ix2 (row (kb t) a) ⟨(hd t).val * 256 + b.val, hl⟩ : S8192x1024.Idx) := by
    funext k
    refine Fin.ext (((cfg0.win 7).rect_emb_val t y k).trans ?_)
    match k with
    | 0 => show (BitVec.ofNat 32 (grid0.coords t 1).val).toNat * 512 + (y 0).val = a.val + 512 * (kb t).val; rw [toNat_kb]; omega
    | 1 => show (BitVec.ofNat 32 (grid0.coords t 0).val).toNat * 256 + (y 1).val = (hd t).val * 256 + b.val; rw [toNat_hd, hb]
  have hy : (cfg0.win 7).xinj (cfg0.grid.coords t) y = (ix2 a b : (S512x256).Idx) := by
    funext k
    match k with
    | 0 => exact Fin.ext ha.symm
    | 1 => exact Fin.ext hb.symm
  refine Eq.trans ?_ ((congrArg G he).trans (hG (hd t) _ b hl)).symm
  refine (cast_eq _ _).trans ((congrFun (after_7 m c t) _).trans ((congrArg ((arrays m c).outs (hd t) (kb t)).dk hy).trans ?_))
  exact outs_dk_at hA (hd t) (kb t) a b

theorem arr_v (G : Vec Ideal S8192x512 .f32) (hG : ∀ (h : Fin 4) (i : Fin 8192) (d : Fin 128) (hd : h.val * 128 + d.val < 512), G (ix2 i ⟨h.val * 128 + d.val, hd⟩) = (gv x h i d : EReal)) :
    (dats m 0 c).arrAt 8 cfg0.N = G := by
  refine (dats m 0 c).arrAt_eq_of_covers 8 G (by decide +kernel) fun t hf y => ?_
  obtain ⟨a, ha⟩ : ∃ a : Fin 512, a.val = (y 0).val := ⟨y 0, rfl⟩
  obtain ⟨b, hb⟩ : ∃ b : Fin 128, b.val = (y 1).val := ⟨y 1, rfl⟩
  have hl : (hd t).val * 128 + b.val < 512 := by
    have := (hd t).isLt
    omega
  have he : ((cfg0.win 8).blk t).view.emb y = (ix2 (row (kb t) a) ⟨(hd t).val * 128 + b.val, hl⟩ : S8192x512.Idx) := by
    funext k
    refine Fin.ext (((cfg0.win 8).rect_emb_val t y k).trans ?_)
    match k with
    | 0 => show (BitVec.ofNat 32 (grid0.coords t 1).val).toNat * 512 + (y 0).val = a.val + 512 * (kb t).val; rw [toNat_kb]; omega
    | 1 => show (BitVec.ofNat 32 (grid0.coords t 0).val).toNat * 128 + (y 1).val = (hd t).val * 128 + b.val; rw [toNat_hd, hb]
  have hy : (cfg0.win 8).xinj (cfg0.grid.coords t) y = (ix2 a b : (S512x128).Idx) := by
    funext k
    match k with
    | 0 => exact Fin.ext ha.symm
    | 1 => exact Fin.ext hb.symm
  refine Eq.trans ?_ ((congrArg G he).trans (hG (hd t) _ b hl)).symm
  refine (cast_eq _ _).trans ((congrFun (after_8 m c t) _).trans ((congrArg ((arrays m c).outs (hd t) (kb t)).dv hy).trans ?_))
  exact outs_dv_at hA (hd t) (kb t) a b

end Cert.Proof.Final
-- ==== Proof.Finite.lean ====
module

public import proofs.«01_k».proof.Proof.Attn
public import proofs.«01_k».proof.Pre_finite
public import Idealize.ShloMosaic.Lib.ReduceAll

/-! The precondition says that every input element is a real number. -/

@[expose] public section

noncomputable section

namespace Cert.Proof

instance finite_facts : Cert.Pre_finite.Facts := ⟨by decide, by decide, by decide, by decide, by decide, by decide⟩

end Cert.Proof

namespace Cert.Proof.Attn

open Idealize Idealize.ShloMosaic Idealize.SL.Sem Idealize.ShloMosaic.TcCoe
open Cert.Pre_finite Cert.Pre_finite.Facts
open Cert.Proof.Math

theorem bits_top : Ideal.ofBits .f32 0x7F800000#32 = ⊤ := by
  simp [Ideal.ofBits, Ideal.ieee]

theorem real_of_lt {a : EReal} (h : Ideal.cmp .olt (max a (-a)) ⊤ = 1#1) : ∃ r : ℝ, a = (r : EReal) := by
  have hl : max a (-a) < ⊤ := by
    by_contra hn
    rw [Ideal.cmp, decide_eq_false hn] at h
    exact absurd h (by decide)
  refine ⟨a.toReal, (EReal.coe_toReal ?_ ?_).symm⟩
  · rintro rfl; simp at hl
  · rintro rfl; simp at hl

theorem all_wide {q : FVec Ideal S8192x1024 .f32} {y : S_.Idx}
    (e : Host.reduce IntOp.andi (cmpf .olt (Host.absf q) (broadcastInDim S8192x1024 ![] bcast_S_S8192x1024 (constant S_ .f32 0x7F800000#32)))
      (constantI S_ 1 1#1) reducesTo_S8192x1024_S_d0_1 h_S_ y = 1#1) (i : S8192x1024.Idx) : ∃ r : ℝ, q i = (r : EReal) := by
  have h := Host.reduce_andi_all _ _ _ _ _ e i
  refine real_of_lt ?_
  rw [← bits_top]
  exact h

theorem all_narrow {q : FVec Ideal S8192x512 .f32} {y : S_.Idx}
    (e : Host.reduce IntOp.andi (cmpf .olt (Host.absf q) (broadcastInDim S8192x512 ![] bcast_S_S8192x512 (constant S_ .f32 0x7F800000#32)))
      (constantI S_ 1 1#1) reducesTo_S8192x512_S_d0_1 h_S_ y = 1#1) (i : S8192x512.Idx) : ∃ r : ℝ, q i = (r : EReal) := by
  have h := Host.reduce_andi_all _ _ _ _ _ e i
  refine real_of_lt ?_
  rw [← bits_top]
  exact h

theorem andi_one {a b : IVec S_ 1} {y : S_.Idx} (h : andi a b y = 1#1) : a y = 1#1 ∧ b y = 1#1 := IntOp.andi_eq_one.1 h

theorem holds_of_finite (q k : FVec Ideal S8192x1024 .bf16) (v : FVec Ideal S8192x512 .bf16) (g : FVec Ideal S8192x512 .f32)
    (hf : fn (F := Ideal) q k v g = fun _ => 1#1) : ∃ x : Inp, Holds x q k v g := by
  have e : fn (F := Ideal) q k v g (Shape.Idx.first h_S_) = 1#1 := congrFun hf _
  unfold fn fn_part1 at e
  obtain ⟨e, eg⟩ := andi_one e
  obtain ⟨e, ev⟩ := andi_one e
  obtain ⟨eq, ek⟩ := andi_one e
  choose rq hq using all_wide eq
  choose rk hk using all_wide ek
  choose rv hv using all_narrow ev
  choose rg hg using all_narrow eg
  exact ⟨⟨fun h i d => rq (ix2 i ⟨h.val * 256 + d.val, by omega⟩), fun h i d => rk (ix2 i ⟨h.val * 256 + d.val, by omega⟩),
    fun h i d => rv (ix2 i ⟨h.val * 128 + d.val, by omega⟩), fun h i d => rg (ix2 i ⟨h.val * 128 + d.val, by omega⟩)⟩,
    fun h i d _ => hq _, fun h i d _ => hk _, fun h i d _ => hv _, fun h i d _ => hg _⟩

end Cert.Proof.Attn
-- ==== Proof.lean ====
/- The certificate: the frames, what the named constants stand for, the three gradients of the attention, the seven projections and the thirteen gradients of them, the block's tail and its ten gradients, the optimiser's step. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Frame.Runs
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Kernel3.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Kernel4.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Kernel5.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Kernel6.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Kernel7.Frame
public import proofs.«01_k».proof.Proof.Gen.Reference7Ideal
public import proofs.«01_k».proof.Proof.Gen.Reference7Ideal.Run
public import proofs.«01_k».proof.Proof.Adam
public import proofs.«01_k».proof.Proof.LatentSame
public import proofs.«01_k».proof.Proof.LatentFwd
public import proofs.«01_k».proof.Proof.LatentFwdRef
public import proofs.«01_k».proof.Proof.Same
public import proofs.«01_k».proof.Proof.FrontSame
public import proofs.«01_k».proof.Proof.FrontFinal
public import proofs.«01_k».proof.Proof.FrontRef
public import proofs.«01_k».proof.Proof.FwdFinal
public import proofs.«01_k».proof.Proof.FwdRef
public import proofs.«01_k».proof.Proof.TailSame
public import proofs.«01_k».proof.Proof.Final
public import proofs.«01_k».proof.Proof.Finite

@[expose] public section

noncomputable section

namespace Cert.Proof

open Idealize.ShloMosaic Idealize.SL.Sem

theorem frame_ideal : Cert.quiescent_KernelIdeal := fun m ρ _ => Bwd.frame_main (F := Ideal) m ρ

theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem preserves : Cert.preserves_Kernel_KernelIdeal :=
  ⟨IdealRules.named_const.statement Cert.KernelIdeal.κ "scale2" .f32 0x3DD53B95#32 _ rfl,
    IdealRules.named_const.statement Cert.KernelIdeal.κ "mask" .f32 0xF149F2CA#32 _ rfl,
    IdealRules.named_const.statement Cert.KernelIdeal.κ "scale" .f32 0x3D93CD3A#32 _ rfl⟩

theorem algebraic : Cert.algebraic_KernelIdeal_ReferenceIdeal_pre_finite := by
  intro m g m' g' hm hargs
  refine ⟨fun c => Attn.outQ (m (c.tc.loc Cert.KernelIdeal.main_arg0)) (m (c.tc.loc Cert.KernelIdeal.main_arg1)) (m (c.tc.loc Cert.KernelIdeal.main_arg2)) (m (c.tc.loc Cert.KernelIdeal.main_arg3)),
    fun c => Attn.outK (m (c.tc.loc Cert.KernelIdeal.main_arg0)) (m (c.tc.loc Cert.KernelIdeal.main_arg1)) (m (c.tc.loc Cert.KernelIdeal.main_arg2)) (m (c.tc.loc Cert.KernelIdeal.main_arg3)),
    fun c => Attn.outV (m (c.tc.loc Cert.KernelIdeal.main_arg0)) (m (c.tc.loc Cert.KernelIdeal.main_arg1)) (m (c.tc.loc Cert.KernelIdeal.main_arg3)), ?_, ?_⟩
  · refine (θ_run Cert.KernelIdeal.defs _ _).mono (fun r hr c => ?_) (θ_run_and (Bwd.run_main (F := Ideal) m g) (Bwd.frame_main (F := Ideal) m g))
    obtain ⟨h, h'⟩ := hr
    obtain ⟨x, hx⟩ := Attn.holds_of_finite _ _ _ _ (hm c)
    have hA := Final.full m c hx
    refine ⟨?_, ?_, ?_, h'.1 c⟩
    · exact (h.1.out_eq c 6).trans (Final.arr_q hA _ fun k i d hd => Attn.outQ_at hx k i d hd)
    · exact (h.1.out_eq c 7).trans (Final.arr_k hA _ fun k i d hd => Attn.outK_at hx k i d hd)
    · exact (h.1.out_eq c 8).trans (Final.arr_v hA _ fun k i d hd => Attn.outV_at hx k i d hd)
  · refine (θ_run Cert.ReferenceIdeal.defs _ _).mono (fun r h c => ?_) (Cert.ReferenceIdeal.Value.run (F := Ideal) m' g')
    obtain ⟨e0, e1, e2, e3⟩ := hargs c
    obtain ⟨hq, hk, hv, ha⟩ := h c
    refine ⟨hq.trans ((Attn.res_q m' c).trans ?_), hk.trans ((Attn.res_k m' c).trans ?_), hv.trans ((Attn.res_v m' c).trans ?_), ha⟩
    · rw [e0, e1, e2, e3]
    · rw [e0, e1, e2, e3]
    · rw [e0, e1, e3]

theorem frame_ideal2 : Cert.quiescent_Kernel2Ideal := fun m ρ _ => Front.frame_main (F := Ideal) m ρ

theorem frame_reference2 : Cert.quiescent_Reference2Ideal := fun m ρ _ =>
  (θ_run Cert.Reference2Ideal.defs _ _).mono (fun r h => ⟨fun c => (h c).2.2.2.2.2.2.2.2.2.2.2.2.2, sem_eq_zero_of_no_sems (by decide) r.2⟩)
    (Cert.Reference2Ideal.Value.run (F := Ideal) m ρ)

set_option maxRecDepth 16384 in
set_option maxHeartbeats 4000000 in
theorem algebraic2 : Cert.algebraic_Kernel2Ideal_Reference2Ideal := by
  intro m g m' g' hm hargs
  refine ⟨fun c => Front.Ref.outDx (Front.all m c), fun c => Front.Ref.outNw (Front.all m c), fun c => Front.Ref.outSc (Front.all m c), fun c => Front.Ref.outSc (Front.all m c), fun c => Front.Ref.outSh (Front.all m c), fun c => Front.Ref.outSh (Front.all m c), fun c => Front.Ref.outW0 (Front.all m c), fun c => Front.Ref.outW1 (Front.all m c), fun c => Front.Ref.outW2 (Front.all m c), fun c => Front.Ref.outW3 (Front.all m c), fun c => Front.Ref.outW4 (Front.all m c), fun c => Front.Ref.outW5 (Front.all m c), fun c => Front.Ref.outW6 (Front.all m c), ?_, ?_⟩
  · refine (θ_run Cert.Kernel2Ideal.defs _ _).mono (fun r hr c => ?_) (θ_run_and (Front.run_main (F := Ideal) m g) (Front.frame_main (F := Ideal) m g))
    obtain ⟨h, h'⟩ := hr
    refine ⟨?_, ?_, ?_, ?_, ?_, ?_, ?_, ?_, ?_, ?_, ?_, ?_, ?_, h'.1 c⟩
    · exact (h.1.out_eq c 21).trans (Front.arr_dx m c _ fun i k => Front.Ref.outDx_at _ i k)
    · exact (h.1.out_eq c 22).trans (Front.arr_nw m c _ fun k => Front.Ref.outNw_at _ k)
    · exact (h.1.out_eq c 23).trans (Front.arr_sr m c _ fun k => Front.Ref.outSc_at _ k)
    · exact (h.1.out_eq c 24).trans (Front.arr_sb m c _ fun k => Front.Ref.outSc_at _ k)
    · exact (h.1.out_eq c 25).trans (Front.arr_hr m c _ fun k => Front.Ref.outSh_at _ k)
    · exact (h.1.out_eq c 26).trans (Front.arr_hb m c _ fun k => Front.Ref.outSh_at _ k)
    · exact (h.1.out_eq c 27).trans (Front.arr_w0 m c _ fun k j => Front.Ref.outW0_at _ k j)
    · exact (h.1.out_eq c 28).trans (Front.arr_w1 m c _ fun k j => Front.Ref.outW1_at _ k j)
    · exact (h.1.out_eq c 29).trans (Front.arr_w2 m c _ fun k j => Front.Ref.outW2_at _ k j)
    · exact (h.1.out_eq c 30).trans (Front.arr_w3 m c _ fun k j => Front.Ref.outW3_at _ k j)
    · exact (h.1.out_eq c 31).trans (Front.arr_w4 m c _ fun k j => Front.Ref.outW4_at _ k j)
    · exact (h.1.out_eq c 32).trans (Front.arr_w5 m c _ fun k j => Front.Ref.outW5_at _ k j)
    · exact (h.1.out_eq c 33).trans (Front.arr_w6 m c _ fun k j => Front.Ref.outW6_at _ k j)
  · refine (θ_run Cert.Reference2Ideal.defs _ _).mono (fun r h c => ?_) (Cert.Reference2Ideal.Value.run (F := Ideal) m' g')
    obtain ⟨e0, e1, e2, e3, e4, e5, e6, e7, e8, e9, e10, e11, e12, e13, e14, e15, e16, e17, e18, e19, e20⟩ := hargs c
    have e : Front.Ref.all m' c = Front.all m c := by
      unfold Front.Ref.all Front.all
      rw [e0, e1, e2, e3, e4, e5, e6, e7, e8, e9, e10, e11, e12, e13, e14, e15, e16, e17, e18, e19, e20]
    beta_reduce
    rw [← e]
    obtain ⟨h0, h1, h2, h3, h4, h5, h6, h7, h8, h9, h10, h11, h12, ha⟩ := h c
    exact ⟨h0.trans (Front.Ref.res_dx m' c), h1, h2, h3, h4, h5, h6, h7, h8, h9, h10, h11, h12, ha⟩

theorem frame_kernel3 : Cert.quiescent_Kernel3 := fun m ρ _ => Cert.Kernel3.Gen.frame (F := Bits) m ρ

theorem frame_ideal3 : Cert.quiescent_Kernel3Ideal := fun m ρ _ => Cert.Kernel3Ideal.Gen.frame (F := Ideal) m ρ

theorem frame_reference3 : Cert.quiescent_Reference3Ideal := fun m ρ _ =>
  (θ_run Cert.Reference3Ideal.defs _ _).mono (fun r h => ⟨fun c => (h c).2.2.2.2.2.2.2, sem_eq_zero_of_no_sems (by decide) r.2⟩)
    (Cert.Reference3Ideal.Value.run (F := Ideal) m ρ)

set_option maxRecDepth 16384 in
set_option maxHeartbeats 4000000 in
theorem algebraic3 : Cert.algebraic_Kernel3Ideal_Reference3Ideal := by
  intro m g m' g' hm hargs
  refine ⟨fun c => Fwd.Ref.out0 (m (c.tc.loc Cert.Kernel3Ideal.main_arg0)) (m (c.tc.loc Cert.Kernel3Ideal.main_arg1)) (m (c.tc.loc Cert.Kernel3Ideal.main_arg2)) (m (c.tc.loc Cert.Kernel3Ideal.main_arg3)) (m (c.tc.loc Cert.Kernel3Ideal.main_arg4)) (m (c.tc.loc Cert.Kernel3Ideal.main_arg5)) (m (c.tc.loc Cert.Kernel3Ideal.main_arg6)),
    fun c => Fwd.Ref.out1 (m (c.tc.loc Cert.Kernel3Ideal.main_arg0)) (m (c.tc.loc Cert.Kernel3Ideal.main_arg1)) (m (c.tc.loc Cert.Kernel3Ideal.main_arg2)) (m (c.tc.loc Cert.Kernel3Ideal.main_arg3)) (m (c.tc.loc Cert.Kernel3Ideal.main_arg4)) (m (c.tc.loc Cert.Kernel3Ideal.main_arg5)) (m (c.tc.loc Cert.Kernel3Ideal.main_arg7)),
    fun c => Fwd.Ref.out2 (m (c.tc.loc Cert.Kernel3Ideal.main_arg0)) (m (c.tc.loc Cert.Kernel3Ideal.main_arg1)) (m (c.tc.loc Cert.Kernel3Ideal.main_arg2)) (m (c.tc.loc Cert.Kernel3Ideal.main_arg3)) (m (c.tc.loc Cert.Kernel3Ideal.main_arg4)) (m (c.tc.loc Cert.Kernel3Ideal.main_arg5)) (m (c.tc.loc Cert.Kernel3Ideal.main_arg8)),
    fun c => Fwd.Ref.out3 (m (c.tc.loc Cert.Kernel3Ideal.main_arg0)) (m (c.tc.loc Cert.Kernel3Ideal.main_arg1)) (m (c.tc.loc Cert.Kernel3Ideal.main_arg2)) (m (c.tc.loc Cert.Kernel3Ideal.main_arg3)) (m (c.tc.loc Cert.Kernel3Ideal.main_arg4)) (m (c.tc.loc Cert.Kernel3Ideal.main_arg5)) (m (c.tc.loc Cert.Kernel3Ideal.main_arg9)),
    fun c => Fwd.Ref.out4 (m (c.tc.loc Cert.Kernel3Ideal.main_arg0)) (m (c.tc.loc Cert.Kernel3Ideal.main_arg1)) (m (c.tc.loc Cert.Kernel3Ideal.main_arg2)) (m (c.tc.loc Cert.Kernel3Ideal.main_arg3)) (m (c.tc.loc Cert.Kernel3Ideal.main_arg4)) (m (c.tc.loc Cert.Kernel3Ideal.main_arg5)) (m (c.tc.loc Cert.Kernel3Ideal.main_arg10)),
    fun c => Fwd.Ref.out5 (m (c.tc.loc Cert.Kernel3Ideal.main_arg0)) (m (c.tc.loc Cert.Kernel3Ideal.main_arg1)) (m (c.tc.loc Cert.Kernel3Ideal.main_arg2)) (m (c.tc.loc Cert.Kernel3Ideal.main_arg3)) (m (c.tc.loc Cert.Kernel3Ideal.main_arg4)) (m (c.tc.loc Cert.Kernel3Ideal.main_arg5)) (m (c.tc.loc Cert.Kernel3Ideal.main_arg11)),
    fun c => Fwd.Ref.out6 (m (c.tc.loc Cert.Kernel3Ideal.main_arg0)) (m (c.tc.loc Cert.Kernel3Ideal.main_arg1)) (m (c.tc.loc Cert.Kernel3Ideal.main_arg2)) (m (c.tc.loc Cert.Kernel3Ideal.main_arg3)) (m (c.tc.loc Cert.Kernel3Ideal.main_arg4)) (m (c.tc.loc Cert.Kernel3Ideal.main_arg5)) (m (c.tc.loc Cert.Kernel3Ideal.main_arg12)), ?_, ?_⟩
  · refine (θ_run Cert.Kernel3Ideal.defs _ _).mono (fun r hr c => ?_) (Cert.Kernel3Ideal.Value.run_blocks (F := Ideal) m g)
    obtain ⟨h0, h1, h2, h3, h4, h5, h6, ha⟩ := hr c
    refine ⟨?_, ?_, ?_, ?_, ?_, ?_, ?_, ha⟩
    · exact h0.trans (Fwd.arr0 m c _ fun i b => Fwd.Ref.out0_at _ _ _ _ _ _ _ i b)
    · exact h1.trans (Fwd.arr1 m c _ fun i b => Fwd.Ref.out1_at _ _ _ _ _ _ _ i b)
    · exact h2.trans (Fwd.arr2 m c _ fun i b => Fwd.Ref.out2_at _ _ _ _ _ _ _ i b)
    · exact h3.trans (Fwd.arr3 m c _ fun i b => Fwd.Ref.out3_at _ _ _ _ _ _ _ i b)
    · exact h4.trans (Fwd.arr4 m c _ fun i b => Fwd.Ref.out4_at _ _ _ _ _ _ _ i b)
    · exact h5.trans (Fwd.arr5 m c _ fun i b => Fwd.Ref.out5_at _ _ _ _ _ _ _ i b)
    · exact h6.trans (Fwd.arr6 m c _ fun i b => Fwd.Ref.out6_at _ _ _ _ _ _ _ i b)
  · refine (θ_run Cert.Reference3Ideal.defs _ _).mono (fun r h c => ?_) (Cert.Reference3Ideal.Value.run (F := Ideal) m' g')
    obtain ⟨e0, e1, e2, e3, e4, e5, e6, e7, e8, e9, e10, e11, e12⟩ := hargs c
    beta_reduce
    rw [← e0, ← e1, ← e2, ← e3, ← e4, ← e5, ← e6, ← e7, ← e8, ← e9, ← e10, ← e11, ← e12]
    exact h c

theorem frame_kernel4 : Cert.quiescent_Kernel4 := fun m ρ _ => Cert.Kernel4.Gen.frame (F := Bits) m ρ

theorem frame_ideal4 : Cert.quiescent_Kernel4Ideal := fun m ρ _ => Cert.Kernel4Ideal.Gen.frame (F := Ideal) m ρ

theorem frame_reference4 : Cert.quiescent_Reference4Ideal := fun m ρ _ =>
  (θ_run Cert.Reference4Ideal.defs _ _).mono (fun r h => ⟨fun c => (h c).2.2.2.2.2.2.2.2.2.2, sem_eq_zero_of_no_sems (by decide) r.2⟩)
    (Cert.Reference4Ideal.Value.run (F := Ideal) m ρ)

set_option maxRecDepth 16384 in
set_option maxHeartbeats 4000000 in
theorem algebraic4 : Cert.algebraic_Kernel4Ideal_Reference4Ideal := by
  intro m g m' g' hm hargs
  refine ⟨fun c => m (c.tc.loc Cert.Kernel4Ideal.main_arg10), fun c => (Tail.Final.arrs m c).outO1, fun c => (Tail.Final.arrs m c).outZ1, fun c => (Tail.Final.arrs m c).outO2, fun c => (Tail.Final.arrs m c).outZ2, fun c => (Tail.Final.arrs m c).outNw, fun c => (Tail.Final.arrs m c).outW, fun c => (Tail.Final.arrs m c).outPw, fun c => (Tail.Final.arrs m c).outGt, fun c => (Tail.Final.arrs m c).outGt, ?_, ?_⟩
  · refine (θ_run Cert.Kernel4Ideal.defs _ _).mono (fun r hr c => ?_) (Cert.Kernel4Ideal.Value.run_blocks (F := Ideal) m g)
    obtain ⟨h0, h1, h2, h3, h4, h5, h6, h7, h8, h9, ha⟩ := hr c
    refine ⟨?_, ?_, ?_, ?_, ?_, ?_, ?_, ?_, ?_, ?_, ha⟩
    · exact h0.trans (Tail.Final.arr_x m c _ fun i b => rfl)
    · exact h1.trans (Tail.Final.arr_o1 m c _ fun i b => (Tail.Final.arrs m c).outO1_at i b)
    · exact h2.trans (Tail.Final.arr_z1 m c _ fun i b => (Tail.Final.arrs m c).outZ1_at i b)
    · exact h3.trans (Tail.Final.arr_o2 m c _ fun i b => (Tail.Final.arrs m c).outO2_at i b)
    · exact h4.trans (Tail.Final.arr_z2 m c _ fun i b => (Tail.Final.arrs m c).outZ2_at i b)
    · exact h5.trans (Tail.Final.arr_nw m c _ fun l => (Tail.Final.arrs m c).outNw_at l)
    · exact h6.trans (Tail.Final.arr_w m c _ (fun b k => (Tail.Final.arrs m c).outW_top b k) fun b k => (Tail.Final.arrs m c).outW_bot b k)
    · exact h7.trans (Tail.Final.arr_pw m c _ fun k => (Tail.Final.arrs m c).outPw_at k)
    · exact h8.trans (Tail.Final.arr_gr m c _ fun k => (Tail.Final.arrs m c).outGt_at k)
    · exact h9.trans (Tail.Final.arr_gb m c _ fun k => (Tail.Final.arrs m c).outGt_at k)
  · refine (θ_run Cert.Reference4Ideal.defs _ _).mono (fun r h c => ?_) (Cert.Reference4Ideal.Value.run (F := Ideal) m' g')
    obtain ⟨e0, e1, e2, e3, e4, e5, e6, e7, e8, e9, e10⟩ := hargs c
    have e : Tail.Ref.arrs m' c = Tail.Final.arrs m c := by
      unfold Tail.Ref.arrs Tail.Final.arrs
      rw [e1, e2, e3, e4, e5, e6, e7, e8, e9, e10]
    beta_reduce
    rw [← e, ← e10]
    obtain ⟨h0, h1, h2, h3, h4, h5, h6, h7, h8, h9, ha⟩ := h c
    exact ⟨h0, h1.trans (Tail.Ref.res_o1 m' c), h2.trans (Tail.Ref.res_z1 m' c), h3.trans (Tail.Ref.res_o2 m' c), h4.trans (Tail.Ref.res_z2 m' c), h5.trans (Tail.Ref.res_nw m' c),
      h6.trans (Tail.Ref.res_w m' c), h7.trans (Tail.Ref.res_pw m' c), h8.trans (Tail.Ref.res_gt m' c), h9.trans (Tail.Ref.res_gt m' c), ha⟩

theorem frame_kernel5 : Cert.quiescent_Kernel5 := fun m ρ _ => Cert.Kernel5.Gen.frame (F := Bits) m ρ

theorem frame_ideal5 : Cert.quiescent_Kernel5Ideal := fun m ρ _ => Cert.Kernel5Ideal.Gen.frame (F := Ideal) m ρ

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

set_option maxRecDepth 16384 in
set_option maxHeartbeats 4000000 in
theorem algebraic5 : Cert.algebraic_Kernel5Ideal_Reference5Ideal := by
  intro m g m' g' hm hargs
  refine ⟨fun c => Tail.Fwd.val (m (c.tc.loc Cert.Kernel5Ideal.main_arg0)) (m (c.tc.loc Cert.Kernel5Ideal.main_arg1)) (m (c.tc.loc Cert.Kernel5Ideal.main_arg2)) (m (c.tc.loc Cert.Kernel5Ideal.main_arg3)) (m (c.tc.loc Cert.Kernel5Ideal.main_arg4)) (m (c.tc.loc Cert.Kernel5Ideal.main_arg5)) (m (c.tc.loc Cert.Kernel5Ideal.main_arg6)) (m (c.tc.loc Cert.Kernel5Ideal.main_arg7)) (m (c.tc.loc Cert.Kernel5Ideal.main_arg8)) (m (c.tc.loc Cert.Kernel5Ideal.main_arg9)), ?_, ?_⟩
  · refine (θ_run Cert.Kernel5Ideal.defs _ _).mono (fun r hr c => ?_) (Cert.Kernel5Ideal.Value.run_blocks (F := Ideal) m g)
    obtain ⟨h0, ha⟩ := hr c
    exact ⟨h0.trans (Tail.Fwd.arr m c _ fun i k => Tail.Fwd.val_at _ _ _ _ _ _ _ _ _ _ i k), ha⟩
  · refine (θ_run Cert.Reference5Ideal.defs _ _).mono (fun r h c => ?_) (Cert.Reference5Ideal.Value.run (F := Ideal) m' g')
    obtain ⟨e0, e1, e2, e3, e4, e5, e6, e7, e8, e9⟩ := hargs c
    beta_reduce
    rw [← e0, ← e1, ← e2, ← e3, ← e4, ← e5, ← e6, ← e7, ← e8, ← e9]
    exact ⟨(h c).1.trans (Tail.Fwd.res_val m' c), (h c).2⟩

theorem frame_kernel6 : Cert.quiescent_Kernel6 := fun m ρ _ => Cert.Kernel6.Gen.frame (F := Bits) m ρ

theorem frame_ideal6 : Cert.quiescent_Kernel6Ideal := fun m ρ _ => Cert.Kernel6Ideal.Gen.frame (F := Ideal) m ρ

theorem frame_reference6 : Cert.quiescent_Reference6Ideal := fun m ρ _ =>
  (θ_run Cert.Reference6Ideal.defs _ _).mono (fun r h => ⟨fun c => (h c).2.2.2.2.2.2.2, sem_eq_zero_of_no_sems (by decide) r.2⟩)
    (Cert.Reference6Ideal.Value.run (F := Ideal) m ρ)

set_option maxRecDepth 16384 in
set_option maxHeartbeats 4000000 in
theorem algebraic6 : Cert.algebraic_Kernel6Ideal_Reference6Ideal := by
  intro m g m' g' hm hargs
  refine ⟨fun c => (Latent.Final.arrs m c).outX, fun c => (Latent.Final.arrs m c).outY, fun c => (Latent.Final.arrs m c).outS, fun c => (Latent.Final.arrs m c).outNq, fun c => (Latent.Final.arrs m c).outUq, fun c => (Latent.Final.arrs m c).outNk, fun c => (Latent.Final.arrs m c).outUk, ?_, ?_⟩
  · refine (θ_run Cert.Kernel6Ideal.defs _ _).mono (fun r hr c => ?_) (Cert.Kernel6Ideal.Value.run_blocks (F := Ideal) m g)
    obtain ⟨h0, h1, h2, h3, h4, h5, h6, ha⟩ := hr c
    refine ⟨?_, ?_, ?_, ?_, ?_, ?_, ?_, ha⟩
    · exact h0.trans (Latent.Final.arr_x m c _ fun i b => (Latent.Final.arrs m c).outX_at i b)
    · exact h1.trans (Latent.Final.arr_y m c _ fun i b => (Latent.Final.arrs m c).outY_at i b)
    · exact h2.trans (Latent.Final.arr_s m c _ fun i l => (Latent.Final.arrs m c).outS_at i l)
    · exact h3.trans (Latent.Final.arr_nq m c _ fun b => (Latent.Final.arrs m c).outNq_at b)
    · exact h4.trans (Latent.Final.arr_uq m c _ fun b k => (Latent.Final.arrs m c).outUq_at b k)
    · exact h5.trans (Latent.Final.arr_nk m c _ fun b => (Latent.Final.arrs m c).outNk_at b)
    · exact h6.trans (Latent.Final.arr_uk m c _ fun b k => (Latent.Final.arrs m c).outUk_at b k)
  · refine (θ_run Cert.Reference6Ideal.defs _ _).mono (fun r h c => ?_) (Cert.Reference6Ideal.Value.run (F := Ideal) m' g')
    obtain ⟨e0, e1, e2, e3, e4, e5, e6, e7, e8, e9, e10, e11⟩ := hargs c
    have e : Latent.Ref.arrs m' c = Latent.Final.arrs m c := by
      unfold Latent.Ref.arrs Latent.Final.arrs
      rw [e0, e1, e3, e4, e5, e6, e7, e8, e9, e10, e11]
    beta_reduce
    rw [← e]
    exact h c

theorem frame_kernel7 : Cert.quiescent_Kernel7 := fun m ρ _ => Cert.Kernel7.Gen.frame (F := Bits) m ρ

theorem frame_ideal7 : Cert.quiescent_Kernel7Ideal := fun m ρ _ => Cert.Kernel7Ideal.Gen.frame (F := Ideal) m ρ

theorem frame_reference7 : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

set_option maxRecDepth 16384 in
set_option maxHeartbeats 4000000 in
theorem algebraic7 : Cert.algebraic_Kernel7Ideal_Reference7Ideal := by
  intro m g m' g' hm hargs
  refine ⟨fun c => Latent.Fwd.Ref.outQ (Latent.Fwd.Ref.upQ (m (c.tc.loc Cert.Kernel7Ideal.main_arg0)) (m (c.tc.loc Cert.Kernel7Ideal.main_arg5)) (m (c.tc.loc Cert.Kernel7Ideal.main_arg6))) (m (c.tc.loc Cert.Kernel7Ideal.main_arg3)) (m (c.tc.loc Cert.Kernel7Ideal.main_arg4)),
    fun c => Latent.Fwd.Ref.outK (Latent.Fwd.Ref.upK (m (c.tc.loc Cert.Kernel7Ideal.main_arg1)) (m (c.tc.loc Cert.Kernel7Ideal.main_arg7)) (m (c.tc.loc Cert.Kernel7Ideal.main_arg8))) (m (c.tc.loc Cert.Kernel7Ideal.main_arg2)) (m (c.tc.loc Cert.Kernel7Ideal.main_arg3)) (m (c.tc.loc Cert.Kernel7Ideal.main_arg4)),
    fun c => Latent.Fwd.Ref.outV (Latent.Fwd.Ref.upK (m (c.tc.loc Cert.Kernel7Ideal.main_arg1)) (m (c.tc.loc Cert.Kernel7Ideal.main_arg7)) (m (c.tc.loc Cert.Kernel7Ideal.main_arg8))), ?_, ?_⟩
  · refine (θ_run Cert.Kernel7Ideal.defs _ _).mono (fun r hr c => ?_) (Cert.Kernel7Ideal.Value.run_blocks (F := Ideal) m g)
    obtain ⟨h0, h1, h2, ha⟩ := hr c
    refine ⟨?_, ?_, ?_, ha⟩
    · exact h0.trans (Latent.Fwd.arr_q m c _ fun i k => Latent.Fwd.q_val _ _ _ _ _ i k)
    · exact h1.trans (Latent.Fwd.arr_k m c _ fun i k => Latent.Fwd.k_val _ _ _ _ _ _ i k)
    · exact h2.trans (Latent.Fwd.arr_v m c _ fun i b => Latent.Fwd.v_val _ _ _ i b)
  · refine (θ_run Cert.Reference7Ideal.defs _ _).mono (fun r h c => ?_) (Cert.Reference7Ideal.Value.run (F := Ideal) m' g')
    obtain ⟨e0, e1, e2, e3, e4, e5, e6, e7, e8⟩ := hargs c
    beta_reduce
    rw [← e0, ← e1, ← e2, ← e3, ← e4, ← e5, ← e6, ← e7, ← e8]
    exact h c

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Kernel7.Gen.facts, Cert.Kernel7Ideal.Gen.facts, Cert.Reference7Ideal.Gen.facts,
    Cert.AdamMod.Gen.facts, Cert.AdamModIdeal.Gen.facts, Cert.UpdateModIdeal.Gen.facts, Cert.AdamModBias.Gen.facts, Cert.AdamModBiasIdeal.Gen.facts, Cert.UpdateModBiasIdeal.Gen.facts, Cert.AdamNorm.Gen.facts, Cert.AdamNormIdeal.Gen.facts, Cert.UpdateNormIdeal.Gen.facts, Cert.AdamIn.Gen.facts, Cert.AdamInIdeal.Gen.facts, Cert.UpdateInIdeal.Gen.facts, Cert.AdamQNorm.Gen.facts, Cert.AdamQNormIdeal.Gen.facts, Cert.UpdateQNormIdeal.Gen.facts, Cert.AdamQUp.Gen.facts, Cert.AdamQUpIdeal.Gen.facts, Cert.UpdateQUpIdeal.Gen.facts, Cert.AdamKvNorm.Gen.facts, Cert.AdamKvNormIdeal.Gen.facts, Cert.UpdateKvNormIdeal.Gen.facts, Cert.AdamKvUp.Gen.facts, Cert.AdamKvUpIdeal.Gen.facts, Cert.UpdateKvUpIdeal.Gen.facts, Cert.AdamConv.Gen.facts, Cert.AdamConvIdeal.Gen.facts, Cert.UpdateConvIdeal.Gen.facts, Cert.AdamGates.Gen.facts, Cert.AdamGatesIdeal.Gen.facts, Cert.UpdateGatesIdeal.Gen.facts, Cert.AdamONorm.Gen.facts, Cert.AdamONormIdeal.Gen.facts, Cert.UpdateONormIdeal.Gen.facts, Cert.AdamOut.Gen.facts, Cert.AdamOutIdeal.Gen.facts, Cert.UpdateOutIdeal.Gen.facts,
    finite_facts, frame_kernel, frame_ideal,
    fun m ρ _ => frame_ideal m ρ trivial, frame_reference, fun m ρ _ => frame_reference m ρ trivial, Front.frame_kernel, frame_ideal2, frame_reference2, frame_kernel3, frame_ideal3, frame_reference3,
    frame_kernel4, frame_ideal4, frame_reference4, frame_kernel5, frame_ideal5, frame_reference5, frame_kernel6, frame_ideal6, frame_reference6, frame_kernel7, frame_ideal7, frame_reference7,
    Adam.frameMod, Adam.idealMod, Adam.plainMod, Adam.frameModBias, Adam.idealModBias, Adam.plainModBias, Adam.frameNorm, Adam.idealNorm, Adam.plainNorm, Adam.frameIn, Adam.idealIn, Adam.plainIn, Adam.frameQNorm, Adam.idealQNorm, Adam.plainQNorm, Adam.frameQUp, Adam.idealQUp, Adam.plainQUp, Adam.frameKvNorm, Adam.idealKvNorm, Adam.plainKvNorm, Adam.frameKvUp, Adam.idealKvUp, Adam.plainKvUp, Adam.frameConv, Adam.idealConv, Adam.plainConv, Adam.frameGates, Adam.idealGates, Adam.plainGates, Adam.frameONorm, Adam.idealONorm, Adam.plainONorm, Adam.frameOut, Adam.idealOut, Adam.plainOut,
    preserves, algebraic, trivial, algebraic2, trivial, algebraic3, trivial, algebraic4, trivial, algebraic5, trivial, algebraic6, trivial, algebraic7,
    trivial, Adam.sameMod, trivial, Adam.sameModBias, trivial, Adam.sameNorm, trivial, Adam.sameIn, trivial, Adam.sameQNorm, trivial, Adam.sameQUp, trivial, Adam.sameKvNorm, trivial, Adam.sameKvUp, trivial, Adam.sameConv, trivial, Adam.sameGates, trivial, Adam.sameONorm, trivial, Adam.sameOut⟩

end Cert.Proof

end
